-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Kernel25Ideal_real_table [hPre_real_table : Cert.Pre_real_table.Facts] (m : (ℓ : Loc Cert.Kernel25Ideal.nD Cert.Kernel25Ideal.τ Cert.Kernel25Ideal.sig) → Buf (Elt Ideal) ℓ) : Prop :=
  ∀ c : Dev Cert.Kernel25Ideal.nD,
    (Cert.Pre_real_table.fn (F := Ideal) (m ((c.tc : Thread Cert.Kernel25Ideal.nD Cert.Kernel25Ideal.τ).loc Cert.Kernel25Ideal.main_arg0)) (m ((c.tc : Thread Cert.Kernel25Ideal.nD Cert.Kernel25Ideal.τ).loc Cert.Kernel25Ideal.main_arg1))) = (fun _ => 1#1)

def Pre_Reference25Ideal (m : (ℓ : Loc Cert.Reference25Ideal.nD Cert.Reference25Ideal.τ Cert.Reference25Ideal.sig) → Buf (Elt Ideal) ℓ) : Prop :=
  True

def Pre_Reference25Ideal_real_table [hPre_real_table : Cert.Pre_real_table.Facts] (m : (ℓ : Loc Cert.Reference25Ideal.nD Cert.Reference25Ideal.τ Cert.Reference25Ideal.sig) → Buf (Elt Ideal) ℓ) : Prop :=
  ∀ c : Dev Cert.Reference25Ideal.nD,
    (Cert.Pre_real_table.fn (F := Ideal) (m ((c.tc : Thread Cert.Reference25Ideal.nD Cert.Reference25Ideal.τ).loc Cert.Reference25Ideal.main_arg0)) (m ((c.tc : Thread Cert.Reference25Ideal.nD Cert.Reference25Ideal.τ).loc Cert.Reference25Ideal.main_arg1))) = (fun _ => 1#1)

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel30 (m : (ℓ : Loc Cert.Kernel30.nD Cert.Kernel30.τ Cert.Kernel30.sig) → Buf (Elt Bits) ℓ) : Prop :=
  True

def Pre_Kernel30Ideal (m : (ℓ : Loc Cert.Kernel30Ideal.nD Cert.Kernel30Ideal.τ Cert.Kernel30Ideal.sig) → Buf (Elt Ideal) ℓ) : Prop :=
  True

def Pre_Reference30Ideal (m : (ℓ : Loc Cert.Reference30Ideal.nD Cert.Reference30Ideal.τ Cert.Reference30Ideal.sig) → Buf (Elt Ideal) ℓ) : Prop :=
  True

def Pre_Kernel31 (m : (ℓ : Loc Cert.Kernel31.nD Cert.Kernel31.τ Cert.Kernel31.sig) → Buf (Elt Bits) ℓ) : Prop :=
  True

def Pre_Kernel31Ideal (m : (ℓ : Loc Cert.Kernel31Ideal.nD Cert.Kernel31Ideal.τ Cert.Kernel31Ideal.sig) → Buf (Elt Ideal) ℓ) : Prop :=
  True

def Pre_Reference31Ideal (m : (ℓ : Loc Cert.Reference31Ideal.nD Cert.Reference31Ideal.τ Cert.Reference31Ideal.sig) → Buf (Elt Ideal) ℓ) : Prop :=
  True

def Pre_Kernel32 (m : (ℓ : Loc Cert.Kernel32.nD Cert.Kernel32.τ Cert.Kernel32.sig) → Buf (Elt Bits) ℓ) : Prop :=
  True

def Pre_Kernel32Ideal (m : (ℓ : Loc Cert.Kernel32Ideal.nD Cert.Kernel32Ideal.τ Cert.Kernel32Ideal.sig) → Buf (Elt Ideal) ℓ) : Prop :=
  True

def Pre_Reference32Ideal (m : (ℓ : Loc Cert.Reference32Ideal.nD Cert.Reference32Ideal.τ Cert.Reference32Ideal.sig) → Buf (Elt Ideal) ℓ) : Prop :=
  True

def Pre_Kernel35 (m : (ℓ : Loc Cert.Kernel35.nD Cert.Kernel35.τ Cert.Kernel35.sig) → Buf (Elt Bits) ℓ) : Prop :=
  True

def Pre_Kernel35Ideal (m : (ℓ : Loc Cert.Kernel35Ideal.nD Cert.Kernel35Ideal.τ Cert.Kernel35Ideal.sig) → Buf (Elt Ideal) ℓ) : Prop :=
  True

def Pre_Reference35Ideal (m : (ℓ : Loc Cert.Reference35Ideal.nD Cert.Reference35Ideal.τ Cert.Reference35Ideal.sig) → Buf (Elt Ideal) ℓ) : Prop :=
  True

def Pre_Kernel36 (m : (ℓ : Loc Cert.Kernel36.nD Cert.Kernel36.τ Cert.Kernel36.sig) → Buf (Elt Bits) ℓ) : Prop :=
  True

def Pre_Kernel36Ideal (m : (ℓ : Loc Cert.Kernel36Ideal.nD Cert.Kernel36Ideal.τ Cert.Kernel36Ideal.sig) → Buf (Elt Ideal) ℓ) : Prop :=
  True

def Pre_Reference36Ideal (m : (ℓ : Loc Cert.Reference36Ideal.nD Cert.Reference36Ideal.τ Cert.Reference36Ideal.sig) → Buf (Elt Ideal) ℓ) : Prop :=
  True

def Pre_Kernel37 (m : (ℓ : Loc Cert.Kernel37.nD Cert.Kernel37.τ Cert.Kernel37.sig) → Buf (Elt Bits) ℓ) : Prop :=
  True

def Pre_Kernel37Ideal (m : (ℓ : Loc Cert.Kernel37Ideal.nD Cert.Kernel37Ideal.τ Cert.Kernel37Ideal.sig) → Buf (Elt Ideal) ℓ) : Prop :=
  True

def Pre_Reference37Ideal (m : (ℓ : Loc Cert.Reference37Ideal.nD Cert.Reference37Ideal.τ Cert.Reference37Ideal.sig) → Buf (Elt Ideal) ℓ) : Prop :=
  True

def Pre_Kernel38 (m : (ℓ : Loc Cert.Kernel38.nD Cert.Kernel38.τ Cert.Kernel38.sig) → Buf (Elt Bits) ℓ) : Prop :=
  True

def Pre_Kernel38Ideal (m : (ℓ : Loc Cert.Kernel38Ideal.nD Cert.Kernel38Ideal.τ Cert.Kernel38Ideal.sig) → Buf (Elt Ideal) ℓ) : Prop :=
  True

def Pre_Reference38Ideal (m : (ℓ : Loc Cert.Reference38Ideal.nD Cert.Reference38Ideal.τ Cert.Reference38Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1))
      ∧ r.2.sem = fun _ => 0)

def quiescent_Kernel25Ideal_pre_real_table [hKernel25Ideal : Cert.Kernel25Ideal.Facts] [hPre_real_table : Cert.Pre_real_table.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal_real_table m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1))
      ∧ r.2.sem = fun _ => 0)

def quiescent_Reference25Ideal_pre_real_table [hReference25Ideal : Cert.Reference25Ideal.Facts] [hPre_real_table : Cert.Pre_real_table.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal_real_table m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1)
      ∧ r.2.mem ((c.tc : Thread Cert.Kernel27.nD Cert.Kernel27.τ).loc Cert.Kernel27.main_arg2) = m ((c.tc : Thread Cert.Kernel27.nD Cert.Kernel27.τ).loc Cert.Kernel27.main_arg2)
      ∧ r.2.mem ((c.tc : Thread Cert.Kernel27.nD Cert.Kernel27.τ).loc Cert.Kernel27.main_arg3) = m ((c.tc : Thread Cert.Kernel27.nD Cert.Kernel27.τ).loc Cert.Kernel27.main_arg3)
      ∧ r.2.mem ((c.tc : Thread Cert.Kernel27.nD Cert.Kernel27.τ).loc Cert.Kernel27.main_arg4) = m ((c.tc : Thread Cert.Kernel27.nD Cert.Kernel27.τ).loc Cert.Kernel27.main_arg4)
      ∧ r.2.mem ((c.tc : Thread Cert.Kernel27.nD Cert.Kernel27.τ).loc Cert.Kernel27.main_arg5) = m ((c.tc : Thread Cert.Kernel27.nD Cert.Kernel27.τ).loc Cert.Kernel27.main_arg5)
      ∧ r.2.mem ((c.tc : Thread Cert.Kernel27.nD Cert.Kernel27.τ).loc Cert.Kernel27.main_arg6) = m ((c.tc : Thread Cert.Kernel27.nD Cert.Kernel27.τ).loc Cert.Kernel27.main_arg6)
      ∧ r.2.mem ((c.tc : Thread Cert.Kernel27.nD Cert.Kernel27.τ).loc Cert.Kernel27.main_arg7) = m ((c.tc : Thread Cert.Kernel27.nD Cert.Kernel27.τ).loc Cert.Kernel27.main_arg7)
      ∧ r.2.mem ((c.tc : Thread Cert.Kernel27.nD Cert.Kernel27.τ).loc Cert.Kernel27.main_arg8) = m ((c.tc : Thread Cert.Kernel27.nD Cert.Kernel27.τ).loc Cert.Kernel27.main_arg8)
      ∧ r.2.mem ((c.tc : Thread Cert.Kernel27.nD Cert.Kernel27.τ).loc Cert.Kernel27.main_arg9) = m ((c.tc : Thread Cert.Kernel27.nD Cert.Kernel27.τ).loc Cert.Kernel27.main_arg9)
      ∧ r.2.mem ((c.tc : Thread Cert.Kernel27.nD Cert.Kernel27.τ).loc Cert.Kernel27.main_arg10) = m ((c.tc : Thread Cert.Kernel27.nD Cert.Kernel27.τ).loc Cert.Kernel27.main_arg10)
      ∧ r.2.mem ((c.tc : Thread Cert.Kernel27.nD Cert.Kernel27.τ).loc Cert.Kernel27.main_arg11) = m ((c.tc : Thread Cert.Kernel27.nD Cert.Kernel27.τ).loc Cert.Kernel27.main_arg11)
      ∧ r.2.mem ((c.tc : Thread Cert.Kernel27.nD Cert.Kernel27.τ).loc Cert.Kernel27.main_arg12) = m ((c.tc : Thread Cert.Kernel27.nD Cert.Kernel27.τ).loc Cert.Kernel27.main_arg12)
      ∧ r.2.mem ((c.tc : Thread Cert.Kernel27.nD Cert.Kernel27.τ).loc Cert.Kernel27.main_arg13) = m ((c.tc : Thread Cert.Kernel27.nD Cert.Kernel27.τ).loc Cert.Kernel27.main_arg13)
      ∧ r.2.mem ((c.tc : Thread Cert.Kernel27.nD Cert.Kernel27.τ).loc Cert.Kernel27.main_arg14) = m ((c.tc : Thread Cert.Kernel27.nD Cert.Kernel27.τ).loc Cert.Kernel27.main_arg14)
      ∧ r.2.mem ((c.tc : Thread Cert.Kernel27.nD Cert.Kernel27.τ).loc Cert.Kernel27.main_arg15) = m ((c.tc : Thread Cert.Kernel27.nD Cert.Kernel27.τ).loc Cert.Kernel27.main_arg15)
      ∧ r.2.mem ((c.tc : Thread Cert.Kernel27.nD Cert.Kernel27.τ).loc Cert.Kernel27.main_arg16) = m ((c.tc : Thread Cert.Kernel27.nD Cert.Kernel27.τ).loc Cert.Kernel27.main_arg16)
      ∧ r.2.mem ((c.tc : Thread Cert.Kernel27.nD Cert.Kernel27.τ).loc Cert.Kernel27.main_arg17) = m ((c.tc : Thread Cert.Kernel27.nD Cert.Kernel27.τ).loc Cert.Kernel27.main_arg17)
      ∧ r.2.mem ((c.tc : Thread Cert.Kernel27.nD Cert.Kernel27.τ).loc Cert.Kernel27.main_arg18) = m ((c.tc : Thread Cert.Kernel27.nD Cert.Kernel27.τ).loc Cert.Kernel27.main_arg18)
      ∧ r.2.mem ((c.tc : Thread Cert.Kernel27.nD Cert.Kernel27.τ).loc Cert.Kernel27.main_arg19) = m ((c.tc : Thread Cert.Kernel27.nD Cert.Kernel27.τ).loc Cert.Kernel27.main_arg19)
      ∧ r.2.mem ((c.tc : Thread Cert.Kernel27.nD Cert.Kernel27.τ).loc Cert.Kernel27.main_arg20) = m ((c.tc : Thread Cert.Kernel27.nD Cert.Kernel27.τ).loc Cert.Kernel27.main_arg20)
      ∧ r.2.mem ((c.tc : Thread Cert.Kernel27.nD Cert.Kernel27.τ).loc Cert.Kernel27.main_arg21) = m ((c.tc : Thread Cert.Kernel27.nD Cert.Kernel27.τ).loc Cert.Kernel27.main_arg21)
      ∧ r.2.mem ((c.tc : Thread Cert.Kernel27.nD Cert.Kernel27.τ).loc Cert.Kernel27.main_arg22) = m ((c.tc : Thread Cert.Kernel27.nD Cert.Kernel27.τ).loc Cert.Kernel27.main_arg22)
      ∧ r.2.mem ((c.tc : Thread Cert.Kernel27.nD Cert.Kernel27.τ).loc Cert.Kernel27.main_arg23) = m ((c.tc : Thread Cert.Kernel27.nD Cert.Kernel27.τ).loc Cert.Kernel27.main_arg23)
      ∧ r.2.mem ((c.tc : Thread Cert.Kernel27.nD Cert.Kernel27.τ).loc Cert.Kernel27.main_arg24) = m ((c.tc : Thread Cert.Kernel27.nD Cert.Kernel27.τ).loc Cert.Kernel27.main_arg24)
      ∧ r.2.mem ((c.tc : Thread Cert.Kernel27.nD Cert.Kernel27.τ).loc Cert.Kernel27.main_arg25) = m ((c.tc : Thread Cert.Kernel27.nD Cert.Kernel27.τ).loc Cert.Kernel27.main_arg25)
      ∧ r.2.mem ((c.tc : Thread Cert.Kernel27.nD Cert.Kernel27.τ).loc Cert.Kernel27.main_arg26) = m ((c.tc : Thread Cert.Kernel27.nD Cert.Kernel27.τ).loc Cert.Kernel27.main_arg26)
      ∧ r.2.mem ((c.tc : Thread Cert.Kernel27.nD Cert.Kernel27.τ).loc Cert.Kernel27.main_arg27) = m ((c.tc : Thread Cert.Kernel27.nD Cert.Kernel27.τ).loc Cert.Kernel27.main_arg27))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
      ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
      ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3)
      ∧ r.2.mem ((c.tc : Thread Cert.Kernel27Ideal.nD Cert.Kernel27Ideal.τ).loc Cert.Kernel27Ideal.main_arg4) = m ((c.tc : Thread Cert.Kernel27Ideal.nD Cert.Kernel27Ideal.τ).loc Cert.Kernel27Ideal.main_arg4)
      ∧ r.2.mem ((c.tc : Thread Cert.Kernel27Ideal.nD Cert.Kernel27Ideal.τ).loc Cert.Kernel27Ideal.main_arg5) = m ((c.tc : Thread Cert.Kernel27Ideal.nD Cert.Kernel27Ideal.τ).loc Cert.Kernel27Ideal.main_arg5)
      ∧ r.2.mem ((c.tc : Thread Cert.Kernel27Ideal.nD Cert.Kernel27Ideal.τ).loc Cert.Kernel27Ideal.main_arg6) = m ((c.tc : Thread Cert.Kernel27Ideal.nD Cert.Kernel27Ideal.τ).loc Cert.Kernel27Ideal.main_arg6)
      ∧ r.2.mem ((c.tc : Thread Cert.Kernel27Ideal.nD Cert.Kernel27Ideal.τ).loc Cert.Kernel27Ideal.main_arg7) = m ((c.tc : Thread Cert.Kernel27Ideal.nD Cert.Kernel27Ideal.τ).loc Cert.Kernel27Ideal.main_arg7)
      ∧ r.2.mem ((c.tc : Thread Cert.Kernel27Ideal.nD Cert.Kernel27Ideal.τ).loc Cert.Kernel27Ideal.main_arg8) = m ((c.tc : Thread Cert.Kernel27Ideal.nD Cert.Kernel27Ideal.τ).loc Cert.Kernel27Ideal.main_arg8)
      ∧ r.2.mem ((c.tc : Thread Cert.Kernel27Ideal.nD Cert.Kernel27Ideal.τ).loc Cert.Kernel27Ideal.main_arg9) = m ((c.tc : Thread Cert.Kernel27Ideal.nD Cert.Kernel27Ideal.τ).loc Cert.Kernel27Ideal.main_arg9)
      ∧ r.2.mem ((c.tc : Thread Cert.Kernel27Ideal.nD Cert.Kernel27Ideal.τ).loc Cert.Kernel27Ideal.main_arg10) = m ((c.tc : Thread Cert.Kernel27Ideal.nD Cert.Kernel27Ideal.τ).loc Cert.Kernel27Ideal.main_arg10)
      ∧ r.2.mem ((c.tc : Thread Cert.Kernel27Ideal.nD Cert.Kernel27Ideal.τ).loc Cert.Kernel27Ideal.main_arg11) = m ((c.tc : Thread Cert.Kernel27Ideal.nD Cert.Kernel27Ideal.τ).loc Cert.Kernel27Ideal.main_arg11)
      ∧ r.2.mem ((c.tc : Thread Cert.Kernel27Ideal.nD Cert.Kernel27Ideal.τ).loc Cert.Kernel27Ideal.main_arg12) = m ((c.tc : Thread Cert.Kernel27Ideal.nD Cert.Kernel27Ideal.τ).loc Cert.Kernel27Ideal.main_arg12)
      ∧ r.2.mem ((c.tc : Thread Cert.Kernel27Ideal.nD Cert.Kernel27Ideal.τ).loc Cert.Kernel27Ideal.main_arg13) = m ((c.tc : Thread Cert.Kernel27Ideal.nD Cert.Kernel27Ideal.τ).loc Cert.Kernel27Ideal.main_arg13)
      ∧ r.2.mem ((c.tc : Thread Cert.Kernel27Ideal.nD Cert.Kernel27Ideal.τ).loc Cert.Kernel27Ideal.main_arg14) = m ((c.tc : Thread Cert.Kernel27Ideal.nD Cert.Kernel27Ideal.τ).loc Cert.Kernel27Ideal.main_arg14)
      ∧ r.2.mem ((c.tc : Thread Cert.Kernel27Ideal.nD Cert.Kernel27Ideal.τ).loc Cert.Kernel27Ideal.main_arg15) = m ((c.tc : Thread Cert.Kernel27Ideal.nD Cert.Kernel27Ideal.τ).loc Cert.Kernel27Ideal.main_arg15)
      ∧ r.2.mem ((c.tc : Thread Cert.Kernel27Ideal.nD Cert.Kernel27Ideal.τ).loc Cert.Kernel27Ideal.main_arg16) = m ((c.tc : Thread Cert.Kernel27Ideal.nD Cert.Kernel27Ideal.τ).loc Cert.Kernel27Ideal.main_arg16)
      ∧ r.2.mem ((c.tc : Thread Cert.Kernel27Ideal.nD Cert.Kernel27Ideal.τ).loc Cert.Kernel27Ideal.main_arg17) = m ((c.tc : Thread Cert.Kernel27Ideal.nD Cert.Kernel27Ideal.τ).loc Cert.Kernel27Ideal.main_arg17)
      ∧ r.2.mem ((c.tc : Thread Cert.Kernel27Ideal.nD Cert.Kernel27Ideal.τ).loc Cert.Kernel27Ideal.main_arg18) = m ((c.tc : Thread Cert.Kernel27Ideal.nD Cert.Kernel27Ideal.τ).loc Cert.Kernel27Ideal.main_arg18)
      ∧ r.2.mem ((c.tc : Thread Cert.Kernel27Ideal.nD Cert.Kernel27Ideal.τ).loc Cert.Kernel27Ideal.main_arg19) = m ((c.tc : Thread Cert.Kernel27Ideal.nD Cert.Kernel27Ideal.τ).loc Cert.Kernel27Ideal.main_arg19)
      ∧ r.2.mem ((c.tc : Thread Cert.Kernel27Ideal.nD Cert.Kernel27Ideal.τ).loc Cert.Kernel27Ideal.main_arg20) = m ((c.tc : Thread Cert.Kernel27Ideal.nD Cert.Kernel27Ideal.τ).loc Cert.Kernel27Ideal.main_arg20)
      ∧ r.2.mem ((c.tc : Thread Cert.Kernel27Ideal.nD Cert.Kernel27Ideal.τ).loc Cert.Kernel27Ideal.main_arg21) = m ((c.tc : Thread Cert.Kernel27Ideal.nD Cert.Kernel27Ideal.τ).loc Cert.Kernel27Ideal.main_arg21)
      ∧ r.2.mem ((c.tc : Thread Cert.Kernel27Ideal.nD Cert.Kernel27Ideal.τ).loc Cert.Kernel27Ideal.main_arg22) = m ((c.tc : Thread Cert.Kernel27Ideal.nD Cert.Kernel27Ideal.τ).loc Cert.Kernel27Ideal.main_arg22)
      ∧ r.2.mem ((c.tc : Thread Cert.Kernel27Ideal.nD Cert.Kernel27Ideal.τ).loc Cert.Kernel27Ideal.main_arg23) = m ((c.tc : Thread Cert.Kernel27Ideal.nD Cert.Kernel27Ideal.τ).loc Cert.Kernel27Ideal.main_arg23)
      ∧ r.2.mem ((c.tc : Thread Cert.Kernel27Ideal.nD Cert.Kernel27Ideal.τ).loc Cert.Kernel27Ideal.main_arg24) = m ((c.tc : Thread Cert.Kernel27Ideal.nD Cert.Kernel27Ideal.τ).loc Cert.Kernel27Ideal.main_arg24)
      ∧ r.2.mem ((c.tc : Thread Cert.Kernel27Ideal.nD Cert.Kernel27Ideal.τ).loc Cert.Kernel27Ideal.main_arg25) = m ((c.tc : Thread Cert.Kernel27Ideal.nD Cert.Kernel27Ideal.τ).loc Cert.Kernel27Ideal.main_arg25)
      ∧ r.2.mem ((c.tc : Thread Cert.Kernel27Ideal.nD Cert.Kernel27Ideal.τ).loc Cert.Kernel27Ideal.main_arg26) = m ((c.tc : Thread Cert.Kernel27Ideal.nD Cert.Kernel27Ideal.τ).loc Cert.Kernel27Ideal.main_arg26)
      ∧ r.2.mem ((c.tc : Thread Cert.Kernel27Ideal.nD Cert.Kernel27Ideal.τ).loc Cert.Kernel27Ideal.main_arg27) = m ((c.tc : Thread Cert.Kernel27Ideal.nD Cert.Kernel27Ideal.τ).loc Cert.Kernel27Ideal.main_arg27))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1)
      ∧ r.2.mem ((c.tc : Thread Cert.Reference27Ideal.nD Cert.Reference27Ideal.τ).loc Cert.Reference27Ideal.main_arg2) = m ((c.tc : Thread Cert.Reference27Ideal.nD Cert.Reference27Ideal.τ).loc Cert.Reference27Ideal.main_arg2)
      ∧ r.2.mem ((c.tc : Thread Cert.Reference27Ideal.nD Cert.Reference27Ideal.τ).loc Cert.Reference27Ideal.main_arg3) = m ((c.tc : Thread Cert.Reference27Ideal.nD Cert.Reference27Ideal.τ).loc Cert.Reference27Ideal.main_arg3)
      ∧ r.2.mem ((c.tc : Thread Cert.Reference27Ideal.nD Cert.Reference27Ideal.τ).loc Cert.Reference27Ideal.main_arg4) = m ((c.tc : Thread Cert.Reference27Ideal.nD Cert.Reference27Ideal.τ).loc Cert.Reference27Ideal.main_arg4)
      ∧ r.2.mem ((c.tc : Thread Cert.Reference27Ideal.nD Cert.Reference27Ideal.τ).loc Cert.Reference27Ideal.main_arg5) = m ((c.tc : Thread Cert.Reference27Ideal.nD Cert.Reference27Ideal.τ).loc Cert.Reference27Ideal.main_arg5)
      ∧ r.2.mem ((c.tc : Thread Cert.Reference27Ideal.nD Cert.Reference27Ideal.τ).loc Cert.Reference27Ideal.main_arg6) = m ((c.tc : Thread Cert.Reference27Ideal.nD Cert.Reference27Ideal.τ).loc Cert.Reference27Ideal.main_arg6)
      ∧ r.2.mem ((c.tc : Thread Cert.Reference27Ideal.nD Cert.Reference27Ideal.τ).loc Cert.Reference27Ideal.main_arg7) = m ((c.tc : Thread Cert.Reference27Ideal.nD Cert.Reference27Ideal.τ).loc Cert.Reference27Ideal.main_arg7)
      ∧ r.2.mem ((c.tc : Thread Cert.Reference27Ideal.nD Cert.Reference27Ideal.τ).loc Cert.Reference27Ideal.main_arg8) = m ((c.tc : Thread Cert.Reference27Ideal.nD Cert.Reference27Ideal.τ).loc Cert.Reference27Ideal.main_arg8)
      ∧ r.2.mem ((c.tc : Thread Cert.Reference27Ideal.nD Cert.Reference27Ideal.τ).loc Cert.Reference27Ideal.main_arg9) = m ((c.tc : Thread Cert.Reference27Ideal.nD Cert.Reference27Ideal.τ).loc Cert.Reference27Ideal.main_arg9)
      ∧ r.2.mem ((c.tc : Thread Cert.Reference27Ideal.nD Cert.Reference27Ideal.τ).loc Cert.Reference27Ideal.main_arg10) = m ((c.tc : Thread Cert.Reference27Ideal.nD Cert.Reference27Ideal.τ).loc Cert.Reference27Ideal.main_arg10)
      ∧ r.2.mem ((c.tc : Thread Cert.Reference27Ideal.nD Cert.Reference27Ideal.τ).loc Cert.Reference27Ideal.main_arg11) = m ((c.tc : Thread Cert.Reference27Ideal.nD Cert.Reference27Ideal.τ).loc Cert.Reference27Ideal.main_arg11)
      ∧ r.2.mem ((c.tc : Thread Cert.Reference27Ideal.nD Cert.Reference27Ideal.τ).loc Cert.Reference27Ideal.main_arg12) = m ((c.tc : Thread Cert.Reference27Ideal.nD Cert.Reference27Ideal.τ).loc Cert.Reference27Ideal.main_arg12)
      ∧ r.2.mem ((c.tc : Thread Cert.Reference27Ideal.nD Cert.Reference27Ideal.τ).loc Cert.Reference27Ideal.main_arg13) = m ((c.tc : Thread Cert.Reference27Ideal.nD Cert.Reference27Ideal.τ).loc Cert.Reference27Ideal.main_arg13)
      ∧ r.2.mem ((c.tc : Thread Cert.Reference27Ideal.nD Cert.Reference27Ideal.τ).loc Cert.Reference27Ideal.main_arg14) = m ((c.tc : Thread Cert.Reference27Ideal.nD Cert.Reference27Ideal.τ).loc Cert.Reference27Ideal.main_arg14)
      ∧ r.2.mem ((c.tc : Thread Cert.Reference27Ideal.nD Cert.Reference27Ideal.τ).loc Cert.Reference27Ideal.main_arg15) = m ((c.tc : Thread Cert.Reference27Ideal.nD Cert.Reference27Ideal.τ).loc Cert.Reference27Ideal.main_arg15)
      ∧ r.2.mem ((c.tc : Thread Cert.Reference27Ideal.nD Cert.Reference27Ideal.τ).loc Cert.Reference27Ideal.main_arg16) = m ((c.tc : Thread Cert.Reference27Ideal.nD Cert.Reference27Ideal.τ).loc Cert.Reference27Ideal.main_arg16)
      ∧ r.2.mem ((c.tc : Thread Cert.Reference27Ideal.nD Cert.Reference27Ideal.τ).loc Cert.Reference27Ideal.main_arg17) = m ((c.tc : Thread Cert.Reference27Ideal.nD Cert.Reference27Ideal.τ).loc Cert.Reference27Ideal.main_arg17)
      ∧ r.2.mem ((c.tc : Thread Cert.Reference27Ideal.nD Cert.Reference27Ideal.τ).loc Cert.Reference27Ideal.main_arg18) = m ((c.tc : Thread Cert.Reference27Ideal.nD Cert.Reference27Ideal.τ).loc Cert.Reference27Ideal.main_arg18)
      ∧ r.2.mem ((c.tc : Thread Cert.Reference27Ideal.nD Cert.Reference27Ideal.τ).loc Cert.Reference27Ideal.main_arg19) = m ((c.tc : Thread Cert.Reference27Ideal.nD Cert.Reference27Ideal.τ).loc Cert.Reference27Ideal.main_arg19)
      ∧ r.2.mem ((c.tc : Thread Cert.Reference27Ideal.nD Cert.Reference27Ideal.τ).loc Cert.Reference27Ideal.main_arg20) = m ((c.tc : Thread Cert.Reference27Ideal.nD Cert.Reference27Ideal.τ).loc Cert.Reference27Ideal.main_arg20)
      ∧ r.2.mem ((c.tc : Thread Cert.Reference27Ideal.nD Cert.Reference27Ideal.τ).loc Cert.Reference27Ideal.main_arg21) = m ((c.tc : Thread Cert.Reference27Ideal.nD Cert.Reference27Ideal.τ).loc Cert.Reference27Ideal.main_arg21)
      ∧ r.2.mem ((c.tc : Thread Cert.Reference27Ideal.nD Cert.Reference27Ideal.τ).loc Cert.Reference27Ideal.main_arg22) = m ((c.tc : Thread Cert.Reference27Ideal.nD Cert.Reference27Ideal.τ).loc Cert.Reference27Ideal.main_arg22)
      ∧ r.2.mem ((c.tc : Thread Cert.Reference27Ideal.nD Cert.Reference27Ideal.τ).loc Cert.Reference27Ideal.main_arg23) = m ((c.tc : Thread Cert.Reference27Ideal.nD Cert.Reference27Ideal.τ).loc Cert.Reference27Ideal.main_arg23)
      ∧ r.2.mem ((c.tc : Thread Cert.Reference27Ideal.nD Cert.Reference27Ideal.τ).loc Cert.Reference27Ideal.main_arg24) = m ((c.tc : Thread Cert.Reference27Ideal.nD Cert.Reference27Ideal.τ).loc Cert.Reference27Ideal.main_arg24)
      ∧ r.2.mem ((c.tc : Thread Cert.Reference27Ideal.nD Cert.Reference27Ideal.τ).loc Cert.Reference27Ideal.main_arg25) = m ((c.tc : Thread Cert.Reference27Ideal.nD Cert.Reference27Ideal.τ).loc Cert.Reference27Ideal.main_arg25)
      ∧ r.2.mem ((c.tc : Thread Cert.Reference27Ideal.nD Cert.Reference27Ideal.τ).loc Cert.Reference27Ideal.main_arg26) = m ((c.tc : Thread Cert.Reference27Ideal.nD Cert.Reference27Ideal.τ).loc Cert.Reference27Ideal.main_arg26)
      ∧ r.2.mem ((c.tc : Thread Cert.Reference27Ideal.nD Cert.Reference27Ideal.τ).loc Cert.Reference27Ideal.main_arg27) = m ((c.tc : Thread Cert.Reference27Ideal.nD Cert.Reference27Ideal.τ).loc Cert.Reference27Ideal.main_arg27))
      ∧ r.2.sem = fun _ => 0)

def quiescent_Kernel30 [hKernel30 : Cert.Kernel30.Facts] : Prop :=
  ∀ (m : (ℓ : Loc Cert.Kernel30.nD Cert.Kernel30.τ Cert.Kernel30.sig) → Buf (Elt Bits) ℓ) (g : Dev Cert.Kernel30.nD → PrngReg), Pre_Kernel30 m →
    θ_run (Cert.Kernel30.defs (F := Bits)) (onTc (τ := Cert.Kernel30.τ) (Cert.Kernel30.main (F := Bits))) ⟨m, fun _ => 0, g⟩ (fun r => (∀ c : Dev Cert.Kernel30.nD,
      r.2.mem ((c.tc : Thread Cert.Kernel30.nD Cert.Kernel30.τ).loc Cert.Kernel30.main_arg0) = m ((c.tc : Thread Cert.Kernel30.nD Cert.Kernel30.τ).loc Cert.Kernel30.main_arg0)
      ∧ r.2.mem ((c.tc : Thread Cert.Kernel30.nD Cert.Kernel30.τ).loc Cert.Kernel30.main_arg1) = m ((c.tc : Thread Cert.Kernel30.nD Cert.Kernel30.τ).loc Cert.Kernel30.main_arg1)
      ∧ r.2.mem ((c.tc : Thread Cert.Kernel30.nD Cert.Kernel30.τ).loc Cert.Kernel30.main_arg2) = m ((c.tc : Thread Cert.Kernel30.nD Cert.Kernel30.τ).loc Cert.Kernel30.main_arg2)
      ∧ r.2.mem ((c.tc : Thread Cert.Kernel30.nD Cert.Kernel30.τ).loc Cert.Kernel30.main_arg3) = m ((c.tc : Thread Cert.Kernel30.nD Cert.Kernel30.τ).loc Cert.Kernel30.main_arg3)
      ∧ r.2.mem ((c.tc : Thread Cert.Kernel30.nD Cert.Kernel30.τ).loc Cert.Kernel30.main_arg4) = m ((c.tc : Thread Cert.Kernel30.nD Cert.Kernel30.τ).loc Cert.Kernel30.main_arg4)
      ∧ r.2.mem ((c.tc : Thread Cert.Kernel30.nD Cert.Kernel30.τ).loc Cert.Kernel30.main_arg5) = m ((c.tc : Thread Cert.Kernel30.nD Cert.Kernel30.τ).loc Cert.Kernel30.main_arg5))
      ∧ r.2.sem = fun _ => 0)

def quiescent_Kernel30Ideal [hKernel30Ideal : Cert.Kernel30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
      ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
      ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2)
      ∧ r.2.mem ((c.tc : Thread Cert.Kernel30Ideal.nD Cert.Kernel30Ideal.τ).loc Cert.Kernel30Ideal.main_arg3) = m ((c.tc : Thread Cert.Kernel30Ideal.nD Cert.Kernel30Ideal.τ).loc Cert.Kernel30Ideal.main_arg3)
      ∧ r.2.mem ((c.tc : Thread Cert.Kernel30Ideal.nD Cert.Kernel30Ideal.τ).loc Cert.Kernel30Ideal.main_arg4) = m ((c.tc : Thread Cert.Kernel30Ideal.nD Cert.Kernel30Ideal.τ).loc Cert.Kernel30Ideal.main_arg4)
      ∧ r.2.mem ((c.tc : Thread Cert.Kernel30Ideal.nD Cert.Kernel30Ideal.τ).loc Cert.Kernel30Ideal.main_arg5) = m ((c.tc : Thread Cert.Kernel30Ideal.nD Cert.Kernel30Ideal.τ).loc Cert.Kernel30Ideal.main_arg5))
      ∧ r.2.sem = fun _ => 0)

def quiescent_Reference30Ideal [hReference30Ideal : Cert.Reference30Ideal.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1)
      ∧ r.2.mem ((c.tc : Thread Cert.Reference30Ideal.nD Cert.Reference30Ideal.τ).loc Cert.Reference30Ideal.main_arg2) = m ((c.tc : Thread Cert.Reference30Ideal.nD Cert.Reference30Ideal.τ).loc Cert.Reference30Ideal.main_arg2)
      ∧ r.2.mem ((c.tc : Thread Cert.Reference30Ideal.nD Cert.Reference30Ideal.τ).loc Cert.Reference30Ideal.main_arg3) = m ((c.tc : Thread Cert.Reference30Ideal.nD Cert.Reference30Ideal.τ).loc Cert.Reference30Ideal.main_arg3)
      ∧ r.2.mem ((c.tc : Thread Cert.Reference30Ideal.nD Cert.Reference30Ideal.τ).loc Cert.Reference30Ideal.main_arg4) = m ((c.tc : Thread Cert.Reference30Ideal.nD Cert.Reference30Ideal.τ).loc Cert.Reference30Ideal.main_arg4)
      ∧ r.2.mem ((c.tc : Thread Cert.Reference30Ideal.nD Cert.Reference30Ideal.τ).loc Cert.Reference30Ideal.main_arg5) = m ((c.tc : Thread Cert.Reference30Ideal.nD Cert.Reference30Ideal.τ).loc Cert.Reference30Ideal.main_arg5))
      ∧ r.2.sem = fun _ => 0)

def quiescent_Kernel31 [hKernel31 : Cert.Kernel31.Facts] : Prop :=
  ∀ (m : (ℓ : Loc Cert.Kernel31.nD Cert.Kernel31.τ Cert.Kernel31.sig) → Buf (Elt Bits) ℓ) (g : Dev Cert.Kernel31.nD → PrngReg), Pre_Kernel31 m →
    θ_run (Cert.Kernel31.defs (F := Bits)) (onTc (τ := Cert.Kernel31.τ) (Cert.Kernel31.main (F := Bits))) ⟨m, fun _ => 0, g⟩ (fun r => (∀ c : Dev Cert.Kernel31.nD,
      r.2.mem ((c.tc : Thread Cert.Kernel31.nD Cert.Kernel31.τ).loc Cert.Kernel31.main_arg0) = m ((c.tc : Thread Cert.Kernel31.nD Cert.Kernel31.τ).loc Cert.Kernel31.main_arg0)
      ∧ r.2.mem ((c.tc : Thread Cert.Kernel31.nD Cert.Kernel31.τ).loc Cert.Kernel31.main_arg1) = m ((c.tc : Thread Cert.Kernel31.nD Cert.Kernel31.τ).loc Cert.Kernel31.main_arg1)
      ∧ r.2.mem ((c.tc : Thread Cert.Kernel31.nD Cert.Kernel31.τ).loc Cert.Kernel31.main_arg2) = m ((c.tc : Thread Cert.Kernel31.nD Cert.Kernel31.τ).loc Cert.Kernel31.main_arg2)
      ∧ r.2.mem ((c.tc : Thread Cert.Kernel31.nD Cert.Kernel31.τ).loc Cert.Kernel31.main_arg3) = m ((c.tc : Thread Cert.Kernel31.nD Cert.Kernel31.τ).loc Cert.Kernel31.main_arg3)
      ∧ r.2.mem ((c.tc : Thread Cert.Kernel31.nD Cert.Kernel31.τ).loc Cert.Kernel31.main_arg4) = m ((c.tc : Thread Cert.Kernel31.nD Cert.Kernel31.τ).loc Cert.Kernel31.main_arg4)
      ∧ r.2.mem ((c.tc : Thread Cert.Kernel31.nD Cert.Kernel31.τ).loc Cert.Kernel31.main_arg5) = m ((c.tc : Thread Cert.Kernel31.nD Cert.Kernel31.τ).loc Cert.Kernel31.main_arg5))
      ∧ r.2.sem = fun _ => 0)

def quiescent_Kernel31Ideal [hKernel31Ideal : Cert.Kernel31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg), Pre_Kernel31Ideal m →
    θ_run (Cert.Kernel31Ideal.defs (F := Ideal)) (onTc (τ := Cert.Kernel31Ideal.τ) (Cert.Kernel31Ideal.main (F := Ideal))) ⟨m, fun _ => 0, g⟩ (fun r => (∀ c : Dev Cert.Kernel31Ideal.nD,
      r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
      ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
      ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2)
      ∧ r.2.mem ((c.tc : Thread Cert.Kernel31Ideal.nD Cert.Kernel31Ideal.τ).loc Cert.Kernel31Ideal.main_arg3) = m ((c.tc : Thread Cert.Kernel31Ideal.nD Cert.Kernel31Ideal.τ).loc Cert.Kernel31Ideal.main_arg3)
      ∧ r.2.mem ((c.tc : Thread Cert.Kernel31Ideal.nD Cert.Kernel31Ideal.τ).loc Cert.Kernel31Ideal.main_arg4) = m ((c.tc : Thread Cert.Kernel31Ideal.nD Cert.Kernel31Ideal.τ).loc Cert.Kernel31Ideal.main_arg4)
      ∧ r.2.mem ((c.tc : Thread Cert.Kernel31Ideal.nD Cert.Kernel31Ideal.τ).loc Cert.Kernel31Ideal.main_arg5) = m ((c.tc : Thread Cert.Kernel31Ideal.nD Cert.Kernel31Ideal.τ).loc Cert.Kernel31Ideal.main_arg5))
      ∧ r.2.sem = fun _ => 0)

def quiescent_Reference31Ideal [hReference31Ideal : Cert.Reference31Ideal.Facts] : Prop :=
  ∀ (m : (ℓ : Loc Cert.Reference31Ideal.nD Cert.Reference31Ideal.τ Cert.Reference31Ideal.sig) → Buf (Elt Ideal) ℓ) (g : Dev Cert.Reference31Ideal.nD → PrngReg), Pre_Reference31Ideal m →
    θ_run (Cert.Reference31Ideal.defs (F := Ideal)) (onTc (τ := Cert.Reference31Ideal.τ) (Cert.Reference31Ideal.main (F := Ideal))) ⟨m, fun _ => 0, g⟩ (fun r => (∀ c : Dev Cert.Reference31Ideal.nD,
      r.2.mem ((c.tc : Thread Cert.Reference31Ideal.nD Cert.Reference31Ideal.τ).loc Cert.Reference31Ideal.main_arg0) = m ((c.tc : Thread Cert.Reference31Ideal.nD Cert.Reference31Ideal.τ).loc Cert.Reference31Ideal.main_arg0)
      ∧ r.2.mem ((c.tc : Thread Cert.Reference31Ideal.nD Cert.Reference31Ideal.τ).loc Cert.Reference31Ideal.main_arg1) = m ((c.tc : Thread Cert.Reference31Ideal.nD Cert.Reference31Ideal.τ).loc Cert.Reference31Ideal.main_arg1)
      ∧ r.2.mem ((c.tc : Thread Cert.Reference31Ideal.nD Cert.Reference31Ideal.τ).loc Cert.Reference31Ideal.main_arg2) = m ((c.tc : Thread Cert.Reference31Ideal.nD Cert.Reference31Ideal.τ).loc Cert.Reference31Ideal.main_arg2)
      ∧ r.2.mem ((c.tc : Thread Cert.Reference31Ideal.nD Cert.Reference31Ideal.τ).loc Cert.Reference31Ideal.main_arg3) = m ((c.tc : Thread Cert.Reference31Ideal.nD Cert.Reference31Ideal.τ).loc Cert.Reference31Ideal.main_arg3)
      ∧ r.2.mem ((c.tc : Thread Cert.Reference31Ideal.nD Cert.Reference31Ideal.τ).loc Cert.Reference31Ideal.main_arg4) = m ((c.tc : Thread Cert.Reference31Ideal.nD Cert.Reference31Ideal.τ).loc Cert.Reference31Ideal.main_arg4)
      ∧ r.2.mem ((c.tc : Thread Cert.Reference31Ideal.nD Cert.Reference31Ideal.τ).loc Cert.Reference31Ideal.main_arg5) = m ((c.tc : Thread Cert.Reference31Ideal.nD Cert.Reference31Ideal.τ).loc Cert.Reference31Ideal.main_arg5))
      ∧ r.2.sem = fun _ => 0)

def quiescent_Kernel32 [hKernel32 : Cert.Kernel32.Facts] : Prop :=
  ∀ (m : (ℓ : Loc Cert.Kernel32.nD Cert.Kernel32.τ Cert.Kernel32.sig) → Buf (Elt Bits) ℓ) (g : Dev Cert.Kernel32.nD → PrngReg), Pre_Kernel32 m →
    θ_run (Cert.Kernel32.defs (F := Bits)) (onTc (τ := Cert.Kernel32.τ) (Cert.Kernel32.main (F := Bits))) ⟨m, fun _ => 0, g⟩ (fun r => (∀ c : Dev Cert.Kernel32.nD,
      r.2.mem ((c.tc : Thread Cert.Kernel32.nD Cert.Kernel32.τ).loc Cert.Kernel32.main_arg0) = m ((c.tc : Thread Cert.Kernel32.nD Cert.Kernel32.τ).loc Cert.Kernel32.main_arg0)
      ∧ r.2.mem ((c.tc : Thread Cert.Kernel32.nD Cert.Kernel32.τ).loc Cert.Kernel32.main_arg1) = m ((c.tc : Thread Cert.Kernel32.nD Cert.Kernel32.τ).loc Cert.Kernel32.main_arg1)
      ∧ r.2.mem ((c.tc : Thread Cert.Kernel32.nD Cert.Kernel32.τ).loc Cert.Kernel32.main_arg2) = m ((c.tc : Thread Cert.Kernel32.nD Cert.Kernel32.τ).loc Cert.Kernel32.main_arg2)
      ∧ r.2.mem ((c.tc : Thread Cert.Kernel32.nD Cert.Kernel32.τ).loc Cert.Kernel32.main_arg3) = m ((c.tc : Thread Cert.Kernel32.nD Cert.Kernel32.τ).loc Cert.Kernel32.main_arg3)
      ∧ r.2.mem ((c.tc : Thread Cert.Kernel32.nD Cert.Kernel32.τ).loc Cert.Kernel32.main_arg4) = m ((c.tc : Thread Cert.Kernel32.nD Cert.Kernel32.τ).loc Cert.Kernel32.main_arg4)
      ∧ r.2.mem ((c.tc : Thread Cert.Kernel32.nD Cert.Kernel32.τ).loc Cert.Kernel32.main_arg5) = m ((c.tc : Thread Cert.Kernel32.nD Cert.Kernel32.τ).loc Cert.Kernel32.main_arg5))
      ∧ r.2.sem = fun _ => 0)

def quiescent_Kernel32Ideal [hKernel32Ideal : Cert.Kernel32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg), Pre_Kernel32Ideal m →
    θ_run (Cert.Kernel32Ideal.defs (F := Ideal)) (onTc (τ := Cert.Kernel32Ideal.τ) (Cert.Kernel32Ideal.main (F := Ideal))) ⟨m, fun _ => 0, g⟩ (fun r => (∀ c : Dev Cert.Kernel32Ideal.nD,
      r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
      ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
      ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2)
      ∧ r.2.mem ((c.tc : Thread Cert.Kernel32Ideal.nD Cert.Kernel32Ideal.τ).loc Cert.Kernel32Ideal.main_arg3) = m ((c.tc : Thread Cert.Kernel32Ideal.nD Cert.Kernel32Ideal.τ).loc Cert.Kernel32Ideal.main_arg3)
      ∧ r.2.mem ((c.tc : Thread Cert.Kernel32Ideal.nD Cert.Kernel32Ideal.τ).loc Cert.Kernel32Ideal.main_arg4) = m ((c.tc : Thread Cert.Kernel32Ideal.nD Cert.Kernel32Ideal.τ).loc Cert.Kernel32Ideal.main_arg4)
      ∧ r.2.mem ((c.tc : Thread Cert.Kernel32Ideal.nD Cert.Kernel32Ideal.τ).loc Cert.Kernel32Ideal.main_arg5) = m ((c.tc : Thread Cert.Kernel32Ideal.nD Cert.Kernel32Ideal.τ).loc Cert.Kernel32Ideal.main_arg5))
      ∧ r.2.sem = fun _ => 0)

def quiescent_Reference32Ideal [hReference32Ideal : Cert.Reference32Ideal.Facts] : Prop :=
  ∀ (m : (ℓ : Loc Cert.Reference32Ideal.nD Cert.Reference32Ideal.τ Cert.Reference32Ideal.sig) → Buf (Elt Ideal) ℓ) (g : Dev Cert.Reference32Ideal.nD → PrngReg), Pre_Reference32Ideal m →
    θ_run (Cert.Reference32Ideal.defs (F := Ideal)) (onTc (τ := Cert.Reference32Ideal.τ) (Cert.Reference32Ideal.main (F := Ideal))) ⟨m, fun _ => 0, g⟩ (fun r => (∀ c : Dev Cert.Reference32Ideal.nD,
      r.2.mem ((c.tc : Thread Cert.Reference32Ideal.nD Cert.Reference32Ideal.τ).loc Cert.Reference32Ideal.main_arg0) = m ((c.tc : Thread Cert.Reference32Ideal.nD Cert.Reference32Ideal.τ).loc Cert.Reference32Ideal.main_arg0)
      ∧ r.2.mem ((c.tc : Thread Cert.Reference32Ideal.nD Cert.Reference32Ideal.τ).loc Cert.Reference32Ideal.main_arg1) = m ((c.tc : Thread Cert.Reference32Ideal.nD Cert.Reference32Ideal.τ).loc Cert.Reference32Ideal.main_arg1)
      ∧ r.2.mem ((c.tc : Thread Cert.Reference32Ideal.nD Cert.Reference32Ideal.τ).loc Cert.Reference32Ideal.main_arg2) = m ((c.tc : Thread Cert.Reference32Ideal.nD Cert.Reference32Ideal.τ).loc Cert.Reference32Ideal.main_arg2)
      ∧ r.2.mem ((c.tc : Thread Cert.Reference32Ideal.nD Cert.Reference32Ideal.τ).loc Cert.Reference32Ideal.main_arg3) = m ((c.tc : Thread Cert.Reference32Ideal.nD Cert.Reference32Ideal.τ).loc Cert.Reference32Ideal.main_arg3)
      ∧ r.2.mem ((c.tc : Thread Cert.Reference32Ideal.nD Cert.Reference32Ideal.τ).loc Cert.Reference32Ideal.main_arg4) = m ((c.tc : Thread Cert.Reference32Ideal.nD Cert.Reference32Ideal.τ).loc Cert.Reference32Ideal.main_arg4)
      ∧ r.2.mem ((c.tc : Thread Cert.Reference32Ideal.nD Cert.Reference32Ideal.τ).loc Cert.Reference32Ideal.main_arg5) = m ((c.tc : Thread Cert.Reference32Ideal.nD Cert.Reference32Ideal.τ).loc Cert.Reference32Ideal.main_arg5))
      ∧ r.2.sem = fun _ => 0)

def quiescent_Kernel35 [hKernel35 : Cert.Kernel35.Facts] : Prop :=
  ∀ (m : (ℓ : Loc Cert.Kernel35.nD Cert.Kernel35.τ Cert.Kernel35.sig) → Buf (Elt Bits) ℓ) (g : Dev Cert.Kernel35.nD → PrngReg), Pre_Kernel35 m →
    θ_run (Cert.Kernel35.defs (F := Bits)) (onTc (τ := Cert.Kernel35.τ) (Cert.Kernel35.main (F := Bits))) ⟨m, fun _ => 0, g⟩ (fun r => (∀ c : Dev Cert.Kernel35.nD,
      r.2.mem ((c.tc : Thread Cert.Kernel35.nD Cert.Kernel35.τ).loc Cert.Kernel35.main_arg0) = m ((c.tc : Thread Cert.Kernel35.nD Cert.Kernel35.τ).loc Cert.Kernel35.main_arg0)
      ∧ r.2.mem ((c.tc : Thread Cert.Kernel35.nD Cert.Kernel35.τ).loc Cert.Kernel35.main_arg1) = m ((c.tc : Thread Cert.Kernel35.nD Cert.Kernel35.τ).loc Cert.Kernel35.main_arg1)
      ∧ r.2.mem ((c.tc : Thread Cert.Kernel35.nD Cert.Kernel35.τ).loc Cert.Kernel35.main_arg2) = m ((c.tc : Thread Cert.Kernel35.nD Cert.Kernel35.τ).loc Cert.Kernel35.main_arg2)
      ∧ r.2.mem ((c.tc : Thread Cert.Kernel35.nD Cert.Kernel35.τ).loc Cert.Kernel35.main_arg3) = m ((c.tc : Thread Cert.Kernel35.nD Cert.Kernel35.τ).loc Cert.Kernel35.main_arg3)
      ∧ r.2.mem ((c.tc : Thread Cert.Kernel35.nD Cert.Kernel35.τ).loc Cert.Kernel35.main_arg4) = m ((c.tc : Thread Cert.Kernel35.nD Cert.Kernel35.τ).loc Cert.Kernel35.main_arg4)
      ∧ r.2.mem ((c.tc : Thread Cert.Kernel35.nD Cert.Kernel35.τ).loc Cert.Kernel35.main_arg5) = m ((c.tc : Thread Cert.Kernel35.nD Cert.Kernel35.τ).loc Cert.Kernel35.main_arg5)
      ∧ r.2.mem ((c.tc : Thread Cert.Kernel35.nD Cert.Kernel35.τ).loc Cert.Kernel35.main_arg6) = m ((c.tc : Thread Cert.Kernel35.nD Cert.Kernel35.τ).loc Cert.Kernel35.main_arg6)
      ∧ r.2.mem ((c.tc : Thread Cert.Kernel35.nD Cert.Kernel35.τ).loc Cert.Kernel35.main_arg7) = m ((c.tc : Thread Cert.Kernel35.nD Cert.Kernel35.τ).loc Cert.Kernel35.main_arg7)
      ∧ r.2.mem ((c.tc : Thread Cert.Kernel35.nD Cert.Kernel35.τ).loc Cert.Kernel35.main_arg8) = m ((c.tc : Thread Cert.Kernel35.nD Cert.Kernel35.τ).loc Cert.Kernel35.main_arg8)
      ∧ r.2.mem ((c.tc : Thread Cert.Kernel35.nD Cert.Kernel35.τ).loc Cert.Kernel35.main_arg9) = m ((c.tc : Thread Cert.Kernel35.nD Cert.Kernel35.τ).loc Cert.Kernel35.main_arg9))
      ∧ r.2.sem = fun _ => 0)

def quiescent_Kernel35Ideal [hKernel35Ideal : Cert.Kernel35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg), Pre_Kernel35Ideal m →
    θ_run (Cert.Kernel35Ideal.defs (F := Ideal)) (onTc (τ := Cert.Kernel35Ideal.τ) (Cert.Kernel35Ideal.main (F := Ideal))) ⟨m, fun _ => 0, g⟩ (fun r => (∀ c : Dev Cert.Kernel35Ideal.nD,
      r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
      ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1)
      ∧ r.2.mem ((c.tc : Thread Cert.Kernel35Ideal.nD Cert.Kernel35Ideal.τ).loc Cert.Kernel35Ideal.main_arg2) = m ((c.tc : Thread Cert.Kernel35Ideal.nD Cert.Kernel35Ideal.τ).loc Cert.Kernel35Ideal.main_arg2)
      ∧ r.2.mem ((c.tc : Thread Cert.Kernel35Ideal.nD Cert.Kernel35Ideal.τ).loc Cert.Kernel35Ideal.main_arg3) = m ((c.tc : Thread Cert.Kernel35Ideal.nD Cert.Kernel35Ideal.τ).loc Cert.Kernel35Ideal.main_arg3)
      ∧ r.2.mem ((c.tc : Thread Cert.Kernel35Ideal.nD Cert.Kernel35Ideal.τ).loc Cert.Kernel35Ideal.main_arg4) = m ((c.tc : Thread Cert.Kernel35Ideal.nD Cert.Kernel35Ideal.τ).loc Cert.Kernel35Ideal.main_arg4)
      ∧ r.2.mem ((c.tc : Thread Cert.Kernel35Ideal.nD Cert.Kernel35Ideal.τ).loc Cert.Kernel35Ideal.main_arg5) = m ((c.tc : Thread Cert.Kernel35Ideal.nD Cert.Kernel35Ideal.τ).loc Cert.Kernel35Ideal.main_arg5)
      ∧ r.2.mem ((c.tc : Thread Cert.Kernel35Ideal.nD Cert.Kernel35Ideal.τ).loc Cert.Kernel35Ideal.main_arg6) = m ((c.tc : Thread Cert.Kernel35Ideal.nD Cert.Kernel35Ideal.τ).loc Cert.Kernel35Ideal.main_arg6)
      ∧ r.2.mem ((c.tc : Thread Cert.Kernel35Ideal.nD Cert.Kernel35Ideal.τ).loc Cert.Kernel35Ideal.main_arg7) = m ((c.tc : Thread Cert.Kernel35Ideal.nD Cert.Kernel35Ideal.τ).loc Cert.Kernel35Ideal.main_arg7)
      ∧ r.2.mem ((c.tc : Thread Cert.Kernel35Ideal.nD Cert.Kernel35Ideal.τ).loc Cert.Kernel35Ideal.main_arg8) = m ((c.tc : Thread Cert.Kernel35Ideal.nD Cert.Kernel35Ideal.τ).loc Cert.Kernel35Ideal.main_arg8)
      ∧ r.2.mem ((c.tc : Thread Cert.Kernel35Ideal.nD Cert.Kernel35Ideal.τ).loc Cert.Kernel35Ideal.main_arg9) = m ((c.tc : Thread Cert.Kernel35Ideal.nD Cert.Kernel35Ideal.τ).loc Cert.Kernel35Ideal.main_arg9))
      ∧ r.2.sem = fun _ => 0)

def quiescent_Reference35Ideal [hReference35Ideal : Cert.Reference35Ideal.Facts] : Prop :=
  ∀ (m : (ℓ : Loc Cert.Reference35Ideal.nD Cert.Reference35Ideal.τ Cert.Reference35Ideal.sig) → Buf (Elt Ideal) ℓ) (g : Dev Cert.Reference35Ideal.nD → PrngReg), Pre_Reference35Ideal m →
    θ_run (Cert.Reference35Ideal.defs (F := Ideal)) (onTc (τ := Cert.Reference35Ideal.τ) (Cert.Reference35Ideal.main (F := Ideal))) ⟨m, fun _ => 0, g⟩ (fun r => (∀ c : Dev Cert.Reference35Ideal.nD,
      r.2.mem ((c.tc : Thread Cert.Reference35Ideal.nD Cert.Reference35Ideal.τ).loc Cert.Reference35Ideal.main_arg0) = m ((c.tc : Thread Cert.Reference35Ideal.nD Cert.Reference35Ideal.τ).loc Cert.Reference35Ideal.main_arg0)
      ∧ r.2.mem ((c.tc : Thread Cert.Reference35Ideal.nD Cert.Reference35Ideal.τ).loc Cert.Reference35Ideal.main_arg1) = m ((c.tc : Thread Cert.Reference35Ideal.nD Cert.Reference35Ideal.τ).loc Cert.Reference35Ideal.main_arg1)
      ∧ r.2.mem ((c.tc : Thread Cert.Reference35Ideal.nD Cert.Reference35Ideal.τ).loc Cert.Reference35Ideal.main_arg2) = m ((c.tc : Thread Cert.Reference35Ideal.nD Cert.Reference35Ideal.τ).loc Cert.Reference35Ideal.main_arg2)
      ∧ r.2.mem ((c.tc : Thread Cert.Reference35Ideal.nD Cert.Reference35Ideal.τ).loc Cert.Reference35Ideal.main_arg3) = m ((c.tc : Thread Cert.Reference35Ideal.nD Cert.Reference35Ideal.τ).loc Cert.Reference35Ideal.main_arg3)
      ∧ r.2.mem ((c.tc : Thread Cert.Reference35Ideal.nD Cert.Reference35Ideal.τ).loc Cert.Reference35Ideal.main_arg4) = m ((c.tc : Thread Cert.Reference35Ideal.nD Cert.Reference35Ideal.τ).loc Cert.Reference35Ideal.main_arg4)
      ∧ r.2.mem ((c.tc : Thread Cert.Reference35Ideal.nD Cert.Reference35Ideal.τ).loc Cert.Reference35Ideal.main_arg5) = m ((c.tc : Thread Cert.Reference35Ideal.nD Cert.Reference35Ideal.τ).loc Cert.Reference35Ideal.main_arg5)
      ∧ r.2.mem ((c.tc : Thread Cert.Reference35Ideal.nD Cert.Reference35Ideal.τ).loc Cert.Reference35Ideal.main_arg6) = m ((c.tc : Thread Cert.Reference35Ideal.nD Cert.Reference35Ideal.τ).loc Cert.Reference35Ideal.main_arg6)
      ∧ r.2.mem ((c.tc : Thread Cert.Reference35Ideal.nD Cert.Reference35Ideal.τ).loc Cert.Reference35Ideal.main_arg7) = m ((c.tc : Thread Cert.Reference35Ideal.nD Cert.Reference35Ideal.τ).loc Cert.Reference35Ideal.main_arg7)
      ∧ r.2.mem ((c.tc : Thread Cert.Reference35Ideal.nD Cert.Reference35Ideal.τ).loc Cert.Reference35Ideal.main_arg8) = m ((c.tc : Thread Cert.Reference35Ideal.nD Cert.Reference35Ideal.τ).loc Cert.Reference35Ideal.main_arg8)
      ∧ r.2.mem ((c.tc : Thread Cert.Reference35Ideal.nD Cert.Reference35Ideal.τ).loc Cert.Reference35Ideal.main_arg9) = m ((c.tc : Thread Cert.Reference35Ideal.nD Cert.Reference35Ideal.τ).loc Cert.Reference35Ideal.main_arg9))
      ∧ r.2.sem = fun _ => 0)

def quiescent_Kernel36 [hKernel36 : Cert.Kernel36.Facts] : Prop :=
  ∀ (m : (ℓ : Loc Cert.Kernel36.nD Cert.Kernel36.τ Cert.Kernel36.sig) → Buf (Elt Bits) ℓ) (g : Dev Cert.Kernel36.nD → PrngReg), Pre_Kernel36 m →
    θ_run (Cert.Kernel36.defs (F := Bits)) (onTc (τ := Cert.Kernel36.τ) (Cert.Kernel36.main (F := Bits))) ⟨m, fun _ => 0, g⟩ (fun r => (∀ c : Dev Cert.Kernel36.nD,
      r.2.mem ((c.tc : Thread Cert.Kernel36.nD Cert.Kernel36.τ).loc Cert.Kernel36.main_arg0) = m ((c.tc : Thread Cert.Kernel36.nD Cert.Kernel36.τ).loc Cert.Kernel36.main_arg0)
      ∧ r.2.mem ((c.tc : Thread Cert.Kernel36.nD Cert.Kernel36.τ).loc Cert.Kernel36.main_arg1) = m ((c.tc : Thread Cert.Kernel36.nD Cert.Kernel36.τ).loc Cert.Kernel36.main_arg1)
      ∧ r.2.mem ((c.tc : Thread Cert.Kernel36.nD Cert.Kernel36.τ).loc Cert.Kernel36.main_arg2) = m ((c.tc : Thread Cert.Kernel36.nD Cert.Kernel36.τ).loc Cert.Kernel36.main_arg2)
      ∧ r.2.mem ((c.tc : Thread Cert.Kernel36.nD Cert.Kernel36.τ).loc Cert.Kernel36.main_arg3) = m ((c.tc : Thread Cert.Kernel36.nD Cert.Kernel36.τ).loc Cert.Kernel36.main_arg3)
      ∧ r.2.mem ((c.tc : Thread Cert.Kernel36.nD Cert.Kernel36.τ).loc Cert.Kernel36.main_arg4) = m ((c.tc : Thread Cert.Kernel36.nD Cert.Kernel36.τ).loc Cert.Kernel36.main_arg4)
      ∧ r.2.mem ((c.tc : Thread Cert.Kernel36.nD Cert.Kernel36.τ).loc Cert.Kernel36.main_arg5) = m ((c.tc : Thread Cert.Kernel36.nD Cert.Kernel36.τ).loc Cert.Kernel36.main_arg5)
      ∧ r.2.mem ((c.tc : Thread Cert.Kernel36.nD Cert.Kernel36.τ).loc Cert.Kernel36.main_arg6) = m ((c.tc : Thread Cert.Kernel36.nD Cert.Kernel36.τ).loc Cert.Kernel36.main_arg6)
      ∧ r.2.mem ((c.tc : Thread Cert.Kernel36.nD Cert.Kernel36.τ).loc Cert.Kernel36.main_arg7) = m ((c.tc : Thread Cert.Kernel36.nD Cert.Kernel36.τ).loc Cert.Kernel36.main_arg7)
      ∧ r.2.mem ((c.tc : Thread Cert.Kernel36.nD Cert.Kernel36.τ).loc Cert.Kernel36.main_arg8) = m ((c.tc : Thread Cert.Kernel36.nD Cert.Kernel36.τ).loc Cert.Kernel36.main_arg8)
      ∧ r.2.mem ((c.tc : Thread Cert.Kernel36.nD Cert.Kernel36.τ).loc Cert.Kernel36.main_arg9) = m ((c.tc : Thread Cert.Kernel36.nD Cert.Kernel36.τ).loc Cert.Kernel36.main_arg9))
      ∧ r.2.sem = fun _ => 0)

def quiescent_Kernel36Ideal [hKernel36Ideal : Cert.Kernel36Ideal.Facts] : Prop :=
  ∀ (m : (ℓ : Loc Cert.Kernel36Ideal.nD Cert.Kernel36Ideal.τ Cert.Kernel36Ideal.sig) → Buf (Elt Ideal) ℓ) (g : Dev Cert.Kernel36Ideal.nD → PrngReg), Pre_Kernel36Ideal m →
    θ_run (Cert.Kernel36Ideal.defs (F := Ideal)) (onTc (τ := Cert.Kernel36Ideal.τ) (Cert.Kernel36Ideal.main (F := Ideal))) ⟨m, fun _ => 0, g⟩ (fun r => (∀ c : Dev Cert.Kernel36Ideal.nD,
      r.2.mem ((c.tc : Thread Cert.Kernel36Ideal.nD Cert.Kernel36Ideal.τ).loc Cert.Kernel36Ideal.main_arg0) = m ((c.tc : Thread Cert.Kernel36Ideal.nD Cert.Kernel36Ideal.τ).loc Cert.Kernel36Ideal.main_arg0)
      ∧ r.2.mem ((c.tc : Thread Cert.Kernel36Ideal.nD Cert.Kernel36Ideal.τ).loc Cert.Kernel36Ideal.main_arg1) = m ((c.tc : Thread Cert.Kernel36Ideal.nD Cert.Kernel36Ideal.τ).loc Cert.Kernel36Ideal.main_arg1)
      ∧ r.2.mem ((c.tc : Thread Cert.Kernel36Ideal.nD Cert.Kernel36Ideal.τ).loc Cert.Kernel36Ideal.main_arg2) = m ((c.tc : Thread Cert.Kernel36Ideal.nD Cert.Kernel36Ideal.τ).loc Cert.Kernel36Ideal.main_arg2)
      ∧ r.2.mem ((c.tc : Thread Cert.Kernel36Ideal.nD Cert.Kernel36Ideal.τ).loc Cert.Kernel36Ideal.main_arg3) = m ((c.tc : Thread Cert.Kernel36Ideal.nD Cert.Kernel36Ideal.τ).loc Cert.Kernel36Ideal.main_arg3)
      ∧ r.2.mem ((c.tc : Thread Cert.Kernel36Ideal.nD Cert.Kernel36Ideal.τ).loc Cert.Kernel36Ideal.main_arg4) = m ((c.tc : Thread Cert.Kernel36Ideal.nD Cert.Kernel36Ideal.τ).loc Cert.Kernel36Ideal.main_arg4)
      ∧ r.2.mem ((c.tc : Thread Cert.Kernel36Ideal.nD Cert.Kernel36Ideal.τ).loc Cert.Kernel36Ideal.main_arg5) = m ((c.tc : Thread Cert.Kernel36Ideal.nD Cert.Kernel36Ideal.τ).loc Cert.Kernel36Ideal.main_arg5)
      ∧ r.2.mem ((c.tc : Thread Cert.Kernel36Ideal.nD Cert.Kernel36Ideal.τ).loc Cert.Kernel36Ideal.main_arg6) = m ((c.tc : Thread Cert.Kernel36Ideal.nD Cert.Kernel36Ideal.τ).loc Cert.Kernel36Ideal.main_arg6)
      ∧ r.2.mem ((c.tc : Thread Cert.Kernel36Ideal.nD Cert.Kernel36Ideal.τ).loc Cert.Kernel36Ideal.main_arg7) = m ((c.tc : Thread Cert.Kernel36Ideal.nD Cert.Kernel36Ideal.τ).loc Cert.Kernel36Ideal.main_arg7)
      ∧ r.2.mem ((c.tc : Thread Cert.Kernel36Ideal.nD Cert.Kernel36Ideal.τ).loc Cert.Kernel36Ideal.main_arg8) = m ((c.tc : Thread Cert.Kernel36Ideal.nD Cert.Kernel36Ideal.τ).loc Cert.Kernel36Ideal.main_arg8)
      ∧ r.2.mem ((c.tc : Thread Cert.Kernel36Ideal.nD Cert.Kernel36Ideal.τ).loc Cert.Kernel36Ideal.main_arg9) = m ((c.tc : Thread Cert.Kernel36Ideal.nD Cert.Kernel36Ideal.τ).loc Cert.Kernel36Ideal.main_arg9))
      ∧ r.2.sem = fun _ => 0)

def quiescent_Reference36Ideal [hReference36Ideal : Cert.Reference36Ideal.Facts] : Prop :=
  ∀ (m : (ℓ : Loc Cert.Reference36Ideal.nD Cert.Reference36Ideal.τ Cert.Reference36Ideal.sig) → Buf (Elt Ideal) ℓ) (g : Dev Cert.Reference36Ideal.nD → PrngReg), Pre_Reference36Ideal m →
    θ_run (Cert.Reference36Ideal.defs (F := Ideal)) (onTc (τ := Cert.Reference36Ideal.τ) (Cert.Reference36Ideal.main (F := Ideal))) ⟨m, fun _ => 0, g⟩ (fun r => (∀ c : Dev Cert.Reference36Ideal.nD,
      r.2.mem ((c.tc : Thread Cert.Reference36Ideal.nD Cert.Reference36Ideal.τ).loc Cert.Reference36Ideal.main_arg0) = m ((c.tc : Thread Cert.Reference36Ideal.nD Cert.Reference36Ideal.τ).loc Cert.Reference36Ideal.main_arg0)
      ∧ r.2.mem ((c.tc : Thread Cert.Reference36Ideal.nD Cert.Reference36Ideal.τ).loc Cert.Reference36Ideal.main_arg1) = m ((c.tc : Thread Cert.Reference36Ideal.nD Cert.Reference36Ideal.τ).loc Cert.Reference36Ideal.main_arg1)
      ∧ r.2.mem ((c.tc : Thread Cert.Reference36Ideal.nD Cert.Reference36Ideal.τ).loc Cert.Reference36Ideal.main_arg2) = m ((c.tc : Thread Cert.Reference36Ideal.nD Cert.Reference36Ideal.τ).loc Cert.Reference36Ideal.main_arg2)
      ∧ r.2.mem ((c.tc : Thread Cert.Reference36Ideal.nD Cert.Reference36Ideal.τ).loc Cert.Reference36Ideal.main_arg3) = m ((c.tc : Thread Cert.Reference36Ideal.nD Cert.Reference36Ideal.τ).loc Cert.Reference36Ideal.main_arg3)
      ∧ r.2.mem ((c.tc : Thread Cert.Reference36Ideal.nD Cert.Reference36Ideal.τ).loc Cert.Reference36Ideal.main_arg4) = m ((c.tc : Thread Cert.Reference36Ideal.nD Cert.Reference36Ideal.τ).loc Cert.Reference36Ideal.main_arg4)
      ∧ r.2.mem ((c.tc : Thread Cert.Reference36Ideal.nD Cert.Reference36Ideal.τ).loc Cert.Reference36Ideal.main_arg5) = m ((c.tc : Thread Cert.Reference36Ideal.nD Cert.Reference36Ideal.τ).loc Cert.Reference36Ideal.main_arg5)
      ∧ r.2.mem ((c.tc : Thread Cert.Reference36Ideal.nD Cert.Reference36Ideal.τ).loc Cert.Reference36Ideal.main_arg6) = m ((c.tc : Thread Cert.Reference36Ideal.nD Cert.Reference36Ideal.τ).loc Cert.Reference36Ideal.main_arg6)
      ∧ r.2.mem ((c.tc : Thread Cert.Reference36Ideal.nD Cert.Reference36Ideal.τ).loc Cert.Reference36Ideal.main_arg7) = m ((c.tc : Thread Cert.Reference36Ideal.nD Cert.Reference36Ideal.τ).loc Cert.Reference36Ideal.main_arg7)
      ∧ r.2.mem ((c.tc : Thread Cert.Reference36Ideal.nD Cert.Reference36Ideal.τ).loc Cert.Reference36Ideal.main_arg8) = m ((c.tc : Thread Cert.Reference36Ideal.nD Cert.Reference36Ideal.τ).loc Cert.Reference36Ideal.main_arg8)
      ∧ r.2.mem ((c.tc : Thread Cert.Reference36Ideal.nD Cert.Reference36Ideal.τ).loc Cert.Reference36Ideal.main_arg9) = m ((c.tc : Thread Cert.Reference36Ideal.nD Cert.Reference36Ideal.τ).loc Cert.Reference36Ideal.main_arg9))
      ∧ r.2.sem = fun _ => 0)

def quiescent_Kernel37 [hKernel37 : Cert.Kernel37.Facts] : Prop :=
  ∀ (m : (ℓ : Loc Cert.Kernel37.nD Cert.Kernel37.τ Cert.Kernel37.sig) → Buf (Elt Bits) ℓ) (g : Dev Cert.Kernel37.nD → PrngReg), Pre_Kernel37 m →
    θ_run (Cert.Kernel37.defs (F := Bits)) (onTc (τ := Cert.Kernel37.τ) (Cert.Kernel37.main (F := Bits))) ⟨m, fun _ => 0, g⟩ (fun r => (∀ c : Dev Cert.Kernel37.nD,
      r.2.mem ((c.tc : Thread Cert.Kernel37.nD Cert.Kernel37.τ).loc Cert.Kernel37.main_arg0) = m ((c.tc : Thread Cert.Kernel37.nD Cert.Kernel37.τ).loc Cert.Kernel37.main_arg0)
      ∧ r.2.mem ((c.tc : Thread Cert.Kernel37.nD Cert.Kernel37.τ).loc Cert.Kernel37.main_arg1) = m ((c.tc : Thread Cert.Kernel37.nD Cert.Kernel37.τ).loc Cert.Kernel37.main_arg1)
      ∧ r.2.mem ((c.tc : Thread Cert.Kernel37.nD Cert.Kernel37.τ).loc Cert.Kernel37.main_arg2) = m ((c.tc : Thread Cert.Kernel37.nD Cert.Kernel37.τ).loc Cert.Kernel37.main_arg2)
      ∧ r.2.mem ((c.tc : Thread Cert.Kernel37.nD Cert.Kernel37.τ).loc Cert.Kernel37.main_arg3) = m ((c.tc : Thread Cert.Kernel37.nD Cert.Kernel37.τ).loc Cert.Kernel37.main_arg3)
      ∧ r.2.mem ((c.tc : Thread Cert.Kernel37.nD Cert.Kernel37.τ).loc Cert.Kernel37.main_arg4) = m ((c.tc : Thread Cert.Kernel37.nD Cert.Kernel37.τ).loc Cert.Kernel37.main_arg4)
      ∧ r.2.mem ((c.tc : Thread Cert.Kernel37.nD Cert.Kernel37.τ).loc Cert.Kernel37.main_arg5) = m ((c.tc : Thread Cert.Kernel37.nD Cert.Kernel37.τ).loc Cert.Kernel37.main_arg5))
      ∧ r.2.sem = fun _ => 0)

def quiescent_Kernel37Ideal [hKernel37Ideal : Cert.Kernel37Ideal.Facts] : Prop :=
  ∀ (m : (ℓ : Loc Cert.Kernel37Ideal.nD Cert.Kernel37Ideal.τ Cert.Kernel37Ideal.sig) → Buf (Elt Ideal) ℓ) (g : Dev Cert.Kernel37Ideal.nD → PrngReg), Pre_Kernel37Ideal m →
    θ_run (Cert.Kernel37Ideal.defs (F := Ideal)) (onTc (τ := Cert.Kernel37Ideal.τ) (Cert.Kernel37Ideal.main (F := Ideal))) ⟨m, fun _ => 0, g⟩ (fun r => (∀ c : Dev Cert.Kernel37Ideal.nD,
      r.2.mem ((c.tc : Thread Cert.Kernel37Ideal.nD Cert.Kernel37Ideal.τ).loc Cert.Kernel37Ideal.main_arg0) = m ((c.tc : Thread Cert.Kernel37Ideal.nD Cert.Kernel37Ideal.τ).loc Cert.Kernel37Ideal.main_arg0)
      ∧ r.2.mem ((c.tc : Thread Cert.Kernel37Ideal.nD Cert.Kernel37Ideal.τ).loc Cert.Kernel37Ideal.main_arg1) = m ((c.tc : Thread Cert.Kernel37Ideal.nD Cert.Kernel37Ideal.τ).loc Cert.Kernel37Ideal.main_arg1)
      ∧ r.2.mem ((c.tc : Thread Cert.Kernel37Ideal.nD Cert.Kernel37Ideal.τ).loc Cert.Kernel37Ideal.main_arg2) = m ((c.tc : Thread Cert.Kernel37Ideal.nD Cert.Kernel37Ideal.τ).loc Cert.Kernel37Ideal.main_arg2)
      ∧ r.2.mem ((c.tc : Thread Cert.Kernel37Ideal.nD Cert.Kernel37Ideal.τ).loc Cert.Kernel37Ideal.main_arg3) = m ((c.tc : Thread Cert.Kernel37Ideal.nD Cert.Kernel37Ideal.τ).loc Cert.Kernel37Ideal.main_arg3)
      ∧ r.2.mem ((c.tc : Thread Cert.Kernel37Ideal.nD Cert.Kernel37Ideal.τ).loc Cert.Kernel37Ideal.main_arg4) = m ((c.tc : Thread Cert.Kernel37Ideal.nD Cert.Kernel37Ideal.τ).loc Cert.Kernel37Ideal.main_arg4)
      ∧ r.2.mem ((c.tc : Thread Cert.Kernel37Ideal.nD Cert.Kernel37Ideal.τ).loc Cert.Kernel37Ideal.main_arg5) = m ((c.tc : Thread Cert.Kernel37Ideal.nD Cert.Kernel37Ideal.τ).loc Cert.Kernel37Ideal.main_arg5))
      ∧ r.2.sem = fun _ => 0)

def quiescent_Reference37Ideal [hReference37Ideal : Cert.Reference37Ideal.Facts] : Prop :=
  ∀ (m : (ℓ : Loc Cert.Reference37Ideal.nD Cert.Reference37Ideal.τ Cert.Reference37Ideal.sig) → Buf (Elt Ideal) ℓ) (g : Dev Cert.Reference37Ideal.nD → PrngReg), Pre_Reference37Ideal m →
    θ_run (Cert.Reference37Ideal.defs (F := Ideal)) (onTc (τ := Cert.Reference37Ideal.τ) (Cert.Reference37Ideal.main (F := Ideal))) ⟨m, fun _ => 0, g⟩ (fun r => (∀ c : Dev Cert.Reference37Ideal.nD,
      r.2.mem ((c.tc : Thread Cert.Reference37Ideal.nD Cert.Reference37Ideal.τ).loc Cert.Reference37Ideal.main_arg0) = m ((c.tc : Thread Cert.Reference37Ideal.nD Cert.Reference37Ideal.τ).loc Cert.Reference37Ideal.main_arg0)
      ∧ r.2.mem ((c.tc : Thread Cert.Reference37Ideal.nD Cert.Reference37Ideal.τ).loc Cert.Reference37Ideal.main_arg1) = m ((c.tc : Thread Cert.Reference37Ideal.nD Cert.Reference37Ideal.τ).loc Cert.Reference37Ideal.main_arg1)
      ∧ r.2.mem ((c.tc : Thread Cert.Reference37Ideal.nD Cert.Reference37Ideal.τ).loc Cert.Reference37Ideal.main_arg2) = m ((c.tc : Thread Cert.Reference37Ideal.nD Cert.Reference37Ideal.τ).loc Cert.Reference37Ideal.main_arg2)
      ∧ r.2.mem ((c.tc : Thread Cert.Reference37Ideal.nD Cert.Reference37Ideal.τ).loc Cert.Reference37Ideal.main_arg3) = m ((c.tc : Thread Cert.Reference37Ideal.nD Cert.Reference37Ideal.τ).loc Cert.Reference37Ideal.main_arg3)
      ∧ r.2.mem ((c.tc : Thread Cert.Reference37Ideal.nD Cert.Reference37Ideal.τ).loc Cert.Reference37Ideal.main_arg4) = m ((c.tc : Thread Cert.Reference37Ideal.nD Cert.Reference37Ideal.τ).loc Cert.Reference37Ideal.main_arg4)
      ∧ r.2.mem ((c.tc : Thread Cert.Reference37Ideal.nD Cert.Reference37Ideal.τ).loc Cert.Reference37Ideal.main_arg5) = m ((c.tc : Thread Cert.Reference37Ideal.nD Cert.Reference37Ideal.τ).loc Cert.Reference37Ideal.main_arg5))
      ∧ r.2.sem = fun _ => 0)

def quiescent_Kernel38 [hKernel38 : Cert.Kernel38.Facts] : Prop :=
  ∀ (m : (ℓ : Loc Cert.Kernel38.nD Cert.Kernel38.τ Cert.Kernel38.sig) → Buf (Elt Bits) ℓ) (g : Dev Cert.Kernel38.nD → PrngReg), Pre_Kernel38 m →
    θ_run (Cert.Kernel38.defs (F := Bits)) (onTc (τ := Cert.Kernel38.τ) (Cert.Kernel38.main (F := Bits))) ⟨m, fun _ => 0, g⟩ (fun r => (∀ c : Dev Cert.Kernel38.nD,
      r.2.mem ((c.tc : Thread Cert.Kernel38.nD Cert.Kernel38.τ).loc Cert.Kernel38.main_arg0) = m ((c.tc : Thread Cert.Kernel38.nD Cert.Kernel38.τ).loc Cert.Kernel38.main_arg0)
      ∧ r.2.mem ((c.tc : Thread Cert.Kernel38.nD Cert.Kernel38.τ).loc Cert.Kernel38.main_arg1) = m ((c.tc : Thread Cert.Kernel38.nD Cert.Kernel38.τ).loc Cert.Kernel38.main_arg1)
      ∧ r.2.mem ((c.tc : Thread Cert.Kernel38.nD Cert.Kernel38.τ).loc Cert.Kernel38.main_arg2) = m ((c.tc : Thread Cert.Kernel38.nD Cert.Kernel38.τ).loc Cert.Kernel38.main_arg2)
      ∧ r.2.mem ((c.tc : Thread Cert.Kernel38.nD Cert.Kernel38.τ).loc Cert.Kernel38.main_arg3) = m ((c.tc : Thread Cert.Kernel38.nD Cert.Kernel38.τ).loc Cert.Kernel38.main_arg3)
      ∧ r.2.mem ((c.tc : Thread Cert.Kernel38.nD Cert.Kernel38.τ).loc Cert.Kernel38.main_arg4) = m ((c.tc : Thread Cert.Kernel38.nD Cert.Kernel38.τ).loc Cert.Kernel38.main_arg4)
      ∧ r.2.mem ((c.tc : Thread Cert.Kernel38.nD Cert.Kernel38.τ).loc Cert.Kernel38.main_arg5) = m ((c.tc : Thread Cert.Kernel38.nD Cert.Kernel38.τ).loc Cert.Kernel38.main_arg5))
      ∧ r.2.sem = fun _ => 0)

def quiescent_Kernel38Ideal [hKernel38Ideal : Cert.Kernel38Ideal.Facts] : Prop :=
  ∀ (m : (ℓ : Loc Cert.Kernel38Ideal.nD Cert.Kernel38Ideal.τ Cert.Kernel38Ideal.sig) → Buf (Elt Ideal) ℓ) (g : Dev Cert.Kernel38Ideal.nD → PrngReg), Pre_Kernel38Ideal m →
    θ_run (Cert.Kernel38Ideal.defs (F := Ideal)) (onTc (τ := Cert.Kernel38Ideal.τ) (Cert.Kernel38Ideal.main (F := Ideal))) ⟨m, fun _ => 0, g⟩ (fun r => (∀ c : Dev Cert.Kernel38Ideal.nD,
      r.2.mem ((c.tc : Thread Cert.Kernel38Ideal.nD Cert.Kernel38Ideal.τ).loc Cert.Kernel38Ideal.main_arg0) = m ((c.tc : Thread Cert.Kernel38Ideal.nD Cert.Kernel38Ideal.τ).loc Cert.Kernel38Ideal.main_arg0)
      ∧ r.2.mem ((c.tc : Thread Cert.Kernel38Ideal.nD Cert.Kernel38Ideal.τ).loc Cert.Kernel38Ideal.main_arg1) = m ((c.tc : Thread Cert.Kernel38Ideal.nD Cert.Kernel38Ideal.τ).loc Cert.Kernel38Ideal.main_arg1)
      ∧ r.2.mem ((c.tc : Thread Cert.Kernel38Ideal.nD Cert.Kernel38Ideal.τ).loc Cert.Kernel38Ideal.main_arg2) = m ((c.tc : Thread Cert.Kernel38Ideal.nD Cert.Kernel38Ideal.τ).loc Cert.Kernel38Ideal.main_arg2)
      ∧ r.2.mem ((c.tc : Thread Cert.Kernel38Ideal.nD Cert.Kernel38Ideal.τ).loc Cert.Kernel38Ideal.main_arg3) = m ((c.tc : Thread Cert.Kernel38Ideal.nD Cert.Kernel38Ideal.τ).loc Cert.Kernel38Ideal.main_arg3)
      ∧ r.2.mem ((c.tc : Thread Cert.Kernel38Ideal.nD Cert.Kernel38Ideal.τ).loc Cert.Kernel38Ideal.main_arg4) = m ((c.tc : Thread Cert.Kernel38Ideal.nD Cert.Kernel38Ideal.τ).loc Cert.Kernel38Ideal.main_arg4)
      ∧ r.2.mem ((c.tc : Thread Cert.Kernel38Ideal.nD Cert.Kernel38Ideal.τ).loc Cert.Kernel38Ideal.main_arg5) = m ((c.tc : Thread Cert.Kernel38Ideal.nD Cert.Kernel38Ideal.τ).loc Cert.Kernel38Ideal.main_arg5))
      ∧ r.2.sem = fun _ => 0)

def quiescent_Reference38Ideal [hReference38Ideal : Cert.Reference38Ideal.Facts] : Prop :=
  ∀ (m : (ℓ : Loc Cert.Reference38Ideal.nD Cert.Reference38Ideal.τ Cert.Reference38Ideal.sig) → Buf (Elt Ideal) ℓ) (g : Dev Cert.Reference38Ideal.nD → PrngReg), Pre_Reference38Ideal m →
    θ_run (Cert.Reference38Ideal.defs (F := Ideal)) (onTc (τ := Cert.Reference38Ideal.τ) (Cert.Reference38Ideal.main (F := Ideal))) ⟨m, fun _ => 0, g⟩ (fun r => (∀ c : Dev Cert.Reference38Ideal.nD,
      r.2.mem ((c.tc : Thread Cert.Reference38Ideal.nD Cert.Reference38Ideal.τ).loc Cert.Reference38Ideal.main_arg0) = m ((c.tc : Thread Cert.Reference38Ideal.nD Cert.Reference38Ideal.τ).loc Cert.Reference38Ideal.main_arg0)
      ∧ r.2.mem ((c.tc : Thread Cert.Reference38Ideal.nD Cert.Reference38Ideal.τ).loc Cert.Reference38Ideal.main_arg1) = m ((c.tc : Thread Cert.Reference38Ideal.nD Cert.Reference38Ideal.τ).loc Cert.Reference38Ideal.main_arg1)
      ∧ r.2.mem ((c.tc : Thread Cert.Reference38Ideal.nD Cert.Reference38Ideal.τ).loc Cert.Reference38Ideal.main_arg2) = m ((c.tc : Thread Cert.Reference38Ideal.nD Cert.Reference38Ideal.τ).loc Cert.Reference38Ideal.main_arg2)
      ∧ r.2.mem ((c.tc : Thread Cert.Reference38Ideal.nD Cert.Reference38Ideal.τ).loc Cert.Reference38Ideal.main_arg3) = m ((c.tc : Thread Cert.Reference38Ideal.nD Cert.Reference38Ideal.τ).loc Cert.Reference38Ideal.main_arg3)
      ∧ r.2.mem ((c.tc : Thread Cert.Reference38Ideal.nD Cert.Reference38Ideal.τ).loc Cert.Reference38Ideal.main_arg4) = m ((c.tc : Thread Cert.Reference38Ideal.nD Cert.Reference38Ideal.τ).loc Cert.Reference38Ideal.main_arg4)
      ∧ r.2.mem ((c.tc : Thread Cert.Reference38Ideal.nD Cert.Reference38Ideal.τ).loc Cert.Reference38Ideal.main_arg5) = m ((c.tc : Thread Cert.Reference38Ideal.nD Cert.Reference38Ideal.τ).loc Cert.Reference38Ideal.main_arg5))
      ∧ r.2.sem = fun _ => 0)

def preserves_Kernel_KernelIdeal : Prop :=
  True

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v1_0)) (v2 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v1_0) = v1 c
          ∧ r.2.mem ((c.tc : Thread Cert.KernelIdeal.nD Cert.KernelIdeal.τ).loc Cert.KernelIdeal.main_v1_1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_v111) = v1 c
          ∧ r.2.mem ((c.tc : Thread Cert.ReferenceIdeal.nD Cert.ReferenceIdeal.τ).loc Cert.ReferenceIdeal.main_v112) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v13) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v8) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v9) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v5) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v13) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v8) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v13) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v8) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v1) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v9) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v2) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v5) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v4) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v4) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v4) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)) →
    ∃ (v0 : (c : Dev Cert.Kernel15Ideal.nD) → Buf (Elt Ideal) ((c.tc : Thread Cert.Kernel15Ideal.nD Cert.Kernel15Ideal.τ).loc Cert.Kernel15Ideal.main_v1)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v1) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v4) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)) →
    ∃ (v0 : (c : Dev Cert.Kernel20Ideal.nD) → Buf (Elt Ideal) ((c.tc : Thread Cert.Kernel20Ideal.nD Cert.Kernel20Ideal.τ).loc Cert.Kernel20Ideal.main_v0)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v14) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)) →
    ∃ (v0 : (c : Dev Cert.Kernel21Ideal.nD) → Buf (Elt Ideal) ((c.tc : Thread Cert.Kernel21Ideal.nD Cert.Kernel21Ideal.τ).loc Cert.Kernel21Ideal.main_v0)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v17) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2))

def preserves_Kernel25_Kernel25Ideal : Prop :=
  True

def algebraic_Kernel25Ideal_Reference25Ideal_pre_real_table [hKernel25Ideal : Cert.Kernel25Ideal.Facts] [hReference25Ideal : Cert.Reference25Ideal.Facts] [hPre_real_table : Cert.Pre_real_table.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal_real_table m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)) →
    ∃ (v0 : (c : Dev Cert.Kernel25Ideal.nD) → Buf (Elt Ideal) ((c.tc : Thread Cert.Kernel25Ideal.nD Cert.Kernel25Ideal.τ).loc Cert.Kernel25Ideal.main_v3)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v3) = v0 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v43) = v0 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)
      ∧ m' ((c.tc : Thread Cert.Reference27Ideal.nD Cert.Reference27Ideal.τ).loc Cert.Reference27Ideal.main_arg2) = m ((c.tc : Thread Cert.Kernel27Ideal.nD Cert.Kernel27Ideal.τ).loc Cert.Kernel27Ideal.main_arg2)
      ∧ m' ((c.tc : Thread Cert.Reference27Ideal.nD Cert.Reference27Ideal.τ).loc Cert.Reference27Ideal.main_arg3) = m ((c.tc : Thread Cert.Kernel27Ideal.nD Cert.Kernel27Ideal.τ).loc Cert.Kernel27Ideal.main_arg3)
      ∧ m' ((c.tc : Thread Cert.Reference27Ideal.nD Cert.Reference27Ideal.τ).loc Cert.Reference27Ideal.main_arg4) = m ((c.tc : Thread Cert.Kernel27Ideal.nD Cert.Kernel27Ideal.τ).loc Cert.Kernel27Ideal.main_arg4)
      ∧ m' ((c.tc : Thread Cert.Reference27Ideal.nD Cert.Reference27Ideal.τ).loc Cert.Reference27Ideal.main_arg5) = m ((c.tc : Thread Cert.Kernel27Ideal.nD Cert.Kernel27Ideal.τ).loc Cert.Kernel27Ideal.main_arg5)
      ∧ m' ((c.tc : Thread Cert.Reference27Ideal.nD Cert.Reference27Ideal.τ).loc Cert.Reference27Ideal.main_arg6) = m ((c.tc : Thread Cert.Kernel27Ideal.nD Cert.Kernel27Ideal.τ).loc Cert.Kernel27Ideal.main_arg6)
      ∧ m' ((c.tc : Thread Cert.Reference27Ideal.nD Cert.Reference27Ideal.τ).loc Cert.Reference27Ideal.main_arg7) = m ((c.tc : Thread Cert.Kernel27Ideal.nD Cert.Kernel27Ideal.τ).loc Cert.Kernel27Ideal.main_arg7)
      ∧ m' ((c.tc : Thread Cert.Reference27Ideal.nD Cert.Reference27Ideal.τ).loc Cert.Reference27Ideal.main_arg8) = m ((c.tc : Thread Cert.Kernel27Ideal.nD Cert.Kernel27Ideal.τ).loc Cert.Kernel27Ideal.main_arg8)
      ∧ m' ((c.tc : Thread Cert.Reference27Ideal.nD Cert.Reference27Ideal.τ).loc Cert.Reference27Ideal.main_arg9) = m ((c.tc : Thread Cert.Kernel27Ideal.nD Cert.Kernel27Ideal.τ).loc Cert.Kernel27Ideal.main_arg9)
      ∧ m' ((c.tc : Thread Cert.Reference27Ideal.nD Cert.Reference27Ideal.τ).loc Cert.Reference27Ideal.main_arg10) = m ((c.tc : Thread Cert.Kernel27Ideal.nD Cert.Kernel27Ideal.τ).loc Cert.Kernel27Ideal.main_arg10)
      ∧ m' ((c.tc : Thread Cert.Reference27Ideal.nD Cert.Reference27Ideal.τ).loc Cert.Reference27Ideal.main_arg11) = m ((c.tc : Thread Cert.Kernel27Ideal.nD Cert.Kernel27Ideal.τ).loc Cert.Kernel27Ideal.main_arg11)
      ∧ m' ((c.tc : Thread Cert.Reference27Ideal.nD Cert.Reference27Ideal.τ).loc Cert.Reference27Ideal.main_arg12) = m ((c.tc : Thread Cert.Kernel27Ideal.nD Cert.Kernel27Ideal.τ).loc Cert.Kernel27Ideal.main_arg12)
      ∧ m' ((c.tc : Thread Cert.Reference27Ideal.nD Cert.Reference27Ideal.τ).loc Cert.Reference27Ideal.main_arg13) = m ((c.tc : Thread Cert.Kernel27Ideal.nD Cert.Kernel27Ideal.τ).loc Cert.Kernel27Ideal.main_arg13)
      ∧ m' ((c.tc : Thread Cert.Reference27Ideal.nD Cert.Reference27Ideal.τ).loc Cert.Reference27Ideal.main_arg14) = m ((c.tc : Thread Cert.Kernel27Ideal.nD Cert.Kernel27Ideal.τ).loc Cert.Kernel27Ideal.main_arg14)
      ∧ m' ((c.tc : Thread Cert.Reference27Ideal.nD Cert.Reference27Ideal.τ).loc Cert.Reference27Ideal.main_arg15) = m ((c.tc : Thread Cert.Kernel27Ideal.nD Cert.Kernel27Ideal.τ).loc Cert.Kernel27Ideal.main_arg15)
      ∧ m' ((c.tc : Thread Cert.Reference27Ideal.nD Cert.Reference27Ideal.τ).loc Cert.Reference27Ideal.main_arg16) = m ((c.tc : Thread Cert.Kernel27Ideal.nD Cert.Kernel27Ideal.τ).loc Cert.Kernel27Ideal.main_arg16)
      ∧ m' ((c.tc : Thread Cert.Reference27Ideal.nD Cert.Reference27Ideal.τ).loc Cert.Reference27Ideal.main_arg17) = m ((c.tc : Thread Cert.Kernel27Ideal.nD Cert.Kernel27Ideal.τ).loc Cert.Kernel27Ideal.main_arg17)
      ∧ m' ((c.tc : Thread Cert.Reference27Ideal.nD Cert.Reference27Ideal.τ).loc Cert.Reference27Ideal.main_arg18) = m ((c.tc : Thread Cert.Kernel27Ideal.nD Cert.Kernel27Ideal.τ).loc Cert.Kernel27Ideal.main_arg18)
      ∧ m' ((c.tc : Thread Cert.Reference27Ideal.nD Cert.Reference27Ideal.τ).loc Cert.Reference27Ideal.main_arg19) = m ((c.tc : Thread Cert.Kernel27Ideal.nD Cert.Kernel27Ideal.τ).loc Cert.Kernel27Ideal.main_arg19)
      ∧ m' ((c.tc : Thread Cert.Reference27Ideal.nD Cert.Reference27Ideal.τ).loc Cert.Reference27Ideal.main_arg20) = m ((c.tc : Thread Cert.Kernel27Ideal.nD Cert.Kernel27Ideal.τ).loc Cert.Kernel27Ideal.main_arg20)
      ∧ m' ((c.tc : Thread Cert.Reference27Ideal.nD Cert.Reference27Ideal.τ).loc Cert.Reference27Ideal.main_arg21) = m ((c.tc : Thread Cert.Kernel27Ideal.nD Cert.Kernel27Ideal.τ).loc Cert.Kernel27Ideal.main_arg21)
      ∧ m' ((c.tc : Thread Cert.Reference27Ideal.nD Cert.Reference27Ideal.τ).loc Cert.Reference27Ideal.main_arg22) = m ((c.tc : Thread Cert.Kernel27Ideal.nD Cert.Kernel27Ideal.τ).loc Cert.Kernel27Ideal.main_arg22)
      ∧ m' ((c.tc : Thread Cert.Reference27Ideal.nD Cert.Reference27Ideal.τ).loc Cert.Reference27Ideal.main_arg23) = m ((c.tc : Thread Cert.Kernel27Ideal.nD Cert.Kernel27Ideal.τ).loc Cert.Kernel27Ideal.main_arg23)
      ∧ m' ((c.tc : Thread Cert.Reference27Ideal.nD Cert.Reference27Ideal.τ).loc Cert.Reference27Ideal.main_arg24) = m ((c.tc : Thread Cert.Kernel27Ideal.nD Cert.Kernel27Ideal.τ).loc Cert.Kernel27Ideal.main_arg24)
      ∧ m' ((c.tc : Thread Cert.Reference27Ideal.nD Cert.Reference27Ideal.τ).loc Cert.Reference27Ideal.main_arg25) = m ((c.tc : Thread Cert.Kernel27Ideal.nD Cert.Kernel27Ideal.τ).loc Cert.Kernel27Ideal.main_arg25)
      ∧ m' ((c.tc : Thread Cert.Reference27Ideal.nD Cert.Reference27Ideal.τ).loc Cert.Reference27Ideal.main_arg26) = m ((c.tc : Thread Cert.Kernel27Ideal.nD Cert.Kernel27Ideal.τ).loc Cert.Kernel27Ideal.main_arg26)
      ∧ m' ((c.tc : Thread Cert.Reference27Ideal.nD Cert.Reference27Ideal.τ).loc Cert.Reference27Ideal.main_arg27) = m ((c.tc : Thread Cert.Kernel27Ideal.nD Cert.Kernel27Ideal.τ).loc Cert.Kernel27Ideal.main_arg27)) →
    ∃ (v0 : (c : Dev Cert.Kernel27Ideal.nD) → Buf (Elt Ideal) ((c.tc : Thread Cert.Kernel27Ideal.nD Cert.Kernel27Ideal.τ).loc Cert.Kernel27Ideal.main_v39)) (v1 : (c : Dev Cert.Kernel27Ideal.nD) → Buf (Elt Ideal) ((c.tc : Thread Cert.Kernel27Ideal.nD Cert.Kernel27Ideal.τ).loc Cert.Kernel27Ideal.main_v41)) (v2 : (c : Dev Cert.Kernel27Ideal.nD) → Buf (Elt Ideal) ((c.tc : Thread Cert.Kernel27Ideal.nD Cert.Kernel27Ideal.τ).loc Cert.Kernel27Ideal.main_v43)) (v3 : (c : Dev Cert.Kernel27Ideal.nD) → Buf (Elt Ideal) ((c.tc : Thread Cert.Kernel27Ideal.nD Cert.Kernel27Ideal.τ).loc Cert.Kernel27Ideal.main_v45)) (v4 : (c : Dev Cert.Kernel27Ideal.nD) → Buf (Elt Ideal) ((c.tc : Thread Cert.Kernel27Ideal.nD Cert.Kernel27Ideal.τ).loc Cert.Kernel27Ideal.main_v47)) (v5 : (c : Dev Cert.Kernel27Ideal.nD) → Buf (Elt Ideal) ((c.tc : Thread Cert.Kernel27Ideal.nD Cert.Kernel27Ideal.τ).loc Cert.Kernel27Ideal.main_v49)) (v6 : (c : Dev Cert.Kernel27Ideal.nD) → Buf (Elt Ideal) ((c.tc : Thread Cert.Kernel27Ideal.nD Cert.Kernel27Ideal.τ).loc Cert.Kernel27Ideal.main_v50)) (v7 : (c : Dev Cert.Kernel27Ideal.nD) → Buf (Elt Ideal) ((c.tc : Thread Cert.Kernel27Ideal.nD Cert.Kernel27Ideal.τ).loc Cert.Kernel27Ideal.main_v53)) (v8 : (c : Dev Cert.Kernel27Ideal.nD) → Buf (Elt Ideal) ((c.tc : Thread Cert.Kernel27Ideal.nD Cert.Kernel27Ideal.τ).loc Cert.Kernel27Ideal.main_v55)) (v9 : (c : Dev Cert.Kernel27Ideal.nD) → Buf (Elt Ideal) ((c.tc : Thread Cert.Kernel27Ideal.nD Cert.Kernel27Ideal.τ).loc Cert.Kernel27Ideal.main_v57)) (v10 : (c : Dev Cert.Kernel27Ideal.nD) → Buf (Elt Ideal) ((c.tc : Thread Cert.Kernel27Ideal.nD Cert.Kernel27Ideal.τ).loc Cert.Kernel27Ideal.main_v59)) (v11 : (c : Dev Cert.Kernel27Ideal.nD) → Buf (Elt Ideal) ((c.tc : Thread Cert.Kernel27Ideal.nD Cert.Kernel27Ideal.τ).loc Cert.Kernel27Ideal.main_v61)) (v12 : (c : Dev Cert.Kernel27Ideal.nD) → Buf (Elt Ideal) ((c.tc : Thread Cert.Kernel27Ideal.nD Cert.Kernel27Ideal.τ).loc Cert.Kernel27Ideal.main_v63)) (v13 : (c : Dev Cert.Kernel27Ideal.nD) → Buf (Elt Ideal) ((c.tc : Thread Cert.Kernel27Ideal.nD Cert.Kernel27Ideal.τ).loc Cert.Kernel27Ideal.main_v64)) (v14 : (c : Dev Cert.Kernel27Ideal.nD) → Buf (Elt Ideal) ((c.tc : Thread Cert.Kernel27Ideal.nD Cert.Kernel27Ideal.τ).loc Cert.Kernel27Ideal.main_v67)) (v15 : (c : Dev Cert.Kernel27Ideal.nD) → Buf (Elt Ideal) ((c.tc : Thread Cert.Kernel27Ideal.nD Cert.Kernel27Ideal.τ).loc Cert.Kernel27Ideal.main_v69)) (v16 : (c : Dev Cert.Kernel27Ideal.nD) → Buf (Elt Ideal) ((c.tc : Thread Cert.Kernel27Ideal.nD Cert.Kernel27Ideal.τ).loc Cert.Kernel27Ideal.main_v71)) (v17 : (c : Dev Cert.Kernel27Ideal.nD) → Buf (Elt Ideal) ((c.tc : Thread Cert.Kernel27Ideal.nD Cert.Kernel27Ideal.τ).loc Cert.Kernel27Ideal.main_v73)) (v18 : (c : Dev Cert.Kernel27Ideal.nD) → Buf (Elt Ideal) ((c.tc : Thread Cert.Kernel27Ideal.nD Cert.Kernel27Ideal.τ).loc Cert.Kernel27Ideal.main_v75)) (v19 : (c : Dev Cert.Kernel27Ideal.nD) → Buf (Elt Ideal) ((c.tc : Thread Cert.Kernel27Ideal.nD Cert.Kernel27Ideal.τ).loc Cert.Kernel27Ideal.main_v77)) (v20 : (c : Dev Cert.Kernel27Ideal.nD) → Buf (Elt Ideal) ((c.tc : Thread Cert.Kernel27Ideal.nD Cert.Kernel27Ideal.τ).loc Cert.Kernel27Ideal.main_v78)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v39) = v0 c
          ∧ r.2.mem ((c.tc : Thread Cert.Kernel27Ideal.nD Cert.Kernel27Ideal.τ).loc Cert.Kernel27Ideal.main_v41) = v1 c
          ∧ r.2.mem ((c.tc : Thread Cert.Kernel27Ideal.nD Cert.Kernel27Ideal.τ).loc Cert.Kernel27Ideal.main_v43) = v2 c
          ∧ r.2.mem ((c.tc : Thread Cert.Kernel27Ideal.nD Cert.Kernel27Ideal.τ).loc Cert.Kernel27Ideal.main_v45) = v3 c
          ∧ r.2.mem ((c.tc : Thread Cert.Kernel27Ideal.nD Cert.Kernel27Ideal.τ).loc Cert.Kernel27Ideal.main_v47) = v4 c
          ∧ r.2.mem ((c.tc : Thread Cert.Kernel27Ideal.nD Cert.Kernel27Ideal.τ).loc Cert.Kernel27Ideal.main_v49) = v5 c
          ∧ r.2.mem ((c.tc : Thread Cert.Kernel27Ideal.nD Cert.Kernel27Ideal.τ).loc Cert.Kernel27Ideal.main_v50) = v6 c
          ∧ r.2.mem ((c.tc : Thread Cert.Kernel27Ideal.nD Cert.Kernel27Ideal.τ).loc Cert.Kernel27Ideal.main_v53) = v7 c
          ∧ r.2.mem ((c.tc : Thread Cert.Kernel27Ideal.nD Cert.Kernel27Ideal.τ).loc Cert.Kernel27Ideal.main_v55) = v8 c
          ∧ r.2.mem ((c.tc : Thread Cert.Kernel27Ideal.nD Cert.Kernel27Ideal.τ).loc Cert.Kernel27Ideal.main_v57) = v9 c
          ∧ r.2.mem ((c.tc : Thread Cert.Kernel27Ideal.nD Cert.Kernel27Ideal.τ).loc Cert.Kernel27Ideal.main_v59) = v10 c
          ∧ r.2.mem ((c.tc : Thread Cert.Kernel27Ideal.nD Cert.Kernel27Ideal.τ).loc Cert.Kernel27Ideal.main_v61) = v11 c
          ∧ r.2.mem ((c.tc : Thread Cert.Kernel27Ideal.nD Cert.Kernel27Ideal.τ).loc Cert.Kernel27Ideal.main_v63) = v12 c
          ∧ r.2.mem ((c.tc : Thread Cert.Kernel27Ideal.nD Cert.Kernel27Ideal.τ).loc Cert.Kernel27Ideal.main_v64) = v13 c
          ∧ r.2.mem ((c.tc : Thread Cert.Kernel27Ideal.nD Cert.Kernel27Ideal.τ).loc Cert.Kernel27Ideal.main_v67) = v14 c
          ∧ r.2.mem ((c.tc : Thread Cert.Kernel27Ideal.nD Cert.Kernel27Ideal.τ).loc Cert.Kernel27Ideal.main_v69) = v15 c
          ∧ r.2.mem ((c.tc : Thread Cert.Kernel27Ideal.nD Cert.Kernel27Ideal.τ).loc Cert.Kernel27Ideal.main_v71) = v16 c
          ∧ r.2.mem ((c.tc : Thread Cert.Kernel27Ideal.nD Cert.Kernel27Ideal.τ).loc Cert.Kernel27Ideal.main_v73) = v17 c
          ∧ r.2.mem ((c.tc : Thread Cert.Kernel27Ideal.nD Cert.Kernel27Ideal.τ).loc Cert.Kernel27Ideal.main_v75) = v18 c
          ∧ r.2.mem ((c.tc : Thread Cert.Kernel27Ideal.nD Cert.Kernel27Ideal.τ).loc Cert.Kernel27Ideal.main_v77) = v19 c
          ∧ r.2.mem ((c.tc : Thread Cert.Kernel27Ideal.nD Cert.Kernel27Ideal.τ).loc Cert.Kernel27Ideal.main_v78) = v20 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
          ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
          ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3)
          ∧ r.2.mem ((c.tc : Thread Cert.Kernel27Ideal.nD Cert.Kernel27Ideal.τ).loc Cert.Kernel27Ideal.main_arg4) = m ((c.tc : Thread Cert.Kernel27Ideal.nD Cert.Kernel27Ideal.τ).loc Cert.Kernel27Ideal.main_arg4)
          ∧ r.2.mem ((c.tc : Thread Cert.Kernel27Ideal.nD Cert.Kernel27Ideal.τ).loc Cert.Kernel27Ideal.main_arg5) = m ((c.tc : Thread Cert.Kernel27Ideal.nD Cert.Kernel27Ideal.τ).loc Cert.Kernel27Ideal.main_arg5)
          ∧ r.2.mem ((c.tc : Thread Cert.Kernel27Ideal.nD Cert.Kernel27Ideal.τ).loc Cert.Kernel27Ideal.main_arg6) = m ((c.tc : Thread Cert.Kernel27Ideal.nD Cert.Kernel27Ideal.τ).loc Cert.Kernel27Ideal.main_arg6)
          ∧ r.2.mem ((c.tc : Thread Cert.Kernel27Ideal.nD Cert.Kernel27Ideal.τ).loc Cert.Kernel27Ideal.main_arg7) = m ((c.tc : Thread Cert.Kernel27Ideal.nD Cert.Kernel27Ideal.τ).loc Cert.Kernel27Ideal.main_arg7)
          ∧ r.2.mem ((c.tc : Thread Cert.Kernel27Ideal.nD Cert.Kernel27Ideal.τ).loc Cert.Kernel27Ideal.main_arg8) = m ((c.tc : Thread Cert.Kernel27Ideal.nD Cert.Kernel27Ideal.τ).loc Cert.Kernel27Ideal.main_arg8)
          ∧ r.2.mem ((c.tc : Thread Cert.Kernel27Ideal.nD Cert.Kernel27Ideal.τ).loc Cert.Kernel27Ideal.main_arg9) = m ((c.tc : Thread Cert.Kernel27Ideal.nD Cert.Kernel27Ideal.τ).loc Cert.Kernel27Ideal.main_arg9)
          ∧ r.2.mem ((c.tc : Thread Cert.Kernel27Ideal.nD Cert.Kernel27Ideal.τ).loc Cert.Kernel27Ideal.main_arg10) = m ((c.tc : Thread Cert.Kernel27Ideal.nD Cert.Kernel27Ideal.τ).loc Cert.Kernel27Ideal.main_arg10)
          ∧ r.2.mem ((c.tc : Thread Cert.Kernel27Ideal.nD Cert.Kernel27Ideal.τ).loc Cert.Kernel27Ideal.main_arg11) = m ((c.tc : Thread Cert.Kernel27Ideal.nD Cert.Kernel27Ideal.τ).loc Cert.Kernel27Ideal.main_arg11)
          ∧ r.2.mem ((c.tc : Thread Cert.Kernel27Ideal.nD Cert.Kernel27Ideal.τ).loc Cert.Kernel27Ideal.main_arg12) = m ((c.tc : Thread Cert.Kernel27Ideal.nD Cert.Kernel27Ideal.τ).loc Cert.Kernel27Ideal.main_arg12)
          ∧ r.2.mem ((c.tc : Thread Cert.Kernel27Ideal.nD Cert.Kernel27Ideal.τ).loc Cert.Kernel27Ideal.main_arg13) = m ((c.tc : Thread Cert.Kernel27Ideal.nD Cert.Kernel27Ideal.τ).loc Cert.Kernel27Ideal.main_arg13)
          ∧ r.2.mem ((c.tc : Thread Cert.Kernel27Ideal.nD Cert.Kernel27Ideal.τ).loc Cert.Kernel27Ideal.main_arg14) = m ((c.tc : Thread Cert.Kernel27Ideal.nD Cert.Kernel27Ideal.τ).loc Cert.Kernel27Ideal.main_arg14)
          ∧ r.2.mem ((c.tc : Thread Cert.Kernel27Ideal.nD Cert.Kernel27Ideal.τ).loc Cert.Kernel27Ideal.main_arg15) = m ((c.tc : Thread Cert.Kernel27Ideal.nD Cert.Kernel27Ideal.τ).loc Cert.Kernel27Ideal.main_arg15)
          ∧ r.2.mem ((c.tc : Thread Cert.Kernel27Ideal.nD Cert.Kernel27Ideal.τ).loc Cert.Kernel27Ideal.main_arg16) = m ((c.tc : Thread Cert.Kernel27Ideal.nD Cert.Kernel27Ideal.τ).loc Cert.Kernel27Ideal.main_arg16)
          ∧ r.2.mem ((c.tc : Thread Cert.Kernel27Ideal.nD Cert.Kernel27Ideal.τ).loc Cert.Kernel27Ideal.main_arg17) = m ((c.tc : Thread Cert.Kernel27Ideal.nD Cert.Kernel27Ideal.τ).loc Cert.Kernel27Ideal.main_arg17)
          ∧ r.2.mem ((c.tc : Thread Cert.Kernel27Ideal.nD Cert.Kernel27Ideal.τ).loc Cert.Kernel27Ideal.main_arg18) = m ((c.tc : Thread Cert.Kernel27Ideal.nD Cert.Kernel27Ideal.τ).loc Cert.Kernel27Ideal.main_arg18)
          ∧ r.2.mem ((c.tc : Thread Cert.Kernel27Ideal.nD Cert.Kernel27Ideal.τ).loc Cert.Kernel27Ideal.main_arg19) = m ((c.tc : Thread Cert.Kernel27Ideal.nD Cert.Kernel27Ideal.τ).loc Cert.Kernel27Ideal.main_arg19)
          ∧ r.2.mem ((c.tc : Thread Cert.Kernel27Ideal.nD Cert.Kernel27Ideal.τ).loc Cert.Kernel27Ideal.main_arg20) = m ((c.tc : Thread Cert.Kernel27Ideal.nD Cert.Kernel27Ideal.τ).loc Cert.Kernel27Ideal.main_arg20)
          ∧ r.2.mem ((c.tc : Thread Cert.Kernel27Ideal.nD Cert.Kernel27Ideal.τ).loc Cert.Kernel27Ideal.main_arg21) = m ((c.tc : Thread Cert.Kernel27Ideal.nD Cert.Kernel27Ideal.τ).loc Cert.Kernel27Ideal.main_arg21)
          ∧ r.2.mem ((c.tc : Thread Cert.Kernel27Ideal.nD Cert.Kernel27Ideal.τ).loc Cert.Kernel27Ideal.main_arg22) = m ((c.tc : Thread Cert.Kernel27Ideal.nD Cert.Kernel27Ideal.τ).loc Cert.Kernel27Ideal.main_arg22)
          ∧ r.2.mem ((c.tc : Thread Cert.Kernel27Ideal.nD Cert.Kernel27Ideal.τ).loc Cert.Kernel27Ideal.main_arg23) = m ((c.tc : Thread Cert.Kernel27Ideal.nD Cert.Kernel27Ideal.τ).loc Cert.Kernel27Ideal.main_arg23)
          ∧ r.2.mem ((c.tc : Thread Cert.Kernel27Ideal.nD Cert.Kernel27Ideal.τ).loc Cert.Kernel27Ideal.main_arg24) = m ((c.tc : Thread Cert.Kernel27Ideal.nD Cert.Kernel27Ideal.τ).loc Cert.Kernel27Ideal.main_arg24)
          ∧ r.2.mem ((c.tc : Thread Cert.Kernel27Ideal.nD Cert.Kernel27Ideal.τ).loc Cert.Kernel27Ideal.main_arg25) = m ((c.tc : Thread Cert.Kernel27Ideal.nD Cert.Kernel27Ideal.τ).loc Cert.Kernel27Ideal.main_arg25)
          ∧ r.2.mem ((c.tc : Thread Cert.Kernel27Ideal.nD Cert.Kernel27Ideal.τ).loc Cert.Kernel27Ideal.main_arg26) = m ((c.tc : Thread Cert.Kernel27Ideal.nD Cert.Kernel27Ideal.τ).loc Cert.Kernel27Ideal.main_arg26)
          ∧ r.2.mem ((c.tc : Thread Cert.Kernel27Ideal.nD Cert.Kernel27Ideal.τ).loc Cert.Kernel27Ideal.main_arg27) = m ((c.tc : Thread Cert.Kernel27Ideal.nD Cert.Kernel27Ideal.τ).loc Cert.Kernel27Ideal.main_arg27))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v23) = v0 c
          ∧ r.2.mem ((c.tc : Thread Cert.Reference27Ideal.nD Cert.Reference27Ideal.τ).loc Cert.Reference27Ideal.main_v47) = v1 c
          ∧ r.2.mem ((c.tc : Thread Cert.Reference27Ideal.nD Cert.Reference27Ideal.τ).loc Cert.Reference27Ideal.main_v71) = v2 c
          ∧ r.2.mem ((c.tc : Thread Cert.Reference27Ideal.nD Cert.Reference27Ideal.τ).loc Cert.Reference27Ideal.main_v95) = v3 c
          ∧ r.2.mem ((c.tc : Thread Cert.Reference27Ideal.nD Cert.Reference27Ideal.τ).loc Cert.Reference27Ideal.main_v119) = v4 c
          ∧ r.2.mem ((c.tc : Thread Cert.Reference27Ideal.nD Cert.Reference27Ideal.τ).loc Cert.Reference27Ideal.main_v143) = v5 c
          ∧ r.2.mem ((c.tc : Thread Cert.Reference27Ideal.nD Cert.Reference27Ideal.τ).loc Cert.Reference27Ideal.main_v167) = v6 c
          ∧ r.2.mem ((c.tc : Thread Cert.Reference27Ideal.nD Cert.Reference27Ideal.τ).loc Cert.Reference27Ideal.main_v4) = v7 c
          ∧ r.2.mem ((c.tc : Thread Cert.Reference27Ideal.nD Cert.Reference27Ideal.τ).loc Cert.Reference27Ideal.main_v28) = v8 c
          ∧ r.2.mem ((c.tc : Thread Cert.Reference27Ideal.nD Cert.Reference27Ideal.τ).loc Cert.Reference27Ideal.main_v52) = v9 c
          ∧ r.2.mem ((c.tc : Thread Cert.Reference27Ideal.nD Cert.Reference27Ideal.τ).loc Cert.Reference27Ideal.main_v76) = v10 c
          ∧ r.2.mem ((c.tc : Thread Cert.Reference27Ideal.nD Cert.Reference27Ideal.τ).loc Cert.Reference27Ideal.main_v100) = v11 c
          ∧ r.2.mem ((c.tc : Thread Cert.Reference27Ideal.nD Cert.Reference27Ideal.τ).loc Cert.Reference27Ideal.main_v124) = v12 c
          ∧ r.2.mem ((c.tc : Thread Cert.Reference27Ideal.nD Cert.Reference27Ideal.τ).loc Cert.Reference27Ideal.main_v148) = v13 c
          ∧ r.2.mem ((c.tc : Thread Cert.Reference27Ideal.nD Cert.Reference27Ideal.τ).loc Cert.Reference27Ideal.main_v10) = v14 c
          ∧ r.2.mem ((c.tc : Thread Cert.Reference27Ideal.nD Cert.Reference27Ideal.τ).loc Cert.Reference27Ideal.main_v34) = v15 c
          ∧ r.2.mem ((c.tc : Thread Cert.Reference27Ideal.nD Cert.Reference27Ideal.τ).loc Cert.Reference27Ideal.main_v58) = v16 c
          ∧ r.2.mem ((c.tc : Thread Cert.Reference27Ideal.nD Cert.Reference27Ideal.τ).loc Cert.Reference27Ideal.main_v82) = v17 c
          ∧ r.2.mem ((c.tc : Thread Cert.Reference27Ideal.nD Cert.Reference27Ideal.τ).loc Cert.Reference27Ideal.main_v106) = v18 c
          ∧ r.2.mem ((c.tc : Thread Cert.Reference27Ideal.nD Cert.Reference27Ideal.τ).loc Cert.Reference27Ideal.main_v130) = v19 c
          ∧ r.2.mem ((c.tc : Thread Cert.Reference27Ideal.nD Cert.Reference27Ideal.τ).loc Cert.Reference27Ideal.main_v154) = v20 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1)
          ∧ r.2.mem ((c.tc : Thread Cert.Reference27Ideal.nD Cert.Reference27Ideal.τ).loc Cert.Reference27Ideal.main_arg2) = m' ((c.tc : Thread Cert.Reference27Ideal.nD Cert.Reference27Ideal.τ).loc Cert.Reference27Ideal.main_arg2)
          ∧ r.2.mem ((c.tc : Thread Cert.Reference27Ideal.nD Cert.Reference27Ideal.τ).loc Cert.Reference27Ideal.main_arg3) = m' ((c.tc : Thread Cert.Reference27Ideal.nD Cert.Reference27Ideal.τ).loc Cert.Reference27Ideal.main_arg3)
          ∧ r.2.mem ((c.tc : Thread Cert.Reference27Ideal.nD Cert.Reference27Ideal.τ).loc Cert.Reference27Ideal.main_arg4) = m' ((c.tc : Thread Cert.Reference27Ideal.nD Cert.Reference27Ideal.τ).loc Cert.Reference27Ideal.main_arg4)
          ∧ r.2.mem ((c.tc : Thread Cert.Reference27Ideal.nD Cert.Reference27Ideal.τ).loc Cert.Reference27Ideal.main_arg5) = m' ((c.tc : Thread Cert.Reference27Ideal.nD Cert.Reference27Ideal.τ).loc Cert.Reference27Ideal.main_arg5)
          ∧ r.2.mem ((c.tc : Thread Cert.Reference27Ideal.nD Cert.Reference27Ideal.τ).loc Cert.Reference27Ideal.main_arg6) = m' ((c.tc : Thread Cert.Reference27Ideal.nD Cert.Reference27Ideal.τ).loc Cert.Reference27Ideal.main_arg6)
          ∧ r.2.mem ((c.tc : Thread Cert.Reference27Ideal.nD Cert.Reference27Ideal.τ).loc Cert.Reference27Ideal.main_arg7) = m' ((c.tc : Thread Cert.Reference27Ideal.nD Cert.Reference27Ideal.τ).loc Cert.Reference27Ideal.main_arg7)
          ∧ r.2.mem ((c.tc : Thread Cert.Reference27Ideal.nD Cert.Reference27Ideal.τ).loc Cert.Reference27Ideal.main_arg8) = m' ((c.tc : Thread Cert.Reference27Ideal.nD Cert.Reference27Ideal.τ).loc Cert.Reference27Ideal.main_arg8)
          ∧ r.2.mem ((c.tc : Thread Cert.Reference27Ideal.nD Cert.Reference27Ideal.τ).loc Cert.Reference27Ideal.main_arg9) = m' ((c.tc : Thread Cert.Reference27Ideal.nD Cert.Reference27Ideal.τ).loc Cert.Reference27Ideal.main_arg9)
          ∧ r.2.mem ((c.tc : Thread Cert.Reference27Ideal.nD Cert.Reference27Ideal.τ).loc Cert.Reference27Ideal.main_arg10) = m' ((c.tc : Thread Cert.Reference27Ideal.nD Cert.Reference27Ideal.τ).loc Cert.Reference27Ideal.main_arg10)
          ∧ r.2.mem ((c.tc : Thread Cert.Reference27Ideal.nD Cert.Reference27Ideal.τ).loc Cert.Reference27Ideal.main_arg11) = m' ((c.tc : Thread Cert.Reference27Ideal.nD Cert.Reference27Ideal.τ).loc Cert.Reference27Ideal.main_arg11)
          ∧ r.2.mem ((c.tc : Thread Cert.Reference27Ideal.nD Cert.Reference27Ideal.τ).loc Cert.Reference27Ideal.main_arg12) = m' ((c.tc : Thread Cert.Reference27Ideal.nD Cert.Reference27Ideal.τ).loc Cert.Reference27Ideal.main_arg12)
          ∧ r.2.mem ((c.tc : Thread Cert.Reference27Ideal.nD Cert.Reference27Ideal.τ).loc Cert.Reference27Ideal.main_arg13) = m' ((c.tc : Thread Cert.Reference27Ideal.nD Cert.Reference27Ideal.τ).loc Cert.Reference27Ideal.main_arg13)
          ∧ r.2.mem ((c.tc : Thread Cert.Reference27Ideal.nD Cert.Reference27Ideal.τ).loc Cert.Reference27Ideal.main_arg14) = m' ((c.tc : Thread Cert.Reference27Ideal.nD Cert.Reference27Ideal.τ).loc Cert.Reference27Ideal.main_arg14)
          ∧ r.2.mem ((c.tc : Thread Cert.Reference27Ideal.nD Cert.Reference27Ideal.τ).loc Cert.Reference27Ideal.main_arg15) = m' ((c.tc : Thread Cert.Reference27Ideal.nD Cert.Reference27Ideal.τ).loc Cert.Reference27Ideal.main_arg15)
          ∧ r.2.mem ((c.tc : Thread Cert.Reference27Ideal.nD Cert.Reference27Ideal.τ).loc Cert.Reference27Ideal.main_arg16) = m' ((c.tc : Thread Cert.Reference27Ideal.nD Cert.Reference27Ideal.τ).loc Cert.Reference27Ideal.main_arg16)
          ∧ r.2.mem ((c.tc : Thread Cert.Reference27Ideal.nD Cert.Reference27Ideal.τ).loc Cert.Reference27Ideal.main_arg17) = m' ((c.tc : Thread Cert.Reference27Ideal.nD Cert.Reference27Ideal.τ).loc Cert.Reference27Ideal.main_arg17)
          ∧ r.2.mem ((c.tc : Thread Cert.Reference27Ideal.nD Cert.Reference27Ideal.τ).loc Cert.Reference27Ideal.main_arg18) = m' ((c.tc : Thread Cert.Reference27Ideal.nD Cert.Reference27Ideal.τ).loc Cert.Reference27Ideal.main_arg18)
          ∧ r.2.mem ((c.tc : Thread Cert.Reference27Ideal.nD Cert.Reference27Ideal.τ).loc Cert.Reference27Ideal.main_arg19) = m' ((c.tc : Thread Cert.Reference27Ideal.nD Cert.Reference27Ideal.τ).loc Cert.Reference27Ideal.main_arg19)
          ∧ r.2.mem ((c.tc : Thread Cert.Reference27Ideal.nD Cert.Reference27Ideal.τ).loc Cert.Reference27Ideal.main_arg20) = m' ((c.tc : Thread Cert.Reference27Ideal.nD Cert.Reference27Ideal.τ).loc Cert.Reference27Ideal.main_arg20)
          ∧ r.2.mem ((c.tc : Thread Cert.Reference27Ideal.nD Cert.Reference27Ideal.τ).loc Cert.Reference27Ideal.main_arg21) = m' ((c.tc : Thread Cert.Reference27Ideal.nD Cert.Reference27Ideal.τ).loc Cert.Reference27Ideal.main_arg21)
          ∧ r.2.mem ((c.tc : Thread Cert.Reference27Ideal.nD Cert.Reference27Ideal.τ).loc Cert.Reference27Ideal.main_arg22) = m' ((c.tc : Thread Cert.Reference27Ideal.nD Cert.Reference27Ideal.τ).loc Cert.Reference27Ideal.main_arg22)
          ∧ r.2.mem ((c.tc : Thread Cert.Reference27Ideal.nD Cert.Reference27Ideal.τ).loc Cert.Reference27Ideal.main_arg23) = m' ((c.tc : Thread Cert.Reference27Ideal.nD Cert.Reference27Ideal.τ).loc Cert.Reference27Ideal.main_arg23)
          ∧ r.2.mem ((c.tc : Thread Cert.Reference27Ideal.nD Cert.Reference27Ideal.τ).loc Cert.Reference27Ideal.main_arg24) = m' ((c.tc : Thread Cert.Reference27Ideal.nD Cert.Reference27Ideal.τ).loc Cert.Reference27Ideal.main_arg24)
          ∧ r.2.mem ((c.tc : Thread Cert.Reference27Ideal.nD Cert.Reference27Ideal.τ).loc Cert.Reference27Ideal.main_arg25) = m' ((c.tc : Thread Cert.Reference27Ideal.nD Cert.Reference27Ideal.τ).loc Cert.Reference27Ideal.main_arg25)
          ∧ r.2.mem ((c.tc : Thread Cert.Reference27Ideal.nD Cert.Reference27Ideal.τ).loc Cert.Reference27Ideal.main_arg26) = m' ((c.tc : Thread Cert.Reference27Ideal.nD Cert.Reference27Ideal.τ).loc Cert.Reference27Ideal.main_arg26)
          ∧ r.2.mem ((c.tc : Thread Cert.Reference27Ideal.nD Cert.Reference27Ideal.τ).loc Cert.Reference27Ideal.main_arg27) = m' ((c.tc : Thread Cert.Reference27Ideal.nD Cert.Reference27Ideal.τ).loc Cert.Reference27Ideal.main_arg27))

def preserves_Kernel30_Kernel30Ideal : Prop :=
  True

def algebraic_Kernel30Ideal_Reference30Ideal [hKernel30Ideal : Cert.Kernel30Ideal.Facts] [hReference30Ideal : Cert.Reference30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg)
    (m' : (ℓ : Loc Cert.Reference30Ideal.nD Cert.Reference30Ideal.τ Cert.Reference30Ideal.sig) → Buf (Elt Ideal) ℓ) (g' : Dev Cert.Reference30Ideal.nD → PrngReg), Pre_Kernel30Ideal m →
    (∀ c : Dev Cert.Kernel30Ideal.nD,
      m' ((c.tc : Thread Cert.Reference30Ideal.nD Cert.Reference30Ideal.τ).loc Cert.Reference30Ideal.main_arg0) = m ((c.tc : Thread Cert.Kernel30Ideal.nD Cert.Kernel30Ideal.τ).loc Cert.Kernel30Ideal.main_arg0)
      ∧ m' ((c.tc : Thread Cert.Reference30Ideal.nD Cert.Reference30Ideal.τ).loc Cert.Reference30Ideal.main_arg1) = m ((c.tc : Thread Cert.Kernel30Ideal.nD Cert.Kernel30Ideal.τ).loc Cert.Kernel30Ideal.main_arg1)
      ∧ m' ((c.tc : Thread Cert.Reference30Ideal.nD Cert.Reference30Ideal.τ).loc Cert.Reference30Ideal.main_arg2) = m ((c.tc : Thread Cert.Kernel30Ideal.nD Cert.Kernel30Ideal.τ).loc Cert.Kernel30Ideal.main_arg2)
      ∧ m' ((c.tc : Thread Cert.Reference30Ideal.nD Cert.Reference30Ideal.τ).loc Cert.Reference30Ideal.main_arg3) = m ((c.tc : Thread Cert.Kernel30Ideal.nD Cert.Kernel30Ideal.τ).loc Cert.Kernel30Ideal.main_arg3)
      ∧ m' ((c.tc : Thread Cert.Reference30Ideal.nD Cert.Reference30Ideal.τ).loc Cert.Reference30Ideal.main_arg4) = m ((c.tc : Thread Cert.Kernel30Ideal.nD Cert.Kernel30Ideal.τ).loc Cert.Kernel30Ideal.main_arg4)
      ∧ m' ((c.tc : Thread Cert.Reference30Ideal.nD Cert.Reference30Ideal.τ).loc Cert.Reference30Ideal.main_arg5) = m ((c.tc : Thread Cert.Kernel30Ideal.nD Cert.Kernel30Ideal.τ).loc Cert.Kernel30Ideal.main_arg5)) →
    ∃ (v0 : (c : Dev Cert.Kernel30Ideal.nD) → Buf (Elt Ideal) ((c.tc : Thread Cert.Kernel30Ideal.nD Cert.Kernel30Ideal.τ).loc Cert.Kernel30Ideal.main_v0_0)) (v1 : (c : Dev Cert.Kernel30Ideal.nD) → Buf (Elt Ideal) ((c.tc : Thread Cert.Kernel30Ideal.nD Cert.Kernel30Ideal.τ).loc Cert.Kernel30Ideal.main_v0_1)) (v2 : (c : Dev Cert.Kernel30Ideal.nD) → Buf (Elt Ideal) ((c.tc : Thread Cert.Kernel30Ideal.nD Cert.Kernel30Ideal.τ).loc Cert.Kernel30Ideal.main_v0_2)) (v3 : (c : Dev Cert.Kernel30Ideal.nD) → Buf (Elt Ideal) ((c.tc : Thread Cert.Kernel30Ideal.nD Cert.Kernel30Ideal.τ).loc Cert.Kernel30Ideal.main_v0_3)),
      θ_run (Cert.Kernel30Ideal.defs (F := Ideal)) (onTc (τ := Cert.Kernel30Ideal.τ) (Cert.Kernel30Ideal.main (F := Ideal))) ⟨m, fun _ => 0, g⟩ (fun r => ∀ c : Dev Cert.Kernel30Ideal.nD,
          r.2.mem ((c.tc : Thread Cert.Kernel30Ideal.nD Cert.Kernel30Ideal.τ).loc Cert.Kernel30Ideal.main_v0_0) = v0 c
          ∧ r.2.mem ((c.tc : Thread Cert.Kernel30Ideal.nD Cert.Kernel30Ideal.τ).loc Cert.Kernel30Ideal.main_v0_1) = v1 c
          ∧ r.2.mem ((c.tc : Thread Cert.Kernel30Ideal.nD Cert.Kernel30Ideal.τ).loc Cert.Kernel30Ideal.main_v0_2) = v2 c
          ∧ r.2.mem ((c.tc : Thread Cert.Kernel30Ideal.nD Cert.Kernel30Ideal.τ).loc Cert.Kernel30Ideal.main_v0_3) = v3 c
          ∧ r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
          ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
          ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2)
          ∧ r.2.mem ((c.tc : Thread Cert.Kernel30Ideal.nD Cert.Kernel30Ideal.τ).loc Cert.Kernel30Ideal.main_arg3) = m ((c.tc : Thread Cert.Kernel30Ideal.nD Cert.Kernel30Ideal.τ).loc Cert.Kernel30Ideal.main_arg3)
          ∧ r.2.mem ((c.tc : Thread Cert.Kernel30Ideal.nD Cert.Kernel30Ideal.τ).loc Cert.Kernel30Ideal.main_arg4) = m ((c.tc : Thread Cert.Kernel30Ideal.nD Cert.Kernel30Ideal.τ).loc Cert.Kernel30Ideal.main_arg4)
          ∧ r.2.mem ((c.tc : Thread Cert.Kernel30Ideal.nD Cert.Kernel30Ideal.τ).loc Cert.Kernel30Ideal.main_arg5) = m ((c.tc : Thread Cert.Kernel30Ideal.nD Cert.Kernel30Ideal.τ).loc Cert.Kernel30Ideal.main_arg5))
      ∧ θ_run (Cert.Reference30Ideal.defs (F := Ideal)) (onTc (τ := Cert.Reference30Ideal.τ) (Cert.Reference30Ideal.main (F := Ideal))) ⟨m', fun _ => 0, g'⟩ (fun r => ∀ c : Dev Cert.Reference30Ideal.nD,
          r.2.mem ((c.tc : Thread Cert.Reference30Ideal.nD Cert.Reference30Ideal.τ).loc Cert.Reference30Ideal.main_v6) = v0 c
          ∧ r.2.mem ((c.tc : Thread Cert.Reference30Ideal.nD Cert.Reference30Ideal.τ).loc Cert.Reference30Ideal.main_v30) = v1 c
          ∧ r.2.mem ((c.tc : Thread Cert.Reference30Ideal.nD Cert.Reference30Ideal.τ).loc Cert.Reference30Ideal.main_v11) = v2 c
          ∧ r.2.mem ((c.tc : Thread Cert.Reference30Ideal.nD Cert.Reference30Ideal.τ).loc Cert.Reference30Ideal.main_v17) = v3 c
          ∧ r.2.mem ((c.tc : Thread Cert.Reference30Ideal.nD Cert.Reference30Ideal.τ).loc Cert.Reference30Ideal.main_arg0) = m' ((c.tc : Thread Cert.Reference30Ideal.nD Cert.Reference30Ideal.τ).loc Cert.Reference30Ideal.main_arg0)
          ∧ r.2.mem ((c.tc : Thread Cert.Reference30Ideal.nD Cert.Reference30Ideal.τ).loc Cert.Reference30Ideal.main_arg1) = m' ((c.tc : Thread Cert.Reference30Ideal.nD Cert.Reference30Ideal.τ).loc Cert.Reference30Ideal.main_arg1)
          ∧ r.2.mem ((c.tc : Thread Cert.Reference30Ideal.nD Cert.Reference30Ideal.τ).loc Cert.Reference30Ideal.main_arg2) = m' ((c.tc : Thread Cert.Reference30Ideal.nD Cert.Reference30Ideal.τ).loc Cert.Reference30Ideal.main_arg2)
          ∧ r.2.mem ((c.tc : Thread Cert.Reference30Ideal.nD Cert.Reference30Ideal.τ).loc Cert.Reference30Ideal.main_arg3) = m' ((c.tc : Thread Cert.Reference30Ideal.nD Cert.Reference30Ideal.τ).loc Cert.Reference30Ideal.main_arg3)
          ∧ r.2.mem ((c.tc : Thread Cert.Reference30Ideal.nD Cert.Reference30Ideal.τ).loc Cert.Reference30Ideal.main_arg4) = m' ((c.tc : Thread Cert.Reference30Ideal.nD Cert.Reference30Ideal.τ).loc Cert.Reference30Ideal.main_arg4)
          ∧ r.2.mem ((c.tc : Thread Cert.Reference30Ideal.nD Cert.Reference30Ideal.τ).loc Cert.Reference30Ideal.main_arg5) = m' ((c.tc : Thread Cert.Reference30Ideal.nD Cert.Reference30Ideal.τ).loc Cert.Reference30Ideal.main_arg5))

def preserves_Kernel31_Kernel31Ideal : Prop :=
  True

def algebraic_Kernel31Ideal_Reference31Ideal [hKernel31Ideal : Cert.Kernel31Ideal.Facts] [hReference31Ideal : Cert.Reference31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg)
    (m' : (ℓ : Loc Cert.Reference31Ideal.nD Cert.Reference31Ideal.τ Cert.Reference31Ideal.sig) → Buf (Elt Ideal) ℓ) (g' : Dev Cert.Reference31Ideal.nD → PrngReg), Pre_Kernel31Ideal m →
    (∀ c : Dev Cert.Kernel31Ideal.nD,
      m' ((c.tc : Thread Cert.Reference31Ideal.nD Cert.Reference31Ideal.τ).loc Cert.Reference31Ideal.main_arg0) = m ((c.tc : Thread Cert.Kernel31Ideal.nD Cert.Kernel31Ideal.τ).loc Cert.Kernel31Ideal.main_arg0)
      ∧ m' ((c.tc : Thread Cert.Reference31Ideal.nD Cert.Reference31Ideal.τ).loc Cert.Reference31Ideal.main_arg1) = m ((c.tc : Thread Cert.Kernel31Ideal.nD Cert.Kernel31Ideal.τ).loc Cert.Kernel31Ideal.main_arg1)
      ∧ m' ((c.tc : Thread Cert.Reference31Ideal.nD Cert.Reference31Ideal.τ).loc Cert.Reference31Ideal.main_arg2) = m ((c.tc : Thread Cert.Kernel31Ideal.nD Cert.Kernel31Ideal.τ).loc Cert.Kernel31Ideal.main_arg2)
      ∧ m' ((c.tc : Thread Cert.Reference31Ideal.nD Cert.Reference31Ideal.τ).loc Cert.Reference31Ideal.main_arg3) = m ((c.tc : Thread Cert.Kernel31Ideal.nD Cert.Kernel31Ideal.τ).loc Cert.Kernel31Ideal.main_arg3)
      ∧ m' ((c.tc : Thread Cert.Reference31Ideal.nD Cert.Reference31Ideal.τ).loc Cert.Reference31Ideal.main_arg4) = m ((c.tc : Thread Cert.Kernel31Ideal.nD Cert.Kernel31Ideal.τ).loc Cert.Kernel31Ideal.main_arg4)
      ∧ m' ((c.tc : Thread Cert.Reference31Ideal.nD Cert.Reference31Ideal.τ).loc Cert.Reference31Ideal.main_arg5) = m ((c.tc : Thread Cert.Kernel31Ideal.nD Cert.Kernel31Ideal.τ).loc Cert.Kernel31Ideal.main_arg5)) →
    ∃ (v0 : (c : Dev Cert.Kernel31Ideal.nD) → Buf (Elt Ideal) ((c.tc : Thread Cert.Kernel31Ideal.nD Cert.Kernel31Ideal.τ).loc Cert.Kernel31Ideal.main_v0_0)) (v1 : (c : Dev Cert.Kernel31Ideal.nD) → Buf (Elt Ideal) ((c.tc : Thread Cert.Kernel31Ideal.nD Cert.Kernel31Ideal.τ).loc Cert.Kernel31Ideal.main_v0_1)) (v2 : (c : Dev Cert.Kernel31Ideal.nD) → Buf (Elt Ideal) ((c.tc : Thread Cert.Kernel31Ideal.nD Cert.Kernel31Ideal.τ).loc Cert.Kernel31Ideal.main_v0_2)) (v3 : (c : Dev Cert.Kernel31Ideal.nD) → Buf (Elt Ideal) ((c.tc : Thread Cert.Kernel31Ideal.nD Cert.Kernel31Ideal.τ).loc Cert.Kernel31Ideal.main_v0_3)),
      θ_run (Cert.Kernel31Ideal.defs (F := Ideal)) (onTc (τ := Cert.Kernel31Ideal.τ) (Cert.Kernel31Ideal.main (F := Ideal))) ⟨m, fun _ => 0, g⟩ (fun r => ∀ c : Dev Cert.Kernel31Ideal.nD,
          r.2.mem ((c.tc : Thread Cert.Kernel31Ideal.nD Cert.Kernel31Ideal.τ).loc Cert.Kernel31Ideal.main_v0_0) = v0 c
          ∧ r.2.mem ((c.tc : Thread Cert.Kernel31Ideal.nD Cert.Kernel31Ideal.τ).loc Cert.Kernel31Ideal.main_v0_1) = v1 c
          ∧ r.2.mem ((c.tc : Thread Cert.Kernel31Ideal.nD Cert.Kernel31Ideal.τ).loc Cert.Kernel31Ideal.main_v0_2) = v2 c
          ∧ r.2.mem ((c.tc : Thread Cert.Kernel31Ideal.nD Cert.Kernel31Ideal.τ).loc Cert.Kernel31Ideal.main_v0_3) = v3 c
          ∧ r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
          ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
          ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2)
          ∧ r.2.mem ((c.tc : Thread Cert.Kernel31Ideal.nD Cert.Kernel31Ideal.τ).loc Cert.Kernel31Ideal.main_arg3) = m ((c.tc : Thread Cert.Kernel31Ideal.nD Cert.Kernel31Ideal.τ).loc Cert.Kernel31Ideal.main_arg3)
          ∧ r.2.mem ((c.tc : Thread Cert.Kernel31Ideal.nD Cert.Kernel31Ideal.τ).loc Cert.Kernel31Ideal.main_arg4) = m ((c.tc : Thread Cert.Kernel31Ideal.nD Cert.Kernel31Ideal.τ).loc Cert.Kernel31Ideal.main_arg4)
          ∧ r.2.mem ((c.tc : Thread Cert.Kernel31Ideal.nD Cert.Kernel31Ideal.τ).loc Cert.Kernel31Ideal.main_arg5) = m ((c.tc : Thread Cert.Kernel31Ideal.nD Cert.Kernel31Ideal.τ).loc Cert.Kernel31Ideal.main_arg5))
      ∧ θ_run (Cert.Reference31Ideal.defs (F := Ideal)) (onTc (τ := Cert.Reference31Ideal.τ) (Cert.Reference31Ideal.main (F := Ideal))) ⟨m', fun _ => 0, g'⟩ (fun r => ∀ c : Dev Cert.Reference31Ideal.nD,
          r.2.mem ((c.tc : Thread Cert.Reference31Ideal.nD Cert.Reference31Ideal.τ).loc Cert.Reference31Ideal.main_v6) = v0 c
          ∧ r.2.mem ((c.tc : Thread Cert.Reference31Ideal.nD Cert.Reference31Ideal.τ).loc Cert.Reference31Ideal.main_v30) = v1 c
          ∧ r.2.mem ((c.tc : Thread Cert.Reference31Ideal.nD Cert.Reference31Ideal.τ).loc Cert.Reference31Ideal.main_v11) = v2 c
          ∧ r.2.mem ((c.tc : Thread Cert.Reference31Ideal.nD Cert.Reference31Ideal.τ).loc Cert.Reference31Ideal.main_v17) = v3 c
          ∧ r.2.mem ((c.tc : Thread Cert.Reference31Ideal.nD Cert.Reference31Ideal.τ).loc Cert.Reference31Ideal.main_arg0) = m' ((c.tc : Thread Cert.Reference31Ideal.nD Cert.Reference31Ideal.τ).loc Cert.Reference31Ideal.main_arg0)
          ∧ r.2.mem ((c.tc : Thread Cert.Reference31Ideal.nD Cert.Reference31Ideal.τ).loc Cert.Reference31Ideal.main_arg1) = m' ((c.tc : Thread Cert.Reference31Ideal.nD Cert.Reference31Ideal.τ).loc Cert.Reference31Ideal.main_arg1)
          ∧ r.2.mem ((c.tc : Thread Cert.Reference31Ideal.nD Cert.Reference31Ideal.τ).loc Cert.Reference31Ideal.main_arg2) = m' ((c.tc : Thread Cert.Reference31Ideal.nD Cert.Reference31Ideal.τ).loc Cert.Reference31Ideal.main_arg2)
          ∧ r.2.mem ((c.tc : Thread Cert.Reference31Ideal.nD Cert.Reference31Ideal.τ).loc Cert.Reference31Ideal.main_arg3) = m' ((c.tc : Thread Cert.Reference31Ideal.nD Cert.Reference31Ideal.τ).loc Cert.Reference31Ideal.main_arg3)
          ∧ r.2.mem ((c.tc : Thread Cert.Reference31Ideal.nD Cert.Reference31Ideal.τ).loc Cert.Reference31Ideal.main_arg4) = m' ((c.tc : Thread Cert.Reference31Ideal.nD Cert.Reference31Ideal.τ).loc Cert.Reference31Ideal.main_arg4)
          ∧ r.2.mem ((c.tc : Thread Cert.Reference31Ideal.nD Cert.Reference31Ideal.τ).loc Cert.Reference31Ideal.main_arg5) = m' ((c.tc : Thread Cert.Reference31Ideal.nD Cert.Reference31Ideal.τ).loc Cert.Reference31Ideal.main_arg5))

def preserves_Kernel32_Kernel32Ideal : Prop :=
  True

def algebraic_Kernel32Ideal_Reference32Ideal [hKernel32Ideal : Cert.Kernel32Ideal.Facts] [hReference32Ideal : Cert.Reference32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg)
    (m' : (ℓ : Loc Cert.Reference32Ideal.nD Cert.Reference32Ideal.τ Cert.Reference32Ideal.sig) → Buf (Elt Ideal) ℓ) (g' : Dev Cert.Reference32Ideal.nD → PrngReg), Pre_Kernel32Ideal m →
    (∀ c : Dev Cert.Kernel32Ideal.nD,
      m' ((c.tc : Thread Cert.Reference32Ideal.nD Cert.Reference32Ideal.τ).loc Cert.Reference32Ideal.main_arg0) = m ((c.tc : Thread Cert.Kernel32Ideal.nD Cert.Kernel32Ideal.τ).loc Cert.Kernel32Ideal.main_arg0)
      ∧ m' ((c.tc : Thread Cert.Reference32Ideal.nD Cert.Reference32Ideal.τ).loc Cert.Reference32Ideal.main_arg1) = m ((c.tc : Thread Cert.Kernel32Ideal.nD Cert.Kernel32Ideal.τ).loc Cert.Kernel32Ideal.main_arg1)
      ∧ m' ((c.tc : Thread Cert.Reference32Ideal.nD Cert.Reference32Ideal.τ).loc Cert.Reference32Ideal.main_arg2) = m ((c.tc : Thread Cert.Kernel32Ideal.nD Cert.Kernel32Ideal.τ).loc Cert.Kernel32Ideal.main_arg2)
      ∧ m' ((c.tc : Thread Cert.Reference32Ideal.nD Cert.Reference32Ideal.τ).loc Cert.Reference32Ideal.main_arg3) = m ((c.tc : Thread Cert.Kernel32Ideal.nD Cert.Kernel32Ideal.τ).loc Cert.Kernel32Ideal.main_arg3)
      ∧ m' ((c.tc : Thread Cert.Reference32Ideal.nD Cert.Reference32Ideal.τ).loc Cert.Reference32Ideal.main_arg4) = m ((c.tc : Thread Cert.Kernel32Ideal.nD Cert.Kernel32Ideal.τ).loc Cert.Kernel32Ideal.main_arg4)
      ∧ m' ((c.tc : Thread Cert.Reference32Ideal.nD Cert.Reference32Ideal.τ).loc Cert.Reference32Ideal.main_arg5) = m ((c.tc : Thread Cert.Kernel32Ideal.nD Cert.Kernel32Ideal.τ).loc Cert.Kernel32Ideal.main_arg5)) →
    ∃ (v0 : (c : Dev Cert.Kernel32Ideal.nD) → Buf (Elt Ideal) ((c.tc : Thread Cert.Kernel32Ideal.nD Cert.Kernel32Ideal.τ).loc Cert.Kernel32Ideal.main_v0_0)) (v1 : (c : Dev Cert.Kernel32Ideal.nD) → Buf (Elt Ideal) ((c.tc : Thread Cert.Kernel32Ideal.nD Cert.Kernel32Ideal.τ).loc Cert.Kernel32Ideal.main_v0_1)) (v2 : (c : Dev Cert.Kernel32Ideal.nD) → Buf (Elt Ideal) ((c.tc : Thread Cert.Kernel32Ideal.nD Cert.Kernel32Ideal.τ).loc Cert.Kernel32Ideal.main_v0_2)) (v3 : (c : Dev Cert.Kernel32Ideal.nD) → Buf (Elt Ideal) ((c.tc : Thread Cert.Kernel32Ideal.nD Cert.Kernel32Ideal.τ).loc Cert.Kernel32Ideal.main_v0_3)),
      θ_run (Cert.Kernel32Ideal.defs (F := Ideal)) (onTc (τ := Cert.Kernel32Ideal.τ) (Cert.Kernel32Ideal.main (F := Ideal))) ⟨m, fun _ => 0, g⟩ (fun r => ∀ c : Dev Cert.Kernel32Ideal.nD,
          r.2.mem ((c.tc : Thread Cert.Kernel32Ideal.nD Cert.Kernel32Ideal.τ).loc Cert.Kernel32Ideal.main_v0_0) = v0 c
          ∧ r.2.mem ((c.tc : Thread Cert.Kernel32Ideal.nD Cert.Kernel32Ideal.τ).loc Cert.Kernel32Ideal.main_v0_1) = v1 c
          ∧ r.2.mem ((c.tc : Thread Cert.Kernel32Ideal.nD Cert.Kernel32Ideal.τ).loc Cert.Kernel32Ideal.main_v0_2) = v2 c
          ∧ r.2.mem ((c.tc : Thread Cert.Kernel32Ideal.nD Cert.Kernel32Ideal.τ).loc Cert.Kernel32Ideal.main_v0_3) = v3 c
          ∧ r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
          ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
          ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2)
          ∧ r.2.mem ((c.tc : Thread Cert.Kernel32Ideal.nD Cert.Kernel32Ideal.τ).loc Cert.Kernel32Ideal.main_arg3) = m ((c.tc : Thread Cert.Kernel32Ideal.nD Cert.Kernel32Ideal.τ).loc Cert.Kernel32Ideal.main_arg3)
          ∧ r.2.mem ((c.tc : Thread Cert.Kernel32Ideal.nD Cert.Kernel32Ideal.τ).loc Cert.Kernel32Ideal.main_arg4) = m ((c.tc : Thread Cert.Kernel32Ideal.nD Cert.Kernel32Ideal.τ).loc Cert.Kernel32Ideal.main_arg4)
          ∧ r.2.mem ((c.tc : Thread Cert.Kernel32Ideal.nD Cert.Kernel32Ideal.τ).loc Cert.Kernel32Ideal.main_arg5) = m ((c.tc : Thread Cert.Kernel32Ideal.nD Cert.Kernel32Ideal.τ).loc Cert.Kernel32Ideal.main_arg5))
      ∧ θ_run (Cert.Reference32Ideal.defs (F := Ideal)) (onTc (τ := Cert.Reference32Ideal.τ) (Cert.Reference32Ideal.main (F := Ideal))) ⟨m', fun _ => 0, g'⟩ (fun r => ∀ c : Dev Cert.Reference32Ideal.nD,
          r.2.mem ((c.tc : Thread Cert.Reference32Ideal.nD Cert.Reference32Ideal.τ).loc Cert.Reference32Ideal.main_v6) = v0 c
          ∧ r.2.mem ((c.tc : Thread Cert.Reference32Ideal.nD Cert.Reference32Ideal.τ).loc Cert.Reference32Ideal.main_v30) = v1 c
          ∧ r.2.mem ((c.tc : Thread Cert.Reference32Ideal.nD Cert.Reference32Ideal.τ).loc Cert.Reference32Ideal.main_v11) = v2 c
          ∧ r.2.mem ((c.tc : Thread Cert.Reference32Ideal.nD Cert.Reference32Ideal.τ).loc Cert.Reference32Ideal.main_v17) = v3 c
          ∧ r.2.mem ((c.tc : Thread Cert.Reference32Ideal.nD Cert.Reference32Ideal.τ).loc Cert.Reference32Ideal.main_arg0) = m' ((c.tc : Thread Cert.Reference32Ideal.nD Cert.Reference32Ideal.τ).loc Cert.Reference32Ideal.main_arg0)
          ∧ r.2.mem ((c.tc : Thread Cert.Reference32Ideal.nD Cert.Reference32Ideal.τ).loc Cert.Reference32Ideal.main_arg1) = m' ((c.tc : Thread Cert.Reference32Ideal.nD Cert.Reference32Ideal.τ).loc Cert.Reference32Ideal.main_arg1)
          ∧ r.2.mem ((c.tc : Thread Cert.Reference32Ideal.nD Cert.Reference32Ideal.τ).loc Cert.Reference32Ideal.main_arg2) = m' ((c.tc : Thread Cert.Reference32Ideal.nD Cert.Reference32Ideal.τ).loc Cert.Reference32Ideal.main_arg2)
          ∧ r.2.mem ((c.tc : Thread Cert.Reference32Ideal.nD Cert.Reference32Ideal.τ).loc Cert.Reference32Ideal.main_arg3) = m' ((c.tc : Thread Cert.Reference32Ideal.nD Cert.Reference32Ideal.τ).loc Cert.Reference32Ideal.main_arg3)
          ∧ r.2.mem ((c.tc : Thread Cert.Reference32Ideal.nD Cert.Reference32Ideal.τ).loc Cert.Reference32Ideal.main_arg4) = m' ((c.tc : Thread Cert.Reference32Ideal.nD Cert.Reference32Ideal.τ).loc Cert.Reference32Ideal.main_arg4)
          ∧ r.2.mem ((c.tc : Thread Cert.Reference32Ideal.nD Cert.Reference32Ideal.τ).loc Cert.Reference32Ideal.main_arg5) = m' ((c.tc : Thread Cert.Reference32Ideal.nD Cert.Reference32Ideal.τ).loc Cert.Reference32Ideal.main_arg5))

def preserves_Kernel35_Kernel35Ideal : Prop :=
  True

def algebraic_Kernel35Ideal_Reference35Ideal [hKernel35Ideal : Cert.Kernel35Ideal.Facts] [hReference35Ideal : Cert.Reference35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg)
    (m' : (ℓ : Loc Cert.Reference35Ideal.nD Cert.Reference35Ideal.τ Cert.Reference35Ideal.sig) → Buf (Elt Ideal) ℓ) (g' : Dev Cert.Reference35Ideal.nD → PrngReg), Pre_Kernel35Ideal m →
    (∀ c : Dev Cert.Kernel35Ideal.nD,
      m' ((c.tc : Thread Cert.Reference35Ideal.nD Cert.Reference35Ideal.τ).loc Cert.Reference35Ideal.main_arg0) = m ((c.tc : Thread Cert.Kernel35Ideal.nD Cert.Kernel35Ideal.τ).loc Cert.Kernel35Ideal.main_arg0)
      ∧ m' ((c.tc : Thread Cert.Reference35Ideal.nD Cert.Reference35Ideal.τ).loc Cert.Reference35Ideal.main_arg1) = m ((c.tc : Thread Cert.Kernel35Ideal.nD Cert.Kernel35Ideal.τ).loc Cert.Kernel35Ideal.main_arg1)
      ∧ m' ((c.tc : Thread Cert.Reference35Ideal.nD Cert.Reference35Ideal.τ).loc Cert.Reference35Ideal.main_arg2) = m ((c.tc : Thread Cert.Kernel35Ideal.nD Cert.Kernel35Ideal.τ).loc Cert.Kernel35Ideal.main_arg2)
      ∧ m' ((c.tc : Thread Cert.Reference35Ideal.nD Cert.Reference35Ideal.τ).loc Cert.Reference35Ideal.main_arg3) = m ((c.tc : Thread Cert.Kernel35Ideal.nD Cert.Kernel35Ideal.τ).loc Cert.Kernel35Ideal.main_arg3)
      ∧ m' ((c.tc : Thread Cert.Reference35Ideal.nD Cert.Reference35Ideal.τ).loc Cert.Reference35Ideal.main_arg4) = m ((c.tc : Thread Cert.Kernel35Ideal.nD Cert.Kernel35Ideal.τ).loc Cert.Kernel35Ideal.main_arg4)
      ∧ m' ((c.tc : Thread Cert.Reference35Ideal.nD Cert.Reference35Ideal.τ).loc Cert.Reference35Ideal.main_arg5) = m ((c.tc : Thread Cert.Kernel35Ideal.nD Cert.Kernel35Ideal.τ).loc Cert.Kernel35Ideal.main_arg5)
      ∧ m' ((c.tc : Thread Cert.Reference35Ideal.nD Cert.Reference35Ideal.τ).loc Cert.Reference35Ideal.main_arg6) = m ((c.tc : Thread Cert.Kernel35Ideal.nD Cert.Kernel35Ideal.τ).loc Cert.Kernel35Ideal.main_arg6)
      ∧ m' ((c.tc : Thread Cert.Reference35Ideal.nD Cert.Reference35Ideal.τ).loc Cert.Reference35Ideal.main_arg7) = m ((c.tc : Thread Cert.Kernel35Ideal.nD Cert.Kernel35Ideal.τ).loc Cert.Kernel35Ideal.main_arg7)
      ∧ m' ((c.tc : Thread Cert.Reference35Ideal.nD Cert.Reference35Ideal.τ).loc Cert.Reference35Ideal.main_arg8) = m ((c.tc : Thread Cert.Kernel35Ideal.nD Cert.Kernel35Ideal.τ).loc Cert.Kernel35Ideal.main_arg8)
      ∧ m' ((c.tc : Thread Cert.Reference35Ideal.nD Cert.Reference35Ideal.τ).loc Cert.Reference35Ideal.main_arg9) = m ((c.tc : Thread Cert.Kernel35Ideal.nD Cert.Kernel35Ideal.τ).loc Cert.Kernel35Ideal.main_arg9)) →
    ∃ (v0 : (c : Dev Cert.Kernel35Ideal.nD) → Buf (Elt Ideal) ((c.tc : Thread Cert.Kernel35Ideal.nD Cert.Kernel35Ideal.τ).loc Cert.Kernel35Ideal.main_v0_0)) (v1 : (c : Dev Cert.Kernel35Ideal.nD) → Buf (Elt Ideal) ((c.tc : Thread Cert.Kernel35Ideal.nD Cert.Kernel35Ideal.τ).loc Cert.Kernel35Ideal.main_v0_1)) (v2 : (c : Dev Cert.Kernel35Ideal.nD) → Buf (Elt Ideal) ((c.tc : Thread Cert.Kernel35Ideal.nD Cert.Kernel35Ideal.τ).loc Cert.Kernel35Ideal.main_v0_2)) (v3 : (c : Dev Cert.Kernel35Ideal.nD) → Buf (Elt Ideal) ((c.tc : Thread Cert.Kernel35Ideal.nD Cert.Kernel35Ideal.τ).loc Cert.Kernel35Ideal.main_v0_3)),
      θ_run (Cert.Kernel35Ideal.defs (F := Ideal)) (onTc (τ := Cert.Kernel35Ideal.τ) (Cert.Kernel35Ideal.main (F := Ideal))) ⟨m, fun _ => 0, g⟩ (fun r => ∀ c : Dev Cert.Kernel35Ideal.nD,
          r.2.mem ((c.tc : Thread Cert.Kernel35Ideal.nD Cert.Kernel35Ideal.τ).loc Cert.Kernel35Ideal.main_v0_0) = v0 c
          ∧ r.2.mem ((c.tc : Thread Cert.Kernel35Ideal.nD Cert.Kernel35Ideal.τ).loc Cert.Kernel35Ideal.main_v0_1) = v1 c
          ∧ r.2.mem ((c.tc : Thread Cert.Kernel35Ideal.nD Cert.Kernel35Ideal.τ).loc Cert.Kernel35Ideal.main_v0_2) = v2 c
          ∧ r.2.mem ((c.tc : Thread Cert.Kernel35Ideal.nD Cert.Kernel35Ideal.τ).loc Cert.Kernel35Ideal.main_v0_3) = v3 c
          ∧ r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
          ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1)
          ∧ r.2.mem ((c.tc : Thread Cert.Kernel35Ideal.nD Cert.Kernel35Ideal.τ).loc Cert.Kernel35Ideal.main_arg2) = m ((c.tc : Thread Cert.Kernel35Ideal.nD Cert.Kernel35Ideal.τ).loc Cert.Kernel35Ideal.main_arg2)
          ∧ r.2.mem ((c.tc : Thread Cert.Kernel35Ideal.nD Cert.Kernel35Ideal.τ).loc Cert.Kernel35Ideal.main_arg3) = m ((c.tc : Thread Cert.Kernel35Ideal.nD Cert.Kernel35Ideal.τ).loc Cert.Kernel35Ideal.main_arg3)
          ∧ r.2.mem ((c.tc : Thread Cert.Kernel35Ideal.nD Cert.Kernel35Ideal.τ).loc Cert.Kernel35Ideal.main_arg4) = m ((c.tc : Thread Cert.Kernel35Ideal.nD Cert.Kernel35Ideal.τ).loc Cert.Kernel35Ideal.main_arg4)
          ∧ r.2.mem ((c.tc : Thread Cert.Kernel35Ideal.nD Cert.Kernel35Ideal.τ).loc Cert.Kernel35Ideal.main_arg5) = m ((c.tc : Thread Cert.Kernel35Ideal.nD Cert.Kernel35Ideal.τ).loc Cert.Kernel35Ideal.main_arg5)
          ∧ r.2.mem ((c.tc : Thread Cert.Kernel35Ideal.nD Cert.Kernel35Ideal.τ).loc Cert.Kernel35Ideal.main_arg6) = m ((c.tc : Thread Cert.Kernel35Ideal.nD Cert.Kernel35Ideal.τ).loc Cert.Kernel35Ideal.main_arg6)
          ∧ r.2.mem ((c.tc : Thread Cert.Kernel35Ideal.nD Cert.Kernel35Ideal.τ).loc Cert.Kernel35Ideal.main_arg7) = m ((c.tc : Thread Cert.Kernel35Ideal.nD Cert.Kernel35Ideal.τ).loc Cert.Kernel35Ideal.main_arg7)
          ∧ r.2.mem ((c.tc : Thread Cert.Kernel35Ideal.nD Cert.Kernel35Ideal.τ).loc Cert.Kernel35Ideal.main_arg8) = m ((c.tc : Thread Cert.Kernel35Ideal.nD Cert.Kernel35Ideal.τ).loc Cert.Kernel35Ideal.main_arg8)
          ∧ r.2.mem ((c.tc : Thread Cert.Kernel35Ideal.nD Cert.Kernel35Ideal.τ).loc Cert.Kernel35Ideal.main_arg9) = m ((c.tc : Thread Cert.Kernel35Ideal.nD Cert.Kernel35Ideal.τ).loc Cert.Kernel35Ideal.main_arg9))
      ∧ θ_run (Cert.Reference35Ideal.defs (F := Ideal)) (onTc (τ := Cert.Reference35Ideal.τ) (Cert.Reference35Ideal.main (F := Ideal))) ⟨m', fun _ => 0, g'⟩ (fun r => ∀ c : Dev Cert.Reference35Ideal.nD,
          r.2.mem ((c.tc : Thread Cert.Reference35Ideal.nD Cert.Reference35Ideal.τ).loc Cert.Reference35Ideal.main_v35) = v0 c
          ∧ r.2.mem ((c.tc : Thread Cert.Reference35Ideal.nD Cert.Reference35Ideal.τ).loc Cert.Reference35Ideal.main_v37) = v1 c
          ∧ r.2.mem ((c.tc : Thread Cert.Reference35Ideal.nD Cert.Reference35Ideal.τ).loc Cert.Reference35Ideal.main_v39) = v2 c
          ∧ r.2.mem ((c.tc : Thread Cert.Reference35Ideal.nD Cert.Reference35Ideal.τ).loc Cert.Reference35Ideal.main_v41) = v3 c
          ∧ r.2.mem ((c.tc : Thread Cert.Reference35Ideal.nD Cert.Reference35Ideal.τ).loc Cert.Reference35Ideal.main_arg0) = m' ((c.tc : Thread Cert.Reference35Ideal.nD Cert.Reference35Ideal.τ).loc Cert.Reference35Ideal.main_arg0)
          ∧ r.2.mem ((c.tc : Thread Cert.Reference35Ideal.nD Cert.Reference35Ideal.τ).loc Cert.Reference35Ideal.main_arg1) = m' ((c.tc : Thread Cert.Reference35Ideal.nD Cert.Reference35Ideal.τ).loc Cert.Reference35Ideal.main_arg1)
          ∧ r.2.mem ((c.tc : Thread Cert.Reference35Ideal.nD Cert.Reference35Ideal.τ).loc Cert.Reference35Ideal.main_arg2) = m' ((c.tc : Thread Cert.Reference35Ideal.nD Cert.Reference35Ideal.τ).loc Cert.Reference35Ideal.main_arg2)
          ∧ r.2.mem ((c.tc : Thread Cert.Reference35Ideal.nD Cert.Reference35Ideal.τ).loc Cert.Reference35Ideal.main_arg3) = m' ((c.tc : Thread Cert.Reference35Ideal.nD Cert.Reference35Ideal.τ).loc Cert.Reference35Ideal.main_arg3)
          ∧ r.2.mem ((c.tc : Thread Cert.Reference35Ideal.nD Cert.Reference35Ideal.τ).loc Cert.Reference35Ideal.main_arg4) = m' ((c.tc : Thread Cert.Reference35Ideal.nD Cert.Reference35Ideal.τ).loc Cert.Reference35Ideal.main_arg4)
          ∧ r.2.mem ((c.tc : Thread Cert.Reference35Ideal.nD Cert.Reference35Ideal.τ).loc Cert.Reference35Ideal.main_arg5) = m' ((c.tc : Thread Cert.Reference35Ideal.nD Cert.Reference35Ideal.τ).loc Cert.Reference35Ideal.main_arg5)
          ∧ r.2.mem ((c.tc : Thread Cert.Reference35Ideal.nD Cert.Reference35Ideal.τ).loc Cert.Reference35Ideal.main_arg6) = m' ((c.tc : Thread Cert.Reference35Ideal.nD Cert.Reference35Ideal.τ).loc Cert.Reference35Ideal.main_arg6)
          ∧ r.2.mem ((c.tc : Thread Cert.Reference35Ideal.nD Cert.Reference35Ideal.τ).loc Cert.Reference35Ideal.main_arg7) = m' ((c.tc : Thread Cert.Reference35Ideal.nD Cert.Reference35Ideal.τ).loc Cert.Reference35Ideal.main_arg7)
          ∧ r.2.mem ((c.tc : Thread Cert.Reference35Ideal.nD Cert.Reference35Ideal.τ).loc Cert.Reference35Ideal.main_arg8) = m' ((c.tc : Thread Cert.Reference35Ideal.nD Cert.Reference35Ideal.τ).loc Cert.Reference35Ideal.main_arg8)
          ∧ r.2.mem ((c.tc : Thread Cert.Reference35Ideal.nD Cert.Reference35Ideal.τ).loc Cert.Reference35Ideal.main_arg9) = m' ((c.tc : Thread Cert.Reference35Ideal.nD Cert.Reference35Ideal.τ).loc Cert.Reference35Ideal.main_arg9))

def preserves_Kernel36_Kernel36Ideal : Prop :=
  True

def algebraic_Kernel36Ideal_Reference36Ideal [hKernel36Ideal : Cert.Kernel36Ideal.Facts] [hReference36Ideal : Cert.Reference36Ideal.Facts] : Prop :=
  ∀ (m : (ℓ : Loc Cert.Kernel36Ideal.nD Cert.Kernel36Ideal.τ Cert.Kernel36Ideal.sig) → Buf (Elt Ideal) ℓ) (g : Dev Cert.Kernel36Ideal.nD → PrngReg)
    (m' : (ℓ : Loc Cert.Reference36Ideal.nD Cert.Reference36Ideal.τ Cert.Reference36Ideal.sig) → Buf (Elt Ideal) ℓ) (g' : Dev Cert.Reference36Ideal.nD → PrngReg), Pre_Kernel36Ideal m →
    (∀ c : Dev Cert.Kernel36Ideal.nD,
      m' ((c.tc : Thread Cert.Reference36Ideal.nD Cert.Reference36Ideal.τ).loc Cert.Reference36Ideal.main_arg0) = m ((c.tc : Thread Cert.Kernel36Ideal.nD Cert.Kernel36Ideal.τ).loc Cert.Kernel36Ideal.main_arg0)
      ∧ m' ((c.tc : Thread Cert.Reference36Ideal.nD Cert.Reference36Ideal.τ).loc Cert.Reference36Ideal.main_arg1) = m ((c.tc : Thread Cert.Kernel36Ideal.nD Cert.Kernel36Ideal.τ).loc Cert.Kernel36Ideal.main_arg1)
      ∧ m' ((c.tc : Thread Cert.Reference36Ideal.nD Cert.Reference36Ideal.τ).loc Cert.Reference36Ideal.main_arg2) = m ((c.tc : Thread Cert.Kernel36Ideal.nD Cert.Kernel36Ideal.τ).loc Cert.Kernel36Ideal.main_arg2)
      ∧ m' ((c.tc : Thread Cert.Reference36Ideal.nD Cert.Reference36Ideal.τ).loc Cert.Reference36Ideal.main_arg3) = m ((c.tc : Thread Cert.Kernel36Ideal.nD Cert.Kernel36Ideal.τ).loc Cert.Kernel36Ideal.main_arg3)
      ∧ m' ((c.tc : Thread Cert.Reference36Ideal.nD Cert.Reference36Ideal.τ).loc Cert.Reference36Ideal.main_arg4) = m ((c.tc : Thread Cert.Kernel36Ideal.nD Cert.Kernel36Ideal.τ).loc Cert.Kernel36Ideal.main_arg4)
      ∧ m' ((c.tc : Thread Cert.Reference36Ideal.nD Cert.Reference36Ideal.τ).loc Cert.Reference36Ideal.main_arg5) = m ((c.tc : Thread Cert.Kernel36Ideal.nD Cert.Kernel36Ideal.τ).loc Cert.Kernel36Ideal.main_arg5)
      ∧ m' ((c.tc : Thread Cert.Reference36Ideal.nD Cert.Reference36Ideal.τ).loc Cert.Reference36Ideal.main_arg6) = m ((c.tc : Thread Cert.Kernel36Ideal.nD Cert.Kernel36Ideal.τ).loc Cert.Kernel36Ideal.main_arg6)
      ∧ m' ((c.tc : Thread Cert.Reference36Ideal.nD Cert.Reference36Ideal.τ).loc Cert.Reference36Ideal.main_arg7) = m ((c.tc : Thread Cert.Kernel36Ideal.nD Cert.Kernel36Ideal.τ).loc Cert.Kernel36Ideal.main_arg7)
      ∧ m' ((c.tc : Thread Cert.Reference36Ideal.nD Cert.Reference36Ideal.τ).loc Cert.Reference36Ideal.main_arg8) = m ((c.tc : Thread Cert.Kernel36Ideal.nD Cert.Kernel36Ideal.τ).loc Cert.Kernel36Ideal.main_arg8)
      ∧ m' ((c.tc : Thread Cert.Reference36Ideal.nD Cert.Reference36Ideal.τ).loc Cert.Reference36Ideal.main_arg9) = m ((c.tc : Thread Cert.Kernel36Ideal.nD Cert.Kernel36Ideal.τ).loc Cert.Kernel36Ideal.main_arg9)) →
    ∃ (v0 : (c : Dev Cert.Kernel36Ideal.nD) → Buf (Elt Ideal) ((c.tc : Thread Cert.Kernel36Ideal.nD Cert.Kernel36Ideal.τ).loc Cert.Kernel36Ideal.main_v0_0)) (v1 : (c : Dev Cert.Kernel36Ideal.nD) → Buf (Elt Ideal) ((c.tc : Thread Cert.Kernel36Ideal.nD Cert.Kernel36Ideal.τ).loc Cert.Kernel36Ideal.main_v0_1)) (v2 : (c : Dev Cert.Kernel36Ideal.nD) → Buf (Elt Ideal) ((c.tc : Thread Cert.Kernel36Ideal.nD Cert.Kernel36Ideal.τ).loc Cert.Kernel36Ideal.main_v0_2)) (v3 : (c : Dev Cert.Kernel36Ideal.nD) → Buf (Elt Ideal) ((c.tc : Thread Cert.Kernel36Ideal.nD Cert.Kernel36Ideal.τ).loc Cert.Kernel36Ideal.main_v0_3)),
      θ_run (Cert.Kernel36Ideal.defs (F := Ideal)) (onTc (τ := Cert.Kernel36Ideal.τ) (Cert.Kernel36Ideal.main (F := Ideal))) ⟨m, fun _ => 0, g⟩ (fun r => ∀ c : Dev Cert.Kernel36Ideal.nD,
          r.2.mem ((c.tc : Thread Cert.Kernel36Ideal.nD Cert.Kernel36Ideal.τ).loc Cert.Kernel36Ideal.main_v0_0) = v0 c
          ∧ r.2.mem ((c.tc : Thread Cert.Kernel36Ideal.nD Cert.Kernel36Ideal.τ).loc Cert.Kernel36Ideal.main_v0_1) = v1 c
          ∧ r.2.mem ((c.tc : Thread Cert.Kernel36Ideal.nD Cert.Kernel36Ideal.τ).loc Cert.Kernel36Ideal.main_v0_2) = v2 c
          ∧ r.2.mem ((c.tc : Thread Cert.Kernel36Ideal.nD Cert.Kernel36Ideal.τ).loc Cert.Kernel36Ideal.main_v0_3) = v3 c
          ∧ r.2.mem ((c.tc : Thread Cert.Kernel36Ideal.nD Cert.Kernel36Ideal.τ).loc Cert.Kernel36Ideal.main_arg0) = m ((c.tc : Thread Cert.Kernel36Ideal.nD Cert.Kernel36Ideal.τ).loc Cert.Kernel36Ideal.main_arg0)
          ∧ r.2.mem ((c.tc : Thread Cert.Kernel36Ideal.nD Cert.Kernel36Ideal.τ).loc Cert.Kernel36Ideal.main_arg1) = m ((c.tc : Thread Cert.Kernel36Ideal.nD Cert.Kernel36Ideal.τ).loc Cert.Kernel36Ideal.main_arg1)
          ∧ r.2.mem ((c.tc : Thread Cert.Kernel36Ideal.nD Cert.Kernel36Ideal.τ).loc Cert.Kernel36Ideal.main_arg2) = m ((c.tc : Thread Cert.Kernel36Ideal.nD Cert.Kernel36Ideal.τ).loc Cert.Kernel36Ideal.main_arg2)
          ∧ r.2.mem ((c.tc : Thread Cert.Kernel36Ideal.nD Cert.Kernel36Ideal.τ).loc Cert.Kernel36Ideal.main_arg3) = m ((c.tc : Thread Cert.Kernel36Ideal.nD Cert.Kernel36Ideal.τ).loc Cert.Kernel36Ideal.main_arg3)
          ∧ r.2.mem ((c.tc : Thread Cert.Kernel36Ideal.nD Cert.Kernel36Ideal.τ).loc Cert.Kernel36Ideal.main_arg4) = m ((c.tc : Thread Cert.Kernel36Ideal.nD Cert.Kernel36Ideal.τ).loc Cert.Kernel36Ideal.main_arg4)
          ∧ r.2.mem ((c.tc : Thread Cert.Kernel36Ideal.nD Cert.Kernel36Ideal.τ).loc Cert.Kernel36Ideal.main_arg5) = m ((c.tc : Thread Cert.Kernel36Ideal.nD Cert.Kernel36Ideal.τ).loc Cert.Kernel36Ideal.main_arg5)
          ∧ r.2.mem ((c.tc : Thread Cert.Kernel36Ideal.nD Cert.Kernel36Ideal.τ).loc Cert.Kernel36Ideal.main_arg6) = m ((c.tc : Thread Cert.Kernel36Ideal.nD Cert.Kernel36Ideal.τ).loc Cert.Kernel36Ideal.main_arg6)
          ∧ r.2.mem ((c.tc : Thread Cert.Kernel36Ideal.nD Cert.Kernel36Ideal.τ).loc Cert.Kernel36Ideal.main_arg7) = m ((c.tc : Thread Cert.Kernel36Ideal.nD Cert.Kernel36Ideal.τ).loc Cert.Kernel36Ideal.main_arg7)
          ∧ r.2.mem ((c.tc : Thread Cert.Kernel36Ideal.nD Cert.Kernel36Ideal.τ).loc Cert.Kernel36Ideal.main_arg8) = m ((c.tc : Thread Cert.Kernel36Ideal.nD Cert.Kernel36Ideal.τ).loc Cert.Kernel36Ideal.main_arg8)
          ∧ r.2.mem ((c.tc : Thread Cert.Kernel36Ideal.nD Cert.Kernel36Ideal.τ).loc Cert.Kernel36Ideal.main_arg9) = m ((c.tc : Thread Cert.Kernel36Ideal.nD Cert.Kernel36Ideal.τ).loc Cert.Kernel36Ideal.main_arg9))
      ∧ θ_run (Cert.Reference36Ideal.defs (F := Ideal)) (onTc (τ := Cert.Reference36Ideal.τ) (Cert.Reference36Ideal.main (F := Ideal))) ⟨m', fun _ => 0, g'⟩ (fun r => ∀ c : Dev Cert.Reference36Ideal.nD,
          r.2.mem ((c.tc : Thread Cert.Reference36Ideal.nD Cert.Reference36Ideal.τ).loc Cert.Reference36Ideal.main_v35) = v0 c
          ∧ r.2.mem ((c.tc : Thread Cert.Reference36Ideal.nD Cert.Reference36Ideal.τ).loc Cert.Reference36Ideal.main_v37) = v1 c
          ∧ r.2.mem ((c.tc : Thread Cert.Reference36Ideal.nD Cert.Reference36Ideal.τ).loc Cert.Reference36Ideal.main_v39) = v2 c
          ∧ r.2.mem ((c.tc : Thread Cert.Reference36Ideal.nD Cert.Reference36Ideal.τ).loc Cert.Reference36Ideal.main_v41) = v3 c
          ∧ r.2.mem ((c.tc : Thread Cert.Reference36Ideal.nD Cert.Reference36Ideal.τ).loc Cert.Reference36Ideal.main_arg0) = m' ((c.tc : Thread Cert.Reference36Ideal.nD Cert.Reference36Ideal.τ).loc Cert.Reference36Ideal.main_arg0)
          ∧ r.2.mem ((c.tc : Thread Cert.Reference36Ideal.nD Cert.Reference36Ideal.τ).loc Cert.Reference36Ideal.main_arg1) = m' ((c.tc : Thread Cert.Reference36Ideal.nD Cert.Reference36Ideal.τ).loc Cert.Reference36Ideal.main_arg1)
          ∧ r.2.mem ((c.tc : Thread Cert.Reference36Ideal.nD Cert.Reference36Ideal.τ).loc Cert.Reference36Ideal.main_arg2) = m' ((c.tc : Thread Cert.Reference36Ideal.nD Cert.Reference36Ideal.τ).loc Cert.Reference36Ideal.main_arg2)
          ∧ r.2.mem ((c.tc : Thread Cert.Reference36Ideal.nD Cert.Reference36Ideal.τ).loc Cert.Reference36Ideal.main_arg3) = m' ((c.tc : Thread Cert.Reference36Ideal.nD Cert.Reference36Ideal.τ).loc Cert.Reference36Ideal.main_arg3)
          ∧ r.2.mem ((c.tc : Thread Cert.Reference36Ideal.nD Cert.Reference36Ideal.τ).loc Cert.Reference36Ideal.main_arg4) = m' ((c.tc : Thread Cert.Reference36Ideal.nD Cert.Reference36Ideal.τ).loc Cert.Reference36Ideal.main_arg4)
          ∧ r.2.mem ((c.tc : Thread Cert.Reference36Ideal.nD Cert.Reference36Ideal.τ).loc Cert.Reference36Ideal.main_arg5) = m' ((c.tc : Thread Cert.Reference36Ideal.nD Cert.Reference36Ideal.τ).loc Cert.Reference36Ideal.main_arg5)
          ∧ r.2.mem ((c.tc : Thread Cert.Reference36Ideal.nD Cert.Reference36Ideal.τ).loc Cert.Reference36Ideal.main_arg6) = m' ((c.tc : Thread Cert.Reference36Ideal.nD Cert.Reference36Ideal.τ).loc Cert.Reference36Ideal.main_arg6)
          ∧ r.2.mem ((c.tc : Thread Cert.Reference36Ideal.nD Cert.Reference36Ideal.τ).loc Cert.Reference36Ideal.main_arg7) = m' ((c.tc : Thread Cert.Reference36Ideal.nD Cert.Reference36Ideal.τ).loc Cert.Reference36Ideal.main_arg7)
          ∧ r.2.mem ((c.tc : Thread Cert.Reference36Ideal.nD Cert.Reference36Ideal.τ).loc Cert.Reference36Ideal.main_arg8) = m' ((c.tc : Thread Cert.Reference36Ideal.nD Cert.Reference36Ideal.τ).loc Cert.Reference36Ideal.main_arg8)
          ∧ r.2.mem ((c.tc : Thread Cert.Reference36Ideal.nD Cert.Reference36Ideal.τ).loc Cert.Reference36Ideal.main_arg9) = m' ((c.tc : Thread Cert.Reference36Ideal.nD Cert.Reference36Ideal.τ).loc Cert.Reference36Ideal.main_arg9))

def preserves_Kernel37_Kernel37Ideal : Prop :=
  True

def algebraic_Kernel37Ideal_Reference37Ideal [hKernel37Ideal : Cert.Kernel37Ideal.Facts] [hReference37Ideal : Cert.Reference37Ideal.Facts] : Prop :=
  ∀ (m : (ℓ : Loc Cert.Kernel37Ideal.nD Cert.Kernel37Ideal.τ Cert.Kernel37Ideal.sig) → Buf (Elt Ideal) ℓ) (g : Dev Cert.Kernel37Ideal.nD → PrngReg)
    (m' : (ℓ : Loc Cert.Reference37Ideal.nD Cert.Reference37Ideal.τ Cert.Reference37Ideal.sig) → Buf (Elt Ideal) ℓ) (g' : Dev Cert.Reference37Ideal.nD → PrngReg), Pre_Kernel37Ideal m →
    (∀ c : Dev Cert.Kernel37Ideal.nD,
      m' ((c.tc : Thread Cert.Reference37Ideal.nD Cert.Reference37Ideal.τ).loc Cert.Reference37Ideal.main_arg0) = m ((c.tc : Thread Cert.Kernel37Ideal.nD Cert.Kernel37Ideal.τ).loc Cert.Kernel37Ideal.main_arg0)
      ∧ m' ((c.tc : Thread Cert.Reference37Ideal.nD Cert.Reference37Ideal.τ).loc Cert.Reference37Ideal.main_arg1) = m ((c.tc : Thread Cert.Kernel37Ideal.nD Cert.Kernel37Ideal.τ).loc Cert.Kernel37Ideal.main_arg1)
      ∧ m' ((c.tc : Thread Cert.Reference37Ideal.nD Cert.Reference37Ideal.τ).loc Cert.Reference37Ideal.main_arg2) = m ((c.tc : Thread Cert.Kernel37Ideal.nD Cert.Kernel37Ideal.τ).loc Cert.Kernel37Ideal.main_arg2)
      ∧ m' ((c.tc : Thread Cert.Reference37Ideal.nD Cert.Reference37Ideal.τ).loc Cert.Reference37Ideal.main_arg3) = m ((c.tc : Thread Cert.Kernel37Ideal.nD Cert.Kernel37Ideal.τ).loc Cert.Kernel37Ideal.main_arg3)
      ∧ m' ((c.tc : Thread Cert.Reference37Ideal.nD Cert.Reference37Ideal.τ).loc Cert.Reference37Ideal.main_arg4) = m ((c.tc : Thread Cert.Kernel37Ideal.nD Cert.Kernel37Ideal.τ).loc Cert.Kernel37Ideal.main_arg4)
      ∧ m' ((c.tc : Thread Cert.Reference37Ideal.nD Cert.Reference37Ideal.τ).loc Cert.Reference37Ideal.main_arg5) = m ((c.tc : Thread Cert.Kernel37Ideal.nD Cert.Kernel37Ideal.τ).loc Cert.Kernel37Ideal.main_arg5)) →
    ∃ (v0 : (c : Dev Cert.Kernel37Ideal.nD) → Buf (Elt Ideal) ((c.tc : Thread Cert.Kernel37Ideal.nD Cert.Kernel37Ideal.τ).loc Cert.Kernel37Ideal.main_v1)) (v1 : (c : Dev Cert.Kernel37Ideal.nD) → Buf (Elt Ideal) ((c.tc : Thread Cert.Kernel37Ideal.nD Cert.Kernel37Ideal.τ).loc Cert.Kernel37Ideal.main_v2)) (v2 : (c : Dev Cert.Kernel37Ideal.nD) → Buf (Elt Ideal) ((c.tc : Thread Cert.Kernel37Ideal.nD Cert.Kernel37Ideal.τ).loc Cert.Kernel37Ideal.main_v3)) (v3 : (c : Dev Cert.Kernel37Ideal.nD) → Buf (Elt Ideal) ((c.tc : Thread Cert.Kernel37Ideal.nD Cert.Kernel37Ideal.τ).loc Cert.Kernel37Ideal.main_v4)),
      θ_run (Cert.Kernel37Ideal.defs (F := Ideal)) (onTc (τ := Cert.Kernel37Ideal.τ) (Cert.Kernel37Ideal.main (F := Ideal))) ⟨m, fun _ => 0, g⟩ (fun r => ∀ c : Dev Cert.Kernel37Ideal.nD,
          r.2.mem ((c.tc : Thread Cert.Kernel37Ideal.nD Cert.Kernel37Ideal.τ).loc Cert.Kernel37Ideal.main_v1) = v0 c
          ∧ r.2.mem ((c.tc : Thread Cert.Kernel37Ideal.nD Cert.Kernel37Ideal.τ).loc Cert.Kernel37Ideal.main_v2) = v1 c
          ∧ r.2.mem ((c.tc : Thread Cert.Kernel37Ideal.nD Cert.Kernel37Ideal.τ).loc Cert.Kernel37Ideal.main_v3) = v2 c
          ∧ r.2.mem ((c.tc : Thread Cert.Kernel37Ideal.nD Cert.Kernel37Ideal.τ).loc Cert.Kernel37Ideal.main_v4) = v3 c
          ∧ r.2.mem ((c.tc : Thread Cert.Kernel37Ideal.nD Cert.Kernel37Ideal.τ).loc Cert.Kernel37Ideal.main_arg0) = m ((c.tc : Thread Cert.Kernel37Ideal.nD Cert.Kernel37Ideal.τ).loc Cert.Kernel37Ideal.main_arg0)
          ∧ r.2.mem ((c.tc : Thread Cert.Kernel37Ideal.nD Cert.Kernel37Ideal.τ).loc Cert.Kernel37Ideal.main_arg1) = m ((c.tc : Thread Cert.Kernel37Ideal.nD Cert.Kernel37Ideal.τ).loc Cert.Kernel37Ideal.main_arg1)
          ∧ r.2.mem ((c.tc : Thread Cert.Kernel37Ideal.nD Cert.Kernel37Ideal.τ).loc Cert.Kernel37Ideal.main_arg2) = m ((c.tc : Thread Cert.Kernel37Ideal.nD Cert.Kernel37Ideal.τ).loc Cert.Kernel37Ideal.main_arg2)
          ∧ r.2.mem ((c.tc : Thread Cert.Kernel37Ideal.nD Cert.Kernel37Ideal.τ).loc Cert.Kernel37Ideal.main_arg3) = m ((c.tc : Thread Cert.Kernel37Ideal.nD Cert.Kernel37Ideal.τ).loc Cert.Kernel37Ideal.main_arg3)
          ∧ r.2.mem ((c.tc : Thread Cert.Kernel37Ideal.nD Cert.Kernel37Ideal.τ).loc Cert.Kernel37Ideal.main_arg4) = m ((c.tc : Thread Cert.Kernel37Ideal.nD Cert.Kernel37Ideal.τ).loc Cert.Kernel37Ideal.main_arg4)
          ∧ r.2.mem ((c.tc : Thread Cert.Kernel37Ideal.nD Cert.Kernel37Ideal.τ).loc Cert.Kernel37Ideal.main_arg5) = m ((c.tc : Thread Cert.Kernel37Ideal.nD Cert.Kernel37Ideal.τ).loc Cert.Kernel37Ideal.main_arg5))
      ∧ θ_run (Cert.Reference37Ideal.defs (F := Ideal)) (onTc (τ := Cert.Reference37Ideal.τ) (Cert.Reference37Ideal.main (F := Ideal))) ⟨m', fun _ => 0, g'⟩ (fun r => ∀ c : Dev Cert.Reference37Ideal.nD,
          r.2.mem ((c.tc : Thread Cert.Reference37Ideal.nD Cert.Reference37Ideal.τ).loc Cert.Reference37Ideal.main_v6) = v0 c
          ∧ r.2.mem ((c.tc : Thread Cert.Reference37Ideal.nD Cert.Reference37Ideal.τ).loc Cert.Reference37Ideal.main_v33) = v1 c
          ∧ r.2.mem ((c.tc : Thread Cert.Reference37Ideal.nD Cert.Reference37Ideal.τ).loc Cert.Reference37Ideal.main_v14) = v2 c
          ∧ r.2.mem ((c.tc : Thread Cert.Reference37Ideal.nD Cert.Reference37Ideal.τ).loc Cert.Reference37Ideal.main_v20) = v3 c
          ∧ r.2.mem ((c.tc : Thread Cert.Reference37Ideal.nD Cert.Reference37Ideal.τ).loc Cert.Reference37Ideal.main_arg0) = m' ((c.tc : Thread Cert.Reference37Ideal.nD Cert.Reference37Ideal.τ).loc Cert.Reference37Ideal.main_arg0)
          ∧ r.2.mem ((c.tc : Thread Cert.Reference37Ideal.nD Cert.Reference37Ideal.τ).loc Cert.Reference37Ideal.main_arg1) = m' ((c.tc : Thread Cert.Reference37Ideal.nD Cert.Reference37Ideal.τ).loc Cert.Reference37Ideal.main_arg1)
          ∧ r.2.mem ((c.tc : Thread Cert.Reference37Ideal.nD Cert.Reference37Ideal.τ).loc Cert.Reference37Ideal.main_arg2) = m' ((c.tc : Thread Cert.Reference37Ideal.nD Cert.Reference37Ideal.τ).loc Cert.Reference37Ideal.main_arg2)
          ∧ r.2.mem ((c.tc : Thread Cert.Reference37Ideal.nD Cert.Reference37Ideal.τ).loc Cert.Reference37Ideal.main_arg3) = m' ((c.tc : Thread Cert.Reference37Ideal.nD Cert.Reference37Ideal.τ).loc Cert.Reference37Ideal.main_arg3)
          ∧ r.2.mem ((c.tc : Thread Cert.Reference37Ideal.nD Cert.Reference37Ideal.τ).loc Cert.Reference37Ideal.main_arg4) = m' ((c.tc : Thread Cert.Reference37Ideal.nD Cert.Reference37Ideal.τ).loc Cert.Reference37Ideal.main_arg4)
          ∧ r.2.mem ((c.tc : Thread Cert.Reference37Ideal.nD Cert.Reference37Ideal.τ).loc Cert.Reference37Ideal.main_arg5) = m' ((c.tc : Thread Cert.Reference37Ideal.nD Cert.Reference37Ideal.τ).loc Cert.Reference37Ideal.main_arg5))

def preserves_Kernel38_Kernel38Ideal : Prop :=
  True

def algebraic_Kernel38Ideal_Reference38Ideal [hKernel38Ideal : Cert.Kernel38Ideal.Facts] [hReference38Ideal : Cert.Reference38Ideal.Facts] : Prop :=
  ∀ (m : (ℓ : Loc Cert.Kernel38Ideal.nD Cert.Kernel38Ideal.τ Cert.Kernel38Ideal.sig) → Buf (Elt Ideal) ℓ) (g : Dev Cert.Kernel38Ideal.nD → PrngReg)
    (m' : (ℓ : Loc Cert.Reference38Ideal.nD Cert.Reference38Ideal.τ Cert.Reference38Ideal.sig) → Buf (Elt Ideal) ℓ) (g' : Dev Cert.Reference38Ideal.nD → PrngReg), Pre_Kernel38Ideal m →
    (∀ c : Dev Cert.Kernel38Ideal.nD,
      m' ((c.tc : Thread Cert.Reference38Ideal.nD Cert.Reference38Ideal.τ).loc Cert.Reference38Ideal.main_arg0) = m ((c.tc : Thread Cert.Kernel38Ideal.nD Cert.Kernel38Ideal.τ).loc Cert.Kernel38Ideal.main_arg0)
      ∧ m' ((c.tc : Thread Cert.Reference38Ideal.nD Cert.Reference38Ideal.τ).loc Cert.Reference38Ideal.main_arg1) = m ((c.tc : Thread Cert.Kernel38Ideal.nD Cert.Kernel38Ideal.τ).loc Cert.Kernel38Ideal.main_arg1)
      ∧ m' ((c.tc : Thread Cert.Reference38Ideal.nD Cert.Reference38Ideal.τ).loc Cert.Reference38Ideal.main_arg2) = m ((c.tc : Thread Cert.Kernel38Ideal.nD Cert.Kernel38Ideal.τ).loc Cert.Kernel38Ideal.main_arg2)
      ∧ m' ((c.tc : Thread Cert.Reference38Ideal.nD Cert.Reference38Ideal.τ).loc Cert.Reference38Ideal.main_arg3) = m ((c.tc : Thread Cert.Kernel38Ideal.nD Cert.Kernel38Ideal.τ).loc Cert.Kernel38Ideal.main_arg3)
      ∧ m' ((c.tc : Thread Cert.Reference38Ideal.nD Cert.Reference38Ideal.τ).loc Cert.Reference38Ideal.main_arg4) = m ((c.tc : Thread Cert.Kernel38Ideal.nD Cert.Kernel38Ideal.τ).loc Cert.Kernel38Ideal.main_arg4)
      ∧ m' ((c.tc : Thread Cert.Reference38Ideal.nD Cert.Reference38Ideal.τ).loc Cert.Reference38Ideal.main_arg5) = m ((c.tc : Thread Cert.Kernel38Ideal.nD Cert.Kernel38Ideal.τ).loc Cert.Kernel38Ideal.main_arg5)) →
    ∃ (v0 : (c : Dev Cert.Kernel38Ideal.nD) → Buf (Elt Ideal) ((c.tc : Thread Cert.Kernel38Ideal.nD Cert.Kernel38Ideal.τ).loc Cert.Kernel38Ideal.main_v1)) (v1 : (c : Dev Cert.Kernel38Ideal.nD) → Buf (Elt Ideal) ((c.tc : Thread Cert.Kernel38Ideal.nD Cert.Kernel38Ideal.τ).loc Cert.Kernel38Ideal.main_v2)) (v2 : (c : Dev Cert.Kernel38Ideal.nD) → Buf (Elt Ideal) ((c.tc : Thread Cert.Kernel38Ideal.nD Cert.Kernel38Ideal.τ).loc Cert.Kernel38Ideal.main_v3)) (v3 : (c : Dev Cert.Kernel38Ideal.nD) → Buf (Elt Ideal) ((c.tc : Thread Cert.Kernel38Ideal.nD Cert.Kernel38Ideal.τ).loc Cert.Kernel38Ideal.main_v4)),
      θ_run (Cert.Kernel38Ideal.defs (F := Ideal)) (onTc (τ := Cert.Kernel38Ideal.τ) (Cert.Kernel38Ideal.main (F := Ideal))) ⟨m, fun _ => 0, g⟩ (fun r => ∀ c : Dev Cert.Kernel38Ideal.nD,
          r.2.mem ((c.tc : Thread Cert.Kernel38Ideal.nD Cert.Kernel38Ideal.τ).loc Cert.Kernel38Ideal.main_v1) = v0 c
          ∧ r.2.mem ((c.tc : Thread Cert.Kernel38Ideal.nD Cert.Kernel38Ideal.τ).loc Cert.Kernel38Ideal.main_v2) = v1 c
          ∧ r.2.mem ((c.tc : Thread Cert.Kernel38Ideal.nD Cert.Kernel38Ideal.τ).loc Cert.Kernel38Ideal.main_v3) = v2 c
          ∧ r.2.mem ((c.tc : Thread Cert.Kernel38Ideal.nD Cert.Kernel38Ideal.τ).loc Cert.Kernel38Ideal.main_v4) = v3 c
          ∧ r.2.mem ((c.tc : Thread Cert.Kernel38Ideal.nD Cert.Kernel38Ideal.τ).loc Cert.Kernel38Ideal.main_arg0) = m ((c.tc : Thread Cert.Kernel38Ideal.nD Cert.Kernel38Ideal.τ).loc Cert.Kernel38Ideal.main_arg0)
          ∧ r.2.mem ((c.tc : Thread Cert.Kernel38Ideal.nD Cert.Kernel38Ideal.τ).loc Cert.Kernel38Ideal.main_arg1) = m ((c.tc : Thread Cert.Kernel38Ideal.nD Cert.Kernel38Ideal.τ).loc Cert.Kernel38Ideal.main_arg1)
          ∧ r.2.mem ((c.tc : Thread Cert.Kernel38Ideal.nD Cert.Kernel38Ideal.τ).loc Cert.Kernel38Ideal.main_arg2) = m ((c.tc : Thread Cert.Kernel38Ideal.nD Cert.Kernel38Ideal.τ).loc Cert.Kernel38Ideal.main_arg2)
          ∧ r.2.mem ((c.tc : Thread Cert.Kernel38Ideal.nD Cert.Kernel38Ideal.τ).loc Cert.Kernel38Ideal.main_arg3) = m ((c.tc : Thread Cert.Kernel38Ideal.nD Cert.Kernel38Ideal.τ).loc Cert.Kernel38Ideal.main_arg3)
          ∧ r.2.mem ((c.tc : Thread Cert.Kernel38Ideal.nD Cert.Kernel38Ideal.τ).loc Cert.Kernel38Ideal.main_arg4) = m ((c.tc : Thread Cert.Kernel38Ideal.nD Cert.Kernel38Ideal.τ).loc Cert.Kernel38Ideal.main_arg4)
          ∧ r.2.mem ((c.tc : Thread Cert.Kernel38Ideal.nD Cert.Kernel38Ideal.τ).loc Cert.Kernel38Ideal.main_arg5) = m ((c.tc : Thread Cert.Kernel38Ideal.nD Cert.Kernel38Ideal.τ).loc Cert.Kernel38Ideal.main_arg5))
      ∧ θ_run (Cert.Reference38Ideal.defs (F := Ideal)) (onTc (τ := Cert.Reference38Ideal.τ) (Cert.Reference38Ideal.main (F := Ideal))) ⟨m', fun _ => 0, g'⟩ (fun r => ∀ c : Dev Cert.Reference38Ideal.nD,
          r.2.mem ((c.tc : Thread Cert.Reference38Ideal.nD Cert.Reference38Ideal.τ).loc Cert.Reference38Ideal.main_v6) = v0 c
          ∧ r.2.mem ((c.tc : Thread Cert.Reference38Ideal.nD Cert.Reference38Ideal.τ).loc Cert.Reference38Ideal.main_v33) = v1 c
          ∧ r.2.mem ((c.tc : Thread Cert.Reference38Ideal.nD Cert.Reference38Ideal.τ).loc Cert.Reference38Ideal.main_v14) = v2 c
          ∧ r.2.mem ((c.tc : Thread Cert.Reference38Ideal.nD Cert.Reference38Ideal.τ).loc Cert.Reference38Ideal.main_v20) = v3 c
          ∧ r.2.mem ((c.tc : Thread Cert.Reference38Ideal.nD Cert.Reference38Ideal.τ).loc Cert.Reference38Ideal.main_arg0) = m' ((c.tc : Thread Cert.Reference38Ideal.nD Cert.Reference38Ideal.τ).loc Cert.Reference38Ideal.main_arg0)
          ∧ r.2.mem ((c.tc : Thread Cert.Reference38Ideal.nD Cert.Reference38Ideal.τ).loc Cert.Reference38Ideal.main_arg1) = m' ((c.tc : Thread Cert.Reference38Ideal.nD Cert.Reference38Ideal.τ).loc Cert.Reference38Ideal.main_arg1)
          ∧ r.2.mem ((c.tc : Thread Cert.Reference38Ideal.nD Cert.Reference38Ideal.τ).loc Cert.Reference38Ideal.main_arg2) = m' ((c.tc : Thread Cert.Reference38Ideal.nD Cert.Reference38Ideal.τ).loc Cert.Reference38Ideal.main_arg2)
          ∧ r.2.mem ((c.tc : Thread Cert.Reference38Ideal.nD Cert.Reference38Ideal.τ).loc Cert.Reference38Ideal.main_arg3) = m' ((c.tc : Thread Cert.Reference38Ideal.nD Cert.Reference38Ideal.τ).loc Cert.Reference38Ideal.main_arg3)
          ∧ r.2.mem ((c.tc : Thread Cert.Reference38Ideal.nD Cert.Reference38Ideal.τ).loc Cert.Reference38Ideal.main_arg4) = m' ((c.tc : Thread Cert.Reference38Ideal.nD Cert.Reference38Ideal.τ).loc Cert.Reference38Ideal.main_arg4)
          ∧ r.2.mem ((c.tc : Thread Cert.Reference38Ideal.nD Cert.Reference38Ideal.τ).loc Cert.Reference38Ideal.main_arg5) = m' ((c.tc : Thread Cert.Reference38Ideal.nD Cert.Reference38Ideal.τ).loc Cert.Reference38Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel25 : Cert.Kernel25.Facts) (hKernel25Ideal : Cert.Kernel25Ideal.Facts) (hReference25Ideal : Cert.Reference25Ideal.Facts) (hKernel27 : Cert.Kernel27.Facts) (hKernel27Ideal : Cert.Kernel27Ideal.Facts) (hReference27Ideal : Cert.Reference27Ideal.Facts) (hKernel30 : Cert.Kernel30.Facts) (hKernel30Ideal : Cert.Kernel30Ideal.Facts) (hReference30Ideal : Cert.Reference30Ideal.Facts) (hKernel31 : Cert.Kernel31.Facts) (hKernel31Ideal : Cert.Kernel31Ideal.Facts) (hReference31Ideal : Cert.Reference31Ideal.Facts) (hKernel32 : Cert.Kernel32.Facts) (hKernel32Ideal : Cert.Kernel32Ideal.Facts) (hReference32Ideal : Cert.Reference32Ideal.Facts) (hKernel35 : Cert.Kernel35.Facts) (hKernel35Ideal : Cert.Kernel35Ideal.Facts) (hReference35Ideal : Cert.Reference35Ideal.Facts) (hKernel36 : Cert.Kernel36.Facts) (hKernel36Ideal : Cert.Kernel36Ideal.Facts) (hReference36Ideal : Cert.Reference36Ideal.Facts) (hKernel37 : Cert.Kernel37.Facts) (hKernel37Ideal : Cert.Kernel37Ideal.Facts) (hReference37Ideal : Cert.Reference37Ideal.Facts) (hKernel38 : Cert.Kernel38.Facts) (hKernel38Ideal : Cert.Kernel38Ideal.Facts) (hReference38Ideal : Cert.Reference38Ideal.Facts) (hPre_finite_inputs : Cert.Pre_finite_inputs.Facts) (hPre_real_table : Cert.Pre_real_table.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel25 (hKernel25 := hKernel25)
    ∧ quiescent_Kernel25Ideal (hKernel25Ideal := hKernel25Ideal)
    ∧ quiescent_Kernel25Ideal_pre_real_table (hKernel25Ideal := hKernel25Ideal) (hPre_real_table := hPre_real_table)
    ∧ quiescent_Reference25Ideal (hReference25Ideal := hReference25Ideal)
    ∧ quiescent_Reference25Ideal_pre_real_table (hReference25Ideal := hReference25Ideal) (hPre_real_table := hPre_real_table)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel30 (hKernel30 := hKernel30)
    ∧ quiescent_Kernel30Ideal (hKernel30Ideal := hKernel30Ideal)
    ∧ quiescent_Reference30Ideal (hReference30Ideal := hReference30Ideal)
    ∧ quiescent_Kernel31 (hKernel31 := hKernel31)
    ∧ quiescent_Kernel31Ideal (hKernel31Ideal := hKernel31Ideal)
    ∧ quiescent_Reference31Ideal (hReference31Ideal := hReference31Ideal)
    ∧ quiescent_Kernel32 (hKernel32 := hKernel32)
    ∧ quiescent_Kernel32Ideal (hKernel32Ideal := hKernel32Ideal)
    ∧ quiescent_Reference32Ideal (hReference32Ideal := hReference32Ideal)
    ∧ quiescent_Kernel35 (hKernel35 := hKernel35)
    ∧ quiescent_Kernel35Ideal (hKernel35Ideal := hKernel35Ideal)
    ∧ quiescent_Reference35Ideal (hReference35Ideal := hReference35Ideal)
    ∧ quiescent_Kernel36 (hKernel36 := hKernel36)
    ∧ quiescent_Kernel36Ideal (hKernel36Ideal := hKernel36Ideal)
    ∧ quiescent_Reference36Ideal (hReference36Ideal := hReference36Ideal)
    ∧ quiescent_Kernel37 (hKernel37 := hKernel37)
    ∧ quiescent_Kernel37Ideal (hKernel37Ideal := hKernel37Ideal)
    ∧ quiescent_Reference37Ideal (hReference37Ideal := hReference37Ideal)
    ∧ quiescent_Kernel38 (hKernel38 := hKernel38)
    ∧ quiescent_Kernel38Ideal (hKernel38Ideal := hKernel38Ideal)
    ∧ quiescent_Reference38Ideal (hReference38Ideal := hReference38Ideal)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel25_Kernel25Ideal
    ∧ algebraic_Kernel25Ideal_Reference25Ideal_pre_real_table (hKernel25Ideal := hKernel25Ideal) (hReference25Ideal := hReference25Ideal) (hPre_real_table := hPre_real_table)
    ∧ preserves_Kernel27_Kernel27Ideal
    ∧ algebraic_Kernel27Ideal_Reference27Ideal (hKernel27Ideal := hKernel27Ideal) (hReference27Ideal := hReference27Ideal)
    ∧ preserves_Kernel30_Kernel30Ideal
    ∧ algebraic_Kernel30Ideal_Reference30Ideal (hKernel30Ideal := hKernel30Ideal) (hReference30Ideal := hReference30Ideal)
    ∧ preserves_Kernel31_Kernel31Ideal
    ∧ algebraic_Kernel31Ideal_Reference31Ideal (hKernel31Ideal := hKernel31Ideal) (hReference31Ideal := hReference31Ideal)
    ∧ preserves_Kernel32_Kernel32Ideal
    ∧ algebraic_Kernel32Ideal_Reference32Ideal (hKernel32Ideal := hKernel32Ideal) (hReference32Ideal := hReference32Ideal)
    ∧ preserves_Kernel35_Kernel35Ideal
    ∧ algebraic_Kernel35Ideal_Reference35Ideal (hKernel35Ideal := hKernel35Ideal) (hReference35Ideal := hReference35Ideal)
    ∧ preserves_Kernel36_Kernel36Ideal
    ∧ algebraic_Kernel36Ideal_Reference36Ideal (hKernel36Ideal := hKernel36Ideal) (hReference36Ideal := hReference36Ideal)
    ∧ preserves_Kernel37_Kernel37Ideal
    ∧ algebraic_Kernel37Ideal_Reference37Ideal (hKernel37Ideal := hKernel37Ideal) (hReference37Ideal := hReference37Ideal)
    ∧ preserves_Kernel38_Kernel38Ideal
    ∧ algebraic_Kernel38Ideal_Reference38Ideal (hKernel38Ideal := hKernel38Ideal) (hReference38Ideal := hReference38Ideal)
-- ==== Pre_finite_inputs.lean ====
abbrev S4096x8192 : Shape := ⟨2, ![4096, 8192]⟩
abbrev S1x2048 : Shape := ⟨2, ![1, 2048]⟩
abbrev S4096x2048 : Shape := ⟨2, ![4096, 2048]⟩
abbrev S_ : Shape := ⟨0, ![]⟩

class Facts : Prop where
  bcast_S_S4096x8192 : S_.BroadcastsInDim S4096x8192 (![] : Fin 0 → Fin S4096x8192.rank)
  reducesTo_S4096x8192_S_d0_1 : S4096x8192.ReducesTo [0, 1] S_
  h_S_ : 0 < S_.numel
  bcast_S_S4096x2048 : S_.BroadcastsInDim S4096x2048 (![] : Fin 0 → Fin S4096x2048.rank)
  reducesTo_S4096x2048_S_d0_1 : S4096x2048.ReducesTo [0, 1] S_
  bcast_S_S1x2048 : S_.BroadcastsInDim S1x2048 (![] : Fin 0 → Fin S1x2048.rank)
  reducesTo_S1x2048_S_d0_1 : S1x2048.ReducesTo [0, 1] S_

variable [Facts]

def fn_part1 {F : FTy → Type} [FloatOps F] (main_v13 : IVec S_ 1) (main_v15 : IVec S1x2048 1) (main_c_5 : IVec S_ 1) : IVec S_ 1 :=
  let main_v16 : IVec S_ 1 := (fun x v => Host.reduce IntOp.andi x v reducesTo_S1x2048_S_d0_1 h_S_) main_v15 main_c_5
  let main_v17 : IVec S_ 1 := andi main_v13 main_v16
  main_v17

def fn {F : FTy → Type} [FloatOps F] (main_arg0 : FVec F S4096x8192 .f32) (main_arg1 : FVec F S1x2048 .f32) (main_arg2 : FVec F S4096x2048 .f32) (main_arg3 : FVec F S4096x2048 .bf16) : IVec S_ 1 :=
  let main_v0 : FVec F S4096x8192 .f32 := Host.absf main_arg0
  let main_cst : FVec F S_ .f32 := constant S_ .f32 0x7F800000#32
  let main_v1 : FVec F S4096x8192 .f32 := broadcastInDim S4096x8192 ![] bcast_S_S4096x8192 main_cst
  let main_v2 : IVec S4096x8192 1 := cmpf .olt main_v0 main_v1
  let main_c : IVec S_ 1 := constantI S_ 1 1#1
  let main_v3 : IVec S_ 1 := (fun x v => Host.reduce IntOp.andi x v reducesTo_S4096x8192_S_d0_1 h_S_) main_v2 main_c
  let main_v4 : FVec F S4096x2048 .f32 := Host.absf main_arg2
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  let main_v9 : FVec F S1x2048 .f32 := Host.absf main_arg1
  let main_cst_2 : FVec F S_ .f32 := constant S_ .f32 0x7F800000#32
  let main_v10 : FVec F S1x2048 .f32 := broadcastInDim S1x2048 ![] bcast_S_S1x2048 main_cst_2
  let main_v11 : IVec S1x2048 1 := cmpf .olt main_v9 main_v10
  let main_c_3 : IVec S_ 1 := constantI S_ 1 1#1
  let main_v12 : IVec S_ 1 := (fun x v => Host.reduce IntOp.andi x v reducesTo_S1x2048_S_d0_1 h_S_) main_v11 main_c_3
  let main_v13 : IVec S_ 1 := andi main_v8 main_v12
  let main_cst_4 : FVec F S_ .f32 := constant S_ .f32 0x00000000#32
  let main_v14 : FVec F S1x2048 .f32 := broadcastInDim S1x2048 ![] bcast_S_S1x2048 main_cst_4
  let main_v15 : IVec S1x2048 1 := cmpf .oge main_arg1 main_v14
  let main_c_5 : IVec S_ 1 := constantI S_ 1 1#1
  fn_part1 (F := F) main_v13 main_v15 main_c_5
-- ==== Pre_real_table.lean ====
abbrev S3x2048 : Shape := ⟨2, ![3, 2048]⟩
abbrev S1x2048 : Shape := ⟨2, ![1, 2048]⟩
abbrev S_ : Shape := ⟨0, ![]⟩

class Facts : Prop where
  bcast_S_S3x2048 : S_.BroadcastsInDim S3x2048 (![] : Fin 0 → Fin S3x2048.rank)
  reducesTo_S3x2048_S_d0_1 : S3x2048.ReducesTo [0, 1] S_
  h_S_ : 0 < S_.numel

variable [Facts]

def fn {F : FTy → Type} [FloatOps F] (main_arg0 : FVec F S3x2048 .f32) (main_arg1 : FVec F S1x2048 .f32) : IVec S_ 1 :=
  let main_v0 : FVec F S3x2048 .f32 := Host.absf main_arg0
  let main_cst : FVec F S_ .f32 := constant S_ .f32 0x7F800000#32
  let main_v1 : FVec F S3x2048 .f32 := broadcastInDim S3x2048 ![] bcast_S_S3x2048 main_cst
  let main_v2 : IVec S3x2048 1 := cmpf .olt main_v0 main_v1
  let main_c : IVec S_ 1 := constantI S_ 1 1#1
  let main_v3 : IVec S_ 1 := (fun x v => Host.reduce IntOp.andi x v reducesTo_S3x2048_S_d0_1 h_S_) main_v2 main_c
  main_v3
-- ==== Kernel.lean ====
abbrev S4096x8192 : Shape := ⟨2, ![4096, 8192]⟩
abbrev S1x2048 : Shape := ⟨2, ![1, 2048]⟩
abbrev S4096x2048 : Shape := ⟨2, ![4096, 2048]⟩
abbrev S16x32x128x128 : Shape := ⟨4, ![16, 32, 128, 128]⟩
abbrev S4096x128 : Shape := ⟨2, ![4096, 128]⟩
abbrev S1x128 : Shape := ⟨2, ![1, 128]⟩
abbrev S1x32x128x128 : Shape := ⟨4, ![1, 32, 128, 128]⟩
abbrev S128x128 : Shape := ⟨2, ![128, 128]⟩
abbrev S1x128x128 : Shape := ⟨3, ![1, 128, 128]⟩
abbrev S1x1x128 : Shape := ⟨3, ![1, 1, 128]⟩
abbrev S2x64x128 : Shape := ⟨3, ![2, 64, 128]⟩
abbrev S2x1x128 : Shape := ⟨3, ![2, 1, 128]⟩
abbrev S4x32x128 : Shape := ⟨3, ![4, 32, 128]⟩
abbrev S4x1x128 : Shape := ⟨3, ![4, 1, 128]⟩
abbrev S8x16x128 : Shape := ⟨3, ![8, 16, 128]⟩
abbrev S8x1x128 : Shape := ⟨3, ![8, 1, 128]⟩
abbrev S16x8x128 : Shape := ⟨3, ![16, 8, 128]⟩
abbrev S16x1x128 : Shape := ⟨3, ![16, 1, 128]⟩
abbrev S128 : Shape := ⟨1, ![128]⟩
abbrev S128x1 : Shape := ⟨2, ![128, 1]⟩
abbrev S1x1x128x128 : Shape := ⟨4, ![1, 1, 128, 128]⟩
abbrev S4x4096x2048 : Shape := ⟨3, ![4, 4096, 2048]⟩
abbrev S8x2048 : Shape := ⟨2, ![8, 2048]⟩
abbrev S4x4096x128 : Shape := ⟨3, ![4, 4096, 128]⟩
abbrev S8x128 : Shape := ⟨2, ![8, 128]⟩
abbrev S1x4096x128 : Shape := ⟨3, ![1, 4096, 128]⟩

abbrev nBuf : Space → Nat
  | .hbm => 8
  | .vmem => 30
  | .smem => 0
  | _ => 0

abbrev bufTy : (tb : Table) → Fin (tcTables nBuf tb) → BufTy
  | .hbm, ⟨0, _⟩ => ⟨S4096x8192, .f32⟩
  | .hbm, ⟨1, _⟩ => ⟨S1x2048, .f32⟩
  | .hbm, ⟨2, _⟩ => ⟨S4096x2048, .f32⟩
  | .hbm, ⟨3, _⟩ => ⟨S4096x2048, .bf16⟩
  | .hbm, ⟨4, _⟩ => ⟨S4096x2048, .f32⟩
  | .hbm, ⟨5, _⟩ => ⟨S16x32x128x128, .f32⟩
  | .hbm, ⟨6, _⟩ => ⟨S4x4096x2048, .bf16⟩
  | .hbm, ⟨7, _⟩ => ⟨S8x2048, .f32⟩
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | .local _ .vmem, ⟨4, _⟩ => ⟨S4096x128, .f32⟩
  | .local _ .vmem, ⟨5, _⟩ => ⟨S4096x128, .f32⟩
  | .local _ .vmem, ⟨6, _⟩ => ⟨S1x128, .f32⟩
  | .local _ .vmem, ⟨7, _⟩ => ⟨S1x128, .f32⟩
  | .local _ .vmem, ⟨8, _⟩ => ⟨S4096x128, .f32⟩
  | .local _ .vmem, ⟨9, _⟩ => ⟨S4096x128, .f32⟩
  | .local _ .vmem, ⟨10, _⟩ => ⟨S1x32x128x128, .f32⟩
  | .local _ .vmem, ⟨11, _⟩ => ⟨S1x32x128x128, .f32⟩
  | .local _ .vmem, ⟨12, _⟩ => ⟨S4096x128, .f32⟩
  | .local _ .vmem, ⟨13, _⟩ => ⟨S4096x128, .f32⟩
  | .local _ .vmem, ⟨14, _⟩ => ⟨S4096x128, .f32⟩
  | .local _ .vmem, ⟨15, _⟩ => ⟨S4096x128, .f32⟩
  | .local _ .vmem, ⟨16, _⟩ => ⟨S4096x128, .f32⟩
  | .local _ .vmem, ⟨17, _⟩ => ⟨S4096x128, .f32⟩
  | .local _ .vmem, ⟨18, _⟩ => ⟨S1x128, .f32⟩
  | .local _ .vmem, ⟨19, _⟩ => ⟨S1x128, .f32⟩
  | .local _ .vmem, ⟨20, _⟩ => ⟨S1x32x128x128, .f32⟩
  | .local _ .vmem, ⟨21, _⟩ => ⟨S1x32x128x128, .f32⟩
  | .local _ .vmem, ⟨22, _⟩ => ⟨S4096x128, .f32⟩
  | .local _ .vmem, ⟨23, _⟩ => ⟨S4096x128, .f32⟩
  | .local _ .vmem, ⟨24, _⟩ => ⟨S4096x128, .bf16⟩
  | .local _ .vmem, ⟨25, _⟩ => ⟨S4096x128, .bf16⟩
  | .local _ .vmem, ⟨26, _⟩ => ⟨S4x4096x128, .bf16⟩
  | .local _ .vmem, ⟨27, _⟩ => ⟨S4x4096x128, .bf16⟩
  | .local _ .vmem, ⟨28, _⟩ => ⟨S8x128, .f32⟩
  | .local _ .vmem, ⟨29, _⟩ => ⟨S8x128, .f32⟩
  | _, _ => ⟨S4096x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg4_1 : Ref sig .tc := ⟨.vmem, 21, rfl⟩
abbrev cc1_stg5_0 : Ref sig .tc := ⟨.vmem, 22, rfl⟩
abbrev cc1_stg5_1 : Ref sig .tc := ⟨.vmem, 23, rfl⟩
abbrev cc1_stg6_0 : Ref sig .tc := ⟨.vmem, 24, rfl⟩
abbrev cc1_stg6_1 : Ref sig .tc := ⟨.vmem, 25, rfl⟩
abbrev cc1_stg7_0 : Ref sig .tc := ⟨.vmem, 26, rfl⟩
abbrev cc1_stg7_1 : Ref sig .tc := ⟨.vmem, 27, rfl⟩
abbrev cc1_stg8_0 : Ref sig .tc := ⟨.vmem, 28, rfl⟩
abbrev cc1_stg8_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem4_1 : DmaSem sig := 21
abbrev cc1_sem5_0 : DmaSem sig := 22
abbrev cc1_sem5_1 : DmaSem sig := 23
abbrev cc1_sem6_0 : DmaSem sig := 24
abbrev cc1_sem6_1 : DmaSem sig := 25
abbrev cc1_sem7_0 : DmaSem sig := 26
abbrev cc1_sem7_1 : DmaSem sig := 27
abbrev cc1_sem8_0 : DmaSem sig := 28
abbrev cc1_sem8_1 : DmaSem sig := 29

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c8_i32 : BitVec 32 := 8#32
  let v5 : BitVec 32 := Scalar.addi c0_i32 c8_i32
  let c1_i32 : BitVec 32 := 1#32
  ⟨c0_i32, v5, c1_i32⟩
def k0_mult1 (k0_t1 : Fin k0_t1_loop.trips) : BitVec 32 :=
  let c4_i32 : BitVec 32 := 4#32
  let c0_i32 : BitVec 32 := 0#32
  let c1_i32 : BitVec 32 := 1#32
  let arg7 : BitVec 32 := Scf.iv c0_i32 c1_i32 k0_t1
  let v7 : BitVec 32 := Scalar.muli c4_i32 arg7
  let c0_i32_2 : BitVec 32 := 0#32
  let v8 : BitVec 32 := Scalar.addi v7 c0_i32_2
  let c128_i32 : BitVec 32 := 128#32
  let v9 : BitVec 32 := Scalar.muli v8 c128_i32
  v9
def k0_off1 (k0_t1 : Fin k0_t1_loop.trips) (c0_i32_2 : BitVec 32) : Fin 2 → Nat :=
  let c4_i32 : BitVec 32 := 4#32
  let c0_i32 : BitVec 32 := 0#32
  let c1_i32 : BitVec 32 := 1#32
  let arg7 : BitVec 32 := Scf.iv c0_i32 c1_i32 k0_t1
  let v7 : BitVec 32 := Scalar.muli c4_i32 arg7
  let v8 : BitVec 32 := Scalar.addi v7 c0_i32_2
  let c128_i32 : BitVec 32 := 128#32
  let v9 : BitVec 32 := Scalar.muli v8 c128_i32
  let v10 : BitVec 32 := v9
  let v11 : Index := Scalar.indexCast v10
  let c0_3 : Index := 0#32
  ![v11.toNat, 0]
def k0_off2 (k0_t1 : Fin k0_t1_loop.trips) (c0_i32_2 : BitVec 32) : Fin 4 → Nat :=
  let c0_84 : Index := 0#32
  let c4_i32 : BitVec 32 := 4#32
  let c0_i32 : BitVec 32 := 0#32
  let c1_i32 : BitVec 32 := 1#32
  let arg7 : BitVec 32 := Scf.iv c0_i32 c1_i32 k0_t1
  let v7 : BitVec 32 := Scalar.muli c4_i32 arg7
  let v8 : BitVec 32 := Scalar.addi v7 c0_i32_2
  let v295 : Index := Scalar.indexCast v8
  let c0_85 : Index := 0#32
  let c0_86 : Index := 0#32
  ![0, v295.toNat, 0, 0]
def k0_mult2 (k0_t1 : Fin k0_t1_loop.trips) : BitVec 32 :=
  let c4_i32_91 : BitVec 32 := 4#32
  let c0_i32 : BitVec 32 := 0#32
  let c1_i32 : BitVec 32 := 1#32
  let arg7 : BitVec 32 := Scf.iv c0_i32 c1_i32 k0_t1
  let v311 : BitVec 32 := Scalar.muli c4_i32_91 arg7
  let c1_i32_92 : BitVec 32 := 1#32
  let v312 : BitVec 32 := Scalar.addi v311 c1_i32_92
  let c128_i32_93 : BitVec 32 := 128#32
  let v313 : BitVec 32 := Scalar.muli v312 c128_i32_93
  v313
def k0_mult3 (k0_t1 : Fin k0_t1_loop.trips) : BitVec 32 :=
  let c4_i32_186 : BitVec 32 := 4#32
  let c0_i32 : BitVec 32 := 0#32
  let c1_i32 : BitVec 32 := 1#32
  let arg7 : BitVec 32 := Scf.iv c0_i32 c1_i32 k0_t1
  let v615 : BitVec 32 := Scalar.muli c4_i32_186 arg7
  let c2_i32_187 : BitVec 32 := 2#32
  let v616 : BitVec 32 := Scalar.addi v615 c2_i32_187
  let c128_i32_188 : BitVec 32 := 128#32
  let v617 : BitVec 32 := Scalar.muli v616 c128_i32_188
  v617
def k0_mult4 (k0_t1 : Fin k0_t1_loop.trips) : BitVec 32 :=
  let c4_i32_281 : BitVec 32 := 4#32
  let c0_i32 : BitVec 32 := 0#32
  let c1_i32 : BitVec 32 := 1#32
  let arg7 : BitVec 32 := Scf.iv c0_i32 c1_i32 k0_t1
  let v919 : BitVec 32 := Scalar.muli c4_i32_281 arg7
  let c3_i32 : BitVec 32 := 3#32
  let v920 : BitVec 32 := Scalar.addi v919 c3_i32
  let c128_i32_282 : BitVec 32 := 128#32
  let v921 : BitVec 32 := Scalar.muli v920 c128_i32_282
  v921
def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c32_i32 : BitVec 32 := 32#32
  let v0 : BitVec 32 := Scalar.addi c32_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4096x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x32x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![16], ![false]⟩

@[reducible] def k1_t1_loop : Scf.Loop 32 :=
  let c0_i32_6 : BitVec 32 := 0#32
  let c16_i32 : BitVec 32 := 16#32
  let v12 : BitVec 32 := Scalar.addi c0_i32_6 c16_i32
  let c1_i32_7 : BitVec 32 := 1#32
  ⟨c0_i32_6, v12, c1_i32_7⟩
def k1_mult1 (k1_t1 : Fin k1_t1_loop.trips) : BitVec 32 :=
  let c31_i32 : BitVec 32 := 31#32
  let c2_i32_15 : BitVec 32 := 2#32
  let c0_i32_6 : BitVec 32 := 0#32
  let c1_i32_7 : BitVec 32 := 1#32
  let arg10 : BitVec 32 := Scf.iv c0_i32_6 c1_i32_7 k1_t1
  let v24 : BitVec 32 := Scalar.muli c2_i32_15 arg10
  let v25 : BitVec 32 := Scalar.subi c31_i32 v24
  let c128_i32 : BitVec 32 := 128#32
  let v26 : BitVec 32 := Scalar.muli v25 c128_i32
  v26
def k1_off1 (k1_t1 : Fin k1_t1_loop.trips) : Fin 2 → Nat :=
  let c31_i32 : BitVec 32 := 31#32
  let c2_i32_15 : BitVec 32 := 2#32
  let c0_i32_6 : BitVec 32 := 0#32
  let c1_i32_7 : BitVec 32 := 1#32
  let arg10 : BitVec 32 := Scf.iv c0_i32_6 c1_i32_7 k1_t1
  let v24 : BitVec 32 := Scalar.muli c2_i32_15 arg10
  let v25 : BitVec 32 := Scalar.subi c31_i32 v24
  let c128_i32 : BitVec 32 := 128#32
  let v26 : BitVec 32 := Scalar.muli v25 c128_i32
  let v27 : BitVec 32 := v26
  let v28 : Index := Scalar.indexCast v27
  let c0_16 : Index := 0#32
  ![v28.toNat, 0]
def k1_off2 (k1_t1 : Fin k1_t1_loop.trips) : Fin 4 → Nat :=
  let c0_29 : Index := 0#32
  let c31_i32 : BitVec 32 := 31#32
  let c2_i32_15 : BitVec 32 := 2#32
  let c0_i32_6 : BitVec 32 := 0#32
  let c1_i32_7 : BitVec 32 := 1#32
  let arg10 : BitVec 32 := Scf.iv c0_i32_6 c1_i32_7 k1_t1
  let v24 : BitVec 32 := Scalar.muli c2_i32_15 arg10
  let v25 : BitVec 32 := Scalar.subi c31_i32 v24
  let v64 : Index := Scalar.indexCast v25
  let c0_30 : Index := 0#32
  let c0_31 : Index := 0#32
  ![0, v64.toNat, 0, 0]
def k1_off3 (k1_t1 : Fin k1_t1_loop.trips) : Fin 3 → Nat :=
  let c2_i32 : BitVec 32 := 2#32
  let c31_i32 : BitVec 32 := 31#32
  let c2_i32_15 : BitVec 32 := 2#32
  let c0_i32_6 : BitVec 32 := 0#32
  let c1_i32_7 : BitVec 32 := 1#32
  let arg10 : BitVec 32 := Scf.iv c0_i32_6 c1_i32_7 k1_t1
  let v24 : BitVec 32 := Scalar.muli c2_i32_15 arg10
  let v25 : BitVec 32 := Scalar.subi c31_i32 v24
  let c128_i32 : BitVec 32 := 128#32
  let v26 : BitVec 32 := Scalar.muli v25 c128_i32
  let v27 : BitVec 32 := v26
  let v328 : Index := Scalar.indexCast v27
  let c0_i32_104 : BitVec 32 := 0#32
  ![2, v328.toNat, 0]
def k1_off4 (k1_t1 : Fin k1_t1_loop.trips) : Fin 3 → Nat :=
  let c1_i32 : BitVec 32 := 1#32
  let c31_i32 : BitVec 32 := 31#32
  let c2_i32_15 : BitVec 32 := 2#32
  let c0_i32_6 : BitVec 32 := 0#32
  let c1_i32_7 : BitVec 32 := 1#32
  let arg10 : BitVec 32 := Scf.iv c0_i32_6 c1_i32_7 k1_t1
  let v24 : BitVec 32 := Scalar.muli c2_i32_15 arg10
  let v25 : BitVec 32 := Scalar.subi c31_i32 v24
  let c128_i32 : BitVec 32 := 128#32
  let v26 : BitVec 32 := Scalar.muli v25 c128_i32
  let v27 : BitVec 32 := v26
  let v544 : Index := Scalar.indexCast v27
  let c0_i32_160 : BitVec 32 := 0#32
  ![1, v544.toNat, 0]
def k1_off5 (k1_t1 : Fin k1_t1_loop.trips) : Fin 3 → Nat :=
  let c0_i32 : BitVec 32 := 0#32
  let c31_i32 : BitVec 32 := 31#32
  let c2_i32_15 : BitVec 32 := 2#32
  let c0_i32_6 : BitVec 32 := 0#32
  let c1_i32_7 : BitVec 32 := 1#32
  let arg10 : BitVec 32 := Scf.iv c0_i32_6 c1_i32_7 k1_t1
  let v24 : BitVec 32 := Scalar.muli c2_i32_15 arg10
  let v25 : BitVec 32 := Scalar.subi c31_i32 v24
  let c128_i32 : BitVec 32 := 128#32
  let v26 : BitVec 32 := Scalar.muli v25 c128_i32
  let v27 : BitVec 32 := v26
  let v558 : Index := Scalar.indexCast v27
  let c0_i32_166 : BitVec 32 := 0#32
  ![0, v558.toNat, 0]
def k1_mult2 (k1_t1 : Fin k1_t1_loop.trips) : BitVec 32 :=
  let c31_i32_171 : BitVec 32 := 31#32
  let c2_i32_13 : BitVec 32 := 2#32
  let c0_i32_6 : BitVec 32 := 0#32
  let c1_i32_7 : BitVec 32 := 1#32
  let arg10 : BitVec 32 := Scf.iv c0_i32_6 c1_i32_7 k1_t1
  let v22 : BitVec 32 := Scalar.muli c2_i32_13 arg10
  let c1_i32_14 : BitVec 32 := 1#32
  let v23 : BitVec 32 := Scalar.addi v22 c1_i32_14
  let v570 : BitVec 32 := Scalar.subi c31_i32_171 v23
  let c128_i32_172 : BitVec 32 := 128#32
  let v571 : BitVec 32 := Scalar.muli v570 c128_i32_172
  v571
def k1_off6 (k1_t1 : Fin k1_t1_loop.trips) : Fin 2 → Nat :=
  let c31_i32_171 : BitVec 32 := 31#32
  let c2_i32_13 : BitVec 32 := 2#32
  let c0_i32_6 : BitVec 32 := 0#32
  let c1_i32_7 : BitVec 32 := 1#32
  let arg10 : BitVec 32 := Scf.iv c0_i32_6 c1_i32_7 k1_t1
  let v22 : BitVec 32 := Scalar.muli c2_i32_13 arg10
  let c1_i32_14 : BitVec 32 := 1#32
  let v23 : BitVec 32 := Scalar.addi v22 c1_i32_14
  let v570 : BitVec 32 := Scalar.subi c31_i32_171 v23
  let c128_i32_172 : BitVec 32 := 128#32
  let v571 : BitVec 32 := Scalar.muli v570 c128_i32_172
  let v572 : BitVec 32 := v571
  let v573 : Index := Scalar.indexCast v572
  let c0_173 : Index := 0#32
  ![v573.toNat, 0]
def k1_off7 (k1_t1 : Fin k1_t1_loop.trips) : Fin 4 → Nat :=
  let c0_186 : Index := 0#32
  let c31_i32_171 : BitVec 32 := 31#32
  let c2_i32_13 : BitVec 32 := 2#32
  let c0_i32_6 : BitVec 32 := 0#32
  let c1_i32_7 : BitVec 32 := 1#32
  let arg10 : BitVec 32 := Scf.iv c0_i32_6 c1_i32_7 k1_t1
  let v22 : BitVec 32 := Scalar.muli c2_i32_13 arg10
  let c1_i32_14 : BitVec 32 := 1#32
  let v23 : BitVec 32 := Scalar.addi v22 c1_i32_14
  let v570 : BitVec 32 := Scalar.subi c31_i32_171 v23
  let v609 : Index := Scalar.indexCast v570
  let c0_187 : Index := 0#32
  let c0_188 : Index := 0#32
  ![0, v609.toNat, 0, 0]
def k1_off8 (k1_t1 : Fin k1_t1_loop.trips) : Fin 3 → Nat :=
  let c2_i32 : BitVec 32 := 2#32
  let c31_i32_171 : BitVec 32 := 31#32
  let c2_i32_13 : BitVec 32 := 2#32
  let c0_i32_6 : BitVec 32 := 0#32
  let c1_i32_7 : BitVec 32 := 1#32
  let arg10 : BitVec 32 := Scf.iv c0_i32_6 c1_i32_7 k1_t1
  let v22 : BitVec 32 := Scalar.muli c2_i32_13 arg10
  let c1_i32_14 : BitVec 32 := 1#32
  let v23 : BitVec 32 := Scalar.addi v22 c1_i32_14
  let v570 : BitVec 32 := Scalar.subi c31_i32_171 v23
  let c128_i32_172 : BitVec 32 := 128#32
  let v571 : BitVec 32 := Scalar.muli v570 c128_i32_172
  let v572 : BitVec 32 := v571
  let v873 : Index := Scalar.indexCast v572
  let c0_i32_265 : BitVec 32 := 0#32
  ![2, v873.toNat, 0]
def k1_off9 (k1_t1 : Fin k1_t1_loop.trips) : Fin 3 → Nat :=
  let c1_i32 : BitVec 32 := 1#32
  let c31_i32_171 : BitVec 32 := 31#32
  let c2_i32_13 : BitVec 32 := 2#32
  let c0_i32_6 : BitVec 32 := 0#32
  let c1_i32_7 : BitVec 32 := 1#32
  let arg10 : BitVec 32 := Scf.iv c0_i32_6 c1_i32_7 k1_t1
  let v22 : BitVec 32 := Scalar.muli c2_i32_13 arg10
  let c1_i32_14 : BitVec 32 := 1#32
  let v23 : BitVec 32 := Scalar.addi v22 c1_i32_14
  let v570 : BitVec 32 := Scalar.subi c31_i32_171 v23
  let c128_i32_172 : BitVec 32 := 128#32
  let v571 : BitVec 32 := Scalar.muli v570 c128_i32_172
  let v572 : BitVec 32 := v571
  let v1089 : Index := Scalar.indexCast v572
  let c0_i32_326 : BitVec 32 := 0#32
  ![1, v1089.toNat, 0]
def k1_off10 (k1_t1 : Fin k1_t1_loop.trips) : Fin 3 → Nat :=
  let c0_i32 : BitVec 32 := 0#32
  let c31_i32_171 : BitVec 32 := 31#32
  let c2_i32_13 : BitVec 32 := 2#32
  let c0_i32_6 : BitVec 32 := 0#32
  let c1_i32_7 : BitVec 32 := 1#32
  let arg10 : BitVec 32 := Scf.iv c0_i32_6 c1_i32_7 k1_t1
  let v22 : BitVec 32 := Scalar.muli c2_i32_13 arg10
  let c1_i32_14 : BitVec 32 := 1#32
  let v23 : BitVec 32 := Scalar.addi v22 c1_i32_14
  let v570 : BitVec 32 := Scalar.subi c31_i32_171 v23
  let c128_i32_172 : BitVec 32 := 128#32
  let v571 : BitVec 32 := Scalar.muli v570 c128_i32_172
  let v572 : BitVec 32 := v571
  let v1103 : Index := Scalar.indexCast v572
  let c0_i32_332 : BitVec 32 := 0#32
  ![0, v1103.toNat, 0]
def cc1_transform_0 (i : grid1.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc1_transform_1 (i : grid1.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc1_transform_2 (i : grid1.Coords) : Fin 2 → Nat :=
  let arg0 : BitVec 32 := BitVec.ofNat 32 (i 0).val
  let c32_i32 : BitVec 32 := 32#32
  let v0 : BitVec 32 := Scalar.addi c32_i32 arg0
  let c0_i32 : BitVec 32 := 0#32
  let c0_i32_0 : BitVec 32 := 0#32
  ![c0_i32.toNat, v0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_4 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_5 (i : grid1.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc1_transform_6 (i : grid1.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc1_transform_7 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S4096x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4096x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4096x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x32x128x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S4096x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S4096x128 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S4x4096x128 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S8x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]
-- ==== ReferenceIdeal.lean ====
abbrev S4096x8192 : Shape := ⟨2, ![4096, 8192]⟩
abbrev S1x2048 : Shape := ⟨2, ![1, 2048]⟩
abbrev S4096x2048 : Shape := ⟨2, ![4096, 2048]⟩
abbrev S_ : Shape := ⟨0, ![]⟩
abbrev S4096x16x128 : Shape := ⟨3, ![4096, 16, 128]⟩
abbrev S16x4096x128 : Shape := ⟨3, ![16, 4096, 128]⟩
abbrev S4096x4096 : Shape := ⟨2, ![4096, 4096]⟩
abbrev S16x4096x1x128 : Shape := ⟨4, ![16, 4096, 1, 128]⟩
abbrev S16x1x4096x128 : Shape := ⟨4, ![16, 1, 4096, 128]⟩
abbrev S16x4096x4096x128 : Shape := ⟨4, ![16, 4096, 4096, 128]⟩
abbrev S4096x4096x1 : Shape := ⟨3, ![4096, 4096, 1]⟩
abbrev S16x4096x4096 : Shape := ⟨3, ![16, 4096, 4096]⟩
abbrev S16x128x4096 : Shape := ⟨3, ![16, 128, 4096]⟩
abbrev S2048 : Shape := ⟨1, ![2048]⟩
abbrev S4096x4x2048 : Shape := ⟨3, ![4096, 4, 2048]⟩
abbrev S4x4096x2048 : Shape := ⟨3, ![4, 4096, 2048]⟩
abbrev S8x2048 : Shape := ⟨2, ![8, 2048]⟩

abbrev nBuf : Space → Nat
  | .hbm => 173
  | .vmem => 0
  | .smem => 0
  | _ => 0

abbrev hbmTy0_0 (i : Nat) : BufTy := match i % 128 with
  | 0 => ⟨S4096x8192, .f32⟩
  | 1 => ⟨S1x2048, .f32⟩
  | 2 => ⟨S4096x2048, .f32⟩
  | 3 => ⟨S4096x2048, .bf16⟩
  | 4 => ⟨S4096x2048, .f32⟩
  | 5 => ⟨S4096x2048, .f32⟩
  | 6 => ⟨S4096x2048, .f32⟩
  | 7 => ⟨S4096x2048, .f32⟩
  | 8 => ⟨S4096x2048, .f32⟩
  | 9 => ⟨S4096x2048, .f32⟩
  | 10 => ⟨S_, .f32⟩
  | 11 => ⟨S4096x2048, .f32⟩
  | 12 => ⟨S4096x2048, .f32⟩
  | 13 => ⟨S_, .f32⟩
  | 14 => ⟨S4096x2048, .f32⟩
  | 15 => ⟨S4096x2048, .f32⟩
  | 16 => ⟨S_, .f32⟩
  | 17 => ⟨S4096x2048, .f32⟩
  | 18 => ⟨S4096x2048, .f32⟩
  | 19 => ⟨S4096x2048, .f32⟩
  | 20 => ⟨S4096x2048, .f32⟩
  | 21 => ⟨S_, .f32⟩
  | 22 => ⟨S4096x2048, .f32⟩
  | 23 => ⟨S4096x2048, .f32⟩
  | 24 => ⟨S_, .f32⟩
  | 25 => ⟨S1x2048, .f32⟩
  | 26 => ⟨S1x2048, .f32⟩
  | 27 => ⟨S4096x2048, .f32⟩
  | 28 => ⟨S4096x2048, .f32⟩
  | 29 => ⟨S_, .f32⟩
  | 30 => ⟨S4096x2048, .f32⟩
  | 31 => ⟨S4096x2048, .f32⟩
  | 32 => ⟨S_, .f32⟩
  | 33 => ⟨S4096x2048, .f32⟩
  | 34 => ⟨S4096x2048, .f32⟩
  | 35 => ⟨S_, .f32⟩
  | 36 => ⟨S4096x2048, .f32⟩
  | 37 => ⟨S4096x2048, .f32⟩
  | 38 => ⟨S4096x2048, .f32⟩
  | 39 => ⟨S4096x2048, .f32⟩
  | 40 => ⟨S4096x2048, .f32⟩
  | 41 => ⟨S4096x2048, .f32⟩
  | 42 => ⟨S4096x2048, .f32⟩
  | 43 => ⟨S_, .f32⟩
  | 44 => ⟨S4096x2048, .f32⟩
  | 45 => ⟨S4096x2048, .f32⟩
  | 46 => ⟨S4096x2048, .f32⟩
  | 47 => ⟨S4096x16x128, .f32⟩
  | 48 => ⟨S16x4096x128, .f32⟩
  | 49 => ⟨S4096x16x128, .f32⟩
  | 50 => ⟨S16x4096x128, .f32⟩
  | 51 => ⟨S4096x16x128, .f32⟩
  | 52 => ⟨S16x4096x128, .f32⟩
  | 53 => ⟨S4096x16x128, .f32⟩
  | 54 => ⟨S16x4096x128, .f32⟩
  | 55 => ⟨S_, .i1⟩
  | 56 => ⟨S4096x4096, .i1⟩
  | 57 => ⟨S4096x4096, .i32⟩
  | 58 => ⟨S_, .i32⟩
  | 59 => ⟨S4096x4096, .i32⟩
  | 60 => ⟨S4096x4096, .i32⟩
  | 61 => ⟨S4096x4096, .i32⟩
  | 62 => ⟨S4096x4096, .i1⟩
  | 63 => ⟨S_, .i1⟩
  | 64 => ⟨S4096x4096, .i1⟩
  | 65 => ⟨S4096x4096, .i1⟩
  | 66 => ⟨S_, .f32⟩
  | 67 => ⟨S_, .f32⟩
  | 68 => ⟨S16x4096x128, .f32⟩
  | 69 => ⟨S16x4096x1x128, .f32⟩
  | 70 => ⟨S16x1x4096x128, .f32⟩
  | 71 => ⟨S16x4096x4096x128, .f32⟩
  | 72 => ⟨S16x4096x4096x128, .f32⟩
  | 73 => ⟨S16x4096x4096x128, .f32⟩
  | 74 => ⟨S4096x4096x1, .i1⟩
  | 75 => ⟨S_, .f32⟩
  | 76 => ⟨S_, .f32⟩
  | 77 => ⟨S16x4096x4096x128, .i1⟩
  | 78 => ⟨S16x4096x4096x128, .f32⟩
  | 79 => ⟨S16x4096x4096x128, .f32⟩
  | 80 => ⟨S_, .f32⟩
  | 81 => ⟨S16x4096x4096x128, .f32⟩
  | 82 => ⟨S16x4096x1x128, .f32⟩
  | 83 => ⟨S16x1x4096x128, .f32⟩
  | 84 => ⟨S16x4096x4096x128, .f32⟩
  | 85 => ⟨S16x4096x4096x128, .f32⟩
  | 86 => ⟨S16x4096x4096x128, .f32⟩
  | 87 => ⟨S16x4096x4096x128, .f32⟩
  | 88 => ⟨S16x4096x4096x128, .f32⟩
  | 89 => ⟨S_, .f32⟩
  | 90 => ⟨S16x4096x4096, .f32⟩
  | 91 => ⟨S16x4096x128, .f32⟩
  | 92 => ⟨S4096x16x128, .f32⟩
  | 93 => ⟨S4096x2048, .f32⟩
  | 94 => ⟨S4096x2048, .f32⟩
  | 95 => ⟨S4096x16x128, .f32⟩
  | 96 => ⟨S16x4096x128, .f32⟩
  | 97 => ⟨S16x128x4096, .f32⟩
  | 98 => ⟨S16x4096x128, .f32⟩
  | 99 => ⟨S16x4096x4096, .f32⟩
  | 100 => ⟨S16x4096x4096x128, .f32⟩
  | 101 => ⟨S16x4096x4096x128, .f32⟩
  | 102 => ⟨S16x4096x4096x128, .f32⟩
  | 103 => ⟨S16x4096x4096x128, .f32⟩
  | 104 => ⟨S16x4096x4096x128, .f32⟩
  | 105 => ⟨S16x4096x4096x128, .f32⟩
  | 106 => ⟨S_, .f32⟩
  | 107 => ⟨S16x4096x128, .f32⟩
  | 108 => ⟨S16x1x4096x128, .f32⟩
  | 109 => ⟨S16x4096x4096x128, .f32⟩
  | 110 => ⟨S16x4096x4096x128, .f32⟩
  | 111 => ⟨S_, .f32⟩
  | 112 => ⟨S16x4096x128, .f32⟩
  | 113 => ⟨S16x4096x1x128, .f32⟩
  | 114 => ⟨S_, .f32⟩
  | 115 => ⟨S16x4096x128, .f32⟩
  | 116 => ⟨S_, .f32⟩
  | 117 => ⟨S16x4096x128, .f32⟩
  | 118 => ⟨S_, .f32⟩
  | 119 => ⟨S16x4096x4096x128, .f32⟩
  | 120 => ⟨S16x4096x4096x128, .f32⟩
  | 121 => ⟨S_, .f32⟩
  | 122 => ⟨S16x4096x128, .f32⟩
  | 123 => ⟨S16x4096x1x128, .f32⟩
  | 124 => ⟨S16x4096x4096x128, .f32⟩
  | 125 => ⟨S_, .f32⟩
  | 126 => ⟨S16x4096x128, .f32⟩
  | 127 => ⟨S16x1x4096x128, .f32⟩
  | _ => ⟨S4096x8192, .f32⟩

abbrev hbmTy0_1 (i : Nat) : BufTy := match i % 128 with
  | 0 => ⟨S_, .f32⟩
  | 1 => ⟨S16x4096x128, .f32⟩
  | 2 => ⟨S_, .f32⟩
  | 3 => ⟨S16x4096x128, .f32⟩
  | 4 => ⟨S16x4096x128, .f32⟩
  | 5 => ⟨S_, .f32⟩
  | 6 => ⟨S_, .f32⟩
  | 7 => ⟨S16x4096x128, .f32⟩
  | 8 => ⟨S4096x16x128, .f32⟩
  | 9 => ⟨S4096x2048, .f32⟩
  | 10 => ⟨S4096x16x128, .f32⟩
  | 11 => ⟨S4096x2048, .f32⟩
  | 12 => ⟨S4096x16x128, .f32⟩
  | 13 => ⟨S4096x2048, .f32⟩
  | 14 => ⟨S4096x16x128, .f32⟩
  | 15 => ⟨S4096x2048, .f32⟩
  | 16 => ⟨S4096x2048, .f32⟩
  | 17 => ⟨S4096x2048, .f32⟩
  | 18 => ⟨S4096x2048, .f32⟩
  | 19 => ⟨S_, .f32⟩
  | 20 => ⟨S2048, .f32⟩
  | 21 => ⟨S1x2048, .f32⟩
  | 22 => ⟨S4096x2048, .f32⟩
  | 23 => ⟨S4096x2048, .f32⟩
  | 24 => ⟨S4096x2048, .f32⟩
  | 25 => ⟨S_, .f32⟩
  | 26 => ⟨S2048, .f32⟩
  | 27 => ⟨S1x2048, .f32⟩
  | 28 => ⟨S4096x2048, .f32⟩
  | 29 => ⟨S1x2048, .f32⟩
  | 30 => ⟨S1x2048, .f32⟩
  | 31 => ⟨S_, .f32⟩
  | 32 => ⟨S4096x2048, .f32⟩
  | 33 => ⟨S4096x2048, .f32⟩
  | 34 => ⟨S4096x2048, .f32⟩
  | 35 => ⟨S4096x2048, .f32⟩
  | 36 => ⟨S4096x2048, .f32⟩
  | 37 => ⟨S4096x2048, .f32⟩
  | 38 => ⟨S4096x8192, .f32⟩
  | 39 => ⟨S4096x4x2048, .f32⟩
  | 40 => ⟨S4x4096x2048, .f32⟩
  | 41 => ⟨S4x4096x2048, .bf16⟩
  | 42 => ⟨S_, .i32⟩
  | 43 => ⟨S_, .f32⟩
  | 44 => ⟨S8x2048, .f32⟩
  | _ => ⟨S4096x8192, .f32⟩

abbrev hbmTy (i : Nat) : BufTy := match i / 128 with
  | 0 => hbmTy0_0 i
  | 1 => hbmTy0_1 i
  | _ => ⟨S4096x8192, .f32⟩

abbrev bufTy : (tb : Table) → Fin (tcTables nBuf tb) → BufTy
  | .hbm, ⟨i, _⟩ => hbmTy i
  | _, _ => ⟨S4096x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_v4_2 : Ref sig .tc := ⟨.hbm, 15, rfl⟩
abbrev main_call0_cst_1 : Ref sig .tc := ⟨.hbm, 16, rfl⟩
abbrev main_call0_v6 : Ref sig .tc := ⟨.hbm, 17, rfl⟩
abbrev main_call0_v7 : Ref sig .tc := ⟨.hbm, 18, rfl⟩
abbrev main_v4_1 : Ref sig .tc := ⟨.hbm, 19, rfl⟩
abbrev main_v4_0 : Ref sig .tc := ⟨.hbm, 20, rfl⟩
abbrev main_cst : Ref sig .tc := ⟨.hbm, 21, rfl⟩
abbrev main_v5 : Ref sig .tc := ⟨.hbm, 22, rfl⟩
abbrev main_v6 : Ref sig .tc := ⟨.hbm, 23, rfl⟩
abbrev main_cst_0 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_cst_1 : Ref sig .tc := ⟨.hbm, 29, rfl⟩
abbrev main_v11 : Ref sig .tc := ⟨.hbm, 30, rfl⟩
abbrev main_v12 : Ref sig .tc := ⟨.hbm, 31, rfl⟩
abbrev main_cst_2 : Ref sig .tc := ⟨.hbm, 32, rfl⟩
abbrev main_v13 : Ref sig .tc := ⟨.hbm, 33, rfl⟩
abbrev main_v14 : Ref sig .tc := ⟨.hbm, 34, rfl⟩
abbrev main_cst_3 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_cst_4 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_c : Ref sig .tc := ⟨.hbm, 55, rfl⟩
abbrev main_v33 : Ref sig .tc := ⟨.hbm, 56, rfl⟩
abbrev main_call1_v0 : Ref sig .tc := ⟨.hbm, 57, rfl⟩
abbrev main_call1_c : Ref sig .tc := ⟨.hbm, 58, rfl⟩
abbrev main_call1_v1 : Ref sig .tc := ⟨.hbm, 59, rfl⟩
abbrev main_call1_v2 : Ref sig .tc := ⟨.hbm, 60, rfl⟩
abbrev main_call1_v3 : Ref sig .tc := ⟨.hbm, 61, rfl⟩
abbrev main_call1_v4 : Ref sig .tc := ⟨.hbm, 62, rfl⟩
abbrev main_call1_c_0 : Ref sig .tc := ⟨.hbm, 63, rfl⟩
abbrev main_call1_v5 : Ref sig .tc := ⟨.hbm, 64, rfl⟩
abbrev main_v34 : Ref sig .tc := ⟨.hbm, 65, rfl⟩
abbrev main_call2_call0_cst : Ref sig .tc := ⟨.hbm, 66, rfl⟩
abbrev main_call2_call0_v0 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_cst_5 : Ref sig .tc := ⟨.hbm, 75, rfl⟩
abbrev main_call3_v0 : Ref sig .tc := ⟨.hbm, 76, rfl⟩
abbrev main_v42_1 : Ref sig .tc := ⟨.hbm, 77, rfl⟩
abbrev main_call3_v2 : Ref sig .tc := ⟨.hbm, 78, rfl⟩
abbrev main_v42_0 : Ref sig .tc := ⟨.hbm, 79, rfl⟩
abbrev main_call3_cst : Ref sig .tc := ⟨.hbm, 80, rfl⟩
abbrev main_v42_2 : Ref sig .tc := ⟨.hbm, 81, rfl⟩
abbrev main_v43 : Ref sig .tc := ⟨.hbm, 82, rfl⟩
abbrev main_v44 : Ref sig .tc := ⟨.hbm, 83, rfl⟩
abbrev main_v45 : Ref sig .tc := ⟨.hbm, 84, rfl⟩
abbrev main_v46 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_cst_6 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_cst_7 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_cst_8 : Ref sig .tc := ⟨.hbm, 111, rfl⟩
abbrev main_v70 : Ref sig .tc := ⟨.hbm, 112, rfl⟩
abbrev main_v71 : Ref sig .tc := ⟨.hbm, 113, rfl⟩
abbrev main_cst_9 : Ref sig .tc := ⟨.hbm, 114, rfl⟩
abbrev main_v72 : Ref sig .tc := ⟨.hbm, 115, rfl⟩
abbrev main_cst_10 : Ref sig .tc := ⟨.hbm, 116, rfl⟩
abbrev main_v73 : Ref sig .tc := ⟨.hbm, 117, rfl⟩
abbrev main_call4_cst : Ref sig .tc := ⟨.hbm, 118, rfl⟩
abbrev main_call4_v0 : Ref sig .tc := ⟨.hbm, 119, rfl⟩
abbrev main_v74 : Ref sig .tc := ⟨.hbm, 120, rfl⟩
abbrev main_cst_11 : Ref sig .tc := ⟨.hbm, 121, rfl⟩
abbrev main_v75 : Ref sig .tc := ⟨.hbm, 122, rfl⟩
abbrev main_v76 : Ref sig .tc := ⟨.hbm, 123, rfl⟩
abbrev main_v77 : Ref sig .tc := ⟨.hbm, 124, rfl⟩
abbrev main_cst_12 : Ref sig .tc := ⟨.hbm, 125, rfl⟩
abbrev main_v78 : Ref sig .tc := ⟨.hbm, 126, rfl⟩
abbrev main_v79 : Ref sig .tc := ⟨.hbm, 127, rfl⟩
abbrev main_cst_13 : Ref sig .tc := ⟨.hbm, 128, rfl⟩
abbrev main_v80 : Ref sig .tc := ⟨.hbm, 129, rfl⟩
abbrev main_cst_14 : Ref sig .tc := ⟨.hbm, 130, rfl⟩
abbrev main_v81 : Ref sig .tc := ⟨.hbm, 131, rfl⟩
abbrev main_v82 : Ref sig .tc := ⟨.hbm, 132, rfl⟩
abbrev main_call5_call0_cst : Ref sig .tc := ⟨.hbm, 133, rfl⟩
abbrev main_call5_call0_v0 : Ref sig .tc := ⟨.hbm, 134, rfl⟩
abbrev main_v83 : Ref sig .tc := ⟨.hbm, 135, rfl⟩
abbrev main_v84 : Ref sig .tc := ⟨.hbm, 136, rfl⟩
abbrev main_v85 : Ref sig .tc := ⟨.hbm, 137, rfl⟩
abbrev main_v86 : Ref sig .tc := ⟨.hbm, 138, rfl⟩
abbrev main_v87 : Ref sig .tc := ⟨.hbm, 139, rfl⟩
abbrev main_v88 : Ref sig .tc := ⟨.hbm, 140, rfl⟩
abbrev main_v89 : Ref sig .tc := ⟨.hbm, 141, rfl⟩
abbrev main_v90 : Ref sig .tc := ⟨.hbm, 142, rfl⟩
abbrev main_v91 : Ref sig .tc := ⟨.hbm, 143, rfl⟩
abbrev main_v92 : Ref sig .tc := ⟨.hbm, 144, rfl⟩
abbrev main_v93 : Ref sig .tc := ⟨.hbm, 145, rfl⟩
abbrev main_v94 : Ref sig .tc := ⟨.hbm, 146, rfl⟩
abbrev main_cst_15 : Ref sig .tc := ⟨.hbm, 147, rfl⟩
abbrev main_v95 : Ref sig .tc := ⟨.hbm, 148, rfl⟩
abbrev main_v96 : Ref sig .tc := ⟨.hbm, 149, rfl⟩
abbrev main_v97 : Ref sig .tc := ⟨.hbm, 150, rfl⟩
abbrev main_v98 : Ref sig .tc := ⟨.hbm, 151, rfl⟩
abbrev main_v99 : Ref sig .tc := ⟨.hbm, 152, rfl⟩
abbrev main_cst_16 : Ref sig .tc := ⟨.hbm, 153, rfl⟩
abbrev main_v100 : Ref sig .tc := ⟨.hbm, 154, rfl⟩
abbrev main_v101 : Ref sig .tc := ⟨.hbm, 155, rfl⟩
abbrev main_v102 : Ref sig .tc := ⟨.hbm, 156, rfl⟩
abbrev main_v103 : Ref sig .tc := ⟨.hbm, 157, rfl⟩
abbrev main_v104 : Ref sig .tc := ⟨.hbm, 158, rfl⟩
abbrev main_cst_17 : Ref sig .tc := ⟨.hbm, 159, rfl⟩
abbrev main_v105 : Ref sig .tc := ⟨.hbm, 160, rfl⟩
abbrev main_v106 : Ref sig .tc := ⟨.hbm, 161, rfl⟩
abbrev main_call6_v0 : Ref sig .tc := ⟨.hbm, 162, rfl⟩
abbrev main_call6_v1 : Ref sig .tc := ⟨.hbm, 163, rfl⟩
abbrev main_call6_v2 : Ref sig .tc := ⟨.hbm, 164, rfl⟩
abbrev main_v107 : Ref sig .tc := ⟨.hbm, 165, rfl⟩
abbrev main_v108 : Ref sig .tc := ⟨.hbm, 166, rfl⟩
abbrev main_v109 : Ref sig .tc := ⟨.hbm, 167, rfl⟩
abbrev main_v110 : Ref sig .tc := ⟨.hbm, 168, rfl⟩
abbrev main_v111 : Ref sig .tc := ⟨.hbm, 169, rfl⟩
abbrev main_c_18 : Ref sig .tc := ⟨.hbm, 170, rfl⟩
abbrev main_call7_v0 : Ref sig .tc := ⟨.hbm, 171, rfl⟩
abbrev main_v112 : Ref sig .tc := ⟨.hbm, 172, rfl⟩

abbrev nD : Nat := 1
abbrev τ : Topo := Topo.v7x

variable {F : FTy → Type} [FloatOps F]
-- ==== Kernel2.lean ====
abbrev S4096x2048 : Shape := ⟨2, ![4096, 2048]⟩
abbrev S2x4096x5632 : Shape := ⟨3, ![2, 4096, 5632]⟩
abbrev S4x1x2048x2816 : Shape := ⟨4, ![4, 1, 2048, 2816]⟩
abbrev S4096x512 : Shape := ⟨2, ![4096, 512]⟩
abbrev S1x4096x1408 : Shape := ⟨3, ![1, 4096, 1408]⟩
abbrev S1x1x512x1408 : Shape := ⟨4, ![1, 1, 512, 1408]⟩
abbrev S4096x1408 : Shape := ⟨2, ![4096, 1408]⟩
abbrev S512x1408 : Shape := ⟨2, ![512, 1408]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2x4096x5632, .bf16⟩
  | .hbm, ⟨2, _⟩ => ⟨S4x1x2048x2816, .bf16⟩
  | .local _ .vmem, ⟨0, _⟩ => ⟨S4096x512, .bf16⟩
  | .local _ .vmem, ⟨1, _⟩ => ⟨S4096x512, .bf16⟩
  | .local _ .vmem, ⟨2, _⟩ => ⟨S1x4096x1408, .bf16⟩
  | .local _ .vmem, ⟨3, _⟩ => ⟨S1x4096x1408, .bf16⟩
  | .local _ .vmem, ⟨4, _⟩ => ⟨S1x1x512x1408, .bf16⟩
  | .local _ .vmem, ⟨5, _⟩ => ⟨S1x1x512x1408, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 32 := Scalar.addi c0_i32_4 arg0
  let c2_i32_5 : BitVec 32 := 2#32
  let c0_i32_6 : BitVec 32 := 0#32
  let v18 : BitVec 1 := Scalar.cmpi .eq c2_i32_5 c0_i32_6
  let c1_i32_7 : BitVec 32 := 1#32
  let v19 : BitVec 32 := Scalar.select v18 c1_i32_7 c2_i32_5
  let v20 : BitVec 32 := Scalar.remsi arg1 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  let c0_i32_12 : BitVec 32 := 0#32
  ![v16.toNat, c0_i32_11.toNat, v17.toNat, v27.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x4096x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1x512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S4096x2048 : Shape := ⟨2, ![4096, 2048]⟩
abbrev S2x4096x5632 : Shape := ⟨3, ![2, 4096, 5632]⟩
abbrev S4096x2x5632 : Shape := ⟨3, ![4096, 2, 5632]⟩
abbrev S4096x11264 : Shape := ⟨2, ![4096, 11264]⟩
abbrev S_ : Shape := ⟨0, ![]⟩
abbrev S4x2048x2816 : Shape := ⟨3, ![4, 2048, 2816]⟩
abbrev S2048x4x2816 : Shape := ⟨3, ![2048, 4, 2816]⟩
abbrev S2048x11264 : Shape := ⟨2, ![2048, 11264]⟩
abbrev S11264x2048 : Shape := ⟨2, ![11264, 2048]⟩
abbrev S4x1x2048x2816 : Shape := ⟨4, ![4, 1, 2048, 2816]⟩

abbrev nBuf : Space → Nat
  | .hbm => 17
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2x4096x5632, .bf16⟩
  | .hbm, ⟨2, _⟩ => ⟨S4096x2x5632, .bf16⟩
  | .hbm, ⟨3, _⟩ => ⟨S4096x11264, .bf16⟩
  | .hbm, ⟨4, _⟩ => ⟨S_, .f32⟩
  | .hbm, ⟨5, _⟩ => ⟨S4x2048x2816, .f32⟩
  | .hbm, ⟨6, _⟩ => ⟨S4096x2048, .f32⟩
  | .hbm, ⟨7, _⟩ => ⟨S2048x4x2816, .f32⟩
  | .hbm, ⟨8, _⟩ => ⟨S2048x11264, .f32⟩
  | .hbm, ⟨9, _⟩ => ⟨S4096x11264, .f32⟩
  | .hbm, ⟨10, _⟩ => ⟨S4096x11264, .f32⟩
  | .hbm, ⟨11, _⟩ => ⟨S11264x2048, .f32⟩
  | .hbm, ⟨12, _⟩ => ⟨S2048x11264, .f32⟩
  | .hbm, ⟨13, _⟩ => ⟨S2048x4x2816, .f32⟩
  | .hbm, ⟨14, _⟩ => ⟨S4x2048x2816, .f32⟩
  | .hbm, ⟨15, _⟩ => ⟨S4x2048x2816, .bf16⟩
  | .hbm, ⟨16, _⟩ => ⟨S4x1x2048x2816, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩

abbrev nD : Nat := 1
abbrev τ : Topo := Topo.v7x

variable {F : FTy → Type} [FloatOps F]
-- ==== Kernel3.lean ====
abbrev S2x4096x5632 : Shape := ⟨3, ![2, 4096, 5632]⟩
abbrev S4x2048x2816 : Shape := ⟨3, ![4, 2048, 2816]⟩
abbrev S4096x2048 : Shape := ⟨2, ![4096, 2048]⟩
abbrev S1x512x1408 : Shape := ⟨3, ![1, 512, 1408]⟩
abbrev S1x2048x1408 : Shape := ⟨3, ![1, 2048, 1408]⟩
abbrev S512x2048 : Shape := ⟨2, ![512, 2048]⟩
abbrev S512x1408 : Shape := ⟨2, ![512, 1408]⟩
abbrev S2048x1408 : Shape := ⟨2, ![2048, 1408]⟩

abbrev nBuf : Space → Nat
  | .hbm => 3
  | .vmem => 10
  | .smem => 0
  | _ => 0

abbrev bufTy : (tb : Table) → Fin (tcTables nBuf tb) → BufTy
  | .hbm, ⟨0, _⟩ => ⟨S2x4096x5632, .bf16⟩
  | .hbm, ⟨1, _⟩ => ⟨S4x2048x2816, .bf16⟩
  | .hbm, ⟨2, _⟩ => ⟨S4096x2048, .f32⟩
  | .local _ .vmem, ⟨0, _⟩ => ⟨S1x512x1408, .bf16⟩
  | .local _ .vmem, ⟨1, _⟩ => ⟨S1x512x1408, .bf16⟩
  | .local _ .vmem, ⟨2, _⟩ => ⟨S1x512x1408, .bf16⟩
  | .local _ .vmem, ⟨3, _⟩ => ⟨S1x512x1408, .bf16⟩
  | .local _ .vmem, ⟨4, _⟩ => ⟨S1x2048x1408, .bf16⟩
  | .local _ .vmem, ⟨5, _⟩ => ⟨S1x2048x1408, .bf16⟩
  | .local _ .vmem, ⟨6, _⟩ => ⟨S1x2048x1408, .bf16⟩
  | .local _ .vmem, ⟨7, _⟩ => ⟨S1x2048x1408, .bf16⟩
  | .local _ .vmem, ⟨8, _⟩ => ⟨S512x2048, .f32⟩
  | .local _ .vmem, ⟨9, _⟩ => ⟨S512x2048, .f32⟩
  | _, _ => ⟨S2x4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 1, 4], ![false, false, false]⟩

def k0_cond1 (i : grid0.Coords) : BitVec 1 :=
  let arg2 : BitVec 32 := BitVec.ofNat 32 (i 2).val
  let c0_i32 : BitVec 32 := 0#32
  let v11 : BitVec 1 := Scalar.cmpi .eq arg2 c0_i32
  let v12 : BitVec 32 := Scalar.extui v11
  let c0_i32_12 : BitVec 32 := 0#32
  let v13 : BitVec 1 := Scalar.cmpi .ne v12 c0_i32_12
  v13

def k0_cond2 (i : grid0.Coords) : BitVec 1 :=
  let arg2 : BitVec 32 := BitVec.ofNat 32 (i 2).val
  let c0_i32_13 : BitVec 32 := 0#32
  let v14 : BitVec 1 := Scalar.cmpi .sgt arg2 c0_i32_13
  let v15 : BitVec 32 := Scalar.extui v14
  let c0_i32_14 : BitVec 32 := 0#32
  let v16 : BitVec 1 := Scalar.cmpi .ne v15 c0_i32_14
  v16

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg2 c2_i32
  let c0_i32 : BitVec 32 := 0#32
  let v1 : BitVec 32 := Scalar.addi v0 c0_i32
  let c4_i32 : BitVec 32 := 4#32
  let v2 : BitVec 32 := Scalar.divsi v1 c4_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c4_i32 c0_i32_2
  let v9 : BitVec 32 := Scalar.extui v8
  let c0_i32_3 : BitVec 32 := 0#32
  let v10 : BitVec 1 := Scalar.cmpi .slt c4_i32 c0_i32_3
  let v11 : BitVec 32 := Scalar.extui v10
  let v12 : BitVec 32 := Scalar.subi v9 v11
  let v13 : BitVec 1 := Scalar.cmpi .ne v7 v12
  let v14 : BitVec 32 := Scalar.remsi v1 c4_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c2_i32_5 : BitVec 32 := 2#32
  let v19 : BitVec 32 := Scalar.muli arg2 c2_i32_5
  let c0_i32_6 : BitVec 32 := 0#32
  let v20 : BitVec 32 := Scalar.addi v19 c0_i32_6
  let c4_i32_7 : BitVec 32 := 4#32
  let c0_i32_8 : BitVec 32 := 0#32
  let v21 : BitVec 1 := Scalar.cmpi .eq c4_i32_7 c0_i32_8
  let c1_i32_9 : BitVec 32 := 1#32
  let v22 : BitVec 32 := Scalar.select v21 c1_i32_9 c4_i32_7
  let v23 : BitVec 32 := Scalar.remsi v20 v22
  let c0_i32_10 : BitVec 32 := 0#32
  let v24 : BitVec 1 := Scalar.cmpi .ne v23 c0_i32_10
  let c0_i32_11 : BitVec 32 := 0#32
  let v25 : BitVec 1 := Scalar.cmpi .slt v23 c0_i32_11
  let c0_i32_12 : BitVec 32 := 0#32
  let v26 : BitVec 1 := Scalar.cmpi .slt v22 c0_i32_12
  let v27 : BitVec 1 := Scalar.xori v25 v26
  let v28 : BitVec 1 := Scalar.andi v27 v24
  let v29 : BitVec 32 := Scalar.addi v23 v22
  let v30 : BitVec 32 := Scalar.select v28 v29 v23
  let c0_i32_13 : BitVec 32 := 0#32
  ![v18.toNat, arg0.toNat, v30.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg2 c2_i32
  let c1_i32 : BitVec 32 := 1#32
  let v1 : BitVec 32 := Scalar.addi v0 c1_i32
  let c4_i32 : BitVec 32 := 4#32
  let v2 : BitVec 32 := Scalar.divsi v1 c4_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c2_i32_5 : BitVec 32 := 2#32
  let v19 : BitVec 32 := Scalar.muli arg2 c2_i32_5
  let c1_i32_6 : BitVec 32 := 1#32
  let v20 : BitVec 32 := Scalar.addi v19 c1_i32_6
  let c4_i32_7 : BitVec 32 := 4#32
  let c0_i32_8 : BitVec 32 := 0#32
  let v21 : BitVec 1 := Scalar.cmpi .eq c4_i32_7 c0_i32_8
  let c1_i32_9 : BitVec 32 := 1#32
  let v22 : BitVec 32 := Scalar.select v21 c1_i32_9 c4_i32_7
  let v23 : BitVec 32 := Scalar.remsi v20 v22
  let c0_i32_10 : BitVec 32 := 0#32
  let v24 : BitVec 1 := Scalar.cmpi .ne v23 c0_i32_10
  let c0_i32_11 : BitVec 32 := 0#32
  let v25 : BitVec 1 := Scalar.cmpi .slt v23 c0_i32_11
  let c0_i32_12 : BitVec 32 := 0#32
  let v26 : BitVec 1 := Scalar.cmpi .slt v22 c0_i32_12
  let v27 : BitVec 1 := Scalar.xori v25 v26
  let v28 : BitVec 1 := Scalar.andi v27 v24
  let v29 : BitVec 32 := Scalar.addi v23 v22
  let v30 : BitVec 32 := Scalar.select v28 v29 v23
  let c0_i32_13 : BitVec 32 := 0#32
  ![v18.toNat, arg0.toNat, v30.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg2 c2_i32
  let c0_i32 : BitVec 32 := 0#32
  let v1 : BitVec 32 := Scalar.addi v0 c0_i32
  let c2_i32_0 : BitVec 32 := 2#32
  let v2 : BitVec 32 := Scalar.divsi v1 c2_i32_0
  let c0_i32_1 : BitVec 32 := 0#32
  let v3 : BitVec 1 := Scalar.cmpi .sgt v1 c0_i32_1
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c0_i32_3 : BitVec 32 := 0#32
  let v8 : BitVec 1 := Scalar.cmpi .sgt c2_i32_0 c0_i32_3
  let v9 : BitVec 32 := Scalar.extui v8
  let c0_i32_4 : BitVec 32 := 0#32
  let v10 : BitVec 1 := Scalar.cmpi .slt c2_i32_0 c0_i32_4
  let v11 : BitVec 32 := Scalar.extui v10
  let v12 : BitVec 32 := Scalar.subi v9 v11
  let v13 : BitVec 1 := Scalar.cmpi .ne v7 v12
  let v14 : BitVec 32 := Scalar.remsi v1 c2_i32_0
  let c0_i32_5 : BitVec 32 := 0#32
  let v15 : BitVec 1 := Scalar.cmpi .ne v14 c0_i32_5
  let v16 : BitVec 1 := Scalar.andi v13 v15
  let c1_i32 : BitVec 32 := 1#32
  let v17 : BitVec 32 := Scalar.subi v2 c1_i32
  let v18 : BitVec 32 := Scalar.select v16 v17 v2
  let c0_i32_6 : BitVec 32 := 0#32
  let v19 : BitVec 32 := Scalar.addi c0_i32_6 arg1
  let c2_i32_7 : BitVec 32 := 2#32
  let c0_i32_8 : BitVec 32 := 0#32
  let v20 : BitVec 1 := Scalar.cmpi .eq c2_i32_7 c0_i32_8
  let c1_i32_9 : BitVec 32 := 1#32
  let v21 : BitVec 32 := Scalar.select v20 c1_i32_9 c2_i32_7
  let v22 : BitVec 32 := Scalar.remsi v1 v21
  let c0_i32_10 : BitVec 32 := 0#32
  let v23 : BitVec 1 := Scalar.cmpi .ne v22 c0_i32_10
  let c0_i32_11 : BitVec 32 := 0#32
  let v24 : BitVec 1 := Scalar.cmpi .slt v22 c0_i32_11
  let c0_i32_12 : BitVec 32 := 0#32
  let v25 : BitVec 1 := Scalar.cmpi .slt v21 c0_i32_12
  let v26 : BitVec 1 := Scalar.xori v24 v25
  let v27 : BitVec 1 := Scalar.andi v26 v23
  let v28 : BitVec 32 := Scalar.addi v22 v21
  let v29 : BitVec 32 := Scalar.select v27 v28 v22
  let c0_i32_13 : BitVec 32 := 0#32
  ![v18.toNat, v19.toNat, v29.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg2 c2_i32
  let c1_i32 : BitVec 32 := 1#32
  let v1 : BitVec 32 := Scalar.addi v0 c1_i32
  let c2_i32_0 : BitVec 32 := 2#32
  let v2 : BitVec 32 := Scalar.divsi v1 c2_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c2_i32_0 c0_i32_2
  let v9 : BitVec 32 := Scalar.extui v8
  let c0_i32_3 : BitVec 32 := 0#32
  let v10 : BitVec 1 := Scalar.cmpi .slt c2_i32_0 c0_i32_3
  let v11 : BitVec 32 := Scalar.extui v10
  let v12 : BitVec 32 := Scalar.subi v9 v11
  let v13 : BitVec 1 := Scalar.cmpi .ne v7 v12
  let v14 : BitVec 32 := Scalar.remsi v1 c2_i32_0
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c0_i32_6 : BitVec 32 := 0#32
  let v19 : BitVec 32 := Scalar.addi c0_i32_6 arg1
  let c2_i32_7 : BitVec 32 := 2#32
  let c0_i32_8 : BitVec 32 := 0#32
  let v20 : BitVec 1 := Scalar.cmpi .eq c2_i32_7 c0_i32_8
  let c1_i32_9 : BitVec 32 := 1#32
  let v21 : BitVec 32 := Scalar.select v20 c1_i32_9 c2_i32_7
  let v22 : BitVec 32 := Scalar.remsi v1 v21
  let c0_i32_10 : BitVec 32 := 0#32
  let v23 : BitVec 1 := Scalar.cmpi .ne v22 c0_i32_10
  let c0_i32_11 : BitVec 32 := 0#32
  let v24 : BitVec 1 := Scalar.cmpi .slt v22 c0_i32_11
  let c0_i32_12 : BitVec 32 := 0#32
  let v25 : BitVec 1 := Scalar.cmpi .slt v21 c0_i32_12
  let v26 : BitVec 1 := Scalar.xori v24 v25
  let v27 : BitVec 1 := Scalar.andi v26 v23
  let v28 : BitVec 32 := Scalar.addi v22 v21
  let v29 : BitVec 32 := Scalar.select v27 v28 v22
  let c0_i32_13 : BitVec 32 := 0#32
  ![v18.toNat, v19.toNat, v29.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x512x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x2048x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1x2048x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== Reference3Ideal.lean ====
abbrev S2x4096x5632 : Shape := ⟨3, ![2, 4096, 5632]⟩
abbrev S4x2048x2816 : Shape := ⟨3, ![4, 2048, 2816]⟩
abbrev S4096x2x5632 : Shape := ⟨3, ![4096, 2, 5632]⟩
abbrev S4096x11264 : Shape := ⟨2, ![4096, 11264]⟩
abbrev S_ : Shape := ⟨0, ![]⟩
abbrev S4096x2048 : Shape := ⟨2, ![4096, 2048]⟩
abbrev S2048x4x2816 : Shape := ⟨3, ![2048, 4, 2816]⟩
abbrev S2048x11264 : Shape := ⟨2, ![2048, 11264]⟩

abbrev nBuf : Space → Nat
  | .hbm => 12
  | .vmem => 0
  | .smem => 0
  | _ => 0

abbrev bufTy : (tb : Table) → Fin (tcTables nBuf tb) → BufTy
  | .hbm, ⟨0, _⟩ => ⟨S2x4096x5632, .bf16⟩
  | .hbm, ⟨1, _⟩ => ⟨S4x2048x2816, .bf16⟩
  | .hbm, ⟨2, _⟩ => ⟨S4096x2x5632, .bf16⟩
  | .hbm, ⟨3, _⟩ => ⟨S4096x11264, .bf16⟩
  | .hbm, ⟨4, _⟩ => ⟨S_, .f32⟩
  | .hbm, ⟨5, _⟩ => ⟨S4096x2048, .f32⟩
  | .hbm, ⟨6, _⟩ => ⟨S4x2048x2816, .f32⟩
  | .hbm, ⟨7, _⟩ => ⟨S2048x4x2816, .f32⟩
  | .hbm, ⟨8, _⟩ => ⟨S2048x11264, .f32⟩
  | .hbm, ⟨9, _⟩ => ⟨S4096x11264, .f32⟩
  | .hbm, ⟨10, _⟩ => ⟨S4096x11264, .f32⟩
  | .hbm, ⟨11, _⟩ => ⟨S4096x2048, .f32⟩
  | _, _ => ⟨S2x4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel4.lean ====
abbrev S4096x5632 : Shape := ⟨2, ![4096, 5632]⟩
abbrev S4096x2048 : Shape := ⟨2, ![4096, 2048]⟩
abbrev S1x4096x2048 : Shape := ⟨3, ![1, 4096, 2048]⟩
abbrev S4x1x1408x2048 : Shape := ⟨4, ![4, 1, 1408, 2048]⟩
abbrev S2048x1408 : Shape := ⟨2, ![2048, 1408]⟩
abbrev S1x2048x1024 : Shape := ⟨3, ![1, 2048, 1024]⟩
abbrev S1x1x1408x1024 : Shape := ⟨4, ![1, 1, 1408, 1024]⟩
abbrev S1408x1024 : Shape := ⟨2, ![1408, 1024]⟩
abbrev S2048x1024 : Shape := ⟨2, ![2048, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x5632, .bf16⟩
  | .hbm, ⟨1, _⟩ => ⟨S4096x2048, .bf16⟩
  | .hbm, ⟨2, _⟩ => ⟨S1x4096x2048, .bf16⟩
  | .hbm, ⟨3, _⟩ => ⟨S4x1x1408x2048, .bf16⟩
  | .local _ .vmem, ⟨0, _⟩ => ⟨S2048x1408, .bf16⟩
  | .local _ .vmem, ⟨1, _⟩ => ⟨S2048x1408, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1x1x1408x1024, .bf16⟩
  | .local _ .vmem, ⟨5, _⟩ => ⟨S1x1x1408x1024, .bf16⟩
  | .local _ .vmem, ⟨6, _⟩ => ⟨S1408x1024, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 2], ![false, false, false]⟩

def k0_cond3 (i : grid0.Coords) : BitVec 1 :=
  let arg2 : BitVec 32 := BitVec.ofNat 32 (i 2).val
  let c1_i32 : BitVec 32 := 1#32
  let v10 : BitVec 1 := Scalar.cmpi .eq arg2 c1_i32
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let v27 : BitVec 32 := Scalar.addi c0_i32_11 v26
  let c0_i32_12 : BitVec 32 := 0#32
  let c0_i32_13 : BitVec 32 := 0#32
  ![v16.toNat, c0_i32_12.toNat, v27.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1x1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S4096x5632 : Shape := ⟨2, ![4096, 5632]⟩
abbrev S4096x2048 : Shape := ⟨2, ![4096, 2048]⟩
abbrev S_ : Shape := ⟨0, ![]⟩
abbrev S4x1408x2048 : Shape := ⟨3, ![4, 1408, 2048]⟩
abbrev S5632x2048 : Shape := ⟨2, ![5632, 2048]⟩
abbrev S2048x5632 : Shape := ⟨2, ![2048, 5632]⟩
abbrev S4x1x1408x2048 : Shape := ⟨4, ![4, 1, 1408, 2048]⟩

abbrev nBuf : Space → Nat
  | .hbm => 13
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S4096x2048, .bf16⟩
  | .hbm, ⟨2, _⟩ => ⟨S_, .f32⟩
  | .hbm, ⟨3, _⟩ => ⟨S4x1408x2048, .f32⟩
  | .hbm, ⟨4, _⟩ => ⟨S4096x5632, .f32⟩
  | .hbm, ⟨5, _⟩ => ⟨S5632x2048, .f32⟩
  | .hbm, ⟨6, _⟩ => ⟨S4096x2048, .f32⟩
  | .hbm, ⟨7, _⟩ => ⟨S4096x2048, .f32⟩
  | .hbm, ⟨8, _⟩ => ⟨S2048x5632, .f32⟩
  | .hbm, ⟨9, _⟩ => ⟨S5632x2048, .f32⟩
  | .hbm, ⟨10, _⟩ => ⟨S4x1408x2048, .f32⟩
  | .hbm, ⟨11, _⟩ => ⟨S4x1408x2048, .bf16⟩
  | .hbm, ⟨12, _⟩ => ⟨S4x1x1408x2048, .bf16⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Kernel5.lean ====
abbrev S4096x2048 : Shape := ⟨2, ![4096, 2048]⟩
abbrev S4x1408x2048 : Shape := ⟨3, ![4, 1408, 2048]⟩
abbrev S1x4096x2048 : Shape := ⟨3, ![1, 4096, 2048]⟩
abbrev S4096x5632 : Shape := ⟨2, ![4096, 5632]⟩
abbrev S1x1024x2048 : Shape := ⟨3, ![1, 1024, 2048]⟩
abbrev S1x1408x2048 : Shape := ⟨3, ![1, 1408, 2048]⟩
abbrev S1024x1408 : Shape := ⟨2, ![1024, 1408]⟩
abbrev S1024x2048 : Shape := ⟨2, ![1024, 2048]⟩
abbrev S1408x2048 : Shape := ⟨2, ![1408, 2048]⟩

abbrev nBuf : Space → Nat
  | .hbm => 4
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4x1408x2048, .bf16⟩
  | .hbm, ⟨2, _⟩ => ⟨S1x4096x2048, .bf16⟩
  | .hbm, ⟨3, _⟩ => ⟨S4096x5632, .f32⟩
  | .local _ .vmem, ⟨0, _⟩ => ⟨S1x1024x2048, .bf16⟩
  | .local _ .vmem, ⟨1, _⟩ => ⟨S1x1024x2048, .bf16⟩
  | .local _ .vmem, ⟨2, _⟩ => ⟨S1x1408x2048, .bf16⟩
  | .local _ .vmem, ⟨3, _⟩ => ⟨S1x1408x2048, .bf16⟩
  | .local _ .vmem, ⟨4, _⟩ => ⟨S1024x1408, .f32⟩
  | .local _ .vmem, ⟨5, _⟩ => ⟨S1024x1408, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg2 c1_i32
  let c0_i32 : BitVec 32 := 0#32
  let v1 : BitVec 32 := Scalar.addi v0 c0_i32
  let c1_i32_0 : BitVec 32 := 1#32
  let v2 : BitVec 32 := Scalar.divsi v1 c1_i32_0
  let c0_i32_1 : BitVec 32 := 0#32
  let v3 : BitVec 1 := Scalar.cmpi .sgt v1 c0_i32_1
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c0_i32_3 : BitVec 32 := 0#32
  let v8 : BitVec 1 := Scalar.cmpi .sgt c1_i32_0 c0_i32_3
  let v9 : BitVec 32 := Scalar.extui v8
  let c0_i32_4 : BitVec 32 := 0#32
  let v10 : BitVec 1 := Scalar.cmpi .slt c1_i32_0 c0_i32_4
  let v11 : BitVec 32 := Scalar.extui v10
  let v12 : BitVec 32 := Scalar.subi v9 v11
  let v13 : BitVec 1 := Scalar.cmpi .ne v7 v12
  let v14 : BitVec 32 := Scalar.remsi v1 c1_i32_0
  let c0_i32_5 : BitVec 32 := 0#32
  let v15 : BitVec 1 := Scalar.cmpi .ne v14 c0_i32_5
  let v16 : BitVec 1 := Scalar.andi v13 v15
  let c1_i32_6 : BitVec 32 := 1#32
  let v17 : BitVec 32 := Scalar.subi v2 c1_i32_6
  let v18 : BitVec 32 := Scalar.select v16 v17 v2
  let c1_i32_7 : BitVec 32 := 1#32
  let v19 : BitVec 32 := Scalar.muli arg2 c1_i32_7
  let c0_i32_8 : BitVec 32 := 0#32
  let v20 : BitVec 32 := Scalar.addi v19 c0_i32_8
  let c1_i32_9 : BitVec 32 := 1#32
  let c0_i32_10 : BitVec 32 := 0#32
  let v21 : BitVec 1 := Scalar.cmpi .eq c1_i32_9 c0_i32_10
  let c1_i32_11 : BitVec 32 := 1#32
  let v22 : BitVec 32 := Scalar.select v21 c1_i32_11 c1_i32_9
  let v23 : BitVec 32 := Scalar.remsi v20 v22
  let c0_i32_12 : BitVec 32 := 0#32
  let v24 : BitVec 1 := Scalar.cmpi .ne v23 c0_i32_12
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let v28 : BitVec 1 := Scalar.andi v27 v24
  let v29 : BitVec 32 := Scalar.addi v23 v22
  let v30 : BitVec 32 := Scalar.select v28 v29 v23
  let c0_i32_15 : BitVec 32 := 0#32
  ![v18.toNat, arg0.toNat, v30.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg2 c1_i32
  let c0_i32 : BitVec 32 := 0#32
  let v1 : BitVec 32 := Scalar.addi v0 c0_i32
  let c1_i32_0 : BitVec 32 := 1#32
  let v2 : BitVec 32 := Scalar.divsi arg1 c1_i32_0
  let c0_i32_1 : BitVec 32 := 0#32
  let v3 : BitVec 1 := Scalar.cmpi .sgt arg1 c0_i32_1
  let v4 : BitVec 32 := Scalar.extui v3
  let c0_i32_2 : BitVec 32 := 0#32
  let v5 : BitVec 1 := Scalar.cmpi .slt arg1 c0_i32_2
  let v6 : BitVec 32 := Scalar.extui v5
  let v7 : BitVec 32 := Scalar.subi v4 v6
  let c0_i32_3 : BitVec 32 := 0#32
  let v8 : BitVec 1 := Scalar.cmpi .sgt c1_i32_0 c0_i32_3
  let v9 : BitVec 32 := Scalar.extui v8
  let c0_i32_4 : BitVec 32 := 0#32
  let v10 : BitVec 1 := Scalar.cmpi .slt c1_i32_0 c0_i32_4
  let v11 : BitVec 32 := Scalar.extui v10
  let v12 : BitVec 32 := Scalar.subi v9 v11
  let v13 : BitVec 1 := Scalar.cmpi .ne v7 v12
  let v14 : BitVec 32 := Scalar.remsi arg1 c1_i32_0
  let c0_i32_5 : BitVec 32 := 0#32
  let v15 : BitVec 1 := Scalar.cmpi .ne v14 c0_i32_5
  let v16 : BitVec 1 := Scalar.andi v13 v15
  let c1_i32_6 : BitVec 32 := 1#32
  let v17 : BitVec 32 := Scalar.subi v2 c1_i32_6
  let v18 : BitVec 32 := Scalar.select v16 v17 v2
  let c1_i32_7 : BitVec 32 := 1#32
  let c0_i32_8 : BitVec 32 := 0#32
  let v19 : BitVec 1 := Scalar.cmpi .eq c1_i32_7 c0_i32_8
  let c1_i32_9 : BitVec 32 := 1#32
  let v20 : BitVec 32 := Scalar.select v19 c1_i32_9 c1_i32_7
  let v21 : BitVec 32 := Scalar.remsi arg1 v20
  let c0_i32_10 : BitVec 32 := 0#32
  let v22 : BitVec 1 := Scalar.cmpi .ne v21 c0_i32_10
  let c0_i32_11 : BitVec 32 := 0#32
  let v23 : BitVec 1 := Scalar.cmpi .slt v21 c0_i32_11
  let c0_i32_12 : BitVec 32 := 0#32
  let v24 : BitVec 1 := Scalar.cmpi .slt v20 c0_i32_12
  let v25 : BitVec 1 := Scalar.xori v23 v24
  let v26 : BitVec 1 := Scalar.andi v25 v22
  let v27 : BitVec 32 := Scalar.addi v21 v20
  let v28 : BitVec 32 := Scalar.select v26 v27 v21
  let c0_i32_13 : BitVec 32 := 0#32
  let v29 : BitVec 32 := Scalar.addi c0_i32_13 v28
  let c0_i32_14 : BitVec 32 := 0#32
  ![v18.toNat, v29.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S4096x2048 : Shape := ⟨2, ![4096, 2048]⟩
abbrev S4x1408x2048 : Shape := ⟨3, ![4, 1408, 2048]⟩
abbrev S_ : Shape := ⟨0, ![]⟩
abbrev S4096x5632 : Shape := ⟨2, ![4096, 5632]⟩
abbrev S5632x2048 : Shape := ⟨2, ![5632, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4x1408x2048, .bf16⟩
  | .hbm, ⟨2, _⟩ => ⟨S_, .f32⟩
  | .hbm, ⟨3, _⟩ => ⟨S4096x5632, .f32⟩
  | .hbm, ⟨4, _⟩ => ⟨S4x1408x2048, .f32⟩
  | .hbm, ⟨5, _⟩ => ⟨S5632x2048, .f32⟩
  | .hbm, ⟨6, _⟩ => ⟨S4096x2048, .f32⟩
  | .hbm, ⟨7, _⟩ => ⟨S4096x2048, .f32⟩
  | .hbm, ⟨8, _⟩ => ⟨S4096x5632, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel6.lean ====
abbrev S4096x2048 : Shape := ⟨2, ![4096, 2048]⟩
abbrev S4x4096x2048 : Shape := ⟨3, ![4, 4096, 2048]⟩
abbrev S4x1x2048x2048 : Shape := ⟨4, ![4, 1, 2048, 2048]⟩
abbrev S4096x512 : Shape := ⟨2, ![4096, 512]⟩
abbrev S1x4096x1024 : Shape := ⟨3, ![1, 4096, 1024]⟩
abbrev S1x1x512x1024 : Shape := ⟨4, ![1, 1, 512, 1024]⟩
abbrev S4096x1024 : Shape := ⟨2, ![4096, 1024]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4x4096x2048, .bf16⟩
  | .hbm, ⟨2, _⟩ => ⟨S4x1x2048x2048, .bf16⟩
  | .local _ .vmem, ⟨0, _⟩ => ⟨S4096x512, .bf16⟩
  | .local _ .vmem, ⟨1, _⟩ => ⟨S4096x512, .bf16⟩
  | .local _ .vmem, ⟨2, _⟩ => ⟨S1x4096x1024, .bf16⟩
  | .local _ .vmem, ⟨3, _⟩ => ⟨S1x4096x1024, .bf16⟩
  | .local _ .vmem, ⟨4, _⟩ => ⟨S1x1x512x1024, .bf16⟩
  | .local _ .vmem, ⟨5, _⟩ => ⟨S1x1x512x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 32 := Scalar.addi c0_i32_4 arg0
  let c2_i32_5 : BitVec 32 := 2#32
  let c0_i32_6 : BitVec 32 := 0#32
  let v18 : BitVec 1 := Scalar.cmpi .eq c2_i32_5 c0_i32_6
  let c1_i32_7 : BitVec 32 := 1#32
  let v19 : BitVec 32 := Scalar.select v18 c1_i32_7 c2_i32_5
  let v20 : BitVec 32 := Scalar.remsi arg1 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  let c0_i32_12 : BitVec 32 := 0#32
  ![v16.toNat, c0_i32_11.toNat, v17.toNat, v27.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S4096x2048 : Shape := ⟨2, ![4096, 2048]⟩
abbrev S4x4096x2048 : Shape := ⟨3, ![4, 4096, 2048]⟩
abbrev S4096x4x2048 : Shape := ⟨3, ![4096, 4, 2048]⟩
abbrev S4096x8192 : Shape := ⟨2, ![4096, 8192]⟩
abbrev S_ : Shape := ⟨0, ![]⟩
abbrev S4x2048x2048 : Shape := ⟨3, ![4, 2048, 2048]⟩
abbrev S2048x4x2048 : Shape := ⟨3, ![2048, 4, 2048]⟩
abbrev S2048x8192 : Shape := ⟨2, ![2048, 8192]⟩
abbrev S8192x2048 : Shape := ⟨2, ![8192, 2048]⟩
abbrev S4x1x2048x2048 : Shape := ⟨4, ![4, 1, 2048, 2048]⟩

abbrev nBuf : Space → Nat
  | .hbm => 17
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4x4096x2048, .bf16⟩
  | .hbm, ⟨2, _⟩ => ⟨S4096x4x2048, .bf16⟩
  | .hbm, ⟨3, _⟩ => ⟨S4096x8192, .bf16⟩
  | .hbm, ⟨4, _⟩ => ⟨S_, .f32⟩
  | .hbm, ⟨5, _⟩ => ⟨S4x2048x2048, .f32⟩
  | .hbm, ⟨6, _⟩ => ⟨S4096x2048, .f32⟩
  | .hbm, ⟨7, _⟩ => ⟨S2048x4x2048, .f32⟩
  | .hbm, ⟨8, _⟩ => ⟨S2048x8192, .f32⟩
  | .hbm, ⟨9, _⟩ => ⟨S4096x8192, .f32⟩
  | .hbm, ⟨10, _⟩ => ⟨S4096x8192, .f32⟩
  | .hbm, ⟨11, _⟩ => ⟨S8192x2048, .f32⟩
  | .hbm, ⟨12, _⟩ => ⟨S2048x8192, .f32⟩
  | .hbm, ⟨13, _⟩ => ⟨S2048x4x2048, .f32⟩
  | .hbm, ⟨14, _⟩ => ⟨S4x2048x2048, .f32⟩
  | .hbm, ⟨15, _⟩ => ⟨S4x2048x2048, .bf16⟩
  | .hbm, ⟨16, _⟩ => ⟨S4x1x2048x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩

abbrev nD : Nat := 1
abbrev τ : Topo := Topo.v7x

variable {F : FTy → Type} [FloatOps F]
-- ==== Kernel7.lean ====
abbrev S4x4096x2048 : Shape := ⟨3, ![4, 4096, 2048]⟩
abbrev S4x2048x2048 : Shape := ⟨3, ![4, 2048, 2048]⟩
abbrev S4096x2048 : Shape := ⟨2, ![4096, 2048]⟩
abbrev S1x1024x1024 : Shape := ⟨3, ![1, 1024, 1024]⟩
abbrev S1x2048x1024 : Shape := ⟨3, ![1, 2048, 1024]⟩
abbrev S1024x2048 : Shape := ⟨2, ![1024, 2048]⟩
abbrev S1024x1024 : Shape := ⟨2, ![1024, 1024]⟩
abbrev S2048x1024 : Shape := ⟨2, ![2048, 1024]⟩

abbrev nBuf : Space → Nat
  | .hbm => 3
  | .vmem => 10
  | .smem => 0
  | _ => 0

abbrev bufTy : (tb : Table) → Fin (tcTables nBuf tb) → BufTy
  | .hbm, ⟨0, _⟩ => ⟨S4x4096x2048, .bf16⟩
  | .hbm, ⟨1, _⟩ => ⟨S4x2048x2048, .bf16⟩
  | .hbm, ⟨2, _⟩ => ⟨S4096x2048, .f32⟩
  | .local _ .vmem, ⟨0, _⟩ => ⟨S1x1024x1024, .bf16⟩
  | .local _ .vmem, ⟨1, _⟩ => ⟨S1x1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1x2048x1024, .bf16⟩
  | .local _ .vmem, ⟨5, _⟩ => ⟨S1x2048x1024, .bf16⟩
  | .local _ .vmem, ⟨6, _⟩ => ⟨S1x2048x1024, .bf16⟩
  | .local _ .vmem, ⟨7, _⟩ => ⟨S1x2048x1024, .bf16⟩
  | .local _ .vmem, ⟨8, _⟩ => ⟨S1024x2048, .f32⟩
  | .local _ .vmem, ⟨9, _⟩ => ⟨S1024x2048, .f32⟩
  | _, _ => ⟨S4x4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 1, 4], ![false, false, false]⟩

def k0_cond1 (i : grid0.Coords) : BitVec 1 :=
  let arg2 : BitVec 32 := BitVec.ofNat 32 (i 2).val
  let c0_i32 : BitVec 32 := 0#32
  let v11 : BitVec 1 := Scalar.cmpi .eq arg2 c0_i32
  let v12 : BitVec 32 := Scalar.extui v11
  let c0_i32_12 : BitVec 32 := 0#32
  let v13 : BitVec 1 := Scalar.cmpi .ne v12 c0_i32_12
  v13

def k0_cond2 (i : grid0.Coords) : BitVec 1 :=
  let arg2 : BitVec 32 := BitVec.ofNat 32 (i 2).val
  let c0_i32_13 : BitVec 32 := 0#32
  let v14 : BitVec 1 := Scalar.cmpi .sgt arg2 c0_i32_13
  let v15 : BitVec 32 := Scalar.extui v14
  let c0_i32_14 : BitVec 32 := 0#32
  let v16 : BitVec 1 := Scalar.cmpi .ne v15 c0_i32_14
  v16

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg2 c2_i32
  let c0_i32 : BitVec 32 := 0#32
  let v1 : BitVec 32 := Scalar.addi v0 c0_i32
  let c2_i32_0 : BitVec 32 := 2#32
  let v2 : BitVec 32 := Scalar.divsi v1 c2_i32_0
  let c0_i32_1 : BitVec 32 := 0#32
  let v3 : BitVec 1 := Scalar.cmpi .sgt v1 c0_i32_1
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c0_i32_3 : BitVec 32 := 0#32
  let v8 : BitVec 1 := Scalar.cmpi .sgt c2_i32_0 c0_i32_3
  let v9 : BitVec 32 := Scalar.extui v8
  let c0_i32_4 : BitVec 32 := 0#32
  let v10 : BitVec 1 := Scalar.cmpi .slt c2_i32_0 c0_i32_4
  let v11 : BitVec 32 := Scalar.extui v10
  let v12 : BitVec 32 := Scalar.subi v9 v11
  let v13 : BitVec 1 := Scalar.cmpi .ne v7 v12
  let v14 : BitVec 32 := Scalar.remsi v1 c2_i32_0
  let c0_i32_5 : BitVec 32 := 0#32
  let v15 : BitVec 1 := Scalar.cmpi .ne v14 c0_i32_5
  let v16 : BitVec 1 := Scalar.andi v13 v15
  let c1_i32 : BitVec 32 := 1#32
  let v17 : BitVec 32 := Scalar.subi v2 c1_i32
  let v18 : BitVec 32 := Scalar.select v16 v17 v2
  let c2_i32_6 : BitVec 32 := 2#32
  let v19 : BitVec 32 := Scalar.muli arg2 c2_i32_6
  let c0_i32_7 : BitVec 32 := 0#32
  let v20 : BitVec 32 := Scalar.addi v19 c0_i32_7
  let c2_i32_8 : BitVec 32 := 2#32
  let c0_i32_9 : BitVec 32 := 0#32
  let v21 : BitVec 1 := Scalar.cmpi .eq c2_i32_8 c0_i32_9
  let c1_i32_10 : BitVec 32 := 1#32
  let v22 : BitVec 32 := Scalar.select v21 c1_i32_10 c2_i32_8
  let v23 : BitVec 32 := Scalar.remsi v20 v22
  let c0_i32_11 : BitVec 32 := 0#32
  let v24 : BitVec 1 := Scalar.cmpi .ne v23 c0_i32_11
  let c0_i32_12 : BitVec 32 := 0#32
  let v25 : BitVec 1 := Scalar.cmpi .slt v23 c0_i32_12
  let c0_i32_13 : BitVec 32 := 0#32
  let v26 : BitVec 1 := Scalar.cmpi .slt v22 c0_i32_13
  let v27 : BitVec 1 := Scalar.xori v25 v26
  let v28 : BitVec 1 := Scalar.andi v27 v24
  let v29 : BitVec 32 := Scalar.addi v23 v22
  let v30 : BitVec 32 := Scalar.select v28 v29 v23
  let c0_i32_14 : BitVec 32 := 0#32
  ![v18.toNat, arg0.toNat, v30.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg2 c2_i32
  let c1_i32 : BitVec 32 := 1#32
  let v1 : BitVec 32 := Scalar.addi v0 c1_i32
  let c2_i32_0 : BitVec 32 := 2#32
  let v2 : BitVec 32 := Scalar.divsi v1 c2_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c2_i32_0 c0_i32_2
  let v9 : BitVec 32 := Scalar.extui v8
  let c0_i32_3 : BitVec 32 := 0#32
  let v10 : BitVec 1 := Scalar.cmpi .slt c2_i32_0 c0_i32_3
  let v11 : BitVec 32 := Scalar.extui v10
  let v12 : BitVec 32 := Scalar.subi v9 v11
  let v13 : BitVec 1 := Scalar.cmpi .ne v7 v12
  let v14 : BitVec 32 := Scalar.remsi v1 c2_i32_0
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c2_i32_6 : BitVec 32 := 2#32
  let v19 : BitVec 32 := Scalar.muli arg2 c2_i32_6
  let c1_i32_7 : BitVec 32 := 1#32
  let v20 : BitVec 32 := Scalar.addi v19 c1_i32_7
  let c2_i32_8 : BitVec 32 := 2#32
  let c0_i32_9 : BitVec 32 := 0#32
  let v21 : BitVec 1 := Scalar.cmpi .eq c2_i32_8 c0_i32_9
  let c1_i32_10 : BitVec 32 := 1#32
  let v22 : BitVec 32 := Scalar.select v21 c1_i32_10 c2_i32_8
  let v23 : BitVec 32 := Scalar.remsi v20 v22
  let c0_i32_11 : BitVec 32 := 0#32
  let v24 : BitVec 1 := Scalar.cmpi .ne v23 c0_i32_11
  let c0_i32_12 : BitVec 32 := 0#32
  let v25 : BitVec 1 := Scalar.cmpi .slt v23 c0_i32_12
  let c0_i32_13 : BitVec 32 := 0#32
  let v26 : BitVec 1 := Scalar.cmpi .slt v22 c0_i32_13
  let v27 : BitVec 1 := Scalar.xori v25 v26
  let v28 : BitVec 1 := Scalar.andi v27 v24
  let v29 : BitVec 32 := Scalar.addi v23 v22
  let v30 : BitVec 32 := Scalar.select v28 v29 v23
  let c0_i32_14 : BitVec 32 := 0#32
  ![v18.toNat, arg0.toNat, v30.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg2 c2_i32
  let c0_i32 : BitVec 32 := 0#32
  let v1 : BitVec 32 := Scalar.addi v0 c0_i32
  let c2_i32_0 : BitVec 32 := 2#32
  let v2 : BitVec 32 := Scalar.divsi v1 c2_i32_0
  let c0_i32_1 : BitVec 32 := 0#32
  let v3 : BitVec 1 := Scalar.cmpi .sgt v1 c0_i32_1
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c0_i32_3 : BitVec 32 := 0#32
  let v8 : BitVec 1 := Scalar.cmpi .sgt c2_i32_0 c0_i32_3
  let v9 : BitVec 32 := Scalar.extui v8
  let c0_i32_4 : BitVec 32 := 0#32
  let v10 : BitVec 1 := Scalar.cmpi .slt c2_i32_0 c0_i32_4
  let v11 : BitVec 32 := Scalar.extui v10
  let v12 : BitVec 32 := Scalar.subi v9 v11
  let v13 : BitVec 1 := Scalar.cmpi .ne v7 v12
  let v14 : BitVec 32 := Scalar.remsi v1 c2_i32_0
  let c0_i32_5 : BitVec 32 := 0#32
  let v15 : BitVec 1 := Scalar.cmpi .ne v14 c0_i32_5
  let v16 : BitVec 1 := Scalar.andi v13 v15
  let c1_i32 : BitVec 32 := 1#32
  let v17 : BitVec 32 := Scalar.subi v2 c1_i32
  let v18 : BitVec 32 := Scalar.select v16 v17 v2
  let c0_i32_6 : BitVec 32 := 0#32
  let v19 : BitVec 32 := Scalar.addi c0_i32_6 arg1
  let c2_i32_7 : BitVec 32 := 2#32
  let c0_i32_8 : BitVec 32 := 0#32
  let v20 : BitVec 1 := Scalar.cmpi .eq c2_i32_7 c0_i32_8
  let c1_i32_9 : BitVec 32 := 1#32
  let v21 : BitVec 32 := Scalar.select v20 c1_i32_9 c2_i32_7
  let v22 : BitVec 32 := Scalar.remsi v1 v21
  let c0_i32_10 : BitVec 32 := 0#32
  let v23 : BitVec 1 := Scalar.cmpi .ne v22 c0_i32_10
  let c0_i32_11 : BitVec 32 := 0#32
  let v24 : BitVec 1 := Scalar.cmpi .slt v22 c0_i32_11
  let c0_i32_12 : BitVec 32 := 0#32
  let v25 : BitVec 1 := Scalar.cmpi .slt v21 c0_i32_12
  let v26 : BitVec 1 := Scalar.xori v24 v25
  let v27 : BitVec 1 := Scalar.andi v26 v23
  let v28 : BitVec 32 := Scalar.addi v22 v21
  let v29 : BitVec 32 := Scalar.select v27 v28 v22
  let c0_i32_13 : BitVec 32 := 0#32
  ![v18.toNat, v19.toNat, v29.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg2 c2_i32
  let c1_i32 : BitVec 32 := 1#32
  let v1 : BitVec 32 := Scalar.addi v0 c1_i32
  let c2_i32_0 : BitVec 32 := 2#32
  let v2 : BitVec 32 := Scalar.divsi v1 c2_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c2_i32_0 c0_i32_2
  let v9 : BitVec 32 := Scalar.extui v8
  let c0_i32_3 : BitVec 32 := 0#32
  let v10 : BitVec 1 := Scalar.cmpi .slt c2_i32_0 c0_i32_3
  let v11 : BitVec 32 := Scalar.extui v10
  let v12 : BitVec 32 := Scalar.subi v9 v11
  let v13 : BitVec 1 := Scalar.cmpi .ne v7 v12
  let v14 : BitVec 32 := Scalar.remsi v1 c2_i32_0
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c0_i32_6 : BitVec 32 := 0#32
  let v19 : BitVec 32 := Scalar.addi c0_i32_6 arg1
  let c2_i32_7 : BitVec 32 := 2#32
  let c0_i32_8 : BitVec 32 := 0#32
  let v20 : BitVec 1 := Scalar.cmpi .eq c2_i32_7 c0_i32_8
  let c1_i32_9 : BitVec 32 := 1#32
  let v21 : BitVec 32 := Scalar.select v20 c1_i32_9 c2_i32_7
  let v22 : BitVec 32 := Scalar.remsi v1 v21
  let c0_i32_10 : BitVec 32 := 0#32
  let v23 : BitVec 1 := Scalar.cmpi .ne v22 c0_i32_10
  let c0_i32_11 : BitVec 32 := 0#32
  let v24 : BitVec 1 := Scalar.cmpi .slt v22 c0_i32_11
  let c0_i32_12 : BitVec 32 := 0#32
  let v25 : BitVec 1 := Scalar.cmpi .slt v21 c0_i32_12
  let v26 : BitVec 1 := Scalar.xori v24 v25
  let v27 : BitVec 1 := Scalar.andi v26 v23
  let v28 : BitVec 32 := Scalar.addi v22 v21
  let v29 : BitVec 32 := Scalar.select v27 v28 v22
  let c0_i32_13 : BitVec 32 := 0#32
  ![v18.toNat, v19.toNat, v29.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1x2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1024x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== Reference7Ideal.lean ====
abbrev S4x4096x2048 : Shape := ⟨3, ![4, 4096, 2048]⟩
abbrev S4x2048x2048 : Shape := ⟨3, ![4, 2048, 2048]⟩
abbrev S4096x4x2048 : Shape := ⟨3, ![4096, 4, 2048]⟩
abbrev S4096x8192 : Shape := ⟨2, ![4096, 8192]⟩
abbrev S_ : Shape := ⟨0, ![]⟩
abbrev S4096x2048 : Shape := ⟨2, ![4096, 2048]⟩
abbrev S2048x4x2048 : Shape := ⟨3, ![2048, 4, 2048]⟩
abbrev S2048x8192 : Shape := ⟨2, ![2048, 8192]⟩

abbrev nBuf : Space → Nat
  | .hbm => 12
  | .vmem => 0
  | .smem => 0
  | _ => 0

abbrev bufTy : (tb : Table) → Fin (tcTables nBuf tb) → BufTy
  | .hbm, ⟨0, _⟩ => ⟨S4x4096x2048, .bf16⟩
  | .hbm, ⟨1, _⟩ => ⟨S4x2048x2048, .bf16⟩
  | .hbm, ⟨2, _⟩ => ⟨S4096x4x2048, .bf16⟩
  | .hbm, ⟨3, _⟩ => ⟨S4096x8192, .bf16⟩
  | .hbm, ⟨4, _⟩ => ⟨S_, .f32⟩
  | .hbm, ⟨5, _⟩ => ⟨S4096x2048, .f32⟩
  | .hbm, ⟨6, _⟩ => ⟨S4x2048x2048, .f32⟩
  | .hbm, ⟨7, _⟩ => ⟨S2048x4x2048, .f32⟩
  | .hbm, ⟨8, _⟩ => ⟨S2048x8192, .f32⟩
  | .hbm, ⟨9, _⟩ => ⟨S4096x8192, .f32⟩
  | .hbm, ⟨10, _⟩ => ⟨S4096x8192, .f32⟩
  | .hbm, ⟨11, _⟩ => ⟨S4096x2048, .f32⟩
  | _, _ => ⟨S4x4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel8.lean ====
abbrev S4096x2048 : Shape := ⟨2, ![4096, 2048]⟩
abbrev S3x4096x2048 : Shape := ⟨3, ![3, 4096, 2048]⟩
abbrev S4x1x2048x1536 : Shape := ⟨4, ![4, 1, 2048, 1536]⟩
abbrev S4096x512 : Shape := ⟨2, ![4096, 512]⟩
abbrev S1x4096x512 : Shape := ⟨3, ![1, 4096, 512]⟩
abbrev S1x1x512x512 : Shape := ⟨4, ![1, 1, 512, 512]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S3x4096x2048, .bf16⟩
  | .hbm, ⟨2, _⟩ => ⟨S4x1x2048x1536, .bf16⟩
  | .local _ .vmem, ⟨0, _⟩ => ⟨S4096x512, .bf16⟩
  | .local _ .vmem, ⟨1, _⟩ => ⟨S4096x512, .bf16⟩
  | .local _ .vmem, ⟨2, _⟩ => ⟨S1x4096x512, .bf16⟩
  | .local _ .vmem, ⟨3, _⟩ => ⟨S1x4096x512, .bf16⟩
  | .local _ .vmem, ⟨4, _⟩ => ⟨S1x1x512x512, .bf16⟩
  | .local _ .vmem, ⟨5, _⟩ => ⟨S1x1x512x512, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 12, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.divsi arg1 c3_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg1 c3_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 32 := Scalar.addi c0_i32_4 arg0
  let c3_i32_5 : BitVec 32 := 3#32
  let c0_i32_6 : BitVec 32 := 0#32
  let v18 : BitVec 1 := Scalar.cmpi .eq c3_i32_5 c0_i32_6
  let c1_i32_7 : BitVec 32 := 1#32
  let v19 : BitVec 32 := Scalar.select v18 c1_i32_7 c3_i32_5
  let v20 : BitVec 32 := Scalar.remsi arg1 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  let c0_i32_12 : BitVec 32 := 0#32
  ![v16.toNat, c0_i32_11.toNat, v17.toNat, v27.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S4096x2048 : Shape := ⟨2, ![4096, 2048]⟩
abbrev S3x4096x2048 : Shape := ⟨3, ![3, 4096, 2048]⟩
abbrev S4096x3x2048 : Shape := ⟨3, ![4096, 3, 2048]⟩
abbrev S4096x6144 : Shape := ⟨2, ![4096, 6144]⟩
abbrev S_ : Shape := ⟨0, ![]⟩
abbrev S4x2048x1536 : Shape := ⟨3, ![4, 2048, 1536]⟩
abbrev S2048x4x1536 : Shape := ⟨3, ![2048, 4, 1536]⟩
abbrev S2048x6144 : Shape := ⟨2, ![2048, 6144]⟩
abbrev S6144x2048 : Shape := ⟨2, ![6144, 2048]⟩
abbrev S4x1x2048x1536 : Shape := ⟨4, ![4, 1, 2048, 1536]⟩

abbrev nBuf : Space → Nat
  | .hbm => 17
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S3x4096x2048, .bf16⟩
  | .hbm, ⟨2, _⟩ => ⟨S4096x3x2048, .bf16⟩
  | .hbm, ⟨3, _⟩ => ⟨S4096x6144, .bf16⟩
  | .hbm, ⟨4, _⟩ => ⟨S_, .f32⟩
  | .hbm, ⟨5, _⟩ => ⟨S4x2048x1536, .f32⟩
  | .hbm, ⟨6, _⟩ => ⟨S4096x2048, .f32⟩
  | .hbm, ⟨7, _⟩ => ⟨S2048x4x1536, .f32⟩
  | .hbm, ⟨8, _⟩ => ⟨S2048x6144, .f32⟩
  | .hbm, ⟨9, _⟩ => ⟨S4096x6144, .f32⟩
  | .hbm, ⟨10, _⟩ => ⟨S4096x6144, .f32⟩
  | .hbm, ⟨11, _⟩ => ⟨S6144x2048, .f32⟩
  | .hbm, ⟨12, _⟩ => ⟨S2048x6144, .f32⟩
  | .hbm, ⟨13, _⟩ => ⟨S2048x4x1536, .f32⟩
  | .hbm, ⟨14, _⟩ => ⟨S4x2048x1536, .f32⟩
  | .hbm, ⟨15, _⟩ => ⟨S4x2048x1536, .bf16⟩
  | .hbm, ⟨16, _⟩ => ⟨S4x1x2048x1536, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩

abbrev nD : Nat := 1
abbrev τ : Topo := Topo.v7x

variable {F : FTy → Type} [FloatOps F]
-- ==== Kernel9.lean ====
abbrev S3x4096x2048 : Shape := ⟨3, ![3, 4096, 2048]⟩
abbrev S4x2048x1536 : Shape := ⟨3, ![4, 2048, 1536]⟩
abbrev S4096x2048 : Shape := ⟨2, ![4096, 2048]⟩
abbrev S1x1024x512 : Shape := ⟨3, ![1, 1024, 512]⟩
abbrev S1x2048x512 : Shape := ⟨3, ![1, 2048, 512]⟩
abbrev S1024x2048 : Shape := ⟨2, ![1024, 2048]⟩
abbrev S1024x512 : Shape := ⟨2, ![1024, 512]⟩
abbrev S2048x512 : Shape := ⟨2, ![2048, 512]⟩

abbrev nBuf : Space → Nat
  | .hbm => 3
  | .vmem => 14
  | .smem => 0
  | _ => 0

abbrev bufTy : (tb : Table) → Fin (tcTables nBuf tb) → BufTy
  | .hbm, ⟨0, _⟩ => ⟨S3x4096x2048, .bf16⟩
  | .hbm, ⟨1, _⟩ => ⟨S4x2048x1536, .bf16⟩
  | .hbm, ⟨2, _⟩ => ⟨S4096x2048, .f32⟩
  | .local _ .vmem, ⟨0, _⟩ => ⟨S1x1024x512, .bf16⟩
  | .local _ .vmem, ⟨1, _⟩ => ⟨S1x1024x512, .bf16⟩
  | .local _ .vmem, ⟨2, _⟩ => ⟨S1x1024x512, .bf16⟩
  | .local _ .vmem, ⟨3, _⟩ => ⟨S1x1024x512, .bf16⟩
  | .local _ .vmem, ⟨4, _⟩ => ⟨S1x1024x512, .bf16⟩
  | .local _ .vmem, ⟨5, _⟩ => ⟨S1x1024x512, .bf16⟩
  | .local _ .vmem, ⟨6, _⟩ => ⟨S1x2048x512, .bf16⟩
  | .local _ .vmem, ⟨7, _⟩ => ⟨S1x2048x512, .bf16⟩
  | .local _ .vmem, ⟨8, _⟩ => ⟨S1x2048x512, .bf16⟩
  | .local _ .vmem, ⟨9, _⟩ => ⟨S1x2048x512, .bf16⟩
  | .local _ .vmem, ⟨10, _⟩ => ⟨S1x2048x512, .bf16⟩
  | .local _ .vmem, ⟨11, _⟩ => ⟨S1x2048x512, .bf16⟩
  | .local _ .vmem, ⟨12, _⟩ => ⟨S1024x2048, .f32⟩
  | .local _ .vmem, ⟨13, _⟩ => ⟨S1024x2048, .f32⟩
  | _, _ => ⟨S3x4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![4, 1, 4], ![false, false, false]⟩

def k0_cond1 (i : grid0.Coords) : BitVec 1 :=
  let arg2 : BitVec 32 := BitVec.ofNat 32 (i 2).val
  let c0_i32 : BitVec 32 := 0#32
  let v17 : BitVec 1 := Scalar.cmpi .eq arg2 c0_i32
  let v18 : BitVec 32 := Scalar.extui v17
  let c0_i32_19 : BitVec 32 := 0#32
  let v19 : BitVec 1 := Scalar.cmpi .ne v18 c0_i32_19
  v19

def k0_cond2 (i : grid0.Coords) : BitVec 1 :=
  let arg2 : BitVec 32 := BitVec.ofNat 32 (i 2).val
  let c0_i32_20 : BitVec 32 := 0#32
  let v20 : BitVec 1 := Scalar.cmpi .sgt arg2 c0_i32_20
  let v21 : BitVec 32 := Scalar.extui v20
  let c0_i32_21 : BitVec 32 := 0#32
  let v22 : BitVec 1 := Scalar.cmpi .ne v21 c0_i32_21
  v22

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.muli arg2 c3_i32
  let c0_i32 : BitVec 32 := 0#32
  let v1 : BitVec 32 := Scalar.addi v0 c0_i32
  let c4_i32 : BitVec 32 := 4#32
  let v2 : BitVec 32 := Scalar.divsi v1 c4_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c4_i32 c0_i32_2
  let v9 : BitVec 32 := Scalar.extui v8
  let c0_i32_3 : BitVec 32 := 0#32
  let v10 : BitVec 1 := Scalar.cmpi .slt c4_i32 c0_i32_3
  let v11 : BitVec 32 := Scalar.extui v10
  let v12 : BitVec 32 := Scalar.subi v9 v11
  let v13 : BitVec 1 := Scalar.cmpi .ne v7 v12
  let v14 : BitVec 32 := Scalar.remsi v1 c4_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c3_i32_5 : BitVec 32 := 3#32
  let v19 : BitVec 32 := Scalar.muli arg2 c3_i32_5
  let c0_i32_6 : BitVec 32 := 0#32
  let v20 : BitVec 32 := Scalar.addi v19 c0_i32_6
  let c4_i32_7 : BitVec 32 := 4#32
  let c0_i32_8 : BitVec 32 := 0#32
  let v21 : BitVec 1 := Scalar.cmpi .eq c4_i32_7 c0_i32_8
  let c1_i32_9 : BitVec 32 := 1#32
  let v22 : BitVec 32 := Scalar.select v21 c1_i32_9 c4_i32_7
  let v23 : BitVec 32 := Scalar.remsi v20 v22
  let c0_i32_10 : BitVec 32 := 0#32
  let v24 : BitVec 1 := Scalar.cmpi .ne v23 c0_i32_10
  let c0_i32_11 : BitVec 32 := 0#32
  let v25 : BitVec 1 := Scalar.cmpi .slt v23 c0_i32_11
  let c0_i32_12 : BitVec 32 := 0#32
  let v26 : BitVec 1 := Scalar.cmpi .slt v22 c0_i32_12
  let v27 : BitVec 1 := Scalar.xori v25 v26
  let v28 : BitVec 1 := Scalar.andi v27 v24
  let v29 : BitVec 32 := Scalar.addi v23 v22
  let v30 : BitVec 32 := Scalar.select v28 v29 v23
  let c0_i32_13 : BitVec 32 := 0#32
  ![v18.toNat, arg0.toNat, v30.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.muli arg2 c3_i32
  let c1_i32 : BitVec 32 := 1#32
  let v1 : BitVec 32 := Scalar.addi v0 c1_i32
  let c4_i32 : BitVec 32 := 4#32
  let v2 : BitVec 32 := Scalar.divsi v1 c4_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c3_i32_5 : BitVec 32 := 3#32
  let v19 : BitVec 32 := Scalar.muli arg2 c3_i32_5
  let c1_i32_6 : BitVec 32 := 1#32
  let v20 : BitVec 32 := Scalar.addi v19 c1_i32_6
  let c4_i32_7 : BitVec 32 := 4#32
  let c0_i32_8 : BitVec 32 := 0#32
  let v21 : BitVec 1 := Scalar.cmpi .eq c4_i32_7 c0_i32_8
  let c1_i32_9 : BitVec 32 := 1#32
  let v22 : BitVec 32 := Scalar.select v21 c1_i32_9 c4_i32_7
  let v23 : BitVec 32 := Scalar.remsi v20 v22
  let c0_i32_10 : BitVec 32 := 0#32
  let v24 : BitVec 1 := Scalar.cmpi .ne v23 c0_i32_10
  let c0_i32_11 : BitVec 32 := 0#32
  let v25 : BitVec 1 := Scalar.cmpi .slt v23 c0_i32_11
  let c0_i32_12 : BitVec 32 := 0#32
  let v26 : BitVec 1 := Scalar.cmpi .slt v22 c0_i32_12
  let v27 : BitVec 1 := Scalar.xori v25 v26
  let v28 : BitVec 1 := Scalar.andi v27 v24
  let v29 : BitVec 32 := Scalar.addi v23 v22
  let v30 : BitVec 32 := Scalar.select v28 v29 v23
  let c0_i32_13 : BitVec 32 := 0#32
  ![v18.toNat, arg0.toNat, v30.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.muli arg2 c3_i32
  let c2_i32 : BitVec 32 := 2#32
  let v1 : BitVec 32 := Scalar.addi v0 c2_i32
  let c4_i32 : BitVec 32 := 4#32
  let v2 : BitVec 32 := Scalar.divsi v1 c4_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c3_i32_4 : BitVec 32 := 3#32
  let v19 : BitVec 32 := Scalar.muli arg2 c3_i32_4
  let c2_i32_5 : BitVec 32 := 2#32
  let v20 : BitVec 32 := Scalar.addi v19 c2_i32_5
  let c4_i32_6 : BitVec 32 := 4#32
  let c0_i32_7 : BitVec 32 := 0#32
  let v21 : BitVec 1 := Scalar.cmpi .eq c4_i32_6 c0_i32_7
  let c1_i32_8 : BitVec 32 := 1#32
  let v22 : BitVec 32 := Scalar.select v21 c1_i32_8 c4_i32_6
  let v23 : BitVec 32 := Scalar.remsi v20 v22
  let c0_i32_9 : BitVec 32 := 0#32
  let v24 : BitVec 1 := Scalar.cmpi .ne v23 c0_i32_9
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let v28 : BitVec 1 := Scalar.andi v27 v24
  let v29 : BitVec 32 := Scalar.addi v23 v22
  let v30 : BitVec 32 := Scalar.select v28 v29 v23
  let c0_i32_12 : BitVec 32 := 0#32
  ![v18.toNat, arg0.toNat, v30.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.muli arg2 c3_i32
  let c0_i32 : BitVec 32 := 0#32
  let v1 : BitVec 32 := Scalar.addi v0 c0_i32
  let c3_i32_0 : BitVec 32 := 3#32
  let v2 : BitVec 32 := Scalar.divsi v1 c3_i32_0
  let c0_i32_1 : BitVec 32 := 0#32
  let v3 : BitVec 1 := Scalar.cmpi .sgt v1 c0_i32_1
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c0_i32_3 : BitVec 32 := 0#32
  let v8 : BitVec 1 := Scalar.cmpi .sgt c3_i32_0 c0_i32_3
  let v9 : BitVec 32 := Scalar.extui v8
  let c0_i32_4 : BitVec 32 := 0#32
  let v10 : BitVec 1 := Scalar.cmpi .slt c3_i32_0 c0_i32_4
  let v11 : BitVec 32 := Scalar.extui v10
  let v12 : BitVec 32 := Scalar.subi v9 v11
  let v13 : BitVec 1 := Scalar.cmpi .ne v7 v12
  let v14 : BitVec 32 := Scalar.remsi v1 c3_i32_0
  let c0_i32_5 : BitVec 32 := 0#32
  let v15 : BitVec 1 := Scalar.cmpi .ne v14 c0_i32_5
  let v16 : BitVec 1 := Scalar.andi v13 v15
  let c1_i32 : BitVec 32 := 1#32
  let v17 : BitVec 32 := Scalar.subi v2 c1_i32
  let v18 : BitVec 32 := Scalar.select v16 v17 v2
  let c0_i32_6 : BitVec 32 := 0#32
  let v19 : BitVec 32 := Scalar.addi c0_i32_6 arg1
  let c3_i32_7 : BitVec 32 := 3#32
  let c0_i32_8 : BitVec 32 := 0#32
  let v20 : BitVec 1 := Scalar.cmpi .eq c3_i32_7 c0_i32_8
  let c1_i32_9 : BitVec 32 := 1#32
  let v21 : BitVec 32 := Scalar.select v20 c1_i32_9 c3_i32_7
  let v22 : BitVec 32 := Scalar.remsi v1 v21
  let c0_i32_10 : BitVec 32 := 0#32
  let v23 : BitVec 1 := Scalar.cmpi .ne v22 c0_i32_10
  let c0_i32_11 : BitVec 32 := 0#32
  let v24 : BitVec 1 := Scalar.cmpi .slt v22 c0_i32_11
  let c0_i32_12 : BitVec 32 := 0#32
  let v25 : BitVec 1 := Scalar.cmpi .slt v21 c0_i32_12
  let v26 : BitVec 1 := Scalar.xori v24 v25
  let v27 : BitVec 1 := Scalar.andi v26 v23
  let v28 : BitVec 32 := Scalar.addi v22 v21
  let v29 : BitVec 32 := Scalar.select v27 v28 v22
  let c0_i32_13 : BitVec 32 := 0#32
  ![v18.toNat, v19.toNat, v29.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.muli arg2 c3_i32
  let c1_i32 : BitVec 32 := 1#32
  let v1 : BitVec 32 := Scalar.addi v0 c1_i32
  let c3_i32_0 : BitVec 32 := 3#32
  let v2 : BitVec 32 := Scalar.divsi v1 c3_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c3_i32_0 c0_i32_2
  let v9 : BitVec 32 := Scalar.extui v8
  let c0_i32_3 : BitVec 32 := 0#32
  let v10 : BitVec 1 := Scalar.cmpi .slt c3_i32_0 c0_i32_3
  let v11 : BitVec 32 := Scalar.extui v10
  let v12 : BitVec 32 := Scalar.subi v9 v11
  let v13 : BitVec 1 := Scalar.cmpi .ne v7 v12
  let v14 : BitVec 32 := Scalar.remsi v1 c3_i32_0
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c0_i32_6 : BitVec 32 := 0#32
  let v19 : BitVec 32 := Scalar.addi c0_i32_6 arg1
  let c3_i32_7 : BitVec 32 := 3#32
  let c0_i32_8 : BitVec 32 := 0#32
  let v20 : BitVec 1 := Scalar.cmpi .eq c3_i32_7 c0_i32_8
  let c1_i32_9 : BitVec 32 := 1#32
  let v21 : BitVec 32 := Scalar.select v20 c1_i32_9 c3_i32_7
  let v22 : BitVec 32 := Scalar.remsi v1 v21
  let c0_i32_10 : BitVec 32 := 0#32
  let v23 : BitVec 1 := Scalar.cmpi .ne v22 c0_i32_10
  let c0_i32_11 : BitVec 32 := 0#32
  let v24 : BitVec 1 := Scalar.cmpi .slt v22 c0_i32_11
  let c0_i32_12 : BitVec 32 := 0#32
  let v25 : BitVec 1 := Scalar.cmpi .slt v21 c0_i32_12
  let v26 : BitVec 1 := Scalar.xori v24 v25
  let v27 : BitVec 1 := Scalar.andi v26 v23
  let v28 : BitVec 32 := Scalar.addi v22 v21
  let v29 : BitVec 32 := Scalar.select v27 v28 v22
  let c0_i32_13 : BitVec 32 := 0#32
  ![v18.toNat, v19.toNat, v29.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.muli arg2 c3_i32
  let c2_i32 : BitVec 32 := 2#32
  let v1 : BitVec 32 := Scalar.addi v0 c2_i32
  let c3_i32_0 : BitVec 32 := 3#32
  let v2 : BitVec 32 := Scalar.divsi v1 c3_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c3_i32_0 c0_i32_2
  let v9 : BitVec 32 := Scalar.extui v8
  let c0_i32_3 : BitVec 32 := 0#32
  let v10 : BitVec 1 := Scalar.cmpi .slt c3_i32_0 c0_i32_3
  let v11 : BitVec 32 := Scalar.extui v10
  let v12 : BitVec 32 := Scalar.subi v9 v11
  let v13 : BitVec 1 := Scalar.cmpi .ne v7 v12
  let v14 : BitVec 32 := Scalar.remsi v1 c3_i32_0
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c0_i32_5 : BitVec 32 := 0#32
  let v19 : BitVec 32 := Scalar.addi c0_i32_5 arg1
  let c3_i32_6 : BitVec 32 := 3#32
  let c0_i32_7 : BitVec 32 := 0#32
  let v20 : BitVec 1 := Scalar.cmpi .eq c3_i32_6 c0_i32_7
  let c1_i32_8 : BitVec 32 := 1#32
  let v21 : BitVec 32 := Scalar.select v20 c1_i32_8 c3_i32_6
  let v22 : BitVec 32 := Scalar.remsi v1 v21
  let c0_i32_9 : BitVec 32 := 0#32
  let v23 : BitVec 1 := Scalar.cmpi .ne v22 c0_i32_9
  let c0_i32_10 : BitVec 32 := 0#32
  let v24 : BitVec 1 := Scalar.cmpi .slt v22 c0_i32_10
  let c0_i32_11 : BitVec 32 := 0#32
  let v25 : BitVec 1 := Scalar.cmpi .slt v21 c0_i32_11
  let v26 : BitVec 1 := Scalar.xori v24 v25
  let v27 : BitVec 1 := Scalar.andi v26 v23
  let v28 : BitVec 32 := Scalar.addi v22 v21
  let v29 : BitVec 32 := Scalar.select v27 v28 v22
  let c0_i32_12 : BitVec 32 := 0#32
  ![v18.toNat, v19.toNat, v29.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1x2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, true]

abbrev stage0_5 : Fin 2 → Memref sig .tc .vmem S1x2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, true]

abbrev stage0_6 : Fin 2 → Memref sig .tc .vmem S1024x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]
-- ==== Reference9Ideal.lean ====
abbrev S3x4096x2048 : Shape := ⟨3, ![3, 4096, 2048]⟩
abbrev S4x2048x1536 : Shape := ⟨3, ![4, 2048, 1536]⟩
abbrev S4096x3x2048 : Shape := ⟨3, ![4096, 3, 2048]⟩
abbrev S4096x6144 : Shape := ⟨2, ![4096, 6144]⟩
abbrev S_ : Shape := ⟨0, ![]⟩
abbrev S4096x2048 : Shape := ⟨2, ![4096, 2048]⟩
abbrev S2048x4x1536 : Shape := ⟨3, ![2048, 4, 1536]⟩
abbrev S2048x6144 : Shape := ⟨2, ![2048, 6144]⟩

abbrev nBuf : Space → Nat
  | .hbm => 12
  | .vmem => 0
  | .smem => 0
  | _ => 0

abbrev bufTy : (tb : Table) → Fin (tcTables nBuf tb) → BufTy
  | .hbm, ⟨0, _⟩ => ⟨S3x4096x2048, .bf16⟩
  | .hbm, ⟨1, _⟩ => ⟨S4x2048x1536, .bf16⟩
  | .hbm, ⟨2, _⟩ => ⟨S4096x3x2048, .bf16⟩
  | .hbm, ⟨3, _⟩ => ⟨S4096x6144, .bf16⟩
  | .hbm, ⟨4, _⟩ => ⟨S_, .f32⟩
  | .hbm, ⟨5, _⟩ => ⟨S4096x2048, .f32⟩
  | .hbm, ⟨6, _⟩ => ⟨S4x2048x1536, .f32⟩
  | .hbm, ⟨7, _⟩ => ⟨S2048x4x1536, .f32⟩
  | .hbm, ⟨8, _⟩ => ⟨S2048x6144, .f32⟩
  | .hbm, ⟨9, _⟩ => ⟨S4096x6144, .f32⟩
  | .hbm, ⟨10, _⟩ => ⟨S4096x6144, .f32⟩
  | .hbm, ⟨11, _⟩ => ⟨S4096x2048, .f32⟩
  | _, _ => ⟨S3x4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel10.lean ====
abbrev S4096x2048 : Shape := ⟨2, ![4096, 2048]⟩
abbrev S1x4096x2048 : Shape := ⟨3, ![1, 4096, 2048]⟩
abbrev S1x1x2048x2048 : Shape := ⟨4, ![1, 1, 2048, 2048]⟩
abbrev S4096x512 : Shape := ⟨2, ![4096, 512]⟩
abbrev S1x4096x1024 : Shape := ⟨3, ![1, 4096, 1024]⟩
abbrev S1x1x512x1024 : Shape := ⟨4, ![1, 1, 512, 1024]⟩
abbrev S4096x1024 : Shape := ⟨2, ![4096, 1024]⟩
abbrev S512x1024 : Shape := ⟨2, ![512, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S1x4096x2048, .bf16⟩
  | .hbm, ⟨3, _⟩ => ⟨S1x1x2048x2048, .bf16⟩
  | .local _ .vmem, ⟨0, _⟩ => ⟨S4096x512, .bf16⟩
  | .local _ .vmem, ⟨1, _⟩ => ⟨S4096x512, .bf16⟩
  | .local _ .vmem, ⟨2, _⟩ => ⟨S1x4096x1024, .bf16⟩
  | .local _ .vmem, ⟨3, _⟩ => ⟨S1x4096x1024, .bf16⟩
  | .local _ .vmem, ⟨4, _⟩ => ⟨S1x1x512x1024, .bf16⟩
  | .local _ .vmem, ⟨5, _⟩ => ⟨S1x1x512x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 32 := Scalar.addi c0_i32_4 arg0
  let c2_i32_5 : BitVec 32 := 2#32
  let c0_i32_6 : BitVec 32 := 0#32
  let v18 : BitVec 1 := Scalar.cmpi .eq c2_i32_5 c0_i32_6
  let c1_i32_7 : BitVec 32 := 1#32
  let v19 : BitVec 32 := Scalar.select v18 c1_i32_7 c2_i32_5
  let v20 : BitVec 32 := Scalar.remsi arg1 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  let c0_i32_12 : BitVec 32 := 0#32
  ![v16.toNat, c0_i32_11.toNat, v17.toNat, v27.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S4096x2048 : Shape := ⟨2, ![4096, 2048]⟩
abbrev S_ : Shape := ⟨0, ![]⟩
abbrev S4x512x2048 : Shape := ⟨3, ![4, 512, 2048]⟩
abbrev S2048x2048 : Shape := ⟨2, ![2048, 2048]⟩
abbrev S1x1x2048x2048 : Shape := ⟨4, ![1, 1, 2048, 2048]⟩

abbrev nBuf : Space → Nat
  | .hbm => 13
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S_, .f32⟩
  | .hbm, ⟨3, _⟩ => ⟨S4x512x2048, .f32⟩
  | .hbm, ⟨4, _⟩ => ⟨S4096x2048, .f32⟩
  | .hbm, ⟨5, _⟩ => ⟨S2048x2048, .f32⟩
  | .hbm, ⟨6, _⟩ => ⟨S4096x2048, .f32⟩
  | .hbm, ⟨7, _⟩ => ⟨S4096x2048, .f32⟩
  | .hbm, ⟨8, _⟩ => ⟨S2048x2048, .f32⟩
  | .hbm, ⟨9, _⟩ => ⟨S2048x2048, .f32⟩
  | .hbm, ⟨10, _⟩ => ⟨S4x512x2048, .f32⟩
  | .hbm, ⟨11, _⟩ => ⟨S4x512x2048, .bf16⟩
  | .hbm, ⟨12, _⟩ => ⟨S1x1x2048x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Kernel11.lean ====
abbrev S4096x2048 : Shape := ⟨2, ![4096, 2048]⟩
abbrev S4x512x2048 : Shape := ⟨3, ![4, 512, 2048]⟩
abbrev S1x4096x2048 : Shape := ⟨3, ![1, 4096, 2048]⟩
abbrev S1x2048x2048 : Shape := ⟨3, ![1, 2048, 2048]⟩
abbrev S1x1024x2048 : Shape := ⟨3, ![1, 1024, 2048]⟩
abbrev S1024x2048 : Shape := ⟨2, ![1024, 2048]⟩
abbrev S2048x2048 : Shape := ⟨2, ![2048, 2048]⟩

abbrev nBuf : Space → Nat
  | .hbm => 5
  | .vmem => 5
  | .smem => 0
  | _ => 0

abbrev bufTy : (tb : Table) → Fin (tcTables nBuf tb) → BufTy
  | .hbm, ⟨0, _⟩ => ⟨S4096x2048, .bf16⟩
  | .hbm, ⟨1, _⟩ => ⟨S4x512x2048, .bf16⟩
  | .hbm, ⟨2, _⟩ => ⟨S1x4096x2048, .bf16⟩
  | .hbm, ⟨3, _⟩ => ⟨S1x2048x2048, .bf16⟩
  | .hbm, ⟨4, _⟩ => ⟨S4096x2048, .f32⟩
  | .local _ .vmem, ⟨0, _⟩ => ⟨S1x1024x2048, .bf16⟩
  | .local _ .vmem, ⟨1, _⟩ => ⟨S1x1024x2048, .bf16⟩
  | .local _ .vmem, ⟨2, _⟩ => ⟨S1x2048x2048, .bf16⟩
  | .local _ .vmem, ⟨3, _⟩ => ⟨S1024x2048, .f32⟩
  | .local _ .vmem, ⟨4, _⟩ => ⟨S1024x2048, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg2 c1_i32
  let c0_i32 : BitVec 32 := 0#32
  let v1 : BitVec 32 := Scalar.addi v0 c0_i32
  let c1_i32_0 : BitVec 32 := 1#32
  let v2 : BitVec 32 := Scalar.divsi v1 c1_i32_0
  let c0_i32_1 : BitVec 32 := 0#32
  let v3 : BitVec 1 := Scalar.cmpi .sgt v1 c0_i32_1
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c0_i32_3 : BitVec 32 := 0#32
  let v8 : BitVec 1 := Scalar.cmpi .sgt c1_i32_0 c0_i32_3
  let v9 : BitVec 32 := Scalar.extui v8
  let c0_i32_4 : BitVec 32 := 0#32
  let v10 : BitVec 1 := Scalar.cmpi .slt c1_i32_0 c0_i32_4
  let v11 : BitVec 32 := Scalar.extui v10
  let v12 : BitVec 32 := Scalar.subi v9 v11
  let v13 : BitVec 1 := Scalar.cmpi .ne v7 v12
  let v14 : BitVec 32 := Scalar.remsi v1 c1_i32_0
  let c0_i32_5 : BitVec 32 := 0#32
  let v15 : BitVec 1 := Scalar.cmpi .ne v14 c0_i32_5
  let v16 : BitVec 1 := Scalar.andi v13 v15
  let c1_i32_6 : BitVec 32 := 1#32
  let v17 : BitVec 32 := Scalar.subi v2 c1_i32_6
  let v18 : BitVec 32 := Scalar.select v16 v17 v2
  let c1_i32_7 : BitVec 32 := 1#32
  let v19 : BitVec 32 := Scalar.muli arg2 c1_i32_7
  let c0_i32_8 : BitVec 32 := 0#32
  let v20 : BitVec 32 := Scalar.addi v19 c0_i32_8
  let c1_i32_9 : BitVec 32 := 1#32
  let c0_i32_10 : BitVec 32 := 0#32
  let v21 : BitVec 1 := Scalar.cmpi .eq c1_i32_9 c0_i32_10
  let c1_i32_11 : BitVec 32 := 1#32
  let v22 : BitVec 32 := Scalar.select v21 c1_i32_11 c1_i32_9
  let v23 : BitVec 32 := Scalar.remsi v20 v22
  let c0_i32_12 : BitVec 32 := 0#32
  let v24 : BitVec 1 := Scalar.cmpi .ne v23 c0_i32_12
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let v28 : BitVec 1 := Scalar.andi v27 v24
  let v29 : BitVec 32 := Scalar.addi v23 v22
  let v30 : BitVec 32 := Scalar.select v28 v29 v23
  let c0_i32_15 : BitVec 32 := 0#32
  ![v18.toNat, arg0.toNat, v30.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg2 c1_i32
  let c0_i32 : BitVec 32 := 0#32
  let v1 : BitVec 32 := Scalar.addi v0 c0_i32
  let c1_i32_0 : BitVec 32 := 1#32
  let v2 : BitVec 32 := Scalar.divsi v1 c1_i32_0
  let c0_i32_1 : BitVec 32 := 0#32
  let v3 : BitVec 1 := Scalar.cmpi .sgt v1 c0_i32_1
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c0_i32_3 : BitVec 32 := 0#32
  let v8 : BitVec 1 := Scalar.cmpi .sgt c1_i32_0 c0_i32_3
  let v9 : BitVec 32 := Scalar.extui v8
  let c0_i32_4 : BitVec 32 := 0#32
  let v10 : BitVec 1 := Scalar.cmpi .slt c1_i32_0 c0_i32_4
  let v11 : BitVec 32 := Scalar.extui v10
  let v12 : BitVec 32 := Scalar.subi v9 v11
  let v13 : BitVec 1 := Scalar.cmpi .ne v7 v12
  let v14 : BitVec 32 := Scalar.remsi v1 c1_i32_0
  let c0_i32_5 : BitVec 32 := 0#32
  let v15 : BitVec 1 := Scalar.cmpi .ne v14 c0_i32_5
  let v16 : BitVec 1 := Scalar.andi v13 v15
  let c1_i32_6 : BitVec 32 := 1#32
  let v17 : BitVec 32 := Scalar.subi v2 c1_i32_6
  let v18 : BitVec 32 := Scalar.select v16 v17 v2
  let c0_i32_7 : BitVec 32 := 0#32
  let v19 : BitVec 32 := Scalar.addi c0_i32_7 arg1
  let c1_i32_8 : BitVec 32 := 1#32
  let c0_i32_9 : BitVec 32 := 0#32
  let v20 : BitVec 1 := Scalar.cmpi .eq c1_i32_8 c0_i32_9
  let c1_i32_10 : BitVec 32 := 1#32
  let v21 : BitVec 32 := Scalar.select v20 c1_i32_10 c1_i32_8
  let v22 : BitVec 32 := Scalar.remsi v1 v21
  let c0_i32_11 : BitVec 32 := 0#32
  let v23 : BitVec 1 := Scalar.cmpi .ne v22 c0_i32_11
  let c0_i32_12 : BitVec 32 := 0#32
  let v24 : BitVec 1 := Scalar.cmpi .slt v22 c0_i32_12
  let c0_i32_13 : BitVec 32 := 0#32
  let v25 : BitVec 1 := Scalar.cmpi .slt v21 c0_i32_13
  let v26 : BitVec 1 := Scalar.xori v24 v25
  let v27 : BitVec 1 := Scalar.andi v26 v23
  let v28 : BitVec 32 := Scalar.addi v22 v21
  let v29 : BitVec 32 := Scalar.select v27 v28 v22
  let c0_i32_14 : BitVec 32 := 0#32
  ![v18.toNat, v19.toNat, v29.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1x2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S4096x2048 : Shape := ⟨2, ![4096, 2048]⟩
abbrev S4x512x2048 : Shape := ⟨3, ![4, 512, 2048]⟩
abbrev S_ : Shape := ⟨0, ![]⟩
abbrev S2048x2048 : Shape := ⟨2, ![2048, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4x512x2048, .bf16⟩
  | .hbm, ⟨2, _⟩ => ⟨S_, .f32⟩
  | .hbm, ⟨3, _⟩ => ⟨S4096x2048, .f32⟩
  | .hbm, ⟨4, _⟩ => ⟨S4x512x2048, .f32⟩
  | .hbm, ⟨5, _⟩ => ⟨S2048x2048, .f32⟩
  | .hbm, ⟨6, _⟩ => ⟨S4096x2048, .f32⟩
  | .hbm, ⟨7, _⟩ => ⟨S4096x2048, .f32⟩
  | .hbm, ⟨8, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel12.lean ====
abbrev S4096x2048 : Shape := ⟨2, ![4096, 2048]⟩
abbrev S4x2048x2816 : Shape := ⟨3, ![4, 2048, 2816]⟩
abbrev S4096x11264 : Shape := ⟨2, ![4096, 11264]⟩
abbrev S1024x2048 : Shape := ⟨2, ![1024, 2048]⟩
abbrev S1x2048x1408 : Shape := ⟨3, ![1, 2048, 1408]⟩
abbrev S1024x1408 : Shape := ⟨2, ![1024, 1408]⟩
abbrev S2048x1408 : Shape := ⟨2, ![2048, 1408]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4x2048x2816, .bf16⟩
  | .hbm, ⟨2, _⟩ => ⟨S4096x11264, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1024x1408, .f32⟩
  | .local _ .vmem, ⟨5, _⟩ => ⟨S1024x1408, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference12Ideal.lean ====
abbrev S4096x2048 : Shape := ⟨2, ![4096, 2048]⟩
abbrev S4x2048x2816 : Shape := ⟨3, ![4, 2048, 2816]⟩
abbrev S2048x4x2816 : Shape := ⟨3, ![2048, 4, 2816]⟩
abbrev S2048x11264 : Shape := ⟨2, ![2048, 11264]⟩
abbrev S4096x11264 : Shape := ⟨2, ![4096, 11264]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4x2048x2816, .bf16⟩
  | .hbm, ⟨2, _⟩ => ⟨S4096x2048, .f32⟩
  | .hbm, ⟨3, _⟩ => ⟨S4x2048x2816, .f32⟩
  | .hbm, ⟨4, _⟩ => ⟨S2048x4x2816, .f32⟩
  | .hbm, ⟨5, _⟩ => ⟨S2048x11264, .f32⟩
  | .hbm, ⟨6, _⟩ => ⟨S4096x11264, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel13.lean ====
abbrev S4096x5632 : Shape := ⟨2, ![4096, 5632]⟩
abbrev S4x1408x2048 : Shape := ⟨3, ![4, 1408, 2048]⟩
abbrev S4096x2048 : Shape := ⟨2, ![4096, 2048]⟩
abbrev S1024x1408 : Shape := ⟨2, ![1024, 1408]⟩
abbrev S1x1408x1024 : Shape := ⟨3, ![1, 1408, 1024]⟩
abbrev S1024x1024 : Shape := ⟨2, ![1024, 1024]⟩
abbrev S1408x1024 : Shape := ⟨2, ![1408, 1024]⟩

abbrev nBuf : Space → Nat
  | .hbm => 4
  | .vmem => 13
  | .smem => 0
  | _ => 0

abbrev bufTy : (tb : Table) → Fin (tcTables nBuf tb) → BufTy
  | .hbm, ⟨0, _⟩ => ⟨S4096x5632, .bf16⟩
  | .hbm, ⟨1, _⟩ => ⟨S4x1408x2048, .bf16⟩
  | .hbm, ⟨2, _⟩ => ⟨S4096x2048, .f32⟩
  | .hbm, ⟨3, _⟩ => ⟨S4096x2048, .f32⟩
  | .local _ .vmem, ⟨0, _⟩ => ⟨S1024x1408, .bf16⟩
  | .local _ .vmem, ⟨1, _⟩ => ⟨S1024x1408, .bf16⟩
  | .local _ .vmem, ⟨2, _⟩ => ⟨S1024x1408, .bf16⟩
  | .local _ .vmem, ⟨3, _⟩ => ⟨S1024x1408, .bf16⟩
  | .local _ .vmem, ⟨4, _⟩ => ⟨S1x1408x1024, .bf16⟩
  | .local _ .vmem, ⟨5, _⟩ => ⟨S1x1408x1024, .bf16⟩
  | .local _ .vmem, ⟨6, _⟩ => ⟨S1x1408x1024, .bf16⟩
  | .local _ .vmem, ⟨7, _⟩ => ⟨S1x1408x1024, .bf16⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .f32⟩
  | .local _ .vmem, ⟨12, _⟩ => ⟨S1024x1024, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 2, 2], ![false, false, false]⟩

def k0_cond3 (i : grid0.Coords) : BitVec 1 :=
  let arg2 : BitVec 32 := BitVec.ofNat 32 (i 2).val
  let c1_i32 : BitVec 32 := 1#32
  let v15 : BitVec 1 := Scalar.cmpi .eq arg2 c1_i32
  let v16 : BitVec 32 := Scalar.extui v15
  let c0_i32_13 : BitVec 32 := 0#32
  let v17 : BitVec 1 := Scalar.cmpi .ne v16 c0_i32_13
  v17

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg2 c2_i32
  let c0_i32 : BitVec 32 := 0#32
  let v1 : BitVec 32 := Scalar.addi v0 c0_i32
  let c0_i32_0 : BitVec 32 := 0#32
  ![arg0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg2 c2_i32
  let c1_i32 : BitVec 32 := 1#32
  let v1 : BitVec 32 := Scalar.addi v0 c1_i32
  let c0_i32 : BitVec 32 := 0#32
  ![arg0.toNat, v1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg2 c2_i32
  let c0_i32 : BitVec 32 := 0#32
  let v1 : BitVec 32 := Scalar.addi v0 c0_i32
  let c1_i32 : BitVec 32 := 1#32
  let v2 : BitVec 32 := Scalar.divsi v1 c1_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c1_i32 c0_i32_2
  let v9 : BitVec 32 := Scalar.extui v8
  let c0_i32_3 : BitVec 32 := 0#32
  let v10 : BitVec 1 := Scalar.cmpi .slt c1_i32 c0_i32_3
  let v11 : BitVec 32 := Scalar.extui v10
  let v12 : BitVec 32 := Scalar.subi v9 v11
  let v13 : BitVec 1 := Scalar.cmpi .ne v7 v12
  let v14 : BitVec 32 := Scalar.remsi v1 c1_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c1_i32_6 : BitVec 32 := 1#32
  let c0_i32_7 : BitVec 32 := 0#32
  let v19 : BitVec 1 := Scalar.cmpi .eq c1_i32_6 c0_i32_7
  let c1_i32_8 : BitVec 32 := 1#32
  let v20 : BitVec 32 := Scalar.select v19 c1_i32_8 c1_i32_6
  let v21 : BitVec 32 := Scalar.remsi v1 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c0_i32_12 : BitVec 32 := 0#32
  let v29 : BitVec 32 := Scalar.addi c0_i32_12 v28
  let c0_i32_13 : BitVec 32 := 0#32
  ![v18.toNat, v29.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg2 c2_i32
  let c1_i32 : BitVec 32 := 1#32
  let v1 : BitVec 32 := Scalar.addi v0 c1_i32
  let c1_i32_0 : BitVec 32 := 1#32
  let v2 : BitVec 32 := Scalar.divsi v1 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c1_i32_0 c0_i32_2
  let v9 : BitVec 32 := Scalar.extui v8
  let c0_i32_3 : BitVec 32 := 0#32
  let v10 : BitVec 1 := Scalar.cmpi .slt c1_i32_0 c0_i32_3
  let v11 : BitVec 32 := Scalar.extui v10
  let v12 : BitVec 32 := Scalar.subi v9 v11
  let v13 : BitVec 1 := Scalar.cmpi .ne v7 v12
  let v14 : BitVec 32 := Scalar.remsi v1 c1_i32_0
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c1_i32_6 : BitVec 32 := 1#32
  let c0_i32_7 : BitVec 32 := 0#32
  let v19 : BitVec 1 := Scalar.cmpi .eq c1_i32_6 c0_i32_7
  let c1_i32_8 : BitVec 32 := 1#32
  let v20 : BitVec 32 := Scalar.select v19 c1_i32_8 c1_i32_6
  let v21 : BitVec 32 := Scalar.remsi v1 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c0_i32_12 : BitVec 32 := 0#32
  let v29 : BitVec 32 := Scalar.addi c0_i32_12 v28
  let c0_i32_13 : BitVec 32 := 0#32
  ![v18.toNat, v29.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1x1408x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== Reference13Ideal.lean ====
abbrev S4096x5632 : Shape := ⟨2, ![4096, 5632]⟩
abbrev S4x1408x2048 : Shape := ⟨3, ![4, 1408, 2048]⟩
abbrev S4096x2048 : Shape := ⟨2, ![4096, 2048]⟩
abbrev S5632x2048 : Shape := ⟨2, ![5632, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S4x1408x2048, .bf16⟩
  | .hbm, ⟨2, _⟩ => ⟨S4096x2048, .f32⟩
  | .hbm, ⟨3, _⟩ => ⟨S4096x5632, .f32⟩
  | .hbm, ⟨4, _⟩ => ⟨S4x1408x2048, .f32⟩
  | .hbm, ⟨5, _⟩ => ⟨S5632x2048, .f32⟩
  | .hbm, ⟨6, _⟩ => ⟨S4096x2048, .f32⟩
  | .hbm, ⟨7, _⟩ => ⟨S4096x2048, .f32⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel14.lean ====
abbrev S4096x2048 : Shape := ⟨2, ![4096, 2048]⟩
abbrev S4x2048x1536 : Shape := ⟨3, ![4, 2048, 1536]⟩
abbrev S4096x6144 : Shape := ⟨2, ![4096, 6144]⟩
abbrev S1024x2048 : Shape := ⟨2, ![1024, 2048]⟩
abbrev S1x2048x1536 : Shape := ⟨3, ![1, 2048, 1536]⟩
abbrev S1024x1536 : Shape := ⟨2, ![1024, 1536]⟩
abbrev S2048x1536 : Shape := ⟨2, ![2048, 1536]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4x2048x1536, .bf16⟩
  | .hbm, ⟨2, _⟩ => ⟨S4096x6144, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1536, .bf16⟩
  | .local _ .vmem, ⟨3, _⟩ => ⟨S1x2048x1536, .bf16⟩
  | .local _ .vmem, ⟨4, _⟩ => ⟨S1024x1536, .f32⟩
  | .local _ .vmem, ⟨5, _⟩ => ⟨S1024x1536, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference14Ideal.lean ====
abbrev S4096x2048 : Shape := ⟨2, ![4096, 2048]⟩
abbrev S4x2048x1536 : Shape := ⟨3, ![4, 2048, 1536]⟩
abbrev S2048x4x1536 : Shape := ⟨3, ![2048, 4, 1536]⟩
abbrev S2048x6144 : Shape := ⟨2, ![2048, 6144]⟩
abbrev S4096x6144 : Shape := ⟨2, ![4096, 6144]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4x2048x1536, .bf16⟩
  | .hbm, ⟨2, _⟩ => ⟨S4096x2048, .f32⟩
  | .hbm, ⟨3, _⟩ => ⟨S4x2048x1536, .f32⟩
  | .hbm, ⟨4, _⟩ => ⟨S2048x4x1536, .f32⟩
  | .hbm, ⟨5, _⟩ => ⟨S2048x6144, .f32⟩
  | .hbm, ⟨6, _⟩ => ⟨S4096x6144, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel15.lean ====
abbrev S4096x2048 : Shape := ⟨2, ![4096, 2048]⟩
abbrev S4x512x2048 : Shape := ⟨3, ![4, 512, 2048]⟩
abbrev S1x2048x2048 : Shape := ⟨3, ![1, 2048, 2048]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 5
  | .vmem => 8
  | .smem => 0
  | _ => 0

abbrev bufTy : (tb : Table) → Fin (tcTables nBuf tb) → BufTy
  | .hbm, ⟨0, _⟩ => ⟨S4096x2048, .bf16⟩
  | .hbm, ⟨1, _⟩ => ⟨S4x512x2048, .bf16⟩
  | .hbm, ⟨2, _⟩ => ⟨S4096x2048, .f32⟩
  | .hbm, ⟨3, _⟩ => ⟨S1x2048x2048, .bf16⟩
  | .hbm, ⟨4, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference15Ideal.lean ====
abbrev S4096x2048 : Shape := ⟨2, ![4096, 2048]⟩
abbrev S4x512x2048 : Shape := ⟨3, ![4, 512, 2048]⟩
abbrev S2048x2048 : Shape := ⟨2, ![2048, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4x512x2048, .bf16⟩
  | .hbm, ⟨2, _⟩ => ⟨S4096x2048, .f32⟩
  | .hbm, ⟨3, _⟩ => ⟨S4096x2048, .f32⟩
  | .hbm, ⟨4, _⟩ => ⟨S4x512x2048, .f32⟩
  | .hbm, ⟨5, _⟩ => ⟨S2048x2048, .f32⟩
  | .hbm, ⟨6, _⟩ => ⟨S4096x2048, .f32⟩
  | .hbm, ⟨7, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel20.lean ====
abbrev S4096x2048 : Shape := ⟨2, ![4096, 2048]⟩
abbrev S1x2048 : Shape := ⟨2, ![1, 2048]⟩
abbrev S256x2048 : Shape := ⟨2, ![256, 2048]⟩
abbrev S16x2048 : Shape := ⟨2, ![16, 2048]⟩
abbrev S16 : Shape := ⟨1, ![16]⟩
abbrev S16x1 : Shape := ⟨2, ![16, 1]⟩

abbrev nBuf : Space → Nat
  | .hbm => 3
  | .vmem => 5
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .bf16⟩
  | .local _ .vmem, ⟨4, _⟩ => ⟨S256x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c4_i32 : BitVec 32 := 4#32
  let v1 : BitVec 32 := Scalar.addi c0_i32 c4_i32
  let c1_i32 : BitVec 32 := 1#32
  ⟨c0_i32, v1, c1_i32⟩
def k0_mult1 (k0_t1 : Fin k0_t1_loop.trips) : BitVec 32 :=
  let c0_i32 : BitVec 32 := 0#32
  let c1_i32 : BitVec 32 := 1#32
  let arg4 : BitVec 32 := Scf.iv c0_i32 c1_i32 k0_t1
  let c4_i32_2 : BitVec 32 := 4#32
  let v2 : BitVec 32 := Scalar.muli arg4 c4_i32_2
  let c0_i32_3 : BitVec 32 := 0#32
  let v3 : BitVec 32 := Scalar.addi v2 c0_i32_3
  let c16_i32 : BitVec 32 := 16#32
  let v4 : BitVec 32 := Scalar.muli v3 c16_i32
  v4
def k0_off1 (k0_t1 : Fin k0_t1_loop.trips) (c0_i32_3 : BitVec 32) : Fin 2 → Nat :=
  let c0_i32 : BitVec 32 := 0#32
  let c1_i32 : BitVec 32 := 1#32
  let arg4 : BitVec 32 := Scf.iv c0_i32 c1_i32 k0_t1
  let c4_i32_2 : BitVec 32 := 4#32
  let v2 : BitVec 32 := Scalar.muli arg4 c4_i32_2
  let v3 : BitVec 32 := Scalar.addi v2 c0_i32_3
  let c16_i32 : BitVec 32 := 16#32
  let v4 : BitVec 32 := Scalar.muli v3 c16_i32
  let v5 : BitVec 32 := v4
  let v6 : Index := Scalar.indexCast v5
  let c0_4 : Index := 0#32
  ![v6.toNat, 0]
def k0_mult2 (k0_t1 : Fin k0_t1_loop.trips) : BitVec 32 :=
  let c0_i32 : BitVec 32 := 0#32
  let c1_i32 : BitVec 32 := 1#32
  let arg4 : BitVec 32 := Scf.iv c0_i32 c1_i32 k0_t1
  let c4_i32_7 : BitVec 32 := 4#32
  let v20 : BitVec 32 := Scalar.muli arg4 c4_i32_7
  let c1_i32_8 : BitVec 32 := 1#32
  let v21 : BitVec 32 := Scalar.addi v20 c1_i32_8
  let c16_i32_9 : BitVec 32 := 16#32
  let v22 : BitVec 32 := Scalar.muli v21 c16_i32_9
  v22
def k0_mult3 (k0_t1 : Fin k0_t1_loop.trips) : BitVec 32 :=
  let c0_i32 : BitVec 32 := 0#32
  let c1_i32 : BitVec 32 := 1#32
  let arg4 : BitVec 32 := Scf.iv c0_i32 c1_i32 k0_t1
  let c4_i32_14 : BitVec 32 := 4#32
  let v38 : BitVec 32 := Scalar.muli arg4 c4_i32_14
  let c2_i32 : BitVec 32 := 2#32
  let v39 : BitVec 32 := Scalar.addi v38 c2_i32
  let c16_i32_15 : BitVec 32 := 16#32
  let v40 : BitVec 32 := Scalar.muli v39 c16_i32_15
  v40
def k0_mult4 (k0_t1 : Fin k0_t1_loop.trips) : BitVec 32 :=
  let c0_i32 : BitVec 32 := 0#32
  let c1_i32 : BitVec 32 := 1#32
  let arg4 : BitVec 32 := Scf.iv c0_i32 c1_i32 k0_t1
  let c4_i32_20 : BitVec 32 := 4#32
  let v56 : BitVec 32 := Scalar.muli arg4 c4_i32_20
  let c3_i32 : BitVec 32 := 3#32
  let v57 : BitVec 32 := Scalar.addi v56 c3_i32
  let c16_i32_21 : BitVec 32 := 16#32
  let v58 : BitVec 32 := Scalar.muli v57 c16_i32_21
  v58
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference20Ideal.lean ====
abbrev S4096x2048 : Shape := ⟨2, ![4096, 2048]⟩
abbrev S1x2048 : Shape := ⟨2, ![1, 2048]⟩
abbrev S2048 : Shape := ⟨1, ![2048]⟩
abbrev S_ : Shape := ⟨0, ![]⟩
abbrev S4096 : Shape := ⟨1, ![4096]⟩
abbrev S4096x1 : Shape := ⟨2, ![4096, 1]⟩

abbrev nBuf : Space → Nat
  | .hbm => 20
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S2048, .f32⟩
  | .hbm, ⟨3, _⟩ => ⟨S4096x2048, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x2048, .f32⟩
  | .hbm, ⟨15, _⟩ => ⟨S4096x2048, .f32⟩
  | .hbm, ⟨16, _⟩ => ⟨S1x2048, .f32⟩
  | .hbm, ⟨17, _⟩ => ⟨S4096x2048, .f32⟩
  | .hbm, ⟨18, _⟩ => ⟨S4096x2048, .f32⟩
  | .hbm, ⟨19, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== Kernel21.lean ====
abbrev S4096x2048 : Shape := ⟨2, ![4096, 2048]⟩
abbrev S4096x8192 : Shape := ⟨2, ![4096, 8192]⟩
abbrev S1x2048 : Shape := ⟨2, ![1, 2048]⟩
abbrev S256x2048 : Shape := ⟨2, ![256, 2048]⟩
abbrev S16x2048 : Shape := ⟨2, ![16, 2048]⟩
abbrev S16 : Shape := ⟨1, ![16]⟩
abbrev S16x1 : Shape := ⟨2, ![16, 1]⟩

abbrev nBuf : Space → Nat
  | .hbm => 4
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S4096x8192, .f32⟩
  | .hbm, ⟨2, _⟩ => ⟨S1x2048, .f32⟩
  | .hbm, ⟨3, _⟩ => ⟨S4096x2048, .bf16⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S256x2048, .bf16⟩
  | .local _ .vmem, ⟨6, _⟩ => ⟨S256x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c4_i32 : BitVec 32 := 4#32
  let v1 : BitVec 32 := Scalar.addi c0_i32 c4_i32
  let c1_i32 : BitVec 32 := 1#32
  ⟨c0_i32, v1, c1_i32⟩
def k0_mult1 (k0_t1 : Fin k0_t1_loop.trips) : BitVec 32 :=
  let c0_i32 : BitVec 32 := 0#32
  let c1_i32 : BitVec 32 := 1#32
  let arg5 : BitVec 32 := Scf.iv c0_i32 c1_i32 k0_t1
  let c4_i32_2 : BitVec 32 := 4#32
  let v2 : BitVec 32 := Scalar.muli arg5 c4_i32_2
  let c0_i32_3 : BitVec 32 := 0#32
  let v3 : BitVec 32 := Scalar.addi v2 c0_i32_3
  let c16_i32 : BitVec 32 := 16#32
  let v4 : BitVec 32 := Scalar.muli v3 c16_i32
  v4
def k0_off1 (k0_t1 : Fin k0_t1_loop.trips) (c0_i32_3 : BitVec 32) : Fin 2 → Nat :=
  let c0_i32 : BitVec 32 := 0#32
  let c1_i32 : BitVec 32 := 1#32
  let arg5 : BitVec 32 := Scf.iv c0_i32 c1_i32 k0_t1
  let c4_i32_2 : BitVec 32 := 4#32
  let v2 : BitVec 32 := Scalar.muli arg5 c4_i32_2
  let v3 : BitVec 32 := Scalar.addi v2 c0_i32_3
  let c16_i32 : BitVec 32 := 16#32
  let v4 : BitVec 32 := Scalar.muli v3 c16_i32
  let v5 : BitVec 32 := v4
  let v6 : Index := Scalar.indexCast v5
  let c0_4 : Index := 0#32
  ![v6.toNat, 0]
def k0_mult2 (k0_t1 : Fin k0_t1_loop.trips) : BitVec 32 :=
  let c0_i32 : BitVec 32 := 0#32
  let c1_i32 : BitVec 32 := 1#32
  let arg5 : BitVec 32 := Scf.iv c0_i32 c1_i32 k0_t1
  let c4_i32_11 : BitVec 32 := 4#32
  let v31 : BitVec 32 := Scalar.muli arg5 c4_i32_11
  let c1_i32_12 : BitVec 32 := 1#32
  let v32 : BitVec 32 := Scalar.addi v31 c1_i32_12
  let c16_i32_13 : BitVec 32 := 16#32
  let v33 : BitVec 32 := Scalar.muli v32 c16_i32_13
  v33
def k0_mult3 (k0_t1 : Fin k0_t1_loop.trips) : BitVec 32 :=
  let c0_i32 : BitVec 32 := 0#32
  let c1_i32 : BitVec 32 := 1#32
  let arg5 : BitVec 32 := Scf.iv c0_i32 c1_i32 k0_t1
  let c4_i32_22 : BitVec 32 := 4#32
  let v60 : BitVec 32 := Scalar.muli arg5 c4_i32_22
  let c2_i32 : BitVec 32 := 2#32
  let v61 : BitVec 32 := Scalar.addi v60 c2_i32
  let c16_i32_23 : BitVec 32 := 16#32
  let v62 : BitVec 32 := Scalar.muli v61 c16_i32_23
  v62
def k0_mult4 (k0_t1 : Fin k0_t1_loop.trips) : BitVec 32 :=
  let c0_i32 : BitVec 32 := 0#32
  let c1_i32 : BitVec 32 := 1#32
  let arg5 : BitVec 32 := Scf.iv c0_i32 c1_i32 k0_t1
  let c4_i32_32 : BitVec 32 := 4#32
  let v89 : BitVec 32 := Scalar.muli arg5 c4_i32_32
  let c3_i32 : BitVec 32 := 3#32
  let v90 : BitVec 32 := Scalar.addi v89 c3_i32
  let c16_i32_33 : BitVec 32 := 16#32
  let v91 : BitVec 32 := Scalar.muli v90 c16_i32_33
  v91
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference21Ideal.lean ====
abbrev S4096x2048 : Shape := ⟨2, ![4096, 2048]⟩
abbrev S4096x8192 : Shape := ⟨2, ![4096, 8192]⟩
abbrev S1x2048 : Shape := ⟨2, ![1, 2048]⟩
abbrev S2048 : Shape := ⟨1, ![2048]⟩
abbrev S_ : Shape := ⟨0, ![]⟩
abbrev S4096 : Shape := ⟨1, ![4096]⟩
abbrev S4096x1 : Shape := ⟨2, ![4096, 1]⟩

abbrev nBuf : Space → Nat
  | .hbm => 32
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x8192, .f32⟩
  | .hbm, ⟨2, _⟩ => ⟨S1x2048, .f32⟩
  | .hbm, ⟨3, _⟩ => ⟨S4096x2048, .f32⟩
  | .hbm, ⟨4, _⟩ => ⟨S2048, .f32⟩
  | .hbm, ⟨5, _⟩ => ⟨S4096x2048, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x2048, .f32⟩
  | .hbm, ⟨17, _⟩ => ⟨S4096x2048, .f32⟩
  | .hbm, ⟨18, _⟩ => ⟨S1x2048, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S_, .f32⟩
  | .hbm, ⟨24, _⟩ => ⟨S4096x2048, .f32⟩
  | .hbm, ⟨25, _⟩ => ⟨S4096x2048, .f32⟩
  | .hbm, ⟨26, _⟩ => ⟨S_, .f32⟩
  | .hbm, ⟨27, _⟩ => ⟨S4096x2048, .f32⟩
  | .hbm, ⟨28, _⟩ => ⟨S4096x2048, .f32⟩
  | .hbm, ⟨29, _⟩ => ⟨S4096x2048, .f32⟩
  | .hbm, ⟨30, _⟩ => ⟨S4096x2048, .f32⟩
  | .hbm, ⟨31, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_call0_v0 : Ref sig .tc := ⟨.hbm, 21, rfl⟩
abbrev main_call0_v1 : Ref sig .tc := ⟨.hbm, 22, rfl⟩
abbrev main_call0_cst : Ref sig .tc := ⟨.hbm, 23, rfl⟩
abbrev main_call0_v2 : Ref sig .tc := ⟨.hbm, 24, rfl⟩
abbrev main_call0_v3 : Ref sig .tc := ⟨.hbm, 25, rfl⟩
abbrev main_call0_cst_0 : Ref sig .tc := ⟨.hbm, 26, rfl⟩
abbrev main_call0_v4 : Ref sig .tc := ⟨.hbm, 27, rfl⟩
abbrev main_call0_v5 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩

abbrev nD : Nat := 1
abbrev τ : Topo := Topo.v7x

variable {F : FTy → Type} [FloatOps F]
-- ==== Kernel25.lean ====
abbrev S3x2048 : Shape := ⟨2, ![3, 2048]⟩
abbrev S1x2048 : Shape := ⟨2, ![1, 2048]⟩
abbrev S_ : Shape := ⟨0, ![]⟩
abbrev S8x2048 : Shape := ⟨2, ![8, 2048]⟩
abbrev S2048 : Shape := ⟨1, ![2048]⟩

abbrev nBuf : Space → Nat
  | .hbm => 8
  | .vmem => 5
  | .smem => 0
  | _ => 0

abbrev bufTy : (tb : Table) → Fin (tcTables nBuf tb) → BufTy
  | .hbm, ⟨0, _⟩ => ⟨S3x2048, .f32⟩
  | .hbm, ⟨1, _⟩ => ⟨S1x2048, .f32⟩
  | .hbm, ⟨2, _⟩ => ⟨S_, .f32⟩
  | .hbm, ⟨3, _⟩ => ⟨S_, .f32⟩
  | .hbm, ⟨4, _⟩ => ⟨S8x2048, .f32⟩
  | .hbm, ⟨5, _⟩ => ⟨S8x2048, .f32⟩
  | .hbm, ⟨6, _⟩ => ⟨S8x2048, .f32⟩
  | .hbm, ⟨7, _⟩ => ⟨S3x2048, .f32⟩
  | .local _ .vmem, ⟨0, _⟩ => ⟨S8x2048, .f32⟩
  | .local _ .vmem, ⟨1, _⟩ => ⟨S8x2048, .f32⟩
  | .local _ .vmem, ⟨2, _⟩ => ⟨S8x2048, .f32⟩
  | .local _ .vmem, ⟨3, _⟩ => ⟨S1x2048, .f32⟩
  | .local _ .vmem, ⟨4, _⟩ => ⟨S8x2048, .f32⟩
  | _, _ => ⟨S3x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg1_0 : Ref sig .tc := ⟨.vmem, 1, rfl⟩
abbrev cc1_stg0_0 : Ref sig .tc := ⟨.vmem, 2, rfl⟩
abbrev cc1_stg1_0 : Ref sig .tc := ⟨.vmem, 3, rfl⟩
abbrev cc1_stg2_0 : Ref sig .tc := ⟨.vmem, 4, rfl⟩
abbrev cc0_sem0_0 : DmaSem sig := 0
abbrev cc0_sem1_0 : DmaSem sig := 1
abbrev cc1_sem0_0 : DmaSem sig := 2
abbrev cc1_sem1_0 : DmaSem sig := 3
abbrev cc1_sem2_0 : DmaSem sig := 4

abbrev nD : Nat := 1
abbrev τ : Topo := Topo.v7x

variable {F : FTy → Type} [FloatOps F]

abbrev grid0 : Pipeline.Grid := .none

abbrev stage0_0 : Fin 1 → Memref sig .tc .vmem S8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev grid1 : Pipeline.Grid := .none

abbrev stage1_0 : Fin 1 → Memref sig .tc .vmem S8x2048 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S1x2048 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S8x2048 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
-- ==== Reference25Ideal.lean ====
abbrev S3x2048 : Shape := ⟨2, ![3, 2048]⟩
abbrev S1x2048 : Shape := ⟨2, ![1, 2048]⟩
abbrev S_ : Shape := ⟨0, ![]⟩
abbrev S2048 : Shape := ⟨1, ![2048]⟩

abbrev nBuf : Space → Nat
  | .hbm => 63
  | .vmem => 0
  | .smem => 0
  | _ => 0

abbrev bufTy : (tb : Table) → Fin (tcTables nBuf tb) → BufTy
  | .hbm, ⟨0, _⟩ => ⟨S3x2048, .f32⟩
  | .hbm, ⟨1, _⟩ => ⟨S1x2048, .f32⟩
  | .hbm, ⟨2, _⟩ => ⟨S_, .f32⟩
  | .hbm, ⟨3, _⟩ => ⟨S2048, .f32⟩
  | .hbm, ⟨4, _⟩ => ⟨S1x2048, .f32⟩
  | .hbm, ⟨5, _⟩ => ⟨S3x2048, .f32⟩
  | .hbm, ⟨6, _⟩ => ⟨S3x2048, .i1⟩
  | .hbm, ⟨7, _⟩ => ⟨S3x2048, .f32⟩
  | .hbm, ⟨8, _⟩ => ⟨S_, .f32⟩
  | .hbm, ⟨9, _⟩ => ⟨S2048, .f32⟩
  | .hbm, ⟨10, _⟩ => ⟨S_, .f32⟩
  | .hbm, ⟨11, _⟩ => ⟨S2048, .f32⟩
  | .hbm, ⟨12, _⟩ => ⟨S2048, .f32⟩
  | .hbm, ⟨13, _⟩ => ⟨S_, .f32⟩
  | .hbm, ⟨14, _⟩ => ⟨S2048, .f32⟩
  | .hbm, ⟨15, _⟩ => ⟨S2048, .i1⟩
  | .hbm, ⟨16, _⟩ => ⟨S_, .f32⟩
  | .hbm, ⟨17, _⟩ => ⟨S2048, .f32⟩
  | .hbm, ⟨18, _⟩ => ⟨S2048, .i1⟩
  | .hbm, ⟨19, _⟩ => ⟨S_, .f32⟩
  | .hbm, ⟨20, _⟩ => ⟨S2048, .f32⟩
  | .hbm, ⟨21, _⟩ => ⟨S_, .f32⟩
  | .hbm, ⟨22, _⟩ => ⟨S2048, .f32⟩
  | .hbm, ⟨23, _⟩ => ⟨S_, .f32⟩
  | .hbm, ⟨24, _⟩ => ⟨S2048, .f32⟩
  | .hbm, ⟨25, _⟩ => ⟨S2048, .f32⟩
  | .hbm, ⟨26, _⟩ => ⟨S2048, .f32⟩
  | .hbm, ⟨27, _⟩ => ⟨S1x2048, .f32⟩
  | .hbm, ⟨28, _⟩ => ⟨S3x2048, .f32⟩
  | .hbm, ⟨29, _⟩ => ⟨S3x2048, .f32⟩
  | .hbm, ⟨30, _⟩ => ⟨S3x2048, .f32⟩
  | .hbm, ⟨31, _⟩ => ⟨S_, .f32⟩
  | .hbm, ⟨32, _⟩ => ⟨S2048, .f32⟩
  | .hbm, ⟨33, _⟩ => ⟨S1x2048, .f32⟩
  | .hbm, ⟨34, _⟩ => ⟨S3x2048, .f32⟩
  | .hbm, ⟨35, _⟩ => ⟨S3x2048, .f32⟩
  | .hbm, ⟨36, _⟩ => ⟨S1x2048, .f32⟩
  | .hbm, ⟨37, _⟩ => ⟨S_, .f32⟩
  | .hbm, ⟨38, _⟩ => ⟨S1x2048, .f32⟩
  | .hbm, ⟨39, _⟩ => ⟨S1x2048, .f32⟩
  | .hbm, ⟨40, _⟩ => ⟨S_, .f32⟩
  | .hbm, ⟨41, _⟩ => ⟨S_, .f32⟩
  | .hbm, ⟨42, _⟩ => ⟨S3x2048, .f32⟩
  | .hbm, ⟨43, _⟩ => ⟨S1x2048, .f32⟩
  | .hbm, ⟨44, _⟩ => ⟨S_, .f32⟩
  | .hbm, ⟨45, _⟩ => ⟨S3x2048, .f32⟩
  | .hbm, ⟨46, _⟩ => ⟨S_, .f32⟩
  | .hbm, ⟨47, _⟩ => ⟨S_, .f32⟩
  | .hbm, ⟨48, _⟩ => ⟨S3x2048, .f32⟩
  | .hbm, ⟨49, _⟩ => ⟨S3x2048, .f32⟩
  | .hbm, ⟨50, _⟩ => ⟨S3x2048, .f32⟩
  | .hbm, ⟨51, _⟩ => ⟨S3x2048, .f32⟩
  | .hbm, ⟨52, _⟩ => ⟨S_, .f32⟩
  | .hbm, ⟨53, _⟩ => ⟨S2048, .f32⟩
  | .hbm, ⟨54, _⟩ => ⟨S1x2048, .f32⟩
  | .hbm, ⟨55, _⟩ => ⟨S1x2048, .f32⟩
  | .hbm, ⟨56, _⟩ => ⟨S3x2048, .f32⟩
  | .hbm, ⟨57, _⟩ => ⟨S3x2048, .f32⟩
  | .hbm, ⟨58, _⟩ => ⟨S_, .f32⟩
  | .hbm, ⟨59, _⟩ => ⟨S2048, .f32⟩
  | .hbm, ⟨60, _⟩ => ⟨S3x2048, .f32⟩
  | .hbm, ⟨61, _⟩ => ⟨S3x2048, .f32⟩
  | .hbm, ⟨62, _⟩ => ⟨S3x2048, .f32⟩
  | _, _ => ⟨S3x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_v9 : Ref sig .tc := ⟨.hbm, 15, rfl⟩
abbrev main_cst_3 : Ref sig .tc := ⟨.hbm, 16, rfl⟩
abbrev main_v10 : Ref sig .tc := ⟨.hbm, 17, rfl⟩
abbrev main_v11 : Ref sig .tc := ⟨.hbm, 18, rfl⟩
abbrev main_cst_4 : Ref sig .tc := ⟨.hbm, 19, rfl⟩
abbrev main_v12 : Ref sig .tc := ⟨.hbm, 20, rfl⟩
abbrev main_cst_5 : Ref sig .tc := ⟨.hbm, 21, rfl⟩
abbrev main_v13 : Ref sig .tc := ⟨.hbm, 22, rfl⟩
abbrev main_cst_6 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_7 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_8 : Ref sig .tc := ⟨.hbm, 37, rfl⟩
abbrev main_v26 : Ref sig .tc := ⟨.hbm, 38, rfl⟩
abbrev main_v27 : Ref sig .tc := ⟨.hbm, 39, rfl⟩
abbrev main_call0_call0_cst : Ref sig .tc := ⟨.hbm, 40, rfl⟩
abbrev main_call0_call0_v0 : Ref sig .tc := ⟨.hbm, 41, rfl⟩
abbrev main_v28 : Ref sig .tc := ⟨.hbm, 42, rfl⟩
abbrev main_v29 : Ref sig .tc := ⟨.hbm, 43, rfl⟩
abbrev main_cst_9 : Ref sig .tc := ⟨.hbm, 44, rfl⟩
abbrev main_v30 : Ref sig .tc := ⟨.hbm, 45, rfl⟩
abbrev main_call1_call0_cst : Ref sig .tc := ⟨.hbm, 46, rfl⟩
abbrev main_call1_call0_v0 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_10 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_11 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩

abbrev nD : Nat := 1
abbrev τ : Topo := Topo.v7x

variable {F : FTy → Type} [FloatOps F]
-- ==== Kernel27.lean ====
abbrev S2x2048 : Shape := ⟨2, ![2, 2048]⟩
abbrev S3x2048 : Shape := ⟨2, ![3, 2048]⟩
abbrev S1x2048 : Shape := ⟨2, ![1, 2048]⟩
abbrev S1x3x512 : Shape := ⟨3, ![1, 3, 512]⟩
abbrev S2x3x2816 : Shape := ⟨3, ![2, 3, 2816]⟩
abbrev S2048 : Shape := ⟨1, ![2048]⟩
abbrev S4096 : Shape := ⟨1, ![4096]⟩
abbrev S6144 : Shape := ⟨1, ![6144]⟩
abbrev S1536 : Shape := ⟨1, ![1536]⟩
abbrev S16896 : Shape := ⟨1, ![16896]⟩
abbrev S36864 : Shape := ⟨1, ![36864]⟩
abbrev S_ : Shape := ⟨0, ![]⟩
abbrev S288x128 : Shape := ⟨2, ![288, 128]⟩
abbrev S32x128 : Shape := ⟨2, ![32, 128]⟩

abbrev nBuf : Space → Nat
  | .hbm => 117
  | .vmem => 14
  | .smem => 0
  | _ => 0

abbrev bufTy : (tb : Table) → Fin (tcTables nBuf tb) → BufTy
  | .hbm, ⟨0, _⟩ => ⟨S2x2048, .f32⟩
  | .hbm, ⟨1, _⟩ => ⟨S2x2048, .f32⟩
  | .hbm, ⟨2, _⟩ => ⟨S3x2048, .f32⟩
  | .hbm, ⟨3, _⟩ => ⟨S1x2048, .f32⟩
  | .hbm, ⟨4, _⟩ => ⟨S1x3x512, .f32⟩
  | .hbm, ⟨5, _⟩ => ⟨S2x3x2816, .f32⟩
  | .hbm, ⟨6, _⟩ => ⟨S2048, .f32⟩
  | .hbm, ⟨7, _⟩ => ⟨S2x2048, .f32⟩
  | .hbm, ⟨8, _⟩ => ⟨S2x2048, .f32⟩
  | .hbm, ⟨9, _⟩ => ⟨S3x2048, .f32⟩
  | .hbm, ⟨10, _⟩ => ⟨S1x2048, .f32⟩
  | .hbm, ⟨11, _⟩ => ⟨S1x3x512, .f32⟩
  | .hbm, ⟨12, _⟩ => ⟨S2x3x2816, .f32⟩
  | .hbm, ⟨13, _⟩ => ⟨S2048, .f32⟩
  | .hbm, ⟨14, _⟩ => ⟨S2x2048, .f32⟩
  | .hbm, ⟨15, _⟩ => ⟨S2x2048, .f32⟩
  | .hbm, ⟨16, _⟩ => ⟨S3x2048, .f32⟩
  | .hbm, ⟨17, _⟩ => ⟨S1x2048, .f32⟩
  | .hbm, ⟨18, _⟩ => ⟨S1x3x512, .f32⟩
  | .hbm, ⟨19, _⟩ => ⟨S2x3x2816, .f32⟩
  | .hbm, ⟨20, _⟩ => ⟨S2048, .f32⟩
  | .hbm, ⟨21, _⟩ => ⟨S2x2048, .f32⟩
  | .hbm, ⟨22, _⟩ => ⟨S2x2048, .f32⟩
  | .hbm, ⟨23, _⟩ => ⟨S3x2048, .f32⟩
  | .hbm, ⟨24, _⟩ => ⟨S1x2048, .f32⟩
  | .hbm, ⟨25, _⟩ => ⟨S1x3x512, .f32⟩
  | .hbm, ⟨26, _⟩ => ⟨S2x3x2816, .f32⟩
  | .hbm, ⟨27, _⟩ => ⟨S2048, .f32⟩
  | .hbm, ⟨28, _⟩ => ⟨S4096, .f32⟩
  | .hbm, ⟨29, _⟩ => ⟨S4096, .f32⟩
  | .hbm, ⟨30, _⟩ => ⟨S6144, .f32⟩
  | .hbm, ⟨31, _⟩ => ⟨S2048, .f32⟩
  | .hbm, ⟨32, _⟩ => ⟨S1536, .f32⟩
  | .hbm, ⟨33, _⟩ => ⟨S16896, .f32⟩
  | .hbm, ⟨34, _⟩ => ⟨S36864, .f32⟩
  | .hbm, ⟨35, _⟩ => ⟨S_, .i32⟩
  | .hbm, ⟨36, _⟩ => ⟨S_, .f32⟩
  | .hbm, ⟨37, _⟩ => ⟨S36864, .f32⟩
  | .hbm, ⟨38, _⟩ => ⟨S288x128, .f32⟩
  | .hbm, ⟨39, _⟩ => ⟨S4096, .f32⟩
  | .hbm, ⟨40, _⟩ => ⟨S4096, .f32⟩
  | .hbm, ⟨41, _⟩ => ⟨S6144, .f32⟩
  | .hbm, ⟨42, _⟩ => ⟨S2048, .f32⟩
  | .hbm, ⟨43, _⟩ => ⟨S1536, .f32⟩
  | .hbm, ⟨44, _⟩ => ⟨S16896, .f32⟩
  | .hbm, ⟨45, _⟩ => ⟨S36864, .f32⟩
  | .hbm, ⟨46, _⟩ => ⟨S_, .i32⟩
  | .hbm, ⟨47, _⟩ => ⟨S_, .f32⟩
  | .hbm, ⟨48, _⟩ => ⟨S36864, .f32⟩
  | .hbm, ⟨49, _⟩ => ⟨S288x128, .f32⟩
  | .hbm, ⟨50, _⟩ => ⟨S4096, .f32⟩
  | .hbm, ⟨51, _⟩ => ⟨S4096, .f32⟩
  | .hbm, ⟨52, _⟩ => ⟨S6144, .f32⟩
  | .hbm, ⟨53, _⟩ => ⟨S2048, .f32⟩
  | .hbm, ⟨54, _⟩ => ⟨S1536, .f32⟩
  | .hbm, ⟨55, _⟩ => ⟨S16896, .f32⟩
  | .hbm, ⟨56, _⟩ => ⟨S36864, .f32⟩
  | .hbm, ⟨57, _⟩ => ⟨S_, .i32⟩
  | .hbm, ⟨58, _⟩ => ⟨S_, .f32⟩
  | .hbm, ⟨59, _⟩ => ⟨S36864, .f32⟩
  | .hbm, ⟨60, _⟩ => ⟨S288x128, .f32⟩
  | .hbm, ⟨61, _⟩ => ⟨S4096, .f32⟩
  | .hbm, ⟨62, _⟩ => ⟨S4096, .f32⟩
  | .hbm, ⟨63, _⟩ => ⟨S6144, .f32⟩
  | .hbm, ⟨64, _⟩ => ⟨S2048, .f32⟩
  | .hbm, ⟨65, _⟩ => ⟨S1536, .f32⟩
  | .hbm, ⟨66, _⟩ => ⟨S16896, .f32⟩
  | .hbm, ⟨67, _⟩ => ⟨S36864, .f32⟩
  | .hbm, ⟨68, _⟩ => ⟨S_, .i32⟩
  | .hbm, ⟨69, _⟩ => ⟨S_, .f32⟩
  | .hbm, ⟨70, _⟩ => ⟨S36864, .f32⟩
  | .hbm, ⟨71, _⟩ => ⟨S288x128, .f32⟩
  | .hbm, ⟨72, _⟩ => ⟨S288x128, .f32⟩
  | .hbm, ⟨73, _⟩ => ⟨S288x128, .f32⟩
  | .hbm, ⟨74, _⟩ => ⟨S288x128, .f32⟩
  | .hbm, ⟨75, _⟩ => ⟨S36864, .f32⟩
  | .hbm, ⟨76, _⟩ => ⟨S4096, .f32⟩
  | .hbm, ⟨77, _⟩ => ⟨S2x2048, .f32⟩
  | .hbm, ⟨78, _⟩ => ⟨S4096, .f32⟩
  | .hbm, ⟨79, _⟩ => ⟨S2x2048, .f32⟩
  | .hbm, ⟨80, _⟩ => ⟨S6144, .f32⟩
  | .hbm, ⟨81, _⟩ => ⟨S3x2048, .f32⟩
  | .hbm, ⟨82, _⟩ => ⟨S2048, .f32⟩
  | .hbm, ⟨83, _⟩ => ⟨S1x2048, .f32⟩
  | .hbm, ⟨84, _⟩ => ⟨S1536, .f32⟩
  | .hbm, ⟨85, _⟩ => ⟨S1x3x512, .f32⟩
  | .hbm, ⟨86, _⟩ => ⟨S16896, .f32⟩
  | .hbm, ⟨87, _⟩ => ⟨S2x3x2816, .f32⟩
  | .hbm, ⟨88, _⟩ => ⟨S2048, .f32⟩
  | .hbm, ⟨89, _⟩ => ⟨S36864, .f32⟩
  | .hbm, ⟨90, _⟩ => ⟨S4096, .f32⟩
  | .hbm, ⟨91, _⟩ => ⟨S2x2048, .f32⟩
  | .hbm, ⟨92, _⟩ => ⟨S4096, .f32⟩
  | .hbm, ⟨93, _⟩ => ⟨S2x2048, .f32⟩
  | .hbm, ⟨94, _⟩ => ⟨S6144, .f32⟩
  | .hbm, ⟨95, _⟩ => ⟨S3x2048, .f32⟩
  | .hbm, ⟨96, _⟩ => ⟨S2048, .f32⟩
  | .hbm, ⟨97, _⟩ => ⟨S1x2048, .f32⟩
  | .hbm, ⟨98, _⟩ => ⟨S1536, .f32⟩
  | .hbm, ⟨99, _⟩ => ⟨S1x3x512, .f32⟩
  | .hbm, ⟨100, _⟩ => ⟨S16896, .f32⟩
  | .hbm, ⟨101, _⟩ => ⟨S2x3x2816, .f32⟩
  | .hbm, ⟨102, _⟩ => ⟨S2048, .f32⟩
  | .hbm, ⟨103, _⟩ => ⟨S36864, .f32⟩
  | .hbm, ⟨104, _⟩ => ⟨S4096, .f32⟩
  | .hbm, ⟨105, _⟩ => ⟨S2x2048, .f32⟩
  | .hbm, ⟨106, _⟩ => ⟨S4096, .f32⟩
  | .hbm, ⟨107, _⟩ => ⟨S2x2048, .f32⟩
  | .hbm, ⟨108, _⟩ => ⟨S6144, .f32⟩
  | .hbm, ⟨109, _⟩ => ⟨S3x2048, .f32⟩
  | .hbm, ⟨110, _⟩ => ⟨S2048, .f32⟩
  | .hbm, ⟨111, _⟩ => ⟨S1x2048, .f32⟩
  | .hbm, ⟨112, _⟩ => ⟨S1536, .f32⟩
  | .hbm, ⟨113, _⟩ => ⟨S1x3x512, .f32⟩
  | .hbm, ⟨114, _⟩ => ⟨S16896, .f32⟩
  | .hbm, ⟨115, _⟩ => ⟨S2x3x2816, .f32⟩
  | .hbm, ⟨116, _⟩ => ⟨S2048, .f32⟩
  | .local _ .vmem, ⟨0, _⟩ => ⟨S32x128, .f32⟩
  | .local _ .vmem, ⟨1, _⟩ => ⟨S32x128, .f32⟩
  | .local _ .vmem, ⟨2, _⟩ => ⟨S32x128, .f32⟩
  | .local _ .vmem, ⟨3, _⟩ => ⟨S32x128, .f32⟩
  | .local _ .vmem, ⟨4, _⟩ => ⟨S32x128, .f32⟩
  | .local _ .vmem, ⟨5, _⟩ => ⟨S32x128, .f32⟩
  | .local _ .vmem, ⟨6, _⟩ => ⟨S32x128, .f32⟩
  | .local _ .vmem, ⟨7, _⟩ => ⟨S32x128, .f32⟩
  | .local _ .vmem, ⟨8, _⟩ => ⟨S32x128, .f32⟩
  | .local _ .vmem, ⟨9, _⟩ => ⟨S32x128, .f32⟩
  | .local _ .vmem, ⟨10, _⟩ => ⟨S32x128, .f32⟩
  | .local _ .vmem, ⟨11, _⟩ => ⟨S32x128, .f32⟩
  | .local _ .vmem, ⟨12, _⟩ => ⟨S32x128, .f32⟩
  | .local _ .vmem, ⟨13, _⟩ => ⟨S32x128, .f32⟩
  | _, _ => ⟨S2x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_v0 : Ref sig .tc := ⟨.hbm, 28, rfl⟩
abbrev main_v1 : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_c : Ref sig .tc := ⟨.hbm, 35, rfl⟩
abbrev main_call0_v0 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_c_0 : Ref sig .tc := ⟨.hbm, 46, rfl⟩
abbrev main_call1_v0 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_c_1 : Ref sig .tc := ⟨.hbm, 57, rfl⟩
abbrev main_call2_v0 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_c_2 : Ref sig .tc := ⟨.hbm, 68, rfl⟩
abbrev main_call3_v0 : Ref sig .tc := ⟨.hbm, 69, rfl⟩
abbrev main_v34 : Ref sig .tc := ⟨.hbm, 70, rfl⟩
abbrev main_v35 : Ref sig .tc := ⟨.hbm, 71, rfl⟩
abbrev main_v36_0 : Ref sig .tc := ⟨.hbm, 72, rfl⟩
abbrev main_v36_1 : Ref sig .tc := ⟨.hbm, 73, rfl⟩
abbrev main_v36_2 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![9], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S32x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference27Ideal.lean ====
abbrev S2x2048 : Shape := ⟨2, ![2, 2048]⟩
abbrev S3x2048 : Shape := ⟨2, ![3, 2048]⟩
abbrev S1x2048 : Shape := ⟨2, ![1, 2048]⟩
abbrev S1x3x512 : Shape := ⟨3, ![1, 3, 512]⟩
abbrev S2x3x2816 : Shape := ⟨3, ![2, 3, 2816]⟩
abbrev S2048 : Shape := ⟨1, ![2048]⟩
abbrev S_ : Shape := ⟨0, ![]⟩

abbrev nBuf : Space → Nat
  | .hbm => 259
  | .vmem => 0
  | .smem => 0
  | _ => 0

abbrev hbmTy0_0 (i : Nat) : BufTy := match i % 128 with
  | 0 => ⟨S2x2048, .f32⟩
  | 1 => ⟨S2x2048, .f32⟩
  | 2 => ⟨S3x2048, .f32⟩
  | 3 => ⟨S1x2048, .f32⟩
  | 4 => ⟨S1x3x512, .f32⟩
  | 5 => ⟨S2x3x2816, .f32⟩
  | 6 => ⟨S2048, .f32⟩
  | 7 => ⟨S2x2048, .f32⟩
  | 8 => ⟨S2x2048, .f32⟩
  | 9 => ⟨S3x2048, .f32⟩
  | 10 => ⟨S1x2048, .f32⟩
  | 11 => ⟨S1x3x512, .f32⟩
  | 12 => ⟨S2x3x2816, .f32⟩
  | 13 => ⟨S2048, .f32⟩
  | 14 => ⟨S2x2048, .f32⟩
  | 15 => ⟨S2x2048, .f32⟩
  | 16 => ⟨S3x2048, .f32⟩
  | 17 => ⟨S1x2048, .f32⟩
  | 18 => ⟨S1x3x512, .f32⟩
  | 19 => ⟨S2x3x2816, .f32⟩
  | 20 => ⟨S2048, .f32⟩
  | 21 => ⟨S2x2048, .f32⟩
  | 22 => ⟨S2x2048, .f32⟩
  | 23 => ⟨S3x2048, .f32⟩
  | 24 => ⟨S1x2048, .f32⟩
  | 25 => ⟨S1x3x512, .f32⟩
  | 26 => ⟨S2x3x2816, .f32⟩
  | 27 => ⟨S2048, .f32⟩
  | 28 => ⟨S_, .f32⟩
  | 29 => ⟨S2x2048, .f32⟩
  | 30 => ⟨S2x2048, .f32⟩
  | 31 => ⟨S_, .f32⟩
  | 32 => ⟨S2x2048, .f32⟩
  | 33 => ⟨S2x2048, .f32⟩
  | 34 => ⟨S2x2048, .f32⟩
  | 35 => ⟨S_, .f32⟩
  | 36 => ⟨S2x2048, .f32⟩
  | 37 => ⟨S2x2048, .f32⟩
  | 38 => ⟨S2x2048, .f32⟩
  | 39 => ⟨S_, .f32⟩
  | 40 => ⟨S2x2048, .f32⟩
  | 41 => ⟨S2x2048, .f32⟩
  | 42 => ⟨S2x2048, .f32⟩
  | 43 => ⟨S_, .f32⟩
  | 44 => ⟨S2x2048, .f32⟩
  | 45 => ⟨S2x2048, .f32⟩
  | 46 => ⟨S_, .f32⟩
  | 47 => ⟨S2x2048, .f32⟩
  | 48 => ⟨S2x2048, .f32⟩
  | 49 => ⟨S2x2048, .f32⟩
  | 50 => ⟨S_, .f32⟩
  | 51 => ⟨S2x2048, .f32⟩
  | 52 => ⟨S2x2048, .f32⟩
  | 53 => ⟨S2x2048, .f32⟩
  | 54 => ⟨S_, .f32⟩
  | 55 => ⟨S2x2048, .f32⟩
  | 56 => ⟨S2x2048, .f32⟩
  | 57 => ⟨S2x2048, .f32⟩
  | 58 => ⟨S_, .f32⟩
  | 59 => ⟨S2x2048, .f32⟩
  | 60 => ⟨S2x2048, .f32⟩
  | 61 => ⟨S_, .f32⟩
  | 62 => ⟨S2x2048, .f32⟩
  | 63 => ⟨S2x2048, .f32⟩
  | 64 => ⟨S_, .f32⟩
  | 65 => ⟨S2x2048, .f32⟩
  | 66 => ⟨S2x2048, .f32⟩
  | 67 => ⟨S2x2048, .f32⟩
  | 68 => ⟨S_, .f32⟩
  | 69 => ⟨S2x2048, .f32⟩
  | 70 => ⟨S2x2048, .f32⟩
  | 71 => ⟨S2x2048, .f32⟩
  | 72 => ⟨S_, .f32⟩
  | 73 => ⟨S2x2048, .f32⟩
  | 74 => ⟨S2x2048, .f32⟩
  | 75 => ⟨S2x2048, .f32⟩
  | 76 => ⟨S_, .f32⟩
  | 77 => ⟨S2x2048, .f32⟩
  | 78 => ⟨S2x2048, .f32⟩
  | 79 => ⟨S_, .f32⟩
  | 80 => ⟨S2x2048, .f32⟩
  | 81 => ⟨S2x2048, .f32⟩
  | 82 => ⟨S2x2048, .f32⟩
  | 83 => ⟨S_, .f32⟩
  | 84 => ⟨S2x2048, .f32⟩
  | 85 => ⟨S2x2048, .f32⟩
  | 86 => ⟨S2x2048, .f32⟩
  | 87 => ⟨S_, .f32⟩
  | 88 => ⟨S2x2048, .f32⟩
  | 89 => ⟨S2x2048, .f32⟩
  | 90 => ⟨S2x2048, .f32⟩
  | 91 => ⟨S_, .f32⟩
  | 92 => ⟨S2x2048, .f32⟩
  | 93 => ⟨S2x2048, .f32⟩
  | 94 => ⟨S_, .f32⟩
  | 95 => ⟨S3x2048, .f32⟩
  | 96 => ⟨S3x2048, .f32⟩
  | 97 => ⟨S_, .f32⟩
  | 98 => ⟨S3x2048, .f32⟩
  | 99 => ⟨S3x2048, .f32⟩
  | 100 => ⟨S3x2048, .f32⟩
  | 101 => ⟨S_, .f32⟩
  | 102 => ⟨S3x2048, .f32⟩
  | 103 => ⟨S3x2048, .f32⟩
  | 104 => ⟨S3x2048, .f32⟩
  | 105 => ⟨S_, .f32⟩
  | 106 => ⟨S3x2048, .f32⟩
  | 107 => ⟨S3x2048, .f32⟩
  | 108 => ⟨S3x2048, .f32⟩
  | 109 => ⟨S_, .f32⟩
  | 110 => ⟨S3x2048, .f32⟩
  | 111 => ⟨S3x2048, .f32⟩
  | 112 => ⟨S_, .f32⟩
  | 113 => ⟨S3x2048, .f32⟩
  | 114 => ⟨S3x2048, .f32⟩
  | 115 => ⟨S3x2048, .f32⟩
  | 116 => ⟨S_, .f32⟩
  | 117 => ⟨S3x2048, .f32⟩
  | 118 => ⟨S3x2048, .f32⟩
  | 119 => ⟨S3x2048, .f32⟩
  | 120 => ⟨S_, .f32⟩
  | 121 => ⟨S3x2048, .f32⟩
  | 122 => ⟨S3x2048, .f32⟩
  | 123 => ⟨S3x2048, .f32⟩
  | 124 => ⟨S_, .f32⟩
  | 125 => ⟨S3x2048, .f32⟩
  | 126 => ⟨S3x2048, .f32⟩
  | 127 => ⟨S_, .f32⟩
  | _ => ⟨S2x2048, .f32⟩

abbrev hbmTy0_1 (i : Nat) : BufTy := match i % 128 with
  | 0 => ⟨S1x2048, .f32⟩
  | 1 => ⟨S1x2048, .f32⟩
  | 2 => ⟨S_, .f32⟩
  | 3 => ⟨S1x2048, .f32⟩
  | 4 => ⟨S1x2048, .f32⟩
  | 5 => ⟨S1x2048, .f32⟩
  | 6 => ⟨S_, .f32⟩
  | 7 => ⟨S1x2048, .f32⟩
  | 8 => ⟨S1x2048, .f32⟩
  | 9 => ⟨S1x2048, .f32⟩
  | 10 => ⟨S_, .f32⟩
  | 11 => ⟨S1x2048, .f32⟩
  | 12 => ⟨S1x2048, .f32⟩
  | 13 => ⟨S1x2048, .f32⟩
  | 14 => ⟨S_, .f32⟩
  | 15 => ⟨S1x2048, .f32⟩
  | 16 => ⟨S1x2048, .f32⟩
  | 17 => ⟨S_, .f32⟩
  | 18 => ⟨S1x2048, .f32⟩
  | 19 => ⟨S1x2048, .f32⟩
  | 20 => ⟨S1x2048, .f32⟩
  | 21 => ⟨S_, .f32⟩
  | 22 => ⟨S1x2048, .f32⟩
  | 23 => ⟨S1x2048, .f32⟩
  | 24 => ⟨S1x2048, .f32⟩
  | 25 => ⟨S_, .f32⟩
  | 26 => ⟨S1x2048, .f32⟩
  | 27 => ⟨S1x2048, .f32⟩
  | 28 => ⟨S1x2048, .f32⟩
  | 29 => ⟨S_, .f32⟩
  | 30 => ⟨S1x2048, .f32⟩
  | 31 => ⟨S1x2048, .f32⟩
  | 32 => ⟨S_, .f32⟩
  | 33 => ⟨S1x3x512, .f32⟩
  | 34 => ⟨S1x3x512, .f32⟩
  | 35 => ⟨S_, .f32⟩
  | 36 => ⟨S1x3x512, .f32⟩
  | 37 => ⟨S1x3x512, .f32⟩
  | 38 => ⟨S1x3x512, .f32⟩
  | 39 => ⟨S_, .f32⟩
  | 40 => ⟨S1x3x512, .f32⟩
  | 41 => ⟨S1x3x512, .f32⟩
  | 42 => ⟨S1x3x512, .f32⟩
  | 43 => ⟨S_, .f32⟩
  | 44 => ⟨S1x3x512, .f32⟩
  | 45 => ⟨S1x3x512, .f32⟩
  | 46 => ⟨S1x3x512, .f32⟩
  | 47 => ⟨S_, .f32⟩
  | 48 => ⟨S1x3x512, .f32⟩
  | 49 => ⟨S1x3x512, .f32⟩
  | 50 => ⟨S_, .f32⟩
  | 51 => ⟨S1x3x512, .f32⟩
  | 52 => ⟨S1x3x512, .f32⟩
  | 53 => ⟨S1x3x512, .f32⟩
  | 54 => ⟨S_, .f32⟩
  | 55 => ⟨S1x3x512, .f32⟩
  | 56 => ⟨S1x3x512, .f32⟩
  | 57 => ⟨S1x3x512, .f32⟩
  | 58 => ⟨S_, .f32⟩
  | 59 => ⟨S1x3x512, .f32⟩
  | 60 => ⟨S1x3x512, .f32⟩
  | 61 => ⟨S1x3x512, .f32⟩
  | 62 => ⟨S_, .f32⟩
  | 63 => ⟨S1x3x512, .f32⟩
  | 64 => ⟨S1x3x512, .f32⟩
  | 65 => ⟨S_, .f32⟩
  | 66 => ⟨S2x3x2816, .f32⟩
  | 67 => ⟨S2x3x2816, .f32⟩
  | 68 => ⟨S_, .f32⟩
  | 69 => ⟨S2x3x2816, .f32⟩
  | 70 => ⟨S2x3x2816, .f32⟩
  | 71 => ⟨S2x3x2816, .f32⟩
  | 72 => ⟨S_, .f32⟩
  | 73 => ⟨S2x3x2816, .f32⟩
  | 74 => ⟨S2x3x2816, .f32⟩
  | 75 => ⟨S2x3x2816, .f32⟩
  | 76 => ⟨S_, .f32⟩
  | 77 => ⟨S2x3x2816, .f32⟩
  | 78 => ⟨S2x3x2816, .f32⟩
  | 79 => ⟨S2x3x2816, .f32⟩
  | 80 => ⟨S_, .f32⟩
  | 81 => ⟨S2x3x2816, .f32⟩
  | 82 => ⟨S2x3x2816, .f32⟩
  | 83 => ⟨S_, .f32⟩
  | 84 => ⟨S2x3x2816, .f32⟩
  | 85 => ⟨S2x3x2816, .f32⟩
  | 86 => ⟨S2x3x2816, .f32⟩
  | 87 => ⟨S_, .f32⟩
  | 88 => ⟨S2x3x2816, .f32⟩
  | 89 => ⟨S2x3x2816, .f32⟩
  | 90 => ⟨S2x3x2816, .f32⟩
  | 91 => ⟨S_, .f32⟩
  | 92 => ⟨S2x3x2816, .f32⟩
  | 93 => ⟨S2x3x2816, .f32⟩
  | 94 => ⟨S2x3x2816, .f32⟩
  | 95 => ⟨S_, .f32⟩
  | 96 => ⟨S2x3x2816, .f32⟩
  | 97 => ⟨S2x3x2816, .f32⟩
  | 98 => ⟨S_, .f32⟩
  | 99 => ⟨S2048, .f32⟩
  | 100 => ⟨S2048, .f32⟩
  | 101 => ⟨S_, .f32⟩
  | 102 => ⟨S2048, .f32⟩
  | 103 => ⟨S2048, .f32⟩
  | 104 => ⟨S2048, .f32⟩
  | 105 => ⟨S_, .f32⟩
  | 106 => ⟨S2048, .f32⟩
  | 107 => ⟨S2048, .f32⟩
  | 108 => ⟨S2048, .f32⟩
  | 109 => ⟨S_, .f32⟩
  | 110 => ⟨S2048, .f32⟩
  | 111 => ⟨S2048, .f32⟩
  | 112 => ⟨S2048, .f32⟩
  | 113 => ⟨S_, .f32⟩
  | 114 => ⟨S2048, .f32⟩
  | 115 => ⟨S2048, .f32⟩
  | 116 => ⟨S_, .f32⟩
  | 117 => ⟨S2048, .f32⟩
  | 118 => ⟨S2048, .f32⟩
  | 119 => ⟨S2048, .f32⟩
  | 120 => ⟨S_, .f32⟩
  | 121 => ⟨S2048, .f32⟩
  | 122 => ⟨S2048, .f32⟩
  | 123 => ⟨S2048, .f32⟩
  | 124 => ⟨S_, .f32⟩
  | 125 => ⟨S2048, .f32⟩
  | 126 => ⟨S2048, .f32⟩
  | 127 => ⟨S2048, .f32⟩
  | _ => ⟨S2x2048, .f32⟩

abbrev hbmTy0_2 (i : Nat) : BufTy := match i % 128 with
  | 0 => ⟨S_, .f32⟩
  | 1 => ⟨S2048, .f32⟩
  | 2 => ⟨S2048, .f32⟩
  | _ => ⟨S2x2048, .f32⟩

abbrev hbmTy (i : Nat) : BufTy := match i / 128 with
  | 0 => hbmTy0_0 i
  | 1 => hbmTy0_1 i
  | 2 => hbmTy0_2 i
  | _ => ⟨S2x2048, .f32⟩

abbrev bufTy : (tb : Table) → Fin (tcTables nBuf tb) → BufTy
  | .hbm, ⟨i, _⟩ => hbmTy i
  | _, _ => ⟨S2x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_cst : Ref sig .tc := ⟨.hbm, 28, rfl⟩
abbrev main_v0 : Ref sig .tc := ⟨.hbm, 29, rfl⟩
abbrev main_v1 : Ref sig .tc := ⟨.hbm, 30, rfl⟩
abbrev main_cst_0 : Ref sig .tc := ⟨.hbm, 31, rfl⟩
abbrev main_v2 : Ref sig .tc := ⟨.hbm, 32, rfl⟩
abbrev main_v3 : Ref sig .tc := ⟨.hbm, 33, rfl⟩
abbrev main_v4 : Ref sig .tc := ⟨.hbm, 34, rfl⟩
abbrev main_cst_1 : Ref sig .tc := ⟨.hbm, 35, rfl⟩
abbrev main_v5 : Ref sig .tc := ⟨.hbm, 36, rfl⟩
abbrev main_v6 : Ref sig .tc := ⟨.hbm, 37, rfl⟩
abbrev main_v7 : Ref sig .tc := ⟨.hbm, 38, rfl⟩
abbrev main_cst_2 : Ref sig .tc := ⟨.hbm, 39, rfl⟩
abbrev main_v8 : Ref sig .tc := ⟨.hbm, 40, rfl⟩
abbrev main_v9 : Ref sig .tc := ⟨.hbm, 41, rfl⟩
abbrev main_v10 : Ref sig .tc := ⟨.hbm, 42, rfl⟩
abbrev main_cst_3 : Ref sig .tc := ⟨.hbm, 43, rfl⟩
abbrev main_v11 : Ref sig .tc := ⟨.hbm, 44, rfl⟩
abbrev main_v12 : Ref sig .tc := ⟨.hbm, 45, rfl⟩
abbrev main_cst_4 : Ref sig .tc := ⟨.hbm, 46, rfl⟩
abbrev main_v13 : Ref sig .tc := ⟨.hbm, 47, rfl⟩
abbrev main_v14 : Ref sig .tc := ⟨.hbm, 48, rfl⟩
abbrev main_v15 : Ref sig .tc := ⟨.hbm, 49, rfl⟩
abbrev main_cst_5 : Ref sig .tc := ⟨.hbm, 50, rfl⟩
abbrev main_v16 : Ref sig .tc := ⟨.hbm, 51, rfl⟩
abbrev main_v17 : Ref sig .tc := ⟨.hbm, 52, rfl⟩
abbrev main_v18 : Ref sig .tc := ⟨.hbm, 53, rfl⟩
abbrev main_cst_6 : Ref sig .tc := ⟨.hbm, 54, rfl⟩
abbrev main_v19 : Ref sig .tc := ⟨.hbm, 55, rfl⟩
abbrev main_v20 : Ref sig .tc := ⟨.hbm, 56, rfl⟩
abbrev main_v21 : Ref sig .tc := ⟨.hbm, 57, rfl⟩
abbrev main_cst_7 : Ref sig .tc := ⟨.hbm, 58, rfl⟩
abbrev main_v22 : Ref sig .tc := ⟨.hbm, 59, rfl⟩
abbrev main_v23 : Ref sig .tc := ⟨.hbm, 60, rfl⟩
abbrev main_cst_8 : Ref sig .tc := ⟨.hbm, 61, rfl⟩
abbrev main_v24 : Ref sig .tc := ⟨.hbm, 62, rfl⟩
abbrev main_v25 : Ref sig .tc := ⟨.hbm, 63, rfl⟩
abbrev main_cst_9 : Ref sig .tc := ⟨.hbm, 64, rfl⟩
abbrev main_v26 : Ref sig .tc := ⟨.hbm, 65, rfl⟩
abbrev main_v27 : Ref sig .tc := ⟨.hbm, 66, rfl⟩
abbrev main_v28 : Ref sig .tc := ⟨.hbm, 67, rfl⟩
abbrev main_cst_10 : Ref sig .tc := ⟨.hbm, 68, rfl⟩
abbrev main_v29 : Ref sig .tc := ⟨.hbm, 69, rfl⟩
abbrev main_v30 : Ref sig .tc := ⟨.hbm, 70, rfl⟩
abbrev main_v31 : Ref sig .tc := ⟨.hbm, 71, rfl⟩
abbrev main_cst_11 : Ref sig .tc := ⟨.hbm, 72, rfl⟩
abbrev main_v32 : Ref sig .tc := ⟨.hbm, 73, rfl⟩
abbrev main_v33 : Ref sig .tc := ⟨.hbm, 74, rfl⟩
abbrev main_v34 : Ref sig .tc := ⟨.hbm, 75, rfl⟩
abbrev main_cst_12 : Ref sig .tc := ⟨.hbm, 76, rfl⟩
abbrev main_v35 : Ref sig .tc := ⟨.hbm, 77, rfl⟩
abbrev main_v36 : Ref sig .tc := ⟨.hbm, 78, rfl⟩
abbrev main_cst_13 : Ref sig .tc := ⟨.hbm, 79, rfl⟩
abbrev main_v37 : Ref sig .tc := ⟨.hbm, 80, rfl⟩
abbrev main_v38 : Ref sig .tc := ⟨.hbm, 81, rfl⟩
abbrev main_v39 : Ref sig .tc := ⟨.hbm, 82, rfl⟩
abbrev main_cst_14 : Ref sig .tc := ⟨.hbm, 83, rfl⟩
abbrev main_v40 : Ref sig .tc := ⟨.hbm, 84, rfl⟩
abbrev main_v41 : Ref sig .tc := ⟨.hbm, 85, rfl⟩
abbrev main_v42 : Ref sig .tc := ⟨.hbm, 86, rfl⟩
abbrev main_cst_15 : Ref sig .tc := ⟨.hbm, 87, rfl⟩
abbrev main_v43 : Ref sig .tc := ⟨.hbm, 88, rfl⟩
abbrev main_v44 : Ref sig .tc := ⟨.hbm, 89, rfl⟩
abbrev main_v45 : Ref sig .tc := ⟨.hbm, 90, rfl⟩
abbrev main_cst_16 : Ref sig .tc := ⟨.hbm, 91, rfl⟩
abbrev main_v46 : Ref sig .tc := ⟨.hbm, 92, rfl⟩
abbrev main_v47 : Ref sig .tc := ⟨.hbm, 93, rfl⟩
abbrev main_cst_17 : Ref sig .tc := ⟨.hbm, 94, rfl⟩
abbrev main_v48 : Ref sig .tc := ⟨.hbm, 95, rfl⟩
abbrev main_v49 : Ref sig .tc := ⟨.hbm, 96, rfl⟩
abbrev main_cst_18 : Ref sig .tc := ⟨.hbm, 97, rfl⟩
abbrev main_v50 : Ref sig .tc := ⟨.hbm, 98, rfl⟩
abbrev main_v51 : Ref sig .tc := ⟨.hbm, 99, rfl⟩
abbrev main_v52 : Ref sig .tc := ⟨.hbm, 100, rfl⟩
abbrev main_cst_19 : Ref sig .tc := ⟨.hbm, 101, rfl⟩
abbrev main_v53 : Ref sig .tc := ⟨.hbm, 102, rfl⟩
abbrev main_v54 : Ref sig .tc := ⟨.hbm, 103, rfl⟩
abbrev main_v55 : Ref sig .tc := ⟨.hbm, 104, rfl⟩
abbrev main_cst_20 : Ref sig .tc := ⟨.hbm, 105, rfl⟩
abbrev main_v56 : Ref sig .tc := ⟨.hbm, 106, rfl⟩
abbrev main_v57 : Ref sig .tc := ⟨.hbm, 107, rfl⟩
abbrev main_v58 : Ref sig .tc := ⟨.hbm, 108, rfl⟩
abbrev main_cst_21 : Ref sig .tc := ⟨.hbm, 109, rfl⟩
abbrev main_v59 : Ref sig .tc := ⟨.hbm, 110, rfl⟩
abbrev main_v60 : Ref sig .tc := ⟨.hbm, 111, rfl⟩
abbrev main_cst_22 : Ref sig .tc := ⟨.hbm, 112, rfl⟩
abbrev main_v61 : Ref sig .tc := ⟨.hbm, 113, rfl⟩
abbrev main_v62 : Ref sig .tc := ⟨.hbm, 114, rfl⟩
abbrev main_v63 : Ref sig .tc := ⟨.hbm, 115, rfl⟩
abbrev main_cst_23 : Ref sig .tc := ⟨.hbm, 116, rfl⟩
abbrev main_v64 : Ref sig .tc := ⟨.hbm, 117, rfl⟩
abbrev main_v65 : Ref sig .tc := ⟨.hbm, 118, rfl⟩
abbrev main_v66 : Ref sig .tc := ⟨.hbm, 119, rfl⟩
abbrev main_cst_24 : Ref sig .tc := ⟨.hbm, 120, rfl⟩
abbrev main_v67 : Ref sig .tc := ⟨.hbm, 121, rfl⟩
abbrev main_v68 : Ref sig .tc := ⟨.hbm, 122, rfl⟩
abbrev main_v69 : Ref sig .tc := ⟨.hbm, 123, rfl⟩
abbrev main_cst_25 : Ref sig .tc := ⟨.hbm, 124, rfl⟩
abbrev main_v70 : Ref sig .tc := ⟨.hbm, 125, rfl⟩
abbrev main_v71 : Ref sig .tc := ⟨.hbm, 126, rfl⟩
abbrev main_cst_26 : Ref sig .tc := ⟨.hbm, 127, rfl⟩
abbrev main_v72 : Ref sig .tc := ⟨.hbm, 128, rfl⟩
abbrev main_v73 : Ref sig .tc := ⟨.hbm, 129, rfl⟩
abbrev main_cst_27 : Ref sig .tc := ⟨.hbm, 130, rfl⟩
abbrev main_v74 : Ref sig .tc := ⟨.hbm, 131, rfl⟩
abbrev main_v75 : Ref sig .tc := ⟨.hbm, 132, rfl⟩
abbrev main_v76 : Ref sig .tc := ⟨.hbm, 133, rfl⟩
abbrev main_cst_28 : Ref sig .tc := ⟨.hbm, 134, rfl⟩
abbrev main_v77 : Ref sig .tc := ⟨.hbm, 135, rfl⟩
abbrev main_v78 : Ref sig .tc := ⟨.hbm, 136, rfl⟩
abbrev main_v79 : Ref sig .tc := ⟨.hbm, 137, rfl⟩
abbrev main_cst_29 : Ref sig .tc := ⟨.hbm, 138, rfl⟩
abbrev main_v80 : Ref sig .tc := ⟨.hbm, 139, rfl⟩
abbrev main_v81 : Ref sig .tc := ⟨.hbm, 140, rfl⟩
abbrev main_v82 : Ref sig .tc := ⟨.hbm, 141, rfl⟩
abbrev main_cst_30 : Ref sig .tc := ⟨.hbm, 142, rfl⟩
abbrev main_v83 : Ref sig .tc := ⟨.hbm, 143, rfl⟩
abbrev main_v84 : Ref sig .tc := ⟨.hbm, 144, rfl⟩
abbrev main_cst_31 : Ref sig .tc := ⟨.hbm, 145, rfl⟩
abbrev main_v85 : Ref sig .tc := ⟨.hbm, 146, rfl⟩
abbrev main_v86 : Ref sig .tc := ⟨.hbm, 147, rfl⟩
abbrev main_v87 : Ref sig .tc := ⟨.hbm, 148, rfl⟩
abbrev main_cst_32 : Ref sig .tc := ⟨.hbm, 149, rfl⟩
abbrev main_v88 : Ref sig .tc := ⟨.hbm, 150, rfl⟩
abbrev main_v89 : Ref sig .tc := ⟨.hbm, 151, rfl⟩
abbrev main_v90 : Ref sig .tc := ⟨.hbm, 152, rfl⟩
abbrev main_cst_33 : Ref sig .tc := ⟨.hbm, 153, rfl⟩
abbrev main_v91 : Ref sig .tc := ⟨.hbm, 154, rfl⟩
abbrev main_v92 : Ref sig .tc := ⟨.hbm, 155, rfl⟩
abbrev main_v93 : Ref sig .tc := ⟨.hbm, 156, rfl⟩
abbrev main_cst_34 : Ref sig .tc := ⟨.hbm, 157, rfl⟩
abbrev main_v94 : Ref sig .tc := ⟨.hbm, 158, rfl⟩
abbrev main_v95 : Ref sig .tc := ⟨.hbm, 159, rfl⟩
abbrev main_cst_35 : Ref sig .tc := ⟨.hbm, 160, rfl⟩
abbrev main_v96 : Ref sig .tc := ⟨.hbm, 161, rfl⟩
abbrev main_v97 : Ref sig .tc := ⟨.hbm, 162, rfl⟩
abbrev main_cst_36 : Ref sig .tc := ⟨.hbm, 163, rfl⟩
abbrev main_v98 : Ref sig .tc := ⟨.hbm, 164, rfl⟩
abbrev main_v99 : Ref sig .tc := ⟨.hbm, 165, rfl⟩
abbrev main_v100 : Ref sig .tc := ⟨.hbm, 166, rfl⟩
abbrev main_cst_37 : Ref sig .tc := ⟨.hbm, 167, rfl⟩
abbrev main_v101 : Ref sig .tc := ⟨.hbm, 168, rfl⟩
abbrev main_v102 : Ref sig .tc := ⟨.hbm, 169, rfl⟩
abbrev main_v103 : Ref sig .tc := ⟨.hbm, 170, rfl⟩
abbrev main_cst_38 : Ref sig .tc := ⟨.hbm, 171, rfl⟩
abbrev main_v104 : Ref sig .tc := ⟨.hbm, 172, rfl⟩
abbrev main_v105 : Ref sig .tc := ⟨.hbm, 173, rfl⟩
abbrev main_v106 : Ref sig .tc := ⟨.hbm, 174, rfl⟩
abbrev main_cst_39 : Ref sig .tc := ⟨.hbm, 175, rfl⟩
abbrev main_v107 : Ref sig .tc := ⟨.hbm, 176, rfl⟩
abbrev main_v108 : Ref sig .tc := ⟨.hbm, 177, rfl⟩
abbrev main_cst_40 : Ref sig .tc := ⟨.hbm, 178, rfl⟩
abbrev main_v109 : Ref sig .tc := ⟨.hbm, 179, rfl⟩
abbrev main_v110 : Ref sig .tc := ⟨.hbm, 180, rfl⟩
abbrev main_v111 : Ref sig .tc := ⟨.hbm, 181, rfl⟩
abbrev main_cst_41 : Ref sig .tc := ⟨.hbm, 182, rfl⟩
abbrev main_v112 : Ref sig .tc := ⟨.hbm, 183, rfl⟩
abbrev main_v113 : Ref sig .tc := ⟨.hbm, 184, rfl⟩
abbrev main_v114 : Ref sig .tc := ⟨.hbm, 185, rfl⟩
abbrev main_cst_42 : Ref sig .tc := ⟨.hbm, 186, rfl⟩
abbrev main_v115 : Ref sig .tc := ⟨.hbm, 187, rfl⟩
abbrev main_v116 : Ref sig .tc := ⟨.hbm, 188, rfl⟩
abbrev main_v117 : Ref sig .tc := ⟨.hbm, 189, rfl⟩
abbrev main_cst_43 : Ref sig .tc := ⟨.hbm, 190, rfl⟩
abbrev main_v118 : Ref sig .tc := ⟨.hbm, 191, rfl⟩
abbrev main_v119 : Ref sig .tc := ⟨.hbm, 192, rfl⟩
abbrev main_cst_44 : Ref sig .tc := ⟨.hbm, 193, rfl⟩
abbrev main_v120 : Ref sig .tc := ⟨.hbm, 194, rfl⟩
abbrev main_v121 : Ref sig .tc := ⟨.hbm, 195, rfl⟩
abbrev main_cst_45 : Ref sig .tc := ⟨.hbm, 196, rfl⟩
abbrev main_v122 : Ref sig .tc := ⟨.hbm, 197, rfl⟩
abbrev main_v123 : Ref sig .tc := ⟨.hbm, 198, rfl⟩
abbrev main_v124 : Ref sig .tc := ⟨.hbm, 199, rfl⟩
abbrev main_cst_46 : Ref sig .tc := ⟨.hbm, 200, rfl⟩
abbrev main_v125 : Ref sig .tc := ⟨.hbm, 201, rfl⟩
abbrev main_v126 : Ref sig .tc := ⟨.hbm, 202, rfl⟩
abbrev main_v127 : Ref sig .tc := ⟨.hbm, 203, rfl⟩
abbrev main_cst_47 : Ref sig .tc := ⟨.hbm, 204, rfl⟩
abbrev main_v128 : Ref sig .tc := ⟨.hbm, 205, rfl⟩
abbrev main_v129 : Ref sig .tc := ⟨.hbm, 206, rfl⟩
abbrev main_v130 : Ref sig .tc := ⟨.hbm, 207, rfl⟩
abbrev main_cst_48 : Ref sig .tc := ⟨.hbm, 208, rfl⟩
abbrev main_v131 : Ref sig .tc := ⟨.hbm, 209, rfl⟩
abbrev main_v132 : Ref sig .tc := ⟨.hbm, 210, rfl⟩
abbrev main_cst_49 : Ref sig .tc := ⟨.hbm, 211, rfl⟩
abbrev main_v133 : Ref sig .tc := ⟨.hbm, 212, rfl⟩
abbrev main_v134 : Ref sig .tc := ⟨.hbm, 213, rfl⟩
abbrev main_v135 : Ref sig .tc := ⟨.hbm, 214, rfl⟩
abbrev main_cst_50 : Ref sig .tc := ⟨.hbm, 215, rfl⟩
abbrev main_v136 : Ref sig .tc := ⟨.hbm, 216, rfl⟩
abbrev main_v137 : Ref sig .tc := ⟨.hbm, 217, rfl⟩
abbrev main_v138 : Ref sig .tc := ⟨.hbm, 218, rfl⟩
abbrev main_cst_51 : Ref sig .tc := ⟨.hbm, 219, rfl⟩
abbrev main_v139 : Ref sig .tc := ⟨.hbm, 220, rfl⟩
abbrev main_v140 : Ref sig .tc := ⟨.hbm, 221, rfl⟩
abbrev main_v141 : Ref sig .tc := ⟨.hbm, 222, rfl⟩
abbrev main_cst_52 : Ref sig .tc := ⟨.hbm, 223, rfl⟩
abbrev main_v142 : Ref sig .tc := ⟨.hbm, 224, rfl⟩
abbrev main_v143 : Ref sig .tc := ⟨.hbm, 225, rfl⟩
abbrev main_cst_53 : Ref sig .tc := ⟨.hbm, 226, rfl⟩
abbrev main_v144 : Ref sig .tc := ⟨.hbm, 227, rfl⟩
abbrev main_v145 : Ref sig .tc := ⟨.hbm, 228, rfl⟩
abbrev main_cst_54 : Ref sig .tc := ⟨.hbm, 229, rfl⟩
abbrev main_v146 : Ref sig .tc := ⟨.hbm, 230, rfl⟩
abbrev main_v147 : Ref sig .tc := ⟨.hbm, 231, rfl⟩
abbrev main_v148 : Ref sig .tc := ⟨.hbm, 232, rfl⟩
abbrev main_cst_55 : Ref sig .tc := ⟨.hbm, 233, rfl⟩
abbrev main_v149 : Ref sig .tc := ⟨.hbm, 234, rfl⟩
abbrev main_v150 : Ref sig .tc := ⟨.hbm, 235, rfl⟩
abbrev main_v151 : Ref sig .tc := ⟨.hbm, 236, rfl⟩
abbrev main_cst_56 : Ref sig .tc := ⟨.hbm, 237, rfl⟩
abbrev main_v152 : Ref sig .tc := ⟨.hbm, 238, rfl⟩
abbrev main_v153 : Ref sig .tc := ⟨.hbm, 239, rfl⟩
abbrev main_v154 : Ref sig .tc := ⟨.hbm, 240, rfl⟩
abbrev main_cst_57 : Ref sig .tc := ⟨.hbm, 241, rfl⟩
abbrev main_v155 : Ref sig .tc := ⟨.hbm, 242, rfl⟩
abbrev main_v156 : Ref sig .tc := ⟨.hbm, 243, rfl⟩
abbrev main_cst_58 : Ref sig .tc := ⟨.hbm, 244, rfl⟩
abbrev main_v157 : Ref sig .tc := ⟨.hbm, 245, rfl⟩
abbrev main_v158 : Ref sig .tc := ⟨.hbm, 246, rfl⟩
abbrev main_v159 : Ref sig .tc := ⟨.hbm, 247, rfl⟩
abbrev main_cst_59 : Ref sig .tc := ⟨.hbm, 248, rfl⟩
abbrev main_v160 : Ref sig .tc := ⟨.hbm, 249, rfl⟩
abbrev main_v161 : Ref sig .tc := ⟨.hbm, 250, rfl⟩
abbrev main_v162 : Ref sig .tc := ⟨.hbm, 251, rfl⟩
abbrev main_cst_60 : Ref sig .tc := ⟨.hbm, 252, rfl⟩
abbrev main_v163 : Ref sig .tc := ⟨.hbm, 253, rfl⟩
abbrev main_v164 : Ref sig .tc := ⟨.hbm, 254, rfl⟩
abbrev main_v165 : Ref sig .tc := ⟨.hbm, 255, rfl⟩
abbrev main_cst_61 : Ref sig .tc := ⟨.hbm, 256, rfl⟩
abbrev main_v166 : Ref sig .tc := ⟨.hbm, 257, rfl⟩
abbrev main_v167 : Ref sig .tc := ⟨.hbm, 258, rfl⟩

abbrev nD : Nat := 1
abbrev τ : Topo := Topo.v7x

variable {F : FTy → Type} [FloatOps F]
-- ==== Kernel30.lean ====
abbrev S1 : Shape := ⟨1, ![1]⟩
abbrev S2048x2048 : Shape := ⟨2, ![2048, 2048]⟩
abbrev S1024x2048 : Shape := ⟨2, ![1024, 2048]⟩
abbrev S128x2048 : Shape := ⟨2, ![128, 2048]⟩

abbrev nBuf : Space → Nat
  | .hbm => 9
  | .vmem => 18
  | .smem => 1
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S1024x2048, .f32⟩
  | .hbm, ⟨4, _⟩ => ⟨S1024x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | .local _ .vmem, ⟨14, _⟩ => ⟨S128x2048, .f32⟩
  | .local _ .vmem, ⟨15, _⟩ => ⟨S128x2048, .f32⟩
  | .local _ .vmem, ⟨16, _⟩ => ⟨S128x2048, .f32⟩
  | .local _ .vmem, ⟨17, _⟩ => ⟨S128x2048, .f32⟩
  | .local _ .smem, ⟨0, _⟩ => ⟨S1, .i32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 8], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c0_i32 : BitVec 32 := 0#32
  let v1 : BitVec 32 := Scalar.addi c0_i32 v0
  let v2 : BitVec 32 := Scalar.addi v1 arg1
  let c0_i32_0 : BitVec 32 := 0#32
  let c0_i32_1 : BitVec 32 := 0#32
  ![v2.toNat, c0_i32_0.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c0_i32 : BitVec 32 := 0#32
  let v1 : BitVec 32 := Scalar.addi c0_i32 v0
  let v2 : BitVec 32 := Scalar.addi v1 arg1
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c0_i32 : BitVec 32 := 0#32
  let v1 : BitVec 32 := Scalar.addi c0_i32 v0
  let v2 : BitVec 32 := Scalar.addi v1 arg1
  let c0_i32_0 : BitVec 32 := 0#32
  let c0_i32_1 : BitVec 32 := 0#32
  ![v2.toNat, c0_i32_0.toNat]

def cc0_transform_3 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let v1 : BitVec 1 := Scalar.cmpi .eq arg0 v0
  let c0_i32 : BitVec 32 := 0#32
  let v2 : BitVec 32 := Scalar.select v1 arg1 c0_i32
  let c0_i32_0 : BitVec 32 := 0#32
  let c0_i32_1 : BitVec 32 := 0#32
  ![v2.toNat, c0_i32_0.toNat]

def cc0_transform_4 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let v1 : BitVec 1 := Scalar.cmpi .eq arg0 v0
  let c0_i32 : BitVec 32 := 0#32
  let v2 : BitVec 32 := Scalar.select v1 c0_i32 arg1
  let c0_i32_0 : BitVec 32 := 0#32
  let c0_i32_1 : BitVec 32 := 0#32
  ![v2.toNat, c0_i32_0.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c0_i32 : BitVec 32 := 0#32
  let v1 : BitVec 32 := Scalar.addi c0_i32 v0
  let v2 : BitVec 32 := Scalar.addi v1 arg1
  let c0_i32_0 : BitVec 32 := 0#32
  let c0_i32_1 : BitVec 32 := 0#32
  ![v2.toNat, c0_i32_0.toNat]

def cc0_transform_6 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c0_i32 : BitVec 32 := 0#32
  let v1 : BitVec 32 := Scalar.addi c0_i32 v0
  let v2 : BitVec 32 := Scalar.addi v1 arg1
  let c0_i32_0 : BitVec 32 := 0#32
  let c0_i32_1 : BitVec 32 := 0#32
  ![v2.toNat, c0_i32_0.toNat]

def cc0_transform_7 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c0_i32 : BitVec 32 := 0#32
  let v1 : BitVec 32 := Scalar.addi c0_i32 v0
  let v2 : BitVec 32 := Scalar.addi v1 arg1
  let c0_i32_0 : BitVec 32 := 0#32
  let c0_i32_1 : BitVec 32 := 0#32
  ![v2.toNat, c0_i32_0.toNat]

def cc0_transform_8 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c0_i32 : BitVec 32 := 0#32
  let v1 : BitVec 32 := Scalar.addi c0_i32 v0
  let v2 : BitVec 32 := Scalar.addi v1 arg1
  let c0_i32_0 : BitVec 32 := 0#32
  let c0_i32_1 : BitVec 32 := 0#32
  ![v2.toNat, c0_i32_0.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S128x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference30Ideal.lean ====
abbrev S1 : Shape := ⟨1, ![1]⟩
abbrev S2048x2048 : Shape := ⟨2, ![2048, 2048]⟩
abbrev S1024x2048 : Shape := ⟨2, ![1024, 2048]⟩
abbrev S_ : Shape := ⟨0, ![]⟩

abbrev nBuf : Space → Nat
  | .hbm => 48
  | .vmem => 0
  | .smem => 0
  | _ => 0

abbrev bufTy : (tb : Table) → Fin (tcTables nBuf tb) → BufTy
  | .hbm, ⟨0, _⟩ => ⟨S1, .i32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S1024x2048, .f32⟩
  | .hbm, ⟨5, _⟩ => ⟨S1024x2048, .f32⟩
  | .hbm, ⟨6, _⟩ => ⟨S_, .i32⟩
  | .hbm, ⟨7, _⟩ => ⟨S_, .i32⟩
  | .hbm, ⟨8, _⟩ => ⟨S_, .i1⟩
  | .hbm, ⟨9, _⟩ => ⟨S1024x2048, .f32⟩
  | .hbm, ⟨10, _⟩ => ⟨S_, .i32⟩
  | .hbm, ⟨11, _⟩ => ⟨S_, .i32⟩
  | .hbm, ⟨12, _⟩ => ⟨S_, .i1⟩
  | .hbm, ⟨13, _⟩ => ⟨S1024x2048, .f32⟩
  | .hbm, ⟨14, _⟩ => ⟨S2048x2048, .f32⟩
  | .hbm, ⟨15, _⟩ => ⟨S_, .f32⟩
  | .hbm, ⟨16, _⟩ => ⟨S2048x2048, .f32⟩
  | .hbm, ⟨17, _⟩ => ⟨S2048x2048, .f32⟩
  | .hbm, ⟨18, _⟩ => ⟨S_, .f32⟩
  | .hbm, ⟨19, _⟩ => ⟨S2048x2048, .f32⟩
  | .hbm, ⟨20, _⟩ => ⟨S2048x2048, .f32⟩
  | .hbm, ⟨21, _⟩ => ⟨S2048x2048, .f32⟩
  | .hbm, ⟨22, _⟩ => ⟨S_, .f32⟩
  | .hbm, ⟨23, _⟩ => ⟨S2048x2048, .f32⟩
  | .hbm, ⟨24, _⟩ => ⟨S2048x2048, .f32⟩
  | .hbm, ⟨25, _⟩ => ⟨S2048x2048, .f32⟩
  | .hbm, ⟨26, _⟩ => ⟨S_, .f32⟩
  | .hbm, ⟨27, _⟩ => ⟨S2048x2048, .f32⟩
  | .hbm, ⟨28, _⟩ => ⟨S2048x2048, .f32⟩
  | .hbm, ⟨29, _⟩ => ⟨S2048x2048, .f32⟩
  | .hbm, ⟨30, _⟩ => ⟨S_, .f32⟩
  | .hbm, ⟨31, _⟩ => ⟨S2048x2048, .f32⟩
  | .hbm, ⟨32, _⟩ => ⟨S2048x2048, .f32⟩
  | .hbm, ⟨33, _⟩ => ⟨S_, .f32⟩
  | .hbm, ⟨34, _⟩ => ⟨S2048x2048, .f32⟩
  | .hbm, ⟨35, _⟩ => ⟨S2048x2048, .f32⟩
  | .hbm, ⟨36, _⟩ => ⟨S2048x2048, .f32⟩
  | .hbm, ⟨37, _⟩ => ⟨S_, .f32⟩
  | .hbm, ⟨38, _⟩ => ⟨S2048x2048, .f32⟩
  | .hbm, ⟨39, _⟩ => ⟨S2048x2048, .f32⟩
  | .hbm, ⟨40, _⟩ => ⟨S2048x2048, .f32⟩
  | .hbm, ⟨41, _⟩ => ⟨S_, .f32⟩
  | .hbm, ⟨42, _⟩ => ⟨S2048x2048, .f32⟩
  | .hbm, ⟨43, _⟩ => ⟨S2048x2048, .f32⟩
  | .hbm, ⟨44, _⟩ => ⟨S2048x2048, .f32⟩
  | .hbm, ⟨45, _⟩ => ⟨S_, .f32⟩
  | .hbm, ⟨46, _⟩ => ⟨S2048x2048, .f32⟩
  | .hbm, ⟨47, _⟩ => ⟨S2048x2048, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_cst_5 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_6 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_7 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_8 : Ref sig .tc := ⟨.hbm, 45, rfl⟩
abbrev main_v29 : Ref sig .tc := ⟨.hbm, 46, rfl⟩
abbrev main_v30 : Ref sig .tc := ⟨.hbm, 47, rfl⟩

abbrev nD : Nat := 1
abbrev τ : Topo := Topo.v7x

variable {F : FTy → Type} [FloatOps F]
-- ==== Kernel31.lean ====
abbrev S1 : Shape := ⟨1, ![1]⟩
abbrev S512x2048 : Shape := ⟨2, ![512, 2048]⟩
abbrev S256x2048 : Shape := ⟨2, ![256, 2048]⟩
abbrev S128x2048 : Shape := ⟨2, ![128, 2048]⟩

abbrev nBuf : Space → Nat
  | .hbm => 9
  | .vmem => 18
  | .smem => 1
  | _ => 0

abbrev bufTy : (tb : Table) → Fin (tcTables nBuf tb) → BufTy
  | .hbm, ⟨0, _⟩ => ⟨S512x2048, .f32⟩
  | .hbm, ⟨1, _⟩ => ⟨S512x2048, .f32⟩
  | .hbm, ⟨2, _⟩ => ⟨S512x2048, .f32⟩
  | .hbm, ⟨3, _⟩ => ⟨S256x2048, .f32⟩
  | .hbm, ⟨4, _⟩ => ⟨S256x2048, .f32⟩
  | .hbm, ⟨5, _⟩ => ⟨S512x2048, .f32⟩
  | .hbm, ⟨6, _⟩ => ⟨S512x2048, .f32⟩
  | .hbm, ⟨7, _⟩ => ⟨S512x2048, .f32⟩
  | .hbm, ⟨8, _⟩ => ⟨S512x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | .local _ .vmem, ⟨14, _⟩ => ⟨S128x2048, .f32⟩
  | .local _ .vmem, ⟨15, _⟩ => ⟨S128x2048, .f32⟩
  | .local _ .vmem, ⟨16, _⟩ => ⟨S128x2048, .f32⟩
  | .local _ .vmem, ⟨17, _⟩ => ⟨S128x2048, .f32⟩
  | .local _ .smem, ⟨0, _⟩ => ⟨S1, .i32⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 2], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let c0_i32 : BitVec 32 := 0#32
  let v1 : BitVec 32 := Scalar.addi c0_i32 v0
  let v2 : BitVec 32 := Scalar.addi v1 arg1
  let c0_i32_0 : BitVec 32 := 0#32
  let c0_i32_1 : BitVec 32 := 0#32
  ![v2.toNat, c0_i32_0.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let c0_i32 : BitVec 32 := 0#32
  let v1 : BitVec 32 := Scalar.addi c0_i32 v0
  let v2 : BitVec 32 := Scalar.addi v1 arg1
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let c0_i32 : BitVec 32 := 0#32
  let v1 : BitVec 32 := Scalar.addi c0_i32 v0
  let v2 : BitVec 32 := Scalar.addi v1 arg1
  let c0_i32_0 : BitVec 32 := 0#32
  let c0_i32_1 : BitVec 32 := 0#32
  ![v2.toNat, c0_i32_0.toNat]

def cc0_transform_3 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let v1 : BitVec 1 := Scalar.cmpi .eq arg0 v0
  let c0_i32 : BitVec 32 := 0#32
  let v2 : BitVec 32 := Scalar.select v1 arg1 c0_i32
  let c0_i32_0 : BitVec 32 := 0#32
  let c0_i32_1 : BitVec 32 := 0#32
  ![v2.toNat, c0_i32_0.toNat]

def cc0_transform_4 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let v1 : BitVec 1 := Scalar.cmpi .eq arg0 v0
  let c0_i32 : BitVec 32 := 0#32
  let v2 : BitVec 32 := Scalar.select v1 c0_i32 arg1
  let c0_i32_0 : BitVec 32 := 0#32
  let c0_i32_1 : BitVec 32 := 0#32
  ![v2.toNat, c0_i32_0.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let c0_i32 : BitVec 32 := 0#32
  let v1 : BitVec 32 := Scalar.addi c0_i32 v0
  let v2 : BitVec 32 := Scalar.addi v1 arg1
  let c0_i32_0 : BitVec 32 := 0#32
  let c0_i32_1 : BitVec 32 := 0#32
  ![v2.toNat, c0_i32_0.toNat]

def cc0_transform_6 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let c0_i32 : BitVec 32 := 0#32
  let v1 : BitVec 32 := Scalar.addi c0_i32 v0
  let v2 : BitVec 32 := Scalar.addi v1 arg1
  let c0_i32_0 : BitVec 32 := 0#32
  let c0_i32_1 : BitVec 32 := 0#32
  ![v2.toNat, c0_i32_0.toNat]

def cc0_transform_7 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let c0_i32 : BitVec 32 := 0#32
  let v1 : BitVec 32 := Scalar.addi c0_i32 v0
  let v2 : BitVec 32 := Scalar.addi v1 arg1
  let c0_i32_0 : BitVec 32 := 0#32
  let c0_i32_1 : BitVec 32 := 0#32
  ![v2.toNat, c0_i32_0.toNat]

def cc0_transform_8 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let c0_i32 : BitVec 32 := 0#32
  let v1 : BitVec 32 := Scalar.addi c0_i32 v0
  let v2 : BitVec 32 := Scalar.addi v1 arg1
  let c0_i32_0 : BitVec 32 := 0#32
  let c0_i32_1 : BitVec 32 := 0#32
  ![v2.toNat, c0_i32_0.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S128x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference31Ideal.lean ====
abbrev S1 : Shape := ⟨1, ![1]⟩
abbrev S512x2048 : Shape := ⟨2, ![512, 2048]⟩
abbrev S256x2048 : Shape := ⟨2, ![256, 2048]⟩
abbrev S_ : Shape := ⟨0, ![]⟩

abbrev nBuf : Space → Nat
  | .hbm => 48
  | .vmem => 0
  | .smem => 0
  | _ => 0

abbrev bufTy : (tb : Table) → Fin (tcTables nBuf tb) → BufTy
  | .hbm, ⟨0, _⟩ => ⟨S1, .i32⟩
  | .hbm, ⟨1, _⟩ => ⟨S512x2048, .f32⟩
  | .hbm, ⟨2, _⟩ => ⟨S512x2048, .f32⟩
  | .hbm, ⟨3, _⟩ => ⟨S512x2048, .f32⟩
  | .hbm, ⟨4, _⟩ => ⟨S256x2048, .f32⟩
  | .hbm, ⟨5, _⟩ => ⟨S256x2048, .f32⟩
  | .hbm, ⟨6, _⟩ => ⟨S_, .i32⟩
  | .hbm, ⟨7, _⟩ => ⟨S_, .i32⟩
  | .hbm, ⟨8, _⟩ => ⟨S_, .i1⟩
  | .hbm, ⟨9, _⟩ => ⟨S256x2048, .f32⟩
  | .hbm, ⟨10, _⟩ => ⟨S_, .i32⟩
  | .hbm, ⟨11, _⟩ => ⟨S_, .i32⟩
  | .hbm, ⟨12, _⟩ => ⟨S_, .i1⟩
  | .hbm, ⟨13, _⟩ => ⟨S256x2048, .f32⟩
  | .hbm, ⟨14, _⟩ => ⟨S512x2048, .f32⟩
  | .hbm, ⟨15, _⟩ => ⟨S_, .f32⟩
  | .hbm, ⟨16, _⟩ => ⟨S512x2048, .f32⟩
  | .hbm, ⟨17, _⟩ => ⟨S512x2048, .f32⟩
  | .hbm, ⟨18, _⟩ => ⟨S_, .f32⟩
  | .hbm, ⟨19, _⟩ => ⟨S512x2048, .f32⟩
  | .hbm, ⟨20, _⟩ => ⟨S512x2048, .f32⟩
  | .hbm, ⟨21, _⟩ => ⟨S512x2048, .f32⟩
  | .hbm, ⟨22, _⟩ => ⟨S_, .f32⟩
  | .hbm, ⟨23, _⟩ => ⟨S512x2048, .f32⟩
  | .hbm, ⟨24, _⟩ => ⟨S512x2048, .f32⟩
  | .hbm, ⟨25, _⟩ => ⟨S512x2048, .f32⟩
  | .hbm, ⟨26, _⟩ => ⟨S_, .f32⟩
  | .hbm, ⟨27, _⟩ => ⟨S512x2048, .f32⟩
  | .hbm, ⟨28, _⟩ => ⟨S512x2048, .f32⟩
  | .hbm, ⟨29, _⟩ => ⟨S512x2048, .f32⟩
  | .hbm, ⟨30, _⟩ => ⟨S_, .f32⟩
  | .hbm, ⟨31, _⟩ => ⟨S512x2048, .f32⟩
  | .hbm, ⟨32, _⟩ => ⟨S512x2048, .f32⟩
  | .hbm, ⟨33, _⟩ => ⟨S_, .f32⟩
  | .hbm, ⟨34, _⟩ => ⟨S512x2048, .f32⟩
  | .hbm, ⟨35, _⟩ => ⟨S512x2048, .f32⟩
  | .hbm, ⟨36, _⟩ => ⟨S512x2048, .f32⟩
  | .hbm, ⟨37, _⟩ => ⟨S_, .f32⟩
  | .hbm, ⟨38, _⟩ => ⟨S512x2048, .f32⟩
  | .hbm, ⟨39, _⟩ => ⟨S512x2048, .f32⟩
  | .hbm, ⟨40, _⟩ => ⟨S512x2048, .f32⟩
  | .hbm, ⟨41, _⟩ => ⟨S_, .f32⟩
  | .hbm, ⟨42, _⟩ => ⟨S512x2048, .f32⟩
  | .hbm, ⟨43, _⟩ => ⟨S512x2048, .f32⟩
  | .hbm, ⟨44, _⟩ => ⟨S512x2048, .f32⟩
  | .hbm, ⟨45, _⟩ => ⟨S_, .f32⟩
  | .hbm, ⟨46, _⟩ => ⟨S512x2048, .f32⟩
  | .hbm, ⟨47, _⟩ => ⟨S512x2048, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_cst_5 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_6 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_7 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_8 : Ref sig .tc := ⟨.hbm, 45, rfl⟩
abbrev main_v29 : Ref sig .tc := ⟨.hbm, 46, rfl⟩
abbrev main_v30 : Ref sig .tc := ⟨.hbm, 47, rfl⟩

abbrev nD : Nat := 1
abbrev τ : Topo := Topo.v7x

variable {F : FTy → Type} [FloatOps F]
-- ==== Kernel32.lean ====
abbrev S1 : Shape := ⟨1, ![1]⟩
abbrev S2048x1536 : Shape := ⟨2, ![2048, 1536]⟩
abbrev S1024x1536 : Shape := ⟨2, ![1024, 1536]⟩
abbrev S128x1536 : Shape := ⟨2, ![128, 1536]⟩

abbrev nBuf : Space → Nat
  | .hbm => 9
  | .vmem => 18
  | .smem => 1
  | _ => 0

abbrev bufTy : (tb : Table) → Fin (tcTables nBuf tb) → BufTy
  | .hbm, ⟨0, _⟩ => ⟨S2048x1536, .f32⟩
  | .hbm, ⟨1, _⟩ => ⟨S2048x1536, .f32⟩
  | .hbm, ⟨2, _⟩ => ⟨S2048x1536, .f32⟩
  | .hbm, ⟨3, _⟩ => ⟨S1024x1536, .f32⟩
  | .hbm, ⟨4, _⟩ => ⟨S1024x1536, .f32⟩
  | .hbm, ⟨5, _⟩ => ⟨S2048x1536, .f32⟩
  | .hbm, ⟨6, _⟩ => ⟨S2048x1536, .f32⟩
  | .hbm, ⟨7, _⟩ => ⟨S2048x1536, .f32⟩
  | .hbm, ⟨8, _⟩ => ⟨S2048x1536, .f32⟩
  | .local _ .vmem, ⟨0, _⟩ => ⟨S128x1536, .f32⟩
  | .local _ .vmem, ⟨1, _⟩ => ⟨S128x1536, .f32⟩
  | .local _ .vmem, ⟨2, _⟩ => ⟨S128x1536, .f32⟩
  | .local _ .vmem, ⟨3, _⟩ => ⟨S128x1536, .f32⟩
  | .local _ .vmem, ⟨4, _⟩ => ⟨S128x1536, .f32⟩
  | .local _ .vmem, ⟨5, _⟩ => ⟨S128x1536, .f32⟩
  | .local _ .vmem, ⟨6, _⟩ => ⟨S128x1536, .f32⟩
  | .local _ .vmem, ⟨7, _⟩ => ⟨S128x1536, .f32⟩
  | .local _ .vmem, ⟨8, _⟩ => ⟨S128x1536, .f32⟩
  | .local _ .vmem, ⟨9, _⟩ => ⟨S128x1536, .f32⟩
  | .local _ .vmem, ⟨10, _⟩ => ⟨S128x1536, .f32⟩
  | .local _ .vmem, ⟨11, _⟩ => ⟨S128x1536, .f32⟩
  | .local _ .vmem, ⟨12, _⟩ => ⟨S128x1536, .f32⟩
  | .local _ .vmem, ⟨13, _⟩ => ⟨S128x1536, .f32⟩
  | .local _ .vmem, ⟨14, _⟩ => ⟨S128x1536, .f32⟩
  | .local _ .vmem, ⟨15, _⟩ => ⟨S128x1536, .f32⟩
  | .local _ .vmem, ⟨16, _⟩ => ⟨S128x1536, .f32⟩
  | .local _ .vmem, ⟨17, _⟩ => ⟨S128x1536, .f32⟩
  | .local _ .smem, ⟨0, _⟩ => ⟨S1, .i32⟩
  | _, _ => ⟨S2048x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 8], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c0_i32 : BitVec 32 := 0#32
  let v1 : BitVec 32 := Scalar.addi c0_i32 v0
  let v2 : BitVec 32 := Scalar.addi v1 arg1
  let c0_i32_0 : BitVec 32 := 0#32
  let c0_i32_1 : BitVec 32 := 0#32
  ![v2.toNat, c0_i32_0.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c0_i32 : BitVec 32 := 0#32
  let v1 : BitVec 32 := Scalar.addi c0_i32 v0
  let v2 : BitVec 32 := Scalar.addi v1 arg1
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c0_i32 : BitVec 32 := 0#32
  let v1 : BitVec 32 := Scalar.addi c0_i32 v0
  let v2 : BitVec 32 := Scalar.addi v1 arg1
  let c0_i32_0 : BitVec 32 := 0#32
  let c0_i32_1 : BitVec 32 := 0#32
  ![v2.toNat, c0_i32_0.toNat]

def cc0_transform_3 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let v1 : BitVec 1 := Scalar.cmpi .eq arg0 v0
  let c0_i32 : BitVec 32 := 0#32
  let v2 : BitVec 32 := Scalar.select v1 arg1 c0_i32
  let c0_i32_0 : BitVec 32 := 0#32
  let c0_i32_1 : BitVec 32 := 0#32
  ![v2.toNat, c0_i32_0.toNat]

def cc0_transform_4 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let v1 : BitVec 1 := Scalar.cmpi .eq arg0 v0
  let c0_i32 : BitVec 32 := 0#32
  let v2 : BitVec 32 := Scalar.select v1 c0_i32 arg1
  let c0_i32_0 : BitVec 32 := 0#32
  let c0_i32_1 : BitVec 32 := 0#32
  ![v2.toNat, c0_i32_0.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c0_i32 : BitVec 32 := 0#32
  let v1 : BitVec 32 := Scalar.addi c0_i32 v0
  let v2 : BitVec 32 := Scalar.addi v1 arg1
  let c0_i32_0 : BitVec 32 := 0#32
  let c0_i32_1 : BitVec 32 := 0#32
  ![v2.toNat, c0_i32_0.toNat]

def cc0_transform_6 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c0_i32 : BitVec 32 := 0#32
  let v1 : BitVec 32 := Scalar.addi c0_i32 v0
  let v2 : BitVec 32 := Scalar.addi v1 arg1
  let c0_i32_0 : BitVec 32 := 0#32
  let c0_i32_1 : BitVec 32 := 0#32
  ![v2.toNat, c0_i32_0.toNat]

def cc0_transform_7 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c0_i32 : BitVec 32 := 0#32
  let v1 : BitVec 32 := Scalar.addi c0_i32 v0
  let v2 : BitVec 32 := Scalar.addi v1 arg1
  let c0_i32_0 : BitVec 32 := 0#32
  let c0_i32_1 : BitVec 32 := 0#32
  ![v2.toNat, c0_i32_0.toNat]

def cc0_transform_8 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c0_i32 : BitVec 32 := 0#32
  let v1 : BitVec 32 := Scalar.addi c0_i32 v0
  let v2 : BitVec 32 := Scalar.addi v1 arg1
  let c0_i32_0 : BitVec 32 := 0#32
  let c0_i32_1 : BitVec 32 := 0#32
  ![v2.toNat, c0_i32_0.toNat]

abbrev stage0_0 : Fin 2 → Memref sig .tc .vmem S128x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x1536 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S128x1536 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference32Ideal.lean ====
abbrev S1 : Shape := ⟨1, ![1]⟩
abbrev S2048x1536 : Shape := ⟨2, ![2048, 1536]⟩
abbrev S1024x1536 : Shape := ⟨2, ![1024, 1536]⟩
abbrev S_ : Shape := ⟨0, ![]⟩

abbrev nBuf : Space → Nat
  | .hbm => 48
  | .vmem => 0
  | .smem => 0
  | _ => 0

abbrev bufTy : (tb : Table) → Fin (tcTables nBuf tb) → BufTy
  | .hbm, ⟨0, _⟩ => ⟨S1, .i32⟩
  | .hbm, ⟨1, _⟩ => ⟨S2048x1536, .f32⟩
  | .hbm, ⟨2, _⟩ => ⟨S2048x1536, .f32⟩
  | .hbm, ⟨3, _⟩ => ⟨S2048x1536, .f32⟩
  | .hbm, ⟨4, _⟩ => ⟨S1024x1536, .f32⟩
  | .hbm, ⟨5, _⟩ => ⟨S1024x1536, .f32⟩
  | .hbm, ⟨6, _⟩ => ⟨S_, .i32⟩
  | .hbm, ⟨7, _⟩ => ⟨S_, .i32⟩
  | .hbm, ⟨8, _⟩ => ⟨S_, .i1⟩
  | .hbm, ⟨9, _⟩ => ⟨S1024x1536, .f32⟩
  | .hbm, ⟨10, _⟩ => ⟨S_, .i32⟩
  | .hbm, ⟨11, _⟩ => ⟨S_, .i32⟩
  | .hbm, ⟨12, _⟩ => ⟨S_, .i1⟩
  | .hbm, ⟨13, _⟩ => ⟨S1024x1536, .f32⟩
  | .hbm, ⟨14, _⟩ => ⟨S2048x1536, .f32⟩
  | .hbm, ⟨15, _⟩ => ⟨S_, .f32⟩
  | .hbm, ⟨16, _⟩ => ⟨S2048x1536, .f32⟩
  | .hbm, ⟨17, _⟩ => ⟨S2048x1536, .f32⟩
  | .hbm, ⟨18, _⟩ => ⟨S_, .f32⟩
  | .hbm, ⟨19, _⟩ => ⟨S2048x1536, .f32⟩
  | .hbm, ⟨20, _⟩ => ⟨S2048x1536, .f32⟩
  | .hbm, ⟨21, _⟩ => ⟨S2048x1536, .f32⟩
  | .hbm, ⟨22, _⟩ => ⟨S_, .f32⟩
  | .hbm, ⟨23, _⟩ => ⟨S2048x1536, .f32⟩
  | .hbm, ⟨24, _⟩ => ⟨S2048x1536, .f32⟩
  | .hbm, ⟨25, _⟩ => ⟨S2048x1536, .f32⟩
  | .hbm, ⟨26, _⟩ => ⟨S_, .f32⟩
  | .hbm, ⟨27, _⟩ => ⟨S2048x1536, .f32⟩
  | .hbm, ⟨28, _⟩ => ⟨S2048x1536, .f32⟩
  | .hbm, ⟨29, _⟩ => ⟨S2048x1536, .f32⟩
  | .hbm, ⟨30, _⟩ => ⟨S_, .f32⟩
  | .hbm, ⟨31, _⟩ => ⟨S2048x1536, .f32⟩
  | .hbm, ⟨32, _⟩ => ⟨S2048x1536, .f32⟩
  | .hbm, ⟨33, _⟩ => ⟨S_, .f32⟩
  | .hbm, ⟨34, _⟩ => ⟨S2048x1536, .f32⟩
  | .hbm, ⟨35, _⟩ => ⟨S2048x1536, .f32⟩
  | .hbm, ⟨36, _⟩ => ⟨S2048x1536, .f32⟩
  | .hbm, ⟨37, _⟩ => ⟨S_, .f32⟩
  | .hbm, ⟨38, _⟩ => ⟨S2048x1536, .f32⟩
  | .hbm, ⟨39, _⟩ => ⟨S2048x1536, .f32⟩
  | .hbm, ⟨40, _⟩ => ⟨S2048x1536, .f32⟩
  | .hbm, ⟨41, _⟩ => ⟨S_, .f32⟩
  | .hbm, ⟨42, _⟩ => ⟨S2048x1536, .f32⟩
  | .hbm, ⟨43, _⟩ => ⟨S2048x1536, .f32⟩
  | .hbm, ⟨44, _⟩ => ⟨S2048x1536, .f32⟩
  | .hbm, ⟨45, _⟩ => ⟨S_, .f32⟩
  | .hbm, ⟨46, _⟩ => ⟨S2048x1536, .f32⟩
  | .hbm, ⟨47, _⟩ => ⟨S2048x1536, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_cst_5 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_6 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_7 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_8 : Ref sig .tc := ⟨.hbm, 45, rfl⟩
abbrev main_v29 : Ref sig .tc := ⟨.hbm, 46, rfl⟩
abbrev main_v30 : Ref sig .tc := ⟨.hbm, 47, rfl⟩

abbrev nD : Nat := 1
abbrev τ : Topo := Topo.v7x

variable {F : FTy → Type} [FloatOps F]
-- ==== Kernel35.lean ====
abbrev S1 : Shape := ⟨1, ![1]⟩
abbrev S4096x2816 : Shape := ⟨2, ![4096, 2816]⟩
abbrev S1024x2816 : Shape := ⟨2, ![1024, 2816]⟩
abbrev S128x2816 : Shape := ⟨2, ![128, 2816]⟩

abbrev nBuf : Space → Nat
  | .hbm => 13
  | .vmem => 18
  | .smem => 1
  | _ => 0

abbrev bufTy : (tb : Table) → Fin (tcTables nBuf tb) → BufTy
  | .hbm, ⟨0, _⟩ => ⟨S4096x2816, .f32⟩
  | .hbm, ⟨1, _⟩ => ⟨S4096x2816, .f32⟩
  | .hbm, ⟨2, _⟩ => ⟨S4096x2816, .f32⟩
  | .hbm, ⟨3, _⟩ => ⟨S1024x2816, .f32⟩
  | .hbm, ⟨4, _⟩ => ⟨S1024x2816, .f32⟩
  | .hbm, ⟨5, _⟩ => ⟨S4096x2816, .f32⟩
  | .hbm, ⟨6, _⟩ => ⟨S4096x2816, .f32⟩
  | .hbm, ⟨7, _⟩ => ⟨S4096x2816, .f32⟩
  | .hbm, ⟨8, _⟩ => ⟨S4096x2816, .f32⟩
  | .hbm, ⟨9, _⟩ => ⟨S4096x2816, .f32⟩
  | .hbm, ⟨10, _⟩ => ⟨S4096x2816, .f32⟩
  | .hbm, ⟨11, _⟩ => ⟨S4096x2816, .f32⟩
  | .hbm, ⟨12, _⟩ => ⟨S4096x2816, .f32⟩
  | .local _ .vmem, ⟨0, _⟩ => ⟨S128x2816, .f32⟩
  | .local _ .vmem, ⟨1, _⟩ => ⟨S128x2816, .f32⟩
  | .local _ .vmem, ⟨2, _⟩ => ⟨S128x2816, .f32⟩
  | .local _ .vmem, ⟨3, _⟩ => ⟨S128x2816, .f32⟩
  | .local _ .vmem, ⟨4, _⟩ => ⟨S128x2816, .f32⟩
  | .local _ .vmem, ⟨5, _⟩ => ⟨S128x2816, .f32⟩
  | .local _ .vmem, ⟨6, _⟩ => ⟨S128x2816, .f32⟩
  | .local _ .vmem, ⟨7, _⟩ => ⟨S128x2816, .f32⟩
  | .local _ .vmem, ⟨8, _⟩ => ⟨S128x2816, .f32⟩
  | .local _ .vmem, ⟨9, _⟩ => ⟨S128x2816, .f32⟩
  | .local _ .vmem, ⟨10, _⟩ => ⟨S128x2816, .f32⟩
  | .local _ .vmem, ⟨11, _⟩ => ⟨S128x2816, .f32⟩
  | .local _ .vmem, ⟨12, _⟩ => ⟨S128x2816, .f32⟩
  | .local _ .vmem, ⟨13, _⟩ => ⟨S128x2816, .f32⟩
  | .local _ .vmem, ⟨14, _⟩ => ⟨S128x2816, .f32⟩
  | .local _ .vmem, ⟨15, _⟩ => ⟨S128x2816, .f32⟩
  | .local _ .vmem, ⟨16, _⟩ => ⟨S128x2816, .f32⟩
  | .local _ .vmem, ⟨17, _⟩ => ⟨S128x2816, .f32⟩
  | .local _ .smem, ⟨0, _⟩ => ⟨S1, .i32⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_arg8 : Ref sig .tc := ⟨.hbm, 7, rfl⟩
abbrev main_arg9 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 8], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c0_i32 : BitVec 32 := 0#32
  let v1 : BitVec 32 := Scalar.addi c0_i32 v0
  let v2 : BitVec 32 := Scalar.addi v1 arg1
  let c0_i32_0 : BitVec 32 := 0#32
  let c0_i32_1 : BitVec 32 := 0#32
  ![v2.toNat, c0_i32_0.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c0_i32 : BitVec 32 := 0#32
  let v1 : BitVec 32 := Scalar.addi c0_i32 v0
  let v2 : BitVec 32 := Scalar.addi v1 arg1
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c0_i32 : BitVec 32 := 0#32
  let v1 : BitVec 32 := Scalar.addi c0_i32 v0
  let v2 : BitVec 32 := Scalar.addi v1 arg1
  let c0_i32_0 : BitVec 32 := 0#32
  let c0_i32_1 : BitVec 32 := 0#32
  ![v2.toNat, c0_i32_0.toNat]

def cc0_transform_3 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let v1 : BitVec 1 := Scalar.cmpi .eq arg0 v0
  let c0_i32 : BitVec 32 := 0#32
  let v2 : BitVec 32 := Scalar.select v1 arg1 c0_i32
  let c0_i32_0 : BitVec 32 := 0#32
  let c0_i32_1 : BitVec 32 := 0#32
  ![v2.toNat, c0_i32_0.toNat]

def cc0_transform_4 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let v1 : BitVec 1 := Scalar.cmpi .eq arg0 v0
  let c0_i32 : BitVec 32 := 0#32
  let v2 : BitVec 32 := Scalar.select v1 c0_i32 arg1
  let c0_i32_0 : BitVec 32 := 0#32
  let c0_i32_1 : BitVec 32 := 0#32
  ![v2.toNat, c0_i32_0.toNat]

def cc0_transform_9 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c0_i32 : BitVec 32 := 0#32
  let v1 : BitVec 32 := Scalar.addi c0_i32 v0
  let v2 : BitVec 32 := Scalar.addi v1 arg1
  let c0_i32_0 : BitVec 32 := 0#32
  let c0_i32_1 : BitVec 32 := 0#32
  ![v2.toNat, c0_i32_0.toNat]

def cc0_transform_10 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c0_i32 : BitVec 32 := 0#32
  let v1 : BitVec 32 := Scalar.addi c0_i32 v0
  let v2 : BitVec 32 := Scalar.addi v1 arg1
  let c0_i32_0 : BitVec 32 := 0#32
  let c0_i32_1 : BitVec 32 := 0#32
  ![v2.toNat, c0_i32_0.toNat]

def cc0_transform_11 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c0_i32 : BitVec 32 := 0#32
  let v1 : BitVec 32 := Scalar.addi c0_i32 v0
  let v2 : BitVec 32 := Scalar.addi v1 arg1
  let c0_i32_0 : BitVec 32 := 0#32
  let c0_i32_1 : BitVec 32 := 0#32
  ![v2.toNat, c0_i32_0.toNat]

def cc0_transform_12 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c0_i32 : BitVec 32 := 0#32
  let v1 : BitVec 32 := Scalar.addi c0_i32 v0
  let v2 : BitVec 32 := Scalar.addi v1 arg1
  let c0_i32_0 : BitVec 32 := 0#32
  let c0_i32_1 : BitVec 32 := 0#32
  ![v2.toNat, c0_i32_0.toNat]

abbrev stage0_0 : Fin 2 → Memref sig .tc .vmem S128x2816 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x2816 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x2816 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x2816 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x2816 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x2816 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x2816 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S128x2816 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference35Ideal.lean ====
abbrev S1 : Shape := ⟨1, ![1]⟩
abbrev S4096x2816 : Shape := ⟨2, ![4096, 2816]⟩
abbrev S1024x2816 : Shape := ⟨2, ![1024, 2816]⟩
abbrev S_ : Shape := ⟨0, ![]⟩
abbrev S2048x2816 : Shape := ⟨2, ![2048, 2816]⟩

abbrev nBuf : Space → Nat
  | .hbm => 63
  | .vmem => 0
  | .smem => 0
  | _ => 0

abbrev bufTy : (tb : Table) → Fin (tcTables nBuf tb) → BufTy
  | .hbm, ⟨0, _⟩ => ⟨S1, .i32⟩
  | .hbm, ⟨1, _⟩ => ⟨S4096x2816, .f32⟩
  | .hbm, ⟨2, _⟩ => ⟨S4096x2816, .f32⟩
  | .hbm, ⟨3, _⟩ => ⟨S4096x2816, .f32⟩
  | .hbm, ⟨4, _⟩ => ⟨S1024x2816, .f32⟩
  | .hbm, ⟨5, _⟩ => ⟨S1024x2816, .f32⟩
  | .hbm, ⟨6, _⟩ => ⟨S4096x2816, .f32⟩
  | .hbm, ⟨7, _⟩ => ⟨S4096x2816, .f32⟩
  | .hbm, ⟨8, _⟩ => ⟨S4096x2816, .f32⟩
  | .hbm, ⟨9, _⟩ => ⟨S4096x2816, .f32⟩
  | .hbm, ⟨10, _⟩ => ⟨S_, .i32⟩
  | .hbm, ⟨11, _⟩ => ⟨S_, .i32⟩
  | .hbm, ⟨12, _⟩ => ⟨S_, .i1⟩
  | .hbm, ⟨13, _⟩ => ⟨S1024x2816, .f32⟩
  | .hbm, ⟨14, _⟩ => ⟨S_, .i32⟩
  | .hbm, ⟨15, _⟩ => ⟨S_, .i32⟩
  | .hbm, ⟨16, _⟩ => ⟨S_, .i1⟩
  | .hbm, ⟨17, _⟩ => ⟨S1024x2816, .f32⟩
  | .hbm, ⟨18, _⟩ => ⟨S2048x2816, .f32⟩
  | .hbm, ⟨19, _⟩ => ⟨S2048x2816, .f32⟩
  | .hbm, ⟨20, _⟩ => ⟨S2048x2816, .f32⟩
  | .hbm, ⟨21, _⟩ => ⟨S2048x2816, .f32⟩
  | .hbm, ⟨22, _⟩ => ⟨S_, .f32⟩
  | .hbm, ⟨23, _⟩ => ⟨S2048x2816, .f32⟩
  | .hbm, ⟨24, _⟩ => ⟨S2048x2816, .f32⟩
  | .hbm, ⟨25, _⟩ => ⟨S_, .f32⟩
  | .hbm, ⟨26, _⟩ => ⟨S2048x2816, .f32⟩
  | .hbm, ⟨27, _⟩ => ⟨S2048x2816, .f32⟩
  | .hbm, ⟨28, _⟩ => ⟨S2048x2816, .f32⟩
  | .hbm, ⟨29, _⟩ => ⟨S_, .f32⟩
  | .hbm, ⟨30, _⟩ => ⟨S2048x2816, .f32⟩
  | .hbm, ⟨31, _⟩ => ⟨S2048x2816, .f32⟩
  | .hbm, ⟨32, _⟩ => ⟨S2048x2816, .f32⟩
  | .hbm, ⟨33, _⟩ => ⟨S_, .f32⟩
  | .hbm, ⟨34, _⟩ => ⟨S2048x2816, .f32⟩
  | .hbm, ⟨35, _⟩ => ⟨S2048x2816, .f32⟩
  | .hbm, ⟨36, _⟩ => ⟨S2048x2816, .f32⟩
  | .hbm, ⟨37, _⟩ => ⟨S_, .f32⟩
  | .hbm, ⟨38, _⟩ => ⟨S2048x2816, .f32⟩
  | .hbm, ⟨39, _⟩ => ⟨S2048x2816, .f32⟩
  | .hbm, ⟨40, _⟩ => ⟨S_, .f32⟩
  | .hbm, ⟨41, _⟩ => ⟨S2048x2816, .f32⟩
  | .hbm, ⟨42, _⟩ => ⟨S2048x2816, .f32⟩
  | .hbm, ⟨43, _⟩ => ⟨S2048x2816, .f32⟩
  | .hbm, ⟨44, _⟩ => ⟨S_, .f32⟩
  | .hbm, ⟨45, _⟩ => ⟨S2048x2816, .f32⟩
  | .hbm, ⟨46, _⟩ => ⟨S2048x2816, .f32⟩
  | .hbm, ⟨47, _⟩ => ⟨S2048x2816, .f32⟩
  | .hbm, ⟨48, _⟩ => ⟨S_, .f32⟩
  | .hbm, ⟨49, _⟩ => ⟨S2048x2816, .f32⟩
  | .hbm, ⟨50, _⟩ => ⟨S2048x2816, .f32⟩
  | .hbm, ⟨51, _⟩ => ⟨S2048x2816, .f32⟩
  | .hbm, ⟨52, _⟩ => ⟨S_, .f32⟩
  | .hbm, ⟨53, _⟩ => ⟨S2048x2816, .f32⟩
  | .hbm, ⟨54, _⟩ => ⟨S2048x2816, .f32⟩
  | .hbm, ⟨55, _⟩ => ⟨S2048x2816, .f32⟩
  | .hbm, ⟨56, _⟩ => ⟨S4096x2816, .f32⟩
  | .hbm, ⟨57, _⟩ => ⟨S2048x2816, .f32⟩
  | .hbm, ⟨58, _⟩ => ⟨S4096x2816, .f32⟩
  | .hbm, ⟨59, _⟩ => ⟨S2048x2816, .f32⟩
  | .hbm, ⟨60, _⟩ => ⟨S4096x2816, .f32⟩
  | .hbm, ⟨61, _⟩ => ⟨S2048x2816, .f32⟩
  | .hbm, ⟨62, _⟩ => ⟨S4096x2816, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_c : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c_0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst : Ref sig .tc := ⟨.hbm, 22, rfl⟩
abbrev main_v10 : Ref sig .tc := ⟨.hbm, 23, rfl⟩
abbrev main_v11 : Ref sig .tc := ⟨.hbm, 24, rfl⟩
abbrev main_cst_1 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_4 : Ref sig .tc := ⟨.hbm, 37, rfl⟩
abbrev main_v21 : Ref sig .tc := ⟨.hbm, 38, rfl⟩
abbrev main_v22 : Ref sig .tc := ⟨.hbm, 39, rfl⟩
abbrev main_cst_5 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_6 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_7 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_8 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩

abbrev nD : Nat := 1
abbrev τ : Topo := Topo.v7x

variable {F : FTy → Type} [FloatOps F]
-- ==== Kernel36.lean ====
abbrev S1 : Shape := ⟨1, ![1]⟩
abbrev S2816x2048 : Shape := ⟨2, ![2816, 2048]⟩
abbrev S704x2048 : Shape := ⟨2, ![704, 2048]⟩
abbrev S64x2048 : Shape := ⟨2, ![64, 2048]⟩

abbrev nBuf : Space → Nat
  | .hbm => 13
  | .vmem => 18
  | .smem => 1
  | _ => 0

abbrev bufTy : (tb : Table) → Fin (tcTables nBuf tb) → BufTy
  | .hbm, ⟨0, _⟩ => ⟨S2816x2048, .f32⟩
  | .hbm, ⟨1, _⟩ => ⟨S2816x2048, .f32⟩
  | .hbm, ⟨2, _⟩ => ⟨S2816x2048, .f32⟩
  | .hbm, ⟨3, _⟩ => ⟨S704x2048, .f32⟩
  | .hbm, ⟨4, _⟩ => ⟨S704x2048, .f32⟩
  | .hbm, ⟨5, _⟩ => ⟨S2816x2048, .f32⟩
  | .hbm, ⟨6, _⟩ => ⟨S2816x2048, .f32⟩
  | .hbm, ⟨7, _⟩ => ⟨S2816x2048, .f32⟩
  | .hbm, ⟨8, _⟩ => ⟨S2816x2048, .f32⟩
  | .hbm, ⟨9, _⟩ => ⟨S2816x2048, .f32⟩
  | .hbm, ⟨10, _⟩ => ⟨S2816x2048, .f32⟩
  | .hbm, ⟨11, _⟩ => ⟨S2816x2048, .f32⟩
  | .hbm, ⟨12, _⟩ => ⟨S2816x2048, .f32⟩
  | .local _ .vmem, ⟨0, _⟩ => ⟨S64x2048, .f32⟩
  | .local _ .vmem, ⟨1, _⟩ => ⟨S64x2048, .f32⟩
  | .local _ .vmem, ⟨2, _⟩ => ⟨S64x2048, .f32⟩
  | .local _ .vmem, ⟨3, _⟩ => ⟨S64x2048, .f32⟩
  | .local _ .vmem, ⟨4, _⟩ => ⟨S64x2048, .f32⟩
  | .local _ .vmem, ⟨5, _⟩ => ⟨S64x2048, .f32⟩
  | .local _ .vmem, ⟨6, _⟩ => ⟨S64x2048, .f32⟩
  | .local _ .vmem, ⟨7, _⟩ => ⟨S64x2048, .f32⟩
  | .local _ .vmem, ⟨8, _⟩ => ⟨S64x2048, .f32⟩
  | .local _ .vmem, ⟨9, _⟩ => ⟨S64x2048, .f32⟩
  | .local _ .vmem, ⟨10, _⟩ => ⟨S64x2048, .f32⟩
  | .local _ .vmem, ⟨11, _⟩ => ⟨S64x2048, .f32⟩
  | .local _ .vmem, ⟨12, _⟩ => ⟨S64x2048, .f32⟩
  | .local _ .vmem, ⟨13, _⟩ => ⟨S64x2048, .f32⟩
  | .local _ .vmem, ⟨14, _⟩ => ⟨S64x2048, .f32⟩
  | .local _ .vmem, ⟨15, _⟩ => ⟨S64x2048, .f32⟩
  | .local _ .vmem, ⟨16, _⟩ => ⟨S64x2048, .f32⟩
  | .local _ .vmem, ⟨17, _⟩ => ⟨S64x2048, .f32⟩
  | .local _ .smem, ⟨0, _⟩ => ⟨S1, .i32⟩
  | _, _ => ⟨S2816x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_arg8 : Ref sig .tc := ⟨.hbm, 7, rfl⟩
abbrev main_arg9 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 11], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let c0_i32 : BitVec 32 := 0#32
  let v1 : BitVec 32 := Scalar.addi c0_i32 v0
  let v2 : BitVec 32 := Scalar.addi v1 arg1
  let c0_i32_0 : BitVec 32 := 0#32
  let c0_i32_1 : BitVec 32 := 0#32
  ![v2.toNat, c0_i32_0.toNat]

def cc0_transform_1 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let c0_i32 : BitVec 32 := 0#32
  let v1 : BitVec 32 := Scalar.addi c0_i32 v0
  let v2 : BitVec 32 := Scalar.addi v1 arg1
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let c0_i32 : BitVec 32 := 0#32
  let v1 : BitVec 32 := Scalar.addi c0_i32 v0
  let v2 : BitVec 32 := Scalar.addi v1 arg1
  let c0_i32_0 : BitVec 32 := 0#32
  let c0_i32_1 : BitVec 32 := 0#32
  ![v2.toNat, c0_i32_0.toNat]

def cc0_transform_3 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let v1 : BitVec 1 := Scalar.cmpi .eq arg0 v0
  let c0_i32 : BitVec 32 := 0#32
  let v2 : BitVec 32 := Scalar.select v1 arg1 c0_i32
  let c0_i32_0 : BitVec 32 := 0#32
  let c0_i32_1 : BitVec 32 := 0#32
  ![v2.toNat, c0_i32_0.toNat]

def cc0_transform_4 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let v1 : BitVec 1 := Scalar.cmpi .eq arg0 v0
  let c0_i32 : BitVec 32 := 0#32
  let v2 : BitVec 32 := Scalar.select v1 c0_i32 arg1
  let c0_i32_0 : BitVec 32 := 0#32
  let c0_i32_1 : BitVec 32 := 0#32
  ![v2.toNat, c0_i32_0.toNat]

def cc0_transform_9 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let c0_i32 : BitVec 32 := 0#32
  let v1 : BitVec 32 := Scalar.addi c0_i32 v0
  let v2 : BitVec 32 := Scalar.addi v1 arg1
  let c0_i32_0 : BitVec 32 := 0#32
  let c0_i32_1 : BitVec 32 := 0#32
  ![v2.toNat, c0_i32_0.toNat]

def cc0_transform_10 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let c0_i32 : BitVec 32 := 0#32
  let v1 : BitVec 32 := Scalar.addi c0_i32 v0
  let v2 : BitVec 32 := Scalar.addi v1 arg1
  let c0_i32_0 : BitVec 32 := 0#32
  let c0_i32_1 : BitVec 32 := 0#32
  ![v2.toNat, c0_i32_0.toNat]

def cc0_transform_11 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let c0_i32 : BitVec 32 := 0#32
  let v1 : BitVec 32 := Scalar.addi c0_i32 v0
  let v2 : BitVec 32 := Scalar.addi v1 arg1
  let c0_i32_0 : BitVec 32 := 0#32
  let c0_i32_1 : BitVec 32 := 0#32
  ![v2.toNat, c0_i32_0.toNat]

def cc0_transform_12 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let c0_i32 : BitVec 32 := 0#32
  let v1 : BitVec 32 := Scalar.addi c0_i32 v0
  let v2 : BitVec 32 := Scalar.addi v1 arg1
  let c0_i32_0 : BitVec 32 := 0#32
  let c0_i32_1 : BitVec 32 := 0#32
  ![v2.toNat, c0_i32_0.toNat]

abbrev stage0_0 : Fin 2 → Memref sig .tc .vmem S64x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S64x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S64x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S64x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S64x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S64x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S64x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S64x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S64x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference36Ideal.lean ====
abbrev S1 : Shape := ⟨1, ![1]⟩
abbrev S2816x2048 : Shape := ⟨2, ![2816, 2048]⟩
abbrev S704x2048 : Shape := ⟨2, ![704, 2048]⟩
abbrev S_ : Shape := ⟨0, ![]⟩
abbrev S1408x2048 : Shape := ⟨2, ![1408, 2048]⟩

abbrev nBuf : Space → Nat
  | .hbm => 63
  | .vmem => 0
  | .smem => 0
  | _ => 0

abbrev bufTy : (tb : Table) → Fin (tcTables nBuf tb) → BufTy
  | .hbm, ⟨0, _⟩ => ⟨S1, .i32⟩
  | .hbm, ⟨1, _⟩ => ⟨S2816x2048, .f32⟩
  | .hbm, ⟨2, _⟩ => ⟨S2816x2048, .f32⟩
  | .hbm, ⟨3, _⟩ => ⟨S2816x2048, .f32⟩
  | .hbm, ⟨4, _⟩ => ⟨S704x2048, .f32⟩
  | .hbm, ⟨5, _⟩ => ⟨S704x2048, .f32⟩
  | .hbm, ⟨6, _⟩ => ⟨S2816x2048, .f32⟩
  | .hbm, ⟨7, _⟩ => ⟨S2816x2048, .f32⟩
  | .hbm, ⟨8, _⟩ => ⟨S2816x2048, .f32⟩
  | .hbm, ⟨9, _⟩ => ⟨S2816x2048, .f32⟩
  | .hbm, ⟨10, _⟩ => ⟨S_, .i32⟩
  | .hbm, ⟨11, _⟩ => ⟨S_, .i32⟩
  | .hbm, ⟨12, _⟩ => ⟨S_, .i1⟩
  | .hbm, ⟨13, _⟩ => ⟨S704x2048, .f32⟩
  | .hbm, ⟨14, _⟩ => ⟨S_, .i32⟩
  | .hbm, ⟨15, _⟩ => ⟨S_, .i32⟩
  | .hbm, ⟨16, _⟩ => ⟨S_, .i1⟩
  | .hbm, ⟨17, _⟩ => ⟨S704x2048, .f32⟩
  | .hbm, ⟨18, _⟩ => ⟨S1408x2048, .f32⟩
  | .hbm, ⟨19, _⟩ => ⟨S1408x2048, .f32⟩
  | .hbm, ⟨20, _⟩ => ⟨S1408x2048, .f32⟩
  | .hbm, ⟨21, _⟩ => ⟨S1408x2048, .f32⟩
  | .hbm, ⟨22, _⟩ => ⟨S_, .f32⟩
  | .hbm, ⟨23, _⟩ => ⟨S1408x2048, .f32⟩
  | .hbm, ⟨24, _⟩ => ⟨S1408x2048, .f32⟩
  | .hbm, ⟨25, _⟩ => ⟨S_, .f32⟩
  | .hbm, ⟨26, _⟩ => ⟨S1408x2048, .f32⟩
  | .hbm, ⟨27, _⟩ => ⟨S1408x2048, .f32⟩
  | .hbm, ⟨28, _⟩ => ⟨S1408x2048, .f32⟩
  | .hbm, ⟨29, _⟩ => ⟨S_, .f32⟩
  | .hbm, ⟨30, _⟩ => ⟨S1408x2048, .f32⟩
  | .hbm, ⟨31, _⟩ => ⟨S1408x2048, .f32⟩
  | .hbm, ⟨32, _⟩ => ⟨S1408x2048, .f32⟩
  | .hbm, ⟨33, _⟩ => ⟨S_, .f32⟩
  | .hbm, ⟨34, _⟩ => ⟨S1408x2048, .f32⟩
  | .hbm, ⟨35, _⟩ => ⟨S1408x2048, .f32⟩
  | .hbm, ⟨36, _⟩ => ⟨S1408x2048, .f32⟩
  | .hbm, ⟨37, _⟩ => ⟨S_, .f32⟩
  | .hbm, ⟨38, _⟩ => ⟨S1408x2048, .f32⟩
  | .hbm, ⟨39, _⟩ => ⟨S1408x2048, .f32⟩
  | .hbm, ⟨40, _⟩ => ⟨S_, .f32⟩
  | .hbm, ⟨41, _⟩ => ⟨S1408x2048, .f32⟩
  | .hbm, ⟨42, _⟩ => ⟨S1408x2048, .f32⟩
  | .hbm, ⟨43, _⟩ => ⟨S1408x2048, .f32⟩
  | .hbm, ⟨44, _⟩ => ⟨S_, .f32⟩
  | .hbm, ⟨45, _⟩ => ⟨S1408x2048, .f32⟩
  | .hbm, ⟨46, _⟩ => ⟨S1408x2048, .f32⟩
  | .hbm, ⟨47, _⟩ => ⟨S1408x2048, .f32⟩
  | .hbm, ⟨48, _⟩ => ⟨S_, .f32⟩
  | .hbm, ⟨49, _⟩ => ⟨S1408x2048, .f32⟩
  | .hbm, ⟨50, _⟩ => ⟨S1408x2048, .f32⟩
  | .hbm, ⟨51, _⟩ => ⟨S1408x2048, .f32⟩
  | .hbm, ⟨52, _⟩ => ⟨S_, .f32⟩
  | .hbm, ⟨53, _⟩ => ⟨S1408x2048, .f32⟩
  | .hbm, ⟨54, _⟩ => ⟨S1408x2048, .f32⟩
  | .hbm, ⟨55, _⟩ => ⟨S1408x2048, .f32⟩
  | .hbm, ⟨56, _⟩ => ⟨S2816x2048, .f32⟩
  | .hbm, ⟨57, _⟩ => ⟨S1408x2048, .f32⟩
  | .hbm, ⟨58, _⟩ => ⟨S2816x2048, .f32⟩
  | .hbm, ⟨59, _⟩ => ⟨S1408x2048, .f32⟩
  | .hbm, ⟨60, _⟩ => ⟨S2816x2048, .f32⟩
  | .hbm, ⟨61, _⟩ => ⟨S1408x2048, .f32⟩
  | .hbm, ⟨62, _⟩ => ⟨S2816x2048, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_c : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c_0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst : Ref sig .tc := ⟨.hbm, 22, rfl⟩
abbrev main_v10 : Ref sig .tc := ⟨.hbm, 23, rfl⟩
abbrev main_v11 : Ref sig .tc := ⟨.hbm, 24, rfl⟩
abbrev main_cst_1 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_4 : Ref sig .tc := ⟨.hbm, 37, rfl⟩
abbrev main_v21 : Ref sig .tc := ⟨.hbm, 38, rfl⟩
abbrev main_v22 : Ref sig .tc := ⟨.hbm, 39, rfl⟩
abbrev main_cst_5 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_6 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_7 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_8 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩

abbrev nD : Nat := 1
abbrev τ : Topo := Topo.v7x

variable {F : FTy → Type} [FloatOps F]
-- ==== Kernel37.lean ====
abbrev S1 : Shape := ⟨1, ![1]⟩
abbrev S4096x2816 : Shape := ⟨2, ![4096, 2816]⟩
abbrev S1024x2816 : Shape := ⟨2, ![1024, 2816]⟩
abbrev S128x2816 : Shape := ⟨2, ![128, 2816]⟩
abbrev S2048x2816 : Shape := ⟨2, ![2048, 2816]⟩

abbrev nBuf : Space → Nat
  | .hbm => 13
  | .vmem => 18
  | .smem => 1
  | _ => 0

abbrev bufTy : (tb : Table) → Fin (tcTables nBuf tb) → BufTy
  | .hbm, ⟨0, _⟩ => ⟨S4096x2816, .f32⟩
  | .hbm, ⟨1, _⟩ => ⟨S4096x2816, .f32⟩
  | .hbm, ⟨2, _⟩ => ⟨S4096x2816, .f32⟩
  | .hbm, ⟨3, _⟩ => ⟨S1024x2816, .f32⟩
  | .hbm, ⟨4, _⟩ => ⟨S1024x2816, .f32⟩
  | .hbm, ⟨5, _⟩ => ⟨S4096x2816, .f32⟩
  | .hbm, ⟨6, _⟩ => ⟨S4096x2816, .f32⟩
  | .hbm, ⟨7, _⟩ => ⟨S4096x2816, .f32⟩
  | .hbm, ⟨8, _⟩ => ⟨S4096x2816, .f32⟩
  | .hbm, ⟨9, _⟩ => ⟨S2048x2816, .f32⟩
  | .hbm, ⟨10, _⟩ => ⟨S2048x2816, .f32⟩
  | .hbm, ⟨11, _⟩ => ⟨S2048x2816, .f32⟩
  | .hbm, ⟨12, _⟩ => ⟨S2048x2816, .f32⟩
  | .local _ .vmem, ⟨0, _⟩ => ⟨S128x2816, .f32⟩
  | .local _ .vmem, ⟨1, _⟩ => ⟨S128x2816, .f32⟩
  | .local _ .vmem, ⟨2, _⟩ => ⟨S128x2816, .f32⟩
  | .local _ .vmem, ⟨3, _⟩ => ⟨S128x2816, .f32⟩
  | .local _ .vmem, ⟨4, _⟩ => ⟨S128x2816, .f32⟩
  | .local _ .vmem, ⟨5, _⟩ => ⟨S128x2816, .f32⟩
  | .local _ .vmem, ⟨6, _⟩ => ⟨S128x2816, .f32⟩
  | .local _ .vmem, ⟨7, _⟩ => ⟨S128x2816, .f32⟩
  | .local _ .vmem, ⟨8, _⟩ => ⟨S128x2816, .f32⟩
  | .local _ .vmem, ⟨9, _⟩ => ⟨S128x2816, .f32⟩
  | .local _ .vmem, ⟨10, _⟩ => ⟨S128x2816, .f32⟩
  | .local _ .vmem, ⟨11, _⟩ => ⟨S128x2816, .f32⟩
  | .local _ .vmem, ⟨12, _⟩ => ⟨S128x2816, .f32⟩
  | .local _ .vmem, ⟨13, _⟩ => ⟨S128x2816, .f32⟩
  | .local _ .vmem, ⟨14, _⟩ => ⟨S128x2816, .f32⟩
  | .local _ .vmem, ⟨15, _⟩ => ⟨S128x2816, .f32⟩
  | .local _ .vmem, ⟨16, _⟩ => ⟨S128x2816, .f32⟩
  | .local _ .vmem, ⟨17, _⟩ => ⟨S128x2816, .f32⟩
  | .local _ .smem, ⟨0, _⟩ => ⟨S1, .i32⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 8], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c16_i32 : BitVec 32 := 16#32
  let v1 : BitVec 32 := Scalar.addi c16_i32 v0
  let v2 : BitVec 32 := Scalar.addi v1 arg1
  let c0_i32 : BitVec 32 := 0#32
  let c0_i32_0 : BitVec 32 := 0#32
  ![v2.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c16_i32 : BitVec 32 := 16#32
  let v1 : BitVec 32 := Scalar.addi c16_i32 v0
  let v2 : BitVec 32 := Scalar.addi v1 arg1
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c16_i32 : BitVec 32 := 16#32
  let v1 : BitVec 32 := Scalar.addi c16_i32 v0
  let v2 : BitVec 32 := Scalar.addi v1 arg1
  let c0_i32 : BitVec 32 := 0#32
  let c0_i32_0 : BitVec 32 := 0#32
  ![v2.toNat, c0_i32.toNat]

def cc0_transform_3 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let v1 : BitVec 1 := Scalar.cmpi .eq arg0 v0
  let c0_i32 : BitVec 32 := 0#32
  let v2 : BitVec 32 := Scalar.select v1 arg1 c0_i32
  let c0_i32_0 : BitVec 32 := 0#32
  let c0_i32_1 : BitVec 32 := 0#32
  ![v2.toNat, c0_i32_0.toNat]

def cc0_transform_4 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let v1 : BitVec 1 := Scalar.cmpi .eq arg0 v0
  let c0_i32 : BitVec 32 := 0#32
  let v2 : BitVec 32 := Scalar.select v1 c0_i32 arg1
  let c0_i32_0 : BitVec 32 := 0#32
  let c0_i32_1 : BitVec 32 := 0#32
  ![v2.toNat, c0_i32_0.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c16_i32 : BitVec 32 := 16#32
  let v1 : BitVec 32 := Scalar.addi c16_i32 v0
  let v2 : BitVec 32 := Scalar.addi v1 arg1
  let c0_i32 : BitVec 32 := 0#32
  let c0_i32_0 : BitVec 32 := 0#32
  ![v2.toNat, c0_i32.toNat]

def cc0_transform_6 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c16_i32 : BitVec 32 := 16#32
  let v1 : BitVec 32 := Scalar.addi c16_i32 v0
  let v2 : BitVec 32 := Scalar.addi v1 arg1
  let c0_i32 : BitVec 32 := 0#32
  let c0_i32_0 : BitVec 32 := 0#32
  ![v2.toNat, c0_i32.toNat]

def cc0_transform_7 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c16_i32 : BitVec 32 := 16#32
  let v1 : BitVec 32 := Scalar.addi c16_i32 v0
  let v2 : BitVec 32 := Scalar.addi v1 arg1
  let c0_i32 : BitVec 32 := 0#32
  let c0_i32_0 : BitVec 32 := 0#32
  ![v2.toNat, c0_i32.toNat]

def cc0_transform_8 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c16_i32 : BitVec 32 := 16#32
  let v1 : BitVec 32 := Scalar.addi c16_i32 v0
  let v2 : BitVec 32 := Scalar.addi v1 arg1
  let c0_i32 : BitVec 32 := 0#32
  let c0_i32_0 : BitVec 32 := 0#32
  ![v2.toNat, c0_i32.toNat]

abbrev stage0_0 : Fin 2 → Memref sig .tc .vmem S128x2816 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x2816 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x2816 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x2816 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x2816 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x2816 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x2816 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S128x2816 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference37Ideal.lean ====
abbrev S1 : Shape := ⟨1, ![1]⟩
abbrev S4096x2816 : Shape := ⟨2, ![4096, 2816]⟩
abbrev S1024x2816 : Shape := ⟨2, ![1024, 2816]⟩
abbrev S_ : Shape := ⟨0, ![]⟩
abbrev S2048x2816 : Shape := ⟨2, ![2048, 2816]⟩

abbrev nBuf : Space → Nat
  | .hbm => 51
  | .vmem => 0
  | .smem => 0
  | _ => 0

abbrev bufTy : (tb : Table) → Fin (tcTables nBuf tb) → BufTy
  | .hbm, ⟨0, _⟩ => ⟨S1, .i32⟩
  | .hbm, ⟨1, _⟩ => ⟨S4096x2816, .f32⟩
  | .hbm, ⟨2, _⟩ => ⟨S4096x2816, .f32⟩
  | .hbm, ⟨3, _⟩ => ⟨S4096x2816, .f32⟩
  | .hbm, ⟨4, _⟩ => ⟨S1024x2816, .f32⟩
  | .hbm, ⟨5, _⟩ => ⟨S1024x2816, .f32⟩
  | .hbm, ⟨6, _⟩ => ⟨S_, .i32⟩
  | .hbm, ⟨7, _⟩ => ⟨S_, .i32⟩
  | .hbm, ⟨8, _⟩ => ⟨S_, .i1⟩
  | .hbm, ⟨9, _⟩ => ⟨S1024x2816, .f32⟩
  | .hbm, ⟨10, _⟩ => ⟨S_, .i32⟩
  | .hbm, ⟨11, _⟩ => ⟨S_, .i32⟩
  | .hbm, ⟨12, _⟩ => ⟨S_, .i1⟩
  | .hbm, ⟨13, _⟩ => ⟨S1024x2816, .f32⟩
  | .hbm, ⟨14, _⟩ => ⟨S2048x2816, .f32⟩
  | .hbm, ⟨15, _⟩ => ⟨S2048x2816, .f32⟩
  | .hbm, ⟨16, _⟩ => ⟨S2048x2816, .f32⟩
  | .hbm, ⟨17, _⟩ => ⟨S2048x2816, .f32⟩
  | .hbm, ⟨18, _⟩ => ⟨S_, .f32⟩
  | .hbm, ⟨19, _⟩ => ⟨S2048x2816, .f32⟩
  | .hbm, ⟨20, _⟩ => ⟨S2048x2816, .f32⟩
  | .hbm, ⟨21, _⟩ => ⟨S_, .f32⟩
  | .hbm, ⟨22, _⟩ => ⟨S2048x2816, .f32⟩
  | .hbm, ⟨23, _⟩ => ⟨S2048x2816, .f32⟩
  | .hbm, ⟨24, _⟩ => ⟨S2048x2816, .f32⟩
  | .hbm, ⟨25, _⟩ => ⟨S_, .f32⟩
  | .hbm, ⟨26, _⟩ => ⟨S2048x2816, .f32⟩
  | .hbm, ⟨27, _⟩ => ⟨S2048x2816, .f32⟩
  | .hbm, ⟨28, _⟩ => ⟨S2048x2816, .f32⟩
  | .hbm, ⟨29, _⟩ => ⟨S_, .f32⟩
  | .hbm, ⟨30, _⟩ => ⟨S2048x2816, .f32⟩
  | .hbm, ⟨31, _⟩ => ⟨S2048x2816, .f32⟩
  | .hbm, ⟨32, _⟩ => ⟨S2048x2816, .f32⟩
  | .hbm, ⟨33, _⟩ => ⟨S_, .f32⟩
  | .hbm, ⟨34, _⟩ => ⟨S2048x2816, .f32⟩
  | .hbm, ⟨35, _⟩ => ⟨S2048x2816, .f32⟩
  | .hbm, ⟨36, _⟩ => ⟨S_, .f32⟩
  | .hbm, ⟨37, _⟩ => ⟨S2048x2816, .f32⟩
  | .hbm, ⟨38, _⟩ => ⟨S2048x2816, .f32⟩
  | .hbm, ⟨39, _⟩ => ⟨S2048x2816, .f32⟩
  | .hbm, ⟨40, _⟩ => ⟨S_, .f32⟩
  | .hbm, ⟨41, _⟩ => ⟨S2048x2816, .f32⟩
  | .hbm, ⟨42, _⟩ => ⟨S2048x2816, .f32⟩
  | .hbm, ⟨43, _⟩ => ⟨S2048x2816, .f32⟩
  | .hbm, ⟨44, _⟩ => ⟨S_, .f32⟩
  | .hbm, ⟨45, _⟩ => ⟨S2048x2816, .f32⟩
  | .hbm, ⟨46, _⟩ => ⟨S2048x2816, .f32⟩
  | .hbm, ⟨47, _⟩ => ⟨S2048x2816, .f32⟩
  | .hbm, ⟨48, _⟩ => ⟨S_, .f32⟩
  | .hbm, ⟨49, _⟩ => ⟨S2048x2816, .f32⟩
  | .hbm, ⟨50, _⟩ => ⟨S2048x2816, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_4 : Ref sig .tc := ⟨.hbm, 33, rfl⟩
abbrev main_v21 : Ref sig .tc := ⟨.hbm, 34, rfl⟩
abbrev main_v22 : Ref sig .tc := ⟨.hbm, 35, rfl⟩
abbrev main_cst_5 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_6 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_7 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_8 : Ref sig .tc := ⟨.hbm, 48, rfl⟩
abbrev main_v32 : Ref sig .tc := ⟨.hbm, 49, rfl⟩
abbrev main_v33 : Ref sig .tc := ⟨.hbm, 50, rfl⟩

abbrev nD : Nat := 1
abbrev τ : Topo := Topo.v7x

variable {F : FTy → Type} [FloatOps F]
-- ==== Kernel38.lean ====
abbrev S1 : Shape := ⟨1, ![1]⟩
abbrev S2816x2048 : Shape := ⟨2, ![2816, 2048]⟩
abbrev S704x2048 : Shape := ⟨2, ![704, 2048]⟩
abbrev S64x2048 : Shape := ⟨2, ![64, 2048]⟩
abbrev S1408x2048 : Shape := ⟨2, ![1408, 2048]⟩

abbrev nBuf : Space → Nat
  | .hbm => 13
  | .vmem => 18
  | .smem => 1
  | _ => 0

abbrev bufTy : (tb : Table) → Fin (tcTables nBuf tb) → BufTy
  | .hbm, ⟨0, _⟩ => ⟨S2816x2048, .f32⟩
  | .hbm, ⟨1, _⟩ => ⟨S2816x2048, .f32⟩
  | .hbm, ⟨2, _⟩ => ⟨S2816x2048, .f32⟩
  | .hbm, ⟨3, _⟩ => ⟨S704x2048, .f32⟩
  | .hbm, ⟨4, _⟩ => ⟨S704x2048, .f32⟩
  | .hbm, ⟨5, _⟩ => ⟨S2816x2048, .f32⟩
  | .hbm, ⟨6, _⟩ => ⟨S2816x2048, .f32⟩
  | .hbm, ⟨7, _⟩ => ⟨S2816x2048, .f32⟩
  | .hbm, ⟨8, _⟩ => ⟨S2816x2048, .f32⟩
  | .hbm, ⟨9, _⟩ => ⟨S1408x2048, .f32⟩
  | .hbm, ⟨10, _⟩ => ⟨S1408x2048, .f32⟩
  | .hbm, ⟨11, _⟩ => ⟨S1408x2048, .f32⟩
  | .hbm, ⟨12, _⟩ => ⟨S1408x2048, .f32⟩
  | .local _ .vmem, ⟨0, _⟩ => ⟨S64x2048, .f32⟩
  | .local _ .vmem, ⟨1, _⟩ => ⟨S64x2048, .f32⟩
  | .local _ .vmem, ⟨2, _⟩ => ⟨S64x2048, .f32⟩
  | .local _ .vmem, ⟨3, _⟩ => ⟨S64x2048, .f32⟩
  | .local _ .vmem, ⟨4, _⟩ => ⟨S64x2048, .f32⟩
  | .local _ .vmem, ⟨5, _⟩ => ⟨S64x2048, .f32⟩
  | .local _ .vmem, ⟨6, _⟩ => ⟨S64x2048, .f32⟩
  | .local _ .vmem, ⟨7, _⟩ => ⟨S64x2048, .f32⟩
  | .local _ .vmem, ⟨8, _⟩ => ⟨S64x2048, .f32⟩
  | .local _ .vmem, ⟨9, _⟩ => ⟨S64x2048, .f32⟩
  | .local _ .vmem, ⟨10, _⟩ => ⟨S64x2048, .f32⟩
  | .local _ .vmem, ⟨11, _⟩ => ⟨S64x2048, .f32⟩
  | .local _ .vmem, ⟨12, _⟩ => ⟨S64x2048, .f32⟩
  | .local _ .vmem, ⟨13, _⟩ => ⟨S64x2048, .f32⟩
  | .local _ .vmem, ⟨14, _⟩ => ⟨S64x2048, .f32⟩
  | .local _ .vmem, ⟨15, _⟩ => ⟨S64x2048, .f32⟩
  | .local _ .vmem, ⟨16, _⟩ => ⟨S64x2048, .f32⟩
  | .local _ .vmem, ⟨17, _⟩ => ⟨S64x2048, .f32⟩
  | .local _ .smem, ⟨0, _⟩ => ⟨S1, .i32⟩
  | _, _ => ⟨S2816x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 11], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let c22_i32 : BitVec 32 := 22#32
  let v1 : BitVec 32 := Scalar.addi c22_i32 v0
  let v2 : BitVec 32 := Scalar.addi v1 arg1
  let c0_i32 : BitVec 32 := 0#32
  let c0_i32_0 : BitVec 32 := 0#32
  ![v2.toNat, c0_i32.toNat]

def cc0_transform_1 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let c22_i32 : BitVec 32 := 22#32
  let v1 : BitVec 32 := Scalar.addi c22_i32 v0
  let v2 : BitVec 32 := Scalar.addi v1 arg1
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let c22_i32 : BitVec 32 := 22#32
  let v1 : BitVec 32 := Scalar.addi c22_i32 v0
  let v2 : BitVec 32 := Scalar.addi v1 arg1
  let c0_i32 : BitVec 32 := 0#32
  let c0_i32_0 : BitVec 32 := 0#32
  ![v2.toNat, c0_i32.toNat]

def cc0_transform_3 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let v1 : BitVec 1 := Scalar.cmpi .eq arg0 v0
  let c0_i32 : BitVec 32 := 0#32
  let v2 : BitVec 32 := Scalar.select v1 arg1 c0_i32
  let c0_i32_0 : BitVec 32 := 0#32
  let c0_i32_1 : BitVec 32 := 0#32
  ![v2.toNat, c0_i32_0.toNat]

def cc0_transform_4 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let v1 : BitVec 1 := Scalar.cmpi .eq arg0 v0
  let c0_i32 : BitVec 32 := 0#32
  let v2 : BitVec 32 := Scalar.select v1 c0_i32 arg1
  let c0_i32_0 : BitVec 32 := 0#32
  let c0_i32_1 : BitVec 32 := 0#32
  ![v2.toNat, c0_i32_0.toNat]

def cc0_transform_5 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let c22_i32 : BitVec 32 := 22#32
  let v1 : BitVec 32 := Scalar.addi c22_i32 v0
  let v2 : BitVec 32 := Scalar.addi v1 arg1
  let c0_i32 : BitVec 32 := 0#32
  let c0_i32_0 : BitVec 32 := 0#32
  ![v2.toNat, c0_i32.toNat]

def cc0_transform_6 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let c22_i32 : BitVec 32 := 22#32
  let v1 : BitVec 32 := Scalar.addi c22_i32 v0
  let v2 : BitVec 32 := Scalar.addi v1 arg1
  let c0_i32 : BitVec 32 := 0#32
  let c0_i32_0 : BitVec 32 := 0#32
  ![v2.toNat, c0_i32.toNat]

def cc0_transform_7 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let c22_i32 : BitVec 32 := 22#32
  let v1 : BitVec 32 := Scalar.addi c22_i32 v0
  let v2 : BitVec 32 := Scalar.addi v1 arg1
  let c0_i32 : BitVec 32 := 0#32
  let c0_i32_0 : BitVec 32 := 0#32
  ![v2.toNat, c0_i32.toNat]

def cc0_transform_8 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let c22_i32 : BitVec 32 := 22#32
  let v1 : BitVec 32 := Scalar.addi c22_i32 v0
  let v2 : BitVec 32 := Scalar.addi v1 arg1
  let c0_i32 : BitVec 32 := 0#32
  let c0_i32_0 : BitVec 32 := 0#32
  ![v2.toNat, c0_i32.toNat]

abbrev stage0_0 : Fin 2 → Memref sig .tc .vmem S64x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S64x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S64x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S64x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S64x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S64x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S64x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S64x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S64x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference38Ideal.lean ====
abbrev S1 : Shape := ⟨1, ![1]⟩
abbrev S2816x2048 : Shape := ⟨2, ![2816, 2048]⟩
abbrev S704x2048 : Shape := ⟨2, ![704, 2048]⟩
abbrev S_ : Shape := ⟨0, ![]⟩
abbrev S1408x2048 : Shape := ⟨2, ![1408, 2048]⟩

abbrev nBuf : Space → Nat
  | .hbm => 51
  | .vmem => 0
  | .smem => 0
  | _ => 0

abbrev bufTy : (tb : Table) → Fin (tcTables nBuf tb) → BufTy
  | .hbm, ⟨0, _⟩ => ⟨S1, .i32⟩
  | .hbm, ⟨1, _⟩ => ⟨S2816x2048, .f32⟩
  | .hbm, ⟨2, _⟩ => ⟨S2816x2048, .f32⟩
  | .hbm, ⟨3, _⟩ => ⟨S2816x2048, .f32⟩
  | .hbm, ⟨4, _⟩ => ⟨S704x2048, .f32⟩
  | .hbm, ⟨5, _⟩ => ⟨S704x2048, .f32⟩
  | .hbm, ⟨6, _⟩ => ⟨S_, .i32⟩
  | .hbm, ⟨7, _⟩ => ⟨S_, .i32⟩
  | .hbm, ⟨8, _⟩ => ⟨S_, .i1⟩
  | .hbm, ⟨9, _⟩ => ⟨S704x2048, .f32⟩
  | .hbm, ⟨10, _⟩ => ⟨S_, .i32⟩
  | .hbm, ⟨11, _⟩ => ⟨S_, .i32⟩
  | .hbm, ⟨12, _⟩ => ⟨S_, .i1⟩
  | .hbm, ⟨13, _⟩ => ⟨S704x2048, .f32⟩
  | .hbm, ⟨14, _⟩ => ⟨S1408x2048, .f32⟩
  | .hbm, ⟨15, _⟩ => ⟨S1408x2048, .f32⟩
  | .hbm, ⟨16, _⟩ => ⟨S1408x2048, .f32⟩
  | .hbm, ⟨17, _⟩ => ⟨S1408x2048, .f32⟩
  | .hbm, ⟨18, _⟩ => ⟨S_, .f32⟩
  | .hbm, ⟨19, _⟩ => ⟨S1408x2048, .f32⟩
  | .hbm, ⟨20, _⟩ => ⟨S1408x2048, .f32⟩
  | .hbm, ⟨21, _⟩ => ⟨S_, .f32⟩
  | .hbm, ⟨22, _⟩ => ⟨S1408x2048, .f32⟩
  | .hbm, ⟨23, _⟩ => ⟨S1408x2048, .f32⟩
  | .hbm, ⟨24, _⟩ => ⟨S1408x2048, .f32⟩
  | .hbm, ⟨25, _⟩ => ⟨S_, .f32⟩
  | .hbm, ⟨26, _⟩ => ⟨S1408x2048, .f32⟩
  | .hbm, ⟨27, _⟩ => ⟨S1408x2048, .f32⟩
  | .hbm, ⟨28, _⟩ => ⟨S1408x2048, .f32⟩
  | .hbm, ⟨29, _⟩ => ⟨S_, .f32⟩
  | .hbm, ⟨30, _⟩ => ⟨S1408x2048, .f32⟩
  | .hbm, ⟨31, _⟩ => ⟨S1408x2048, .f32⟩
  | .hbm, ⟨32, _⟩ => ⟨S1408x2048, .f32⟩
  | .hbm, ⟨33, _⟩ => ⟨S_, .f32⟩
  | .hbm, ⟨34, _⟩ => ⟨S1408x2048, .f32⟩
  | .hbm, ⟨35, _⟩ => ⟨S1408x2048, .f32⟩
  | .hbm, ⟨36, _⟩ => ⟨S_, .f32⟩
  | .hbm, ⟨37, _⟩ => ⟨S1408x2048, .f32⟩
  | .hbm, ⟨38, _⟩ => ⟨S1408x2048, .f32⟩
  | .hbm, ⟨39, _⟩ => ⟨S1408x2048, .f32⟩
  | .hbm, ⟨40, _⟩ => ⟨S_, .f32⟩
  | .hbm, ⟨41, _⟩ => ⟨S1408x2048, .f32⟩
  | .hbm, ⟨42, _⟩ => ⟨S1408x2048, .f32⟩
  | .hbm, ⟨43, _⟩ => ⟨S1408x2048, .f32⟩
  | .hbm, ⟨44, _⟩ => ⟨S_, .f32⟩
  | .hbm, ⟨45, _⟩ => ⟨S1408x2048, .f32⟩
  | .hbm, ⟨46, _⟩ => ⟨S1408x2048, .f32⟩
  | .hbm, ⟨47, _⟩ => ⟨S1408x2048, .f32⟩
  | .hbm, ⟨48, _⟩ => ⟨S_, .f32⟩
  | .hbm, ⟨49, _⟩ => ⟨S1408x2048, .f32⟩
  | .hbm, ⟨50, _⟩ => ⟨S1408x2048, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_4 : Ref sig .tc := ⟨.hbm, 33, rfl⟩
abbrev main_v21 : Ref sig .tc := ⟨.hbm, 34, rfl⟩
abbrev main_v22 : Ref sig .tc := ⟨.hbm, 35, rfl⟩
abbrev main_cst_5 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_6 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_7 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_8 : Ref sig .tc := ⟨.hbm, 48, rfl⟩
abbrev main_v32 : Ref sig .tc := ⟨.hbm, 49, rfl⟩
abbrev main_v33 : Ref sig .tc := ⟨.hbm, 50, rfl⟩

abbrev nD : Nat := 1
abbrev τ : Topo := Topo.v7x

variable {F : FTy → Type} [FloatOps F]
-- ==== Proof.Chunk.lean ====
/- What the kernel computes of one chunk of 128 positions, as functions of the chunk's own arrays: the gates, the running
   sum of the log decays, the scores inside the chunk level by level, the output and the state handed on (the recurrence),
   and the gradients and the state cotangent handed back (its gradient). The next modules show that the loops' trips are
   these functions and what each of them holds at an index. -/
module

public import proofs.«01_k».proof.Proof.Gen.KernelIdeal.Frame

@[expose] public section

noncomputable section

namespace Cert.KernelIdeal.Hgrn

open Idealize.ShloMosaic Cert.KernelIdeal Cert.KernelIdeal.Gen Cert.KernelIdeal.Facts

variable {F : FTy → Type} [FloatOps F]

/-- A chunk of one head: 128 positions by 128 channels. -/
abbrev Mat (F : FTy → Type) := FVec F S128x128 .f32
/-- A chunk in the products' format. -/
abbrev Mat16 (F : FTy → Type) := FVec F S128x128 .bf16
/-- One row of 128 channels. -/
abbrev Row (F : FTy → Type) := FVec F S1x128 .f32
/-- Positions or channels as integers. -/
abbrev IMat := IVec S128x128 32

/-- Zero everywhere. -/
def zeroM : Mat F := broadcast S128x128 (Scalar.ofBits .f32 0x00000000#32)
/-- One everywhere. -/
def oneM : Mat F := broadcast S128x128 (Scalar.ofBits .f32 0x3F800000#32)
/-- A product starts from zero. -/
def accM : Mat F := constant S128x128 .f32 0x00000000#32
/-- A row repeated down the chunk. -/
def rows (x : Row F) : Mat F := broadcastTo S128x128 x broadcasts_S1x128_S128x128
/-- To the products' format. -/
def lo (x : Mat F) : Mat16 F := truncf .bf16 x bitsLt_bf16_f32
/-- Back from the products' format. -/
def hi (x : Mat16 F) : Mat F := extf .f32 x bitsLt_bf16_f32
/-- `x · yᵀ`. -/
def mulNT (x y : Mat16 F) : Mat F := matmul dot_S128x128_S128x128_S128x128_1_1_0_0_n_n none x y accM
/-- `x · y`. -/
def mulNN (x y : Mat16 F) : Mat F := matmul dot_S128x128_S128x128_S128x128_1_0_0_1_n_n none x y accM
/-- `xᵀ · y`. -/
def mulTN (x y : Mat16 F) : Mat F := matmul dot_S128x128_S128x128_S128x128_0_0_1_1_n_n none x y accM

/-! ## The gates -/

/-- The logistic function. -/
def sigm (x : Mat F) : Mat F := divf oneM (addf oneM (exp (subf zeroM x)))
/-- One less the lower bound. -/
def lbc (lb : Row F) : Row F := subf (broadcast S1x128 (Scalar.ofBits .f32 0x3F800000#32)) lb
/-- The forget gate. -/
def gateF (lb : Row F) (fr : Mat F) : Mat F := addf (rows lb) (mulf (rows (lbc lb)) (sigm fr))
/-- The query: `silu` and the scale. -/
def gateQ (qr : Mat F) : Mat F := mulf (mulf qr (sigm qr)) (broadcast S128x128 (Scalar.ofBits .f32 0x3DB504F3#32))
/-- The key, tied to the forget gate. -/
def gateK (f : Mat F) : Mat F := subf oneM f

/-! ## The running sum of the log decays and its exponentials -/

/-- Add the row `d` positions above, where there is one. -/
def upBy (row : IMat) (d : BitVec 32) (b : Mat F) : Mat F :=
  addf b (select (cmpi .sge row (broadcast S128x128 d)) (dynamicRotate 0 d none b rotates_S128x128_d0) zeroM)
/-- The running sum down the chunk, by doubling. -/
def decay (row : IMat) (g : Mat F) : Mat F :=
  upBy row 64#32 (upBy row 32#32 (upBy row 16#32 (upBy row 8#32 (upBy row 4#32 (upBy row 2#32 (upBy row 1#32 g))))))
/-- Add the row `128 - d` positions below, where there is one. -/
def downBy (row : IMat) (d : BitVec 32) (b : Mat F) : Mat F :=
  addf b (select (cmpi .slt row (broadcast S128x128 d)) (dynamicRotate 0 d none b rotates_S128x128_d0) zeroM)
/-- The running sum up the chunk, by doubling. -/
def suffix (row : IMat) (g : Mat F) : Mat F :=
  downBy row 64#32 (downBy row 96#32 (downBy row 112#32 (downBy row 120#32 (downBy row 124#32 (downBy row 126#32 (downBy row 127#32 g))))))
/-- The positions with bit `g` set. -/
def bitSet (row : IMat) (g : BitVec 32) : IVec S128x128 1 := cmpi .ne (andi row (broadcast S128x128 g)) (broadcast S128x128 0#32)

/-- In every block of 128 positions, the row 63 of the block, repeated. -/
def mid64 (b : Mat F) : Mat F :=
  shapeCast S128x128 (broadcastTo S1x128x128 (shapeCast S1x1x128 (extractStridedSlice S1x1x128 ![0, 63, 0]
    (shapeCast S1x128x128 b shapeCasts_S128x128_S1x128x128) slices_S1x128x128_o0_63_0_S1x1x128) shapeCasts_S1x1x128_S1x1x128)
    broadcasts_S1x1x128_S1x128x128) shapeCasts_S1x128x128_S128x128
/-- In every block of 64 positions, the row 31 of the block, repeated. -/
def mid32 (b : Mat F) : Mat F :=
  shapeCast S128x128 (broadcastTo S2x64x128 (shapeCast S2x1x128 (extractStridedSlice S2x1x128 ![0, 31, 0]
    (shapeCast S2x64x128 b shapeCasts_S128x128_S2x64x128) slices_S2x64x128_o0_31_0_S2x1x128) shapeCasts_S2x1x128_S2x1x128)
    broadcasts_S2x1x128_S2x64x128) shapeCasts_S2x64x128_S128x128
/-- In every block of 32 positions, the row 15 of the block, repeated. -/
def mid16 (b : Mat F) : Mat F :=
  shapeCast S128x128 (broadcastTo S4x32x128 (shapeCast S4x1x128 (extractStridedSlice S4x1x128 ![0, 15, 0]
    (shapeCast S4x32x128 b shapeCasts_S128x128_S4x32x128) slices_S4x32x128_o0_15_0_S4x1x128) shapeCasts_S4x1x128_S4x1x128)
    broadcasts_S4x1x128_S4x32x128) shapeCasts_S4x32x128_S128x128
/-- In every block of 16 positions, the row 7 of the block, repeated. -/
def mid8 (b : Mat F) : Mat F :=
  shapeCast S128x128 (broadcastTo S8x16x128 (shapeCast S8x1x128 (extractStridedSlice S8x1x128 ![0, 7, 0]
    (shapeCast S8x16x128 b shapeCasts_S128x128_S8x16x128) slices_S8x16x128_o0_7_0_S8x1x128) shapeCasts_S8x1x128_S8x1x128)
    broadcasts_S8x1x128_S8x16x128) shapeCasts_S8x16x128_S128x128
/-- In every block of 8 positions, the row 3 of the block, repeated. -/
def mid4 (b : Mat F) : Mat F :=
  shapeCast S128x128 (broadcastTo S16x8x128 (shapeCast S16x1x128 (extractStridedSlice S16x1x128 ![0, 3, 0]
    (shapeCast S16x8x128 b shapeCasts_S128x128_S16x8x128) slices_S16x8x128_o0_3_0_S16x1x128) shapeCasts_S16x1x128_S16x1x128)
    broadcasts_S16x1x128_S16x8x128) shapeCasts_S16x8x128_S128x128
/-- In every block of 8 positions, the row `o` of the block, repeated. -/
def midLow (b : Mat F) : Mat F :=
  shapeCast S128x128 (broadcastTo S16x8x128 (shapeCast S16x1x128 (extractStridedSlice S16x1x128 ![0, 1, 0]
    (shapeCast S16x8x128 b shapeCasts_S128x128_S16x8x128) slices_S16x8x128_o0_1_0_S16x1x128) shapeCasts_S16x1x128_S16x1x128)
    broadcasts_S16x1x128_S16x8x128) shapeCasts_S16x8x128_S128x128
/-- In every block of 8 positions, the row 5 of the block, repeated. -/
def midHigh (b : Mat F) : Mat F :=
  shapeCast S128x128 (broadcastTo S16x8x128 (shapeCast S16x1x128 (extractStridedSlice S16x1x128 ![0, 5, 0]
    (shapeCast S16x8x128 b shapeCasts_S128x128_S16x8x128) slices_S16x8x128_o0_5_0_S16x1x128) shapeCasts_S16x1x128_S16x1x128)
    broadcasts_S16x1x128_S16x8x128) shapeCasts_S16x8x128_S128x128
/-- In every block of 4 positions, the row 1 of the block, repeated. -/
def mid2 (row : IMat) (b : Mat F) : Mat F :=
  select (cmpi .eq (andi row (broadcast S128x128 4#32)) (broadcast S128x128 0#32)) (midLow b) (midHigh b)
/-- The decay between a position and the middle of its block. -/
def zed (r : IVec S128x128 1) (b m : Mat F) : Mat F := exp (select r (subf b m) (subf m b))
/-- A level's factor of the queries: on the right halves of the blocks. -/
def onR (r : IVec S128x128 1) (z : Mat F) : Mat F := select r z zeroM
/-- A level's factor of the keys: on the left halves of the blocks. -/
def onL (r : IVec S128x128 1) (z : Mat F) : Mat F := select r zeroM z

/-- Level 64: the queries' factor. -/
def eq64 (row : IMat) (b : Mat F) : Mat F := onR (bitSet row 64#32) (zed (bitSet row 64#32) b (mid64 b))
/-- Level 64: the keys' factor. -/
def ek64 (row : IMat) (b : Mat F) : Mat F := onL (bitSet row 64#32) (zed (bitSet row 64#32) b (mid64 b))
/-- Level 32: the queries' factor. -/
def eq32 (row : IMat) (b : Mat F) : Mat F := onR (bitSet row 32#32) (zed (bitSet row 32#32) b (mid32 b))
/-- Level 32: the keys' factor. -/
def ek32 (row : IMat) (b : Mat F) : Mat F := onL (bitSet row 32#32) (zed (bitSet row 32#32) b (mid32 b))
/-- Level 16: the queries' factor. -/
def eq16 (row : IMat) (b : Mat F) : Mat F := onR (bitSet row 16#32) (zed (bitSet row 16#32) b (mid16 b))
/-- Level 16: the keys' factor. -/
def ek16 (row : IMat) (b : Mat F) : Mat F := onL (bitSet row 16#32) (zed (bitSet row 16#32) b (mid16 b))
/-- Level 8: the queries' factor. -/
def eq8 (row : IMat) (b : Mat F) : Mat F := onR (bitSet row 8#32) (zed (bitSet row 8#32) b (mid8 b))
/-- Level 8: the keys' factor. -/
def ek8 (row : IMat) (b : Mat F) : Mat F := onL (bitSet row 8#32) (zed (bitSet row 8#32) b (mid8 b))
/-- Level 4: the queries' factor. -/
def eq4 (row : IMat) (b : Mat F) : Mat F := onR (bitSet row 4#32) (zed (bitSet row 4#32) b (mid4 b))
/-- Level 4: the keys' factor. -/
def ek4 (row : IMat) (b : Mat F) : Mat F := onL (bitSet row 4#32) (zed (bitSet row 4#32) b (mid4 b))
/-- Level 2: the queries' factor. -/
def eq2 (row : IMat) (b : Mat F) : Mat F := onR (bitSet row 2#32) (zed (bitSet row 2#32) b (mid2 row b))
/-- Level 2: the keys' factor. -/
def ek2 (row : IMat) (b : Mat F) : Mat F := onL (bitSet row 2#32) (zed (bitSet row 2#32) b (mid2 row b))
/-- Level 1: the queries' factor is the forget gate on odd positions. -/
def eq1 (row : IMat) (f : Mat F) : Mat F := onR (bitSet row 1#32) f
/-- Level 1: the keys' factor is one on even positions. -/
def ek1 (row : IMat) : Mat F := onL (bitSet row 1#32) oneM

/-! ## The scores inside the chunk -/

/-- The pairs of positions of one block of `w` positions. -/
def near (tt ss : IMat) (w : BitVec 32) : IVec S128x128 1 := cmpi .slt (xori tt ss) (broadcast S128x128 w)
/-- Only the pairs of one block. -/
def within (tt ss : IMat) (w : BitVec 32) (x : Mat F) : Mat F := select (near tt ss w) x zeroM
/-- A level's scaled operand of the products. -/
def scaled (x e : Mat F) : Mat16 F := lo (mulf x e)
/-- The diagonal: every position with itself. -/
def diag (tt ss : IMat) (q k : Mat F) : Mat F :=
  select (cmpi .eq tt ss) (broadcastTo S128x128 (shapeCast S128x1 (shapeCast S128x1
    (multiReduction .add [1] S128 (mulf q k) 0x00000000#32 reduces_S128x128_S128 (.inl rfl) rfl) shapeCasts_S128_S128x1) shapeCasts_S128x1_S128x1)
    broadcasts_S128x1_S128x128) zeroM
/-- The scores: the diagonal and one product per level. -/
def scores (row tt ss : IMat) (q k b f : Mat F) : Mat F :=
  addf (addf (addf (addf (addf (addf (addf (diag tt ss q k)
    (mulNT (scaled q (eq64 row b)) (scaled k (ek64 row b))))
    (within tt ss 64#32 (mulNT (scaled q (eq32 row b)) (scaled k (ek32 row b)))))
    (within tt ss 32#32 (mulNT (scaled q (eq16 row b)) (scaled k (ek16 row b)))))
    (within tt ss 16#32 (mulNT (scaled q (eq8 row b)) (scaled k (ek8 row b)))))
    (within tt ss 8#32 (mulNT (scaled q (eq4 row b)) (scaled k (ek4 row b)))))
    (within tt ss 4#32 (mulNT (scaled q (eq2 row b)) (scaled k (ek2 row b)))))
    (within tt ss 2#32 (mulNT (scaled q (eq1 row f)) (scaled k (ek1 row))))

/-! ## The chunk's ends -/

/-- The sum of the whole chunk's log decays. -/
def lastRow (b : Mat F) : Row F := extractStridedSlice S1x128 ![127, 0] b slices_S128x128_o127_0_S1x128
/-- The decay from every position to the chunk's end. -/
def toEnd (b : Mat F) : Mat F := exp (subf (rows (lastRow b)) b)
/-- The state handed on. -/
def stateNext (b k : Mat F) (v : Mat16 F) (st : Mat F) : Mat F :=
  addf (mulf (rows (exp (lastRow b))) st) (mulTN v (lo (mulf k (toEnd b))))
/-- The chunk's output. -/
def outOf (a q b : Mat F) (v : Mat16 F) (st : Mat F) : Mat F :=
  addf (mulNN (lo a) v) (mulNT (lo (mulf q (exp b))) (lo st))

/-- The forward step's state, from the chunk's raw rows. -/
def fwdState (row : IMat) (lb : Row F) (fr v st : Mat F) : Mat F :=
  stateNext (decay row (log (gateF lb fr))) (gateK (gateF lb fr)) (lo v) st
/-- The forward step's output, from the chunk's raw rows. -/
def fwdOut (row tt ss : IMat) (lb : Row F) (qr fr v st : Mat F) : Mat F :=
  outOf (scores row tt ss (gateQ qr) (gateK (gateF lb fr)) (decay row (log (gateF lb fr))) (gateF lb fr)) (gateQ qr)
    (decay row (log (gateF lb fr))) (lo v) st

/-! ## The gradients -/

/-- The state cotangent handed back. -/
def cotNext (b q : Mat F) (d_o : Mat16 F) (dst : Mat F) : Mat F :=
  addf (mulf (rows (exp (lastRow b))) dst) (mulTN d_o (lo (mulf q (exp b))))
/-- The values' gradient. -/
def dvOf (a k b : Mat F) (d_o : Mat16 F) (dst : Mat F) : Mat F :=
  addf (mulTN (lo a) d_o) (mulNT (lo (mulf k (toEnd b))) (lo dst))
/-- The scores' cotangent, on and below the diagonal. -/
def daOf (tt ss : IMat) (d_o v : Mat16 F) : Mat F := select (cmpi .sge tt ss) (mulNT d_o v) zeroM
/-- Its diagonal, down a column. -/
def ddOf (tt ss : IMat) (da : Mat F) : Mat F :=
  broadcastTo S128x128 (shapeCast S128x1 (multiReduction .add [1] S128 (select (cmpi .eq tt ss) da zeroM) 0x00000000#32
    reduces_S128x128_S128 (.inl rfl) rfl) shapeCasts_S128_S128x1) broadcasts_S128x1_S128x128
/-- One level of the queries' gradient. -/
def dqLvl (da16 : Mat16 F) (kg : Mat16 F) (e acc : Mat F) : Mat F := addf acc (mulf (mulNN da16 kg) e)
/-- One level of the keys' gradient. -/
def dkLvl (da16 : Mat16 F) (qg : Mat16 F) (e acc : Mat F) : Mat F := addf acc (mulf (mulTN da16 qg) e)
/-- One level of the log decays' gradient. -/
def dbLvl (da16 : Mat16 F) (qg kg : Mat16 F) (acc : Mat F) : Mat F :=
  addf acc (subf (mulf (mulNN da16 kg) (hi qg)) (mulf (mulTN da16 qg) (hi kg)))

/-- The queries' gradient: through the state, the diagonal and every level. -/
def dqOf (row tt ss : IMat) (k b f da dd dq0 : Mat F) : Mat F :=
  dqLvl (lo (within tt ss 2#32 da)) (scaled k (ek1 row)) (eq1 row f)
    (dqLvl (lo (within tt ss 4#32 da)) (scaled k (ek2 row b)) (eq2 row b)
    (dqLvl (lo (within tt ss 8#32 da)) (scaled k (ek4 row b)) (eq4 row b)
    (dqLvl (lo (within tt ss 16#32 da)) (scaled k (ek8 row b)) (eq8 row b)
    (dqLvl (lo (within tt ss 32#32 da)) (scaled k (ek16 row b)) (eq16 row b)
    (dqLvl (lo (within tt ss 64#32 da)) (scaled k (ek32 row b)) (eq32 row b)
    (dqLvl (lo da) (scaled k (ek64 row b)) (eq64 row b)
    (addf (mulf dq0 (exp b)) (mulf dd k))))))))
/-- The keys' gradient. -/
def dkOf (row tt ss : IMat) (q b f da dd dkh : Mat F) : Mat F :=
  dkLvl (lo (within tt ss 2#32 da)) (scaled q (eq1 row f)) (ek1 row)
    (dkLvl (lo (within tt ss 4#32 da)) (scaled q (eq2 row b)) (ek2 row b)
    (dkLvl (lo (within tt ss 8#32 da)) (scaled q (eq4 row b)) (ek4 row b)
    (dkLvl (lo (within tt ss 16#32 da)) (scaled q (eq8 row b)) (ek8 row b)
    (dkLvl (lo (within tt ss 32#32 da)) (scaled q (eq16 row b)) (ek16 row b)
    (dkLvl (lo (within tt ss 64#32 da)) (scaled q (eq32 row b)) (ek32 row b)
    (dkLvl (lo da) (scaled q (eq64 row b)) (ek64 row b)
    (addf (mulf dkh (toEnd b)) (mulf dd q))))))))
/-- The running sums' gradient, but for what the chunk's end adds. -/
def dbOf (row tt ss : IMat) (q k b f da dq0 dkh : Mat F) : Mat F :=
  dbLvl (lo (within tt ss 2#32 da)) (scaled q (eq1 row f)) (scaled k (ek1 row))
    (dbLvl (lo (within tt ss 4#32 da)) (scaled q (eq2 row b)) (scaled k (ek2 row b))
    (dbLvl (lo (within tt ss 8#32 da)) (scaled q (eq4 row b)) (scaled k (ek4 row b))
    (dbLvl (lo (within tt ss 16#32 da)) (scaled q (eq8 row b)) (scaled k (ek8 row b))
    (dbLvl (lo (within tt ss 32#32 da)) (scaled q (eq16 row b)) (scaled k (ek16 row b))
    (dbLvl (lo (within tt ss 64#32 da)) (scaled q (eq32 row b)) (scaled k (ek32 row b))
    (dbLvl (lo da) (scaled q (eq64 row b)) (scaled k (ek64 row b))
    (subf (mulf dq0 (hi (lo (mulf q (exp b))))) (mulf dkh (hi (lo (mulf k (toEnd b))))))))))))

/-- The sum down a chunk's column. -/
def colSum (x : Mat F) : Row F :=
  shapeCast S1x128 (multiReduction .add [0] S128 x 0x00000000#32 reduces_S128x128_S128_2 (.inl rfl) rfl) shapeCasts_S128_S1x128
/-- What the chunk's end adds to the running sums' gradient. -/
def dblOf (k b dkh dst st : Mat F) : Row F :=
  addf (colSum (mulf dkh (hi (lo (mulf k (toEnd b)))))) (mulf (exp (lastRow b)) (colSum (mulf dst st)))
/-- The log decays' gradient: the running sums' gradient with the end's, summed up the chunk. -/
def dgOf (row : IMat) (lastp : IVec S128x128 1) (db : Mat F) (dbl : Row F) : Mat F :=
  suffix row (addf db (select lastp (rows (shapeCast S1x128 dbl shapeCasts_S1x128_S1x128)) zeroM))
/-- The forget gate's gradient. -/
def dfgOf (dg f dk : Mat F) : Mat F := subf (divf dg f) dk
/-- The gradient of the forget gate's logits. -/
def dfOf (lb : Row F) (dfg sg : Mat F) : Mat F := mulf (mulf (mulf dfg (rows (lbc lb))) sg) (subf oneM sg)
/-- The gradient of the raw queries. -/
def dqrOf (dq qr sq : Mat F) : Mat F :=
  mulf (mulf dq (broadcast S128x128 (Scalar.ofBits .f32 0x3DB504F3#32))) (mulf sq (addf oneM (mulf qr (subf oneM sq))))

section Backward
variable (row tt ss : IMat) (lastp : IVec S128x128 1) (lb : Row F) (qr fr v d_o st dst : Mat F)

/-- The chunk's running sums. -/
def bB : Mat F := decay row (log (gateF lb fr))
/-- The chunk's scores' cotangent. -/
def bDa : Mat F := daOf tt ss (lo d_o) (lo v)
/-- The backward step's values' gradient. -/
def bwdDv : Mat F :=
  dvOf (scores row tt ss (gateQ qr) (gateK (gateF lb fr)) (bB row lb fr) (gateF lb fr)) (gateK (gateF lb fr)) (bB row lb fr) (lo d_o) dst
/-- The cotangent through the state of the queries. -/
def bDq0 : Mat F := mulNN (lo d_o) (lo st)
/-- The cotangent through the state of the keys. -/
def bDkh : Mat F := mulNN (lo v) (lo dst)
/-- The backward step's queries' gradient. -/
def bwdDq : Mat F :=
  dqOf row tt ss (gateK (gateF lb fr)) (bB row lb fr) (gateF lb fr) (bDa tt ss v d_o) (ddOf tt ss (bDa tt ss v d_o)) (bDq0 d_o st)
/-- The backward step's keys' gradient. -/
def bwdDk : Mat F :=
  dkOf row tt ss (gateQ qr) (bB row lb fr) (gateF lb fr) (bDa tt ss v d_o) (ddOf tt ss (bDa tt ss v d_o)) (bDkh v dst)
/-- The backward step's running sums' gradient. -/
def bwdDb : Mat F :=
  dbOf row tt ss (gateQ qr) (gateK (gateF lb fr)) (bB row lb fr) (gateF lb fr) (bDa tt ss v d_o) (bDq0 d_o st) (bDkh v dst)
/-- The backward step's forget gate's gradient. -/
def bwdDfg : Mat F :=
  dfgOf (dgOf row lastp (bwdDb row tt ss lb qr fr v d_o st dst) (dblOf (gateK (gateF lb fr)) (bB row lb fr) (bDkh v dst) dst st))
    (gateF lb fr) (bwdDk row tt ss lb qr fr v d_o dst)
/-- The backward step's gradient of the gate's logits. -/
def bwdDf : Mat F := dfOf lb (bwdDfg row tt ss lastp lb qr fr v d_o st dst) (sigm fr)
/-- The backward step's gradient of the raw queries. -/
def bwdDqr : Mat F := dqrOf (bwdDq row tt ss lb fr v d_o st) qr (sigm qr)
/-- The lower bound's gradient, the chunk's part added. -/
def bwdDlb (dlb : Row F) : Row F :=
  addf dlb (colSum (mulf (bwdDfg row tt ss lastp lb qr fr v d_o st dst) (subf oneM (sigm fr))))
/-- The state cotangent handed back by the backward step. -/
def bwdCot : Mat F := cotNext (bB row lb fr) (gateQ qr) (lo d_o) dst
end Backward

/-- A chunk of a plane of the gradients' array. -/
def plane (x : Mat F) : FVec F S1x128x128 .bf16 := shapeCast S1x128x128 (lo x) shapeCasts_S128x128_S1x128x128
/-- The saved state of a chunk as a matrix. -/
def savedSt (x : FVec F S1x1x128x128 .f32) : Mat F := shapeCast S128x128 x shapeCasts_S1x1x128x128_S128x128
/-- A state as it is saved. -/
def saveSt (x : Mat F) : FVec F S1x1x128x128 .f32 := shapeCast S1x1x128x128 x shapeCasts_S128x128_S1x1x128x128

end Cert.KernelIdeal.Hgrn

end
-- ==== Proof.Up.lean ====
/- Matrices of real numbers inside the extended reals, and the chunk's operations on them: each is the real operation. -/
module

public import proofs.«01_k».proof.Proof.Chunk
public import Idealize.ShloMosaic.Lib.Pointwise

@[expose] public section

set_option maxRecDepth 16384

noncomputable section

namespace Cert.KernelIdeal.Hgrn

open Idealize.ShloMosaic Cert.KernelIdeal Cert.KernelIdeal.Gen Cert.KernelIdeal.Facts

/-- A real chunk. -/
abbrev RM := Fin 128 → Fin 128 → ℝ

/-- A real chunk as an array. -/
def up (x : RM) : Mat Ideal := fun j => ((x (j 0) (j 1) : ℝ) : EReal)
/-- A real chunk in the products' format. -/
def up16 (x : RM) : Mat16 Ideal := fun j => ((x (j 0) (j 1) : ℝ) : EReal)
/-- A real row as an array. -/
def upRow (x : Fin 128 → ℝ) : Row Ideal := fun j => ((x (j 1) : ℝ) : EReal)

theorem up_ix (x : RM) (r l : Fin 128) : up x (ix2 r l) = ((x r l : ℝ) : EReal) := rfl
theorem up16_ix (x : RM) (r l : Fin 128) : up16 x (ix2 r l) = ((x r l : ℝ) : EReal) := rfl
theorem upRow_ix (x : Fin 128 → ℝ) (r : Fin 1) (l : Fin 128) : upRow x (ix2 r l) = ((x l : ℝ) : EReal) := rfl

/-- A real chunk is given by its entries. -/
theorem eq_up {y : Mat Ideal} {x : RM} (h : ∀ r l : Fin 128, y (ix2 r l) = ((x r l : ℝ) : EReal)) : y = up x := by
  funext j; idx_vars j; exact h _ _
theorem eq_upRow {y : Row Ideal} {x : Fin 128 → ℝ} (h : ∀ l : Fin 128, y (ix2 0 l) = ((x l : ℝ) : EReal)) : y = upRow x := by
  funext j; idx_vars j
  obtain rfl : j0 = 0 := Subsingleton.elim _ _
  exact h _

/-- A finite sum of reals in the extended reals. -/
theorem coe_sum {n : ℕ} (f : Fin n → ℝ) : ∑ i, ((f i : ℝ) : EReal) = ((∑ i, f i : ℝ) : EReal) := by
  induction (Finset.univ : Finset (Fin n)) using Finset.cons_induction with
  | empty => simp
  | cons a s h ih => rw [Finset.sum_cons, Finset.sum_cons, ih, EReal.coe_add]

theorem zeroM_up : (zeroM : Mat Ideal) = up fun _ _ => 0 := eq_up fun r l => by unfold zeroM; pointwise; rfl
theorem oneM_up : (oneM : Mat Ideal) = up fun _ _ => 1 := eq_up fun r l => by unfold oneM; pointwise; rfl
theorem rows_up (x : Fin 128 → ℝ) : rows (upRow x) = up fun _ l => x l := eq_up fun r l => by unfold rows; pointwise; exact upRow_ix _ _ _
theorem lo_up (x : RM) : lo (up x) = up16 x := rfl
theorem hi_up (x : RM) : hi (up16 x) = up x := rfl
theorem add_up (x y : RM) : addf (up x) (up y) = up fun r l => x r l + y r l := eq_up fun r l => by
  pointwise; simp only [up_ix, EReal.coe_add]
theorem sub_up (x y : RM) : subf (up x) (up y) = up fun r l => x r l - y r l := eq_up fun r l => by
  pointwise; simp only [up_ix, EReal.coe_sub]
theorem mul_up (x y : RM) : mulf (up x) (up y) = up fun r l => x r l * y r l := eq_up fun r l => by
  pointwise; simp only [up_ix, EReal.coe_mul]
theorem exp_up (x : RM) : exp (up x) = up fun r l => Real.exp (x r l) := eq_up fun r l => by
  pointwise; simp only [up_ix, Ideal.exp_coe]
theorem log_up {x : RM} (h : ∀ r l, 0 < x r l) : log (up x) = up fun r l => Real.log (x r l) := eq_up fun r l => by
  pointwise; rw [up_ix, Ideal.log_coe, if_neg (not_le.2 (h r l))]
theorem div_up (x : RM) {y : RM} (h : ∀ r l, y r l ≠ 0) : divf (up x) (up y) = up fun r l => x r l / y r l := eq_up fun r l => by
  pointwise; rw [up_ix, up_ix, Ideal.div_coe (h r l), ← EReal.coe_mul, mul_one_div]
theorem mulNT_up (x y : RM) : mulNT (up16 x) (up16 y) = up fun r l => ∑ k, x r k * y l k := eq_up fun r l => by
  unfold mulNT accM; pointwise
  simp only [up16_ix, ← EReal.coe_mul, coe_sum, zero_add]
theorem mulNN_up (x y : RM) : mulNN (up16 x) (up16 y) = up fun r l => ∑ k, x r k * y k l := eq_up fun r l => by
  unfold mulNN accM; pointwise
  simp only [up16_ix, ← EReal.coe_mul, coe_sum, zero_add]
theorem mulTN_up (x y : RM) : mulTN (up16 x) (up16 y) = up fun r l => ∑ k, x k r * y k l := eq_up fun r l => by
  unfold mulTN accM; pointwise
  simp only [up16_ix, ← EReal.coe_mul, coe_sum, zero_add]
theorem colSum_up (x : RM) : colSum (up x) = upRow fun l => ∑ r, x r l := eq_upRow fun l => by
  unfold colSum; pointwise
  simp only [up_ix, coe_sum, zero_add]
theorem lastRow_up (x : RM) : lastRow (up x) = upRow fun l => x 127 l := eq_upRow fun l => by
  unfold lastRow; pointwise
  rfl
theorem expRow_up (x : Fin 128 → ℝ) : exp (upRow x) = upRow fun l => Real.exp (x l) := eq_upRow fun l => by
  pointwise; simp only [upRow_ix, Ideal.exp_coe]
theorem addRow_up (x y : Fin 128 → ℝ) : addf (upRow x) (upRow y) = upRow fun l => x l + y l := eq_upRow fun l => by
  pointwise; simp only [upRow_ix, EReal.coe_add]
theorem mulRow_up (x y : Fin 128 → ℝ) : mulf (upRow x) (upRow y) = upRow fun l => x l * y l := eq_upRow fun l => by
  pointwise; simp only [upRow_ix, EReal.coe_mul]
theorem lbc_up (x : Fin 128 → ℝ) : lbc (upRow x) = upRow fun l => 1 - x l := eq_upRow fun l => by
  unfold lbc; pointwise; simp only [upRow_ix, EReal.coe_sub, EReal.coe_one]

/-- A choice by position. -/
theorem sel_up {c : IVec S128x128 1} {p : Fin 128 → Fin 128 → Prop} [∀ r l, Decidable (p r l)] (h : ∀ r l : Fin 128, c (ix2 r l) = 1#1 ↔ p r l) (x y : RM) :
    select c (up x) (up y) = up fun r l => if p r l then x r l else y r l := eq_up fun r l => by
  pointwise
  by_cases hp : p r l
  · rw [(h r l).2 hp, if_pos hp]; rfl
  · rw [if_neg hp]
    have : c (ix2 r l) ≠ 1#1 := fun h' => hp ((h r l).1 h')
    exact if_neg this

end Cert.KernelIdeal.Hgrn

end
-- ==== Proof.Gates.lean ====
/- The gates and the running sums of a real chunk. -/
module

public import proofs.«01_k».proof.Proof.Up

@[expose] public section

set_option maxRecDepth 16384

noncomputable section

namespace Cert.KernelIdeal.Hgrn

open Idealize.ShloMosaic Cert.KernelIdeal Cert.KernelIdeal.Gen Cert.KernelIdeal.Facts

/-- The queries' scale, the number the program's word stands for. -/
def qsc : ℝ := (Ideal.ofBits .f32 0x3DB504F3#32).toReal
theorem qsc_coe : Ideal.ofBits .f32 0x3DB504F3#32 = ((qsc : ℝ) : EReal) := by
  have : ∃ r : ℝ, Ideal.ofBits .f32 0x3DB504F3#32 = (r : EReal) := by
    unfold Ideal.ofBits Ideal.ieee
    dsimp only
    rw [if_neg (by decide), if_neg (by decide)]
    exact ⟨_, rfl⟩
  obtain ⟨r, hr⟩ := this
  rw [qsc, hr, EReal.toReal_coe]

/-- The logistic function of a real. -/
def sg (x : ℝ) : ℝ := (1 + Real.exp (-x))⁻¹
/-- The forget gate of a real. -/
def fg (lb fr : ℝ) : ℝ := lb + (1 - lb) * sg fr
/-- The query of a real. -/
def qg (x : ℝ) : ℝ := x * sg x * qsc

theorem one_add_exp_pos (x : ℝ) : 0 < 1 + Real.exp x := by positivity
theorem sg_pos (x : ℝ) : 0 < sg x := inv_pos.2 (one_add_exp_pos _)
theorem sg_lt_one (x : ℝ) : sg x < 1 := inv_lt_one_of_one_lt₀ (by linarith [Real.exp_pos (-x)])
/-- With a lower bound that is not negative the forget gate is positive. -/
theorem fg_pos {lb : ℝ} (h : 0 ≤ lb) (fr : ℝ) : 0 < fg lb fr := by
  have h1 := sg_pos fr
  have h2 := sg_lt_one fr
  have : fg lb fr = lb * (1 - sg fr) + sg fr := by unfold fg; ring
  rw [this]
  have := mul_nonneg h (sub_nonneg.2 h2.le)
  linarith

theorem sigm_up (x : RM) : sigm (up x) = up fun r l => sg (x r l) := by
  unfold sigm
  rw [oneM_up, zeroM_up, sub_up, exp_up, add_up, div_up _ fun r l => ((one_add_exp_pos _).ne')]
  refine congrArg up (funext fun r => funext fun l => ?_)
  rw [sg, zero_sub, one_div]
theorem gateF_up (lb : Fin 128 → ℝ) (fr : RM) : gateF (upRow lb) (up fr) = up fun r l => fg (lb l) (fr r l) := by
  unfold gateF
  rw [lbc_up, rows_up, rows_up, sigm_up, mul_up, add_up]; rfl
theorem gateQ_up (x : RM) : gateQ (up x) = up fun r l => qg (x r l) := by
  have : (broadcast S128x128 (Scalar.ofBits (F := Ideal) .f32 0x3DB504F3#32) : Mat Ideal) = up fun _ _ => qsc :=
    eq_up fun r l => by pointwise; exact qsc_coe
  unfold gateQ
  rw [sigm_up, mul_up, this, mul_up]; rfl
theorem gateK_up (f : RM) : gateK (up f) = up fun r l => 1 - f r l := by
  unfold gateK; rw [oneM_up, sub_up]

/-! ## Positions -/

/-- The rows' positions. -/
def rowI : IMat := iota .tc S128x128 32 [0] iota_S128x128_d0_w32
/-- The columns' positions. -/
def colI : IMat := iota .tc S128x128 32 [1] iota_S128x128_d1_w32
theorem rowI_ix (r l : Fin 128) : rowI (ix2 r l) = BitVec.ofNat 32 r.val := by unfold rowI; pointwise
theorem colI_ix (r l : Fin 128) : colI (ix2 r l) = BitVec.ofNat 32 l.val := by unfold colI; pointwise

/-! ## Running sums -/

/-- The sum of the first `n` entries. -/
def pre (g : Fin 128 → ℝ) (n : ℕ) : ℝ := ∑ i : Fin 128, if i.val < n then g i else 0

theorem pre_zero (g : Fin 128 → ℝ) : pre g 0 = 0 := by simp [pre]
theorem pre_succ (g : Fin 128 → ℝ) (r : Fin 128) : pre g (r.val + 1) = pre g r.val + g r := by
  have : g r = ∑ i : Fin 128, if i = r then g i else 0 := by simp
  unfold pre
  rw [this, ← Finset.sum_add_distrib]
  refine Finset.sum_congr rfl fun i _ => ?_
  rcases lt_trichotomy i.val r.val with h | h | h
  · rw [if_pos (by omega), if_pos h, if_neg (by intro e; rw [e] at h; omega), add_zero]
  · rw [if_pos (by omega), if_neg (by omega), if_pos (Fin.ext h), zero_add]
  · rw [if_neg (by omega), if_neg (by omega), if_neg (by intro e; rw [e] at h; omega), add_zero]

/-- The sum of the `w` entries that end at each position. -/
def win (w : ℕ) (g : RM) : RM := fun r l => pre (fun i => g i l) (r.val + 1) - pre (fun i => g i l) (r.val + 1 - w)
/-- The sum of the `w` entries that begin at each position. -/
def wout (w : ℕ) (g : RM) : RM := fun r l => pre (fun i => g i l) (min (r.val + w) 128) - pre (fun i => g i l) r.val

theorem win_one (g : RM) : up g = up (win 1 g) := by
  refine congrArg up (funext fun r => funext fun l => ?_)
  simp [win, pre_succ]
theorem wout_one (g : RM) : up g = up (wout 1 g) := by
  refine congrArg up (funext fun r => funext fun l => ?_)
  have : min (r.val + 1) 128 = r.val + 1 := by omega
  simp [wout, pre_succ, this]

theorem sge_iff : ∀ r n : Fin 128, IntOp.cmpi .sge (BitVec.ofNat 32 r.val) (BitVec.ofNat 32 n.val) = 1#1 ↔ n.val ≤ r.val := by
  decide +kernel
theorem slt_iff : ∀ r n : Fin 128, IntOp.cmpi .slt (BitVec.ofNat 32 r.val) (BitVec.ofNat 32 n.val) = 1#1 ↔ r.val < n.val := by
  decide +kernel
theorem eq_iff : ∀ r n : Fin 128, IntOp.cmpi .eq (BitVec.ofNat 32 r.val) (BitVec.ofNat 32 n.val) = 1#1 ↔ r = n := by
  decide +kernel

theorem sel_yes {α : Type} (a b : α) : Scalar.select 1#1 a b = a := rfl
theorem sel_no {α : Type} {c : BitVec 1} (h : c ≠ 1#1) (a b : α) : Scalar.select c a b = b := if_neg h

theorem upBy_up (n : ℕ) (hn : n < 128) (g : RM) : upBy rowI (BitVec.ofNat 32 n) (up (win n g)) = up (win (n + n) g) := by
  refine eq_up fun r l => ?_
  have hr := r.isLt
  unfold upBy zeroM
  pointwise
  rw [rowI_ix]
  have key : IntOp.cmpi .sge (BitVec.ofNat 32 r.val) (BitVec.ofNat 32 n) = 1#1 ↔ n ≤ r.val := sge_iff r ⟨n, hn⟩
  have hn' : (BitVec.ofNat 32 n).toNat % 128 = n := by simp; omega
  by_cases h : n ≤ r.val
  · rw [key.2 h]
    have e : (⟨(r.val + 128 - (BitVec.ofNat 32 n).toNat % 128) % 128, Nat.mod_lt _ (by omega)⟩ : Fin 128) = ⟨r.val - n, by omega⟩ := by
      apply Fin.ext; simp only [hn']; omega
    rw [sel_yes, e, up_ix, up_ix, ← EReal.coe_add]
    refine congrArg _ ?_
    unfold win
    dsimp only
    rw [show r.val - n + 1 = r.val + 1 - n by omega, show r.val + 1 - n - n = r.val + 1 - (n + n) by omega]
    ring
  · rw [sel_no fun h' => h (key.1 h'), add_zero, up_ix]
    refine congrArg _ ?_
    unfold win
    rw [show r.val + 1 - n = 0 by omega, show r.val + 1 - (n + n) = 0 by omega]

theorem downBy_up (n : ℕ) (hn : n < 128) (h0 : 0 < n) (g : RM) : downBy rowI (BitVec.ofNat 32 (128 - n)) (up (wout n g)) = up (wout (n + n) g) := by
  refine eq_up fun r l => ?_
  have hr := r.isLt
  unfold downBy zeroM
  pointwise
  rw [rowI_ix]
  have key : IntOp.cmpi .slt (BitVec.ofNat 32 r.val) (BitVec.ofNat 32 (128 - n)) = 1#1 ↔ r.val < 128 - n := slt_iff r ⟨128 - n, by omega⟩
  have hn' : (BitVec.ofNat 32 (128 - n)).toNat % 128 = 128 - n := by simp; omega
  by_cases h : r.val < 128 - n
  · rw [key.2 h]
    have e : (⟨(r.val + 128 - (BitVec.ofNat 32 (128 - n)).toNat % 128) % 128, Nat.mod_lt _ (by omega)⟩ : Fin 128) = ⟨r.val + n, by omega⟩ := by
      apply Fin.ext; simp only [hn']; omega
    rw [sel_yes, e, up_ix, up_ix, ← EReal.coe_add]
    refine congrArg _ ?_
    unfold wout
    dsimp only
    rw [show min (r.val + n) 128 = r.val + n by omega, show r.val + n + n = r.val + (n + n) by omega]
    ring
  · rw [sel_no fun h' => h (key.1 h'), add_zero, up_ix]
    refine congrArg _ ?_
    unfold wout
    rw [show min (r.val + n) 128 = 128 by omega, show min (r.val + (n + n)) 128 = 128 by omega]

/-- The running sum of a real chunk. -/
def cum (g : RM) : RM := fun r l => pre (fun i => g i l) (r.val + 1)
/-- The sums from each position to the chunk's end. -/
def tail (g : RM) : RM := fun r l => pre (fun i => g i l) 128 - pre (fun i => g i l) r.val

theorem decay_up (g : RM) : decay rowI (up g) = up (cum g) := by
  unfold decay
  rw [win_one g, upBy_up 1 (by norm_num), upBy_up 2 (by norm_num), upBy_up 4 (by norm_num), upBy_up 8 (by norm_num), upBy_up 16 (by norm_num),
    upBy_up 32 (by norm_num), upBy_up 64 (by norm_num)]
  refine congrArg up (funext fun r => funext fun l => ?_)
  unfold win cum
  rw [show r.val + 1 - (64 + 64) = 0 by omega, pre_zero, sub_zero]
theorem suffix_up (g : RM) : suffix rowI (up g) = up (tail g) := by
  unfold suffix
  rw [wout_one g, downBy_up 1 (by norm_num) (by norm_num), downBy_up 2 (by norm_num) (by norm_num), downBy_up 4 (by norm_num) (by norm_num),
    downBy_up 8 (by norm_num) (by norm_num), downBy_up 16 (by norm_num) (by norm_num), downBy_up 32 (by norm_num) (by norm_num),
    downBy_up 64 (by norm_num) (by norm_num)]
  refine congrArg up (funext fun r => funext fun l => ?_)
  unfold wout tail
  rw [show min (r.val + (64 + 64)) 128 = 128 by omega]

end Cert.KernelIdeal.Hgrn

end
-- ==== Proof.Levels.lean ====
/- The levels of a real chunk: each level's factors of the queries and of the keys, and the pairs of positions of a level. -/
module

public import proofs.«01_k».proof.Proof.Gates

@[expose] public section

set_option maxRecDepth 16384

noncomputable section

namespace Cert.KernelIdeal.Hgrn

open Idealize.ShloMosaic Cert.KernelIdeal Cert.KernelIdeal.Gen Cert.KernelIdeal.Facts

/-- The position lies in the right half of its block of `2 g` positions. -/
def Right (g : ℕ) (r : Fin 128) : Prop := r.val / g % 2 = 1
instance (g : ℕ) (r : Fin 128) : Decidable (Right g r) := by unfold Right; infer_instance
/-- The last position of the left half of a position's block. -/
def mi (g : ℕ) (r : Fin 128) : Fin 128 := ⟨(r.val / (2 * g) * (2 * g) + g - 1) % 128, Nat.mod_lt _ (by norm_num)⟩
/-- The queries' factor of a level. -/
def eqR (g : ℕ) (b : RM) : RM := fun r l => if Right g r then Real.exp (b r l - b (mi g r) l) else 0
/-- The keys' factor of a level. -/
def ekR (g : ℕ) (b : RM) : RM := fun r l => if Right g r then 0 else Real.exp (b (mi g r) l - b r l)

theorem bit64 (r l : Fin 128) : bitSet rowI 64#32 (ix2 r l) = 1#1 ↔ Right 64 r := by
  unfold bitSet; pointwise; rw [rowI_ix]; revert r; decide +kernel
theorem bit32 (r l : Fin 128) : bitSet rowI 32#32 (ix2 r l) = 1#1 ↔ Right 32 r := by
  unfold bitSet; pointwise; rw [rowI_ix]; revert r; decide +kernel
theorem bit16 (r l : Fin 128) : bitSet rowI 16#32 (ix2 r l) = 1#1 ↔ Right 16 r := by
  unfold bitSet; pointwise; rw [rowI_ix]; revert r; decide +kernel
theorem bit8 (r l : Fin 128) : bitSet rowI 8#32 (ix2 r l) = 1#1 ↔ Right 8 r := by
  unfold bitSet; pointwise; rw [rowI_ix]; revert r; decide +kernel
theorem bit4 (r l : Fin 128) : bitSet rowI 4#32 (ix2 r l) = 1#1 ↔ Right 4 r := by
  unfold bitSet; pointwise; rw [rowI_ix]; revert r; decide +kernel
theorem bit2 (r l : Fin 128) : bitSet rowI 2#32 (ix2 r l) = 1#1 ↔ Right 2 r := by
  unfold bitSet; pointwise; rw [rowI_ix]; revert r; decide +kernel
theorem bit1 (r l : Fin 128) : bitSet rowI 1#32 (ix2 r l) = 1#1 ↔ Right 1 r := by
  unfold bitSet; pointwise; rw [rowI_ix]; revert r; decide +kernel

/-- The right halves' factor from the middle rows. -/
theorem onR_up {g : ℕ} {c : IVec S128x128 1} (h : ∀ r l : Fin 128, c (ix2 r l) = 1#1 ↔ Right g r) (b : RM) :
    onR c (zed c (up b) (up fun r l => b (mi g r) l)) = up (eqR g b) := by
  unfold onR zed
  rw [sub_up, sub_up, sel_up h, exp_up, zeroM_up, sel_up h]
  refine congrArg up (funext fun r => funext fun l => ?_)
  unfold eqR
  by_cases hr : Right g r
  · simp only [if_pos hr]
  · simp only [if_neg hr]

/-- The left halves' factor from the middle rows. -/
theorem onL_up {g : ℕ} {c : IVec S128x128 1} (h : ∀ r l : Fin 128, c (ix2 r l) = 1#1 ↔ Right g r) (b : RM) :
    onL c (zed c (up b) (up fun r l => b (mi g r) l)) = up (ekR g b) := by
  unfold onL zed
  rw [sub_up, sub_up, sel_up h, exp_up, zeroM_up, sel_up h]
  refine congrArg up (funext fun r => funext fun l => ?_)
  unfold ekR
  by_cases hr : Right g r
  · simp only [if_pos hr]
  · simp only [if_neg hr]

theorem mid64_up (b : RM) : mid64 (up b) = up fun r l => b (mi 64 r) l := eq_up fun r l => by
  have hr := r.isLt
  have e : mi 64 r = 63 := by apply Fin.ext; show _ = 63; simp only [mi]; omega
  unfold mid64
  pointwise
  rw [up_ix, e]
theorem mid32_up (b : RM) : mid32 (up b) = up fun r l => b (mi 32 r) l := eq_up fun r l => by
  have hr := r.isLt
  unfold mid32
  pointwise
  rw [up_ix]
  refine congrArg (fun i => ((b i l : ℝ) : EReal)) (Fin.ext ?_)
  simp only [mi]; omega
theorem mid16_up (b : RM) : mid16 (up b) = up fun r l => b (mi 16 r) l := eq_up fun r l => by
  have hr := r.isLt
  unfold mid16
  pointwise
  rw [up_ix]
  refine congrArg (fun i => ((b i l : ℝ) : EReal)) (Fin.ext ?_)
  simp only [mi]; omega
theorem mid8_up (b : RM) : mid8 (up b) = up fun r l => b (mi 8 r) l := eq_up fun r l => by
  have hr := r.isLt
  unfold mid8
  pointwise
  rw [up_ix]
  refine congrArg (fun i => ((b i l : ℝ) : EReal)) (Fin.ext ?_)
  simp only [mi]; omega
theorem mid4_up (b : RM) : mid4 (up b) = up fun r l => b (mi 4 r) l := eq_up fun r l => by
  have hr := r.isLt
  unfold mid4
  pointwise
  rw [up_ix]
  refine congrArg (fun i => ((b i l : ℝ) : EReal)) (Fin.ext ?_)
  simp only [mi]; omega
theorem and4_iff (r l : Fin 128) : cmpi .eq (andi rowI (broadcast S128x128 4#32)) (broadcast S128x128 0#32) (ix2 r l) = 1#1 ↔ r.val / 4 % 2 = 0 := by
  pointwise; rw [rowI_ix]; revert r; decide +kernel
theorem mid2_up (b : RM) : mid2 rowI (up b) = up fun r l => b (mi 2 r) l := by
  have h1 : midLow (up b) = up fun r l => b ⟨r.val / 8 * 8 + 1, by have := r.isLt; omega⟩ l := eq_up fun r l => by
    unfold midLow; pointwise; rw [up_ix]
  have h2 : midHigh (up b) = up fun r l => b ⟨r.val / 8 * 8 + 5, by have := r.isLt; omega⟩ l := eq_up fun r l => by
    unfold midHigh; pointwise; rw [up_ix]
  unfold mid2
  rw [h1, h2, sel_up and4_iff]
  refine congrArg up (funext fun r => funext fun l => ?_)
  have hr := r.isLt
  by_cases h : r.val / 4 % 2 = 0
  · rw [if_pos h]
    refine congrArg (fun i => b i l) (Fin.ext ?_)
    simp only [mi]; omega
  · rw [if_neg h]
    refine congrArg (fun i => b i l) (Fin.ext ?_)
    simp only [mi]; omega
theorem eq64_up (b : RM) : eq64 rowI (up b) = up (eqR 64 b) := by unfold eq64; rw [mid64_up, onR_up bit64]
theorem ek64_up (b : RM) : ek64 rowI (up b) = up (ekR 64 b) := by unfold ek64; rw [mid64_up, onL_up bit64]
theorem eq32_up (b : RM) : eq32 rowI (up b) = up (eqR 32 b) := by unfold eq32; rw [mid32_up, onR_up bit32]
theorem ek32_up (b : RM) : ek32 rowI (up b) = up (ekR 32 b) := by unfold ek32; rw [mid32_up, onL_up bit32]
theorem eq16_up (b : RM) : eq16 rowI (up b) = up (eqR 16 b) := by unfold eq16; rw [mid16_up, onR_up bit16]
theorem ek16_up (b : RM) : ek16 rowI (up b) = up (ekR 16 b) := by unfold ek16; rw [mid16_up, onL_up bit16]
theorem eq8_up (b : RM) : eq8 rowI (up b) = up (eqR 8 b) := by unfold eq8; rw [mid8_up, onR_up bit8]
theorem ek8_up (b : RM) : ek8 rowI (up b) = up (ekR 8 b) := by unfold ek8; rw [mid8_up, onL_up bit8]
theorem eq4_up (b : RM) : eq4 rowI (up b) = up (eqR 4 b) := by unfold eq4; rw [mid4_up, onR_up bit4]
theorem ek4_up (b : RM) : ek4 rowI (up b) = up (ekR 4 b) := by unfold ek4; rw [mid4_up, onL_up bit4]
theorem eq2_up (b : RM) : eq2 rowI (up b) = up (eqR 2 b) := by unfold eq2; rw [mid2_up, onR_up bit2]
theorem ek2_up (b : RM) : ek2 rowI (up b) = up (ekR 2 b) := by unfold ek2; rw [mid2_up, onL_up bit2]
/-- At the last level the queries' factor is the gate itself, the decay from the position before. -/
theorem eq1_up {b f : RM} (h : ∀ r l, Right 1 r → f r l = Real.exp (b r l - b (mi 1 r) l)) : eq1 rowI (up f) = up (eqR 1 b) := by
  unfold eq1 onR
  rw [zeroM_up, sel_up bit1]
  refine congrArg up (funext fun r => funext fun l => ?_)
  unfold eqR
  by_cases hr : Right 1 r
  · simp only [if_pos hr]; exact h r l hr
  · simp only [if_neg hr]
theorem mi_one {r : Fin 128} (h : ¬ Right 1 r) : mi 1 r = r := by
  have hr := r.isLt
  apply Fin.ext
  unfold Right at h
  simp only [mi]; omega
theorem ek1_up (b : RM) : ek1 rowI = up (ekR 1 b) := by
  unfold ek1 onL
  rw [zeroM_up, oneM_up, sel_up bit1]
  refine congrArg up (funext fun r => funext fun l => ?_)
  unfold ekR
  by_cases hr : Right 1 r
  · simp only [if_pos hr]
  · simp only [if_neg hr]; rw [mi_one hr, sub_self, Real.exp_zero]

/-! ## The pairs of positions of a level -/

/-- The pair lies in one block of `2 g` positions, the first position in the right half and the second in the left. -/
def Pair (g : ℕ) (t s : Fin 128) : Prop := (t.val / (2 * g) = s.val / (2 * g)) ∧ Right g t ∧ ¬ Right g s
instance (g : ℕ) (t s : Fin 128) : Decidable (Pair g t s) := by unfold Pair; infer_instance

theorem mi_pair {g : ℕ} {t s : Fin 128} (h : t.val / (2 * g) = s.val / (2 * g)) : mi g t = mi g s := Fin.ext (by simp only [mi, h])

theorem near_dec : ∀ t s : Fin 128,
    (IntOp.cmpi .slt (IntOp.xori (BitVec.ofNat 32 t.val) (BitVec.ofNat 32 s.val)) 64#32 = 1#1 ↔ t.val / 64 = s.val / 64) ∧
    (IntOp.cmpi .slt (IntOp.xori (BitVec.ofNat 32 t.val) (BitVec.ofNat 32 s.val)) 32#32 = 1#1 ↔ t.val / 32 = s.val / 32) ∧
    (IntOp.cmpi .slt (IntOp.xori (BitVec.ofNat 32 t.val) (BitVec.ofNat 32 s.val)) 16#32 = 1#1 ↔ t.val / 16 = s.val / 16) ∧
    (IntOp.cmpi .slt (IntOp.xori (BitVec.ofNat 32 t.val) (BitVec.ofNat 32 s.val)) 8#32 = 1#1 ↔ t.val / 8 = s.val / 8) ∧
    (IntOp.cmpi .slt (IntOp.xori (BitVec.ofNat 32 t.val) (BitVec.ofNat 32 s.val)) 4#32 = 1#1 ↔ t.val / 4 = s.val / 4) ∧
    (IntOp.cmpi .slt (IntOp.xori (BitVec.ofNat 32 t.val) (BitVec.ofNat 32 s.val)) 2#32 = 1#1 ↔ t.val / 2 = s.val / 2) := by
  decide +kernel
theorem near64 (t s : Fin 128) : near rowI colI 64#32 (ix2 t s) = 1#1 ↔ t.val / 64 = s.val / 64 := by
  unfold near; pointwise; rw [rowI_ix, colI_ix]; exact (near_dec t s).1
theorem near32 (t s : Fin 128) : near rowI colI 32#32 (ix2 t s) = 1#1 ↔ t.val / 32 = s.val / 32 := by
  unfold near; pointwise; rw [rowI_ix, colI_ix]; exact (near_dec t s).2.1
theorem near16 (t s : Fin 128) : near rowI colI 16#32 (ix2 t s) = 1#1 ↔ t.val / 16 = s.val / 16 := by
  unfold near; pointwise; rw [rowI_ix, colI_ix]; exact (near_dec t s).2.2.1
theorem near8 (t s : Fin 128) : near rowI colI 8#32 (ix2 t s) = 1#1 ↔ t.val / 8 = s.val / 8 := by
  unfold near; pointwise; rw [rowI_ix, colI_ix]; exact (near_dec t s).2.2.2.1
theorem near4 (t s : Fin 128) : near rowI colI 4#32 (ix2 t s) = 1#1 ↔ t.val / 4 = s.val / 4 := by
  unfold near; pointwise; rw [rowI_ix, colI_ix]; exact (near_dec t s).2.2.2.2.1
theorem near2 (t s : Fin 128) : near rowI colI 2#32 (ix2 t s) = 1#1 ↔ t.val / 2 = s.val / 2 := by
  unfold near; pointwise; rw [rowI_ix, colI_ix]; exact (near_dec t s).2.2.2.2.2

/-- Of the pairs of positions below the diagonal each belongs to one level. -/
theorem pair_sum (t s : Fin 128) (x : ℝ) :
    (if Pair 64 t s then x else 0) + (if Pair 32 t s then x else 0) + (if Pair 16 t s then x else 0) + (if Pair 8 t s then x else 0) +
      (if Pair 4 t s then x else 0) + (if Pair 2 t s then x else 0) + (if Pair 1 t s then x else 0) = if s < t then x else 0 := by
  have hd : ∀ t s : Fin 128, (if Pair 64 t s then 1 else 0) + (if Pair 32 t s then 1 else 0) + (if Pair 16 t s then 1 else 0) +
      (if Pair 8 t s then 1 else 0) + (if Pair 4 t s then 1 else 0) + (if Pair 2 t s then 1 else 0) + (if Pair 1 t s then 1 else 0) =
      if s < t then 1 else 0 := by decide +kernel
  have h := congrArg (fun n : ℕ => (n : ℝ) * x) (hd t s)
  simpa [add_mul, ite_mul] using h

end Cert.KernelIdeal.Hgrn

end
-- ==== Proof.Scores.lean ====
/- The scores inside a real chunk, and what the levels of the gradients sum to. -/
module

public import proofs.«01_k».proof.Proof.Levels

@[expose] public section

set_option maxRecDepth 16384

noncomputable section

namespace Cert.KernelIdeal.Hgrn

open Idealize.ShloMosaic Cert.KernelIdeal Cert.KernelIdeal.Gen Cert.KernelIdeal.Facts

/-- The two factors of a level on a pair of one block: the decay between the two positions on the level's pairs, else nothing. -/
theorem factors {g : ℕ} (b : RM) {t s : Fin 128} (h : t.val / (2 * g) = s.val / (2 * g)) (l : Fin 128) :
    eqR g b t l * ekR g b s l = if Pair g t s then Real.exp (b t l - b s l) else 0 := by
  unfold eqR ekR
  by_cases ht : Right g t
  · by_cases hs : Right g s
    · rw [if_pos hs, mul_zero, if_neg fun h' : Pair g t s => h'.2.2 hs]
    · rw [if_pos ht, if_neg hs, if_pos (show Pair g t s from ⟨h, ht, hs⟩), mi_pair h, ← Real.exp_add]; congr 1; ring
  · rw [if_neg ht, zero_mul, if_neg fun h' : Pair g t s => ht h'.2.1]

/-- A level's scores. -/
def lvA (g : ℕ) (q k b : RM) : RM := fun t s => if Pair g t s then ∑ l, q t l * k s l * Real.exp (b t l - b s l) else 0
/-- A level's part of the queries' gradient. -/
def lvQ (g : ℕ) (da k b : RM) : RM := fun t l => ∑ s, if Pair g t s then da t s * k s l * Real.exp (b t l - b s l) else 0
/-- A level's part of the keys' gradient. -/
def lvK (g : ℕ) (da q b : RM) : RM := fun s l => ∑ t, if Pair g t s then da t s * q t l * Real.exp (b t l - b s l) else 0

theorem lvA_eq {g : ℕ} (q k b : RM) {t s : Fin 128} (h : t.val / (2 * g) = s.val / (2 * g)) :
    ∑ l, q t l * eqR g b t l * (k s l * ekR g b s l) = lvA g q k b t s := by
  unfold lvA
  have e : ∀ l, q t l * eqR g b t l * (k s l * ekR g b s l) = if Pair g t s then q t l * k s l * Real.exp (b t l - b s l) else 0 := fun l => by
    rw [show q t l * eqR g b t l * (k s l * ekR g b s l) = q t l * k s l * (eqR g b t l * ekR g b s l) by ring, factors b h, mul_ite, mul_zero]
  rw [Finset.sum_congr rfl fun l _ => e l]
  split_ifs
  · rfl
  · simp
theorem lvA_far {g : ℕ} (q k b : RM) {t s : Fin 128} (h : ¬ t.val / (2 * g) = s.val / (2 * g)) : lvA g q k b t s = 0 :=
  if_neg fun h' => h h'.1

theorem lvQ_eq (g : ℕ) (da k b : RM) (t l : Fin 128) :
    (∑ s, (if t.val / (2 * g) = s.val / (2 * g) then da t s else 0) * (k s l * ekR g b s l)) * eqR g b t l = lvQ g da k b t l := by
  unfold lvQ
  rw [Finset.sum_mul]
  refine Finset.sum_congr rfl fun s _ => ?_
  by_cases h : t.val / (2 * g) = s.val / (2 * g)
  · rw [if_pos h, show da t s * (k s l * ekR g b s l) * eqR g b t l = da t s * k s l * (eqR g b t l * ekR g b s l) by ring, factors b h, mul_ite, mul_zero]
  · rw [if_neg h, if_neg fun h' => h h'.1]; ring
theorem lvK_eq (g : ℕ) (da q b : RM) (s l : Fin 128) :
    (∑ t : Fin 128, (if t.val / (2 * g) = s.val / (2 * g) then da t s else 0) * (q t l * eqR g b t l)) * ekR g b s l = lvK g da q b s l := by
  unfold lvK
  rw [Finset.sum_mul]
  refine Finset.sum_congr rfl fun t _ => ?_
  by_cases h : t.val / (2 * g) = s.val / (2 * g)
  · rw [if_pos h, show da t s * (q t l * eqR g b t l) * ekR g b s l = da t s * q t l * (eqR g b t l * ekR g b s l) by ring, factors b h, mul_ite, mul_zero]
  · rw [if_neg h, if_neg fun h' => h h'.1]; ring

theorem lvA_sum (q k b : RM) (t s : Fin 128) :
    lvA 64 q k b t s + lvA 32 q k b t s + lvA 16 q k b t s + lvA 8 q k b t s + lvA 4 q k b t s + lvA 2 q k b t s + lvA 1 q k b t s = if s < t then ∑ l, q t l * k s l * Real.exp (b t l - b s l) else 0 := pair_sum t s _
theorem lvQ_sum (da k b : RM) (t l : Fin 128) :
    lvQ 64 da k b t l + lvQ 32 da k b t l + lvQ 16 da k b t l + lvQ 8 da k b t l + lvQ 4 da k b t l + lvQ 2 da k b t l + lvQ 1 da k b t l = ∑ s, if s < t then da t s * k s l * Real.exp (b t l - b s l) else 0 := by
  unfold lvQ
  simp only [← Finset.sum_add_distrib]
  exact Finset.sum_congr rfl fun s _ => pair_sum t s _
theorem lvK_sum (da q b : RM) (s l : Fin 128) :
    lvK 64 da q b s l + lvK 32 da q b s l + lvK 16 da q b s l + lvK 8 da q b s l + lvK 4 da q b s l + lvK 2 da q b s l + lvK 1 da q b s l = ∑ t, if s < t then da t s * q t l * Real.exp (b t l - b s l) else 0 := by
  unfold lvK
  simp only [← Finset.sum_add_distrib]
  exact Finset.sum_congr rfl fun t _ => pair_sum t s _

/-! ## The scores -/

theorem scaled_up (x e : RM) : scaled (up x) (up e) = up16 fun r l => x r l * e r l := by unfold scaled; rw [mul_up, lo_up]
theorem diag_up (q k : RM) : diag rowI colI (up q) (up k) = up fun t s => if t = s then ∑ l, q t l * k t l else 0 := by
  have h : (broadcastTo S128x128 (shapeCast S128x1 (shapeCast S128x1
    (multiReduction .add [1] S128 (mulf (up q) (up k)) 0x00000000#32 reduces_S128x128_S128 (.inl rfl) rfl) shapeCasts_S128_S128x1) shapeCasts_S128x1_S128x1)
    broadcasts_S128x1_S128x128 : Mat Ideal) = up fun t _ => ∑ l, q t l * k t l := eq_up fun t s => by
    rw [mul_up]
    pointwise
    simp only [up_ix, coe_sum, zero_add]
  unfold diag
  rw [h, zeroM_up, sel_up (p := fun t s => t = s) fun t s => by pointwise; rw [rowI_ix, colI_ix]; exact eq_iff t s]
theorem within64_up (x : RM) : within rowI colI 64#32 (up x) = up fun t s => if t.val / 64 = s.val / 64 then x t s else 0 := by
  unfold within; rw [zeroM_up, sel_up near64]
theorem within32_up (x : RM) : within rowI colI 32#32 (up x) = up fun t s => if t.val / 32 = s.val / 32 then x t s else 0 := by
  unfold within; rw [zeroM_up, sel_up near32]
theorem within16_up (x : RM) : within rowI colI 16#32 (up x) = up fun t s => if t.val / 16 = s.val / 16 then x t s else 0 := by
  unfold within; rw [zeroM_up, sel_up near16]
theorem within8_up (x : RM) : within rowI colI 8#32 (up x) = up fun t s => if t.val / 8 = s.val / 8 then x t s else 0 := by
  unfold within; rw [zeroM_up, sel_up near8]
theorem within4_up (x : RM) : within rowI colI 4#32 (up x) = up fun t s => if t.val / 4 = s.val / 4 then x t s else 0 := by
  unfold within; rw [zeroM_up, sel_up near4]
theorem within2_up (x : RM) : within rowI colI 2#32 (up x) = up fun t s => if t.val / 2 = s.val / 2 then x t s else 0 := by
  unfold within; rw [zeroM_up, sel_up near2]
theorem lvl_top (q k b : RM) : mulNT (scaled (up q) (up (eqR 64 b))) (scaled (up k) (up (ekR 64 b))) = up (lvA 64 q k b) := by
  rw [scaled_up, scaled_up, mulNT_up]
  refine congrArg up (funext fun t => funext fun s => lvA_eq q k b ?_)
  have := t.isLt; have := s.isLt; omega
theorem lvl_32 (q k b : RM) : within rowI colI 64#32 (mulNT (scaled (up q) (up (eqR 32 b))) (scaled (up k) (up (ekR 32 b)))) = up (lvA 32 q k b) := by
  rw [scaled_up, scaled_up, mulNT_up, within64_up]
  refine congrArg up (funext fun t => funext fun s => ?_)
  by_cases h : t.val / 64 = s.val / 64
  · rw [if_pos h]; exact lvA_eq q k b h
  · rw [if_neg h]; exact (lvA_far q k b h).symm
theorem lvl_16 (q k b : RM) : within rowI colI 32#32 (mulNT (scaled (up q) (up (eqR 16 b))) (scaled (up k) (up (ekR 16 b)))) = up (lvA 16 q k b) := by
  rw [scaled_up, scaled_up, mulNT_up, within32_up]
  refine congrArg up (funext fun t => funext fun s => ?_)
  by_cases h : t.val / 32 = s.val / 32
  · rw [if_pos h]; exact lvA_eq q k b h
  · rw [if_neg h]; exact (lvA_far q k b h).symm
theorem lvl_8 (q k b : RM) : within rowI colI 16#32 (mulNT (scaled (up q) (up (eqR 8 b))) (scaled (up k) (up (ekR 8 b)))) = up (lvA 8 q k b) := by
  rw [scaled_up, scaled_up, mulNT_up, within16_up]
  refine congrArg up (funext fun t => funext fun s => ?_)
  by_cases h : t.val / 16 = s.val / 16
  · rw [if_pos h]; exact lvA_eq q k b h
  · rw [if_neg h]; exact (lvA_far q k b h).symm
theorem lvl_4 (q k b : RM) : within rowI colI 8#32 (mulNT (scaled (up q) (up (eqR 4 b))) (scaled (up k) (up (ekR 4 b)))) = up (lvA 4 q k b) := by
  rw [scaled_up, scaled_up, mulNT_up, within8_up]
  refine congrArg up (funext fun t => funext fun s => ?_)
  by_cases h : t.val / 8 = s.val / 8
  · rw [if_pos h]; exact lvA_eq q k b h
  · rw [if_neg h]; exact (lvA_far q k b h).symm
theorem lvl_2 (q k b : RM) : within rowI colI 4#32 (mulNT (scaled (up q) (up (eqR 2 b))) (scaled (up k) (up (ekR 2 b)))) = up (lvA 2 q k b) := by
  rw [scaled_up, scaled_up, mulNT_up, within4_up]
  refine congrArg up (funext fun t => funext fun s => ?_)
  by_cases h : t.val / 4 = s.val / 4
  · rw [if_pos h]; exact lvA_eq q k b h
  · rw [if_neg h]; exact (lvA_far q k b h).symm
theorem lvl_1 (q k b : RM) : within rowI colI 2#32 (mulNT (scaled (up q) (up (eqR 1 b))) (scaled (up k) (up (ekR 1 b)))) = up (lvA 1 q k b) := by
  rw [scaled_up, scaled_up, mulNT_up, within2_up]
  refine congrArg up (funext fun t => funext fun s => ?_)
  by_cases h : t.val / 2 = s.val / 2
  · rw [if_pos h]; exact lvA_eq q k b h
  · rw [if_neg h]; exact (lvA_far q k b h).symm
/-- The gate is the decay from the position before, on the odd positions. -/
def Steps (b f : RM) : Prop := ∀ r l, Right 1 r → f r l = Real.exp (b r l - b (mi 1 r) l)

/-- The scores of a real chunk. -/
def scoreR (q k b : RM) : RM := fun t s => if s ≤ t then ∑ l, q t l * k s l * Real.exp (b t l - b s l) else 0

theorem scores_up {q k b f : RM} (h : Steps b f) : scores rowI rowI colI (up q) (up k) (up b) (up f) = up (scoreR q k b) := by
  unfold scores
  rw [eq64_up, ek64_up, eq32_up, ek32_up, eq16_up, ek16_up, eq8_up, ek8_up, eq4_up, ek4_up, eq2_up, ek2_up, eq1_up h, ek1_up b, diag_up, lvl_top, lvl_32, lvl_16, lvl_8, lvl_4, lvl_2, lvl_1, add_up, add_up, add_up, add_up, add_up, add_up, add_up]
  refine congrArg up (funext fun t => funext fun s => ?_)
  have hs := lvA_sum q k b t s
  unfold scoreR
  rcases lt_trichotomy s t with c | c | c
  · rw [if_pos c] at hs
    rw [if_pos c.le, ← hs, if_neg c.ne']; ring
  · subst c
    rw [if_neg (lt_irrefl _)] at hs
    rw [if_pos rfl, if_pos le_rfl]
    simp only [sub_self, Real.exp_zero, mul_one]
    linarith
  · rw [if_neg c.not_gt] at hs
    rw [if_neg (not_le.2 c), if_neg c.ne]; linarith

end Cert.KernelIdeal.Hgrn

end
-- ==== Proof.Grads.lean ====
/- The gradients inside a real chunk: of the queries, of the keys, of the values and of the running sums. -/
module

public import proofs.«01_k».proof.Proof.Scores

@[expose] public section

set_option maxRecDepth 16384

noncomputable section

namespace Cert.KernelIdeal.Hgrn

open Idealize.ShloMosaic Cert.KernelIdeal Cert.KernelIdeal.Gen Cert.KernelIdeal.Facts

theorem ge_iff' (t s : Fin 128) : cmpi .sge rowI colI (ix2 t s) = 1#1 ↔ s ≤ t := by
  pointwise; rw [rowI_ix, colI_ix]; exact sge_iff t s
theorem eq_iff' (t s : Fin 128) : cmpi .eq rowI colI (ix2 t s) = 1#1 ↔ t = s := by
  pointwise; rw [rowI_ix, colI_ix]; exact eq_iff t s

/-- The cotangent of a real chunk's scores. -/
def daR (d_o v : RM) : RM := fun t s => if s ≤ t then ∑ e, d_o t e * v s e else 0
theorem daOf_up (d_o v : RM) : daOf rowI colI (up16 d_o) (up16 v) = up (daR d_o v) := by
  unfold daOf; rw [mulNT_up, zeroM_up, sel_up ge_iff']; rfl
theorem ddOf_up (da : RM) : ddOf rowI colI (up da) = up fun t _ => da t t := by
  have h : select (cmpi .eq rowI colI) (up da) zeroM = up fun t s => if t = s then da t s else 0 := by rw [zeroM_up, sel_up eq_iff']
  unfold ddOf
  rw [h]
  refine eq_up fun t s => ?_
  pointwise
  simp only [up_ix, coe_sum, zero_add, Finset.sum_ite_eq, Finset.mem_univ, if_true]

theorem dqLvl_64 (da k b acc : RM) : dqLvl (lo (up da)) (scaled (up k) (up (ekR 64 b))) (up (eqR 64 b)) (up acc) = up fun t l => acc t l + lvQ 64 da k b t l := by
  unfold dqLvl
  have e : ∀ t s : Fin 128, da t s = if t.val / (2 * 64) = s.val / (2 * 64) then da t s else 0 := fun t s => by
    rw [if_pos]; have := t.isLt; have := s.isLt; omega
  rw [scaled_up, lo_up, mulNN_up, mul_up, add_up]
  refine congrArg up (funext fun t => funext fun l => ?_)
  rw [← lvQ_eq]
  simp only [← e]
theorem dkLvl_64 (da q b acc : RM) : dkLvl (lo (up da)) (scaled (up q) (up (eqR 64 b))) (up (ekR 64 b)) (up acc) = up fun s l => acc s l + lvK 64 da q b s l := by
  unfold dkLvl
  have e : ∀ t s : Fin 128, da t s = if t.val / (2 * 64) = s.val / (2 * 64) then da t s else 0 := fun t s => by
    rw [if_pos]; have := t.isLt; have := s.isLt; omega
  rw [scaled_up, lo_up, mulTN_up, mul_up, add_up]
  refine congrArg up (funext fun t => funext fun l => ?_)
  rw [← lvK_eq]
  simp only [← e]
theorem dbLvl_64 (da q k b acc : RM) : dbLvl (lo (up da)) (scaled (up q) (up (eqR 64 b))) (scaled (up k) (up (ekR 64 b))) (up acc) =
    up fun r l => acc r l + (q r l * lvQ 64 da k b r l - k r l * lvK 64 da q b r l) := by
  unfold dbLvl
  have e : ∀ t s : Fin 128, da t s = if t.val / (2 * 64) = s.val / (2 * 64) then da t s else 0 := fun t s => by
    rw [if_pos]; have := t.isLt; have := s.isLt; omega
  rw [scaled_up, scaled_up, lo_up, mulNN_up, mulTN_up, hi_up, hi_up, mul_up, mul_up, sub_up, add_up]
  refine congrArg up (funext fun t => funext fun l => ?_)
  rw [← lvQ_eq, ← lvK_eq]
  simp only [← e]
  ring
theorem dqLvl_32 (da k b acc : RM) : dqLvl (lo (within rowI colI 64#32 (up da))) (scaled (up k) (up (ekR 32 b))) (up (eqR 32 b)) (up acc) = up fun t l => acc t l + lvQ 32 da k b t l := by
  unfold dqLvl
  rw [within64_up, scaled_up, lo_up, mulNN_up, mul_up, add_up]
  refine congrArg up (funext fun t => funext fun l => ?_)
  rw [← lvQ_eq]
theorem dkLvl_32 (da q b acc : RM) : dkLvl (lo (within rowI colI 64#32 (up da))) (scaled (up q) (up (eqR 32 b))) (up (ekR 32 b)) (up acc) = up fun s l => acc s l + lvK 32 da q b s l := by
  unfold dkLvl
  rw [within64_up, scaled_up, lo_up, mulTN_up, mul_up, add_up]
  refine congrArg up (funext fun t => funext fun l => ?_)
  rw [← lvK_eq]
theorem dbLvl_32 (da q k b acc : RM) : dbLvl (lo (within rowI colI 64#32 (up da))) (scaled (up q) (up (eqR 32 b))) (scaled (up k) (up (ekR 32 b))) (up acc) =
    up fun r l => acc r l + (q r l * lvQ 32 da k b r l - k r l * lvK 32 da q b r l) := by
  unfold dbLvl
  rw [within64_up, scaled_up, scaled_up, lo_up, mulNN_up, mulTN_up, hi_up, hi_up, mul_up, mul_up, sub_up, add_up]
  refine congrArg up (funext fun t => funext fun l => ?_)
  rw [← lvQ_eq, ← lvK_eq]
  ring
theorem dqLvl_16 (da k b acc : RM) : dqLvl (lo (within rowI colI 32#32 (up da))) (scaled (up k) (up (ekR 16 b))) (up (eqR 16 b)) (up acc) = up fun t l => acc t l + lvQ 16 da k b t l := by
  unfold dqLvl
  rw [within32_up, scaled_up, lo_up, mulNN_up, mul_up, add_up]
  refine congrArg up (funext fun t => funext fun l => ?_)
  rw [← lvQ_eq]
theorem dkLvl_16 (da q b acc : RM) : dkLvl (lo (within rowI colI 32#32 (up da))) (scaled (up q) (up (eqR 16 b))) (up (ekR 16 b)) (up acc) = up fun s l => acc s l + lvK 16 da q b s l := by
  unfold dkLvl
  rw [within32_up, scaled_up, lo_up, mulTN_up, mul_up, add_up]
  refine congrArg up (funext fun t => funext fun l => ?_)
  rw [← lvK_eq]
theorem dbLvl_16 (da q k b acc : RM) : dbLvl (lo (within rowI colI 32#32 (up da))) (scaled (up q) (up (eqR 16 b))) (scaled (up k) (up (ekR 16 b))) (up acc) =
    up fun r l => acc r l + (q r l * lvQ 16 da k b r l - k r l * lvK 16 da q b r l) := by
  unfold dbLvl
  rw [within32_up, scaled_up, scaled_up, lo_up, mulNN_up, mulTN_up, hi_up, hi_up, mul_up, mul_up, sub_up, add_up]
  refine congrArg up (funext fun t => funext fun l => ?_)
  rw [← lvQ_eq, ← lvK_eq]
  ring
theorem dqLvl_8 (da k b acc : RM) : dqLvl (lo (within rowI colI 16#32 (up da))) (scaled (up k) (up (ekR 8 b))) (up (eqR 8 b)) (up acc) = up fun t l => acc t l + lvQ 8 da k b t l := by
  unfold dqLvl
  rw [within16_up, scaled_up, lo_up, mulNN_up, mul_up, add_up]
  refine congrArg up (funext fun t => funext fun l => ?_)
  rw [← lvQ_eq]
theorem dkLvl_8 (da q b acc : RM) : dkLvl (lo (within rowI colI 16#32 (up da))) (scaled (up q) (up (eqR 8 b))) (up (ekR 8 b)) (up acc) = up fun s l => acc s l + lvK 8 da q b s l := by
  unfold dkLvl
  rw [within16_up, scaled_up, lo_up, mulTN_up, mul_up, add_up]
  refine congrArg up (funext fun t => funext fun l => ?_)
  rw [← lvK_eq]
theorem dbLvl_8 (da q k b acc : RM) : dbLvl (lo (within rowI colI 16#32 (up da))) (scaled (up q) (up (eqR 8 b))) (scaled (up k) (up (ekR 8 b))) (up acc) =
    up fun r l => acc r l + (q r l * lvQ 8 da k b r l - k r l * lvK 8 da q b r l) := by
  unfold dbLvl
  rw [within16_up, scaled_up, scaled_up, lo_up, mulNN_up, mulTN_up, hi_up, hi_up, mul_up, mul_up, sub_up, add_up]
  refine congrArg up (funext fun t => funext fun l => ?_)
  rw [← lvQ_eq, ← lvK_eq]
  ring
theorem dqLvl_4 (da k b acc : RM) : dqLvl (lo (within rowI colI 8#32 (up da))) (scaled (up k) (up (ekR 4 b))) (up (eqR 4 b)) (up acc) = up fun t l => acc t l + lvQ 4 da k b t l := by
  unfold dqLvl
  rw [within8_up, scaled_up, lo_up, mulNN_up, mul_up, add_up]
  refine congrArg up (funext fun t => funext fun l => ?_)
  rw [← lvQ_eq]
theorem dkLvl_4 (da q b acc : RM) : dkLvl (lo (within rowI colI 8#32 (up da))) (scaled (up q) (up (eqR 4 b))) (up (ekR 4 b)) (up acc) = up fun s l => acc s l + lvK 4 da q b s l := by
  unfold dkLvl
  rw [within8_up, scaled_up, lo_up, mulTN_up, mul_up, add_up]
  refine congrArg up (funext fun t => funext fun l => ?_)
  rw [← lvK_eq]
theorem dbLvl_4 (da q k b acc : RM) : dbLvl (lo (within rowI colI 8#32 (up da))) (scaled (up q) (up (eqR 4 b))) (scaled (up k) (up (ekR 4 b))) (up acc) =
    up fun r l => acc r l + (q r l * lvQ 4 da k b r l - k r l * lvK 4 da q b r l) := by
  unfold dbLvl
  rw [within8_up, scaled_up, scaled_up, lo_up, mulNN_up, mulTN_up, hi_up, hi_up, mul_up, mul_up, sub_up, add_up]
  refine congrArg up (funext fun t => funext fun l => ?_)
  rw [← lvQ_eq, ← lvK_eq]
  ring
theorem dqLvl_2 (da k b acc : RM) : dqLvl (lo (within rowI colI 4#32 (up da))) (scaled (up k) (up (ekR 2 b))) (up (eqR 2 b)) (up acc) = up fun t l => acc t l + lvQ 2 da k b t l := by
  unfold dqLvl
  rw [within4_up, scaled_up, lo_up, mulNN_up, mul_up, add_up]
  refine congrArg up (funext fun t => funext fun l => ?_)
  rw [← lvQ_eq]
theorem dkLvl_2 (da q b acc : RM) : dkLvl (lo (within rowI colI 4#32 (up da))) (scaled (up q) (up (eqR 2 b))) (up (ekR 2 b)) (up acc) = up fun s l => acc s l + lvK 2 da q b s l := by
  unfold dkLvl
  rw [within4_up, scaled_up, lo_up, mulTN_up, mul_up, add_up]
  refine congrArg up (funext fun t => funext fun l => ?_)
  rw [← lvK_eq]
theorem dbLvl_2 (da q k b acc : RM) : dbLvl (lo (within rowI colI 4#32 (up da))) (scaled (up q) (up (eqR 2 b))) (scaled (up k) (up (ekR 2 b))) (up acc) =
    up fun r l => acc r l + (q r l * lvQ 2 da k b r l - k r l * lvK 2 da q b r l) := by
  unfold dbLvl
  rw [within4_up, scaled_up, scaled_up, lo_up, mulNN_up, mulTN_up, hi_up, hi_up, mul_up, mul_up, sub_up, add_up]
  refine congrArg up (funext fun t => funext fun l => ?_)
  rw [← lvQ_eq, ← lvK_eq]
  ring
theorem dqLvl_1 (da k b acc : RM) : dqLvl (lo (within rowI colI 2#32 (up da))) (scaled (up k) (up (ekR 1 b))) (up (eqR 1 b)) (up acc) = up fun t l => acc t l + lvQ 1 da k b t l := by
  unfold dqLvl
  rw [within2_up, scaled_up, lo_up, mulNN_up, mul_up, add_up]
  refine congrArg up (funext fun t => funext fun l => ?_)
  rw [← lvQ_eq]
theorem dkLvl_1 (da q b acc : RM) : dkLvl (lo (within rowI colI 2#32 (up da))) (scaled (up q) (up (eqR 1 b))) (up (ekR 1 b)) (up acc) = up fun s l => acc s l + lvK 1 da q b s l := by
  unfold dkLvl
  rw [within2_up, scaled_up, lo_up, mulTN_up, mul_up, add_up]
  refine congrArg up (funext fun t => funext fun l => ?_)
  rw [← lvK_eq]
theorem dbLvl_1 (da q k b acc : RM) : dbLvl (lo (within rowI colI 2#32 (up da))) (scaled (up q) (up (eqR 1 b))) (scaled (up k) (up (ekR 1 b))) (up acc) =
    up fun r l => acc r l + (q r l * lvQ 1 da k b r l - k r l * lvK 1 da q b r l) := by
  unfold dbLvl
  rw [within2_up, scaled_up, scaled_up, lo_up, mulNN_up, mulTN_up, hi_up, hi_up, mul_up, mul_up, sub_up, add_up]
  refine congrArg up (funext fun t => funext fun l => ?_)
  rw [← lvQ_eq, ← lvK_eq]
  ring

theorem hilo_up (x : RM) : hi (lo (up x)) = up x := rfl

theorem toEnd_up (b : RM) : toEnd (up b) = up fun r l => Real.exp (b 127 l - b r l) := by
  unfold toEnd; rw [lastRow_up, rows_up, sub_up, exp_up]

/-- The queries' gradient of a real chunk: through the state and through the chunk. -/
def dqR (k b da dq0 : RM) : RM := fun t l =>
  dq0 t l * Real.exp (b t l) + ∑ s, if s ≤ t then da t s * k s l * Real.exp (b t l - b s l) else 0
/-- The keys' gradient of a real chunk. -/
def dkR (q b da dkh : RM) : RM := fun s l =>
  dkh s l * Real.exp (b 127 l - b s l) + ∑ t, if s ≤ t then da t s * q t l * Real.exp (b t l - b s l) else 0
/-- The running sums' gradient of a real chunk. -/
def dbR (q k b da dq0 dkh : RM) : RM := fun r l =>
  dq0 r l * (q r l * Real.exp (b r l)) - dkh r l * (k r l * Real.exp (b 127 l - b r l)) +
    (q r l * (∑ s, if s < r then da r s * k s l * Real.exp (b r l - b s l) else 0) -
      k r l * ∑ t, if r < t then da t r * q t l * Real.exp (b t l - b r l) else 0)

theorem le_sum {p : Fin 128 → Prop} [DecidablePred p] (r : Fin 128) (hr : ¬ p r) (x : Fin 128 → ℝ) {q : Fin 128 → Prop} [DecidablePred q]
    (h : ∀ s, q s ↔ s = r ∨ p s) : (∑ s, if q s then x s else 0) = x r + ∑ s, if p s then x s else 0 := by
  have e : x r = ∑ s, if s = r then x s else 0 := by simp
  rw [e, ← Finset.sum_add_distrib]
  refine Finset.sum_congr rfl fun s _ => ?_
  by_cases hs : s = r
  · subst hs; rw [if_pos ((h s).2 (.inl rfl)), if_pos rfl, if_neg hr, add_zero]
  · by_cases hp : p s
    · rw [if_pos ((h s).2 (.inr hp)), if_neg hs, if_pos hp, zero_add]
    · rw [if_neg fun h' => ((h s).1 h').elim hs hp, if_neg hs, if_neg hp, zero_add]

theorem dqOf_up {k b f : RM} (h : Steps b f) (da dq0 : RM) :
    dqOf rowI rowI colI (up k) (up b) (up f) (up da) (up fun t _ => da t t) (up dq0) = up (dqR k b da dq0) := by
  unfold dqOf
  rw [eq64_up, ek64_up, eq32_up, ek32_up, eq16_up, ek16_up, eq8_up, ek8_up, eq4_up, ek4_up, eq2_up, ek2_up, eq1_up h, ek1_up b, exp_up, mul_up, mul_up, add_up, dqLvl_64, dqLvl_32, dqLvl_16, dqLvl_8, dqLvl_4, dqLvl_2, dqLvl_1]
  refine congrArg up (funext fun t => funext fun l => ?_)
  have hs := lvQ_sum da k b t l
  unfold dqR
  rw [le_sum (p := fun s => s < t) t (lt_irrefl t) (fun s => da t s * k s l * Real.exp (b t l - b s l)) (q := fun s => s ≤ t) fun s => le_iff_eq_or_lt,
    ← hs, sub_self, Real.exp_zero]
  ring
theorem dkOf_up {q b f : RM} (h : Steps b f) (da dkh : RM) :
    dkOf rowI rowI colI (up q) (up b) (up f) (up da) (up fun t _ => da t t) (up dkh) = up (dkR q b da dkh) := by
  unfold dkOf
  rw [eq64_up, ek64_up, eq32_up, ek32_up, eq16_up, ek16_up, eq8_up, ek8_up, eq4_up, ek4_up, eq2_up, ek2_up, eq1_up h, ek1_up b, toEnd_up, mul_up, mul_up, add_up, dkLvl_64, dkLvl_32, dkLvl_16, dkLvl_8, dkLvl_4, dkLvl_2, dkLvl_1]
  refine congrArg up (funext fun s => funext fun l => ?_)
  have hs := lvK_sum da q b s l
  unfold dkR
  rw [le_sum (p := fun t => s < t) s (lt_irrefl s) (fun t => da t s * q t l * Real.exp (b t l - b s l)) (q := fun t => s ≤ t) fun t => by rw [le_iff_eq_or_lt, eq_comm],
    ← hs, sub_self, Real.exp_zero]
  ring
theorem dbOf_up {q k b f : RM} (h : Steps b f) (da dq0 dkh : RM) :
    dbOf rowI rowI colI (up q) (up k) (up b) (up f) (up da) (up dq0) (up dkh) = up (dbR q k b da dq0 dkh) := by
  unfold dbOf
  rw [eq64_up, ek64_up, eq32_up, ek32_up, eq16_up, ek16_up, eq8_up, ek8_up, eq4_up, ek4_up, eq2_up, ek2_up, eq1_up h, ek1_up b, toEnd_up, exp_up, mul_up, mul_up, hilo_up, hilo_up, mul_up, mul_up, sub_up, dbLvl_64, dbLvl_32, dbLvl_16, dbLvl_8, dbLvl_4, dbLvl_2, dbLvl_1]
  refine congrArg up (funext fun r => funext fun l => ?_)
  unfold dbR
  rw [← lvQ_sum, ← lvK_sum]
  ring

end Cert.KernelIdeal.Hgrn

end
-- ==== Proof.Sequence.lean ====
/- The recurrence and its gradient over a whole sequence of real vectors, as finite sums over the positions, and how these
   sums are put together from chunks of 128 positions. Nothing here knows of the program. -/
module

public import Mathlib.Analysis.SpecialFunctions.Log.Basic
public import Mathlib.Algebra.BigOperators.Intervals
public import Mathlib.Algebra.BigOperators.Fin

@[expose] public section

noncomputable section

namespace Cert.KernelIdeal.Hgrn.Seq

open Finset

/-- A sequence of real vectors. -/
abbrev RS := ℕ → Fin 128 → ℝ

/-- The sequence's length. -/
abbrev N : ℕ := 4096

variable (q k v g d_o : RS)

/-- The sum of the first `n` log decays. -/
def P (l : Fin 128) (n : ℕ) : ℝ := ∑ i ∈ range n, g i l
/-- The decay from position `s` to position `t`. -/
def E (t s : ℕ) (l : Fin 128) : ℝ := Real.exp (P g l (t + 1) - P g l (s + 1))
/-- The scores. -/
def A (t s : ℕ) : ℝ := ∑ l, q t l * k s l * E g t s l
/-- The scores' cotangent. -/
def DA (t s : ℕ) : ℝ := ∑ e, d_o t e * v s e
/-- The outputs. -/
def O (t : ℕ) (e : Fin 128) : ℝ := ∑ s ∈ range (t + 1), A q k g t s * v s e
/-- The queries' gradient. -/
def DQ (t : ℕ) (l : Fin 128) : ℝ := ∑ s ∈ range (t + 1), DA v d_o t s * k s l * E g t s l
/-- The keys' gradient. -/
def DK (s : ℕ) (l : Fin 128) : ℝ := ∑ t ∈ Ico s N, DA v d_o t s * q t l * E g t s l
/-- The values' gradient. -/
def DV (s : ℕ) (e : Fin 128) : ℝ := ∑ t ∈ Ico s N, A q k g t s * d_o t e
/-- What a pair of positions adds to the gradient of the decay between them. -/
def W (t s : ℕ) (l : Fin 128) : ℝ := DA v d_o t s * (q t l * k s l * E g t s l)
/-- The running sums' gradient. -/
def DB (r : ℕ) (l : Fin 128) : ℝ := ∑ s ∈ range r, W q k v g d_o r s l - ∑ t ∈ Ico (r + 1) N, W q k v g d_o t r l
/-- The log decays' gradient. -/
def DG (r : ℕ) (l : Fin 128) : ℝ := ∑ t ∈ Ico r N, DB q k v g d_o t l
/-- The state before position `p`. -/
def ST (p : ℕ) (e l : Fin 128) : ℝ := ∑ s ∈ range p, Real.exp (P g l p - P g l (s + 1)) * k s l * v s e
/-- The state's cotangent before position `p`. -/
def DST (p : ℕ) (e l : Fin 128) : ℝ := ∑ t ∈ Ico p N, Real.exp (P g l (t + 1) - P g l p) * q t l * d_o t e

/-! ## Sums cut at a chunk's ends -/

theorem sum_fin (f : ℕ → ℝ) (c : ℕ → Prop) [DecidablePred c] : (∑ s : Fin 128, if c s.val then f s.val else 0) = ∑ s ∈ range 128, if c s then f s else 0 :=
  (Finset.sum_range fun s => if c s then f s else 0).symm

/-- A sum of the positions before `p + t`. -/
theorem below (f : ℕ → ℝ) (p : ℕ) {t : ℕ} (ht : t ≤ 128) :
    ∑ s ∈ range (p + t), f s = ∑ s ∈ range p, f s + ∑ s : Fin 128, if s.val < t then f (p + s.val) else 0 := by
  rw [sum_fin (fun s => f (p + s)) (fun s => s < t), ← sum_filter, sum_range_add]
  congr 1
  refine sum_congr ?_ fun _ _ => rfl
  ext s; simp only [mem_filter, mem_range]; omega
/-- A sum of the positions from `p + s`. -/
theorem above (f : ℕ → ℝ) {p s : ℕ} (hs : s ≤ 128) (hp : p + 128 ≤ N) :
    ∑ t ∈ Ico (p + s) N, f t = (∑ t : Fin 128, if s ≤ t.val then f (p + t.val) else 0) + ∑ t ∈ Ico (p + 128) N, f t := by
  rw [sum_fin (fun t => f (p + t)) (fun t => s ≤ t), ← sum_filter, ← sum_Ico_consecutive f (show p + s ≤ p + 128 by omega) hp]
  congr 1
  have e : (range 128).filter (fun t => s ≤ t) = Ico s 128 := by ext t; simp only [mem_filter, mem_range, mem_Ico]; omega
  rw [e, add_comm p s, add_comm p 128, ← sum_Ico_add' f s 128 p]
  exact sum_congr rfl fun t _ => by rw [add_comm]

/-! ## The chunk that begins at `p` -/

variable (p : ℕ)

/-- The chunk's running sums. -/
def bl (r l : Fin 128) : ℝ := P g l (p + r.val + 1) - P g l p

theorem bl_last (l : Fin 128) : bl g p 127 l = P g l (p + 128) - P g l p := rfl
theorem bl_diff (t s l : Fin 128) : Real.exp (bl g p t l - bl g p s l) = E g (p + t.val) (p + s.val) l := by
  unfold bl E; congr 1; ring
theorem bl_end (s l : Fin 128) : Real.exp (bl g p 127 l - bl g p s l) = Real.exp (P g l (p + 128) - P g l (p + s.val + 1)) := by
  rw [bl_last]; unfold bl; congr 1; ring

theorem st_step (e l : Fin 128) :
    Real.exp (bl g p 127 l) * ST k v g p e l + ∑ r : Fin 128, v (p + r.val) e * (k (p + r.val) l * Real.exp (bl g p 127 l - bl g p r l)) = ST k v g (p + 128) e l := by
  unfold ST
  rw [below _ p (le_refl 128), mul_sum]
  congr 1
  · refine sum_congr rfl fun s _ => ?_
    rw [← mul_assoc, ← mul_assoc, ← Real.exp_add, bl_last]
    congr 3; ring
  · refine sum_congr rfl fun r _ => ?_
    rw [if_pos r.isLt, bl_end]; ring

/-- Through the state: what the positions before the chunk add. -/
theorem past (x : ℝ) (t l : Fin 128) (s : ℕ) :
    Real.exp (bl g p t l) * (Real.exp (P g l p - P g l (s + 1)) * x) = x * E g (p + t.val) s l := by
  rw [← mul_assoc, ← Real.exp_add]
  unfold bl E
  rw [mul_comm]
  congr 2; ring
/-- Through the state's cotangent: what the positions after the chunk add. -/
theorem future (x : ℝ) (s l : Fin 128) (t : ℕ) :
    Real.exp (bl g p 127 l - bl g p s l) * (Real.exp (P g l (t + 1) - P g l (p + 128)) * x) = x * E g t (p + s.val) l := by
  rw [bl_end, ← mul_assoc, ← Real.exp_add]
  unfold E
  rw [mul_comm]
  congr 2; ring

theorem out_step (t e : Fin 128) :
    (∑ s : Fin 128, (if s ≤ t then ∑ l, q (p + t.val) l * k (p + s.val) l * Real.exp (bl g p t l - bl g p s l) else 0) * v (p + s.val) e) +
      ∑ l, q (p + t.val) l * Real.exp (bl g p t l) * ST k v g p e l = O q k v g (p + t.val) e := by
  unfold O
  rw [add_assoc p, below _ p (show t.val + 1 ≤ 128 by omega), add_comm]
  congr 1
  · simp only [ST, A, mul_sum, sum_mul]
    rw [sum_comm]
    refine sum_congr rfl fun s _ => sum_congr rfl fun l _ => ?_
    have := past g p (q (p + t.val) l * k s l * v s e) t l s
    linear_combination this
  · refine sum_congr rfl fun s _ => ?_
    by_cases h : s ≤ t
    · rw [if_pos h, if_pos (Nat.lt_succ_of_le h)]
      simp only [bl_diff]; rfl
    · rw [if_neg h, if_neg (fun h' => h (Nat.le_of_lt_succ h')), zero_mul]

/-- The state's part of the queries' gradient. -/
theorem dq0_eq (t l : Fin 128) : (∑ e, d_o (p + t.val) e * ST k v g p e l) * Real.exp (bl g p t l) =
    ∑ s ∈ range p, DA v d_o (p + t.val) s * k s l * E g (p + t.val) s l := by
  simp only [ST, DA, mul_sum, sum_mul]
  rw [sum_comm]
  refine sum_congr rfl fun s _ => sum_congr rfl fun e _ => ?_
  have := past g p (d_o (p + t.val) e * v s e * k s l) t l s
  linear_combination this
/-- The state's cotangent's part of the keys' gradient. -/
theorem dkh_eq (s l : Fin 128) : (∑ e, v (p + s.val) e * DST q g d_o (p + 128) e l) * Real.exp (bl g p 127 l - bl g p s l) =
    ∑ t ∈ Ico (p + 128) N, DA v d_o t (p + s.val) * q t l * E g t (p + s.val) l := by
  simp only [DST, DA, mul_sum, sum_mul]
  rw [sum_comm]
  refine sum_congr rfl fun t _ => sum_congr rfl fun e _ => ?_
  have := future g p (d_o t e * v (p + s.val) e * q t l) s l t
  linear_combination this

theorem dq_step (t l : Fin 128) :
    (∑ e, d_o (p + t.val) e * ST k v g p e l) * Real.exp (bl g p t l) +
      (∑ s : Fin 128, if s ≤ t then (if s ≤ t then ∑ e, d_o (p + t.val) e * v (p + s.val) e else 0) * k (p + s.val) l * Real.exp (bl g p t l - bl g p s l) else 0) =
    DQ k v g d_o (p + t.val) l := by
  unfold DQ
  rw [add_assoc p, below _ p (show t.val + 1 ≤ 128 by omega), dq0_eq]
  congr 1
  refine sum_congr rfl fun s _ => ?_
  by_cases h : s ≤ t
  · rw [if_pos h, if_pos h, if_pos (Nat.lt_succ_of_le h), bl_diff]; rfl
  · rw [if_neg h, if_neg (fun h' => h (Nat.le_of_lt_succ h'))]

theorem dk_step (hp : p + 128 ≤ N) (s l : Fin 128) :
    (∑ e, v (p + s.val) e * DST q g d_o (p + 128) e l) * Real.exp (bl g p 127 l - bl g p s l) +
      (∑ t : Fin 128, if s ≤ t then (if s ≤ t then ∑ e, d_o (p + t.val) e * v (p + s.val) e else 0) * q (p + t.val) l * Real.exp (bl g p t l - bl g p s l) else 0) =
    DK q v g d_o (p + s.val) l := by
  unfold DK
  rw [above _ (show s.val ≤ 128 by omega) hp, dkh_eq, add_comm]
  congr 1
  refine sum_congr rfl fun t _ => ?_
  by_cases h : s ≤ t
  · rw [if_pos h, if_pos h, if_pos (show s.val ≤ t.val from h), bl_diff]; rfl
  · rw [if_neg h, if_neg (show ¬ s.val ≤ t.val from h)]

theorem dv_step (hp : p + 128 ≤ N) (s e : Fin 128) :
    (∑ t : Fin 128, (if s ≤ t then ∑ l, q (p + t.val) l * k (p + s.val) l * Real.exp (bl g p t l - bl g p s l) else 0) * d_o (p + t.val) e) +
      (∑ l, k (p + s.val) l * Real.exp (bl g p 127 l - bl g p s l) * DST q g d_o (p + 128) e l) = DV q k g d_o (p + s.val) e := by
  unfold DV
  rw [above _ (show s.val ≤ 128 by omega) hp]
  congr 1
  · refine sum_congr rfl fun t _ => ?_
    by_cases h : s ≤ t
    · rw [if_pos h, if_pos (show s.val ≤ t.val from h)]
      simp only [bl_diff]; rfl
    · rw [if_neg h, if_neg (show ¬ s.val ≤ t.val from h), zero_mul]
  · simp only [DST, A, mul_sum, sum_mul]
    rw [sum_comm]
    refine sum_congr rfl fun t _ => sum_congr rfl fun l _ => ?_
    have := future g p (q t l * k (p + s.val) l * d_o t e) s l t
    linear_combination this

theorem dst_step (hp : p + 128 ≤ N) (e l : Fin 128) :
    Real.exp (bl g p 127 l) * DST q g d_o (p + 128) e l + (∑ r : Fin 128, d_o (p + r.val) e * (q (p + r.val) l * Real.exp (bl g p r l))) = DST q g d_o p e l := by
  have h := above (fun t => Real.exp (P g l (t + 1) - P g l p) * q t l * d_o t e) (show 0 ≤ 128 by omega) hp
  rw [Nat.add_zero] at h
  unfold DST
  rw [h, add_comm, mul_sum]
  congr 1
  · refine sum_congr rfl fun r _ => ?_
    rw [if_pos (Nat.zero_le _)]; unfold bl; ring
  · refine sum_congr rfl fun t _ => ?_
    rw [← mul_assoc, ← mul_assoc, ← Real.exp_add, bl_last]
    congr 3; ring

theorem db_step (hp : p + 128 ≤ N) (r l : Fin 128) :
    (∑ e, d_o (p + r.val) e * ST k v g p e l) * (q (p + r.val) l * Real.exp (bl g p r l)) -
        (∑ e, v (p + r.val) e * DST q g d_o (p + 128) e l) * (k (p + r.val) l * Real.exp (bl g p 127 l - bl g p r l)) +
      (q (p + r.val) l * (∑ s : Fin 128, if s < r then (if s ≤ r then ∑ e, d_o (p + r.val) e * v (p + s.val) e else 0) * k (p + s.val) l * Real.exp (bl g p r l - bl g p s l) else 0) -
        k (p + r.val) l * ∑ t : Fin 128, if r < t then (if r ≤ t then ∑ e, d_o (p + t.val) e * v (p + r.val) e else 0) * q (p + t.val) l * Real.exp (bl g p t l - bl g p r l) else 0) =
    DB q k v g d_o (p + r.val) l := by
  unfold DB
  rw [below _ p (show r.val ≤ 128 by omega), add_assoc p, above _ (show r.val + 1 ≤ 128 by omega) hp]
  have h1 : ∑ s ∈ range p, W q k v g d_o (p + r.val) s l = (∑ e, d_o (p + r.val) e * ST k v g p e l) * (q (p + r.val) l * Real.exp (bl g p r l)) := by
    have := dq0_eq k v g d_o p r l
    rw [show ∀ x y z : ℝ, x * (y * z) = y * (x * z) from fun x y z => by ring, this, mul_sum]
    exact sum_congr rfl fun s _ => by unfold W; ring
  have h2 : ∑ t ∈ Ico (p + 128) N, W q k v g d_o t (p + r.val) l =
      (∑ e, v (p + r.val) e * DST q g d_o (p + 128) e l) * (k (p + r.val) l * Real.exp (bl g p 127 l - bl g p r l)) := by
    have := dkh_eq q v g d_o p r l
    rw [show ∀ x y z : ℝ, x * (y * z) = y * (x * z) from fun x y z => by ring, this, mul_sum]
    exact sum_congr rfl fun s _ => by unfold W; ring
  have h3 : (∑ s : Fin 128, if s.val < r.val then W q k v g d_o (p + r.val) (p + s.val) l else 0) =
      q (p + r.val) l * (∑ s : Fin 128, if s < r then (if s ≤ r then ∑ e, d_o (p + r.val) e * v (p + s.val) e else 0) * k (p + s.val) l * Real.exp (bl g p r l - bl g p s l) else 0) := by
    rw [mul_sum]
    refine sum_congr rfl fun s _ => ?_
    by_cases h : s < r
    · rw [if_pos h, if_pos h.le, if_pos (show s.val < r.val from h), bl_diff]; unfold W DA; ring
    · rw [if_neg h, if_neg (show ¬ s.val < r.val from h), mul_zero]
  have h4 : (∑ t : Fin 128, if r.val + 1 ≤ t.val then W q k v g d_o (p + t.val) (p + r.val) l else 0) =
      k (p + r.val) l * ∑ t : Fin 128, if r < t then (if r ≤ t then ∑ e, d_o (p + t.val) e * v (p + r.val) e else 0) * q (p + t.val) l * Real.exp (bl g p t l - bl g p r l) else 0 := by
    rw [mul_sum]
    refine sum_congr rfl fun t _ => ?_
    by_cases h : r < t
    · rw [if_pos h, if_pos h.le, if_pos (show r.val + 1 ≤ t.val from h), bl_diff]; unfold W DA; ring
    · rw [if_neg h, if_neg (show ¬ r.val + 1 ≤ t.val from h), mul_zero]
  rw [h1, h2, h3, h4]
  ring

/-- From a position on, the running sums' gradients sum to what the pairs across the position add. -/
theorem db_tail (l : Fin 128) (m : ℕ) (hm : m ≤ N) :
    ∑ r ∈ Ico (N - m) N, DB q k v g d_o r l = ∑ t ∈ Ico (N - m) N, ∑ s ∈ range (N - m), W q k v g d_o t s l := by
  induction m with
  | zero => simp
  | succ m ih =>
    have ih := ih (by omega)
    obtain ⟨n, hn⟩ : ∃ n, n = N - (m + 1) := ⟨_, rfl⟩
    have h1 : N - m = n + 1 := by omega
    rw [h1] at ih
    have hb : n < N := by omega
    rw [← hn, sum_eq_sum_Ico_succ_bot hb (fun r => DB q k v g d_o r l), sum_eq_sum_Ico_succ_bot hb (fun t => ∑ s ∈ range n, W q k v g d_o t s l), ih]
    simp only [sum_range_succ, sum_add_distrib]
    unfold DB
    ring

theorem dbl_step (hp : p + 128 ≤ N) (l : Fin 128) :
    (∑ r : Fin 128, (∑ e, v (p + r.val) e * DST q g d_o (p + 128) e l) * (k (p + r.val) l * Real.exp (bl g p 127 l - bl g p r l))) +
      Real.exp (bl g p 127 l) * (∑ e, DST q g d_o (p + 128) e l * ST k v g p e l) = ∑ r ∈ Ico (p + 128) N, DB q k v g d_o r l := by
  have h := db_tail q k v g d_o l (N - (p + 128)) (by omega)
  rw [show N - (N - (p + 128)) = p + 128 by omega] at h
  rw [h]
  have h2 : ∀ t, ∑ s ∈ range (p + 128), W q k v g d_o t s l =
      ∑ s ∈ range p, W q k v g d_o t s l + ∑ s : Fin 128, W q k v g d_o t (p + s.val) l := fun t => by
    rw [below _ p (le_refl 128)]
    exact congrArg _ (sum_congr rfl fun s _ => if_pos s.isLt)
  simp only [h2, sum_add_distrib]
  rw [add_comm]
  congr 1
  · have h3 : ∀ e, Real.exp (bl g p 127 l) * (DST q g d_o (p + 128) e l * ST k v g p e l) =
        ∑ t ∈ Ico (p + 128) N, ∑ s ∈ range p, d_o t e * v s e * (q t l * k s l * E g t s l) := fun e => by
      unfold DST ST
      rw [sum_mul_sum, mul_sum]
      refine sum_congr rfl fun t _ => ?_
      rw [mul_sum]
      refine sum_congr rfl fun s _ => ?_
      have : E g t s l = Real.exp (bl g p 127 l) * (Real.exp (P g l (t + 1) - P g l (p + 128)) * Real.exp (P g l p - P g l (s + 1))) := by
        rw [← Real.exp_add, ← Real.exp_add, bl_last]; unfold E; congr 1; ring
      rw [this]; ring
    rw [mul_sum, sum_congr rfl fun e _ => h3 e, sum_comm]
    refine sum_congr rfl fun t _ => ?_
    rw [sum_comm]
    refine sum_congr rfl fun s _ => ?_
    unfold W DA
    rw [sum_mul]
  · rw [sum_comm]
    refine sum_congr rfl fun r _ => ?_
    have := dkh_eq q v g d_o p r l
    rw [show ∀ x y z : ℝ, x * (y * z) = y * (x * z) from fun x y z => by ring, this, mul_sum]
    exact sum_congr rfl fun s _ => by unfold W; ring

theorem dg_step (hp : p + 128 ≤ N) (r l : Fin 128) :
    (∑ t : Fin 128, if r ≤ t then DB q k v g d_o (p + t.val) l else 0) + (∑ r ∈ Ico (p + 128) N, DB q k v g d_o r l) = DG q k v g d_o (p + r.val) l := by
  unfold DG
  rw [above _ (show r.val ≤ 128 by omega) hp]
  rfl

theorem DST_end (e l : Fin 128) : DST q g d_o N e l = 0 := by simp [DST]
theorem ST_zero (e l : Fin 128) : ST k v g 0 e l = 0 := by simp [ST]

end Cert.KernelIdeal.Hgrn.Seq

end
-- ==== Proof.BwdTrip.lean ====
/- One trip of the gradient's loop: two chunks one after the other, from the sequence's end. -/
module

public import proofs.«01_k».proof.Proof.Chunk

@[expose] public section

noncomputable section

namespace Cert.KernelIdeal.Hgrn

open Idealize.ShloMosaic Idealize.ShloMosaic.TcCoe Cert.KernelIdeal Cert.KernelIdeal.Gen Cert.KernelIdeal.Facts

variable {F : FTy → Type} [FloatOps F]

/-- The rows of the trip's first chunk. -/
def bRowsA (arg : Memref sig .tc .vmem S4096x128 .f32) (X : BufTy.Contents (Elt F) arg.view.ty) (k : Fin k1_t1_loop.trips) : Mat F :=
  View.readAt (Elt F) arg.view (Rect.unit (s := S4096x128) (k1_off1 k) S128x128.size (k1_off1_inb k)).toLoadRect X
/-- The rows of the trip's second chunk. -/
def bRowsB (arg : Memref sig .tc .vmem S4096x128 .f32) (X : BufTy.Contents (Elt F) arg.view.ty) (k : Fin k1_t1_loop.trips) : Mat F :=
  View.readAt (Elt F) arg.view (Rect.unit (s := S4096x128) (k1_off6 k) S128x128.size (k1_off6_inb k)).toLoadRect X
/-- The saved state before the trip's first chunk. -/
def bStA (arg : Memref sig .tc .vmem S1x32x128x128 .f32) (X : BufTy.Contents (Elt F) arg.view.ty) (k : Fin k1_t1_loop.trips) : Mat F :=
  savedSt (View.readAt (Elt F) arg.view (Rect.unit (s := S1x32x128x128) (k1_off2 k) S1x1x128x128.size (k1_off2_inb k)).toLoadRect X)
/-- The saved state before the trip's second chunk. -/
def bStB (arg : Memref sig .tc .vmem S1x32x128x128 .f32) (X : BufTy.Contents (Elt F) arg.view.ty) (k : Fin k1_t1_loop.trips) : Mat F :=
  savedSt (View.readAt (Elt F) arg.view (Rect.unit (s := S1x32x128x128) (k1_off7 k) S1x1x128x128.size (k1_off7_inb k)).toLoadRect X)

/-- The chunk's last position. -/
def lastPos : IVec S128x128 1 := cmpi .eq (iota .tc S128x128 32 [0] iota_S128x128_d0_w32) (broadcast S128x128 127#32)

section
variable (𝒱 : Variants) (c : Dev nD) (bd : Option 𝒱.V) (i : grid1.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S1x128 .f32) (harg4 : arg4.IsWhole) (arg5 : Memref sig .tc .vmem S1x32x128x128 .f32) (harg5 : arg5.IsWhole) (arg6 : Memref sig .tc .vmem S4096x128 .f32) (harg6 : arg6.IsWhole) (arg7 : Memref sig .tc .vmem S4096x128 .bf16) (harg7 : arg7.IsWhole) (arg8 : Memref sig .tc .vmem S4x4096x128 .bf16) (harg8 : arg8.IsWhole) (arg9 : Memref sig .tc .vmem S8x128 .f32) (harg9 : arg9.IsWhole) (v4 : Vec F S1x128 .f32) (v5 : IVec S128x128 32) (v6 : IVec S128x128 32) (v7 : IVec S128x128 32) (X1 : BufTy.Contents (Elt F) arg1.view.ty) (X2 : BufTy.Contents (Elt F) arg2.view.ty) (X3 : BufTy.Contents (Elt F) arg3.view.ty) (X5 : BufTy.Contents (Elt F) arg5.view.ty) (X6 : BufTy.Contents (Elt F) arg6.view.ty) (k : Fin k1_t1_loop.trips) (acc : Mat F × Row F)

/-- The state cotangent between the trip's two chunks. -/
def bMid : Mat F := bwdCot v5 v4 (bRowsA arg1 X1 k) (bRowsA arg2 X2 k) (bRowsA arg6 X6 k) acc.1
/-- The lower bound's gradient between the trip's two chunks. -/
def bMidLb : Row F :=
  bwdDlb v5 v6 v7 lastPos v4 (bRowsA arg1 X1 k) (bRowsA arg2 X2 k) (bRowsA arg3 X3 k) (bRowsA arg6 X6 k) (bStA arg5 X5 k) acc.1 acc.2

theorem bMid_eq : trip_k1_t1.sl.r_69 arg1 arg2 arg6 v4 v5 X1 X2 X6 k acc = bMid arg1 arg2 arg6 v4 v5 X1 X2 X6 k acc := rfl

theorem bMidLb_eq : trip_k1_t1.sl.r_67 arg1 arg2 arg3 arg5 arg6 v4 v5 v6 v7 X1 X2 X3 X5 X6 k acc = bMidLb arg1 arg2 arg3 arg5 arg6 v4 v5 v6 v7 X1 X2 X3 X5 X6 k acc := rfl

/-- The trip yields the cotangent and the lower bound's gradient after its two chunks. -/
theorem tripR_bwd : tripR_k1_t1 𝒱 c bd i arg1 harg1 arg2 harg2 arg3 harg3 arg4 harg4 arg5 harg5 arg6 harg6 arg7 harg7 arg8 harg8 arg9 harg9 v4 v5 v6 v7 X1 X2 X3 X5 X6 k acc =
    (bwdCot v5 v4 (bRowsB arg1 X1 k) (bRowsB arg2 X2 k) (bRowsB arg6 X6 k) (bMid arg1 arg2 arg6 v4 v5 X1 X2 X6 k acc),
     bwdDlb v5 v6 v7 lastPos v4 (bRowsB arg1 X1 k) (bRowsB arg2 X2 k) (bRowsB arg3 X3 k) (bRowsB arg6 X6 k) (bStB arg5 X5 k)
       (bMid arg1 arg2 arg6 v4 v5 X1 X2 X6 k acc) (bMidLb arg1 arg2 arg3 arg5 arg6 v4 v5 v6 v7 X1 X2 X3 X5 X6 k acc)) := by
  rw [← bMid_eq, ← bMidLb_eq]
  delta tripR_k1_t1 trip_k1_t1
  rfl

/-- The trip stores, for each of its two chunks, the gradients of the values, of the gate's logits and of the queries. -/
theorem tripL_bwd : tripL_k1_t1 𝒱 c bd i arg1 harg1 arg2 harg2 arg3 harg3 arg4 harg4 arg5 harg5 arg6 harg6 arg7 harg7 arg8 harg8 arg9 harg9 v4 v5 v6 v7 X1 X2 X3 X5 X6 k acc =
    [⟨Rect.unit (k1_off10 k) S1x128x128.size (k1_off10_inb k), plane (bwdDqr v5 v6 v7 v4 (bRowsB arg1 X1 k) (bRowsB arg2 X2 k) (bRowsB arg3 X3 k) (bRowsB arg6 X6 k) (bStB arg5 X5 k))⟩,
     ⟨Rect.unit (k1_off9 k) S1x128x128.size (k1_off9_inb k), plane (bwdDf v5 v6 v7 lastPos v4 (bRowsB arg1 X1 k) (bRowsB arg2 X2 k) (bRowsB arg3 X3 k) (bRowsB arg6 X6 k) (bStB arg5 X5 k) (bMid arg1 arg2 arg6 v4 v5 X1 X2 X6 k acc))⟩,
     ⟨Rect.unit (k1_off8 k) S1x128x128.size (k1_off8_inb k), plane (bwdDv v5 v6 v7 v4 (bRowsB arg1 X1 k) (bRowsB arg2 X2 k) (bRowsB arg6 X6 k) (bMid arg1 arg2 arg6 v4 v5 X1 X2 X6 k acc))⟩,
     ⟨Rect.unit (k1_off5 k) S1x128x128.size (k1_off5_inb k), plane (bwdDqr v5 v6 v7 v4 (bRowsA arg1 X1 k) (bRowsA arg2 X2 k) (bRowsA arg3 X3 k) (bRowsA arg6 X6 k) (bStA arg5 X5 k))⟩,
     ⟨Rect.unit (k1_off4 k) S1x128x128.size (k1_off4_inb k), plane (bwdDf v5 v6 v7 lastPos v4 (bRowsA arg1 X1 k) (bRowsA arg2 X2 k) (bRowsA arg3 X3 k) (bRowsA arg6 X6 k) (bStA arg5 X5 k) acc.1)⟩,
     ⟨Rect.unit (k1_off3 k) S1x128x128.size (k1_off3_inb k), plane (bwdDv v5 v6 v7 v4 (bRowsA arg1 X1 k) (bRowsA arg2 X2 k) (bRowsA arg6 X6 k) acc.1)⟩] := by
  rw [← bMid_eq]
  delta tripL_k1_t1 trip_k1_t1
  rfl

end

end Cert.KernelIdeal.Hgrn

end
-- ==== Proof.ChunkValue.lean ====
/- What the chunk's functions compute of the chunk of a real sequence that begins at a position `p`. -/
module

public import proofs.«01_k».proof.Proof.Grads
public import proofs.«01_k».proof.Proof.Sequence
public import proofs.«01_k».proof.Proof.BwdTrip

@[expose] public section

set_option maxRecDepth 16384

noncomputable section

namespace Cert.KernelIdeal.Hgrn

open Idealize.ShloMosaic Cert.KernelIdeal Cert.KernelIdeal.Gen Cert.KernelIdeal.Facts
open Seq (RS)

/-- The rows of a sequence's chunk. -/
def ch (p : ℕ) (x : RS) : RM := fun r l => x (p + r.val) l

variable (lb : Fin 128 → ℝ) (qr fr v d_o : RS)

/-- The queries. -/
def Qs : RS := fun t l => qg (qr t l)
/-- The forget gates. -/
def Fs : RS := fun t l => fg (lb l) (fr t l)
/-- The keys. -/
def Ks : RS := fun t l => 1 - Fs lb fr t l
/-- The log decays. -/
def Gs : RS := fun t l => Real.log (Fs lb fr t l)

/-- The outputs of the sequence. -/
def outV : RS := fun t e => Seq.O (Qs qr) (Ks lb fr) v (Gs lb fr) t e
/-- The state before a position. -/
def stV (p : ℕ) : RM := fun e l => Seq.ST (Ks lb fr) v (Gs lb fr) p e l
/-- The state's cotangent before a position. -/
def dstV (p : ℕ) : RM := fun e l => Seq.DST (Qs qr) (Gs lb fr) d_o p e l
/-- The gradient of the values. -/
def dvV : RS := fun t e => Seq.DV (Qs qr) (Ks lb fr) (Gs lb fr) d_o t e
/-- The gradient of the raw queries. -/
def dqV : RS := fun t l => Seq.DQ (Ks lb fr) v (Gs lb fr) d_o t l * qsc * (sg (qr t l) * (1 + qr t l * (1 - sg (qr t l))))
/-- The gradient of the forget gates. -/
def dfgV : RS := fun t l => Seq.DG (Qs qr) (Ks lb fr) v (Gs lb fr) d_o t l / Fs lb fr t l - Seq.DK (Qs qr) v (Gs lb fr) d_o t l
/-- The gradient of the gates' logits. -/
def dfV : RS := fun t l => dfgV lb qr fr v d_o t l * (1 - lb l) * sg (fr t l) * (1 - sg (fr t l))
/-- What the positions from `p` on add to the lower bound's gradient. -/
def dlbV (p : ℕ) : Fin 128 → ℝ := fun l => ∑ t ∈ Finset.Ico p Seq.N, dfgV lb qr fr v d_o t l * (1 - sg (fr t l))

theorem Fs_pos (h : ∀ l, 0 ≤ lb l) (t : ℕ) (l : Fin 128) : 0 < Fs lb fr t l := fg_pos (h l) _

theorem pre_eq (g : RS) (p : ℕ) (l : Fin 128) {n : ℕ} (hn : n ≤ 128) : pre (fun i => ch p g i l) n = Seq.P g l (p + n) - Seq.P g l p := by
  unfold Seq.P
  rw [Seq.below _ p hn, add_sub_cancel_left]
  rfl

variable (p : ℕ)

theorem chF_pos (h : ∀ l, 0 ≤ lb l) (r l : Fin 128) : 0 < ch p (Fs lb fr) r l := Fs_pos lb fr h _ l
theorem f_up : gateF (upRow lb) (up (ch p fr)) = up (ch p (Fs lb fr)) := gateF_up _ _
theorem q_up : gateQ (up (ch p qr)) = up (ch p (Qs qr)) := gateQ_up _
theorem k_up : gateK (up (ch p (Fs lb fr))) = up (ch p (Ks lb fr)) := gateK_up _
theorem b_up (h : ∀ l, 0 ≤ lb l) : decay rowI (log (up (ch p (Fs lb fr)))) = up (Seq.bl (Gs lb fr) p) := by
  rw [log_up (chF_pos lb fr p h), decay_up]
  refine congrArg up (funext fun r => funext fun l => ?_)
  exact pre_eq (Gs lb fr) p l (show r.val + 1 ≤ 128 by omega)
theorem steps (h : ∀ l, 0 ≤ lb l) : Steps (Seq.bl (Gs lb fr) p) (ch p (Fs lb fr)) := by
  intro r l hr
  have h0 : (mi 1 r).val + 1 = r.val := by
    have := r.isLt
    unfold Right at hr
    simp only [mi]; omega
  have h1 : Seq.bl (Gs lb fr) p r l - Seq.bl (Gs lb fr) p (mi 1 r) l = Gs lb fr (p + r.val) l := by
    unfold Seq.bl Seq.P
    rw [add_assoc p (mi 1 r).val 1, h0, Finset.sum_range_succ]; ring
  rw [h1, Gs, Real.exp_log (Fs_pos lb fr h _ l)]; rfl

theorem stateNext_up (b k w st : RM) : stateNext (up b) (up k) (up16 w) (up st) =
    up fun e l => Real.exp (b 127 l) * st e l + ∑ r, w r e * (k r l * Real.exp (b 127 l - b r l)) := by
  unfold stateNext
  rw [lastRow_up, expRow_up, rows_up, mul_up, toEnd_up, mul_up, lo_up, mulTN_up, add_up]
theorem outOf_up (a q b w st : RM) : outOf (up a) (up q) (up b) (up16 w) (up st) =
    up fun t e => (∑ s, a t s * w s e) + ∑ l, q t l * Real.exp (b t l) * st e l := by
  unfold outOf
  rw [exp_up, mul_up, lo_up, lo_up, lo_up, mulNN_up, mulNT_up, add_up]
theorem cotNext_up (b q d dst : RM) : cotNext (up b) (up q) (up16 d) (up dst) =
    up fun e l => Real.exp (b 127 l) * dst e l + ∑ r, d r e * (q r l * Real.exp (b r l)) := by
  unfold cotNext
  rw [lastRow_up, expRow_up, rows_up, mul_up, exp_up, mul_up, lo_up, mulTN_up, add_up]
theorem dvOf_up (a k b d dst : RM) : dvOf (up a) (up k) (up b) (up16 d) (up dst) =
    up fun s e => (∑ t, a t s * d t e) + ∑ l, k s l * Real.exp (b 127 l - b s l) * dst e l := by
  unfold dvOf
  rw [toEnd_up, mul_up, lo_up, lo_up, lo_up, mulTN_up, mulNT_up, add_up]
theorem dblOf_up (k b dkh dst st : RM) : dblOf (up k) (up b) (up dkh) (up dst) (up st) =
    upRow fun l => (∑ r, dkh r l * (k r l * Real.exp (b 127 l - b r l))) + Real.exp (b 127 l) * ∑ e, dst e l * st e l := by
  unfold dblOf
  rw [toEnd_up, mul_up, hilo_up, mul_up, colSum_up, lastRow_up, expRow_up, mul_up, colSum_up, mulRow_up, addRow_up]
theorem last_iff (r l : Fin 128) : lastPos (ix2 r l) = 1#1 ↔ r = 127 := by
  unfold lastPos; pointwise; exact eq_iff r 127
theorem dgOf_up (db : RM) (dbl : Fin 128 → ℝ) : dgOf rowI lastPos (up db) (upRow dbl) =
    up fun r l => (∑ t, if r ≤ t then db t l else 0) + dbl l := by
  have h0 : shapeCast S1x128 (upRow dbl) shapeCasts_S1x128_S1x128 = upRow dbl := eq_upRow fun l => by pointwise; rfl
  unfold dgOf
  rw [h0, rows_up, zeroM_up, sel_up last_iff, add_up, suffix_up]
  refine congrArg up (funext fun r => funext fun l => ?_)
  unfold tail pre
  rw [← Finset.sum_sub_distrib]
  have e : dbl l = ∑ t : Fin 128, if t = 127 then dbl l else 0 := by simp
  conv_rhs => rw [e, ← Finset.sum_add_distrib]
  refine Finset.sum_congr rfl fun t _ => ?_
  have ht := t.isLt
  have hr := r.isLt
  rw [if_pos ht]
  by_cases h : r ≤ t
  · rw [if_pos h, if_neg (show ¬ t.val < r.val from not_lt.2 h), sub_zero]
  · have hn : t ≠ 127 := by rintro rfl; exact h (Fin.le_last r)
    rw [if_neg h, if_pos (show t.val < r.val from not_le.1 h), if_neg hn, sub_self, zero_add]
theorem dfgOf_up (dg dk : RM) {f : RM} (h : ∀ r l, f r l ≠ 0) : dfgOf (up dg) (up f) (up dk) = up fun r l => dg r l / f r l - dk r l := by
  unfold dfgOf; rw [div_up _ h, sub_up]
theorem dfOf_up (dfg s : RM) : dfOf (upRow lb) (up dfg) (up s) = up fun r l => dfg r l * (1 - lb l) * s r l * (1 - s r l) := by
  unfold dfOf; rw [lbc_up, rows_up, mul_up, mul_up, oneM_up, sub_up, mul_up]
theorem dqrOf_up (dq x s : RM) : dqrOf (up dq) (up x) (up s) = up fun r l => dq r l * qsc * (s r l * (1 + x r l * (1 - s r l))) := by
  have : (broadcast S128x128 (Scalar.ofBits (F := Ideal) .f32 0x3DB504F3#32) : Mat Ideal) = up fun _ _ => qsc :=
    eq_up fun r l => by pointwise; exact qsc_coe
  unfold dqrOf; rw [this, mul_up, oneM_up, sub_up, mul_up, add_up, mul_up, mul_up]

/-! ## The forward step -/

theorem fwdState_up (h : ∀ l, 0 ≤ lb l) : fwdState rowI (upRow lb) (up (ch p fr)) (up (ch p v)) (up (stV lb fr v p)) = up (stV lb fr v (p + 128)) := by
  unfold fwdState
  rw [f_up, b_up lb fr p h, k_up, lo_up, stateNext_up]
  exact congrArg up (funext fun e => funext fun l => Seq.st_step _ _ _ p e l)
theorem fwdOut_up (h : ∀ l, 0 ≤ lb l) : fwdOut rowI rowI colI (upRow lb) (up (ch p qr)) (up (ch p fr)) (up (ch p v)) (up (stV lb fr v p)) =
    up (ch p (outV lb qr fr v)) := by
  unfold fwdOut
  rw [f_up, b_up lb fr p h, k_up, q_up, lo_up, scores_up (steps lb fr p h), outOf_up]
  exact congrArg up (funext fun t => funext fun e => Seq.out_step (Qs qr) _ _ _ p t e)

/-! ## The backward step -/

theorem bwdCot_up (h : ∀ l, 0 ≤ lb l) (hp : p + 128 ≤ Seq.N) :
    bwdCot rowI (upRow lb) (up (ch p qr)) (up (ch p fr)) (up (ch p d_o)) (up (dstV lb qr fr d_o (p + 128))) = up (dstV lb qr fr d_o p) := by
  unfold bwdCot bB
  rw [f_up, b_up lb fr p h, q_up, lo_up, cotNext_up]
  exact congrArg up (funext fun e => funext fun l => Seq.dst_step _ _ _ p hp e l)
theorem bwdDv_up (h : ∀ l, 0 ≤ lb l) (hp : p + 128 ≤ Seq.N) :
    bwdDv rowI rowI colI (upRow lb) (up (ch p qr)) (up (ch p fr)) (up (ch p d_o)) (up (dstV lb qr fr d_o (p + 128))) = up (ch p (dvV lb qr fr d_o)) := by
  unfold bwdDv bB
  rw [f_up, b_up lb fr p h, k_up, q_up, lo_up, scores_up (steps lb fr p h), dvOf_up]
  exact congrArg up (funext fun e => funext fun l => Seq.dv_step _ _ _ _ p hp e l)
/-- The state's part of the cotangent of the queries. -/
def dq0R : RM := fun t l => ∑ e, d_o (p + t.val) e * Seq.ST (Ks lb fr) v (Gs lb fr) p e l
/-- The state's cotangent's part of the cotangent of the keys. -/
def dkhR : RM := fun s l => ∑ e, v (p + s.val) e * Seq.DST (Qs qr) (Gs lb fr) d_o (p + 128) e l
theorem bDq0_up : bDq0 (up (ch p d_o)) (up (stV lb fr v p)) = up (dq0R lb fr v d_o p) := by
  unfold bDq0; rw [lo_up, lo_up, mulNN_up]; rfl
theorem bDkh_up : bDkh (up (ch p v)) (up (dstV lb qr fr d_o (p + 128))) = up (dkhR lb qr fr v d_o p) := by
  unfold bDkh; rw [lo_up, lo_up, mulNN_up]; rfl
theorem bDa_up : bDa rowI colI (up (ch p v)) (up (ch p d_o)) = up (daR (ch p d_o) (ch p v)) := by
  unfold bDa; rw [lo_up, lo_up, daOf_up]
theorem bwdDqr_up (h : ∀ l, 0 ≤ lb l) :
    bwdDqr rowI rowI colI (upRow lb) (up (ch p qr)) (up (ch p fr)) (up (ch p v)) (up (ch p d_o)) (up (stV lb fr v p)) = up (ch p (dqV lb qr fr v d_o)) := by
  unfold bwdDqr bwdDq bB
  rw [f_up, b_up lb fr p h, k_up, bDa_up, ddOf_up, bDq0_up, dqOf_up (steps lb fr p h), sigm_up, dqrOf_up]
  refine congrArg up (funext fun t => funext fun l => ?_)
  have := Seq.dq_step (Ks lb fr) v (Gs lb fr) d_o p t l
  unfold ch dqV
  rw [← this]; rfl
theorem bwdDk_up (h : ∀ l, 0 ≤ lb l) (hp : p + 128 ≤ Seq.N) :
    bwdDk rowI rowI colI (upRow lb) (up (ch p qr)) (up (ch p fr)) (up (ch p v)) (up (ch p d_o)) (up (dstV lb qr fr d_o (p + 128))) =
      up fun s l => Seq.DK (Qs qr) v (Gs lb fr) d_o (p + s.val) l := by
  unfold bwdDk bB
  rw [f_up, b_up lb fr p h, q_up, bDa_up, ddOf_up, bDkh_up, dkOf_up (steps lb fr p h)]
  exact congrArg up (funext fun s => funext fun l => Seq.dk_step (Qs qr) v (Gs lb fr) d_o p hp s l)
theorem bwdDfg_up (h : ∀ l, 0 ≤ lb l) (hp : p + 128 ≤ Seq.N) :
    bwdDfg rowI rowI colI lastPos (upRow lb) (up (ch p qr)) (up (ch p fr)) (up (ch p v)) (up (ch p d_o)) (up (stV lb fr v p)) (up (dstV lb qr fr d_o (p + 128))) =
      up (ch p (dfgV lb qr fr v d_o)) := by
  unfold bwdDfg
  rw [bwdDk_up lb qr fr v d_o p h hp]
  unfold bwdDb bB
  rw [f_up, b_up lb fr p h, k_up, q_up, bDa_up, bDq0_up, bDkh_up, dbOf_up (steps lb fr p h), dblOf_up, dgOf_up, dfgOf_up _ _ fun r l => (chF_pos lb fr p h r l).ne']
  refine congrArg up (funext fun r => funext fun l => ?_)
  have h1 := Seq.dg_step (Qs qr) (Ks lb fr) v (Gs lb fr) d_o p hp r l
  have h2 := Seq.dbl_step (Qs qr) (Ks lb fr) v (Gs lb fr) d_o p hp l
  have h3 : ∀ t, dbR (ch p (Qs qr)) (ch p (Ks lb fr)) (Seq.bl (Gs lb fr) p) (daR (ch p d_o) (ch p v)) (dq0R lb fr v d_o p) (dkhR lb qr fr v d_o p) t l =
      Seq.DB (Qs qr) (Ks lb fr) v (Gs lb fr) d_o (p + t.val) l := fun t => Seq.db_step (Qs qr) (Ks lb fr) v (Gs lb fr) d_o p hp t l
  simp only [h3]
  show _ = Seq.DG (Qs qr) (Ks lb fr) v (Gs lb fr) d_o (p + r.val) l / _ - _
  rw [← h1, ← h2]; rfl
theorem bwdDf_up (h : ∀ l, 0 ≤ lb l) (hp : p + 128 ≤ Seq.N) :
    bwdDf rowI rowI colI lastPos (upRow lb) (up (ch p qr)) (up (ch p fr)) (up (ch p v)) (up (ch p d_o)) (up (stV lb fr v p)) (up (dstV lb qr fr d_o (p + 128))) =
      up (ch p (dfV lb qr fr v d_o)) := by
  unfold bwdDf
  rw [bwdDfg_up lb qr fr v d_o p h hp, sigm_up, dfOf_up]; rfl
theorem bwdDlb_up (h : ∀ l, 0 ≤ lb l) (hp : p + 128 ≤ Seq.N) :
    bwdDlb rowI rowI colI lastPos (upRow lb) (up (ch p qr)) (up (ch p fr)) (up (ch p v)) (up (ch p d_o)) (up (stV lb fr v p)) (up (dstV lb qr fr d_o (p + 128)))
      (upRow (dlbV lb qr fr v d_o (p + 128))) = upRow (dlbV lb qr fr v d_o p) := by
  unfold bwdDlb
  rw [bwdDfg_up lb qr fr v d_o p h hp, sigm_up, oneM_up, sub_up, mul_up, colSum_up, addRow_up]
  refine congrArg upRow (funext fun l => ?_)
  have := Seq.above (fun t => dfgV lb qr fr v d_o t l * (1 - sg (fr t l))) (show 0 ≤ 128 by omega) hp
  rw [Nat.add_zero] at this
  unfold dlbV
  rw [this, add_comm]
  exact congrArg (· + _) (Finset.sum_congr rfl fun r _ => (if_pos (Nat.zero_le _)).symm)

end Cert.KernelIdeal.Hgrn

end
-- ==== Proof.FwdTrip.lean ====
/- One trip of the recurrence's loop: four chunks one after the other. -/
module

public import proofs.«01_k».proof.Proof.Chunk

@[expose] public section

noncomputable section

namespace Cert.KernelIdeal.Hgrn

open Idealize.ShloMosaic Idealize.ShloMosaic.TcCoe Cert.KernelIdeal Cert.KernelIdeal.Gen Cert.KernelIdeal.Facts

variable {F : FTy → Type} [FloatOps F]

/-- The rows of chunk `u` of trip `k`. -/
def fRows (arg : Memref sig .tc .vmem S4096x128 .f32) (X : BufTy.Contents (Elt F) arg.view.ty) (k : Fin k0_t1_loop.trips) (u : Fin 4) : Mat F :=
  View.readAt (Elt F) arg.view (Rect.unit (s := S4096x128) (k0_off1 k (BitVec.ofNat 32 u.val)) S128x128.size (k0_off1_inb k u)).toLoadRect X

section
variable (𝒱 : Variants) (c : Dev nD) (bd : Option 𝒱.V) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S1x128 .f32) (harg4 : arg4.IsWhole) (arg5 : Memref sig .tc .vmem S4096x128 .f32) (harg5 : arg5.IsWhole) (arg6 : Memref sig .tc .vmem S1x32x128x128 .f32) (harg6 : arg6.IsWhole) (v0 : Vec F S1x128 .f32) (v1 : IVec S128x128 32) (v2 : IVec S128x128 32) (v3 : IVec S128x128 32) (X1 : BufTy.Contents (Elt F) arg1.view.ty) (X2 : BufTy.Contents (Elt F) arg2.view.ty) (X3 : BufTy.Contents (Elt F) arg3.view.ty) (k : Fin k0_t1_loop.trips) (acc : Mat F)

/-- The state before chunk `u` of the trip, from the state before the trip. -/
def fSt : Nat → Mat F
  | 0 => acc
  | u + 1 => fwdState v1 v0 (fRows arg2 X2 k (Fin.ofNat 4 u)) (fRows arg3 X3 k (Fin.ofNat 4 u)) (fSt u)

/-- The output of chunk `u` of the trip. -/
def fOut (u : Fin 4) : Mat F :=
  fwdOut v1 v2 v3 v0 (fRows arg1 X1 k u) (fRows arg2 X2 k u) (fRows arg3 X3 k u) (fSt arg2 arg3 v0 v1 X2 X3 k acc u.val)

theorem fSt1 : trip_k0_t1.sl.r_26 arg2 arg3 v0 v1 X2 X3 k acc = fSt arg2 arg3 v0 v1 X2 X3 k acc 1 := rfl
theorem fSt2 : trip_k0_t1.sl.r_57 arg2 arg3 v0 v1 X2 X3 k acc = fSt arg2 arg3 v0 v1 X2 X3 k acc 2 := by
  rw [fSt, ← fSt1]; rfl
theorem fSt3 : trip_k0_t1.sl.r_86 arg2 arg3 v0 v1 X2 X3 k acc = fSt arg2 arg3 v0 v1 X2 X3 k acc 3 := by
  rw [fSt, ← fSt2]; rfl

/-- The trip yields the state after its four chunks. -/
theorem tripR_fwd : tripR_k0_t1 𝒱 c bd i arg1 harg1 arg2 harg2 arg3 harg3 arg4 harg4 arg5 harg5 arg6 harg6 v0 v1 v2 v3 X1 X2 X3 k acc = fSt arg2 arg3 v0 v1 X2 X3 k acc 4 := by
  rw [fSt, ← fSt3]
  delta tripR_k0_t1 trip_k0_t1
  rfl

/-- The trip stores its four chunks' outputs, the last in front. -/
theorem tripO_fwd : (tripL_k0_t1 𝒱 c bd i arg1 harg1 arg2 harg2 arg3 harg3 arg4 harg4 arg5 harg5 arg6 harg6 v0 v1 v2 v3 X1 X2 X3 k acc).1 =
    [⟨Rect.unit (k0_off1 k (BitVec.ofNat 32 3)) S128x128.size (k0_off1_inb k 3), fOut arg1 arg2 arg3 v0 v1 v2 v3 X1 X2 X3 k acc 3⟩,
     ⟨Rect.unit (k0_off1 k (BitVec.ofNat 32 2)) S128x128.size (k0_off1_inb k 2), fOut arg1 arg2 arg3 v0 v1 v2 v3 X1 X2 X3 k acc 2⟩,
     ⟨Rect.unit (k0_off1 k (BitVec.ofNat 32 1)) S128x128.size (k0_off1_inb k 1), fOut arg1 arg2 arg3 v0 v1 v2 v3 X1 X2 X3 k acc 1⟩,
     ⟨Rect.unit (k0_off1 k (BitVec.ofNat 32 0)) S128x128.size (k0_off1_inb k 0), fOut arg1 arg2 arg3 v0 v1 v2 v3 X1 X2 X3 k acc 0⟩] := by
  have e1 : fSt arg2 arg3 v0 v1 X2 X3 k acc (1 : Fin 4).val = _ := (fSt1 arg2 arg3 v0 v1 X2 X3 k acc).symm
  have e2 : fSt arg2 arg3 v0 v1 X2 X3 k acc (2 : Fin 4).val = _ := (fSt2 arg2 arg3 v0 v1 X2 X3 k acc).symm
  have e3 : fSt arg2 arg3 v0 v1 X2 X3 k acc (3 : Fin 4).val = _ := (fSt3 arg2 arg3 v0 v1 X2 X3 k acc).symm
  unfold fOut
  rw [e1, e2, e3]
  delta tripL_k0_t1 trip_k0_t1
  rfl

/-- The trip stores the states before its four chunks, the last in front. -/
theorem tripS_fwd : (tripL_k0_t1 𝒱 c bd i arg1 harg1 arg2 harg2 arg3 harg3 arg4 harg4 arg5 harg5 arg6 harg6 v0 v1 v2 v3 X1 X2 X3 k acc).2 =
    [⟨Rect.unit (k0_off2 k (BitVec.ofNat 32 3)) S1x1x128x128.size (k0_off2_inb k 3), saveSt (fSt arg2 arg3 v0 v1 X2 X3 k acc 3)⟩,
     ⟨Rect.unit (k0_off2 k (BitVec.ofNat 32 2)) S1x1x128x128.size (k0_off2_inb k 2), saveSt (fSt arg2 arg3 v0 v1 X2 X3 k acc 2)⟩,
     ⟨Rect.unit (k0_off2 k (BitVec.ofNat 32 1)) S1x1x128x128.size (k0_off2_inb k 1), saveSt (fSt arg2 arg3 v0 v1 X2 X3 k acc 1)⟩,
     ⟨Rect.unit (k0_off2 k (BitVec.ofNat 32 0)) S1x1x128x128.size (k0_off2_inb k 0), saveSt acc⟩] := by
  rw [← fSt1, ← fSt2, ← fSt3]
  delta tripL_k0_t1 trip_k0_t1
  rfl

end

end Cert.KernelIdeal.Hgrn

end
-- ==== Proof.FwdLoop.lean ====
/- The recurrence's loop over one head: the chunks' outputs and states are those of the whole sequence. -/
module

public import proofs.«01_k».proof.Proof.ChunkValue
public import proofs.«01_k».proof.Proof.FwdTrip
public import Idealize.ShloMosaic.Lib.Pipeline.ValueKit
public import Idealize.ShloMosaic.Lib.Pipeline.ReadBack

@[expose] public section

set_option maxRecDepth 16384

noncomputable section

namespace Cert.KernelIdeal.Hgrn

open Idealize.ShloMosaic Idealize.ShloMosaic.TcCoe Cert.KernelIdeal Cert.KernelIdeal.Gen Cert.KernelIdeal.Facts
open Seq (RS)

/-- A head's real sequence as a block of an array. -/
def upS (x : RS) : Vec Ideal S4096x128 .f32 := fun j => ((x (j 0).val (j 1) : ℝ) : EReal)
/-- A head's states before its chunks as a block of an array. -/
def upStates (st : ℕ → RM) : Vec Ideal S1x32x128x128 .f32 := fun j => ((st (128 * (j 1).val) (j 2) (j 3) : ℝ) : EReal)

theorem piecesOf_append {S : Shape} {e : EltTy} {G : S.Idx → Elt Ideal e} {L L' : List (View.Piece (Elt Ideal) S e)}
    (h : View.PiecesOf G L) (h' : View.PiecesOf G L') : View.PiecesOf G (L ++ L') := by
  induction L with
  | nil => exact h'
  | cons p L ih => exact ⟨h.1, ih h.2⟩

theorem canon_of_piecesOf {S : Shape} {e : EltTy} (G : S.Idx → Elt Ideal e) {L : List (View.Piece (Elt Ideal) S e)}
    (h : View.PiecesOf G L) (hc : ∀ y, ∃ p ∈ L, y ∈ p.1.set) : View.canon L = G := by
  funext y
  have := View.canon_append_of_piecesOf G [] L h y (hc y)
  rwa [List.append_nil] at this

theorem off1_eq : ∀ (k : Fin 8) (u : Fin 4), k0_off1 k (BitVec.ofNat 32 u.val) 0 = 512 * k.val + 128 * u.val ∧ k0_off1 k (BitVec.ofNat 32 u.val) 1 = 0 := by
  decide +kernel
theorem off2_eq : ∀ (k : Fin 8) (u : Fin 4), k0_off2 k (BitVec.ofNat 32 u.val) 0 = 0 ∧ k0_off2 k (BitVec.ofNat 32 u.val) 1 = 4 * k.val + u.val ∧
    k0_off2 k (BitVec.ofNat 32 u.val) 2 = 0 ∧ k0_off2 k (BitVec.ofNat 32 u.val) 3 = 0 := by
  decide +kernel

/-- A rectangle of whole rows of a head's block holds the sequence's rows from its first on. -/
theorem upS_rect (x : RS) {off : Fin 2 → ℕ} (inb : ∀ a, off a + S128x128.size a ≤ S4096x128.size a) {p : ℕ} (h0 : off 0 = p) (h1 : off 1 = 0)
    (j : S128x128.Idx) : upS x ((Rect.unit (s := S4096x128) off S128x128.size inb).idx j) = up (ch p x) j := by
  unfold upS up ch
  have e0 : ((Rect.unit (s := S4096x128) off S128x128.size inb).idx j 0 : ℕ) = p + (j 0).val := by
    rw [LoadRect.idx_apply]; show off 0 + 1 * (j 0).val = _; rw [h0, one_mul]
  have e1 : (Rect.unit (s := S4096x128) off S128x128.size inb).idx j 1 = j 1 := Fin.ext (by
    rw [LoadRect.idx_apply]; show off 1 + 1 * (j 1).val = _; rw [h1, one_mul, zero_add])
  rw [e0, e1]

/-- One slot of a head's states holds the state before its chunk. -/
theorem upStates_rect (st : ℕ → RM) {off : Fin 4 → ℕ} (inb : ∀ a, off a + S1x1x128x128.size a ≤ S1x32x128x128.size a) {i : ℕ} (h1 : off 1 = i)
    (h2 : off 2 = 0) (h3 : off 3 = 0) (j : S1x1x128x128.Idx) :
    upStates st ((Rect.unit (s := S1x32x128x128) off S1x1x128x128.size inb).idx j) = saveSt (up (st (128 * i))) j := by
  have hs : saveSt (up (st (128 * i))) j = ((st (128 * i) (j 2) (j 3) : ℝ) : EReal) := by
    idx_vars j
    unfold saveSt; pointwise
    rfl
  rw [hs]
  unfold upStates
  have e1 : ((Rect.unit (s := S1x32x128x128) off S1x1x128x128.size inb).idx j 1 : ℕ) = i := by
    rw [LoadRect.idx_apply]; show off 1 + 1 * (j 1).val = _
    have : (j 1).val < 1 := (j 1).isLt
    omega
  have e2 : (Rect.unit (s := S1x32x128x128) off S1x1x128x128.size inb).idx j 2 = j 2 := Fin.ext (by
    rw [LoadRect.idx_apply]; show off 2 + 1 * (j 2).val = _; omega)
  have e3 : (Rect.unit (s := S1x32x128x128) off S1x1x128x128.size inb).idx j 3 = j 3 := Fin.ext (by
    rw [LoadRect.idx_apply]; show off 3 + 1 * (j 3).val = _; omega)
  rw [e1, e2, e3]

theorem fRows_up {arg : Memref sig .tc .vmem S4096x128 .f32} (harg : arg.IsWhole) (x : RS) (k : Fin k0_t1_loop.trips) (u : Fin 4) :
    fRows arg (harg.unread (upS x)) k u = up (ch (512 * k.val + 128 * u.val) x) := by
  funext j
  unfold fRows
  rw [View.readAt_eq_ld, harg.read_unread]
  exact upS_rect x _ (off1_eq k u).1 (off1_eq k u).2 j

section
variable (c : Dev nD) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S1x128 .f32) (harg4 : arg4.IsWhole) (arg5 : Memref sig .tc .vmem S4096x128 .f32) (harg5 : arg5.IsWhole) (arg6 : Memref sig .tc .vmem S1x32x128x128 .f32) (harg6 : arg6.IsWhole)

/-- The loop's state before trip `n`. -/
def fLoop (x0 x1 x2 : Vec Ideal S4096x128 .f32) (v0 : Vec Ideal S1x128 .f32) (n : ℕ) :=
  st_k0_t1 Variants.none c none i arg1 harg1 arg2 harg2 arg3 harg3 arg4 harg4 arg5 harg5 arg6 harg6 v0 rowI rowI colI (harg1.unread x0) (harg2.unread x1) (harg3.unread x2) zeroM n

variable (lb : Fin 128 → ℝ) (qr fr v : RS)

theorem fSt_up (h : ∀ l, 0 ≤ lb l) (k : Fin k0_t1_loop.trips) (u : ℕ) (hu : u ≤ 4) :
    fSt arg2 arg3 (upRow lb) rowI (harg2.unread (upS fr)) (harg3.unread (upS v)) k (up (stV lb fr v (512 * k.val))) u = up (stV lb fr v (512 * k.val + 128 * u)) := by
  induction u with
  | zero => rfl
  | succ u ih =>
    have hv : (Fin.ofNat 4 u).val = u := Nat.mod_eq_of_lt (by omega)
    rw [fSt, ih (by omega), fRows_up, fRows_up, hv, fwdState_up lb fr v _ h, Nat.mul_succ, ← add_assoc]

theorem fOut_up (h : ∀ l, 0 ≤ lb l) (k : Fin k0_t1_loop.trips) (u : Fin 4) :
    fOut arg1 arg2 arg3 (upRow lb) rowI rowI colI (harg1.unread (upS qr)) (harg2.unread (upS fr)) (harg3.unread (upS v)) k (up (stV lb fr v (512 * k.val))) u
      = up (ch (512 * k.val + 128 * u.val) (outV lb qr fr v)) := by
  unfold fOut
  rw [fSt_up arg2 harg2 arg3 harg3 lb fr v h k u.val (by omega), fRows_up, fRows_up, fRows_up, fwdOut_up lb qr fr v _ h]

/-- The loop carries the sequence's state and stores the sequence's outputs and states. -/
theorem fLoop_up (h : ∀ l, 0 ≤ lb l) (n : ℕ) (hn : n ≤ 8) :
    (fLoop c i arg1 harg1 arg2 harg2 arg3 harg3 arg4 harg4 arg5 harg5 arg6 harg6 (upS qr) (upS fr) (upS v) (upRow lb) n).1 = up (stV lb fr v (512 * n)) ∧
    View.PiecesOf (upS (outV lb qr fr v)) (fLoop c i arg1 harg1 arg2 harg2 arg3 harg3 arg4 harg4 arg5 harg5 arg6 harg6 (upS qr) (upS fr) (upS v) (upRow lb) n).2.1 ∧
    View.PiecesOf (upStates (stV lb fr v)) (fLoop c i arg1 harg1 arg2 harg2 arg3 harg3 arg4 harg4 arg5 harg5 arg6 harg6 (upS qr) (upS fr) (upS v) (upRow lb) n).2.2 := by
  induction n with
  | zero =>
    refine ⟨?_, trivial, trivial⟩
    show (zeroM : Mat Ideal) = _
    rw [zeroM_up]
    refine congrArg up ?_
    funext e l
    exact (Seq.ST_zero ..).symm
  | succ n ih =>
    obtain ⟨ih1, ih2, ih3⟩ := ih (by omega)
    let k : Fin k0_t1_loop.trips := ⟨n, Nat.lt_of_lt_of_le (Nat.lt_succ_self n) hn⟩
    have hk : k.val = n := rfl
    unfold fLoop at ih1 ih2 ih3 ⊢
    rw [st_k0_t1_succ (F := Ideal) Variants.none c none i arg1 harg1 arg2 harg2 arg3 harg3 arg4 harg4 arg5 harg5 arg6 harg6 (upRow lb) rowI rowI colI _ _ _ zeroM k]
    rw [hk, ih1, ← hk, tripR_fwd, tripO_fwd, tripS_fwd, fSt_up arg2 harg2 arg3 harg3 lb fr v h k 4 le_rfl, fSt_up arg2 harg2 arg3 harg3 lb fr v h k 3 (by omega),
      fSt_up arg2 harg2 arg3 harg3 lb fr v h k 2 (by omega), fSt_up arg2 harg2 arg3 harg3 lb fr v h k 1 (by omega)]
    simp only [fOut_up arg1 harg1 arg2 harg2 arg3 harg3 lb qr fr v h k]
    have ho : ∀ (u : Fin 4) (x : S128x128.Idx), up (ch (512 * k.val + 128 * u.val) (outV lb qr fr v)) x
        = upS (outV lb qr fr v) ((Rect.unit (s := S4096x128) (k0_off1 k (BitVec.ofNat 32 u.val)) S128x128.size (k0_off1_inb k u)).idx x) := fun u x =>
      (upS_rect _ (k0_off1_inb k u) (off1_eq k u).1 (off1_eq k u).2 x).symm
    have hs : ∀ (u : Fin 4) (x : S1x1x128x128.Idx), saveSt (up (stV lb fr v (512 * k.val + 128 * u.val))) x
        = upStates (stV lb fr v) ((Rect.unit (s := S1x32x128x128) (k0_off2 k (BitVec.ofNat 32 u.val)) S1x1x128x128.size (k0_off2_inb k u)).idx x) := fun u x => by
      rw [upStates_rect _ (k0_off2_inb k u) (off2_eq k u).2.1 (off2_eq k u).2.2.1 (off2_eq k u).2.2.2 x]
      rw [show 128 * (4 * k.val + u.val) = 512 * k.val + 128 * u.val by ring]
    refine ⟨congrArg (fun p => up (stV lb fr v p)) (by rw [hk]; ring), ?_, ?_⟩
    · exact ⟨ho 3, ho 2, ho 1, ho 0, ih2⟩
    · exact ⟨hs 3, hs 2, hs 1, hs 0, ih3⟩

/-- The lower bound's row is read whole. -/
theorem row_read (arg : Memref sig .tc .vmem S1x128 .f32) (harg : arg.IsWhole) (x : Vec Ideal S1x128 .f32) :
    View.readAt (Elt Ideal) arg.view (Rect.unit (s := S1x128) ![0, 0] ![1, 128] inb_S1x128_S1x128_0_0).toLoadRect (harg.unread x) = x := by
  funext j
  rw [View.readAt_eq_ld, harg.read_unread]
  refine congrArg x ?_
  funext a
  refine Fin.ext ?_
  rw [LoadRect.idx_apply]
  show ![0, 0] a + 1 * (j a).val = _
  fin_cases a <;> simp

/-- The call's stores of outputs are the loop's. -/
theorem run0_o (x0 x1 x2 : Vec Ideal S4096x128 .f32) (x3 : Vec Ideal S1x128 .f32) :
    (kernelRun0_A c i arg1 harg1 arg2 harg2 arg3 harg3 arg4 harg4 arg5 harg5 arg6 harg6 x0 x1 x2 x3).1
      = (fLoop c i arg1 harg1 arg2 harg2 arg3 harg3 arg4 harg4 arg5 harg5 arg6 harg6 x0 x1 x2 x3 8).2.1 := by
  have e : (kernelRun0_A c i arg1 harg1 arg2 harg2 arg3 harg3 arg4 harg4 arg5 harg5 arg6 harg6 x0 x1 x2 x3).1
      = (fLoop c i arg1 harg1 arg2 harg2 arg3 harg3 arg4 harg4 arg5 harg5 arg6 harg6 x0 x1 x2
        (View.readAt (Elt Ideal) arg4.view (Rect.unit (s := S1x128) ![0, 0] ![1, 128] inb_S1x128_S1x128_0_0).toLoadRect (harg4.unread x3)) 8).2.1 := by
    delta kernelRun0_A
    dsimp only
    unfold fLoop
    rfl
  rw [e, row_read]

/-- The call's stores of states are the loop's. -/
theorem run0_s (x0 x1 x2 : Vec Ideal S4096x128 .f32) (x3 : Vec Ideal S1x128 .f32) :
    (kernelRun0_A c i arg1 harg1 arg2 harg2 arg3 harg3 arg4 harg4 arg5 harg5 arg6 harg6 x0 x1 x2 x3).2.1
      = (fLoop c i arg1 harg1 arg2 harg2 arg3 harg3 arg4 harg4 arg5 harg5 arg6 harg6 x0 x1 x2 x3 8).2.2 := by
  have e : (kernelRun0_A c i arg1 harg1 arg2 harg2 arg3 harg3 arg4 harg4 arg5 harg5 arg6 harg6 x0 x1 x2 x3).2.1
      = (fLoop c i arg1 harg1 arg2 harg2 arg3 harg3 arg4 harg4 arg5 harg5 arg6 harg6 x0 x1 x2
        (View.readAt (Elt Ideal) arg4.view (Rect.unit (s := S1x128) ![0, 0] ![1, 128] inb_S1x128_S1x128_0_0).toLoadRect (harg4.unread x3)) 8).2.2 := by
    delta kernelRun0_A
    dsimp only
    unfold fLoop
    rfl
  rw [e, row_read]

/-- The outputs the call leaves in a head's block. -/
theorem out0_o (h : ∀ l, 0 ≤ lb l) :
    out0_A_4 c i arg1 harg1 arg2 harg2 arg3 harg3 arg4 harg4 arg5 harg5 arg6 harg6 (upS qr) (upS fr) (upS v) (upRow lb) = upS (outV lb qr fr v) := by
  unfold out0_A_4
  rw [View.read_writes_junk_eq_canon]
  refine canon_of_piecesOf _ ?_ (cover0_A_4 c i arg1 harg1 arg2 harg2 arg3 harg3 arg4 harg4 arg5 harg5 arg6 harg6 _ _ _ _)
  rw [run0_o]
  exact (fLoop_up c i arg1 harg1 arg2 harg2 arg3 harg3 arg4 harg4 arg5 harg5 arg6 harg6 lb qr fr v h 8 le_rfl).2.1

/-- The states the call leaves in a head's block. -/
theorem out0_s (h : ∀ l, 0 ≤ lb l) :
    out0_A_5 c i arg1 harg1 arg2 harg2 arg3 harg3 arg4 harg4 arg5 harg5 arg6 harg6 (upS qr) (upS fr) (upS v) (upRow lb) = upStates (stV lb fr v) := by
  unfold out0_A_5
  rw [View.read_writes_junk_eq_canon]
  refine canon_of_piecesOf _ ?_ (cover0_A_5 c i arg1 harg1 arg2 harg2 arg3 harg3 arg4 harg4 arg5 harg5 arg6 harg6 _ _ _ _)
  rw [run0_s]
  exact (fLoop_up c i arg1 harg1 arg2 harg2 arg3 harg3 arg4 harg4 arg5 harg5 arg6 harg6 lb qr fr v h 8 le_rfl).2.2

end

end Cert.KernelIdeal.Hgrn

end
-- ==== Proof.BwdLoop.lean ====
/- The gradient's loop over one head: the chunks' gradients are those of the whole sequence. -/
module

public import proofs.«01_k».proof.Proof.FwdLoop

@[expose] public section

set_option maxRecDepth 16384

noncomputable section

namespace Cert.KernelIdeal.Hgrn

open Idealize.ShloMosaic Idealize.ShloMosaic.TcCoe Cert.KernelIdeal Cert.KernelIdeal.Gen Cert.KernelIdeal.Facts
open Seq (RS)

/-- Four planes of a head as a block of an array. -/
def upPlanes (pl : Fin 4 → ℕ → Fin 128 → EReal) : Vec Ideal S4x4096x128 .bf16 := fun j => pl (j 0) (j 1).val (j 2)
/-- A head's sequence of extended reals as a block of an array. -/
def upG (dg : ℕ → Fin 128 → EReal) : Vec Ideal S4096x128 .bf16 := fun j => dg (j 0).val (j 1)
/-- The planes: the gradients of the queries, the gates' logits and the values, and the fourth as given. -/
def planes (dq df dv : RS) (dg : ℕ → Fin 128 → EReal) : Fin 4 → ℕ → Fin 128 → EReal :=
  ![fun t l => ((dq t l : ℝ) : EReal), fun t l => ((df t l : ℝ) : EReal), fun t l => ((dv t l : ℝ) : EReal), dg]
/-- A head's row beside seven rows of zeros. -/
def upTop (x : Fin 128 → ℝ) : Vec Ideal S8x128 .f32 := fun j => if (j 0).val = 0 then ((x (j 1) : ℝ) : EReal) else 0

theorem off16 : ∀ k : Fin 16, (k1_off1 k 0 = 128 * (31 - 2 * k.val) ∧ k1_off1 k 1 = 0) ∧ (k1_off6 k 0 = 128 * (30 - 2 * k.val) ∧ k1_off6 k 1 = 0) := by
  decide +kernel
theorem off27 : ∀ k : Fin 16, (k1_off2 k 1 = 31 - 2 * k.val ∧ k1_off2 k 2 = 0 ∧ k1_off2 k 3 = 0) ∧ (k1_off7 k 1 = 30 - 2 * k.val ∧ k1_off7 k 2 = 0 ∧ k1_off7 k 3 = 0) := by
  decide +kernel
theorem off345 : ∀ k : Fin 16, (k1_off3 k 0 = 2 ∧ k1_off3 k 1 = 128 * (31 - 2 * k.val) ∧ k1_off3 k 2 = 0) ∧
    (k1_off4 k 0 = 1 ∧ k1_off4 k 1 = 128 * (31 - 2 * k.val) ∧ k1_off4 k 2 = 0) ∧ (k1_off5 k 0 = 0 ∧ k1_off5 k 1 = 128 * (31 - 2 * k.val) ∧ k1_off5 k 2 = 0) := by
  decide +kernel
theorem off8910 : ∀ k : Fin 16, (k1_off8 k 0 = 2 ∧ k1_off8 k 1 = 128 * (30 - 2 * k.val) ∧ k1_off8 k 2 = 0) ∧
    (k1_off9 k 0 = 1 ∧ k1_off9 k 1 = 128 * (30 - 2 * k.val) ∧ k1_off9 k 2 = 0) ∧ (k1_off10 k 0 = 0 ∧ k1_off10 k 1 = 128 * (30 - 2 * k.val) ∧ k1_off10 k 2 = 0) := by
  decide +kernel

/-- A chunk of a plane. -/
theorem upPlanes_rect (pl : Fin 4 → ℕ → Fin 128 → EReal) (x : RS) {off : Fin 3 → ℕ} (inb : ∀ a, off a + S1x128x128.size a ≤ S4x4096x128.size a) {n : Fin 4} {p : ℕ}
    (hx : pl n = fun t l => ((x t l : ℝ) : EReal)) (h : off 0 = n.val ∧ off 1 = p ∧ off 2 = 0) (j : S1x128x128.Idx) :
    plane (up (ch p x)) j = upPlanes pl ((Rect.unit (s := S4x4096x128) off S1x128x128.size inb).idx j) := by
  obtain ⟨h0, h1, h2⟩ := h
  have hs : plane (up (ch p x)) j = ((x (p + (j 1).val) (j 2) : ℝ) : EReal) := by
    idx_vars j
    unfold plane; pointwise
    rfl
  rw [hs]
  unfold upPlanes
  have e0 : (Rect.unit (s := S4x4096x128) off S1x128x128.size inb).idx j 0 = n := Fin.ext (by
    rw [LoadRect.idx_apply]; show off 0 + 1 * (j 0).val = _
    have : (j 0).val < 1 := (j 0).isLt
    omega)
  have e1 : ((Rect.unit (s := S4x4096x128) off S1x128x128.size inb).idx j 1 : ℕ) = p + (j 1).val := by
    rw [LoadRect.idx_apply]; show off 1 + 1 * (j 1).val = _; omega
  have e2 : (Rect.unit (s := S4x4096x128) off S1x128x128.size inb).idx j 2 = j 2 := Fin.ext (by
    rw [LoadRect.idx_apply]; show off 2 + 1 * (j 2).val = _; omega)
  rw [e0, e1, e2, hx]

theorem bRowsA_up {arg : Memref sig .tc .vmem S4096x128 .f32} (harg : arg.IsWhole) (x : RS) (k : Fin k1_t1_loop.trips) :
    bRowsA arg (harg.unread (upS x)) k = up (ch (128 * (31 - 2 * k.val)) x) := by
  funext j
  unfold bRowsA
  rw [View.readAt_eq_ld, harg.read_unread]
  exact upS_rect x _ (off16 k).1.1 (off16 k).1.2 j
theorem bRowsB_up {arg : Memref sig .tc .vmem S4096x128 .f32} (harg : arg.IsWhole) (x : RS) (k : Fin k1_t1_loop.trips) :
    bRowsB arg (harg.unread (upS x)) k = up (ch (128 * (30 - 2 * k.val)) x) := by
  funext j
  unfold bRowsB
  rw [View.readAt_eq_ld, harg.read_unread]
  exact upS_rect x _ (off16 k).2.1 (off16 k).2.2 j

theorem savedSt_saveSt (x : Mat Ideal) : savedSt (saveSt x) = x := by
  funext j; idx_vars j
  unfold savedSt saveSt; pointwise
theorem bStA_up {arg : Memref sig .tc .vmem S1x32x128x128 .f32} (harg : arg.IsWhole) (st : ℕ → RM) (k : Fin k1_t1_loop.trips) :
    bStA arg (harg.unread (upStates st)) k = up (st (128 * (31 - 2 * k.val))) := by
  unfold bStA
  rw [View.readAt_eq_ld, harg.read_unread]
  refine (congrArg savedSt (funext fun j => ?_)).trans (savedSt_saveSt _)
  exact upStates_rect st _ (off27 k).1.1 (off27 k).1.2.1 (off27 k).1.2.2 j
theorem bStB_up {arg : Memref sig .tc .vmem S1x32x128x128 .f32} (harg : arg.IsWhole) (st : ℕ → RM) (k : Fin k1_t1_loop.trips) :
    bStB arg (harg.unread (upStates st)) k = up (st (128 * (30 - 2 * k.val))) := by
  unfold bStB
  rw [View.readAt_eq_ld, harg.read_unread]
  refine (congrArg savedSt (funext fun j => ?_)).trans (savedSt_saveSt _)
  exact upStates_rect st _ (off27 k).2.1 (off27 k).2.2.1 (off27 k).2.2.2 j

section
variable (c : Dev nD) (i : grid1.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S1x128 .f32) (harg4 : arg4.IsWhole) (arg5 : Memref sig .tc .vmem S1x32x128x128 .f32) (harg5 : arg5.IsWhole) (arg6 : Memref sig .tc .vmem S4096x128 .f32) (harg6 : arg6.IsWhole) (arg7 : Memref sig .tc .vmem S4096x128 .bf16) (harg7 : arg7.IsWhole) (arg8 : Memref sig .tc .vmem S4x4096x128 .bf16) (harg8 : arg8.IsWhole) (arg9 : Memref sig .tc .vmem S8x128 .f32) (harg9 : arg9.IsWhole)

/-- The loop's state before trip `n`. -/
def bLoop (x0 x1 x2 : Vec Ideal S4096x128 .f32) (x3 : Vec Ideal S1x128 .f32) (x4 : Vec Ideal S1x32x128x128 .f32) (x5 : Vec Ideal S4096x128 .f32) (n : ℕ) :=
  st_k1_t1 Variants.none c none i arg1 harg1 arg2 harg2 arg3 harg3 arg4 harg4 arg5 harg5 arg6 harg6 arg7 harg7 arg8 harg8 arg9 harg9 x3 rowI rowI colI
    (harg1.unread x0) (harg2.unread x1) (harg3.unread x2) (harg5.unread x4) (harg6.unread x5) (k1_pay3, k1_pay4) n

variable (lb : Fin 128 → ℝ) (qr fr v d_o : RS) (dg : ℕ → Fin 128 → EReal)

/-- The loop carries the state's cotangent and the lower bound's gradient and stores the sequence's gradients. -/
theorem bLoop_up (h : ∀ l, 0 ≤ lb l) (n : ℕ) (hn : n ≤ 16) :
    (bLoop c i arg1 harg1 arg2 harg2 arg3 harg3 arg4 harg4 arg5 harg5 arg6 harg6 arg7 harg7 arg8 harg8 arg9 harg9 (upS qr) (upS fr) (upS v) (upRow lb) (upStates (stV lb fr v)) (upS d_o) n).1
      = (up (dstV lb qr fr d_o (4096 - 256 * n)), upRow (dlbV lb qr fr v d_o (4096 - 256 * n))) ∧
    View.PiecesOf (upPlanes (planes (dqV lb qr fr v d_o) (dfV lb qr fr v d_o) (dvV lb qr fr d_o) dg))
      (bLoop c i arg1 harg1 arg2 harg2 arg3 harg3 arg4 harg4 arg5 harg5 arg6 harg6 arg7 harg7 arg8 harg8 arg9 harg9 (upS qr) (upS fr) (upS v) (upRow lb) (upStates (stV lb fr v)) (upS d_o) n).2 := by
  induction n with
  | zero =>
    refine ⟨?_, trivial⟩
    refine Prod.ext ?_ ?_
    · show (k1_pay3 : Mat Ideal) = up (dstV lb qr fr d_o 4096)
      rw [show (k1_pay3 : Mat Ideal) = zeroM from rfl, zeroM_up]
      refine congrArg up ?_
      funext e l
      exact (Seq.DST_end ..).symm
    · show (k1_pay4 : Row Ideal) = upRow (dlbV lb qr fr v d_o 4096)
      refine eq_upRow fun l => ?_
      unfold k1_pay4 dlbV
      pointwise
      rw [show Seq.N = 4096 from rfl, Finset.Ico_self, Finset.sum_empty, EReal.coe_zero]
  | succ n ih =>
    obtain ⟨ih1, ih2⟩ := ih (by omega)
    let k : Fin k1_t1_loop.trips := ⟨n, Nat.lt_of_lt_of_le (Nat.lt_succ_self n) hn⟩
    have hk : k.val = n := rfl
    unfold bLoop at ih1 ih2 ⊢
    rw [st_k1_t1_succ (F := Ideal) Variants.none c none i arg1 harg1 arg2 harg2 arg3 harg3 arg4 harg4 arg5 harg5 arg6 harg6 arg7 harg7 arg8 harg8 arg9 harg9 (upRow lb) rowI rowI colI _ _ _ _ _ _ k]
    have eA : 4096 - 256 * n = 128 * (31 - 2 * k.val) + 128 := by rw [hk]; omega
    have eB : 128 * (31 - 2 * k.val) = 128 * (30 - 2 * k.val) + 128 := by rw [hk]; omega
    have eC : 4096 - 256 * (n + 1) = 128 * (30 - 2 * k.val) := by rw [hk]; omega
    have hA : 128 * (31 - 2 * k.val) + 128 ≤ Seq.N := by show _ ≤ 4096; omega
    have hB : 128 * (30 - 2 * k.val) + 128 ≤ Seq.N := by show _ ≤ 4096; omega
    rw [hk, ih1, ← hk, tripR_bwd, tripL_bwd, eA, eC]
    unfold bMid bMidLb
    dsimp only
    rw [bRowsA_up harg1, bRowsA_up harg2, bRowsA_up harg3, bRowsA_up harg6, bRowsB_up harg1, bRowsB_up harg2, bRowsB_up harg3, bRowsB_up harg6, bStA_up harg5, bStB_up harg5,
      bwdCot_up lb qr fr d_o _ h hA, bwdDlb_up lb qr fr v d_o _ h hA, bwdDqr_up lb qr fr v d_o _ h, bwdDf_up lb qr fr v d_o _ h hA, bwdDv_up lb qr fr d_o _ h hA, bwdDqr_up lb qr fr v d_o _ h]
    rw [eB, bwdCot_up lb qr fr d_o _ h hB, bwdDlb_up lb qr fr v d_o _ h hB, bwdDf_up lb qr fr v d_o _ h hB, bwdDv_up lb qr fr d_o _ h hB, ← eB]
    refine ⟨rfl, ?_⟩
    exact ⟨upPlanes_rect _ (dqV lb qr fr v d_o) (k1_off10_inb k) (n := 0) rfl (off8910 k).2.2, upPlanes_rect _ (dfV lb qr fr v d_o) (k1_off9_inb k) (n := 1) rfl (off8910 k).2.1,
      upPlanes_rect _ (dvV lb qr fr d_o) (k1_off8_inb k) (n := 2) rfl (off8910 k).1,
      upPlanes_rect _ (dqV lb qr fr v d_o) (k1_off5_inb k) (n := 0) rfl (off345 k).2.2, upPlanes_rect _ (dfV lb qr fr v d_o) (k1_off4_inb k) (n := 1) rfl (off345 k).2.1,
      upPlanes_rect _ (dvV lb qr fr d_o) (k1_off3_inb k) (n := 2) rfl (off345 k).1, ih2⟩

/-- The given plane is read whole. -/
theorem gate_read (arg : Memref sig .tc .vmem S4096x128 .bf16) (harg : arg.IsWhole) (x : Vec Ideal S4096x128 .bf16) :
    View.readAt (Elt Ideal) arg.view (Rect.unit (s := S4096x128) ![0, 0] ![4096, 128] inb_S4096x128_S4096x128_0_0).toLoadRect (harg.unread x) = x := by
  funext j
  rw [View.readAt_eq_ld, harg.read_unread]
  refine congrArg x ?_
  funext a
  refine Fin.ext ?_
  rw [LoadRect.idx_apply]
  show ![0, 0] a + 1 * (j a).val = _
  fin_cases a <;> simp

/-- The call's stores of gradients: the loop's, after the given plane. -/
theorem run1_p (x0 x1 x2 : Vec Ideal S4096x128 .f32) (x3 : Vec Ideal S1x128 .f32) (x4 : Vec Ideal S1x32x128x128 .f32) (x5 : Vec Ideal S4096x128 .f32) (x6 : Vec Ideal S4096x128 .bf16) :
    (kernelRun1_A c i arg1 harg1 arg2 harg2 arg3 harg3 arg4 harg4 arg5 harg5 arg6 harg6 arg7 harg7 arg8 harg8 arg9 harg9 x0 x1 x2 x3 x4 x5 x6).1
      = (bLoop c i arg1 harg1 arg2 harg2 arg3 harg3 arg4 harg4 arg5 harg5 arg6 harg6 arg7 harg7 arg8 harg8 arg9 harg9 x0 x1 x2 x3 x4 x5 16).2
        ++ [⟨Rect.unit (s := S4x4096x128) ![3, 0, 0] ![1, 4096, 128] inb_S4x4096x128_S1x4096x128_3_0_0, k1_pay1 x6⟩] := by
  have e : (kernelRun1_A c i arg1 harg1 arg2 harg2 arg3 harg3 arg4 harg4 arg5 harg5 arg6 harg6 arg7 harg7 arg8 harg8 arg9 harg9 x0 x1 x2 x3 x4 x5 x6).1
      = (bLoop c i arg1 harg1 arg2 harg2 arg3 harg3 arg4 harg4 arg5 harg5 arg6 harg6 arg7 harg7 arg8 harg8 arg9 harg9 x0 x1 x2
          (View.readAt (Elt Ideal) arg4.view (Rect.unit (s := S1x128) ![0, 0] ![1, 128] inb_S1x128_S1x128_0_0).toLoadRect (harg4.unread x3)) x4 x5 16).2
        ++ [⟨Rect.unit (s := S4x4096x128) ![3, 0, 0] ![1, 4096, 128] inb_S4x4096x128_S1x4096x128_3_0_0, k1_pay1
          (View.readAt (Elt Ideal) arg7.view (Rect.unit (s := S4096x128) ![0, 0] ![4096, 128] inb_S4096x128_S4096x128_0_0).toLoadRect (harg7.unread x6))⟩] := by
    delta kernelRun1_A
    dsimp only
    unfold bLoop
    rfl
  rw [e, row_read, gate_read]

/-- The call's store of the lower bound's gradient: what the loop carries out. -/
theorem run1_l (x0 x1 x2 : Vec Ideal S4096x128 .f32) (x3 : Vec Ideal S1x128 .f32) (x4 : Vec Ideal S1x32x128x128 .f32) (x5 : Vec Ideal S4096x128 .f32) (x6 : Vec Ideal S4096x128 .bf16) :
    (kernelRun1_A c i arg1 harg1 arg2 harg2 arg3 harg3 arg4 harg4 arg5 harg5 arg6 harg6 arg7 harg7 arg8 harg8 arg9 harg9 x0 x1 x2 x3 x4 x5 x6).2.1
      = [⟨Rect.unit (s := S8x128) ![0, 0] ![8, 128] inb_S8x128_S8x128_0_0, k1_pay6 (bLoop c i arg1 harg1 arg2 harg2 arg3 harg3 arg4 harg4 arg5 harg5 arg6 harg6 arg7 harg7 arg8 harg8 arg9 harg9 x0 x1 x2 x3 x4 x5 16).1.2⟩] := by
  have e : (kernelRun1_A c i arg1 harg1 arg2 harg2 arg3 harg3 arg4 harg4 arg5 harg5 arg6 harg6 arg7 harg7 arg8 harg8 arg9 harg9 x0 x1 x2 x3 x4 x5 x6).2.1
      = [⟨Rect.unit (s := S8x128) ![0, 0] ![8, 128] inb_S8x128_S8x128_0_0, k1_pay6 (bLoop c i arg1 harg1 arg2 harg2 arg3 harg3 arg4 harg4 arg5 harg5 arg6 harg6 arg7 harg7 arg8 harg8 arg9 harg9 x0 x1 x2
          (View.readAt (Elt Ideal) arg4.view (Rect.unit (s := S1x128) ![0, 0] ![1, 128] inb_S1x128_S1x128_0_0).toLoadRect (harg4.unread x3)) x4 x5 16).1.2⟩] := by
    delta kernelRun1_A
    dsimp only
    unfold bLoop
    rfl
  rw [e, row_read]

/-- The gradients the call leaves in a head's block. -/
theorem out1_p (h : ∀ l, 0 ≤ lb l) :
    out1_A_7 c i arg1 harg1 arg2 harg2 arg3 harg3 arg4 harg4 arg5 harg5 arg6 harg6 arg7 harg7 arg8 harg8 arg9 harg9 (upS qr) (upS fr) (upS v) (upRow lb) (upStates (stV lb fr v)) (upS d_o) (upG dg)
      = upPlanes (planes (dqV lb qr fr v d_o) (dfV lb qr fr v d_o) (dvV lb qr fr d_o) dg) := by
  unfold out1_A_7
  rw [View.read_writes_junk_eq_canon]
  refine canon_of_piecesOf _ ?_ (cover1_A_7 c i arg1 harg1 arg2 harg2 arg3 harg3 arg4 harg4 arg5 harg5 arg6 harg6 arg7 harg7 arg8 harg8 arg9 harg9 _ _ _ _ _ _ _)
  rw [run1_p]
  refine piecesOf_append (bLoop_up c i arg1 harg1 arg2 harg2 arg3 harg3 arg4 harg4 arg5 harg5 arg6 harg6 arg7 harg7 arg8 harg8 arg9 harg9 lb qr fr v d_o dg h 16 le_rfl).2 ⟨fun x => ?_, trivial⟩
  have hs : k1_pay1 (upG dg) x = dg (x 1).val (x 2) := by
    have : ∀ j : S1x4096x128.Idx, k1_pay1 (upG dg) j = dg (j 1).val (j 2) := fun j => by
      idx_vars j
      unfold k1_pay1; pointwise
      rfl
    exact this x
  refine hs.trans ?_
  unfold upPlanes
  have e0 : (Rect.unit (s := S4x4096x128) ![3, 0, 0] ![1, 4096, 128] inb_S4x4096x128_S1x4096x128_3_0_0).idx x 0 = (3 : Fin 4) := Fin.ext (by
    rw [LoadRect.idx_apply]; show 3 + 1 * (x 0).val = 3
    have : (x 0).val < 1 := (x 0).isLt
    omega)
  have e1 : ((Rect.unit (s := S4x4096x128) ![3, 0, 0] ![1, 4096, 128] inb_S4x4096x128_S1x4096x128_3_0_0).idx x 1 : ℕ) = (x 1).val := by
    rw [LoadRect.idx_apply]; show 0 + 1 * (x 1).val = _; omega
  have e2 : (Rect.unit (s := S4x4096x128) ![3, 0, 0] ![1, 4096, 128] inb_S4x4096x128_S1x4096x128_3_0_0).idx x 2 = x 2 := Fin.ext (by
    rw [LoadRect.idx_apply]; show 0 + 1 * (x 2).val = _; omega)
  show _ = planes _ _ _ dg ((Rect.unit (s := S4x4096x128) ![3, 0, 0] ![1, 4096, 128] inb_S4x4096x128_S1x4096x128_3_0_0).idx x 0)
    ((Rect.unit (s := S4x4096x128) ![3, 0, 0] ![1, 4096, 128] inb_S4x4096x128_S1x4096x128_3_0_0).idx x 1).val
    ((Rect.unit (s := S4x4096x128) ![3, 0, 0] ![1, 4096, 128] inb_S4x4096x128_S1x4096x128_3_0_0).idx x 2)
  rw [e0, e1, e2]
  rfl

theorem top_iff : ∀ r : Fin 8, IntOp.cmpi .eq (BitVec.ofNat 32 r.val) 0#32 = 1#1 ↔ r.val = 0 := by decide +kernel

/-- The lower bound's gradient the call leaves in a head's block. -/
theorem out1_l (h : ∀ l, 0 ≤ lb l) :
    out1_A_8 c i arg1 harg1 arg2 harg2 arg3 harg3 arg4 harg4 arg5 harg5 arg6 harg6 arg7 harg7 arg8 harg8 arg9 harg9 (upS qr) (upS fr) (upS v) (upRow lb) (upStates (stV lb fr v)) (upS d_o) (upG dg)
      = upTop (dlbV lb qr fr v d_o 0) := by
  unfold out1_A_8
  rw [View.read_writes_junk_eq_canon]
  refine canon_of_piecesOf _ ?_ (cover1_A_8 c i arg1 harg1 arg2 harg2 arg3 harg3 arg4 harg4 arg5 harg5 arg6 harg6 arg7 harg7 arg8 harg8 arg9 harg9 _ _ _ _ _ _ _)
  rw [run1_l, (bLoop_up c i arg1 harg1 arg2 harg2 arg3 harg3 arg4 harg4 arg5 harg5 arg6 harg6 arg7 harg7 arg8 harg8 arg9 harg9 lb qr fr v d_o dg h 16 le_rfl).1]
  refine ⟨fun x => ?_, trivial⟩
  have hs : k1_pay6 (upRow (dlbV lb qr fr v d_o 0)) x = upTop (dlbV lb qr fr v d_o 0) x := by
    have : ∀ j : S8x128.Idx, k1_pay6 (upRow (dlbV lb qr fr v d_o 0)) j = upTop (dlbV lb qr fr v d_o 0) j := fun j => by
      idx_vars j
      unfold k1_pay6; pointwise
      by_cases hr : j0.val = 0
      · rw [(top_iff j0).2 hr, sel_yes]; exact (if_pos hr).symm
      · rw [sel_no fun e => hr ((top_iff j0).1 e)]; exact (if_neg hr).symm
    exact this x
  refine hs.trans (congrArg (upTop (dlbV lb qr fr v d_o 0)) ?_)
  funext a
  refine Fin.ext ?_
  show _ = ![0, 0] a + 1 * (x a).val
  fin_cases a <;> simp

end

end Cert.KernelIdeal.Hgrn

end
-- ==== Proof.Arrays.lean ====
/- The two calls' arrays from their blocks, head by head. -/
module

public import proofs.«01_k».proof.Proof.BwdLoop

@[expose] public section

set_option maxRecDepth 16384

noncomputable section

namespace Cert.KernelIdeal.Hgrn

open Idealize.ShloMosaic Idealize.ShloMosaic.TcCoe Cert.KernelIdeal Cert.KernelIdeal.Gen Cert.KernelIdeal.Facts
open Idealize.ShloMosaic.Pipeline (Dat)
open Seq (RS)

/-! The projection's columns are the queries', the gate logits', the values' and the output gate's, each of sixteen heads. -/

variable (PJ DO : ℕ → ℕ → ℝ) (LB : ℕ → ℝ) (DGT : ℕ → ℕ → EReal)

/-- A head's columns of an array from a first column on. -/
def headAt (X : ℕ → ℕ → ℝ) (first h : ℕ) : RS := fun t l => X t (first + 128 * h + l.val)
/-- A head's lower bounds. -/
def lbAt (h : ℕ) : Fin 128 → ℝ := fun l => LB (128 * h + l.val)
/-- A head's columns of the output gate's gradient. -/
def dgAt (h : ℕ) : ℕ → Fin 128 → EReal := fun t l => DGT t (128 * h + l.val)

/-- The column within its head. -/
def colIn (j : ℕ) : Fin 128 := ⟨j % 128, Nat.mod_lt _ (by decide)⟩

theorem lbAt_nonneg (h : ∀ j, 0 ≤ LB j) (n : ℕ) : ∀ l, 0 ≤ lbAt LB n l := fun _ => h _

theorem colIn_at (h : ℕ) (l : Fin 128) : colIn (h * 128 + l.val) = l := Fin.ext (by
  show (h * 128 + l.val) % 128 = l.val
  omega)
theorem head_at (h : ℕ) (l : Fin 128) : (h * 128 + l.val) / 128 = h := by omega

def oH (h : ℕ) : RS := outV (lbAt LB h) (headAt PJ 0 h) (headAt PJ 2048 h) (headAt PJ 4096 h)
def stH (h : ℕ) : ℕ → RM := stV (lbAt LB h) (headAt PJ 2048 h) (headAt PJ 4096 h)
def dqH (h : ℕ) : RS := dqV (lbAt LB h) (headAt PJ 0 h) (headAt PJ 2048 h) (headAt PJ 4096 h) (headAt DO 0 h)
def dfH (h : ℕ) : RS := dfV (lbAt LB h) (headAt PJ 0 h) (headAt PJ 2048 h) (headAt PJ 4096 h) (headAt DO 0 h)
def dvH (h : ℕ) : RS := dvV (lbAt LB h) (headAt PJ 0 h) (headAt PJ 2048 h) (headAt DO 0 h)
def dlbH (h : ℕ) : Fin 128 → ℝ := dlbV (lbAt LB h) (headAt PJ 0 h) (headAt PJ 2048 h) (headAt PJ 4096 h) (headAt DO 0 h) 0

/-- The outputs of all heads. -/
def GO : Vec Ideal S4096x2048 .f32 := fun j => ((oH PJ LB ((j 1).val / 128) (j 0).val (colIn (j 1).val) : ℝ) : EReal)
/-- The states of all heads. -/
def GS : Vec Ideal S16x32x128x128 .f32 := fun j => ((stH PJ LB (j 0).val (128 * (j 1).val) (j 2) (j 3) : ℝ) : EReal)
/-- The gradients of the projection of all heads. -/
def GP : Vec Ideal S4x4096x2048 .bf16 := fun j =>
  planes (dqH PJ DO LB ((j 2).val / 128)) (dfH PJ DO LB ((j 2).val / 128)) (dvH PJ DO LB ((j 2).val / 128)) (dgAt DGT ((j 2).val / 128)) (j 0) (j 1).val (colIn (j 2).val)
/-- The gradients of the lower bounds of all heads. -/
def GLb : Vec Ideal S8x2048 .f32 := fun j => if (j 0).val = 0 then ((dlbH PJ DO LB ((j 1).val / 128) (colIn (j 1).val) : ℝ) : EReal) else 0

/-- What the arguments hold: real numbers, and the output gate's gradient as given. -/
structure Holds (x0 : Vec Ideal S4096x8192 .f32) (x1 : Vec Ideal S1x2048 .f32) (x2 : Vec Ideal S4096x2048 .f32) (x3 : Vec Ideal S4096x2048 .bf16) : Prop where
  p : ∀ j, x0 j = ((PJ (j 0).val (j 1).val : ℝ) : EReal)
  l : ∀ j, x1 j = ((LB (j 1).val : ℝ) : EReal)
  d : ∀ j, x2 j = ((DO (j 0).val (j 1).val : ℝ) : EReal)
  g : ∀ j, x3 j = DGT (j 0).val (j 1).val

theorem i0_0 : ∀ t : Fin grid0.N, win0_0.index t = ![0, t.val] := by decide +kernel
theorem i0_1 : ∀ t : Fin grid0.N, win0_1.index t = ![0, 16 + t.val] := by decide +kernel
theorem i0_2 : ∀ t : Fin grid0.N, win0_2.index t = ![0, 32 + t.val] := by decide +kernel
theorem i0_3 : ∀ t : Fin grid0.N, win0_3.index t = ![0, t.val] := by decide +kernel
theorem i0_4 : ∀ t : Fin grid0.N, win0_4.index t = ![0, t.val] := by decide +kernel
theorem i0_5 : ∀ t : Fin grid0.N, win0_5.index t = ![t.val, 0, 0, 0] := by decide +kernel
theorem i1_0 : ∀ t : Fin grid1.N, win1_0.index t = ![0, t.val] := by decide +kernel
theorem i1_1 : ∀ t : Fin grid1.N, win1_1.index t = ![0, 16 + t.val] := by decide +kernel
theorem i1_2 : ∀ t : Fin grid1.N, win1_2.index t = ![0, 32 + t.val] := by decide +kernel
theorem i1_3 : ∀ t : Fin grid1.N, win1_3.index t = ![0, t.val] := by decide +kernel
theorem i1_4 : ∀ t : Fin grid1.N, win1_4.index t = ![t.val, 0, 0, 0] := by decide +kernel
theorem i1_5 : ∀ t : Fin grid1.N, win1_5.index t = ![0, t.val] := by decide +kernel
theorem i1_6 : ∀ t : Fin grid1.N, win1_6.index t = ![0, t.val] := by decide +kernel
theorem i1_7 : ∀ t : Fin grid1.N, win1_7.index t = ![0, 0, t.val] := by decide +kernel
theorem i1_8 : ∀ t : Fin grid1.N, win1_8.index t = ![0, t.val] := by decide +kernel

section
variable (V : (c : Dev nD) → (b : Ref sig .tc) → Buf (Elt Ideal) ((c : Thread nD τ).loc b)) (c : Dev nD)
variable (H : Holds PJ DO LB DGT (V c main_arg0) (V c main_arg1) (V c main_arg2) (V c main_arg3))
include H

theorem b0_0 (t : Fin cfg0.N) : iblk0 V c 0 t = upS (headAt PJ 0 t.val) := by
  funext j
  blk_simp [iblk0]
  rw [H.p]
  unfold upS headAt
  blk_simp [i0_0 t]
  rw [show t.val * 128 + (j 1).val = 128 * t.val + (j 1).val by ring]
theorem b0_1 (t : Fin cfg0.N) : iblk0 V c 1 t = upS (headAt PJ 2048 t.val) := by
  funext j
  blk_simp [iblk0]
  rw [H.p]
  unfold upS headAt
  blk_simp [i0_1 t]
  rw [show (16 + t.val) * 128 + (j 1).val = 2048 + 128 * t.val + (j 1).val by ring]
theorem b0_2 (t : Fin cfg0.N) : iblk0 V c 2 t = upS (headAt PJ 4096 t.val) := by
  funext j
  blk_simp [iblk0]
  rw [H.p]
  unfold upS headAt
  blk_simp [i0_2 t]
  rw [show (32 + t.val) * 128 + (j 1).val = 4096 + 128 * t.val + (j 1).val by ring]
theorem b0_3 (t : Fin cfg0.N) : iblk0 V c 3 t = upRow (lbAt LB t.val) := by
  funext j
  blk_simp [iblk0]
  rw [H.l]
  unfold upRow lbAt
  blk_simp [i0_3 t]
  rw [show t.val * 128 + (j 1).val = 128 * t.val + (j 1).val by ring]
theorem b1_0 (t : Fin cfg1.N) : iblk1 V c 0 t = upS (headAt PJ 0 t.val) := by
  funext j
  blk_simp [iblk1]
  rw [H.p]
  unfold upS headAt
  blk_simp [i1_0 t]
  rw [show t.val * 128 + (j 1).val = 128 * t.val + (j 1).val by ring]
theorem b1_1 (t : Fin cfg1.N) : iblk1 V c 1 t = upS (headAt PJ 2048 t.val) := by
  funext j
  blk_simp [iblk1]
  rw [H.p]
  unfold upS headAt
  blk_simp [i1_1 t]
  rw [show (16 + t.val) * 128 + (j 1).val = 2048 + 128 * t.val + (j 1).val by ring]
theorem b1_2 (t : Fin cfg1.N) : iblk1 V c 2 t = upS (headAt PJ 4096 t.val) := by
  funext j
  blk_simp [iblk1]
  rw [H.p]
  unfold upS headAt
  blk_simp [i1_2 t]
  rw [show (32 + t.val) * 128 + (j 1).val = 4096 + 128 * t.val + (j 1).val by ring]
theorem b1_3 (t : Fin cfg1.N) : iblk1 V c 3 t = upRow (lbAt LB t.val) := by
  funext j
  blk_simp [iblk1]
  rw [H.l]
  unfold upRow lbAt
  blk_simp [i1_3 t]
  rw [show t.val * 128 + (j 1).val = 128 * t.val + (j 1).val by ring]
theorem b1_5 (t : Fin cfg1.N) : iblk1 V c 5 t = upS (headAt DO 0 t.val) := by
  funext j
  blk_simp [iblk1]
  rw [H.d]
  unfold upS headAt
  blk_simp [i1_5 t]
  rw [show t.val * 128 + (j 1).val = 128 * t.val + (j 1).val by ring]
theorem b1_6 (t : Fin cfg1.N) : iblk1 V c 6 t = upG (dgAt DGT t.val) := by
  funext j
  blk_simp [iblk1]
  rw [H.g]
  unfold upG dgAt
  blk_simp [i1_6 t]
  rw [show t.val * 128 + (j 1).val = 128 * t.val + (j 1).val by ring]
omit H in
theorem b1_4 (hS : V c main_v0_1 = GS PJ LB) (t : Fin cfg1.N) : iblk1 V c 4 t = upStates (stH PJ LB t.val) := by
  funext j
  blk_simp [iblk1]
  rw [hS]
  unfold upStates GS
  have h0 : (j 0).val < 1 := (j 0).isLt
  have e2 : ((win1_4.blk t).view.emb j 2 : Fin 128) = j 2 := Fin.ext (by blk_simp [i1_4 t])
  have e3 : ((win1_4.blk t).view.emb j 3 : Fin 128) = j 3 := Fin.ext (by blk_simp [i1_4 t])
  rw [e2, e3]
  blk_simp [i1_4 t]
  try rw [show t.val * 1 + (j 0).val = t.val by omega]

/-- The outputs' array after the first call. -/
theorem arr_o (h : ∀ j, 0 ≤ LB j) : (dat0 V c).arrAt 4 cfg0.N = GO PJ LB := by
  refine (dat0 V c).arrAt_eq_of_covers 4 _ (by decide +kernel) fun t hf y => ?_
  blk_simp
  rw [after0_4]
  unfold outsAt0
  dsimp only
  rw [b0_0 PJ DO LB DGT V c H, b0_1 PJ DO LB DGT V c H, b0_2 PJ DO LB DGT V c H, b0_3 PJ DO LB DGT V c H, out0_o (h := lbAt_nonneg LB h _)]
  unfold GO
  have e0 : ((win0_4.blk t).view.emb y 0 : ℕ) = (y 0).val := by blk_simp [i0_4 t]
  have e1 : ((win0_4.blk t).view.emb y 1 : ℕ) = t.val * 128 + (y 1).val := by blk_simp [i0_4 t]
  show _ = ((oH PJ LB (((win0_4.blk t).view.emb y 1 : ℕ) / 128) ((win0_4.blk t).view.emb y 0 : ℕ) (colIn ((win0_4.blk t).view.emb y 1 : ℕ)) : ℝ) : EReal)
  rw [e0, e1, head_at t.val (y 1), colIn_at t.val (y 1)]
  rfl

/-- The states' array after the first call. -/
theorem arr_s (h : ∀ j, 0 ≤ LB j) : (dat0 V c).arrAt 5 cfg0.N = GS PJ LB := by
  refine (dat0 V c).arrAt_eq_of_covers 5 _ (by decide +kernel) fun t hf y => ?_
  blk_simp
  rw [after0_5]
  unfold outsAt0
  dsimp only
  rw [b0_0 PJ DO LB DGT V c H, b0_1 PJ DO LB DGT V c H, b0_2 PJ DO LB DGT V c H, b0_3 PJ DO LB DGT V c H, out0_s (h := lbAt_nonneg LB h _)]
  unfold GS
  have h0 : (y 0).val < 1 := (y 0).isLt
  have e0 : ((win0_5.blk t).view.emb y 0 : ℕ) = t.val := by blk_simp [i0_5 t]
  have e1 : ((win0_5.blk t).view.emb y 1 : ℕ) = (y 1).val := by blk_simp [i0_5 t]
  have e2 : ((win0_5.blk t).view.emb y 2 : Fin 128) = y 2 := Fin.ext (by blk_simp [i0_5 t])
  have e3 : ((win0_5.blk t).view.emb y 3 : Fin 128) = y 3 := Fin.ext (by blk_simp [i0_5 t])
  show _ = ((stH PJ LB ((win0_5.blk t).view.emb y 0 : ℕ) (128 * ((win0_5.blk t).view.emb y 1 : ℕ)) ((win0_5.blk t).view.emb y 2) ((win0_5.blk t).view.emb y 3) : ℝ) : EReal)
  rw [e0, e1, e2, e3]
  rfl

/-- The projection's gradient after the second call. -/
theorem arr_p (h : ∀ j, 0 ≤ LB j) (hS : V c main_v0_1 = GS PJ LB) : (dat1 V c).arrAt 7 cfg1.N = GP PJ DO LB DGT := by
  refine (dat1 V c).arrAt_eq_of_covers 7 _ (by decide +kernel) fun t hf y => ?_
  blk_simp
  rw [after1_7]
  unfold outsAt1
  dsimp only
  rw [b1_0 PJ DO LB DGT V c H, b1_1 PJ DO LB DGT V c H, b1_2 PJ DO LB DGT V c H, b1_3 PJ DO LB DGT V c H, b1_4 PJ LB V c hS, b1_5 PJ DO LB DGT V c H, b1_6 PJ DO LB DGT V c H]
  unfold stH
  rw [out1_p (h := lbAt_nonneg LB h _)]
  unfold GP
  have e0 : ((win1_7.blk t).view.emb y 0 : Fin 4) = y 0 := Fin.ext (by blk_simp [i1_7 t])
  have e1 : ((win1_7.blk t).view.emb y 1 : ℕ) = (y 1).val := by blk_simp [i1_7 t]
  have e2 : ((win1_7.blk t).view.emb y 2 : ℕ) = t.val * 128 + (y 2).val := by blk_simp [i1_7 t]
  show _ = planes (dqH PJ DO LB (((win1_7.blk t).view.emb y 2 : ℕ) / 128)) (dfH PJ DO LB (((win1_7.blk t).view.emb y 2 : ℕ) / 128)) (dvH PJ DO LB (((win1_7.blk t).view.emb y 2 : ℕ) / 128))
    (dgAt DGT (((win1_7.blk t).view.emb y 2 : ℕ) / 128)) ((win1_7.blk t).view.emb y 0) ((win1_7.blk t).view.emb y 1 : ℕ) (colIn ((win1_7.blk t).view.emb y 2 : ℕ))
  rw [e0, e1, e2, head_at t.val (y 2), colIn_at t.val (y 2)]
  rfl

/-- The lower bounds' gradient after the second call. -/
theorem arr_l (h : ∀ j, 0 ≤ LB j) (hS : V c main_v0_1 = GS PJ LB) : (dat1 V c).arrAt 8 cfg1.N = GLb PJ DO LB := by
  refine (dat1 V c).arrAt_eq_of_covers 8 _ (by decide +kernel) fun t hf y => ?_
  blk_simp
  rw [after1_8]
  unfold outsAt1
  dsimp only
  rw [b1_0 PJ DO LB DGT V c H, b1_1 PJ DO LB DGT V c H, b1_2 PJ DO LB DGT V c H, b1_3 PJ DO LB DGT V c H, b1_4 PJ LB V c hS, b1_5 PJ DO LB DGT V c H, b1_6 PJ DO LB DGT V c H]
  unfold stH
  rw [out1_l (h := lbAt_nonneg LB h _)]
  unfold GLb
  have e0 : ((win1_8.blk t).view.emb y 0 : ℕ) = (y 0).val := by blk_simp [i1_8 t]
  have e1 : ((win1_8.blk t).view.emb y 1 : ℕ) = t.val * 128 + (y 1).val := by blk_simp [i1_8 t]
  show _ = if ((win1_8.blk t).view.emb y 0 : ℕ) = 0 then ((dlbH PJ DO LB (((win1_8.blk t).view.emb y 1 : ℕ) / 128) (colIn ((win1_8.blk t).view.emb y 1 : ℕ)) : ℝ) : EReal) else 0
  rw [e0, e1, head_at t.val (y 1), colIn_at t.val (y 1)]
  rfl

end

end Cert.KernelIdeal.Hgrn

end
-- ==== Proof.KernelRun.lean ====
/- The program's run: its results are the sequence's outputs and gradients. -/
module

public import proofs.«01_k».proof.Proof.Arrays

@[expose] public section

set_option maxRecDepth 16384

noncomputable section

namespace Cert.KernelIdeal.Hgrn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Facts

local notation "𝕄" => MT nD τ sig Unit (Elt Ideal) ℕ (UR sig nD τ) ℕ

variable (m : (ℓ : Loc nD τ sig) → Buf (Elt Ideal) ℓ) (ρ : Dev nD → PrngReg)
variable (PJ DO : Dev nD → ℕ → ℕ → ℝ) (LB : Dev nD → ℕ → ℝ) (DGT : Dev nD → ℕ → ℕ → EReal)
variable (H : ∀ c : Dev nD, Holds (PJ c) (DO c) (LB c) (DGT c) (m ((c : Thread nD τ).loc main_arg0)) (m ((c : Thread nD τ).loc main_arg1))
  (m ((c : Thread nD τ).loc main_arg2)) (m ((c : Thread nD τ).loc main_arg3)))
variable (h : ∀ c j, 0 ≤ LB c j)
include H h

theorem w1_s (c : Dev nD) : W1 m ρ c (Proc.devRef .tc main_v0_1) = GS (PJ c) (LB c) :=
  (W1_arr m ρ c 5).trans (arr_s (PJ c) (DO c) (LB c) (DGT c) (V0 m ρ) c (H c) (h c))
theorem w1_o (c : Dev nD) : W1 m ρ c (Proc.devRef .tc main_v0_0) = GO (PJ c) (LB c) :=
  (W1_arr m ρ c 4).trans (arr_o (PJ c) (DO c) (LB c) (DGT c) (V0 m ρ) c (H c) (h c))
omit h in
theorem w1_H (c : Dev nD) : Holds (PJ c) (DO c) (LB c) (DGT c) (V1 m ρ c main_arg0) (V1 m ρ c main_arg1) (V1 m ρ c main_arg2) (V1 m ρ c main_arg3) := by
  have e0 : V1 m ρ c main_arg0 = m ((c : Thread nD τ).loc main_arg0) := W1_args m ρ c main_arg0 (by decide)
  have e1 : V1 m ρ c main_arg1 = m ((c : Thread nD τ).loc main_arg1) := W1_args m ρ c main_arg1 (by decide)
  have e2 : V1 m ρ c main_arg2 = m ((c : Thread nD τ).loc main_arg2) := W1_args m ρ c main_arg2 (by decide)
  have e3 : V1 m ρ c main_arg3 = m ((c : Thread nD τ).loc main_arg3) := W1_args m ρ c main_arg3 (by decide)
  rw [e0, e1, e2, e3]
  exact H c
theorem w2_o (c : Dev nD) : W2 m ρ c (Proc.devRef .tc main_v0_0) = GO (PJ c) (LB c) :=
  (W2_of m ρ c main_v0_0 (by decide +kernel)).trans (w1_o m ρ PJ DO LB DGT H h c)
theorem w2_p (c : Dev nD) : W2 m ρ c (Proc.devRef .tc main_v1_0) = GP (PJ c) (DO c) (LB c) (DGT c) :=
  (W2_arr m ρ c 7).trans (arr_p (PJ c) (DO c) (LB c) (DGT c) (V1 m ρ) c (w1_H m ρ PJ DO LB DGT H c) (h c) (w1_s m ρ PJ DO LB DGT H h c))
theorem w2_l (c : Dev nD) : W2 m ρ c (Proc.devRef .tc main_v1_1) = GLb (PJ c) (DO c) (LB c) :=
  (W2_arr m ρ c 8).trans (arr_l (PJ c) (DO c) (LB c) (DGT c) (V1 m ρ) c (w1_H m ρ PJ DO LB DGT H c) (h c) (w1_s m ρ PJ DO LB DGT H h c))

set_option backward.isDefEq.respectTransparency.types false in
/-- Every execution ends with the results at the sequence's outputs and gradients and the arguments as they were. -/
theorem kernel_run : θ_run defs (onTc (τ := τ) (main (F := Ideal))) ⟨m, fun _ => 0, ρ⟩ (fun r => ∀ c : Dev nD,
      r.2.mem ((c.tc : Thread nD τ).loc main_v0_0) = GO (PJ c) (LB c)
      ∧ r.2.mem ((c.tc : Thread nD τ).loc main_v1_0) = GP (PJ c) (DO c) (LB c) (DGT c)
      ∧ r.2.mem ((c.tc : Thread nD τ).loc main_v1_1) = GLb (PJ c) (DO c) (LB c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s hs _ c =>
      ⟨(hs c _ (mem_uc main_v0_0 (by decide))).trans (w2_o m ρ PJ DO LB DGT H h c),
       (hs c _ (mem_uc main_v1_0 (by decide))).trans (w2_p m ρ PJ DO LB DGT H h c),
       (hs c _ (mem_uc main_v1_1 (by decide))).trans (w2_l m ρ PJ DO LB DGT H h c),
       (hs c _ (mem_uc main_arg0 (by decide))).trans (W2_main_arg0 m ρ c),
       (hs c _ (mem_uc main_arg1 (by decide))).trans (W2_main_arg1 m ρ c),
       (hs c _ (mem_uc main_arg2 (by decide))).trans (W2_main_arg2 m ρ c),
       (hs c _ (mem_uc main_arg3 (by decide))).trans (W2_main_arg3 m ρ c)⟩)

end Cert.KernelIdeal.Hgrn

end
-- ==== Proof.RefGates.lean ====
/- The reference's gates: queries, keys, values and log decays, column by column and head by head. -/
module

public import proofs.«01_k».proof.Proof.Arrays
public import proofs.«01_k».proof.Proof.Gen.ReferenceIdeal.Read

@[expose] public section

set_option maxRecDepth 16384

noncomputable section

namespace Cert.ReferenceIdeal.Hgrn

open Idealize.ShloMosaic Cert.ReferenceIdeal Cert.ReferenceIdeal.Gen Cert.ReferenceIdeal.Read
open Cert.KernelIdeal.Hgrn (sg fg qg qsc qsc_coe fg_pos Qs Ks Fs Gs headAt lbAt colIn)

variable {PJ DO : ℕ → ℕ → ℝ} {LB : ℕ → ℝ}
variable {x0 : (⟨S4096x8192, .f32⟩ : BufTy).Contents (Elt Ideal)} {x1 : (⟨S1x2048, .f32⟩ : BufTy).Contents (Elt Ideal)}

theorem ideal_sg (x : ℝ) : Ideal.div (Ideal.ofBits .f32 0x3F800000#32) (Ideal.ofBits .f32 0x3F800000#32 + Ideal.exp (-(x : EReal))) = ((sg x : ℝ) : EReal) := by
  have hne : (1 + Real.exp (-x)) ≠ 0 := by positivity
  rw [Ideal.ofBits_one_f32, ← EReal.coe_neg, Ideal.exp_coe, ← EReal.coe_one, ← EReal.coe_add, Ideal.div_coe hne, ← EReal.coe_mul, one_mul, one_div]
  rfl
theorem ideal_one_sub (x : ℝ) : Ideal.ofBits .f32 0x3F800000#32 - (x : EReal) = ((1 - x : ℝ) : EReal) := by
  rw [Ideal.ofBits_one_f32, ← EReal.coe_one, ← EReal.coe_sub]

section
variable (h0 : ∀ j, x0 j = ((PJ (j 0).val (j 1).val : ℝ) : EReal))
include h0

theorem r0 (i : S4096x2048.Idx) : val_main_v0 (F := Ideal) x0 i = ((PJ (i 0).val (i 1).val : ℝ) : EReal) := by
  rw [val_main_v0_apply, h0]
theorem r1 (i : S4096x2048.Idx) : val_main_v1 (F := Ideal) x0 i = ((PJ (i 0).val (2048 + (i 1).val) : ℝ) : EReal) := by
  rw [val_main_v1_apply, h0]
theorem r2 (i : S4096x2048.Idx) : val_main_v2 (F := Ideal) x0 i = ((PJ (i 0).val (4096 + (i 1).val) : ℝ) : EReal) := by
  rw [val_main_v2_apply, h0]
theorem r4_2 (i : S4096x2048.Idx) : val_main_v4_2 (F := Ideal) x0 i = ((sg (PJ (i 0).val (i 1).val) : ℝ) : EReal) := by
  rw [val_main_v4_2_apply, val_main_call0_v4_apply, val_main_call0_v3_apply, val_main_call0_v2_apply, val_main_call0_v1_apply, val_main_call0_v0_apply, r0 h0]
  exact ideal_sg _
theorem r4_1 (i : S4096x2048.Idx) : val_main_v4_1 (F := Ideal) x0 i = ((sg (PJ (i 0).val (i 1).val) * (1 - sg (PJ (i 0).val (i 1).val)) : ℝ) : EReal) := by
  rw [val_main_v4_1_apply, val_main_call0_v7_apply, r4_2 h0, val_main_call0_v6_apply, EReal.coe_mul]
  exact congrArg (_ * ·) (ideal_one_sub _)
theorem r6 (i : S4096x2048.Idx) : val_main_v6 (F := Ideal) x0 i = ((qg (PJ (i 0).val (i 1).val) : ℝ) : EReal) := by
  rw [val_main_v6_apply, val_main_v4_0_apply, r0 h0, r4_2 h0, val_main_v5_apply]
  show (_ * _) * Ideal.ofBits .f32 0x3DB504F3#32 = _
  rw [qsc_coe, ← EReal.coe_mul, ← EReal.coe_mul]; rfl
theorem r14 (i : S4096x2048.Idx) : val_main_v14 (F := Ideal) x0 i = ((sg (PJ (i 0).val (2048 + (i 1).val)) : ℝ) : EReal) := by
  rw [val_main_v14_apply, val_main_v13_apply, val_main_v12_apply, val_main_v11_apply, val_main_v10_apply, val_main_v9_apply, r1 h0]
  exact ideal_sg _
theorem r17 (i : S4096x2048.Idx) : val_main_v17 (F := Ideal) x0 i =
    ((sg (PJ (i 0).val (2048 + (i 1).val)) * (1 - sg (PJ (i 0).val (2048 + (i 1).val))) : ℝ) : EReal) := by
  rw [val_main_v17_apply, val_main_v16_apply, r14 h0, val_main_v15_apply, EReal.coe_mul]
  exact congrArg (_ * ·) (ideal_one_sub _)
theorem r26 (i : S16x4096x128.Idx) : val_main_v26 (F := Ideal) x0 i = ((Qs (headAt PJ 0 (i 0).val) (i 1).val (i 2) : ℝ) : EReal) := by
  rw [val_main_v26_apply, val_main_v25_apply, r6 h0]
  have b0 : (i 0).val < 16 := (i 0).isLt
  have b1 : (i 1).val < 4096 := (i 1).isLt
  have b2 : (i 2).val < 128 := (i 2).isLt
  show ((qg (PJ ((((i 1).val * 16 + (i 0).val) * 128 + (i 2).val) / 2048) ((((i 1).val * 16 + (i 0).val) * 128 + (i 2).val) % 2048)) : ℝ) : EReal) = ((qg (PJ (i 1).val (0 + 128 * (i 0).val + (i 2).val)) : ℝ) : EReal)
  rw [show (((i 1).val * 16 + (i 0).val) * 128 + (i 2).val) / 2048 = (i 1).val by omega,
    show (((i 1).val * 16 + (i 0).val) * 128 + (i 2).val) % 2048 = 0 + 128 * (i 0).val + (i 2).val by omega]
theorem r30 (i : S16x4096x128.Idx) : val_main_v30 (F := Ideal) x0 i = ((headAt PJ 4096 (i 0).val (i 1).val (i 2) : ℝ) : EReal) := by
  rw [val_main_v30_apply, val_main_v29_apply, r2 h0]
  have b0 : (i 0).val < 16 := (i 0).isLt
  have b1 : (i 1).val < 4096 := (i 1).isLt
  have b2 : (i 2).val < 128 := (i 2).isLt
  show ((PJ ((((i 1).val * 16 + (i 0).val) * 128 + (i 2).val) / 2048) (4096 + (((i 1).val * 16 + (i 0).val) * 128 + (i 2).val) % 2048) : ℝ) : EReal) = ((PJ (i 1).val (4096 + 128 * (i 0).val + (i 2).val) : ℝ) : EReal)
  rw [show (((i 1).val * 16 + (i 0).val) * 128 + (i 2).val) / 2048 = (i 1).val by omega,
    show 4096 + (((i 1).val * 16 + (i 0).val) * 128 + (i 2).val) % 2048 = 4096 + 128 * (i 0).val + (i 2).val by omega]
end

theorem r56 {x2 : (⟨S4096x2048, .f32⟩ : BufTy).Contents (Elt Ideal)} (h2 : ∀ j, x2 j = ((DO (j 0).val (j 1).val : ℝ) : EReal)) (i : S16x4096x128.Idx) :
    val_main_v56 (F := Ideal) x2 i = ((headAt DO 0 (i 0).val (i 1).val (i 2) : ℝ) : EReal) := by
  rw [val_main_v56_apply, val_main_v55_apply, h2]
  have b0 : (i 0).val < 16 := (i 0).isLt
  have b1 : (i 1).val < 4096 := (i 1).isLt
  have b2 : (i 2).val < 128 := (i 2).isLt
  show ((DO ((((i 1).val * 16 + (i 0).val) * 128 + (i 2).val) / 2048) ((((i 1).val * 16 + (i 0).val) * 128 + (i 2).val) % 2048) : ℝ) : EReal) = ((DO (i 1).val (0 + 128 * (i 0).val + (i 2).val) : ℝ) : EReal)
  rw [show (((i 1).val * 16 + (i 0).val) * 128 + (i 2).val) / 2048 = (i 1).val by omega,
    show (((i 1).val * 16 + (i 0).val) * 128 + (i 2).val) % 2048 = 0 + 128 * (i 0).val + (i 2).val by omega]

section
variable (h1 : ∀ j, x1 j = ((LB (j 1).val : ℝ) : EReal))
include h1

theorem r8 (i : S1x2048.Idx) : val_main_v8 (F := Ideal) x1 i = ((1 - LB (i 1).val : ℝ) : EReal) := by
  rw [val_main_v8_apply, val_main_v7_apply, h1]
  exact ideal_one_sub _

variable (h0 : ∀ j, x0 j = ((PJ (j 0).val (j 1).val : ℝ) : EReal))
include h0

theorem r21 (i : S4096x2048.Idx) : val_main_v21 (F := Ideal) x0 x1 i = ((fg (LB (i 1).val) (PJ (i 0).val (2048 + (i 1).val)) : ℝ) : EReal) := by
  rw [val_main_v21_apply, val_main_v20_apply, val_main_v19_apply, val_main_v18_apply, r8 h1, r14 h0, h1]
  show (_ + _ * _ : EReal) = _
  rw [← EReal.coe_mul, ← EReal.coe_add]; rfl
theorem r23 (i : S4096x2048.Idx) : val_main_v23 (F := Ideal) x0 x1 i = ((1 - fg (LB (i 1).val) (PJ (i 0).val (2048 + (i 1).val)) : ℝ) : EReal) := by
  rw [val_main_v23_apply, val_main_v22_apply, r21 h1 h0]
  exact ideal_one_sub _
theorem r28 (i : S16x4096x128.Idx) : val_main_v28 (F := Ideal) x0 x1 i =
    ((Ks (lbAt LB (i 0).val) (headAt PJ 2048 (i 0).val) (i 1).val (i 2) : ℝ) : EReal) := by
  rw [val_main_v28_apply, val_main_v27_apply, r23 h1 h0]
  have b0 : (i 0).val < 16 := (i 0).isLt
  have b1 : (i 1).val < 4096 := (i 1).isLt
  have b2 : (i 2).val < 128 := (i 2).isLt
  show ((1 - fg (LB ((((i 1).val * 16 + (i 0).val) * 128 + (i 2).val) % 2048)) (PJ ((((i 1).val * 16 + (i 0).val) * 128 + (i 2).val) / 2048) (2048 + (((i 1).val * 16 + (i 0).val) * 128 + (i 2).val) % 2048)) : ℝ) : EReal)
    = ((1 - fg (LB (128 * (i 0).val + (i 2).val)) (PJ (i 1).val (2048 + 128 * (i 0).val + (i 2).val)) : ℝ) : EReal)
  rw [show (((i 1).val * 16 + (i 0).val) * 128 + (i 2).val) / 2048 = (i 1).val by omega,
    show (((i 1).val * 16 + (i 0).val) * 128 + (i 2).val) % 2048 = 128 * (i 0).val + (i 2).val by omega, ← add_assoc]

variable (hl : ∀ j, 0 ≤ LB j)
include hl

theorem r24 (i : S4096x2048.Idx) : val_main_v24 (F := Ideal) x0 x1 i = ((Real.log (fg (LB (i 1).val) (PJ (i 0).val (2048 + (i 1).val))) : ℝ) : EReal) := by
  rw [val_main_v24_apply, r21 h1 h0]
  show Ideal.log ((fg (LB (i 1).val) (PJ (i 0).val (2048 + (i 1).val)) : ℝ) : EReal) = _
  rw [Ideal.log_coe, if_neg (not_le.mpr (fg_pos (hl _) _))]
theorem r32 (i : S16x4096x128.Idx) : val_main_v32 (F := Ideal) x0 x1 i =
    ((Gs (lbAt LB (i 0).val) (headAt PJ 2048 (i 0).val) (i 1).val (i 2) : ℝ) : EReal) := by
  rw [val_main_v32_apply, val_main_v31_apply, r24 h1 h0 hl]
  have b0 : (i 0).val < 16 := (i 0).isLt
  have b1 : (i 1).val < 4096 := (i 1).isLt
  have b2 : (i 2).val < 128 := (i 2).isLt
  show ((Real.log (fg (LB ((((i 1).val * 16 + (i 0).val) * 128 + (i 2).val) % 2048)) (PJ ((((i 1).val * 16 + (i 0).val) * 128 + (i 2).val) / 2048) (2048 + (((i 1).val * 16 + (i 0).val) * 128 + (i 2).val) % 2048))) : ℝ) : EReal)
    = ((Real.log (fg (LB (128 * (i 0).val + (i 2).val)) (PJ (i 1).val (2048 + 128 * (i 0).val + (i 2).val))) : ℝ) : EReal)
  rw [show (((i 1).val * 16 + (i 0).val) * 128 + (i 2).val) / 2048 = (i 1).val by omega,
    show (((i 1).val * 16 + (i 0).val) * 128 + (i 2).val) % 2048 = 128 * (i 0).val + (i 2).val by omega, ← add_assoc]
end

end Cert.ReferenceIdeal.Hgrn

end
-- ==== Proof.RefSums.lean ====
/- The reference's running sums, forward and backward along the positions, and sums over all positions under a mask. -/
module

public import proofs.«01_k».proof.Proof.RefGates

@[expose] public section

set_option maxRecDepth 16384

noncomputable section

namespace Cert.ReferenceIdeal.Hgrn

open Idealize.ShloMosaic Cert.ReferenceIdeal Cert.ReferenceIdeal.Gen Cert.ReferenceIdeal.Read

theorem coe_sum {ι : Type} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- The sum over the positions up to `t`, as a masked sum over all of them. -/
theorem sum_upto (f : ℕ → ℝ) {t : ℕ} (ht : t < 4096) : (∑ s : Fin 4096, if s.val ≤ t then f s.val else 0) = ∑ s ∈ Finset.range (t + 1), f s := by
  rw [← Finset.sum_range (fun s => if s ≤ t then f s else 0), ← Finset.sum_filter]
  refine Finset.sum_congr ?_ fun _ _ => rfl
  ext s; simp only [Finset.mem_filter, Finset.mem_range]; omega
/-- The sum over the positions from `s` on, as a masked sum over all of them. -/
theorem sum_from (f : ℕ → ℝ) (s : ℕ) : (∑ t : Fin 4096, if s ≤ t.val then f t.val else 0) = ∑ t ∈ Finset.Ico s 4096, f t := by
  rw [← Finset.sum_range (fun t => if s ≤ t then f t else 0), ← Finset.sum_filter]
  refine Finset.sum_congr ?_ fun _ _ => rfl
  ext t; simp only [Finset.mem_filter, Finset.mem_range, Finset.mem_Ico]; omega
theorem sum_all (f : ℕ → ℝ) : (∑ t : Fin 4096, f t.val) = ∑ t ∈ Finset.Ico 0 4096, f t := by
  rw [Nat.Ico_zero_eq_range, Finset.sum_range]

theorem foldl_sum {ι : Type} (f : ι → EReal) (l : List ι) (v : EReal) : l.foldl (fun r n => r + f n) v = v + (l.map f).sum := by
  induction l generalizing v with
  | nil => simp
  | cons a l ih => rw [List.foldl_cons, ih, List.map_cons, List.sum_cons, add_assoc]

/-- An element of a window over the positions of one head and lane. -/
abbrev wix {n : ℕ} (k : Fin n) : (⟨3, ![1, n, 1]⟩ : Shape).Idx := fun a => match a with
  | ⟨0, _⟩ => ⟨0, Nat.one_pos⟩
  | ⟨1, _⟩ => k
  | ⟨2, _⟩ => ⟨0, Nat.one_pos⟩
theorem wix_bij {n : ℕ} : Function.Bijective (wix (n := n)) := by
  refine ⟨fun a b h => congrFun h 1, fun w => ⟨w 1, funext fun a => ?_⟩⟩
  match a with
  | ⟨0, _⟩ => exact Fin.ext (by have h : (w 0).val < 1 := (w 0).isLt; show 0 = (w 0).val; omega)
  | ⟨1, _⟩ => rfl
  | ⟨2, _⟩ => exact Fin.ext (by have h : (w 2).val < 1 := (w 2).isLt; show 0 = (w 2).val; omega)

theorem fold_window {n : ℕ} (f : (⟨3, ![1, n, 1]⟩ : Shape).Idx → EReal) :
    (List.finRange (⟨3, ![1, n, 1]⟩ : Shape).numel).foldl (fun r m => r + f ((⟨3, ![1, n, 1]⟩ : Shape).rowMajor.symm m)) 0 = ∑ k : Fin n, f (wix k) := by
  rw [foldl_sum (fun m => f ((⟨3, ![1, n, 1]⟩ : Shape).rowMajor.symm m)), zero_add, ← Fin.sum_univ_def, Equiv.sum_comp (⟨3, ![1, n, 1]⟩ : Shape).rowMajor.symm f]
  exact (Fintype.sum_bijective wix wix_bij _ _ fun _ => rfl).symm

theorem window_sum {n h0 h2 : ℕ} {t u : Shape} (lo hi : Fin 3 → ℕ) (x : (⟨3, ![h0, n, h2]⟩ : Shape).Idx → EReal) (init : u.Idx → EReal)
    (h : (⟨3, ![h0, n, h2]⟩ : Shape).ReduceWindows ![1, n, 1] ![1, 1, 1] lo hi t) (hu : 0 < u.numel) (hi0 : init (Shape.Idx.first hu) = 0) (j : t.Idx) (F : Fin n → EReal)
    (hF : ∀ w k (_ : w = wix k) (hin : ∀ a, lo a ≤ (j (a.cast h.1.symm)).val * (![1, 1, 1] : Fin 3 → ℕ) a + ((w : (⟨3, ![1, n, 1]⟩ : Shape).Idx) a).val ∧
          (j (a.cast h.1.symm)).val * (![1, 1, 1] : Fin 3 → ℕ) a + ((w : (⟨3, ![1, n, 1]⟩ : Shape).Idx) a).val - lo a < (⟨3, ![h0, n, h2]⟩ : Shape).size a),
        x (fun a => ⟨(j (a.cast h.1.symm)).val * (![1, 1, 1] : Fin 3 → ℕ) a + ((w : (⟨3, ![1, n, 1]⟩ : Shape).Idx) a).val - lo a, (hin a).2⟩) = F k)
    (hF0 : ∀ w k (_ : w = wix k), ¬ (∀ a, lo a ≤ (j (a.cast h.1.symm)).val * (![1, 1, 1] : Fin 3 → ℕ) a + ((w : (⟨3, ![1, n, 1]⟩ : Shape).Idx) a).val ∧
          (j (a.cast h.1.symm)).val * (![1, 1, 1] : Fin 3 → ℕ) a + ((w : (⟨3, ![1, n, 1]⟩ : Shape).Idx) a).val - lo a < (⟨3, ![h0, n, h2]⟩ : Shape).size a) → 0 = F k) :
    Host.reduceWindow (α := EReal) (· + ·) ![1, n, 1] ![1, 1, 1] lo hi x init h hu j = ∑ k : Fin n, F k := by
  unfold Host.reduceWindow
  dsimp only
  rw [hi0]
  refine Eq.trans ?_ ((fold_window (n := n) fun w => F (w 1)).trans rfl)
  refine congrArg (fun F => List.foldl F (0 : EReal) _) (funext fun r => funext fun m => congrArg (r + ·) ?_)
  obtain ⟨k, hk⟩ := wix_bij.2 ((⟨3, ![1, n, 1]⟩ : Shape).rowMajor.symm m)
  refine Eq.trans ?_ (congrArg (fun w : (⟨3, ![1, n, 1]⟩ : Shape).Idx => F (w 1)) hk)
  split
  · next hin => exact hF _ k hk.symm hin
  · next hin => exact hF0 _ k hk.symm hin

theorem forward {N M h0 h2 : ℕ} (hN : M + 1 = N) (x : (⟨3, ![h0, N, h2]⟩ : Shape).Idx → EReal) (g : ℕ → ℕ → Fin h2 → ℝ)
    (hx : ∀ i, x i = ((g (i 0).val (i 1).val (i 2) : ℝ) : EReal)) {u : Shape} (init : u.Idx → EReal)
    (h : (⟨3, ![h0, N, h2]⟩ : Shape).ReduceWindows ![1, N, 1] ![1, 1, 1] ![0, M, 0] ![0, 0, 0] ⟨3, ![h0, N, h2]⟩) (hu : 0 < u.numel) (hi0 : init (Shape.Idx.first hu) = 0)
    (i : (⟨3, ![h0, N, h2]⟩ : Shape).Idx) :
    Host.reduceWindow (α := EReal) (· + ·) ![1, N, 1] ![1, 1, 1] ![0, M, 0] ![0, 0, 0] x init h hu i = ((∑ s ∈ Finset.range ((i 1).val + 1), g (i 0).val s (i 2) : ℝ) : EReal) := by
  subst hN
  have b0 : (i 0).val < h0 := (i 0).isLt
  have b1 : (i 1).val < M + 1 := (i 1).isLt
  have b2 : (i 2).val < h2 := (i 2).isLt
  refine (window_sum ![0, M, 0] ![0, 0, 0] x init h hu hi0 i
    (fun k => (((fun n => if M ≤ (i 1).val + n then g (i 0).val ((i 1).val + n - M) (i 2) else 0) k.val : ℝ) : EReal)) (fun w k hw hin => ?_) (fun w k hw hin => ?_)).trans ?_
  · subst hw
    have h1 : M ≤ (i 1).val * 1 + k.val := (hin 1).1
    dsimp only
    rw [if_pos (by omega), hx]
    have e0 : (i 0).val * 1 + 0 - 0 = (i 0).val := by omega
    have e1 : (i 1).val * 1 + k.val - M = (i 1).val + k.val - M := by omega
    have e2 : (⟨(i 2).val * 1 + 0 - 0, by omega⟩ : Fin h2) = i 2 := Fin.ext (by show (i 2).val * 1 + 0 - 0 = (i 2).val; omega)
    show ((g ((i 0).val * 1 + 0 - 0) ((i 1).val * 1 + k.val - M) (⟨(i 2).val * 1 + 0 - 0, by omega⟩ : Fin h2) : ℝ) : EReal) = _
    rw [e0, e1, e2]
  · subst hw
    have bk := k.isLt
    dsimp only
    rw [if_neg fun hle => hin fun a => ?_, EReal.coe_zero]
    match a with
    | ⟨0, _⟩ => show 0 ≤ (i 0).val * 1 + 0 ∧ (i 0).val * 1 + 0 - 0 < h0; omega
    | ⟨1, _⟩ => show M ≤ (i 1).val * 1 + k.val ∧ (i 1).val * 1 + k.val - M < M + 1; omega
    | ⟨2, _⟩ => show 0 ≤ (i 2).val * 1 + 0 ∧ (i 2).val * 1 + 0 - 0 < h2; omega
  · rw [coe_sum, ← Finset.sum_range fun n => if M ≤ (i 1).val + n then g (i 0).val ((i 1).val + n - M) (i 2) else 0, ← Finset.sum_filter]
    refine congrArg _ (Finset.sum_bij' (fun n _ => (i 1).val + n - M) (fun s _ => s + M - (i 1).val) ?_ ?_ ?_ ?_ ?_) <;>
      simp only [Finset.mem_filter, Finset.mem_range] <;> intros <;> first | omega | trivial

theorem backward {N M h0 h2 : ℕ} (hN : M + 1 = N) (x : (⟨3, ![h0, N, h2]⟩ : Shape).Idx → EReal) (g : ℕ → ℕ → Fin h2 → ℝ)
    (hx : ∀ i, x i = ((g (i 0).val (i 1).val (i 2) : ℝ) : EReal)) {u : Shape} (init : u.Idx → EReal)
    (h : (⟨3, ![h0, N, h2]⟩ : Shape).ReduceWindows ![1, N, 1] ![1, 1, 1] ![0, 0, 0] ![0, M, 0] ⟨3, ![h0, N, h2]⟩) (hu : 0 < u.numel) (hi0 : init (Shape.Idx.first hu) = 0)
    (i : (⟨3, ![h0, N, h2]⟩ : Shape).Idx) :
    Host.reduceWindow (α := EReal) (· + ·) ![1, N, 1] ![1, 1, 1] ![0, 0, 0] ![0, M, 0] x init h hu i = ((∑ t ∈ Finset.Ico (i 1).val N, g (i 0).val t (i 2) : ℝ) : EReal) := by
  have b0 : (i 0).val < h0 := (i 0).isLt
  have b1 : (i 1).val < N := (i 1).isLt
  have b2 : (i 2).val < h2 := (i 2).isLt
  refine (window_sum ![0, 0, 0] ![0, M, 0] x init h hu hi0 i
    (fun k => (((fun n => if (i 1).val + n < N then g (i 0).val ((i 1).val + n) (i 2) else 0) k.val : ℝ) : EReal)) (fun w k hw hin => ?_) (fun w k hw hin => ?_)).trans ?_
  · subst hw
    have h1 : (i 1).val * 1 + k.val - 0 < N := (hin 1).2
    dsimp only
    rw [if_pos (by omega), hx]
    have e0 : (i 0).val * 1 + 0 - 0 = (i 0).val := by omega
    have e1 : (i 1).val * 1 + k.val - 0 = (i 1).val + k.val := by omega
    have e2 : (⟨(i 2).val * 1 + 0 - 0, by omega⟩ : Fin h2) = i 2 := Fin.ext (by show (i 2).val * 1 + 0 - 0 = (i 2).val; omega)
    show ((g ((i 0).val * 1 + 0 - 0) ((i 1).val * 1 + k.val - 0) (⟨(i 2).val * 1 + 0 - 0, by omega⟩ : Fin h2) : ℝ) : EReal) = _
    rw [e0, e1, e2]
  · subst hw
    have bk := k.isLt
    dsimp only
    rw [if_neg fun hle => hin fun a => ?_, EReal.coe_zero]
    match a with
    | ⟨0, _⟩ => show 0 ≤ (i 0).val * 1 + 0 ∧ (i 0).val * 1 + 0 - 0 < h0; omega
    | ⟨1, _⟩ => show 0 ≤ (i 1).val * 1 + k.val ∧ (i 1).val * 1 + k.val - 0 < N; omega
    | ⟨2, _⟩ => show 0 ≤ (i 2).val * 1 + 0 ∧ (i 2).val * 1 + 0 - 0 < h2; omega
  · rw [coe_sum, ← Finset.sum_range fun n => if (i 1).val + n < N then g (i 0).val ((i 1).val + n) (i 2) else 0, ← Finset.sum_filter]
    refine congrArg _ (Finset.sum_bij' (fun n _ => (i 1).val + n) (fun s _ => s - (i 1).val) ?_ ?_ ?_ ?_ ?_) <;>
      simp only [Finset.mem_filter, Finset.mem_range, Finset.mem_Ico] <;> intros <;> first | omega | trivial

theorem cumsum_forward (x : S16x4096x128.Idx → EReal) (g : ℕ → ℕ → Fin 128 → ℝ) (hx : ∀ i, x i = ((g (i 0).val (i 1).val (i 2) : ℝ) : EReal))
    (init : S_.Idx → EReal) (hi : ∀ i, init i = 0) (h : S16x4096x128.ReduceWindows ![1, 4096, 1] ![1, 1, 1] ![0, 4095, 0] ![0, 0, 0] S16x4096x128)
    (hu : 0 < S_.numel) (i : S16x4096x128.Idx) :
    Host.reduceWindowAdd (F := Ideal) (φ := .f32) ![1, 4096, 1] ![1, 1, 1] ![0, 4095, 0] ![0, 0, 0] x init h hu i
      = ((∑ s ∈ Finset.range ((i 1).val + 1), g (i 0).val s (i 2) : ℝ) : EReal) := by
  unfold Host.reduceWindowAdd
  rw [Ideal.hostReduceWindowAdd_def]
  unfold Ideal.hostReduceWindowAdd
  exact forward (N := 4096) (M := 4095) (h0 := 16) (h2 := 128) rfl x g hx _ h _ (hi _) i
theorem cumsum_backward (x : S16x4096x128.Idx → EReal) (g : ℕ → ℕ → Fin 128 → ℝ) (hx : ∀ i, x i = ((g (i 0).val (i 1).val (i 2) : ℝ) : EReal))
    (init : S_.Idx → EReal) (hi : ∀ i, init i = 0) (h : S16x4096x128.ReduceWindows ![1, 4096, 1] ![1, 1, 1] ![0, 0, 0] ![0, 4095, 0] S16x4096x128)
    (hu : 0 < S_.numel) (i : S16x4096x128.Idx) :
    Host.reduceWindowAdd (F := Ideal) (φ := .f32) ![1, 4096, 1] ![1, 1, 1] ![0, 0, 0] ![0, 4095, 0] x init h hu i
      = ((∑ t ∈ Finset.Ico (i 1).val 4096, g (i 0).val t (i 2) : ℝ) : EReal) := by
  unfold Host.reduceWindowAdd
  rw [Ideal.hostReduceWindowAdd_def]
  unfold Ideal.hostReduceWindowAdd
  exact backward (N := 4096) (M := 4095) (h0 := 16) (h2 := 128) rfl x g hx _ h _ (hi _) i

end Cert.ReferenceIdeal.Hgrn

end
-- ==== Proof.RefScores.lean ====
/- The reference between the gates: decays, scores, outputs and their gradients, head by head. -/
module

public import proofs.«01_k».proof.Proof.RefSums
public import Idealize.ShloMosaic.Lib.WordCmp

@[expose] public section

set_option maxRecDepth 16384

noncomputable section

namespace Cert.ReferenceIdeal.Hgrn

open Idealize.ShloMosaic Cert.ReferenceIdeal Cert.ReferenceIdeal.Gen Cert.ReferenceIdeal.Read
open Cert.KernelIdeal.Hgrn
open Cert.KernelIdeal.Hgrn.Seq (RS)

theorem sel_iff {α : Type} {c : BitVec 1} {p : Prop} [Decidable p] (h : c = 1#1 ↔ p) (a b : α) : Scalar.select c a b = if p then a else b := by
  by_cases hp : p
  · rw [h.2 hp, if_pos hp]; rfl
  · have hc : c = 0#1 := by
      have hn : c ≠ 1#1 := fun e => hp (h.1 e)
      clear h
      revert c; decide
    rw [hc, if_neg hp]; rfl

theorem coe_if {p : Prop} [Decidable p] (a b : ℝ) : (if p then (a : EReal) else (b : EReal)) = ((if p then a else b : ℝ) : EReal) := by split <;> rfl

theorem zero_bits (x : EReal) : Ideal.ofBits .f32 0x00000000#32 + x = x := by rw [Ideal.ofBits_zero_f32, zero_add]

theorem mask (i : S16x4096x4096x128.Idx) : val_main_v42_1 (F := Ideal) i = 1#1 ↔ (i 2).val ≤ (i 1).val := by
  have b1 : (i 1).val < 4096 := (i 1).isLt
  have b2 : (i 2).val < 4096 := (i 2).isLt
  rw [val_main_v42_1_apply, val_main_v41_apply, val_main_v34_apply, val_main_v33_apply, val_main_call1_v5_apply, val_main_call1_v4_apply, val_main_call1_v3_apply,
    val_main_call1_v2_apply, val_main_call1_v1_apply, val_main_call1_v0_apply]
  have e : IntOp.cmpi .sge (BitVec.ofNat 32 (i 1).val) (BitVec.ofNat 32 (i 2).val) = 1#1 ↔ (i 2).val ≤ (i 1).val :=
    WordCmp.cmpi_sge_ofNat_eq_one_iff (by omega) (by omega)
  show Scalar.select (IntOp.cmpi .sge (BitVec.ofNat 32 (i 1).val + 0#32) (BitVec.ofNat 32 (i 2).val)) (1#1) (0#1) = 1#1 ↔ _
  rw [BitVec.add_zero, sel_iff e]
  split <;> simp_all

variable {x0 : (⟨S4096x8192, .f32⟩ : BufTy).Contents (Elt Ideal)} {x1 : (⟨S1x2048, .f32⟩ : BufTy).Contents (Elt Ideal)}
variable {x2 : (⟨S4096x2048, .f32⟩ : BufTy).Contents (Elt Ideal)}
variable {q k v g d : ℕ → RS}

/-! ## The outputs -/

section
variable (hg : ∀ i, val_main_v32 (F := Ideal) x0 x1 i = ((g (i 0).val (i 1).val (i 2) : ℝ) : EReal))
include hg

theorem s35 (i : S16x4096x128.Idx) : val_main_v35 (F := Ideal) x0 x1 i = ((Seq.P (g (i 0).val) (i 2) ((i 1).val + 1) : ℝ) : EReal) := by
  unfold val_main_v35
  refine (cumsum_forward _ g hg _ (fun j => ?_) _ _ i).trans rfl
  rw [val_main_call2_call0_v0_apply]
  exact Ideal.ofBits_zero_f32
theorem s42_0 (i : S16x4096x4096x128.Idx) : val_main_v42_0 (F := Ideal) x0 x1 i =
    if (i 2).val ≤ (i 1).val then ((Seq.P (g (i 0).val) (i 3) ((i 1).val + 1) - Seq.P (g (i 0).val) (i 3) ((i 2).val + 1) : ℝ) : EReal) else ⊥ := by
  rw [val_main_v42_0_apply, sel_iff (mask i), val_main_v40_apply, val_main_v38_apply, val_main_v36_apply, s35 hg, val_main_v39_apply, val_main_v37_apply, s35 hg,
    val_main_call3_v2_apply, val_main_call3_v0_apply]
  have e : Ideal.ofBits .f32 0xFF800000#32 = (⊥ : EReal) := by
    unfold Ideal.ofBits Ideal.ieee; dsimp only; rfl
  rw [EReal.coe_sub]
  split
  · rfl
  · exact e
theorem s48 (i : S16x4096x4096x128.Idx) : val_main_v48 (F := Ideal) x0 x1 i =
    ((if (i 2).val ≤ (i 1).val then Seq.E (g (i 0).val) (i 1).val (i 2).val (i 3) else 0 : ℝ) : EReal) := by
  rw [val_main_v48_apply, s42_0 hg]
  split
  · exact Ideal.exp_coe _
  · exact Ideal.exp_bot

variable (hq : ∀ i, val_main_v26 (F := Ideal) x0 i = ((q (i 0).val (i 1).val (i 2) : ℝ) : EReal))
variable (hk : ∀ i, val_main_v28 (F := Ideal) x0 x1 i = ((k (i 0).val (i 1).val (i 2) : ℝ) : EReal))
include hq hk

omit hg in
theorem s47 (i : S16x4096x4096x128.Idx) : val_main_v47 (F := Ideal) x0 x1 i = ((q (i 0).val (i 1).val (i 3) * k (i 0).val (i 2).val (i 3) : ℝ) : EReal) := by
  rw [val_main_v47_apply, val_main_v45_apply, val_main_v43_apply, hq, val_main_v46_apply, val_main_v44_apply, hk, EReal.coe_mul]
  rfl
theorem s50 (i : S16x4096x4096.Idx) : val_main_v50 (F := Ideal) x0 x1 i =
    ((if (i 2).val ≤ (i 1).val then Seq.A (q (i 0).val) (k (i 0).val) (g (i 0).val) (i 1).val (i 2).val else 0 : ℝ) : EReal) := by
  rw [val_main_v50_apply]
  refine (zero_bits _).trans ?_
  have e : ∀ l : Fin 128, val_main_v49 (F := Ideal) x0 x1 (idx_main_v50 i l) =
      ((if (i 2).val ≤ (i 1).val then q (i 0).val (i 1).val l * k (i 0).val (i 2).val l * Seq.E (g (i 0).val) (i 1).val (i 2).val l else 0 : ℝ) : EReal) := fun l => by
    rw [val_main_v49_apply, s47 hq hk, s48 hg, ← mul_zero (q (i 0).val (i 1).val l * k (i 0).val (i 2).val l), ← mul_ite, EReal.coe_mul]
    simp only [mul_zero]
    rfl
  rw [Finset.sum_congr rfl fun l _ => e l, coe_sum]
  refine congrArg _ ?_
  split
  · rfl
  · exact Finset.sum_const_zero

variable (hv : ∀ i, val_main_v30 (F := Ideal) x0 i = ((v (i 0).val (i 1).val (i 2) : ℝ) : EReal))

include hv in
/-- The outputs. -/
theorem s51 (i : S16x4096x128.Idx) : val_main_v51 (F := Ideal) x0 x1 i = ((Seq.O (q (i 0).val) (k (i 0).val) (v (i 0).val) (g (i 0).val) (i 1).val (i 2) : ℝ) : EReal) := by
  rw [val_main_v51_apply]
  have e : ∀ s : Fin 4096, val_main_v50 (F := Ideal) x0 x1 (lidx_main_v51 i s) * val_main_v30 (F := Ideal) x0 (ridx_main_v51 i s) =
      (((fun s => if s ≤ (i 1).val then Seq.A (q (i 0).val) (k (i 0).val) (g (i 0).val) (i 1).val s * v (i 0).val s (i 2) else 0) s.val : ℝ) : EReal) := fun s => by
    rw [s50 hg hq hk, hv, ← EReal.coe_mul, ite_mul, zero_mul]
    rfl
  rw [Finset.sum_congr rfl fun s _ => e s, coe_sum]
  exact congrArg _ (sum_upto (fun s => Seq.A (q (i 0).val) (k (i 0).val) (g (i 0).val) (i 1).val s * v (i 0).val s (i 2)) (i 1).isLt)

variable (hd : ∀ i, val_main_v56 (F := Ideal) x2 i = ((d (i 0).val (i 1).val (i 2) : ℝ) : EReal))
include hd

/-- The values' gradient. -/
theorem s58 (i : S16x4096x128.Idx) : val_main_v58 (F := Ideal) x0 x1 x2 i =
    ((Seq.DV (q (i 0).val) (k (i 0).val) (g (i 0).val) (d (i 0).val) (i 1).val (i 2) : ℝ) : EReal) := by
  rw [val_main_v58_apply, val_main_v57_apply]
  have e : ∀ t : Fin 4096, val_main_v56 (F := Ideal) x2 (lidx_main_v57 (idx_main_v58 i) t) * val_main_v50 (F := Ideal) x0 x1 (ridx_main_v57 (idx_main_v58 i) t) =
      (((fun t => if (i 1).val ≤ t then Seq.A (q (i 0).val) (k (i 0).val) (g (i 0).val) t (i 1).val * d (i 0).val t (i 2) else 0) t.val : ℝ) : EReal) := fun t => by
    rw [s50 hg hq hk, hd, mul_comm, ← EReal.coe_mul, ite_mul, zero_mul]
    rfl
  rw [Finset.sum_congr rfl fun t _ => e t, coe_sum]
  exact congrArg _ (sum_from (fun t => Seq.A (q (i 0).val) (k (i 0).val) (g (i 0).val) t (i 1).val * d (i 0).val t (i 2)) (i 1).val)

/-! ## The scores' gradient, and through it the queries' and the keys' -/

include hv

omit hg hq hk in
theorem s60 (i : S16x4096x4096x128.Idx) : val_main_v60 (F := Ideal) x0 x2 i = ((Seq.DA (v (i 0).val) (d (i 0).val) (i 1).val (i 2).val : ℝ) : EReal) := by
  rw [val_main_v60_apply, val_main_v59_apply]
  have e : ∀ e : Fin 128, val_main_v56 (F := Ideal) x2 (lidx_main_v59 (idx_main_v60 i) e) * val_main_v30 (F := Ideal) x0 (ridx_main_v59 (idx_main_v60 i) e) =
      ((d (i 0).val (i 1).val e * v (i 0).val (i 2).val e : ℝ) : EReal) := fun e => by
    rw [hd, hv, ← EReal.coe_mul]
    rfl
  rw [Finset.sum_congr rfl fun t _ => e t, coe_sum]
  rfl
omit hq hk in
theorem s62 (i : S16x4096x4096x128.Idx) : val_main_v62 (F := Ideal) x0 x1 x2 i =
    ((if (i 2).val ≤ (i 1).val then Seq.DA (v (i 0).val) (d (i 0).val) (i 1).val (i 2).val * Seq.E (g (i 0).val) (i 1).val (i 2).val (i 3) else 0 : ℝ) : EReal) := by
  rw [val_main_v62_apply, s60 hv hd, s48 hg, ← mul_zero (Seq.DA (v (i 0).val) (d (i 0).val) (i 1).val (i 2).val), ← mul_ite, EReal.coe_mul]
  simp only [mul_zero]
  rfl
theorem s74 (i : S16x4096x4096x128.Idx) : val_main_v74 (F := Ideal) x0 x1 x2 i =
    ((if (i 2).val ≤ (i 1).val then Seq.W (q (i 0).val) (k (i 0).val) (v (i 0).val) (g (i 0).val) (d (i 0).val) (i 1).val (i 2).val (i 3) else 0 : ℝ) : EReal) := by
  rw [val_main_v74_apply, sel_iff (mask i), val_main_v63_apply, val_main_v61_apply, s47 hq hk, s60 hv hd, s48 hg, val_main_call4_v0_apply]
  by_cases h : (i 2).val ≤ (i 1).val
  · simp only [if_pos h]
    show (_ * _) * _ = _
    rw [← EReal.coe_mul, ← EReal.coe_mul]
    refine congrArg _ ?_
    unfold Seq.W
    ring
  · simp only [if_neg h]
    exact Ideal.ofBits_zero_f32

omit hk in
theorem s66 (i : S16x4096x128.Idx) : val_main_v66 (F := Ideal) x0 x1 x2 i =
    ((Seq.DK (q (i 0).val) (v (i 0).val) (g (i 0).val) (d (i 0).val) (i 1).val (i 2) : ℝ) : EReal) := by
  rw [val_main_v66_apply]
  refine (zero_bits _).trans ?_
  have e : ∀ t : Fin 4096, val_main_v65 (F := Ideal) x0 x1 x2 (idx_main_v66 i t) =
      (((fun t => if (i 1).val ≤ t then Seq.DA (v (i 0).val) (d (i 0).val) t (i 1).val * q (i 0).val t (i 2) * Seq.E (g (i 0).val) t (i 1).val (i 2) else 0) t.val : ℝ) : EReal) := fun t => by
    rw [val_main_v65_apply, val_main_v64_apply, val_main_v43_apply, hq, s62 hg hv hd]
    show ((q (i 0).val t.val (i 2) : ℝ) : EReal) * ((if (i 1).val ≤ t.val then Seq.DA (v (i 0).val) (d (i 0).val) t.val (i 1).val * Seq.E (g (i 0).val) t.val (i 1).val (i 2) else 0 : ℝ) : EReal) = _
    rw [← EReal.coe_mul, mul_ite, mul_zero]
    refine congrArg _ (if_congr Iff.rfl ?_ rfl)
    ring
  rw [Finset.sum_congr rfl fun t _ => e t, coe_sum]
  exact congrArg _ (sum_from (fun t => Seq.DA (v (i 0).val) (d (i 0).val) t (i 1).val * q (i 0).val t (i 2) * Seq.E (g (i 0).val) t (i 1).val (i 2)) (i 1).val)
omit hq in
theorem s70 (i : S16x4096x128.Idx) : val_main_v70 (F := Ideal) x0 x1 x2 i =
    ((Seq.DQ (k (i 0).val) (v (i 0).val) (g (i 0).val) (d (i 0).val) (i 1).val (i 2) : ℝ) : EReal) := by
  rw [val_main_v70_apply]
  refine (zero_bits _).trans ?_
  have e : ∀ s : Fin 4096, val_main_v69 (F := Ideal) x0 x1 x2 (idx_main_v70 i s) =
      (((fun s => if s ≤ (i 1).val then Seq.DA (v (i 0).val) (d (i 0).val) (i 1).val s * k (i 0).val s (i 2) * Seq.E (g (i 0).val) (i 1).val s (i 2) else 0) s.val : ℝ) : EReal) := fun s => by
    rw [val_main_v69_apply, val_main_v68_apply, val_main_v44_apply, hk, s62 hg hv hd]
    show ((if s.val ≤ (i 1).val then Seq.DA (v (i 0).val) (d (i 0).val) (i 1).val s.val * Seq.E (g (i 0).val) (i 1).val s.val (i 2) else 0 : ℝ) : EReal) * ((k (i 0).val s.val (i 2) : ℝ) : EReal) = _
    rw [← EReal.coe_mul, ite_mul, zero_mul]
    refine congrArg _ (if_congr Iff.rfl ?_ rfl)
    ring
  rw [Finset.sum_congr rfl fun s _ => e s, coe_sum]
  exact congrArg _ (sum_upto (fun s => Seq.DA (v (i 0).val) (d (i 0).val) (i 1).val s * k (i 0).val s (i 2) * Seq.E (g (i 0).val) (i 1).val s (i 2)) (i 1).isLt)

omit hg hq hk hd hv in
theorem i67 (i : S16x4096x128.Idx) (n : Fin 1) : idx_main_v67 (idx_main_v72 i n) = i := by
  have b0 : (i 0).val < 16 := (i 0).isLt
  have b1 : (i 1).val < 4096 := (i 1).isLt
  have b2 : (i 2).val < 128 := (i 2).isLt
  have bn := n.isLt
  funext a
  match a with
  | ⟨0, _⟩ => exact Fin.ext (by show ((((i 0).val * 1 + n.val) * 4096 + (i 1).val) * 128 + (i 2).val) / 524288 = (i 0).val; omega)
  | ⟨1, _⟩ => exact Fin.ext (by show ((((i 0).val * 1 + n.val) * 4096 + (i 1).val) * 128 + (i 2).val) / 128 % 4096 = (i 1).val; omega)
  | ⟨2, _⟩ => exact Fin.ext (by show ((((i 0).val * 1 + n.val) * 4096 + (i 1).val) * 128 + (i 2).val) % 128 = (i 2).val; omega)
omit hg hq hk hd hv in
theorem i71 (i : S16x4096x128.Idx) (n : Fin 1) : idx_main_v71 (idx_main_v73 i n) = i := by
  have b0 : (i 0).val < 16 := (i 0).isLt
  have b1 : (i 1).val < 4096 := (i 1).isLt
  have b2 : (i 2).val < 128 := (i 2).isLt
  have bn := n.isLt
  funext a
  match a with
  | ⟨0, _⟩ => exact Fin.ext (by show ((((i 0).val * 4096 + (i 1).val) * 1 + n.val) * 128 + (i 2).val) / 524288 = (i 0).val; omega)
  | ⟨1, _⟩ => exact Fin.ext (by show ((((i 0).val * 4096 + (i 1).val) * 1 + n.val) * 128 + (i 2).val) / 128 % 4096 = (i 1).val; omega)
  | ⟨2, _⟩ => exact Fin.ext (by show ((((i 0).val * 4096 + (i 1).val) * 1 + n.val) * 128 + (i 2).val) % 128 = (i 2).val; omega)

omit hk in
/-- The keys' gradient. -/
theorem s72 (i : S16x4096x128.Idx) : val_main_v72 (F := Ideal) x0 x1 x2 i =
    ((Seq.DK (q (i 0).val) (v (i 0).val) (g (i 0).val) (d (i 0).val) (i 1).val (i 2) : ℝ) : EReal) := by
  rw [val_main_v72_apply]
  refine (zero_bits _).trans ?_
  rw [Fin.sum_univ_one, val_main_v67_apply, i67, s66 hg hq hv hd]
omit hq in
/-- The queries' gradient. -/
theorem s73 (i : S16x4096x128.Idx) : val_main_v73 (F := Ideal) x0 x1 x2 i =
    ((Seq.DQ (k (i 0).val) (v (i 0).val) (g (i 0).val) (d (i 0).val) (i 1).val (i 2) : ℝ) : EReal) := by
  rw [val_main_v73_apply]
  refine (zero_bits _).trans ?_
  rw [Fin.sum_univ_one, val_main_v71_apply, i71, s70 hg hk hv hd]

/-! ## The log decays' gradient -/

omit hg hq hk hd hv in
theorem i79 (i : S16x4096x128.Idx) (n : Fin 1) : idx_main_v79 (idx_main_v80 i n) = i := i67 i n
omit hg hq hk hd hv in
theorem i76 (i : S16x4096x128.Idx) (n : Fin 1) : idx_main_v76 (idx_main_v81 i n) = i := i71 i n

theorem s75 (i : S16x4096x128.Idx) : val_main_v75 (F := Ideal) x0 x1 x2 i =
    ((∑ s ∈ Finset.range ((i 1).val + 1), Seq.W (q (i 0).val) (k (i 0).val) (v (i 0).val) (g (i 0).val) (d (i 0).val) (i 1).val s (i 2) : ℝ) : EReal) := by
  rw [val_main_v75_apply]
  refine (zero_bits _).trans ?_
  have e : ∀ s : Fin 4096, val_main_v74 (F := Ideal) x0 x1 x2 (idx_main_v75 i s) =
      (((fun s => if s ≤ (i 1).val then Seq.W (q (i 0).val) (k (i 0).val) (v (i 0).val) (g (i 0).val) (d (i 0).val) (i 1).val s (i 2) else 0) s.val : ℝ) : EReal) := fun s => s74 hg hq hk hv hd _
  rw [Finset.sum_congr rfl fun s _ => e s, coe_sum]
  exact congrArg _ (sum_upto (fun s => Seq.W (q (i 0).val) (k (i 0).val) (v (i 0).val) (g (i 0).val) (d (i 0).val) (i 1).val s (i 2)) (i 1).isLt)
theorem s78 (i : S16x4096x128.Idx) : val_main_v78 (F := Ideal) x0 x1 x2 i =
    ((-∑ t ∈ Finset.Ico (i 1).val 4096, Seq.W (q (i 0).val) (k (i 0).val) (v (i 0).val) (g (i 0).val) (d (i 0).val) t (i 1).val (i 2) : ℝ) : EReal) := by
  rw [val_main_v78_apply]
  refine (zero_bits _).trans ?_
  have e : ∀ t : Fin 4096, val_main_v77 (F := Ideal) x0 x1 x2 (idx_main_v78 i t) =
      (((fun t => if (i 1).val ≤ t then -Seq.W (q (i 0).val) (k (i 0).val) (v (i 0).val) (g (i 0).val) (d (i 0).val) t (i 1).val (i 2) else 0) t.val : ℝ) : EReal) := fun t => by
    rw [val_main_v77_apply, s74 hg hq hk hv hd]
    refine (EReal.coe_neg _).symm.trans (congrArg _ ?_)
    have n : ∀ (p : Prop) [Decidable p] (a : ℝ), -(if p then a else 0) = if p then -a else 0 := fun p _ a => by
      split
      · rfl
      · exact neg_zero
    exact n _ _
  rw [Finset.sum_congr rfl fun t _ => e t, coe_sum]
  exact congrArg _ ((sum_from (fun t => -Seq.W (q (i 0).val) (k (i 0).val) (v (i 0).val) (g (i 0).val) (d (i 0).val) t (i 1).val (i 2)) (i 1).val).trans (Finset.sum_neg_distrib _))
theorem s82 (i : S16x4096x128.Idx) : val_main_v82 (F := Ideal) x0 x1 x2 i =
    ((Seq.DB (q (i 0).val) (k (i 0).val) (v (i 0).val) (g (i 0).val) (d (i 0).val) (i 1).val (i 2) : ℝ) : EReal) := by
  have e0 : val_main_v80 (F := Ideal) x0 x1 x2 i = val_main_v78 (F := Ideal) x0 x1 x2 i := by
    rw [val_main_v80_apply]
    refine (zero_bits _).trans ?_
    rw [Fin.sum_univ_one, val_main_v79_apply, i79]
  have e1 : val_main_v81 (F := Ideal) x0 x1 x2 i = val_main_v75 (F := Ideal) x0 x1 x2 i := by
    rw [val_main_v81_apply]
    refine (zero_bits _).trans ?_
    rw [Fin.sum_univ_one, val_main_v76_apply, i76]
  rw [val_main_v82_apply, e0, e1, s75 hg hq hk hv hd, s78 hg hq hk hv hd]
  refine (EReal.coe_add _ _).symm.trans (congrArg _ ?_)
  have b1 : (i 1).val < 4096 := (i 1).isLt
  unfold Seq.DB
  rw [Finset.sum_range_succ, Finset.sum_eq_sum_Ico_succ_bot b1]
  ring
/-- The log decays' gradient. -/
theorem s83 (i : S16x4096x128.Idx) : val_main_v83 (F := Ideal) x0 x1 x2 i =
    ((Seq.DG (q (i 0).val) (k (i 0).val) (v (i 0).val) (g (i 0).val) (d (i 0).val) (i 1).val (i 2) : ℝ) : EReal) := by
  unfold val_main_v83
  refine (cumsum_backward _ (fun h => Seq.DB (q h) (k h) (v h) (g h) (d h)) (s82 hg hq hk hv hd) _ (fun j => ?_) _ _ i).trans rfl
  rw [val_main_call5_call0_v0_apply]
  exact Ideal.ofBits_zero_f32
end

end Cert.ReferenceIdeal.Hgrn

end
-- ==== Proof.RefResults.lean ====
/- The reference's three results are the arrays the kernel leaves. -/
module

public import proofs.«01_k».proof.Proof.RefScores
public import Idealize.ShloMosaic.Lib.KernelVsHost
public import Idealize.ShloMosaic.Lib.Pipeline.Value

@[expose] public section

set_option maxRecDepth 16384

noncomputable section

namespace Cert.ReferenceIdeal.Hgrn

open Idealize.ShloMosaic Cert.ReferenceIdeal Cert.ReferenceIdeal.Gen Cert.ReferenceIdeal.Read
open Cert.KernelIdeal.Hgrn

variable {PJ DO : ℕ → ℕ → ℝ} {LB : ℕ → ℝ} {DGT : ℕ → ℕ → EReal}
variable {x0 : (⟨S4096x8192, .f32⟩ : BufTy).Contents (Elt Ideal)} {x1 : (⟨S1x2048, .f32⟩ : BufTy).Contents (Elt Ideal)}
variable {x2 : (⟨S4096x2048, .f32⟩ : BufTy).Contents (Elt Ideal)} {x3 : (⟨S4096x2048, .bf16⟩ : BufTy).Contents (Elt Ideal)}

/-- A token's column as a head, a token and a column of the head. -/
def headIdx (j : S4096x2048.Idx) : S16x4096x128.Idx := fun a => match a with
  | ⟨0, _⟩ => ⟨(j 1).val / 128, by have h1 : (j 1).val < 2048 := (j 1).isLt; show (j 1).val / 128 < 16; omega⟩
  | ⟨1, _⟩ => ⟨(j 0).val, (j 0).isLt⟩
  | ⟨2, _⟩ => colIn (j 1).val

theorem i84 (j : S4096x2048.Idx) : idx_main_v84 (idx_main_v85 j) = headIdx j := by
  have b0 : (j 0).val < 4096 := (j 0).isLt
  have b1 : (j 1).val < 2048 := (j 1).isLt
  funext a
  match a with
  | ⟨0, _⟩ => exact Fin.ext (by show ((j 0).val * 2048 + (j 1).val) / 128 % 16 = (j 1).val / 128; omega)
  | ⟨1, _⟩ => exact Fin.ext (by show ((j 0).val * 2048 + (j 1).val) / 2048 = (j 0).val; omega)
  | ⟨2, _⟩ => exact Fin.ext (by show ((j 0).val * 2048 + (j 1).val) % 128 = (j 1).val % 128; omega)
theorem i52 (j : S4096x2048.Idx) : idx_main_v52 (idx_main_v53 j) = headIdx j := i84 j
theorem i86 (j : S4096x2048.Idx) : idx_main_v86 (idx_main_v87 j) = headIdx j := i84 j
theorem i88 (j : S4096x2048.Idx) : idx_main_v88 (idx_main_v89 j) = headIdx j := i84 j
theorem i90 (j : S4096x2048.Idx) : idx_main_v90 (idx_main_v91 j) = headIdx j := i84 j

theorem at_col (X : ℕ → ℕ → ℝ) (first t c : ℕ) : headAt X first (c / 128) t (colIn c) = X t (first + c) := by
  show X t (first + 128 * (c / 128) + c % 128) = X t (first + c)
  rw [show first + 128 * (c / 128) + c % 128 = first + c by omega]
theorem lb_col (c : ℕ) : lbAt LB (c / 128) (colIn c) = LB c := by
  show LB (128 * (c / 128) + c % 128) = LB c
  rw [show 128 * (c / 128) + c % 128 = c by omega]
theorem dg_col (t c : ℕ) : dgAt DGT (c / 128) t (colIn c) = DGT t c := by
  show DGT t (128 * (c / 128) + c % 128) = DGT t c
  rw [show 128 * (c / 128) + c % 128 = c by omega]

section
variable (H : Holds PJ DO LB DGT x0 x1 x2 x3) (hl : ∀ j, 0 ≤ LB j)
include H hl

/-- The outputs. -/
theorem out_eq : val_main_v53 (F := Ideal) x0 x1 = GO PJ LB := by
  funext j
  rw [val_main_v53_apply, val_main_v52_apply, i52]
  exact s51 (q := fun h => Qs (headAt PJ 0 h)) (k := fun h => Ks (lbAt LB h) (headAt PJ 2048 h)) (v := fun h => headAt PJ 4096 h)
    (g := fun h => Gs (lbAt LB h) (headAt PJ 2048 h)) (r32 H.l H.p hl) (r26 H.p) (r28 H.l H.p) (r30 H.p) (headIdx j)

theorem t87 (j : S4096x2048.Idx) : val_main_v87 (F := Ideal) x0 x1 x2 j = ((dvH PJ DO LB ((j 1).val / 128) (j 0).val (colIn (j 1).val) : ℝ) : EReal) := by
  rw [val_main_v87_apply, val_main_v86_apply, i86]
  exact s58 (q := fun h => Qs (headAt PJ 0 h)) (k := fun h => Ks (lbAt LB h) (headAt PJ 2048 h))
    (g := fun h => Gs (lbAt LB h) (headAt PJ 2048 h)) (d := fun h => headAt DO 0 h) (r32 H.l H.p hl) (r26 H.p) (r28 H.l H.p) (r56 H.d) (headIdx j)
theorem t91 (j : S4096x2048.Idx) : val_main_v91 (F := Ideal) x0 x1 x2 j =
    ((Seq.DQ (Ks (lbAt LB ((j 1).val / 128)) (headAt PJ 2048 ((j 1).val / 128))) (headAt PJ 4096 ((j 1).val / 128)) (Gs (lbAt LB ((j 1).val / 128)) (headAt PJ 2048 ((j 1).val / 128)))
      (headAt DO 0 ((j 1).val / 128)) (j 0).val (colIn (j 1).val) : ℝ) : EReal) := by
  rw [val_main_v91_apply, val_main_v90_apply, i90]
  exact s73 (k := fun h => Ks (lbAt LB h) (headAt PJ 2048 h)) (v := fun h => headAt PJ 4096 h)
    (g := fun h => Gs (lbAt LB h) (headAt PJ 2048 h)) (d := fun h => headAt DO 0 h) (r32 H.l H.p hl) (r28 H.l H.p) (r30 H.p) (r56 H.d) (headIdx j)
theorem t89 (j : S4096x2048.Idx) : val_main_v89 (F := Ideal) x0 x1 x2 j =
    ((Seq.DK (Qs (headAt PJ 0 ((j 1).val / 128))) (headAt PJ 4096 ((j 1).val / 128)) (Gs (lbAt LB ((j 1).val / 128)) (headAt PJ 2048 ((j 1).val / 128)))
      (headAt DO 0 ((j 1).val / 128)) (j 0).val (colIn (j 1).val) : ℝ) : EReal) := by
  rw [val_main_v89_apply, val_main_v88_apply, i88]
  exact s72 (q := fun h => Qs (headAt PJ 0 h)) (v := fun h => headAt PJ 4096 h)
    (g := fun h => Gs (lbAt LB h) (headAt PJ 2048 h)) (d := fun h => headAt DO 0 h) (r32 H.l H.p hl) (r26 H.p) (r30 H.p) (r56 H.d) (headIdx j)
theorem t85 (j : S4096x2048.Idx) : val_main_v85 (F := Ideal) x0 x1 x2 j =
    ((Seq.DG (Qs (headAt PJ 0 ((j 1).val / 128))) (Ks (lbAt LB ((j 1).val / 128)) (headAt PJ 2048 ((j 1).val / 128))) (headAt PJ 4096 ((j 1).val / 128))
      (Gs (lbAt LB ((j 1).val / 128)) (headAt PJ 2048 ((j 1).val / 128))) (headAt DO 0 ((j 1).val / 128)) (j 0).val (colIn (j 1).val) : ℝ) : EReal) := by
  rw [val_main_v85_apply, val_main_v84_apply, i84]
  exact s83 (q := fun h => Qs (headAt PJ 0 h)) (k := fun h => Ks (lbAt LB h) (headAt PJ 2048 h)) (v := fun h => headAt PJ 4096 h)
    (g := fun h => Gs (lbAt LB h) (headAt PJ 2048 h)) (d := fun h => headAt DO 0 h) (r32 H.l H.p hl) (r26 H.p) (r28 H.l H.p) (r30 H.p) (r56 H.d) (headIdx j)

/-- The forget gate's gradient at a token and a column. -/
def dfgAt (PJ DO : ℕ → ℕ → ℝ) (LB : ℕ → ℝ) (t c : ℕ) : ℝ :=
  dfgV (lbAt LB (c / 128)) (headAt PJ 0 (c / 128)) (headAt PJ 2048 (c / 128)) (headAt PJ 4096 (c / 128)) (headAt DO 0 (c / 128)) t (colIn c)

theorem t94 (j : S4096x2048.Idx) : val_main_v94 (F := Ideal) x0 x1 x2 j = ((dfgAt PJ DO LB (j 0).val (j 1).val : ℝ) : EReal) := by
  have hne : fg (LB (j 1).val) (PJ (j 0).val (2048 + (j 1).val)) ≠ 0 := ne_of_gt (fg_pos (hl _) _)
  rw [val_main_v94_apply, val_main_v92_apply, t85 H hl, r21 H.l H.p, val_main_v93_apply, t89 H hl]
  refine (congrArg₂ (fun a b : EReal => a + b) (Ideal.div_coe hne _) (EReal.coe_neg _).symm).trans ?_
  rw [← EReal.coe_mul, ← EReal.coe_add]
  refine congrArg _ ?_
  unfold dfgAt dfgV Fs
  rw [at_col, lb_col]
  ring
theorem t107 (j : S4096x2048.Idx) : val_main_v107 (F := Ideal) x0 x1 x2 j = ((dqH PJ DO LB ((j 1).val / 128) (j 0).val (colIn (j 1).val) : ℝ) : EReal) := by
  have e : val_main_v106 (F := Ideal) x0 x1 x2 j = ((Seq.DQ (Ks (lbAt LB ((j 1).val / 128)) (headAt PJ 2048 ((j 1).val / 128))) (headAt PJ 4096 ((j 1).val / 128)) (Gs (lbAt LB ((j 1).val / 128)) (headAt PJ 2048 ((j 1).val / 128)))
      (headAt DO 0 ((j 1).val / 128)) (j 0).val (colIn (j 1).val) * qsc : ℝ) : EReal) := by
    rw [val_main_v106_apply, t91 H hl, val_main_v105_apply]
    show _ * Ideal.ofBits .f32 0x3DB504F3#32 = _
    rw [qsc_coe, ← EReal.coe_mul]
  rw [val_main_v107_apply, val_main_call6_v1_apply, val_main_call6_v2_apply, val_main_call6_v0_apply, e, r0 H.p, r4_1 H.p, r4_2 H.p]
  show (_ * _ + _ * _ * _ : EReal) = _
  rw [← EReal.coe_mul, ← EReal.coe_mul, ← EReal.coe_mul, ← EReal.coe_add]
  refine congrArg _ ?_
  unfold dqH dqV
  rw [at_col, Nat.zero_add]
  ring
theorem t102 (j : S4096x2048.Idx) : val_main_v102 (F := Ideal) x0 x1 x2 j = ((dfH PJ DO LB ((j 1).val / 128) (j 0).val (colIn (j 1).val) : ℝ) : EReal) := by
  rw [val_main_v102_apply, val_main_v98_apply, val_main_v97_apply, r8 H.l, t94 H hl, r17 H.p]
  show ((1 - LB (j 1).val : ℝ) : EReal) * _ * _ = _
  rw [← EReal.coe_mul, ← EReal.coe_mul]
  refine congrArg _ ?_
  unfold dfH dfV
  rw [at_col, lb_col]
  unfold dfgAt
  ring

omit H hl in
theorem pieces (y0 y1 y2 y3 : S4096x2048.Idx → EReal) (j : S4096x2048.Idx) (p : Fin 4) (i : S4096x8192.Idx) (hi0 : (i 0).val = (j 0).val) (hi1 : (i 1).val = 2048 * p.val + (j 1).val)
    (hc) : concatenate S4096x8192 1 [⟨S4096x2048, y0⟩, ⟨S4096x2048, y1⟩, ⟨S4096x2048, y2⟩, ⟨S4096x2048, y3⟩] hc i = (![y0, y1, y2, y3] : Fin 4 → S4096x2048.Idx → EReal) p j := by
  have off : ∀ b : Fin S4096x2048.rank, b.cast rfl ≠ (1 : Fin S4096x8192.rank) → (j b).val = (i (b.cast rfl)).val := fun b hb => by
    match b with
    | ⟨0, _⟩ => exact hi0.symm
    | ⟨1, _⟩ => exact absurd rfl hb
  match p with
  | ⟨0, _⟩ => exact concatenate_apply_piece 1 _ hc i 0 (by show _ < 4; omega) S4096x2048 y0 rfl rfl 0 rfl j off hi1.symm
  | ⟨1, _⟩ => exact concatenate_apply_piece 1 _ hc i 1 (by show _ < 4; omega) S4096x2048 y1 rfl rfl 2048 rfl j off hi1.symm
  | ⟨2, _⟩ => exact concatenate_apply_piece 1 _ hc i 2 (by show _ < 4; omega) S4096x2048 y2 rfl rfl 4096 rfl j off hi1.symm
  | ⟨3, _⟩ => exact concatenate_apply_piece 1 _ hc i 3 (by show _ < 4; omega) S4096x2048 y3 rfl rfl 6144 rfl j off hi1.symm

/-- The projection's gradient. -/
theorem proj_eq : val_main_v111 (F := Ideal) x0 x1 x2 x3 = GP PJ DO LB DGT := by
  funext i
  have b0 : (i 0).val < 4 := (i 0).isLt
  have b1 : (i 1).val < 4096 := (i 1).isLt
  have b2 : (i 2).val < 2048 := (i 2).isLt
  let j : S4096x2048.Idx := fun a => match a with
    | ⟨0, _⟩ => ⟨(i 1).val, (i 1).isLt⟩
    | ⟨1, _⟩ => ⟨(i 2).val, (i 2).isLt⟩
  rw [val_main_v111_apply, val_main_v110_apply, val_main_v109_apply]
  show val_main_v108 (F := Ideal) x0 x1 x2 x3 _ = _
  unfold val_main_v108
  refine (pieces (val_main_v107 (F := Ideal) x0 x1 x2) (val_main_v102 (F := Ideal) x0 x1 x2) (val_main_v87 (F := Ideal) x0 x1 x2) (val_main_v54 (F := Ideal) x3) j ⟨(i 0).val, b0⟩ _ ?_ ?_ _).trans ?_
  · show (((i 1).val * 4 + (i 0).val) * 2048 + (i 2).val) / 8192 = (i 1).val
    omega
  · show (((i 1).val * 4 + (i 0).val) * 2048 + (i 2).val) % 8192 = 2048 * (i 0).val + (i 2).val
    omega
  · unfold GP planes
    have key : ∀ p : Fin 4, (![val_main_v107 (F := Ideal) x0 x1 x2, val_main_v102 (F := Ideal) x0 x1 x2, val_main_v87 (F := Ideal) x0 x1 x2, val_main_v54 (F := Ideal) x3] : Fin 4 → S4096x2048.Idx → EReal) p j
        = (![fun t l => ((dqH PJ DO LB ((i 2).val / 128) t l : ℝ) : EReal), fun t l => ((dfH PJ DO LB ((i 2).val / 128) t l : ℝ) : EReal), fun t l => ((dvH PJ DO LB ((i 2).val / 128) t l : ℝ) : EReal),
          dgAt DGT ((i 2).val / 128)] : Fin 4 → ℕ → Fin 128 → EReal) p (i 1).val (colIn (i 2).val) := fun p => by
      match p with
      | ⟨0, _⟩ => exact t107 H hl j
      | ⟨1, _⟩ => exact t102 H hl j
      | ⟨2, _⟩ => exact t87 H hl j
      | ⟨3, _⟩ =>
        refine (val_main_v54_apply x3 j).trans ?_
        refine (H.g j).trans (dg_col _ _).symm
    exact key _

theorem t104 (j : S1x2048.Idx) : val_main_v104 (F := Ideal) x0 x1 x2 j = ((dlbH PJ DO LB ((j 1).val / 128) (colIn (j 1).val) : ℝ) : EReal) := by
  have b0 : (j 0).val < 1 := (j 0).isLt
  have b1 : (j 1).val < 2048 := (j 1).isLt
  have ec : (idx_main_v96 j 0).val = (j 1).val := by show (j 0).val * 2048 + (j 1).val = (j 1).val; omega
  have e0 : val_main_v95 (F := Ideal) x0 x1 x2 (idx_main_v96 j) = ((∑ t ∈ Finset.Ico 0 4096, dfgAt PJ DO LB t (j 1).val : ℝ) : EReal) := by
    rw [val_main_v95_apply]
    refine (zero_bits _).trans ?_
    have e : ∀ t : Fin 4096, val_main_v94 (F := Ideal) x0 x1 x2 (idx_main_v95 (idx_main_v96 j) t) = (((fun t => dfgAt PJ DO LB t (j 1).val) t.val : ℝ) : EReal) := fun t => by
      rw [t94 H hl]
      show ((dfgAt PJ DO LB t.val (idx_main_v96 j 0).val : ℝ) : EReal) = _
      rw [ec]
    rw [Finset.sum_congr rfl fun t _ => e t, coe_sum]
    exact congrArg _ (sum_all fun t => dfgAt PJ DO LB t (j 1).val)
  have e1 : val_main_v100 (F := Ideal) x0 x1 x2 (idx_main_v101 j) = ((∑ t ∈ Finset.Ico 0 4096, dfgAt PJ DO LB t (j 1).val * sg (PJ t (2048 + (j 1).val)) : ℝ) : EReal) := by
    rw [val_main_v100_apply]
    refine (zero_bits _).trans ?_
    have e : ∀ t : Fin 4096, val_main_v99 (F := Ideal) x0 x1 x2 (idx_main_v100 (idx_main_v101 j) t) = (((fun t => dfgAt PJ DO LB t (j 1).val * sg (PJ t (2048 + (j 1).val))) t.val : ℝ) : EReal) := fun t => by
      rw [val_main_v99_apply, t94 H hl, r14 H.p]
      show ((dfgAt PJ DO LB t.val (idx_main_v96 j 0).val : ℝ) : EReal) * ((sg (PJ t.val (2048 + (idx_main_v96 j 0).val)) : ℝ) : EReal) = _
      rw [ec, ← EReal.coe_mul]
    rw [Finset.sum_congr rfl fun t _ => e t, coe_sum]
    exact congrArg _ (sum_all fun t => dfgAt PJ DO LB t (j 1).val * sg (PJ t (2048 + (j 1).val)))
  rw [val_main_v104_apply, val_main_v96_apply, val_main_v103_apply, val_main_v101_apply, e0, e1]
  refine (congrArg (fun b : EReal => _ + b) (EReal.coe_neg _).symm).trans ?_
  rw [← EReal.coe_add]
  refine congrArg _ ?_
  unfold dlbH dlbV
  rw [← sub_eq_add_neg, ← Finset.sum_sub_distrib]
  refine Finset.sum_congr rfl fun t _ => ?_
  rw [at_col]
  unfold dfgAt
  ring

/-- The lower bound's gradient, above seven rows of zeros. -/
theorem lb_eq : val_main_v112 (F := Ideal) x0 x1 x2 = GLb PJ DO LB := by
  funext i
  unfold val_main_v112 GLb
  by_cases h : (i 0).val = 0
  · rw [if_pos h]
    let j : S1x2048.Idx := fun a => match a with
      | ⟨0, _⟩ => ⟨0, Nat.zero_lt_one⟩
      | ⟨1, _⟩ => ⟨(i 1).val, (i 1).isLt⟩
    refine (pad_apply_of_inside _ _ _ _ _ _ _ i j fun a => ?_).trans (t104 H hl j)
    match a with
    | ⟨0, _⟩ => exact h
    | ⟨1, _⟩ => show (i 1).val = 0 + (i 1).val * (0 + 1); omega
  · rw [if_neg h]
    refine (pad_apply_of_not_inside _ _ _ _ _ _ _ i 0 fun hin => h ?_).trans ?_
    · have := hin.2.2
      change ((i 0).val - 0) / (0 + 1) < 1 at this
      omega
    · rw [val_main_call7_v0_apply]
      show (((BitVec.toInt 0#32 : ℤ) : ℝ) : EReal) = 0
      simp
end

end Cert.ReferenceIdeal.Hgrn

end
-- ==== Proof.Inputs.lean ====
/- What the precondition says of the arguments: real numbers, and lower bounds that are not negative. -/
module

public import proofs.«01_k».proof.Proof.Arrays
public import proofs.«01_k».proof.Proof.Gen.Pre_finite_inputs
public import Idealize.ShloMosaic.Lib.ReduceAll

@[expose] public section

set_option maxRecDepth 16384

noncomputable section

namespace Cert.Pre_finite_inputs

open Idealize.ShloMosaic Cert.Pre_finite_inputs.Facts
open Cert.KernelIdeal.Hgrn (Holds)

instance : Subsingleton S_.Idx := ⟨fun _ _ => funext fun a => a.elim0⟩

theorem both {a b : BitVec 1} (h : IntOp.andi a b = 1#1) : a = 1#1 ∧ b = 1#1 := by
  revert a b; decide
theorem ofBool_one {p : Prop} [Decidable p] (h : BitVec.ofBool (decide p) = 1#1) : p := by
  by_contra hp
  rw [decide_eq_false hp] at h
  exact absurd h (by decide)

theorem inf_bits : Ideal.ofBits .f32 0x7F800000#32 = (⊤ : EReal) := by
  unfold Ideal.ofBits Ideal.ieee; dsimp only; rfl

/-- An absolute value below infinity is a real number's. -/
theorem real_of {x : EReal} (h : max x (-x) < ⊤) : x = ((x.toReal : ℝ) : EReal) := by
  have h1 : x ≠ ⊤ := fun e => by rw [e] at h; exact absurd h (by simp)
  have h2 : x ≠ ⊥ := fun e => by rw [e] at h; exact absurd h (by simp)
  exact (EReal.coe_toReal h1 h2).symm

section
variable (x0 : FVec Ideal S4096x8192 .f32) (x1 : FVec Ideal S1x2048 .f32) (x2 : FVec Ideal S4096x2048 .f32) (x3 : FVec Ideal S4096x2048 .bf16)
variable (h : fn (F := Ideal) x0 x1 x2 x3 = fun _ => 1#1)
include h

theorem holds_all : (∀ i, x0 i = ((x0 i).toReal : EReal)) ∧ (∀ i, x2 i = ((x2 i).toReal : EReal)) ∧ (∀ i, x1 i = ((x1 i).toReal : EReal)) ∧ ∀ i, 0 ≤ x1 i := by
  have e := congrFun h (Shape.Idx.first h_S_)
  unfold fn fn_part1 at e
  obtain ⟨e, e3⟩ := both e
  obtain ⟨e, e1⟩ := both e
  obtain ⟨e0, e2⟩ := both e
  refine ⟨fun i => ?_, fun i => ?_, fun i => ?_, fun i => ?_⟩
  · have k : BitVec.ofBool (decide (max (x0 i) (-(x0 i)) < Ideal.ofBits .f32 0x7F800000#32)) = 1#1 := Host.reduce_andi_all _ _ _ _ _ e0 i
    rw [inf_bits] at k
    exact real_of (ofBool_one k)
  · have k : BitVec.ofBool (decide (max (x2 i) (-(x2 i)) < Ideal.ofBits .f32 0x7F800000#32)) = 1#1 := Host.reduce_andi_all _ _ _ _ _ e2 i
    rw [inf_bits] at k
    exact real_of (ofBool_one k)
  · have k : BitVec.ofBool (decide (max (x1 i) (-(x1 i)) < Ideal.ofBits .f32 0x7F800000#32)) = 1#1 := Host.reduce_andi_all _ _ _ _ _ e1 i
    rw [inf_bits] at k
    exact real_of (ofBool_one k)
  · have k : BitVec.ofBool (decide (Ideal.ofBits .f32 0x00000000#32 ≤ x1 i)) = 1#1 := Host.reduce_andi_all _ _ _ _ _ e3 i
    rw [Ideal.ofBits_zero_f32] at k
    exact ofBool_one k
end

/-- The index of a row and a column. -/
def at2 {n k : ℕ} (t c : ℕ) (ht : t < n) (hc : c < k) : (⟨2, ![n, k]⟩ : Shape).Idx := fun a => match a with
  | ⟨0, _⟩ => ⟨t, ht⟩
  | ⟨1, _⟩ => ⟨c, hc⟩
theorem at2_self {n k : ℕ} (i : (⟨2, ![n, k]⟩ : Shape).Idx) (ht : (i 0).val < n) (hc : (i 1).val < k) : at2 (i 0).val (i 1).val ht hc = i := by
  funext a
  match a with
  | ⟨0, _⟩ => rfl
  | ⟨1, _⟩ => rfl

/-- An array's entry at a row and a column, zero outside. -/
def entry {n k : ℕ} (x : (⟨2, ![n, k]⟩ : Shape).Idx → EReal) (t c : ℕ) : EReal :=
  if h : t < n ∧ c < k then x (at2 t c h.1 h.2) else 0
theorem entry_self {n k : ℕ} (x : (⟨2, ![n, k]⟩ : Shape).Idx → EReal) (i : (⟨2, ![n, k]⟩ : Shape).Idx) : entry x (i 0).val (i 1).val = x i := by
  have h : (i 0).val < n ∧ (i 1).val < k := ⟨(i 0).isLt, (i 1).isLt⟩
  unfold entry
  rw [dif_pos h, at2_self]

variable (x0 : FVec Ideal S4096x8192 .f32) (x1 : FVec Ideal S1x2048 .f32) (x2 : FVec Ideal S4096x2048 .f32) (x3 : FVec Ideal S4096x2048 .bf16)
variable (h : fn (F := Ideal) x0 x1 x2 x3 = fun _ => 1#1)
include h

/-- The arguments are real arrays, beside the output gate's gradient. -/
theorem holds : Holds (fun t c => (entry x0 t c).toReal) (fun t c => (entry x2 t c).toReal) (fun c => (entry x1 0 c).toReal) (fun t c => entry x3 t c) x0 x1 x2 x3 where
  p j := ((holds_all x0 x1 x2 x3 h).1 j).trans (congrArg (fun y : EReal => ((y.toReal : ℝ) : EReal)) (entry_self x0 j).symm)
  l j := by
    have e := (holds_all x0 x1 x2 x3 h).2.2.1 j
    have e0 : (j 0).val = 0 := by have : (j 0).val < 1 := (j 0).isLt; omega
    have e1 := entry_self x1 j
    rw [e0] at e1
    exact e.trans (congrArg (fun y : EReal => ((y.toReal : ℝ) : EReal)) e1.symm)
  d j := ((holds_all x0 x1 x2 x3 h).2.1 j).trans (congrArg (fun y : EReal => ((y.toReal : ℝ) : EReal)) (entry_self x2 j).symm)
  g j := (entry_self x3 j).symm

/-- The lower bounds are not negative. -/
theorem bounds (c : ℕ) : 0 ≤ (entry x1 0 c).toReal := by
  unfold entry
  split
  · exact EReal.toReal_nonneg ((holds_all x0 x1 x2 x3 h).2.2.2 _)
  · simp

end Cert.Pre_finite_inputs

end
-- ==== Proof.Algebraic.lean ====
/- The kernel's results are the reference's. -/
module

public import proofs.«01_k».proof.Defs
public import proofs.«01_k».proof.Proof.KernelRun
public import proofs.«01_k».proof.Proof.RefResults
public import proofs.«01_k».proof.Proof.Inputs
public import proofs.«01_k».proof.Proof.Gen.ReferenceIdeal.Run

@[expose] public section

set_option maxRecDepth 16384

noncomputable section

namespace Cert.Proof

open Idealize.ShloMosaic Idealize.SL.Sem
open Cert.Pre_finite_inputs (entry)

section
variable (m : (ℓ : Loc Cert.KernelIdeal.nD Cert.KernelIdeal.τ Cert.KernelIdeal.sig) → Buf (Elt Ideal) ℓ)

/-- The kernel's arguments on a device. -/
abbrev a0 (c : Dev Cert.KernelIdeal.nD) : FVec Ideal Cert.Pre_finite_inputs.S4096x8192 .f32 := m ((c.tc : Thread Cert.KernelIdeal.nD Cert.KernelIdeal.τ).loc Cert.KernelIdeal.main_arg0)
abbrev a1 (c : Dev Cert.KernelIdeal.nD) : FVec Ideal Cert.Pre_finite_inputs.S1x2048 .f32 := m ((c.tc : Thread Cert.KernelIdeal.nD Cert.KernelIdeal.τ).loc Cert.KernelIdeal.main_arg1)
abbrev a2 (c : Dev Cert.KernelIdeal.nD) : FVec Ideal Cert.Pre_finite_inputs.S4096x2048 .f32 := m ((c.tc : Thread Cert.KernelIdeal.nD Cert.KernelIdeal.τ).loc Cert.KernelIdeal.main_arg2)
abbrev a3 (c : Dev Cert.KernelIdeal.nD) : FVec Ideal Cert.Pre_finite_inputs.S4096x2048 .bf16 := m ((c.tc : Thread Cert.KernelIdeal.nD Cert.KernelIdeal.τ).loc Cert.KernelIdeal.main_arg3)

def pj (c : Dev Cert.KernelIdeal.nD) (t j : ℕ) : ℝ := (entry (a0 m c) t j).toReal
def lb (c : Dev Cert.KernelIdeal.nD) (j : ℕ) : ℝ := (entry (a1 m c) 0 j).toReal
def dO (c : Dev Cert.KernelIdeal.nD) (t j : ℕ) : ℝ := (entry (a2 m c) t j).toReal
def dg (c : Dev Cert.KernelIdeal.nD) (t j : ℕ) : EReal := entry (a3 m c) t j
end

theorem algebraic : Cert.algebraic_KernelIdeal_ReferenceIdeal_pre_finite_inputs := fun m g m' g' pre same => by
  have H : ∀ c, Cert.KernelIdeal.Hgrn.Holds (pj m c) (dO m c) (lb m c) (dg m c) (a0 m c) (a1 m c) (a2 m c) (a3 m c) := fun c =>
    Cert.Pre_finite_inputs.holds (a0 m c) (a1 m c) (a2 m c) (a3 m c) (pre c)
  have hl : ∀ c j, 0 ≤ lb m c j := fun c j => Cert.Pre_finite_inputs.bounds (a0 m c) (a1 m c) (a2 m c) (a3 m c) (pre c) j
  refine ⟨fun c => Cert.KernelIdeal.Hgrn.GO (pj m c) (lb m c), fun c => Cert.KernelIdeal.Hgrn.GP (pj m c) (dO m c) (lb m c) (dg m c),
    fun c => Cert.KernelIdeal.Hgrn.GLb (pj m c) (dO m c) (lb m c),
    Cert.KernelIdeal.Hgrn.kernel_run m g (pj m) (dO m) (lb m) (dg m) H hl,
    (θ_run Cert.ReferenceIdeal.defs _ _).mono (fun r h c => ⟨(h c).1.trans ?_, (h c).2.1.trans ?_, (h c).2.2.1.trans ?_, (h c).2.2.2.1, (h c).2.2.2.2.1, (h c).2.2.2.2.2.1, (h c).2.2.2.2.2.2⟩)
      (Cert.ReferenceIdeal.Value.run (F := Ideal) m' g')⟩
  · rw [Cert.ReferenceIdeal.Read.val_main_v53_eq, (same c).1, (same c).2.1]
    exact Cert.ReferenceIdeal.Hgrn.out_eq (H c) (hl c)
  · rw [Cert.ReferenceIdeal.Read.val_main_v111_eq, (same c).1, (same c).2.1, (same c).2.2.1, (same c).2.2.2]
    exact Cert.ReferenceIdeal.Hgrn.proj_eq (H c) (hl c)
  · rw [Cert.ReferenceIdeal.Read.val_main_v112_eq, (same c).1, (same c).2.1, (same c).2.2.1]
    exact Cert.ReferenceIdeal.Hgrn.lb_eq (H c) (hl c)

end Cert.Proof

end
-- ==== Proof.Entries.lean ====
/- Arrays as functions of their coordinates. -/
module

public import Idealize.ShloMosaic.Lib.Pipeline.ValueKit

@[expose] public section

namespace Cert.Entries

open Idealize.ShloMosaic

/-- A function of two coordinates that an array of two axes reads. -/
theorem exists2 {α : Type} [Inhabited α] (s : Fin 2 → ℕ) (A : (⟨2, s⟩ : Shape).Idx → α) :
    ∃ X : ℕ → ℕ → α, ∀ i, A i = X (i 0).val (i 1).val := by
  classical
  refine ⟨fun a b => if h : ∃ i : (⟨2, s⟩ : Shape).Idx, (i 0).val = a ∧ (i 1).val = b then A h.choose else default, fun i => ?_⟩
  have h : ∃ i' : (⟨2, s⟩ : Shape).Idx, (i' 0).val = (i 0).val ∧ (i' 1).val = (i 1).val := ⟨i, rfl, rfl⟩
  beta_reduce
  rw [dif_pos h]
  congr 1
  funext a
  apply Fin.ext
  fin_cases a
  · exact h.choose_spec.1.symm
  · exact h.choose_spec.2.symm

/-- A function of three coordinates that an array of three axes reads. -/
theorem exists3 {α : Type} [Inhabited α] (s : Fin 3 → ℕ) (A : (⟨3, s⟩ : Shape).Idx → α) :
    ∃ X : ℕ → ℕ → ℕ → α, ∀ i, A i = X (i 0).val (i 1).val (i 2).val := by
  classical
  refine ⟨fun a b d => if h : ∃ i : (⟨3, s⟩ : Shape).Idx, (i 0).val = a ∧ (i 1).val = b ∧ (i 2).val = d then A h.choose else default, fun i => ?_⟩
  have h : ∃ i' : (⟨3, s⟩ : Shape).Idx, (i' 0).val = (i 0).val ∧ (i' 1).val = (i 1).val ∧ (i' 2).val = (i 2).val := ⟨i, rfl, rfl, rfl⟩
  beta_reduce
  rw [dif_pos h]
  congr 1
  funext a
  apply Fin.ext
  fin_cases a
  · exact h.choose_spec.1.symm
  · exact h.choose_spec.2.1.symm
  · exact h.choose_spec.2.2.symm

theorem eq2 {α : Type} {X : ℕ → ℕ → α} {a a' b b' : ℕ} (ha : a = a') (hb : b = b') : X a b = X a' b' := by rw [ha, hb]

theorem eq3 {α : Type} {X : ℕ → ℕ → ℕ → α} {a a' b b' d d' : ℕ} (ha : a = a') (hb : b = b') (hd : d = d') :
    X a b d = X a' b' d' := by rw [ha, hb, hd]

/-! Sums taken block by block. -/

section
variable {M : Type} [AddCommMonoid M] (G : ℕ → M) (n : ℕ)

theorem sum_range_blocks (J : ℕ) :
    ∑ s ∈ Finset.range J, ∑ l ∈ Finset.range n, G (s * n + l) = ∑ l ∈ Finset.range (J * n), G l := by
  induction J with
  | zero => simp
  | succ J ih => rw [Finset.sum_range_succ, ih, Nat.succ_mul, Finset.sum_range_add]

/-- One block at a time. -/
theorem sum_blocks1 (J L : ℕ) (hL : L = J * n) :
    ∑ s : Fin J, ∑ l : Fin n, G (s.val * n + l.val) = ∑ l : Fin L, G l.val := by
  subst hL
  rw [Fin.sum_univ_eq_sum_range G, ← sum_range_blocks, ← Fin.sum_univ_eq_sum_range (fun s => ∑ l ∈ Finset.range n, G (s * n + l))]
  exact Finset.sum_congr rfl fun s _ => Fin.sum_univ_eq_sum_range (fun l => G (s.val * n + l)) n

/-- Two blocks at a time. -/
theorem sum_blocks2 (J L : ℕ) (hL : L = J * 2 * n) :
    ∑ s : Fin J, (∑ l : Fin n, G ((s.val * 2) * n + l.val) + ∑ l : Fin n, G ((s.val * 2 + 1) * n + l.val)) = ∑ l : Fin L, G l.val := by
  rw [← sum_blocks1 G n (J * 2) L hL, ← sum_blocks1 (fun b => ∑ l : Fin n, G (b * n + l.val)) 2 J (J * 2) rfl]
  exact Finset.sum_congr rfl fun s _ => by rw [Fin.sum_univ_two]; rfl

/-- Three blocks at a time. -/
theorem sum_blocks3 (J L : ℕ) (hL : L = J * 3 * n) :
    ∑ s : Fin J, (∑ l : Fin n, G ((s.val * 3) * n + l.val) + ∑ l : Fin n, G ((s.val * 3 + 1) * n + l.val)
      + ∑ l : Fin n, G ((s.val * 3 + 2) * n + l.val)) = ∑ l : Fin L, G l.val := by
  rw [← sum_blocks1 G n (J * 3) L hL, ← sum_blocks1 (fun b => ∑ l : Fin n, G (b * n + l.val)) 3 J (J * 3) rfl]
  exact Finset.sum_congr rfl fun s _ => by rw [Fin.sum_univ_three]; rfl
end

end Cert.Entries

end
-- ==== Proof.UpDw.lean ====
/- The gradient of the feed-forward layer's first weight. -/
module

public import proofs.«01_k».proof.Proof.Gen.Kernel2Ideal.Value
public import proofs.«01_k».proof.Proof.Gen.Reference2Ideal.Run
public import Idealize.ShloMosaic.Lib.Pipeline.ValueKit
public import proofs.«01_k».proof.Proof.Entries

@[expose] public section

set_option maxRecDepth 16384

noncomputable section

namespace Cert.UpDw

open Cert.Kernel2Ideal Cert.Kernel2Ideal.Gen Idealize.ShloMosaic Idealize.ShloMosaic.TcCoe Idealize.SL.Sem
open Idealize.ShloMosaic.Pipeline (Dat)

variable (m : (ℓ : Loc nD τ sig) → Buf (Elt Ideal) ℓ)

/-- The reference's result as a function of the arrays. -/
abbrev REF (A0 : FVec Ideal S4096x2048 .bf16) (A1 : FVec Ideal S2x4096x5632 .bf16) : FVec Ideal S4x1x2048x2816 .bf16 :=
  broadcastInDim Cert.Reference2Ideal.S4x1x2048x2816 ![0, 2, 3]
    Cert.Reference2Ideal.Gen.bcast_S4x2048x2816_S4x1x2048x2816_0_2_3 (truncf .bf16 (transpose
    Cert.Reference2Ideal.S4x2048x2816 [1, 0, 2] (shapeCast _ (transpose Cert.Reference2Ideal.S2048x11264 [1, 0]
    (Host.dotGeneral Cert.Reference2Ideal.dot_S4096x11264_S4096x2048_S11264x2048_0_0_1_1_n_n none (extf .f32
    (shapeCast _ (transpose Cert.Reference2Ideal.S4096x2x5632 [1, 0, 2] A1
    Cert.Reference2Ideal.Gen.transposes_S2x4096x5632_S4096x2x5632_1_0_2)
    Cert.Reference2Ideal.Gen.shapeCasts_S4096x2x5632_S4096x11264) Cert.Reference2Ideal.Gen.bitsLt_bf16_f32) (extf
    .f32 A0 Cert.Reference2Ideal.Gen.bitsLt_bf16_f32))
    Cert.Reference2Ideal.Gen.transposes_S11264x2048_S2048x11264_1_0)
    Cert.Reference2Ideal.Gen.shapeCasts_S2048x11264_S2048x4x2816)
    Cert.Reference2Ideal.Gen.transposes_S2048x4x2816_S4x2048x2816_1_0_2) Cert.Reference2Ideal.Gen.bitsLt_bf16_f32)

/-- The blocks of a grid point. -/
theorem idx : ∀ t : Fin cfg0.N, win0_0.index t = ![0, t.val / 8]
    ∧ win0_1.index t = ![t.val % 8 / 4, 0, t.val % 8 % 4]
    ∧ win0_2.index t = ![t.val % 8 / 2, 0, t.val / 8, t.val % 8 % 2] :=
  (by decide +kernel : ∀ t : Fin grid0.N, _)

/-- What a grid point computes. -/
theorem hpay (x : Vec Ideal S4096x512 .bf16) (w : Vec Ideal S1x4096x1408 .bf16) (y : S1x1x512x1408.Idx) :
    k0_pay1 x w y = ∑ r : Fin 4096, x (ix2 r (y 2)) * w (ix3 0 r (y 3)) := by
  pointwise [k0_pay1]

/-- The reference at an index. -/
theorem href (X : FVec Ideal S4096x2048 .bf16) (Y : FVec Ideal S2x4096x5632 .bf16) (i : S4x1x2048x2816.Idx) :
    REF X Y i = ∑ r : Fin 4096, Y (ix3 ⟨((i 0).val * 2816 + (i 3).val) / 5632, by have := (i 0).isLt; have := (i 3).isLt; dsimp at *; omega⟩ r
      ⟨((i 0).val * 2816 + (i 3).val) % 5632, Nat.mod_lt _ (by norm_num)⟩) * X (ix2 r (i 2)) := by
  pointwise [REF]

section
variable (c : Dev nD) (X : ℕ → ℕ → EReal) (Y : ℕ → ℕ → ℕ → EReal)
variable (hX : ∀ i, V m c main_arg0 i = X (i 0).val (i 1).val) (hY : ∀ i, V m c main_arg1 i = Y (i 0).val (i 1).val (i 2).val)

include hX in
theorem b0 (t : Fin cfg0.N) (x : S4096x512.Idx) :
    iblk m c 0 t x = X (x 0).val (t.val / 8 * 512 + (x 1).val) := by
  blk_simp [iblk]
  rw [hX]
  blk_simp [idx t]

include hY in
theorem b1 (t : Fin cfg0.N) (x : S1x4096x1408.Idx) :
    iblk m c 1 t x = Y (t.val % 8 / 4) (x 1).val (t.val % 8 % 4 * 1408 + (x 2).val) := by
  blk_simp [iblk]
  rw [hY]
  blk_simp [idx t]

end

/-- A grid point's block is the reference's. -/
theorem point (c : Dev nD) (t : Fin cfg0.N) (y) : k0_pay1 (iblk m c 0 t) (iblk m c 1 t) y
    = REF (V m c main_arg0) (V m c main_arg1) (((cfg0.win 2).blk t).view.emb y) := by
  obtain ⟨X, hX⟩ := Entries.exists2 _ (V m c main_arg0)
  obtain ⟨Y, hY⟩ := Entries.exists3 _ (V m c main_arg1)
  rw [hpay, href]
  refine Finset.sum_congr rfl fun r _ => ?_
  rw [b0 m c X hX, b1 m c Y hY, hX, hY, mul_comm]
  blk_simp [idx t]
  have h3 : (y 3).val < 1408 := (y 3).isLt
  exact congrArg (· * X r.val (t.val / 8 * 512 + (y 2).val)) (Entries.eq3 (by dsimp only; omega) rfl (by dsimp only; omega))

/-- The array after the run. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.UpDw

end

end
-- ==== Proof.UpDx.lean ====
/- The gradient of the feed-forward layer's input. -/
module

public import proofs.«01_k».proof.Proof.Gen.Kernel3Ideal.Value
public import proofs.«01_k».proof.Proof.Gen.Reference3Ideal.Run
public import Idealize.ShloMosaic.Lib.Pipeline.ValueKit
public import proofs.«01_k».proof.Proof.Entries

@[expose] public section

set_option maxRecDepth 16384

noncomputable section

namespace Cert.UpDx

open Cert.Kernel3Ideal Cert.Kernel3Ideal.Gen Idealize.ShloMosaic Idealize.ShloMosaic.TcCoe Idealize.SL.Sem
open Idealize.ShloMosaic.Pipeline (Dat)

variable (m : (ℓ : Loc nD τ sig) → Buf (Elt Ideal) ℓ)

/-- The reference's result as a function of the arrays. -/
abbrev REF (A0 : FVec Ideal S2x4096x5632 .bf16) (A1 : FVec Ideal S4x2048x2816 .bf16) : FVec Ideal S4096x2048 .f32 :=
  Host.dotGeneral Cert.Reference3Ideal.dot_S4096x11264_S2048x11264_S4096x2048_1_1_0_0_n_n none (extf .f32
    (shapeCast _ (transpose Cert.Reference3Ideal.S4096x2x5632 [1, 0, 2] A0
    Cert.Reference3Ideal.Gen.transposes_S2x4096x5632_S4096x2x5632_1_0_2)
    Cert.Reference3Ideal.Gen.shapeCasts_S4096x2x5632_S4096x11264) Cert.Reference3Ideal.Gen.bitsLt_bf16_f32)
    (shapeCast _ (transpose Cert.Reference3Ideal.S2048x4x2816 [1, 0, 2] (extf .f32 A1
    Cert.Reference3Ideal.Gen.bitsLt_bf16_f32) Cert.Reference3Ideal.Gen.transposes_S4x2048x2816_S2048x4x2816_1_0_2)
    Cert.Reference3Ideal.Gen.shapeCasts_S2048x4x2816_S2048x11264)

/-- The blocks of a grid point. -/
theorem idx : ∀ t : Fin cfg0.N, win0_0.index t = ![t.val % 4 * 2 / 4, t.val / 4, t.val % 4 * 2 % 4]
    ∧ win0_1.index t = ![(t.val % 4 * 2 + 1) / 4, t.val / 4, (t.val % 4 * 2 + 1) % 4]
    ∧ win0_2.index t = ![t.val % 4 * 2 / 2, 0, t.val % 4 * 2 % 2]
    ∧ win0_3.index t = ![(t.val % 4 * 2 + 1) / 2, 0, (t.val % 4 * 2 + 1) % 2]
    ∧ win0_4.index t = ![t.val / 4, 0] :=
  (by decide +kernel : ∀ t : Fin grid0.N, _)

/-- What a grid point adds. -/
theorem hpay (y0 y1 : Vec Ideal S1x512x1408 .bf16) (w0 w1 : Vec Ideal S1x2048x1408 .bf16) (y : S512x2048.Idx) :
    k0_pay1 y0 w0 y1 w1 y = ∑ r : Fin 1408, y0 (ix3 0 (y 0) r) * w0 (ix3 0 (y 1) r)
      + ∑ r : Fin 1408, y1 (ix3 0 (y 0) r) * w1 (ix3 0 (y 1) r) := by
  pointwise [k0_pay1]

theorem hpay2 (y0 y1 : Vec Ideal S1x512x1408 .bf16) (w0 w1 : Vec Ideal S1x2048x1408 .bf16) (acc : Vec Ideal S512x2048 .f32)
    (y : S512x2048.Idx) : k0_pay2 y0 w0 y1 w1 acc y = acc y + k0_pay1 y0 w0 y1 w1 y := by
  pointwise [k0_pay2]

/-- The reference at an index. -/
theorem href (Y : FVec Ideal S2x4096x5632 .bf16) (W : FVec Ideal S4x2048x2816 .bf16) (i : S4096x2048.Idx) :
    REF Y W i = ∑ r : Fin 11264, Y (ix3 ⟨r.val / 5632, by omega⟩ (i 0) ⟨r.val % 5632, Nat.mod_lt _ (by norm_num)⟩)
      * W (ix3 ⟨r.val / 2816, by omega⟩ (i 1) ⟨r.val % 2816, Nat.mod_lt _ (by norm_num)⟩) := by
  pointwise [REF]

section
variable (c : Dev nD) (Y W : ℕ → ℕ → ℕ → EReal)
variable (hY : ∀ i, V m c main_arg0 i = Y (i 0).val (i 1).val (i 2).val) (hW : ∀ i, V m c main_arg1 i = W (i 0).val (i 1).val (i 2).val)

include hY in
theorem b0 (t : Fin cfg0.N) (x : S1x512x1408.Idx) :
    iblk m c 0 t x = Y (t.val % 4 * 2 / 4) (t.val / 4 * 512 + (x 1).val) (t.val % 4 * 2 % 4 * 1408 + (x 2).val) := by
  blk_simp [iblk]
  rw [hY]
  blk_simp [idx t]

include hY in
theorem b1 (t : Fin cfg0.N) (x : S1x512x1408.Idx) :
    iblk m c 1 t x = Y ((t.val % 4 * 2 + 1) / 4) (t.val / 4 * 512 + (x 1).val) ((t.val % 4 * 2 + 1) % 4 * 1408 + (x 2).val) := by
  blk_simp [iblk]
  rw [hY]
  blk_simp [idx t]

include hW in
theorem b2 (t : Fin cfg0.N) (x : S1x2048x1408.Idx) :
    iblk m c 2 t x = W (t.val % 4 * 2 / 2) (x 1).val (t.val % 4 * 2 % 2 * 1408 + (x 2).val) := by
  blk_simp [iblk]
  rw [hW]
  blk_simp [idx t]

include hW in
theorem b3 (t : Fin cfg0.N) (x : S1x2048x1408.Idx) :
    iblk m c 3 t x = W ((t.val % 4 * 2 + 1) / 2) (x 1).val ((t.val % 4 * 2 + 1) % 2 * 1408 + (x 2).val) := by
  blk_simp [iblk]
  rw [hW]
  blk_simp [idx t]

/-- The terms of the product, by the contracted position. -/
def G (a k l : ℕ) : EReal := Y (l / 5632) a (l % 5632) * W (l / 2816) k (l % 2816)

include hY hW in
theorem part (t : Fin cfg0.N) (y : S512x2048.Idx) :
    k0_pay1 (iblk m c 0 t) (iblk m c 2 t) (iblk m c 1 t) (iblk m c 3 t) y
      = ∑ l : Fin 1408, G Y W (t.val / 4 * 512 + (y 0).val) (y 1).val ((t.val % 4 * 2) * 1408 + l.val)
        + ∑ l : Fin 1408, G Y W (t.val / 4 * 512 + (y 0).val) (y 1).val ((t.val % 4 * 2 + 1) * 1408 + l.val) := by
  rw [hpay]
  congr 1
  · refine Finset.sum_congr rfl fun r _ => ?_
    rw [b0 m c Y hY, b2 m c W hW]
    exact congrArg₂ (· * ·) (Entries.eq3 (by omega) rfl (by dsimp only [ix3]; omega)) (Entries.eq3 (by omega) rfl (by dsimp only [ix3]; omega))
  · refine Finset.sum_congr rfl fun r _ => ?_
    rw [b1 m c Y hY, b3 m c W hW]
    exact congrArg₂ (· * ·) (Entries.eq3 (by omega) rfl (by dsimp only [ix3]; omega)) (Entries.eq3 (by omega) rfl (by dsimp only [ix3]; omega))

include hY hW in
/-- What a row of grid points adds up to. -/
theorem total (t : Fin cfg0.N) (h : ∀ s : Fin 4, 4 * (t.val / 4) + s.val < cfg0.N) (y : S512x2048.Idx) :
    ∑ s : Fin 4, k0_pay1 (iblk m c 0 ⟨4 * (t.val / 4) + s.val, h s⟩)
        (iblk m c 2 ⟨4 * (t.val / 4) + s.val, h s⟩) (iblk m c 1 ⟨4 * (t.val / 4) + s.val, h s⟩) (iblk m c 3 ⟨4 * (t.val / 4) + s.val, h s⟩) y
      = ∑ l : Fin 11264, G Y W (t.val / 4 * 512 + (y 0).val) (y 1).val l.val := by
  rw [← Entries.sum_blocks2 (G Y W (t.val / 4 * 512 + (y 0).val) (y 1).val) 1408 4 11264 rfl]
  refine Finset.sum_congr rfl fun s _ => ?_
  rw [part m c Y W hY hW]
  have hs := s.isLt
  have e1 : (4 * (t.val / 4) + s.val) / 4 = t.val / 4 := by omega
  have e2 : (4 * (t.val / 4) + s.val) % 4 = s.val := by omega
  dsimp only
  rw [e1, e2]

include hY hW in
theorem ref_total (i : S4096x2048.Idx) : REF (V m c main_arg0) (V m c main_arg1) i = ∑ l : Fin 11264, G Y W (i 0).val (i 1).val l.val := by
  rw [href]
  refine Finset.sum_congr rfl fun r _ => ?_
  rw [hY, hW]
  rfl

end

/-- The array after the run. -/
theorem final (c : Dev nD) : (dats m 0 c).arrAt 4 (cfgs 0).N
    = REF (m ((c : Thread nD τ).loc main_arg0)) (m ((c : Thread nD τ).loc main_arg1)) := by
  obtain ⟨Y, hY⟩ := Entries.exists3 _ (V m c main_arg0)
  obtain ⟨W, hW⟩ := Entries.exists3 _ (V m c main_arg1)
  refine (dats m 0 c).arrAt_eq_of_covers 4 _ (by decide +kernel) fun t hf y => ?_
  blk_simp
  have hr := (flush0_4 t).mp hf
  rw [after0_4, Pipeline.eq_sum_fin_of_reset_step_apply_of_flush (fun n h => outsAt0 m c n h) 4 (fun _ => (0 : EReal))
    (fun t y => k0_pay1 (iblk m c 0 t) (iblk m c 2 t) (iblk m c 1 t) (iblk m c 3 t) y)
    (fun t h j => by rw [outsAt0_A m c t h (by omega)]; frame_out; exact (zero_add _).symm)
    (fun t h j => by rw [outsAt0_B m c t h (by omega)]; frame_out; exact hpay2 _ _ _ _ _ j)
    t hr _, zero_add]
  refine (total m c Y W hY hW t _ y).trans (Eq.trans ?_ (ref_total m c Y W hY hW _).symm)
  blk_simp [idx t]

end Cert.UpDx

end

end
-- ==== Proof.DownDw.lean ====
/- The gradient of the feed-forward layer's second weight. -/
module

public import proofs.«01_k».proof.Proof.Gen.Kernel4Ideal.Value
public import proofs.«01_k».proof.Proof.Gen.Reference4Ideal.Run
public import Idealize.ShloMosaic.Lib.Pipeline.ValueKit
public import Idealize.ShloMosaic.Lib.Pipeline.ReadBack
public import proofs.«01_k».proof.Proof.Entries

@[expose] public section

set_option maxRecDepth 16384

noncomputable section

namespace Cert.DownDw

open Cert.Kernel4Ideal Cert.Kernel4Ideal.Gen Idealize.ShloMosaic Idealize.ShloMosaic.TcCoe Idealize.SL.Sem
open Idealize.ShloMosaic.Pipeline (Dat)

variable (m : (ℓ : Loc nD τ sig) → Buf (Elt Ideal) ℓ)

/-- The reference's result as a function of the arrays. -/
abbrev REF (A0 : FVec Ideal S4096x5632 .bf16) (A1 : FVec Ideal S4096x2048 .bf16) : FVec Ideal S4x1x1408x2048 .bf16 :=
  broadcastInDim Cert.Reference4Ideal.S4x1x1408x2048 ![0, 2, 3]
    Cert.Reference4Ideal.Gen.bcast_S4x1408x2048_S4x1x1408x2048_0_2_3 (truncf .bf16 (shapeCast _ (transpose
    Cert.Reference4Ideal.S5632x2048 [1, 0] (Host.dotGeneral
    Cert.Reference4Ideal.dot_S4096x2048_S4096x5632_S2048x5632_0_0_1_1_n_n none (extf .f32 A1
    Cert.Reference4Ideal.Gen.bitsLt_bf16_f32) (extf .f32 A0 Cert.Reference4Ideal.Gen.bitsLt_bf16_f32))
    Cert.Reference4Ideal.Gen.transposes_S2048x5632_S5632x2048_1_0)
    Cert.Reference4Ideal.Gen.shapeCasts_S5632x2048_S4x1408x2048) Cert.Reference4Ideal.Gen.bitsLt_bf16_f32)

/-- The blocks of a grid point. -/
theorem idx : ∀ t : Fin cfg0.N, win0_0.index t = ![t.val % 2, t.val / 4]
    ∧ win0_1.index t = ![0, t.val % 2, t.val % 4 / 2]
    ∧ win0_2.index t = ![t.val / 4, 0, 0, t.val % 4 / 2] :=
  (by decide +kernel : ∀ t : Fin grid0.N, _)

/-- What two grid points compute in turn: the second adds to what the first leaves in the scratch. -/
theorem hpay (x x' : Vec Ideal S2048x1408 .bf16) (w w' : Vec Ideal S1x2048x1024 .bf16) (y : S1x1x1408x1024.Idx) :
    k0_pay4 (k0_pay3 x w (k0_pay2 x' w')) y = ∑ r : Fin 2048, x' (ix2 r (y 2)) * w' (ix3 0 r (y 3))
      + ∑ r : Fin 2048, x (ix2 r (y 2)) * w (ix3 0 r (y 3)) := by
  pointwise [k0_pay4, k0_pay3, k0_pay2, k0_pay1]

/-- The reference at an index. -/
theorem href (X : FVec Ideal S4096x5632 .bf16) (Y : FVec Ideal S4096x2048 .bf16) (i : S4x1x1408x2048.Idx) :
    REF X Y i = ∑ r : Fin 4096, Y (ix2 r (i 3)) * X (ix2 r ⟨(i 0).val * 1408 + (i 2).val, by
      have := (i 0).isLt; have := (i 2).isLt; dsimp at *; omega⟩) := by
  pointwise [REF]

section
variable (c : Dev nD) (X Y : ℕ → ℕ → EReal)
variable (hX : ∀ i, V m c main_arg0 i = X (i 0).val (i 1).val) (hY : ∀ i, V m c main_arg1 i = Y (i 0).val (i 1).val)

include hX in
theorem b0 (t : Fin cfg0.N) (x : S2048x1408.Idx) :
    iblk m c 0 t x = X (t.val % 2 * 2048 + (x 0).val) (t.val / 4 * 1408 + (x 1).val) := by
  blk_simp [iblk]
  rw [hX]
  blk_simp [idx t]

include hY in
/-- The output's gradient with an axis of size one in front. -/
theorem entry (i) : V m c main_v0 i = Y (i 1).val (i 2).val := by
  entry_read
  pointwise
  exact hY _

include hY in
theorem b1 (t : Fin cfg0.N) (x : S1x2048x1024.Idx) :
    iblk m c 1 t x = Y (t.val % 2 * 2048 + (x 1).val) (t.val % 4 / 2 * 1024 + (x 2).val) := by
  blk_simp [iblk]
  rw [entry m c Y hY]
  blk_simp [idx t]

/-- The terms of the product, by the contracted position. -/
def G (a k l : ℕ) : EReal := Y l k * X l a

include hX hY in
/-- What two grid points add up to. -/
theorem total (t u : Fin cfg0.N) (ht : t.val % 2 = 1) (hu : u.val = t.val - 1) (y : S1x1x1408x1024.Idx) :
    k0_pay4 (k0_pay3 (iblk m c 0 t) (iblk m c 1 t) (k0_pay2 (iblk m c 0 u) (iblk m c 1 u))) y
      = ∑ l : Fin 4096, G X Y (t.val / 4 * 1408 + (y 2).val) (t.val % 4 / 2 * 1024 + (y 3).val) l.val := by
  rw [← Entries.sum_blocks1 (G X Y (t.val / 4 * 1408 + (y 2).val) (t.val % 4 / 2 * 1024 + (y 3).val)) 2048 2 4096 rfl, hpay,
    Fin.sum_univ_two]
  refine congrArg₂ (· + ·) (Finset.sum_congr rfl fun r _ => ?_) (Finset.sum_congr rfl fun r _ => ?_)
  · rw [b0 m c X hX, b1 m c Y hY, mul_comm]
    exact congrArg₂ (· * ·) (Entries.eq2 (by dsimp only [ix3]; simp only [Fin.val_zero]; omega) (by dsimp only [ix3]; omega))
      (Entries.eq2 (by dsimp only [ix2]; simp only [Fin.val_zero]; omega) (by dsimp only [ix2]; omega))
  · rw [b0 m c X hX, b1 m c Y hY, mul_comm]
    exact congrArg₂ (· * ·) (Entries.eq2 (by dsimp only [ix3]; simp only [Fin.val_one]; omega) (by dsimp only [ix3]))
      (Entries.eq2 (by dsimp only [ix2]; simp only [Fin.val_one]; omega) (by dsimp only [ix2]))

include hX hY in
theorem ref_total (i : S4x1x1408x2048.Idx) : REF (V m c main_arg0) (V m c main_arg1) i
    = ∑ l : Fin 4096, G X Y ((i 0).val * 1408 + (i 2).val) (i 3).val l.val := by
  rw [href]
  refine Finset.sum_congr rfl fun r _ => ?_
  rw [hX, hY]
  rfl

end

/-- A block at the point that writes it back, over the point before. -/
theorem carried (c : Dev nD) (t u : Fin cfg0.N) (ht : t.val % 2 = 1) (hu : u.val = t.val - 1) (y : S1x1x1408x1024.Idx) :
    (outsAt0 m c t.val t.isLt).1 y
      = k0_pay4 (k0_pay3 (iblk m c 0 t) (iblk m c 1 t) (k0_pay2 (iblk m c 0 u) (iblk m c 1 u))) y := by
  have e : (outsAt0 m c (t.val - 1) (Nat.lt_of_le_of_lt (Nat.sub_le _ _) t.isLt)).2 = k0_pay2 (iblk m c 0 u) (iblk m c 1 u) := by
    obtain ⟨k, hk⟩ := u
    dsimp only at hu
    subst hu
    have h := congrArg Prod.snd (outsAt0_A m c ⟨t.val - 1, hk⟩ (by dsimp only; omega) (by dsimp only; omega) (by dsimp only; omega))
    refine h.trans ?_
    frame_out
  rw [outsAt0_B m c t (by omega) ht ht]
  rw [e]
  frame_out
  rw [read_unread_whole]

/-- The array after the run. -/
theorem final (c : Dev nD) : (dats m 0 c).arrAt 2 (cfgs 0).N
    = REF (m ((c : Thread nD τ).loc main_arg0)) (m ((c : Thread nD τ).loc main_arg1)) := by
  obtain ⟨X, hX⟩ := Entries.exists2 _ (V m c main_arg0)
  obtain ⟨Y, hY⟩ := Entries.exists2 _ (V m c main_arg1)
  refine (dats m 0 c).arrAt_eq_of_covers 2 _ (by decide +kernel) fun t hf y => ?_
  blk_simp
  have hr := (flush0_2 t).mp hf
  rw [after0_2, carried m c t ⟨t.val - 1, Nat.lt_of_le_of_lt (Nat.sub_le _ _) t.isLt⟩ hr rfl y]
  refine (total m c X Y hX hY t _ hr rfl y).trans (Eq.trans ?_ (ref_total m c X Y hX hY _).symm)
  blk_simp [idx t]

end Cert.DownDw

end

end
-- ==== Proof.DownDx.lean ====
/- The gradient of the feed-forward layer's hidden activations. -/
module

public import proofs.«01_k».proof.Proof.Gen.Kernel5Ideal.Value
public import proofs.«01_k».proof.Proof.Gen.Reference5Ideal.Run
public import Idealize.ShloMosaic.Lib.Pipeline.ValueKit
public import proofs.«01_k».proof.Proof.Entries

@[expose] public section

set_option maxRecDepth 16384

noncomputable section

namespace Cert.DownDx

open Cert.Kernel5Ideal Cert.Kernel5Ideal.Gen Idealize.ShloMosaic Idealize.ShloMosaic.TcCoe Idealize.SL.Sem
open Idealize.ShloMosaic.Pipeline (Dat)

variable (m : (ℓ : Loc nD τ sig) → Buf (Elt Ideal) ℓ)

/-- The reference's result as a function of the arrays. -/
abbrev REF (A0 : FVec Ideal S4096x2048 .bf16) (A1 : FVec Ideal S4x1408x2048 .bf16) : FVec Ideal S4096x5632 .f32 :=
  Host.dotGeneral Cert.Reference5Ideal.dot_S4096x2048_S5632x2048_S4096x5632_1_1_0_0_n_n none (extf .f32 A0
    Cert.Reference5Ideal.Gen.bitsLt_bf16_f32) (shapeCast _ (extf .f32 A1 Cert.Reference5Ideal.Gen.bitsLt_bf16_f32)
    Cert.Reference5Ideal.Gen.shapeCasts_S4x1408x2048_S5632x2048)

/-- The blocks of a grid point. -/
theorem idx : ∀ t : Fin cfg0.N, win0_0.index t = ![0, t.val / 4, 0]
    ∧ win0_1.index t = ![t.val % 4, 0, 0]
    ∧ win0_2.index t = ![t.val / 4, t.val % 4] :=
  (by decide +kernel : ∀ t : Fin grid0.N, _)

/-- What a grid point computes. -/
theorem hpay (x : Vec Ideal S1x1024x2048 .bf16) (w : Vec Ideal S1x1408x2048 .bf16) (y : S1024x1408.Idx) :
    k0_pay1 x w y = ∑ r : Fin 2048, x (ix3 0 (y 0) r) * w (ix3 0 (y 1) r) := by
  pointwise [k0_pay1]

/-- The reference at an index. -/
theorem href (X : FVec Ideal S4096x2048 .bf16) (W : FVec Ideal S4x1408x2048 .bf16) (i : S4096x5632.Idx) :
    REF X W i = ∑ r : Fin 2048, X (ix2 (i 0) r) * W (ix3 ⟨(i 1).val / 1408, by have := (i 1).isLt; dsimp at *; omega⟩
      ⟨(i 1).val % 1408, Nat.mod_lt _ (by norm_num)⟩ r) := by
  pointwise [REF]

section
variable (c : Dev nD)
variable (X : ℕ → ℕ → EReal) (hX : ∀ i, V m c main_arg0 i = X (i 0).val (i 1).val)
variable (W : ℕ → ℕ → ℕ → EReal) (hW : ∀ i, V m c main_arg1 i = W (i 0).val (i 1).val (i 2).val)

include hX in
/-- The array the call reads, of another shape. -/
theorem entryX (i) : V m c main_v0 i = X (i 1).val (i 2).val := by
  entry_read
  pointwise
  exact hX _

include hX in
theorem b0 (t : Fin cfg0.N) (x : S1x1024x2048.Idx) : iblk m c 0 t x = X (t.val / 4 * 1024 + (x 1).val) (x 2).val := by
  blk_simp [iblk]
  rw [entryX m c X hX]
  blk_simp [idx t]

include hW in
theorem b1 (t : Fin cfg0.N) (x : S1x1408x2048.Idx) : iblk m c 1 t x = W (t.val % 4) (x 1).val (x 2).val := by
  blk_simp [iblk]
  rw [hW]
  blk_simp [idx t]

end

/-- A grid point's block is the reference's. -/
theorem point (c : Dev nD) (t : Fin cfg0.N) (y) : k0_pay1 (iblk m c 0 t) (iblk m c 1 t) y
    = REF (V m c main_arg0) (V m c main_arg1) (((cfg0.win 2).blk t).view.emb y) := by
  obtain ⟨X, hX⟩ := Entries.exists2 _ (V m c main_arg0)
  obtain ⟨W, hW⟩ := Entries.exists3 _ (V m c main_arg1)
  rw [hpay, href]
  refine Finset.sum_congr rfl fun r _ => ?_
  rw [b0 m c X hX, b1 m c W hW, hX, hW]
  blk_simp [idx t]
  have h1 : (y 1).val < 1408 := (y 1).isLt
  exact congrArg₂ (· * ·) rfl (Entries.eq3 (by dsimp only; omega) (by dsimp only; omega) rfl)

/-- The array after the run. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.DownDx

end

end
-- ==== Proof.HgrnInDw.lean ====
/- The gradient of the recurrence's projection weight. -/
module

public import proofs.«01_k».proof.Proof.Gen.Kernel6Ideal.Value
public import proofs.«01_k».proof.Proof.Gen.Reference6Ideal.Run
public import Idealize.ShloMosaic.Lib.Pipeline.ValueKit
public import proofs.«01_k».proof.Proof.Entries

@[expose] public section

set_option maxRecDepth 16384

noncomputable section

namespace Cert.HgrnInDw

open Cert.Kernel6Ideal Cert.Kernel6Ideal.Gen Idealize.ShloMosaic Idealize.ShloMosaic.TcCoe Idealize.SL.Sem
open Idealize.ShloMosaic.Pipeline (Dat)

variable (m : (ℓ : Loc nD τ sig) → Buf (Elt Ideal) ℓ)

/-- The reference's result as a function of the arrays. -/
abbrev REF (A0 : FVec Ideal S4096x2048 .bf16) (A1 : FVec Ideal S4x4096x2048 .bf16) : FVec Ideal S4x1x2048x2048 .bf16 :=
  broadcastInDim Cert.Reference6Ideal.S4x1x2048x2048 ![0, 2, 3]
    Cert.Reference6Ideal.Gen.bcast_S4x2048x2048_S4x1x2048x2048_0_2_3 (truncf .bf16 (transpose
    Cert.Reference6Ideal.S4x2048x2048 [1, 0, 2] (shapeCast _ (transpose Cert.Reference6Ideal.S2048x8192 [1, 0]
    (Host.dotGeneral Cert.Reference6Ideal.dot_S4096x8192_S4096x2048_S8192x2048_0_0_1_1_n_n none (extf .f32
    (shapeCast _ (transpose Cert.Reference6Ideal.S4096x4x2048 [1, 0, 2] A1
    Cert.Reference6Ideal.Gen.transposes_S4x4096x2048_S4096x4x2048_1_0_2)
    Cert.Reference6Ideal.Gen.shapeCasts_S4096x4x2048_S4096x8192) Cert.Reference6Ideal.Gen.bitsLt_bf16_f32) (extf
    .f32 A0 Cert.Reference6Ideal.Gen.bitsLt_bf16_f32))
    Cert.Reference6Ideal.Gen.transposes_S8192x2048_S2048x8192_1_0)
    Cert.Reference6Ideal.Gen.shapeCasts_S2048x8192_S2048x4x2048)
    Cert.Reference6Ideal.Gen.transposes_S2048x4x2048_S4x2048x2048_1_0_2) Cert.Reference6Ideal.Gen.bitsLt_bf16_f32)

/-- The blocks of a grid point. -/
theorem idx : ∀ t : Fin cfg0.N, win0_0.index t = ![0, t.val / 8]
    ∧ win0_1.index t = ![t.val % 8 / 2, 0, t.val % 8 % 2]
    ∧ win0_2.index t = ![t.val % 8 / 2, 0, t.val / 8, t.val % 8 % 2] :=
  (by decide +kernel : ∀ t : Fin grid0.N, _)

/-- What a grid point computes. -/
theorem hpay (x : Vec Ideal S4096x512 .bf16) (w : Vec Ideal S1x4096x1024 .bf16) (y : S1x1x512x1024.Idx) :
    k0_pay1 x w y = ∑ r : Fin 4096, x (ix2 r (y 2)) * w (ix3 0 r (y 3)) := by
  pointwise [k0_pay1]

/-- The reference at an index. -/
theorem href (X : FVec Ideal S4096x2048 .bf16) (Y : FVec Ideal S4x4096x2048 .bf16) (i : S4x1x2048x2048.Idx) :
    REF X Y i = ∑ r : Fin 4096, Y (ix3 (i 0) r
      (i 3)) * X (ix2 r (i 2)) := by
  pointwise [REF]

section
variable (c : Dev nD) (X : ℕ → ℕ → EReal) (Y : ℕ → ℕ → ℕ → EReal)
variable (hX : ∀ i, V m c main_arg0 i = X (i 0).val (i 1).val) (hY : ∀ i, V m c main_arg1 i = Y (i 0).val (i 1).val (i 2).val)

include hX in
theorem b0 (t : Fin cfg0.N) (x : S4096x512.Idx) :
    iblk m c 0 t x = X (x 0).val (t.val / 8 * 512 + (x 1).val) := by
  blk_simp [iblk]
  rw [hX]
  blk_simp [idx t]

include hY in
theorem b1 (t : Fin cfg0.N) (x : S1x4096x1024.Idx) :
    iblk m c 1 t x = Y (t.val % 8 / 2) (x 1).val (t.val % 8 % 2 * 1024 + (x 2).val) := by
  blk_simp [iblk]
  rw [hY]
  blk_simp [idx t]

end

/-- A grid point's block is the reference's. -/
theorem point (c : Dev nD) (t : Fin cfg0.N) (y) : k0_pay1 (iblk m c 0 t) (iblk m c 1 t) y
    = REF (V m c main_arg0) (V m c main_arg1) (((cfg0.win 2).blk t).view.emb y) := by
  obtain ⟨X, hX⟩ := Entries.exists2 _ (V m c main_arg0)
  obtain ⟨Y, hY⟩ := Entries.exists3 _ (V m c main_arg1)
  rw [hpay, href]
  refine Finset.sum_congr rfl fun r _ => ?_
  rw [b0 m c X hX, b1 m c Y hY, hX, hY, mul_comm]
  blk_simp [idx t]

/-- The array after the run. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.HgrnInDw

end

end
-- ==== Proof.HgrnInDx.lean ====
/- The gradient of the recurrence's input. -/
module

public import proofs.«01_k».proof.Proof.Gen.Kernel7Ideal.Value
public import proofs.«01_k».proof.Proof.Gen.Reference7Ideal.Run
public import Idealize.ShloMosaic.Lib.Pipeline.ValueKit
public import proofs.«01_k».proof.Proof.Entries

@[expose] public section

set_option maxRecDepth 16384

noncomputable section

namespace Cert.HgrnInDx

open Cert.Kernel7Ideal Cert.Kernel7Ideal.Gen Idealize.ShloMosaic Idealize.ShloMosaic.TcCoe Idealize.SL.Sem
open Idealize.ShloMosaic.Pipeline (Dat)

variable (m : (ℓ : Loc nD τ sig) → Buf (Elt Ideal) ℓ)

/-- The reference's result as a function of the arrays. -/
abbrev REF (A0 : FVec Ideal S4x4096x2048 .bf16) (A1 : FVec Ideal S4x2048x2048 .bf16) : FVec Ideal S4096x2048 .f32 :=
  Host.dotGeneral Cert.Reference7Ideal.dot_S4096x8192_S2048x8192_S4096x2048_1_1_0_0_n_n none (extf .f32 (shapeCast
    _ (transpose Cert.Reference7Ideal.S4096x4x2048 [1, 0, 2] A0
    Cert.Reference7Ideal.Gen.transposes_S4x4096x2048_S4096x4x2048_1_0_2)
    Cert.Reference7Ideal.Gen.shapeCasts_S4096x4x2048_S4096x8192) Cert.Reference7Ideal.Gen.bitsLt_bf16_f32)
    (shapeCast _ (transpose Cert.Reference7Ideal.S2048x4x2048 [1, 0, 2] (extf .f32 A1
    Cert.Reference7Ideal.Gen.bitsLt_bf16_f32) Cert.Reference7Ideal.Gen.transposes_S4x2048x2048_S2048x4x2048_1_0_2)
    Cert.Reference7Ideal.Gen.shapeCasts_S2048x4x2048_S2048x8192)

/-- The blocks of a grid point. -/
theorem idx : ∀ t : Fin cfg0.N, win0_0.index t = ![t.val % 4 * 2 / 2, t.val / 4, t.val % 4 * 2 % 2]
    ∧ win0_1.index t = ![(t.val % 4 * 2 + 1) / 2, t.val / 4, (t.val % 4 * 2 + 1) % 2]
    ∧ win0_2.index t = ![t.val % 4 * 2 / 2, 0, t.val % 4 * 2 % 2]
    ∧ win0_3.index t = ![(t.val % 4 * 2 + 1) / 2, 0, (t.val % 4 * 2 + 1) % 2]
    ∧ win0_4.index t = ![t.val / 4, 0] :=
  (by decide +kernel : ∀ t : Fin grid0.N, _)

/-- What a grid point adds. -/
theorem hpay (y0 y1 : Vec Ideal S1x1024x1024 .bf16) (w0 w1 : Vec Ideal S1x2048x1024 .bf16) (y : S1024x2048.Idx) :
    k0_pay1 y0 w0 y1 w1 y = ∑ r : Fin 1024, y0 (ix3 0 (y 0) r) * w0 (ix3 0 (y 1) r)
      + ∑ r : Fin 1024, y1 (ix3 0 (y 0) r) * w1 (ix3 0 (y 1) r) := by
  pointwise [k0_pay1]

theorem hpay2 (y0 y1 : Vec Ideal S1x1024x1024 .bf16) (w0 w1 : Vec Ideal S1x2048x1024 .bf16) (acc : Vec Ideal S1024x2048 .f32)
    (y : S1024x2048.Idx) : k0_pay2 y0 w0 y1 w1 acc y = acc y + k0_pay1 y0 w0 y1 w1 y := by
  pointwise [k0_pay2]

/-- The reference at an index. -/
theorem href (Y : FVec Ideal S4x4096x2048 .bf16) (W : FVec Ideal S4x2048x2048 .bf16) (i : S4096x2048.Idx) :
    REF Y W i = ∑ r : Fin 8192, Y (ix3 ⟨r.val / 2048, by omega⟩ (i 0) ⟨r.val % 2048, Nat.mod_lt _ (by norm_num)⟩)
      * W (ix3 ⟨r.val / 2048, by omega⟩ (i 1) ⟨r.val % 2048, Nat.mod_lt _ (by norm_num)⟩) := by
  pointwise [REF]

section
variable (c : Dev nD) (Y W : ℕ → ℕ → ℕ → EReal)
variable (hY : ∀ i, V m c main_arg0 i = Y (i 0).val (i 1).val (i 2).val) (hW : ∀ i, V m c main_arg1 i = W (i 0).val (i 1).val (i 2).val)

include hY in
theorem b0 (t : Fin cfg0.N) (x : S1x1024x1024.Idx) :
    iblk m c 0 t x = Y (t.val % 4 * 2 / 2) (t.val / 4 * 1024 + (x 1).val) (t.val % 4 * 2 % 2 * 1024 + (x 2).val) := by
  blk_simp [iblk]
  rw [hY]
  blk_simp [idx t]

include hY in
theorem b1 (t : Fin cfg0.N) (x : S1x1024x1024.Idx) :
    iblk m c 1 t x = Y ((t.val % 4 * 2 + 1) / 2) (t.val / 4 * 1024 + (x 1).val) ((t.val % 4 * 2 + 1) % 2 * 1024 + (x 2).val) := by
  blk_simp [iblk]
  rw [hY]
  blk_simp [idx t]

include hW in
theorem b2 (t : Fin cfg0.N) (x : S1x2048x1024.Idx) :
    iblk m c 2 t x = W (t.val % 4 * 2 / 2) (x 1).val (t.val % 4 * 2 % 2 * 1024 + (x 2).val) := by
  blk_simp [iblk]
  rw [hW]
  blk_simp [idx t]

include hW in
theorem b3 (t : Fin cfg0.N) (x : S1x2048x1024.Idx) :
    iblk m c 3 t x = W ((t.val % 4 * 2 + 1) / 2) (x 1).val ((t.val % 4 * 2 + 1) % 2 * 1024 + (x 2).val) := by
  blk_simp [iblk]
  rw [hW]
  blk_simp [idx t]

/-- The terms of the product, by the contracted position. -/
def G (a k l : ℕ) : EReal := Y (l / 2048) a (l % 2048) * W (l / 2048) k (l % 2048)

include hY hW in
theorem part (t : Fin cfg0.N) (y : S1024x2048.Idx) :
    k0_pay1 (iblk m c 0 t) (iblk m c 2 t) (iblk m c 1 t) (iblk m c 3 t) y
      = ∑ l : Fin 1024, G Y W (t.val / 4 * 1024 + (y 0).val) (y 1).val ((t.val % 4 * 2) * 1024 + l.val)
        + ∑ l : Fin 1024, G Y W (t.val / 4 * 1024 + (y 0).val) (y 1).val ((t.val % 4 * 2 + 1) * 1024 + l.val) := by
  rw [hpay]
  congr 1
  · refine Finset.sum_congr rfl fun r _ => ?_
    rw [b0 m c Y hY, b2 m c W hW]
    exact congrArg₂ (· * ·) (Entries.eq3 (by omega) rfl (by dsimp only [ix3]; omega)) (Entries.eq3 (by omega) rfl (by dsimp only [ix3]; omega))
  · refine Finset.sum_congr rfl fun r _ => ?_
    rw [b1 m c Y hY, b3 m c W hW]
    exact congrArg₂ (· * ·) (Entries.eq3 (by omega) rfl (by dsimp only [ix3]; omega)) (Entries.eq3 (by omega) rfl (by dsimp only [ix3]; omega))

include hY hW in
/-- What a row of grid points adds up to. -/
theorem total (t : Fin cfg0.N) (h : ∀ s : Fin 4, 4 * (t.val / 4) + s.val < cfg0.N) (y : S1024x2048.Idx) :
    ∑ s : Fin 4, k0_pay1 (iblk m c 0 ⟨4 * (t.val / 4) + s.val, h s⟩)
        (iblk m c 2 ⟨4 * (t.val / 4) + s.val, h s⟩) (iblk m c 1 ⟨4 * (t.val / 4) + s.val, h s⟩) (iblk m c 3 ⟨4 * (t.val / 4) + s.val, h s⟩) y
      = ∑ l : Fin 8192, G Y W (t.val / 4 * 1024 + (y 0).val) (y 1).val l.val := by
  rw [← Entries.sum_blocks2 (G Y W (t.val / 4 * 1024 + (y 0).val) (y 1).val) 1024 4 8192 rfl]
  refine Finset.sum_congr rfl fun s _ => ?_
  rw [part m c Y W hY hW]
  have hs := s.isLt
  have e1 : (4 * (t.val / 4) + s.val) / 4 = t.val / 4 := by omega
  have e2 : (4 * (t.val / 4) + s.val) % 4 = s.val := by omega
  dsimp only
  rw [e1, e2]

include hY hW in
theorem ref_total (i : S4096x2048.Idx) : REF (V m c main_arg0) (V m c main_arg1) i = ∑ l : Fin 8192, G Y W (i 0).val (i 1).val l.val := by
  rw [href]
  refine Finset.sum_congr rfl fun r _ => ?_
  rw [hY, hW]
  rfl

end

/-- The array after the run. -/
theorem final (c : Dev nD) : (dats m 0 c).arrAt 4 (cfgs 0).N
    = REF (m ((c : Thread nD τ).loc main_arg0)) (m ((c : Thread nD τ).loc main_arg1)) := by
  obtain ⟨Y, hY⟩ := Entries.exists3 _ (V m c main_arg0)
  obtain ⟨W, hW⟩ := Entries.exists3 _ (V m c main_arg1)
  refine (dats m 0 c).arrAt_eq_of_covers 4 _ (by decide +kernel) fun t hf y => ?_
  blk_simp
  have hr := (flush0_4 t).mp hf
  rw [after0_4, Pipeline.eq_sum_fin_of_reset_step_apply_of_flush (fun n h => outsAt0 m c n h) 4 (fun _ => (0 : EReal))
    (fun t y => k0_pay1 (iblk m c 0 t) (iblk m c 2 t) (iblk m c 1 t) (iblk m c 3 t) y)
    (fun t h j => by rw [outsAt0_A m c t h (by omega)]; frame_out; exact (zero_add _).symm)
    (fun t h j => by rw [outsAt0_B m c t h (by omega)]; frame_out; exact hpay2 _ _ _ _ _ j)
    t hr _, zero_add]
  refine (total m c Y W hY hW t _ y).trans (Eq.trans ?_ (ref_total m c Y W hY hW _).symm)
  blk_simp [idx t]

end Cert.HgrnInDx

end

end
-- ==== Proof.ScInDw.lean ====
/- The gradient of the short convolution's projection weight. -/
module

public import proofs.«01_k».proof.Proof.Gen.Kernel8Ideal.Value
public import proofs.«01_k».proof.Proof.Gen.Reference8Ideal.Run
public import Idealize.ShloMosaic.Lib.Pipeline.ValueKit
public import proofs.«01_k».proof.Proof.Entries

@[expose] public section

set_option maxRecDepth 16384

noncomputable section

namespace Cert.ScInDw

open Cert.Kernel8Ideal Cert.Kernel8Ideal.Gen Idealize.ShloMosaic Idealize.ShloMosaic.TcCoe Idealize.SL.Sem
open Idealize.ShloMosaic.Pipeline (Dat)

variable (m : (ℓ : Loc nD τ sig) → Buf (Elt Ideal) ℓ)

/-- The reference's result as a function of the arrays. -/
abbrev REF (A0 : FVec Ideal S4096x2048 .bf16) (A1 : FVec Ideal S3x4096x2048 .bf16) : FVec Ideal S4x1x2048x1536 .bf16 :=
  broadcastInDim Cert.Reference8Ideal.S4x1x2048x1536 ![0, 2, 3]
    Cert.Reference8Ideal.Gen.bcast_S4x2048x1536_S4x1x2048x1536_0_2_3 (truncf .bf16 (transpose
    Cert.Reference8Ideal.S4x2048x1536 [1, 0, 2] (shapeCast _ (transpose Cert.Reference8Ideal.S2048x6144 [1, 0]
    (Host.dotGeneral Cert.Reference8Ideal.dot_S4096x6144_S4096x2048_S6144x2048_0_0_1_1_n_n none (extf .f32
    (shapeCast _ (transpose Cert.Reference8Ideal.S4096x3x2048 [1, 0, 2] A1
    Cert.Reference8Ideal.Gen.transposes_S3x4096x2048_S4096x3x2048_1_0_2)
    Cert.Reference8Ideal.Gen.shapeCasts_S4096x3x2048_S4096x6144) Cert.Reference8Ideal.Gen.bitsLt_bf16_f32) (extf
    .f32 A0 Cert.Reference8Ideal.Gen.bitsLt_bf16_f32))
    Cert.Reference8Ideal.Gen.transposes_S6144x2048_S2048x6144_1_0)
    Cert.Reference8Ideal.Gen.shapeCasts_S2048x6144_S2048x4x1536)
    Cert.Reference8Ideal.Gen.transposes_S2048x4x1536_S4x2048x1536_1_0_2) Cert.Reference8Ideal.Gen.bitsLt_bf16_f32)

/-- The blocks of a grid point. -/
theorem idx : ∀ t : Fin cfg0.N, win0_0.index t = ![0, t.val / 12]
    ∧ win0_1.index t = ![t.val % 12 / 4, 0, t.val % 12 % 4]
    ∧ win0_2.index t = ![t.val % 12 / 3, 0, t.val / 12, t.val % 12 % 3] :=
  (by decide +kernel : ∀ t : Fin grid0.N, _)

/-- What a grid point computes. -/
theorem hpay (x : Vec Ideal S4096x512 .bf16) (w : Vec Ideal S1x4096x512 .bf16) (y : S1x1x512x512.Idx) :
    k0_pay1 x w y = ∑ r : Fin 4096, x (ix2 r (y 2)) * w (ix3 0 r (y 3)) := by
  pointwise [k0_pay1]

/-- The reference at an index. -/
theorem href (X : FVec Ideal S4096x2048 .bf16) (Y : FVec Ideal S3x4096x2048 .bf16) (i : S4x1x2048x1536.Idx) :
    REF X Y i = ∑ r : Fin 4096, Y (ix3 ⟨((i 0).val * 1536 + (i 3).val) / 2048, by have := (i 0).isLt; have := (i 3).isLt; dsimp at *; omega⟩ r
      ⟨((i 0).val * 1536 + (i 3).val) % 2048, Nat.mod_lt _ (by norm_num)⟩) * X (ix2 r (i 2)) := by
  pointwise [REF]

section
variable (c : Dev nD) (X : ℕ → ℕ → EReal) (Y : ℕ → ℕ → ℕ → EReal)
variable (hX : ∀ i, V m c main_arg0 i = X (i 0).val (i 1).val) (hY : ∀ i, V m c main_arg1 i = Y (i 0).val (i 1).val (i 2).val)

include hX in
theorem b0 (t : Fin cfg0.N) (x : S4096x512.Idx) :
    iblk m c 0 t x = X (x 0).val (t.val / 12 * 512 + (x 1).val) := by
  blk_simp [iblk]
  rw [hX]
  blk_simp [idx t]

include hY in
theorem b1 (t : Fin cfg0.N) (x : S1x4096x512.Idx) :
    iblk m c 1 t x = Y (t.val % 12 / 4) (x 1).val (t.val % 12 % 4 * 512 + (x 2).val) := by
  blk_simp [iblk]
  rw [hY]
  blk_simp [idx t]

end

/-- A grid point's block is the reference's. -/
theorem point (c : Dev nD) (t : Fin cfg0.N) (y) : k0_pay1 (iblk m c 0 t) (iblk m c 1 t) y
    = REF (V m c main_arg0) (V m c main_arg1) (((cfg0.win 2).blk t).view.emb y) := by
  obtain ⟨X, hX⟩ := Entries.exists2 _ (V m c main_arg0)
  obtain ⟨Y, hY⟩ := Entries.exists3 _ (V m c main_arg1)
  rw [hpay, href]
  refine Finset.sum_congr rfl fun r _ => ?_
  rw [b0 m c X hX, b1 m c Y hY, hX, hY, mul_comm]
  blk_simp [idx t]
  have h3 : (y 3).val < 512 := (y 3).isLt
  exact congrArg (· * X r.val (t.val / 12 * 512 + (y 2).val)) (Entries.eq3 (by dsimp only; omega) rfl (by dsimp only; omega))

/-- The array after the run. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.ScInDw

end

end
-- ==== Proof.ScInDx.lean ====
/- The gradient of the short convolution's input. -/
module

public import proofs.«01_k».proof.Proof.Gen.Kernel9Ideal.Value
public import proofs.«01_k».proof.Proof.Gen.Reference9Ideal.Run
public import Idealize.ShloMosaic.Lib.Pipeline.ValueKit
public import proofs.«01_k».proof.Proof.Entries

@[expose] public section

set_option maxRecDepth 16384

noncomputable section

namespace Cert.ScInDx

open Cert.Kernel9Ideal Cert.Kernel9Ideal.Gen Idealize.ShloMosaic Idealize.ShloMosaic.TcCoe Idealize.SL.Sem
open Idealize.ShloMosaic.Pipeline (Dat)

variable (m : (ℓ : Loc nD τ sig) → Buf (Elt Ideal) ℓ)

/-- The reference's result as a function of the arrays. -/
abbrev REF (A0 : FVec Ideal S3x4096x2048 .bf16) (A1 : FVec Ideal S4x2048x1536 .bf16) : FVec Ideal S4096x2048 .f32 :=
  Host.dotGeneral Cert.Reference9Ideal.dot_S4096x6144_S2048x6144_S4096x2048_1_1_0_0_n_n none (extf .f32 (shapeCast
    _ (transpose Cert.Reference9Ideal.S4096x3x2048 [1, 0, 2] A0
    Cert.Reference9Ideal.Gen.transposes_S3x4096x2048_S4096x3x2048_1_0_2)
    Cert.Reference9Ideal.Gen.shapeCasts_S4096x3x2048_S4096x6144) Cert.Reference9Ideal.Gen.bitsLt_bf16_f32)
    (shapeCast _ (transpose Cert.Reference9Ideal.S2048x4x1536 [1, 0, 2] (extf .f32 A1
    Cert.Reference9Ideal.Gen.bitsLt_bf16_f32) Cert.Reference9Ideal.Gen.transposes_S4x2048x1536_S2048x4x1536_1_0_2)
    Cert.Reference9Ideal.Gen.shapeCasts_S2048x4x1536_S2048x6144)

/-- The blocks of a grid point. -/
theorem idx : ∀ t : Fin cfg0.N, win0_0.index t = ![t.val % 4 * 3 / 4, t.val / 4, t.val % 4 * 3 % 4]
    ∧ win0_1.index t = ![(t.val % 4 * 3 + 1) / 4, t.val / 4, (t.val % 4 * 3 + 1) % 4]
    ∧ win0_2.index t = ![(t.val % 4 * 3 + 2) / 4, t.val / 4, (t.val % 4 * 3 + 2) % 4]
    ∧ win0_3.index t = ![t.val % 4 * 3 / 3, 0, t.val % 4 * 3 % 3]
    ∧ win0_4.index t = ![(t.val % 4 * 3 + 1) / 3, 0, (t.val % 4 * 3 + 1) % 3]
    ∧ win0_5.index t = ![(t.val % 4 * 3 + 2) / 3, 0, (t.val % 4 * 3 + 2) % 3]
    ∧ win0_6.index t = ![t.val / 4, 0] :=
  (by decide +kernel : ∀ t : Fin grid0.N, _)

/-- What a grid point adds. -/
theorem hpay (y0 y1 y2 : Vec Ideal S1x1024x512 .bf16) (w0 w1 w2 : Vec Ideal S1x2048x512 .bf16) (y : S1024x2048.Idx) :
    k0_pay1 y0 w0 y1 w1 y2 w2 y = ∑ r : Fin 512, y0 (ix3 0 (y 0) r) * w0 (ix3 0 (y 1) r)
      + ∑ r : Fin 512, y1 (ix3 0 (y 0) r) * w1 (ix3 0 (y 1) r)
      + ∑ r : Fin 512, y2 (ix3 0 (y 0) r) * w2 (ix3 0 (y 1) r) := by
  pointwise [k0_pay1]

theorem hpay2 (y0 y1 y2 : Vec Ideal S1x1024x512 .bf16) (w0 w1 w2 : Vec Ideal S1x2048x512 .bf16) (acc : Vec Ideal S1024x2048 .f32)
    (y : S1024x2048.Idx) : k0_pay2 y0 w0 y1 w1 y2 w2 acc y = acc y + k0_pay1 y0 w0 y1 w1 y2 w2 y := by
  pointwise [k0_pay2]

/-- The reference at an index. -/
theorem href (Y : FVec Ideal S3x4096x2048 .bf16) (W : FVec Ideal S4x2048x1536 .bf16) (i : S4096x2048.Idx) :
    REF Y W i = ∑ r : Fin 6144, Y (ix3 ⟨r.val / 2048, by omega⟩ (i 0) ⟨r.val % 2048, Nat.mod_lt _ (by norm_num)⟩)
      * W (ix3 ⟨r.val / 1536, by omega⟩ (i 1) ⟨r.val % 1536, Nat.mod_lt _ (by norm_num)⟩) := by
  pointwise [REF]

section
variable (c : Dev nD) (Y W : ℕ → ℕ → ℕ → EReal)
variable (hY : ∀ i, V m c main_arg0 i = Y (i 0).val (i 1).val (i 2).val) (hW : ∀ i, V m c main_arg1 i = W (i 0).val (i 1).val (i 2).val)

include hY in
theorem b0 (t : Fin cfg0.N) (x : S1x1024x512.Idx) :
    iblk m c 0 t x = Y (t.val % 4 * 3 / 4) (t.val / 4 * 1024 + (x 1).val) (t.val % 4 * 3 % 4 * 512 + (x 2).val) := by
  blk_simp [iblk]
  rw [hY]
  blk_simp [idx t]

include hY in
theorem b1 (t : Fin cfg0.N) (x : S1x1024x512.Idx) :
    iblk m c 1 t x = Y ((t.val % 4 * 3 + 1) / 4) (t.val / 4 * 1024 + (x 1).val) ((t.val % 4 * 3 + 1) % 4 * 512 + (x 2).val) := by
  blk_simp [iblk]
  rw [hY]
  blk_simp [idx t]

include hY in
theorem b2 (t : Fin cfg0.N) (x : S1x1024x512.Idx) :
    iblk m c 2 t x = Y ((t.val % 4 * 3 + 2) / 4) (t.val / 4 * 1024 + (x 1).val) ((t.val % 4 * 3 + 2) % 4 * 512 + (x 2).val) := by
  blk_simp [iblk]
  rw [hY]
  blk_simp [idx t]

include hW in
theorem b3 (t : Fin cfg0.N) (x : S1x2048x512.Idx) :
    iblk m c 3 t x = W (t.val % 4 * 3 / 3) (x 1).val (t.val % 4 * 3 % 3 * 512 + (x 2).val) := by
  blk_simp [iblk]
  rw [hW]
  blk_simp [idx t]

include hW in
theorem b4 (t : Fin cfg0.N) (x : S1x2048x512.Idx) :
    iblk m c 4 t x = W ((t.val % 4 * 3 + 1) / 3) (x 1).val ((t.val % 4 * 3 + 1) % 3 * 512 + (x 2).val) := by
  blk_simp [iblk]
  rw [hW]
  blk_simp [idx t]

include hW in
theorem b5 (t : Fin cfg0.N) (x : S1x2048x512.Idx) :
    iblk m c 5 t x = W ((t.val % 4 * 3 + 2) / 3) (x 1).val ((t.val % 4 * 3 + 2) % 3 * 512 + (x 2).val) := by
  blk_simp [iblk]
  rw [hW]
  blk_simp [idx t]

/-- The terms of the product, by the contracted position. -/
def G (a k l : ℕ) : EReal := Y (l / 2048) a (l % 2048) * W (l / 1536) k (l % 1536)

include hY hW in
theorem part (t : Fin cfg0.N) (y : S1024x2048.Idx) :
    k0_pay1 (iblk m c 0 t) (iblk m c 3 t) (iblk m c 1 t) (iblk m c 4 t) (iblk m c 2 t) (iblk m c 5 t) y
      = ∑ l : Fin 512, G Y W (t.val / 4 * 1024 + (y 0).val) (y 1).val ((t.val % 4 * 3) * 512 + l.val)
        + ∑ l : Fin 512, G Y W (t.val / 4 * 1024 + (y 0).val) (y 1).val ((t.val % 4 * 3 + 1) * 512 + l.val)
        + ∑ l : Fin 512, G Y W (t.val / 4 * 1024 + (y 0).val) (y 1).val ((t.val % 4 * 3 + 2) * 512 + l.val) := by
  rw [hpay]
  refine congrArg₂ (· + ·) (congrArg₂ (· + ·) ?_ ?_) ?_
  · refine Finset.sum_congr rfl fun r _ => ?_
    rw [b0 m c Y hY, b3 m c W hW]
    exact congrArg₂ (· * ·) (Entries.eq3 (by omega) rfl (by dsimp only [ix3]; omega)) (Entries.eq3 (by omega) rfl (by dsimp only [ix3]; omega))
  · refine Finset.sum_congr rfl fun r _ => ?_
    rw [b1 m c Y hY, b4 m c W hW]
    exact congrArg₂ (· * ·) (Entries.eq3 (by omega) rfl (by dsimp only [ix3]; omega)) (Entries.eq3 (by omega) rfl (by dsimp only [ix3]; omega))
  · refine Finset.sum_congr rfl fun r _ => ?_
    rw [b2 m c Y hY, b5 m c W hW]
    exact congrArg₂ (· * ·) (Entries.eq3 (by omega) rfl (by dsimp only [ix3]; omega)) (Entries.eq3 (by omega) rfl (by dsimp only [ix3]; omega))

include hY hW in
/-- What a row of grid points adds up to. -/
theorem total (t : Fin cfg0.N) (h : ∀ s : Fin 4, 4 * (t.val / 4) + s.val < cfg0.N) (y : S1024x2048.Idx) :
    ∑ s : Fin 4, k0_pay1 (iblk m c 0 ⟨4 * (t.val / 4) + s.val, h s⟩)
        (iblk m c 3 ⟨4 * (t.val / 4) + s.val, h s⟩) (iblk m c 1 ⟨4 * (t.val / 4) + s.val, h s⟩) (iblk m c 4 ⟨4 * (t.val / 4) + s.val, h s⟩) (iblk m c 2 ⟨4 * (t.val / 4) + s.val, h s⟩) (iblk m c 5 ⟨4 * (t.val / 4) + s.val, h s⟩) y
      = ∑ l : Fin 6144, G Y W (t.val / 4 * 1024 + (y 0).val) (y 1).val l.val := by
  rw [← Entries.sum_blocks3 (G Y W (t.val / 4 * 1024 + (y 0).val) (y 1).val) 512 4 6144 rfl]
  refine Finset.sum_congr rfl fun s _ => ?_
  rw [part m c Y W hY hW]
  have hs := s.isLt
  have e1 : (4 * (t.val / 4) + s.val) / 4 = t.val / 4 := by omega
  have e2 : (4 * (t.val / 4) + s.val) % 4 = s.val := by omega
  dsimp only
  rw [e1, e2]

include hY hW in
theorem ref_total (i : S4096x2048.Idx) : REF (V m c main_arg0) (V m c main_arg1) i = ∑ l : Fin 6144, G Y W (i 0).val (i 1).val l.val := by
  rw [href]
  refine Finset.sum_congr rfl fun r _ => ?_
  rw [hY, hW]
  rfl

end

/-- The array after the run. -/
theorem final (c : Dev nD) : (dats m 0 c).arrAt 6 (cfgs 0).N
    = REF (m ((c : Thread nD τ).loc main_arg0)) (m ((c : Thread nD τ).loc main_arg1)) := by
  obtain ⟨Y, hY⟩ := Entries.exists3 _ (V m c main_arg0)
  obtain ⟨W, hW⟩ := Entries.exists3 _ (V m c main_arg1)
  refine (dats m 0 c).arrAt_eq_of_covers 6 _ (by decide +kernel) fun t hf y => ?_
  blk_simp
  have hr := (flush0_6 t).mp hf
  rw [after0_6, Pipeline.eq_sum_fin_of_reset_step_apply_of_flush (fun n h => outsAt0 m c n h) 4 (fun _ => (0 : EReal))
    (fun t y => k0_pay1 (iblk m c 0 t) (iblk m c 3 t) (iblk m c 1 t) (iblk m c 4 t) (iblk m c 2 t) (iblk m c 5 t) y)
    (fun t h j => by rw [outsAt0_A m c t h (by omega)]; frame_out; exact (zero_add _).symm)
    (fun t h j => by rw [outsAt0_B m c t h (by omega)]; frame_out; exact hpay2 _ _ _ _ _ _ _ j)
    t hr _, zero_add]
  refine (total m c Y W hY hW t _ y).trans (Eq.trans ?_ (ref_total m c Y W hY hW _).symm)
  blk_simp [idx t]

end Cert.ScInDx

end

end
-- ==== Proof.OutDw.lean ====
/- The gradient of the weight of a mixer's output. -/
module

public import proofs.«01_k».proof.Proof.Gen.Kernel10Ideal.Value
public import proofs.«01_k».proof.Proof.Gen.Reference10Ideal.Run
public import Idealize.ShloMosaic.Lib.Pipeline.ValueKit
public import proofs.«01_k».proof.Proof.Entries

@[expose] public section

set_option maxRecDepth 16384

noncomputable section

namespace Cert.OutDw

open Cert.Kernel10Ideal Cert.Kernel10Ideal.Gen Idealize.ShloMosaic Idealize.ShloMosaic.TcCoe Idealize.SL.Sem
open Idealize.ShloMosaic.Pipeline (Dat)

variable (m : (ℓ : Loc nD τ sig) → Buf (Elt Ideal) ℓ)

/-- The reference's result as a function of the arrays. -/
abbrev REF (A0 : FVec Ideal S4096x2048 .bf16) (A1 : FVec Ideal S4096x2048 .bf16) : FVec Ideal S1x1x2048x2048 .bf16 :=
  shapeCast _ (truncf .bf16 (shapeCast _ (transpose Cert.Reference10Ideal.S2048x2048 [1, 0] (Host.dotGeneral
    Cert.Reference10Ideal.dot_S4096x2048_S4096x2048_S2048x2048_0_0_1_1_n_n none (extf .f32 A1
    Cert.Reference10Ideal.Gen.bitsLt_bf16_f32) (extf .f32 A0 Cert.Reference10Ideal.Gen.bitsLt_bf16_f32))
    Cert.Reference10Ideal.Gen.transposes_S2048x2048_S2048x2048_1_0)
    Cert.Reference10Ideal.Gen.shapeCasts_S2048x2048_S4x512x2048) Cert.Reference10Ideal.Gen.bitsLt_bf16_f32)
    Cert.Reference10Ideal.Gen.shapeCasts_S4x512x2048_S1x1x2048x2048

/-- The blocks of a grid point. -/
theorem idx : ∀ t : Fin cfg0.N, win0_0.index t = ![0, t.val / 2]
    ∧ win0_1.index t = ![t.val % 2 / 2, 0, t.val % 2 % 2]
    ∧ win0_2.index t = ![t.val % 2 / 2, 0, t.val / 2, t.val % 2 % 2] :=
  (by decide +kernel : ∀ t : Fin grid0.N, _)

/-- What a grid point computes. -/
theorem hpay (x : Vec Ideal S4096x512 .bf16) (w : Vec Ideal S1x4096x1024 .bf16) (y : S1x1x512x1024.Idx) :
    k0_pay1 x w y = ∑ r : Fin 4096, x (ix2 r (y 2)) * w (ix3 0 r (y 3)) := by
  pointwise [k0_pay1]

/-- The reference at an index. -/
theorem href (X : FVec Ideal S4096x2048 .bf16) (Y : FVec Ideal S4096x2048 .bf16) (i : S1x1x2048x2048.Idx) :
    REF X Y i = ∑ r : Fin 4096, Y (ix2 r (i 3)) * X (ix2 r (i 2)) := by
  pointwise [REF]

section
variable (c : Dev nD) (X Y : ℕ → ℕ → EReal)
variable (hX : ∀ i, V m c main_arg0 i = X (i 0).val (i 1).val) (hY : ∀ i, V m c main_arg1 i = Y (i 0).val (i 1).val)

include hX in
theorem b0 (t : Fin cfg0.N) (x : S4096x512.Idx) :
    iblk m c 0 t x = X (x 0).val (t.val / 2 * 512 + (x 1).val) := by
  blk_simp [iblk]
  rw [hX]
  blk_simp [idx t]

include hY in
/-- The output's gradient with an axis of size one in front. -/
theorem entry (i) : V m c main_v0 i = Y (i 1).val (i 2).val := by
  entry_read
  pointwise
  exact hY _

include hY in
theorem b1 (t : Fin cfg0.N) (x : S1x4096x1024.Idx) :
    iblk m c 1 t x = Y (x 1).val (t.val % 2 % 2 * 1024 + (x 2).val) := by
  blk_simp [iblk]
  rw [entry m c Y hY]
  blk_simp [idx t]

end

/-- A grid point's block is the reference's. -/
theorem point (c : Dev nD) (t : Fin cfg0.N) (y) : k0_pay1 (iblk m c 0 t) (iblk m c 1 t) y
    = REF (V m c main_arg0) (V m c main_arg1) (((cfg0.win 2).blk t).view.emb y) := by
  obtain ⟨X, hX⟩ := Entries.exists2 _ (V m c main_arg0)
  obtain ⟨Y, hY⟩ := Entries.exists2 _ (V m c main_arg1)
  rw [hpay, href]
  refine Finset.sum_congr rfl fun r _ => ?_
  rw [b0 m c X hX, b1 m c Y hY, hX, hY, mul_comm]
  blk_simp [idx t]

/-- The array after the run. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.OutDw

end

end
-- ==== Proof.OutDx.lean ====
/- The gradient of a mixer's output before its projection. -/
module

public import proofs.«01_k».proof.Proof.Gen.Kernel11Ideal.Value
public import proofs.«01_k».proof.Proof.Gen.Reference11Ideal.Run
public import Idealize.ShloMosaic.Lib.Pipeline.ValueKit
public import proofs.«01_k».proof.Proof.Entries

@[expose] public section

set_option maxRecDepth 16384

noncomputable section

namespace Cert.OutDx

open Cert.Kernel11Ideal Cert.Kernel11Ideal.Gen Idealize.ShloMosaic Idealize.ShloMosaic.TcCoe Idealize.SL.Sem
open Idealize.ShloMosaic.Pipeline (Dat)

variable (m : (ℓ : Loc nD τ sig) → Buf (Elt Ideal) ℓ)

/-- The reference's result as a function of the arrays. -/
abbrev REF (A0 : FVec Ideal S4096x2048 .bf16) (A1 : FVec Ideal S4x512x2048 .bf16) : FVec Ideal S4096x2048 .f32 :=
  Host.dotGeneral Cert.Reference11Ideal.dot_S4096x2048_S2048x2048_S4096x2048_1_1_0_0_n_n none (extf .f32 A0
    Cert.Reference11Ideal.Gen.bitsLt_bf16_f32) (shapeCast _ (extf .f32 A1
    Cert.Reference11Ideal.Gen.bitsLt_bf16_f32) Cert.Reference11Ideal.Gen.shapeCasts_S4x512x2048_S2048x2048)

/-- The blocks of a grid point. -/
theorem idx : ∀ t : Fin cfg0.N, win0_0.index t = ![0, t.val, 0]
    ∧ win0_1.index t = ![0, 0, 0]
    ∧ win0_2.index t = ![t.val, 0] :=
  (by decide +kernel : ∀ t : Fin grid0.N, _)

/-- What a grid point computes. -/
theorem hpay (x : Vec Ideal S1x1024x2048 .bf16) (w : Vec Ideal S1x2048x2048 .bf16) (y : S1024x2048.Idx) :
    k0_pay1 x w y = ∑ r : Fin 2048, x (ix3 0 (y 0) r) * w (ix3 0 (y 1) r) := by
  pointwise [k0_pay1]

/-- The reference at an index. -/
theorem href (X : FVec Ideal S4096x2048 .bf16) (W : FVec Ideal S4x512x2048 .bf16) (i : S4096x2048.Idx) :
    REF X W i = ∑ r : Fin 2048, X (ix2 (i 0) r) * W (ix3 ⟨(i 1).val / 512, by have := (i 1).isLt; dsimp at *; omega⟩
      ⟨(i 1).val % 512, Nat.mod_lt _ (by norm_num)⟩ r) := by
  pointwise [REF]

section
variable (c : Dev nD)
variable (X : ℕ → ℕ → EReal) (hX : ∀ i, V m c main_arg0 i = X (i 0).val (i 1).val)
variable (W : ℕ → ℕ → ℕ → EReal) (hW : ∀ i, V m c main_arg1 i = W (i 0).val (i 1).val (i 2).val)

include hX in
/-- The array the call reads, of another shape. -/
theorem entryX (i) : V m c main_v0 i = X (i 1).val (i 2).val := by
  entry_read
  pointwise
  exact hX _

include hW in
/-- The array the call reads, of another shape. -/
theorem entryW (i) : V m c main_v1 i = W ((i 1).val / 512) ((i 1).val % 512) (i 2).val := by
  entry_read
  pointwise
  exact hW _

include hX in
theorem b0 (t : Fin cfg0.N) (x : S1x1024x2048.Idx) : iblk m c 0 t x = X (t.val * 1024 + (x 1).val) (x 2).val := by
  blk_simp [iblk]
  rw [entryX m c X hX]
  blk_simp [idx t]

include hW in
theorem b1 (t : Fin cfg0.N) (x : S1x2048x2048.Idx) : iblk m c 1 t x = W ((x 1).val / 512) ((x 1).val % 512) (x 2).val := by
  blk_simp [iblk]
  rw [entryW m c W hW]
  blk_simp [idx t]

end

/-- A grid point's block is the reference's. -/
theorem point (c : Dev nD) (t : Fin cfg0.N) (y) : k0_pay1 (iblk m c 0 t) (iblk m c 1 t) y
    = REF (V m c main_arg0) (V m c main_arg1) (((cfg0.win 2).blk t).view.emb y) := by
  obtain ⟨X, hX⟩ := Entries.exists2 _ (V m c main_arg0)
  obtain ⟨W, hW⟩ := Entries.exists3 _ (V m c main_arg1)
  rw [hpay, href]
  refine Finset.sum_congr rfl fun r _ => ?_
  rw [b0 m c X hX, b1 m c W hW, hX, hW]
  blk_simp [idx t]

/-- The array after the run. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.OutDx

end

end
-- ==== Proof.UpFwd.lean ====
/- The product into the feed-forward layer. -/
module

public import proofs.«01_k».proof.Proof.Gen.Kernel12Ideal.Value
public import proofs.«01_k».proof.Proof.Gen.Reference12Ideal.Run
public import Idealize.ShloMosaic.Lib.Pipeline.ValueKit
public import proofs.«01_k».proof.Proof.Entries

@[expose] public section

set_option maxRecDepth 16384

noncomputable section

namespace Cert.UpFwd

open Cert.Kernel12Ideal Cert.Kernel12Ideal.Gen Idealize.ShloMosaic Idealize.ShloMosaic.TcCoe Idealize.SL.Sem
open Idealize.ShloMosaic.Pipeline (Dat)

variable (m : (ℓ : Loc nD τ sig) → Buf (Elt Ideal) ℓ)

/-- The reference's result as a function of the arrays. -/
abbrev REF (A0 : FVec Ideal S4096x2048 .bf16) (A1 : FVec Ideal S4x2048x2816 .bf16) : FVec Ideal S4096x11264 .f32 :=
  Host.dotGeneral Cert.Reference12Ideal.dot_S4096x2048_S2048x11264_S4096x11264_1_0_0_1_n_n none (extf .f32 A0
    Cert.Reference12Ideal.Gen.bitsLt_bf16_f32) (shapeCast _ (transpose Cert.Reference12Ideal.S2048x4x2816 [1, 0, 2]
    (extf .f32 A1 Cert.Reference12Ideal.Gen.bitsLt_bf16_f32)
    Cert.Reference12Ideal.Gen.transposes_S4x2048x2816_S2048x4x2816_1_0_2)
    Cert.Reference12Ideal.Gen.shapeCasts_S2048x4x2816_S2048x11264)

/-- The blocks of a grid point. -/
theorem idx : ∀ t : Fin cfg0.N, win0_0.index t = ![t.val / 8, 0]
    ∧ win0_1.index t = ![t.val % 8 / 2, 0, t.val % 8 % 2]
    ∧ win0_2.index t = ![t.val / 8, t.val % 8] :=
  (by decide +kernel : ∀ t : Fin grid0.N, _)

/-- What a grid point computes. -/
theorem hpay (x : Vec Ideal S1024x2048 .bf16) (w : Vec Ideal S1x2048x1408 .bf16) (y : S1024x1408.Idx) :
    k0_pay1 x w y = ∑ r : Fin 2048, x (ix2 (y 0) r) * w (ix3 0 r (y 1)) := by
  pointwise [k0_pay1]

/-- The reference at an index. -/
theorem href (X : FVec Ideal S4096x2048 .bf16) (W : FVec Ideal S4x2048x2816 .bf16) (i : S4096x11264.Idx) :
    REF X W i = ∑ r : Fin 2048, X (ix2 (i 0) r) * W (ix3 ⟨(i 1).val / 2816, by have := (i 1).isLt; dsimp at *; omega⟩ r
      ⟨(i 1).val % 2816, Nat.mod_lt _ (by norm_num)⟩) := by
  pointwise [REF]

section
variable (c : Dev nD)
variable (X : ℕ → ℕ → EReal) (hX : ∀ i, V m c main_arg0 i = X (i 0).val (i 1).val)
variable (W : ℕ → ℕ → ℕ → EReal) (hW : ∀ i, V m c main_arg1 i = W (i 0).val (i 1).val (i 2).val)

include hX in
theorem b0 (t : Fin cfg0.N) (x : S1024x2048.Idx) : iblk m c 0 t x = X (t.val / 8 * 1024 + (x 0).val) (x 1).val := by
  blk_simp [iblk]
  rw [hX]
  blk_simp [idx t]

include hW in
theorem b1 (t : Fin cfg0.N) (x : S1x2048x1408.Idx) : iblk m c 1 t x = W (t.val % 8 / 2) (x 1).val (t.val % 8 % 2 * 1408 + (x 2).val) := by
  blk_simp [iblk]
  rw [hW]
  blk_simp [idx t]

end

/-- A grid point's block is the reference's. -/
theorem point (c : Dev nD) (t : Fin cfg0.N) (y) : k0_pay1 (iblk m c 0 t) (iblk m c 1 t) y
    = REF (V m c main_arg0) (V m c main_arg1) (((cfg0.win 2).blk t).view.emb y) := by
  obtain ⟨X, hX⟩ := Entries.exists2 _ (V m c main_arg0)
  obtain ⟨W, hW⟩ := Entries.exists3 _ (V m c main_arg1)
  rw [hpay, href]
  refine Finset.sum_congr rfl fun r _ => ?_
  rw [b0 m c X hX, b1 m c W hW, hX, hW]
  blk_simp [idx t]
  have h1 : (y 1).val < 1408 := (y 1).isLt
  exact congrArg₂ (· * ·) rfl (Entries.eq3 (by dsimp only; omega) rfl (by dsimp only; omega))

/-- The array after the run. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.UpFwd

end

end
-- ==== Proof.DownFwd.lean ====
/- The product out of the feed-forward layer with the residual. -/
module

public import proofs.«01_k».proof.Proof.Gen.Kernel13Ideal.Value
public import proofs.«01_k».proof.Proof.Gen.Reference13Ideal.Run
public import Idealize.ShloMosaic.Lib.Pipeline.ValueKit
public import Idealize.ShloMosaic.Lib.Pipeline.ReadBack
public import proofs.«01_k».proof.Proof.Entries

@[expose] public section

set_option maxRecDepth 16384

noncomputable section

namespace Cert.DownFwd

open Cert.Kernel13Ideal Cert.Kernel13Ideal.Gen Idealize.ShloMosaic Idealize.ShloMosaic.TcCoe Idealize.SL.Sem
open Idealize.ShloMosaic.Pipeline (Dat)

variable (m : (ℓ : Loc nD τ sig) → Buf (Elt Ideal) ℓ)

/-- The reference's result as a function of the arrays. -/
abbrev REF (A0 : FVec Ideal S4096x5632 .bf16) (A1 : FVec Ideal S4x1408x2048 .bf16) (A2 : FVec Ideal S4096x2048 .f32) : FVec Ideal S4096x2048 .f32 :=
  addf A2 (Host.dotGeneral Cert.Reference13Ideal.dot_S4096x5632_S5632x2048_S4096x2048_1_0_0_1_n_n none (extf .f32
    A0 Cert.Reference13Ideal.Gen.bitsLt_bf16_f32) (shapeCast _ (extf .f32 A1
    Cert.Reference13Ideal.Gen.bitsLt_bf16_f32) Cert.Reference13Ideal.Gen.shapeCasts_S4x1408x2048_S5632x2048))

/-- The blocks of a grid point. -/
theorem idx : ∀ t : Fin cfg0.N, win0_0.index t = ![t.val / 4, t.val % 2 * 2]
    ∧ win0_1.index t = ![t.val / 4, t.val % 2 * 2 + 1]
    ∧ win0_2.index t = ![t.val % 2 * 2, 0, t.val % 4 / 2]
    ∧ win0_3.index t = ![t.val % 2 * 2 + 1, 0, t.val % 4 / 2]
    ∧ win0_4.index t = ![t.val / 4, t.val % 4 / 2]
    ∧ win0_5.index t = ![t.val / 4, t.val % 4 / 2] :=
  (by decide +kernel : ∀ t : Fin grid0.N, _)

/-- What one grid point computes. -/
theorem hpay1 (x0 x1 : Vec Ideal S1024x1408 .bf16) (w0 w1 : Vec Ideal S1x1408x1024 .bf16) (y : S1024x1024.Idx) :
    k0_pay1 x0 w0 x1 w1 y = ∑ r : Fin 1408, x0 (ix2 (y 0) r) * w0 (ix3 0 r (y 1)) + ∑ r : Fin 1408, x1 (ix2 (y 0) r) * w1 (ix3 0 r (y 1)) := by
  pointwise [k0_pay1]

/-- What the second of two grid points makes of the scratch and the residual. -/
theorem hpay (x0 x1 x0' x1' : Vec Ideal S1024x1408 .bf16) (w0 w1 w0' w1' : Vec Ideal S1x1408x1024 .bf16)
    (z : Vec Ideal S1024x1024 .f32) (y : S1024x1024.Idx) :
    k0_pay4 (k0_pay3 x0 w0 x1 w1 (k0_pay2 x0' w0' x1' w1')) z y = z y + (k0_pay1 x0' w0' x1' w1' y + k0_pay1 x0 w0 x1 w1 y) := by
  pointwise [k0_pay4, k0_pay3, k0_pay2]
  exact add_comm _ _

/-- The reference at an index. -/
theorem href (X : FVec Ideal S4096x5632 .bf16) (W : FVec Ideal S4x1408x2048 .bf16) (Z : FVec Ideal S4096x2048 .f32) (i : S4096x2048.Idx) :
    REF X W Z i = Z i + ∑ r : Fin 5632, X (ix2 (i 0) r) * W (ix3 ⟨r.val / 1408, by omega⟩ ⟨r.val % 1408, Nat.mod_lt _ (by norm_num)⟩ (i 1)) := by
  pointwise [REF]

section
variable (c : Dev nD) (X : ℕ → ℕ → EReal) (W : ℕ → ℕ → ℕ → EReal) (Z : ℕ → ℕ → EReal)
variable (hX : ∀ i, V m c main_arg0 i = X (i 0).val (i 1).val) (hW : ∀ i, V m c main_arg1 i = W (i 0).val (i 1).val (i 2).val)
variable (hZ : ∀ i, V m c main_arg2 i = Z (i 0).val (i 1).val)

include hX in
theorem b0 (t : Fin cfg0.N) (x : S1024x1408.Idx) :
    iblk m c 0 t x = X (t.val / 4 * 1024 + (x 0).val) (t.val % 2 * 2 * 1408 + (x 1).val) := by
  blk_simp [iblk]
  rw [hX]
  blk_simp [idx t]

include hX in
theorem b1 (t : Fin cfg0.N) (x : S1024x1408.Idx) :
    iblk m c 1 t x = X (t.val / 4 * 1024 + (x 0).val) ((t.val % 2 * 2 + 1) * 1408 + (x 1).val) := by
  blk_simp [iblk]
  rw [hX]
  blk_simp [idx t]

include hW in
theorem b2 (t : Fin cfg0.N) (x : S1x1408x1024.Idx) :
    iblk m c 2 t x = W (t.val % 2 * 2) (x 1).val (t.val % 4 / 2 * 1024 + (x 2).val) := by
  blk_simp [iblk]
  rw [hW]
  blk_simp [idx t]

include hW in
theorem b3 (t : Fin cfg0.N) (x : S1x1408x1024.Idx) :
    iblk m c 3 t x = W (t.val % 2 * 2 + 1) (x 1).val (t.val % 4 / 2 * 1024 + (x 2).val) := by
  blk_simp [iblk]
  rw [hW]
  blk_simp [idx t]

include hZ in
theorem b4 (t : Fin cfg0.N) (x : S1024x1024.Idx) :
    iblk m c 4 t x = Z (t.val / 4 * 1024 + (x 0).val) (t.val % 4 / 2 * 1024 + (x 1).val) := by
  blk_simp [iblk]
  rw [hZ]
  blk_simp [idx t]

/-- The terms of the product, by the contracted position. -/
def G (a k l : ℕ) : EReal := X a l * W (l / 1408) (l % 1408) k

include hX hW in
theorem part (t : Fin cfg0.N) (s : ℕ) (hs : t.val % 2 = s) (y : S1024x1024.Idx) :
    k0_pay1 (iblk m c 0 t) (iblk m c 2 t) (iblk m c 1 t) (iblk m c 3 t) y
      = ∑ l : Fin 1408, G X W (t.val / 4 * 1024 + (y 0).val) (t.val % 4 / 2 * 1024 + (y 1).val) (s * 2 * 1408 + l.val)
        + ∑ l : Fin 1408, G X W (t.val / 4 * 1024 + (y 0).val) (t.val % 4 / 2 * 1024 + (y 1).val) ((s * 2 + 1) * 1408 + l.val) := by
  subst hs
  rw [hpay1]
  refine congrArg₂ (· + ·) (Finset.sum_congr rfl fun r _ => ?_) (Finset.sum_congr rfl fun r _ => ?_)
  · rw [b0 m c X hX, b2 m c W hW]
    exact congrArg₂ (· * ·) rfl (Entries.eq3 (by omega) (by dsimp only [ix3]; omega) rfl)
  · rw [b1 m c X hX, b3 m c W hW]
    exact congrArg₂ (· * ·) rfl (Entries.eq3 (by omega) (by dsimp only [ix3]; omega) rfl)

include hX hW hZ in
/-- What two grid points add up to. -/
theorem total (t u : Fin cfg0.N) (ht : t.val % 2 = 1) (hu : u.val = t.val - 1) (y : S1024x1024.Idx) :
    k0_pay4 (k0_pay3 (iblk m c 0 t) (iblk m c 2 t) (iblk m c 1 t) (iblk m c 3 t)
        (k0_pay2 (iblk m c 0 u) (iblk m c 2 u) (iblk m c 1 u) (iblk m c 3 u))) (iblk m c 4 t) y
      = Z (t.val / 4 * 1024 + (y 0).val) (t.val % 4 / 2 * 1024 + (y 1).val)
        + ∑ l : Fin 5632, G X W (t.val / 4 * 1024 + (y 0).val) (t.val % 4 / 2 * 1024 + (y 1).val) l.val := by
  rw [← Entries.sum_blocks2 (G X W (t.val / 4 * 1024 + (y 0).val) (t.val % 4 / 2 * 1024 + (y 1).val)) 1408 2 5632 rfl, hpay,
    Fin.sum_univ_two, b4 m c Z hZ, part m c X W hX hW u 0 (by omega), part m c X W hX hW t 1 ht]
  have e1 : u.val / 4 = t.val / 4 := by omega
  have e2 : u.val % 4 / 2 = t.val % 4 / 2 := by omega
  rw [e1, e2]
  rfl

include hX hW hZ in
theorem ref_total (i : S4096x2048.Idx) : REF (V m c main_arg0) (V m c main_arg1) (V m c main_arg2) i
    = Z (i 0).val (i 1).val + ∑ l : Fin 5632, G X W (i 0).val (i 1).val l.val := by
  rw [href, hZ]
  refine congrArg₂ (· + ·) rfl (Finset.sum_congr rfl fun r _ => ?_)
  rw [hX, hW]
  rfl

end

/-- A block at the point that writes it back, over the point before. -/
theorem carried (c : Dev nD) (t u : Fin cfg0.N) (ht : t.val % 2 = 1) (hu : u.val = t.val - 1) (y : S1024x1024.Idx) :
    (outsAt0 m c t.val t.isLt).1 y
      = k0_pay4 (k0_pay3 (iblk m c 0 t) (iblk m c 2 t) (iblk m c 1 t) (iblk m c 3 t)
        (k0_pay2 (iblk m c 0 u) (iblk m c 2 u) (iblk m c 1 u) (iblk m c 3 u))) (iblk m c 4 t) y := by
  have e : (outsAt0 m c (t.val - 1) (Nat.lt_of_le_of_lt (Nat.sub_le _ _) t.isLt)).2
      = k0_pay2 (iblk m c 0 u) (iblk m c 2 u) (iblk m c 1 u) (iblk m c 3 u) := by
    obtain ⟨k, hk⟩ := u
    dsimp only at hu
    subst hu
    have h := congrArg Prod.snd (outsAt0_A m c ⟨t.val - 1, hk⟩ (by dsimp only; omega) (by dsimp only; omega) (by dsimp only; omega))
    refine h.trans ?_
    frame_out
  rw [outsAt0_B m c t (by omega) ht ht]
  rw [e]
  frame_out
  rw [read_unread_whole]

/-- The array after the run. -/
theorem final (c : Dev nD) : (dats m 0 c).arrAt 5 (cfgs 0).N
    = REF (m ((c : Thread nD τ).loc main_arg0)) (m ((c : Thread nD τ).loc main_arg1)) (m ((c : Thread nD τ).loc main_arg2)) := by
  obtain ⟨X, hX⟩ := Entries.exists2 _ (V m c main_arg0)
  obtain ⟨W, hW⟩ := Entries.exists3 _ (V m c main_arg1)
  obtain ⟨Z, hZ⟩ := Entries.exists2 _ (V m c main_arg2)
  refine (dats m 0 c).arrAt_eq_of_covers 5 _ (by decide +kernel) fun t hf y => ?_
  blk_simp
  have hr := (flush0_5 t).mp hf
  rw [after0_5, carried m c t ⟨t.val - 1, Nat.lt_of_le_of_lt (Nat.sub_le _ _) t.isLt⟩ hr rfl y]
  refine (total m c X W Z hX hW hZ t _ hr rfl y).trans (Eq.trans ?_ (ref_total m c X W Z hX hW hZ _).symm)
  blk_simp [idx t]

end Cert.DownFwd

end

end
-- ==== Proof.ScInFwd.lean ====
/- The product into the short convolution. -/
module

public import proofs.«01_k».proof.Proof.Gen.Kernel14Ideal.Value
public import proofs.«01_k».proof.Proof.Gen.Reference14Ideal.Run
public import Idealize.ShloMosaic.Lib.Pipeline.ValueKit
public import proofs.«01_k».proof.Proof.Entries

@[expose] public section

set_option maxRecDepth 16384

noncomputable section

namespace Cert.ScInFwd

open Cert.Kernel14Ideal Cert.Kernel14Ideal.Gen Idealize.ShloMosaic Idealize.ShloMosaic.TcCoe Idealize.SL.Sem
open Idealize.ShloMosaic.Pipeline (Dat)

variable (m : (ℓ : Loc nD τ sig) → Buf (Elt Ideal) ℓ)

/-- The reference's result as a function of the arrays. -/
abbrev REF (A0 : FVec Ideal S4096x2048 .bf16) (A1 : FVec Ideal S4x2048x1536 .bf16) : FVec Ideal S4096x6144 .f32 :=
  Host.dotGeneral Cert.Reference14Ideal.dot_S4096x2048_S2048x6144_S4096x6144_1_0_0_1_n_n none (extf .f32 A0
    Cert.Reference14Ideal.Gen.bitsLt_bf16_f32) (shapeCast _ (transpose Cert.Reference14Ideal.S2048x4x1536 [1, 0, 2]
    (extf .f32 A1 Cert.Reference14Ideal.Gen.bitsLt_bf16_f32)
    Cert.Reference14Ideal.Gen.transposes_S4x2048x1536_S2048x4x1536_1_0_2)
    Cert.Reference14Ideal.Gen.shapeCasts_S2048x4x1536_S2048x6144)

/-- The blocks of a grid point. -/
theorem idx : ∀ t : Fin cfg0.N, win0_0.index t = ![t.val / 4, 0]
    ∧ win0_1.index t = ![t.val % 4, 0, 0]
    ∧ win0_2.index t = ![t.val / 4, t.val % 4] :=
  (by decide +kernel : ∀ t : Fin grid0.N, _)

/-- What a grid point computes. -/
theorem hpay (x : Vec Ideal S1024x2048 .bf16) (w : Vec Ideal S1x2048x1536 .bf16) (y : S1024x1536.Idx) :
    k0_pay1 x w y = ∑ r : Fin 2048, x (ix2 (y 0) r) * w (ix3 0 r (y 1)) := by
  pointwise [k0_pay1]

/-- The reference at an index. -/
theorem href (X : FVec Ideal S4096x2048 .bf16) (W : FVec Ideal S4x2048x1536 .bf16) (i : S4096x6144.Idx) :
    REF X W i = ∑ r : Fin 2048, X (ix2 (i 0) r) * W (ix3 ⟨(i 1).val / 1536, by have := (i 1).isLt; dsimp at *; omega⟩ r
      ⟨(i 1).val % 1536, Nat.mod_lt _ (by norm_num)⟩) := by
  pointwise [REF]

section
variable (c : Dev nD)
variable (X : ℕ → ℕ → EReal) (hX : ∀ i, V m c main_arg0 i = X (i 0).val (i 1).val)
variable (W : ℕ → ℕ → ℕ → EReal) (hW : ∀ i, V m c main_arg1 i = W (i 0).val (i 1).val (i 2).val)

include hX in
theorem b0 (t : Fin cfg0.N) (x : S1024x2048.Idx) : iblk m c 0 t x = X (t.val / 4 * 1024 + (x 0).val) (x 1).val := by
  blk_simp [iblk]
  rw [hX]
  blk_simp [idx t]

include hW in
theorem b1 (t : Fin cfg0.N) (x : S1x2048x1536.Idx) : iblk m c 1 t x = W (t.val % 4) (x 1).val (x 2).val := by
  blk_simp [iblk]
  rw [hW]
  blk_simp [idx t]

end

/-- A grid point's block is the reference's. -/
theorem point (c : Dev nD) (t : Fin cfg0.N) (y) : k0_pay1 (iblk m c 0 t) (iblk m c 1 t) y
    = REF (V m c main_arg0) (V m c main_arg1) (((cfg0.win 2).blk t).view.emb y) := by
  obtain ⟨X, hX⟩ := Entries.exists2 _ (V m c main_arg0)
  obtain ⟨W, hW⟩ := Entries.exists3 _ (V m c main_arg1)
  rw [hpay, href]
  refine Finset.sum_congr rfl fun r _ => ?_
  rw [b0 m c X hX, b1 m c W hW, hX, hW]
  blk_simp [idx t]
  have h1 : (y 1).val < 1536 := (y 1).isLt
  exact congrArg₂ (· * ·) rfl (Entries.eq3 (by dsimp only; omega) rfl (by dsimp only; omega))

/-- The array after the run. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.ScInFwd

end

end
-- ==== Proof.OutFwd.lean ====
/- A mixer's output projection with the residual. -/
module

public import proofs.«01_k».proof.Proof.Gen.Kernel15Ideal.Value
public import proofs.«01_k».proof.Proof.Gen.Reference15Ideal.Run
public import Idealize.ShloMosaic.Lib.Pipeline.ValueKit
public import proofs.«01_k».proof.Proof.Entries

@[expose] public section

set_option maxRecDepth 16384

noncomputable section

namespace Cert.OutFwd

open Cert.Kernel15Ideal Cert.Kernel15Ideal.Gen Idealize.ShloMosaic Idealize.ShloMosaic.TcCoe Idealize.SL.Sem
open Idealize.ShloMosaic.Pipeline (Dat)

variable (m : (ℓ : Loc nD τ sig) → Buf (Elt Ideal) ℓ)

/-- The reference's result as a function of the arrays. -/
abbrev REF (A0 : FVec Ideal S4096x2048 .bf16) (A1 : FVec Ideal S4x512x2048 .bf16) (A2 : FVec Ideal S4096x2048 .f32) : FVec Ideal S4096x2048 .f32 :=
  addf A2 (Host.dotGeneral Cert.Reference15Ideal.dot_S4096x2048_S2048x2048_S4096x2048_1_0_0_1_n_n none (extf .f32
    A0 Cert.Reference15Ideal.Gen.bitsLt_bf16_f32) (shapeCast _ (extf .f32 A1
    Cert.Reference15Ideal.Gen.bitsLt_bf16_f32) Cert.Reference15Ideal.Gen.shapeCasts_S4x512x2048_S2048x2048))

/-- The blocks of a grid point. -/
theorem idx : ∀ t : Fin cfg0.N, win0_0.index t = ![t.val / 2, 0]
    ∧ win0_1.index t = ![0, 0, t.val % 2]
    ∧ win0_2.index t = ![t.val / 2, t.val % 2]
    ∧ win0_3.index t = ![t.val / 2, t.val % 2] :=
  (by decide +kernel : ∀ t : Fin grid0.N, _)

/-- What a grid point computes. -/
theorem hpay (x : Vec Ideal S1024x2048 .bf16) (w : Vec Ideal S1x2048x1024 .bf16) (z : Vec Ideal S1024x1024 .f32) (y : S1024x1024.Idx) :
    k0_pay1 x w z y = ∑ r : Fin 2048, x (ix2 (y 0) r) * w (ix3 0 r (y 1)) + z y := by
  pointwise [k0_pay1]

/-- The reference at an index. -/
theorem href (X : FVec Ideal S4096x2048 .bf16) (W : FVec Ideal S4x512x2048 .bf16) (Z : FVec Ideal S4096x2048 .f32) (i : S4096x2048.Idx) :
    REF X W Z i = Z i + ∑ r : Fin 2048, X (ix2 (i 0) r) * W (ix3 ⟨r.val / 512, by omega⟩ ⟨r.val % 512, Nat.mod_lt _ (by norm_num)⟩ (i 1)) := by
  pointwise [REF]

section
variable (c : Dev nD)
variable (X : ℕ → ℕ → EReal) (hX : ∀ i, V m c main_arg0 i = X (i 0).val (i 1).val)
variable (W : ℕ → ℕ → ℕ → EReal) (hW : ∀ i, V m c main_arg1 i = W (i 0).val (i 1).val (i 2).val)
variable (Z : ℕ → ℕ → EReal) (hZ : ∀ i, V m c main_arg2 i = Z (i 0).val (i 1).val)

include hW in
/-- The array the call reads, of another shape. -/
theorem entryW (i) : V m c main_v0 i = W ((i 1).val / 512) ((i 1).val % 512) (i 2).val := by
  entry_read
  pointwise
  exact hW _

include hX in
theorem b0 (t : Fin cfg0.N) (x : S1024x2048.Idx) : iblk m c 0 t x = X (t.val / 2 * 1024 + (x 0).val) (x 1).val := by
  blk_simp [iblk]
  rw [hX]
  blk_simp [idx t]

include hW in
theorem b1 (t : Fin cfg0.N) (x : S1x2048x1024.Idx) : iblk m c 1 t x = W ((x 1).val / 512) ((x 1).val % 512) (t.val % 2 * 1024 + (x 2).val) := by
  blk_simp [iblk]
  rw [entryW m c W hW]
  blk_simp [idx t]

include hZ in
theorem b2 (t : Fin cfg0.N) (x : S1024x1024.Idx) : iblk m c 2 t x = Z (t.val / 2 * 1024 + (x 0).val) (t.val % 2 * 1024 + (x 1).val) := by
  blk_simp [iblk]
  rw [hZ]
  blk_simp [idx t]

end

/-- A grid point's block is the reference's. -/
theorem point (c : Dev nD) (t : Fin cfg0.N) (y) : k0_pay1 (iblk m c 0 t) (iblk m c 1 t) (iblk m c 2 t) y
    = REF (V m c main_arg0) (V m c main_arg1) (V m c main_arg2) (((cfg0.win 3).blk t).view.emb y) := by
  obtain ⟨X, hX⟩ := Entries.exists2 _ (V m c main_arg0)
  obtain ⟨W, hW⟩ := Entries.exists3 _ (V m c main_arg1)
  obtain ⟨Z, hZ⟩ := Entries.exists2 _ (V m c main_arg2)
  rw [hpay, href, add_comm]
  refine congrArg₂ (· + ·) ?_ (Finset.sum_congr rfl fun r _ => ?_)
  · rw [b2 m c Z hZ, hZ]
    blk_simp [idx t]
  · rw [b0 m c X hX, b1 m c W hW, hX, hW]
    blk_simp [idx t]

/-- The array after the run. -/
theorem final (c : Dev nD) : (dats m 0 c).arrAt 3 (cfgs 0).N
    = REF (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  exact point m c t y

end Cert.OutFwd

end

end
-- ==== Proof.RmsFwd.lean ====
/- A mixer's input: the residual rows normalised by their root mean square. -/
module

public import proofs.«01_k».proof.Proof.Gen.Kernel20Ideal.Value
public import proofs.«01_k».proof.Proof.Gen.Reference20Ideal.Read
public import proofs.«01_k».proof.Proof.Entries
public import Idealize.ShloMosaic.Lib.Pipeline.ValueKit
public import Idealize.ShloMosaic.Lib.Pipeline.ReadBack

@[expose] public section

set_option maxRecDepth 16384

noncomputable section

namespace Cert.RmsFwd

open Idealize.ShloMosaic Idealize.ShloMosaic.TcCoe Cert.Kernel20Ideal Cert.Kernel20Ideal.Gen Cert.Kernel20Ideal.Facts
open Idealize.ShloMosaic.Pipeline (Dat)

/-- The reference's result as a function of the arrays. -/
abbrev REF (h : FVec Ideal S4096x2048 .f32) (w : FVec Ideal S1x2048 .f32) : FVec Ideal S4096x2048 .bf16 :=
  Cert.Reference20Ideal.Read.val_main_v14 (F := Ideal) h w

/-- An entry of a normalised row. -/
def norm (x w : Fin 2048 → EReal) (l : Fin 2048) : EReal :=
  x l * Ideal.rsqrt (Ideal.div (∑ j, x j * x j) (Ideal.ofBits FTy.f32 1157627904#32) + Ideal.ofBits FTy.f32 897988541#32) * w l

theorem href (h : Vec Ideal S4096x2048 .f32) (w : Vec Ideal S1x2048 .f32) (y : S4096x2048.Idx) :
    REF h w y = norm (fun j => h (ix2 (y 0) j)) (fun j => w (ix2 0 j)) (y 1) := by
  idx_vars y
  unfold REF norm
  rw [← Cert.Reference20Ideal.Read.val_main_v14_eq]
  pointwise

theorem hpay1 (w : Vec Ideal S1x2048 .f32) (x : Vec Ideal S16x2048 .f32) (y : S16x2048.Idx) :
    k0_pay3 (F := Ideal) (k0_pay1 w x) y = norm (fun j => x (ix2 (y 0) j)) (fun j => w (ix2 0 j)) (y 1) := by
  idx_vars y
  unfold norm
  pointwise [k0_pay3, k0_pay1]
theorem hpay2 (w : Vec Ideal S1x2048 .f32) (x : Vec Ideal S16x2048 .f32) (y : S16x2048.Idx) :
    k0_pay4 (F := Ideal) (k0_pay2 w x) y = norm (fun j => x (ix2 (y 0) j)) (fun j => w (ix2 0 j)) (y 1) := by
  idx_vars y
  unfold norm
  pointwise [k0_pay4, k0_pay2]
theorem hpay3 (w : Vec Ideal S1x2048 .f32) (x : Vec Ideal S16x2048 .f32) (y : S16x2048.Idx) :
    k0_pay5 (F := Ideal) w x y = norm (fun j => x (ix2 (y 0) j)) (fun j => w (ix2 0 j)) (y 1) := by
  idx_vars y
  unfold norm
  pointwise [k0_pay5]
theorem hpay4 (w : Vec Ideal S1x2048 .f32) (x : Vec Ideal S16x2048 .f32) (y : S16x2048.Idx) :
    k0_pay6 (F := Ideal) w x y = norm (fun j => x (ix2 (y 0) j)) (fun j => w (ix2 0 j)) (y 1) := by
  idx_vars y
  unfold norm
  pointwise [k0_pay6]

section
variable (c : Dev nD) (i : grid0.Coords) (arg1 : Memref sig .tc .vmem S256x2048 .f32) (harg1 : arg1.IsWhole) (arg2 : Memref sig .tc .vmem S1x2048 .f32) (harg2 : arg2.IsWhole) (arg3 : Memref sig .tc .vmem S256x2048 .bf16) (harg3 : arg3.IsWhole)

/-- The rows of piece `u` of trip `k`. -/
def rows (X : BufTy.Contents (Elt Ideal) arg1.view.ty) (k : Fin k0_t1_loop.trips) (u : Fin 4) : Vec Ideal S16x2048 .f32 :=
  View.readAt (Elt Ideal) arg1.view (Rect.unit (s := S256x2048) (k0_off1 k (BitVec.ofNat 32 u.val)) S16x2048.size (k0_off1_inb k u)).toLoadRect X

/-- The normalised rows of a block. -/
def G (x : Vec Ideal S256x2048 .f32) (w : Vec Ideal S1x2048 .f32) : Vec Ideal S256x2048 .bf16 :=
  fun y => norm (fun j => x (ix2 (y 0) j)) (fun j => w (ix2 0 j)) (y 1)

theorem off_eq : ∀ (k : Fin 4) (u : Fin 4), k0_off1 k (BitVec.ofNat 32 u.val) 1 = 0 := by decide +kernel

/-- What a trip stores. -/
theorem trip (v0 : Vec Ideal S1x2048 .f32) (X) (k) : tripL_k0_t1 (F := Ideal) Variants.none c none i arg1 harg1 arg2 harg2 arg3 harg3 v0 X k =
    [⟨Rect.unit (k0_off1 k (BitVec.ofNat 32 3)) S16x2048.size (k0_off1_inb k 3), k0_pay6 (F := Ideal) v0 (rows arg1 X k 3)⟩,
     ⟨Rect.unit (k0_off1 k (BitVec.ofNat 32 2)) S16x2048.size (k0_off1_inb k 2), k0_pay5 (F := Ideal) v0 (rows arg1 X k 2)⟩,
     ⟨Rect.unit (k0_off1 k (BitVec.ofNat 32 1)) S16x2048.size (k0_off1_inb k 1), k0_pay4 (F := Ideal) (k0_pay2 v0 (rows arg1 X k 1))⟩,
     ⟨Rect.unit (k0_off1 k (BitVec.ofNat 32 0)) S16x2048.size (k0_off1_inb k 0), k0_pay3 (F := Ideal) (k0_pay1 v0 (rows arg1 X k 0))⟩] := by
  delta tripL_k0_t1 trip_k0_t1
  rfl

/-- A piece's normalised rows are the block's. -/
theorem piece (x : Vec Ideal S256x2048 .f32) (w : Vec Ideal S1x2048 .f32) (k : Fin 4) (u : Fin 4) (y : S16x2048.Idx) :
    norm (fun j => rows arg1 (harg1.unread x) k u (ix2 (y 0) j)) (fun j => w (ix2 0 j)) (y 1)
      = G x w ((Rect.unit (s := S256x2048) (k0_off1 k (BitVec.ofNat 32 u.val)) S16x2048.size (k0_off1_inb k u)).idx y) := by
  unfold G rows
  rw [View.readAt_eq_ld, harg1.read_unread]
  have e1 : (Rect.unit (s := S256x2048) (k0_off1 k (BitVec.ofNat 32 u.val)) S16x2048.size (k0_off1_inb k u)).idx y 1 = y 1 := Fin.ext (by
    rw [LoadRect.idx_apply]; show k0_off1 k (BitVec.ofNat 32 u.val) 1 + 1 * (y 1).val = _; rw [off_eq, one_mul, zero_add])
  rw [e1]
  refine congrArg (fun f => norm f _ _) (funext fun j => ?_)
  refine congrArg x (funext fun a => Fin.ext ?_)
  rw [LoadRect.idx_apply]
  fin_cases a
  · show _ = ((Rect.unit (s := S256x2048) (k0_off1 k (BitVec.ofNat 32 u.val)) S16x2048.size (k0_off1_inb k u)).idx y 0).val
    rw [LoadRect.idx_apply]; rfl
  · show k0_off1 k (BitVec.ofNat 32 u.val) 1 + 1 * j.val = j.val
    rw [off_eq, one_mul, zero_add]

/-- What the trips store. -/
theorem loop (x : Vec Ideal S256x2048 .f32) (w : Vec Ideal S1x2048 .f32) (n : ℕ) (hn : n ≤ 4) :
    View.PiecesOf (G x w) (pb_k0_t1 (F := Ideal) Variants.none c none i arg1 harg1 arg2 harg2 arg3 harg3 w (harg1.unread x) n) := by
  induction n with
  | zero => trivial
  | succ n ih =>
    let k : Fin k0_t1_loop.trips := ⟨n, Nat.lt_of_lt_of_le (Nat.lt_succ_self n) hn⟩
    rw [pb_k0_t1_succ (F := Ideal) Variants.none c none i arg1 harg1 arg2 harg2 arg3 harg3 w (harg1.unread x) k, trip]
    exact ⟨fun y => (hpay4 ..).trans (piece arg1 harg1 x w k 3 y), fun y => (hpay3 ..).trans (piece arg1 harg1 x w k 2 y),
      fun y => (hpay2 ..).trans (piece arg1 harg1 x w k 1 y), fun y => (hpay1 ..).trans (piece arg1 harg1 x w k 0 y), ih (by omega)⟩

/-- The weight's row is read whole. -/
theorem row_read (arg : Memref sig .tc .vmem S1x2048 .f32) (harg : arg.IsWhole) (x : Vec Ideal S1x2048 .f32) :
    View.readAt (Elt Ideal) arg.view (Rect.unit (s := S1x2048) ![0, 0] S1x2048.size inb_S1x2048_S1x2048_0_0).toLoadRect (harg.unread x) = x := by
  funext j
  rw [View.readAt_eq_ld, harg.read_unread]
  refine congrArg x (funext fun a => Fin.ext ?_)
  rw [LoadRect.idx_apply]
  show ![0, 0] a + 1 * (j a).val = _
  fin_cases a <;> simp

theorem run0 (x0 : Vec Ideal S256x2048 .f32) (x1 : Vec Ideal S1x2048 .f32) :
    (kernelRun0_A c i arg1 harg1 arg2 harg2 arg3 harg3 x0 x1).1
      = pb_k0_t1 (F := Ideal) Variants.none c none i arg1 harg1 arg2 harg2 arg3 harg3 x1 (harg1.unread x0) 4 := by
  have e : (kernelRun0_A c i arg1 harg1 arg2 harg2 arg3 harg3 x0 x1).1
      = pb_k0_t1 (F := Ideal) Variants.none c none i arg1 harg1 arg2 harg2 arg3 harg3
        (View.readAt (Elt Ideal) arg2.view (Rect.unit (s := S1x2048) ![0, 0] S1x2048.size inb_S1x2048_S1x2048_0_0).toLoadRect (harg2.unread x1)) (harg1.unread x0) 4 := by
    delta kernelRun0_A
    rfl
  rw [e, row_read]

theorem canon_of_piecesOf {S : Shape} {e : EltTy} (G : S.Idx → Elt Ideal e) {L : List (View.Piece (Elt Ideal) S e)}
    (h : View.PiecesOf G L) (hc : ∀ y, ∃ p ∈ L, y ∈ p.1.set) : View.canon L = G := by
  funext y
  have := View.canon_append_of_piecesOf G [] L h y (hc y)
  rwa [List.append_nil] at this

/-- What a grid point leaves in its block. -/
theorem out0 (x0 : Vec Ideal S256x2048 .f32) (x1 : Vec Ideal S1x2048 .f32) :
    out0_A_2 c i arg1 harg1 arg2 harg2 arg3 harg3 x0 x1 = G x0 x1 := by
  unfold out0_A_2
  rw [View.read_writes_junk_eq_canon]
  refine canon_of_piecesOf _ ?_ (cover0_A_2 c i arg1 harg1 arg2 harg2 arg3 harg3 _ _)
  rw [run0]
  exact loop c i arg1 harg1 arg2 harg2 arg3 harg3 x0 x1 4 le_rfl

end

variable (m : (ℓ : Loc nD τ sig) → Buf (Elt Ideal) ℓ)

/-- The blocks of a grid point. -/
theorem idx : ∀ t : Fin cfg0.N, win0_0.index t = ![t.val, 0]
    ∧ win0_1.index t = ![0, 0]
    ∧ win0_2.index t = ![t.val, 0] :=
  (by decide +kernel : ∀ t : Fin grid0.N, _)

/-- The array after the run. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]
  unfold outsAt0
  rw [out0, href]
  unfold G
  have e1 : ((win0_2.blk t).view.emb y 1 : Fin 2048) = y 1 := Fin.ext (by blk_simp [idx t])
  have h1 : ∀ j : Fin 2048, iblk m c 1 t (ix2 0 j) = m ((c : Thread nD τ).loc main_arg1) (ix2 0 j) := fun j => by
    blk_simp [iblk]
    refine congrArg (m ((c : Thread nD τ).loc main_arg1)) (funext fun a => Fin.ext ?_)
    fin_cases a
    · blk_simp [idx t]
    · blk_simp [idx t]
  have h0 : ∀ j : Fin 2048, iblk m c 0 t (ix2 (y 0) j) = m ((c : Thread nD τ).loc main_arg0) (ix2 ((win0_2.blk t).view.emb y 0) j) := fun j => by
    blk_simp [iblk]
    refine congrArg (m ((c : Thread nD τ).loc main_arg0)) (funext fun a => Fin.ext ?_)
    fin_cases a
    · blk_simp [idx t]
      show t.val * 256 + (y 0).val = ((win0_2.blk t).view.emb y 0).val
      blk_simp [idx t]
    · blk_simp [idx t]
      rfl
  show norm (fun j => iblk m c 0 t (ix2 (y 0) j)) (fun j => iblk m c 1 t (ix2 0 j)) (y 1) = norm _ _ ((win0_2.blk t).view.emb y 1)
  rw [e1, funext h0, funext h1]

end Cert.RmsFwd

end

end
-- ==== Proof.OnormFwd.lean ====
/- The recurrence's outputs normalised row by row and gated. -/
module

public import proofs.«01_k».proof.Proof.Gen.Kernel21Ideal.Value
public import proofs.«01_k».proof.Proof.Gen.Reference21Ideal.Read
public import proofs.«01_k».proof.Proof.Entries
public import Idealize.ShloMosaic.Lib.Pipeline.ValueKit
public import Idealize.ShloMosaic.Lib.Pipeline.ReadBack

@[expose] public section

set_option maxRecDepth 16384

noncomputable section

namespace Cert.OnormFwd

open Idealize.ShloMosaic Idealize.ShloMosaic.TcCoe Cert.Kernel21Ideal Cert.Kernel21Ideal.Gen Cert.Kernel21Ideal.Facts
open Idealize.ShloMosaic.Pipeline (Dat)

/-- The reference's result as a function of the arrays. -/
abbrev REF (o : FVec Ideal S4096x2048 .f32) (p : FVec Ideal S4096x8192 .f32) (w : FVec Ideal S1x2048 .f32) : FVec Ideal S4096x2048 .bf16 :=
  Cert.Reference21Ideal.Read.val_main_v17 (F := Ideal) o p w

/-- An entry of a normalised and gated row. -/
def norm (x g w : Fin 2048 → EReal) (l : Fin 2048) : EReal :=
  x l * Ideal.rsqrt (Ideal.div (∑ j, x j * x j) (Ideal.ofBits FTy.f32 1157627904#32) + Ideal.ofBits FTy.f32 897988541#32) * w l
    * (g l * Ideal.div 1 (1 + Ideal.exp (-g l)))

theorem href (o : Vec Ideal S4096x2048 .f32) (p : Vec Ideal S4096x8192 .f32) (w : Vec Ideal S1x2048 .f32) (y : S4096x2048.Idx) :
    REF o p w y = norm (fun j => o (ix2 (y 0) j)) (fun j => p (ix2 (y 0) ⟨6144 + j.val, by omega⟩)) (fun j => w (ix2 0 j)) (y 1) := by
  idx_vars y
  unfold REF norm
  rw [← Cert.Reference21Ideal.Read.val_main_v17_eq]
  pointwise

theorem hpay1 (w : Vec Ideal S1x2048 .f32) (x g : Vec Ideal S16x2048 .f32) (y : S16x2048.Idx) :
    k0_pay7 (F := Ideal) (k0_pay1 w x g) y = norm (fun j => x (ix2 (y 0) j)) (fun j => g (ix2 (y 0) j)) (fun j => w (ix2 0 j)) (y 1) := by
  idx_vars y
  unfold norm
  pointwise [k0_pay7, k0_pay1]
  try rw [zero_sub]
theorem hpay2 (w : Vec Ideal S1x2048 .f32) (x g : Vec Ideal S16x2048 .f32) (y : S16x2048.Idx) :
    k0_pay8 (F := Ideal) (k0_pay4 w x g (k0_pay2 x) k0_pay3) y = norm (fun j => x (ix2 (y 0) j)) (fun j => g (ix2 (y 0) j)) (fun j => w (ix2 0 j)) (y 1) := by
  idx_vars y
  unfold norm
  pointwise [k0_pay8, k0_pay4, k0_pay2, k0_pay3]
  try rw [zero_sub]
theorem hpay3 (w : Vec Ideal S1x2048 .f32) (x g : Vec Ideal S16x2048 .f32) (y : S16x2048.Idx) :
    k0_pay9 (F := Ideal) (k0_pay5 w x) (k0_pay6 g) y = norm (fun j => x (ix2 (y 0) j)) (fun j => g (ix2 (y 0) j)) (fun j => w (ix2 0 j)) (y 1) := by
  idx_vars y
  unfold norm
  pointwise [k0_pay9, k0_pay5, k0_pay6]
  try rw [zero_sub]
theorem hpay4 (w : Vec Ideal S1x2048 .f32) (x g : Vec Ideal S16x2048 .f32) (y : S16x2048.Idx) :
    k0_pay10 (F := Ideal) w x g y = norm (fun j => x (ix2 (y 0) j)) (fun j => g (ix2 (y 0) j)) (fun j => w (ix2 0 j)) (y 1) := by
  idx_vars y
  unfold norm
  pointwise [k0_pay10]
  try rw [zero_sub]

section
variable (c : Dev nD) (i : grid0.Coords) (arg1 : Memref sig .tc .vmem S256x2048 .f32) (harg1 : arg1.IsWhole) (arg2 : Memref sig .tc .vmem S256x2048 .f32) (harg2 : arg2.IsWhole) (arg3 : Memref sig .tc .vmem S1x2048 .f32) (harg3 : arg3.IsWhole) (arg4 : Memref sig .tc .vmem S256x2048 .bf16) (harg4 : arg4.IsWhole)

/-- The rows of piece `u` of trip `k`. -/
def rows (X : BufTy.Contents (Elt Ideal) arg1.view.ty) (k : Fin k0_t1_loop.trips) (u : Fin 4) : Vec Ideal S16x2048 .f32 :=
  View.readAt (Elt Ideal) arg1.view (Rect.unit (s := S256x2048) (k0_off1 k (BitVec.ofNat 32 u.val)) S16x2048.size (k0_off1_inb k u)).toLoadRect X

/-- The normalised rows of a block. -/
def G (x g : Vec Ideal S256x2048 .f32) (w : Vec Ideal S1x2048 .f32) : Vec Ideal S256x2048 .bf16 :=
  fun y => norm (fun j => x (ix2 (y 0) j)) (fun j => g (ix2 (y 0) j)) (fun j => w (ix2 0 j)) (y 1)

theorem off_eq : ∀ (k : Fin 4) (u : Fin 4), k0_off1 k (BitVec.ofNat 32 u.val) 1 = 0 := by decide +kernel

/-- What a trip stores. -/
theorem trip (v0 : Vec Ideal S1x2048 .f32) (X Y) (k) : tripL_k0_t1 (F := Ideal) Variants.none c none i arg1 harg1 arg2 harg2 arg3 harg3 arg4 harg4 v0 X Y k =
    [⟨Rect.unit (k0_off1 k (BitVec.ofNat 32 3)) S16x2048.size (k0_off1_inb k 3), k0_pay10 v0 (rows arg1 X k 3) (rows arg2 Y k 3)⟩,
     ⟨Rect.unit (k0_off1 k (BitVec.ofNat 32 2)) S16x2048.size (k0_off1_inb k 2), k0_pay9 (k0_pay5 v0 (rows arg1 X k 2)) (k0_pay6 (rows arg2 Y k 2))⟩,
     ⟨Rect.unit (k0_off1 k (BitVec.ofNat 32 1)) S16x2048.size (k0_off1_inb k 1), k0_pay8 (k0_pay4 v0 (rows arg1 X k 1) (rows arg2 Y k 1) (k0_pay2 (rows arg1 X k 1)) k0_pay3)⟩,
     ⟨Rect.unit (k0_off1 k (BitVec.ofNat 32 0)) S16x2048.size (k0_off1_inb k 0), k0_pay7 (k0_pay1 v0 (rows arg1 X k 0) (rows arg2 Y k 0))⟩] := by
  delta tripL_k0_t1 trip_k0_t1
  rfl

/-- A piece's rows are the block's. -/
theorem rows_at (arg : Memref sig .tc .vmem S256x2048 .f32) (harg : arg.IsWhole) (x : Vec Ideal S256x2048 .f32) (k : Fin 4) (u : Fin 4) (y : S16x2048.Idx) (j : Fin 2048) :
    rows arg (harg.unread x) k u (ix2 (y 0) j)
      = x (ix2 ((Rect.unit (s := S256x2048) (k0_off1 k (BitVec.ofNat 32 u.val)) S16x2048.size (k0_off1_inb k u)).idx y 0) j) := by
  unfold rows
  rw [View.readAt_eq_ld, harg.read_unread]
  refine congrArg x (funext fun a => Fin.ext ?_)
  rw [LoadRect.idx_apply]
  fin_cases a
  · show _ = ((Rect.unit (s := S256x2048) (k0_off1 k (BitVec.ofNat 32 u.val)) S16x2048.size (k0_off1_inb k u)).idx y 0).val
    rw [LoadRect.idx_apply]; rfl
  · show k0_off1 k (BitVec.ofNat 32 u.val) 1 + 1 * j.val = j.val
    rw [off_eq, one_mul, zero_add]

/-- A piece's normalised rows are the block's. -/
theorem piece (x g : Vec Ideal S256x2048 .f32) (w : Vec Ideal S1x2048 .f32) (k : Fin 4) (u : Fin 4) (y : S16x2048.Idx) :
    norm (fun j => rows arg1 (harg1.unread x) k u (ix2 (y 0) j)) (fun j => rows arg2 (harg2.unread g) k u (ix2 (y 0) j)) (fun j => w (ix2 0 j)) (y 1)
      = G x g w ((Rect.unit (s := S256x2048) (k0_off1 k (BitVec.ofNat 32 u.val)) S16x2048.size (k0_off1_inb k u)).idx y) := by
  unfold G
  have e1 : (Rect.unit (s := S256x2048) (k0_off1 k (BitVec.ofNat 32 u.val)) S16x2048.size (k0_off1_inb k u)).idx y 1 = y 1 := Fin.ext (by
    rw [LoadRect.idx_apply]; show k0_off1 k (BitVec.ofNat 32 u.val) 1 + 1 * (y 1).val = _; rw [off_eq, one_mul, zero_add])
  rw [e1, funext fun j => rows_at arg1 harg1 x k u y j, funext fun j => rows_at arg2 harg2 g k u y j]

/-- What the trips store. -/
theorem loop (x g : Vec Ideal S256x2048 .f32) (w : Vec Ideal S1x2048 .f32) (n : ℕ) (hn : n ≤ 4) :
    View.PiecesOf (G x g w) (pb_k0_t1 (F := Ideal) Variants.none c none i arg1 harg1 arg2 harg2 arg3 harg3 arg4 harg4 w (harg1.unread x) (harg2.unread g) n) := by
  induction n with
  | zero => trivial
  | succ n ih =>
    let k : Fin k0_t1_loop.trips := ⟨n, Nat.lt_of_lt_of_le (Nat.lt_succ_self n) hn⟩
    rw [pb_k0_t1_succ (F := Ideal) Variants.none c none i arg1 harg1 arg2 harg2 arg3 harg3 arg4 harg4 w (harg1.unread x) (harg2.unread g) k, trip]
    exact ⟨fun y => (hpay4 ..).trans (piece arg1 harg1 arg2 harg2 x g w k 3 y), fun y => (hpay3 ..).trans (piece arg1 harg1 arg2 harg2 x g w k 2 y),
      fun y => (hpay2 ..).trans (piece arg1 harg1 arg2 harg2 x g w k 1 y), fun y => (hpay1 ..).trans (piece arg1 harg1 arg2 harg2 x g w k 0 y), ih (by omega)⟩

/-- The weight's row is read whole. -/
theorem row_read (arg : Memref sig .tc .vmem S1x2048 .f32) (harg : arg.IsWhole) (x : Vec Ideal S1x2048 .f32) :
    View.readAt (Elt Ideal) arg.view (Rect.unit (s := S1x2048) ![0, 0] S1x2048.size inb_S1x2048_S1x2048_0_0).toLoadRect (harg.unread x) = x := by
  funext j
  rw [View.readAt_eq_ld, harg.read_unread]
  refine congrArg x (funext fun a => Fin.ext ?_)
  rw [LoadRect.idx_apply]
  show ![0, 0] a + 1 * (j a).val = _
  fin_cases a <;> simp

theorem run0 (x0 x1 : Vec Ideal S256x2048 .f32) (x2 : Vec Ideal S1x2048 .f32) :
    (kernelRun0_A c i arg1 harg1 arg2 harg2 arg3 harg3 arg4 harg4 x0 x1 x2).1
      = pb_k0_t1 (F := Ideal) Variants.none c none i arg1 harg1 arg2 harg2 arg3 harg3 arg4 harg4 x2 (harg1.unread x0) (harg2.unread x1) 4 := by
  have e : (kernelRun0_A c i arg1 harg1 arg2 harg2 arg3 harg3 arg4 harg4 x0 x1 x2).1
      = pb_k0_t1 (F := Ideal) Variants.none c none i arg1 harg1 arg2 harg2 arg3 harg3 arg4 harg4
        (View.readAt (Elt Ideal) arg3.view (Rect.unit (s := S1x2048) ![0, 0] S1x2048.size inb_S1x2048_S1x2048_0_0).toLoadRect (harg3.unread x2)) (harg1.unread x0) (harg2.unread x1) 4 := by
    delta kernelRun0_A
    rfl
  rw [e, row_read]

theorem canon_of_piecesOf {S : Shape} {e : EltTy} (G : S.Idx → Elt Ideal e) {L : List (View.Piece (Elt Ideal) S e)}
    (h : View.PiecesOf G L) (hc : ∀ y, ∃ p ∈ L, y ∈ p.1.set) : View.canon L = G := by
  funext y
  have := View.canon_append_of_piecesOf G [] L h y (hc y)
  rwa [List.append_nil] at this

/-- What a grid point leaves in its block. -/
theorem out0 (x0 x1 : Vec Ideal S256x2048 .f32) (x2 : Vec Ideal S1x2048 .f32) :
    out0_A_3 c i arg1 harg1 arg2 harg2 arg3 harg3 arg4 harg4 x0 x1 x2 = G x0 x1 x2 := by
  unfold out0_A_3
  rw [View.read_writes_junk_eq_canon]
  refine canon_of_piecesOf _ ?_ (cover0_A_3 c i arg1 harg1 arg2 harg2 arg3 harg3 arg4 harg4 _ _ _)
  rw [run0]
  exact loop c i arg1 harg1 arg2 harg2 arg3 harg3 arg4 harg4 x0 x1 x2 4 le_rfl

end

variable (m : (ℓ : Loc nD τ sig) → Buf (Elt Ideal) ℓ)

/-- The blocks of a grid point. -/
theorem idx : ∀ t : Fin cfg0.N, win0_0.index t = ![t.val, 0]
    ∧ win0_1.index t = ![t.val, 3]
    ∧ win0_2.index t = ![0, 0]
    ∧ win0_3.index t = ![t.val, 0] :=
  (by decide +kernel : ∀ t : Fin grid0.N, _)

/-- The array after the run. -/
theorem final (c : Dev nD) : (dats m 0 c).arrAt 3 (cfgs 0).N
    = REF (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  unfold outsAt0
  rw [out0, href]
  unfold G
  have e1 : ((win0_3.blk t).view.emb y 1 : Fin 2048) = y 1 := Fin.ext (by blk_simp [idx t])
  have h2 : ∀ j : Fin 2048, iblk m c 2 t (ix2 0 j) = m ((c : Thread nD τ).loc main_arg2) (ix2 0 j) := fun j => by
    blk_simp [iblk]
    refine congrArg (m ((c : Thread nD τ).loc main_arg2)) (funext fun a => Fin.ext ?_)
    fin_cases a
    · blk_simp [idx t]
    · blk_simp [idx t]
  have h0 : ∀ j : Fin 2048, iblk m c 0 t (ix2 (y 0) j) = m ((c : Thread nD τ).loc main_arg0) (ix2 ((win0_3.blk t).view.emb y 0) j) := fun j => by
    blk_simp [iblk]
    refine congrArg (m ((c : Thread nD τ).loc main_arg0)) (funext fun a => Fin.ext ?_)
    fin_cases a
    · blk_simp [idx t]
      show t.val * 256 + (y 0).val = ((win0_3.blk t).view.emb y 0).val
      blk_simp [idx t]
    · blk_simp [idx t]
      rfl
  have h1 : ∀ j : Fin 2048, iblk m c 1 t (ix2 (y 0) j) = m ((c : Thread nD τ).loc main_arg1) (ix2 ((win0_3.blk t).view.emb y 0) ⟨6144 + j.val, by omega⟩) := fun j => by
    blk_simp [iblk]
    refine congrArg (m ((c : Thread nD τ).loc main_arg1)) (funext fun a => Fin.ext ?_)
    fin_cases a
    · blk_simp [idx t]
      show t.val * 256 + (y 0).val = ((win0_3.blk t).view.emb y 0).val
      blk_simp [idx t]
    · blk_simp [idx t]
      rfl
  show norm (fun j => iblk m c 0 t (ix2 (y 0) j)) (fun j => iblk m c 1 t (ix2 (y 0) j)) (fun j => iblk m c 2 t (ix2 0 j)) (y 1) = norm _ _ _ ((win0_3.blk t).view.emb y 1)
  rw [e1, funext h0, funext h1, funext h2]

end Cert.OnormFwd

end

end
-- ==== Proof.Products.lean ====
/- The kernel's matrix products are the reference's: each pair of programs ends with equal results. -/
module

public import proofs.«01_k».proof.Defs
public import proofs.«01_k».proof.Proof.UpDw
public import proofs.«01_k».proof.Proof.UpDx
public import proofs.«01_k».proof.Proof.DownDw
public import proofs.«01_k».proof.Proof.DownDx
public import proofs.«01_k».proof.Proof.HgrnInDw
public import proofs.«01_k».proof.Proof.HgrnInDx
public import proofs.«01_k».proof.Proof.ScInDw
public import proofs.«01_k».proof.Proof.ScInDx
public import proofs.«01_k».proof.Proof.OutDw
public import proofs.«01_k».proof.Proof.OutDx
public import proofs.«01_k».proof.Proof.UpFwd
public import proofs.«01_k».proof.Proof.DownFwd
public import proofs.«01_k».proof.Proof.ScInFwd
public import proofs.«01_k».proof.Proof.OutFwd
public import proofs.«01_k».proof.Proof.RmsFwd
public import proofs.«01_k».proof.Proof.OnormFwd

@[expose] public section

set_option maxRecDepth 16384

noncomputable section

namespace Cert.Proof

open Idealize.ShloMosaic Idealize.SL.Sem

theorem algebraic_2 : Cert.algebraic_Kernel2Ideal_Reference2Ideal := fun m g m' g' _ same => by
  refine ⟨fun c => Cert.UpDw.REF (m ((c.tc : Thread Kernel2Ideal.nD Kernel2Ideal.τ).loc Kernel2Ideal.main_arg0)) (m ((c.tc : Thread Kernel2Ideal.nD Kernel2Ideal.τ).loc Kernel2Ideal.main_arg1)),
    (θ_run Kernel2Ideal.defs _ _).mono (fun r h c => ⟨(h c).1.trans (Cert.UpDw.final m c), (h c).2⟩) (Kernel2Ideal.Value.run_blocks (F := Ideal) m g),
    (θ_run Reference2Ideal.defs _ _).mono (fun r h c => ⟨(h c).1.trans ?_, (h c).2⟩) (Reference2Ideal.Value.run (F := Ideal) m' g')⟩
  rw [(same c).1, (same c).2]

/-- The reference leaves its arguments as they were; it declares no semaphore. -/
theorem frame_reference_2 : Cert.quiescent_Reference2Ideal := fun m ρ _ =>
  (θ_run Reference2Ideal.defs _ _).mono (fun r h => ⟨fun c => (h c).2, Idealize.ShloMosaic.sem_eq_zero_of_no_sems (by decide) r.2⟩)
    (Reference2Ideal.Value.run (F := Ideal) m ρ)

theorem algebraic_3 : Cert.algebraic_Kernel3Ideal_Reference3Ideal := fun m g m' g' _ same => by
  refine ⟨fun c => Cert.UpDx.REF (m ((c.tc : Thread Kernel3Ideal.nD Kernel3Ideal.τ).loc Kernel3Ideal.main_arg0)) (m ((c.tc : Thread Kernel3Ideal.nD Kernel3Ideal.τ).loc Kernel3Ideal.main_arg1)),
    (θ_run Kernel3Ideal.defs _ _).mono (fun r h c => ⟨(h c).1.trans (Cert.UpDx.final m c), (h c).2⟩) (Kernel3Ideal.Value.run_blocks (F := Ideal) m g),
    (θ_run Reference3Ideal.defs _ _).mono (fun r h c => ⟨(h c).1.trans ?_, (h c).2⟩) (Reference3Ideal.Value.run (F := Ideal) m' g')⟩
  rw [(same c).1, (same c).2]

/-- The reference leaves its arguments as they were; it declares no semaphore. -/
theorem frame_reference_3 : Cert.quiescent_Reference3Ideal := fun m ρ _ =>
  (θ_run Reference3Ideal.defs _ _).mono (fun r h => ⟨fun c => (h c).2, Idealize.ShloMosaic.sem_eq_zero_of_no_sems (by decide) r.2⟩)
    (Reference3Ideal.Value.run (F := Ideal) m ρ)

theorem algebraic_4 : Cert.algebraic_Kernel4Ideal_Reference4Ideal := fun m g m' g' _ same => by
  refine ⟨fun c => Cert.DownDw.REF (m ((c.tc : Thread Kernel4Ideal.nD Kernel4Ideal.τ).loc Kernel4Ideal.main_arg0)) (m ((c.tc : Thread Kernel4Ideal.nD Kernel4Ideal.τ).loc Kernel4Ideal.main_arg1)),
    (θ_run Kernel4Ideal.defs _ _).mono (fun r h c => ⟨(h c).1.trans (Cert.DownDw.final m c), (h c).2⟩) (Kernel4Ideal.Value.run_blocks (F := Ideal) m g),
    (θ_run Reference4Ideal.defs _ _).mono (fun r h c => ⟨(h c).1.trans ?_, (h c).2⟩) (Reference4Ideal.Value.run (F := Ideal) m' g')⟩
  rw [(same c).1, (same c).2]

/-- The reference leaves its arguments as they were; it declares no semaphore. -/
theorem frame_reference_4 : Cert.quiescent_Reference4Ideal := fun m ρ _ =>
  (θ_run Reference4Ideal.defs _ _).mono (fun r h => ⟨fun c => (h c).2, Idealize.ShloMosaic.sem_eq_zero_of_no_sems (by decide) r.2⟩)
    (Reference4Ideal.Value.run (F := Ideal) m ρ)

theorem algebraic_5 : Cert.algebraic_Kernel5Ideal_Reference5Ideal := fun m g m' g' _ same => by
  refine ⟨fun c => Cert.DownDx.REF (m ((c.tc : Thread Kernel5Ideal.nD Kernel5Ideal.τ).loc Kernel5Ideal.main_arg0)) (m ((c.tc : Thread Kernel5Ideal.nD Kernel5Ideal.τ).loc Kernel5Ideal.main_arg1)),
    (θ_run Kernel5Ideal.defs _ _).mono (fun r h c => ⟨(h c).1.trans (Cert.DownDx.final m c), (h c).2⟩) (Kernel5Ideal.Value.run_blocks (F := Ideal) m g),
    (θ_run Reference5Ideal.defs _ _).mono (fun r h c => ⟨(h c).1.trans ?_, (h c).2⟩) (Reference5Ideal.Value.run (F := Ideal) m' g')⟩
  rw [(same c).1, (same c).2]

/-- The reference leaves its arguments as they were; it declares no semaphore. -/
theorem frame_reference_5 : Cert.quiescent_Reference5Ideal := fun m ρ _ =>
  (θ_run Reference5Ideal.defs _ _).mono (fun r h => ⟨fun c => (h c).2, Idealize.ShloMosaic.sem_eq_zero_of_no_sems (by decide) r.2⟩)
    (Reference5Ideal.Value.run (F := Ideal) m ρ)

theorem algebraic_6 : Cert.algebraic_Kernel6Ideal_Reference6Ideal := fun m g m' g' _ same => by
  refine ⟨fun c => Cert.HgrnInDw.REF (m ((c.tc : Thread Kernel6Ideal.nD Kernel6Ideal.τ).loc Kernel6Ideal.main_arg0)) (m ((c.tc : Thread Kernel6Ideal.nD Kernel6Ideal.τ).loc Kernel6Ideal.main_arg1)),
    (θ_run Kernel6Ideal.defs _ _).mono (fun r h c => ⟨(h c).1.trans (Cert.HgrnInDw.final m c), (h c).2⟩) (Kernel6Ideal.Value.run_blocks (F := Ideal) m g),
    (θ_run Reference6Ideal.defs _ _).mono (fun r h c => ⟨(h c).1.trans ?_, (h c).2⟩) (Reference6Ideal.Value.run (F := Ideal) m' g')⟩
  rw [(same c).1, (same c).2]

/-- The reference leaves its arguments as they were; it declares no semaphore. -/
theorem frame_reference_6 : Cert.quiescent_Reference6Ideal := fun m ρ _ =>
  (θ_run Reference6Ideal.defs _ _).mono (fun r h => ⟨fun c => (h c).2, Idealize.ShloMosaic.sem_eq_zero_of_no_sems (by decide) r.2⟩)
    (Reference6Ideal.Value.run (F := Ideal) m ρ)

theorem algebraic_7 : Cert.algebraic_Kernel7Ideal_Reference7Ideal := fun m g m' g' _ same => by
  refine ⟨fun c => Cert.HgrnInDx.REF (m ((c.tc : Thread Kernel7Ideal.nD Kernel7Ideal.τ).loc Kernel7Ideal.main_arg0)) (m ((c.tc : Thread Kernel7Ideal.nD Kernel7Ideal.τ).loc Kernel7Ideal.main_arg1)),
    (θ_run Kernel7Ideal.defs _ _).mono (fun r h c => ⟨(h c).1.trans (Cert.HgrnInDx.final m c), (h c).2⟩) (Kernel7Ideal.Value.run_blocks (F := Ideal) m g),
    (θ_run Reference7Ideal.defs _ _).mono (fun r h c => ⟨(h c).1.trans ?_, (h c).2⟩) (Reference7Ideal.Value.run (F := Ideal) m' g')⟩
  rw [(same c).1, (same c).2]

/-- The reference leaves its arguments as they were; it declares no semaphore. -/
theorem frame_reference_7 : Cert.quiescent_Reference7Ideal := fun m ρ _ =>
  (θ_run Reference7Ideal.defs _ _).mono (fun r h => ⟨fun c => (h c).2, Idealize.ShloMosaic.sem_eq_zero_of_no_sems (by decide) r.2⟩)
    (Reference7Ideal.Value.run (F := Ideal) m ρ)

theorem algebraic_8 : Cert.algebraic_Kernel8Ideal_Reference8Ideal := fun m g m' g' _ same => by
  refine ⟨fun c => Cert.ScInDw.REF (m ((c.tc : Thread Kernel8Ideal.nD Kernel8Ideal.τ).loc Kernel8Ideal.main_arg0)) (m ((c.tc : Thread Kernel8Ideal.nD Kernel8Ideal.τ).loc Kernel8Ideal.main_arg1)),
    (θ_run Kernel8Ideal.defs _ _).mono (fun r h c => ⟨(h c).1.trans (Cert.ScInDw.final m c), (h c).2⟩) (Kernel8Ideal.Value.run_blocks (F := Ideal) m g),
    (θ_run Reference8Ideal.defs _ _).mono (fun r h c => ⟨(h c).1.trans ?_, (h c).2⟩) (Reference8Ideal.Value.run (F := Ideal) m' g')⟩
  rw [(same c).1, (same c).2]

/-- The reference leaves its arguments as they were; it declares no semaphore. -/
theorem frame_reference_8 : Cert.quiescent_Reference8Ideal := fun m ρ _ =>
  (θ_run Reference8Ideal.defs _ _).mono (fun r h => ⟨fun c => (h c).2, Idealize.ShloMosaic.sem_eq_zero_of_no_sems (by decide) r.2⟩)
    (Reference8Ideal.Value.run (F := Ideal) m ρ)

theorem algebraic_9 : Cert.algebraic_Kernel9Ideal_Reference9Ideal := fun m g m' g' _ same => by
  refine ⟨fun c => Cert.ScInDx.REF (m ((c.tc : Thread Kernel9Ideal.nD Kernel9Ideal.τ).loc Kernel9Ideal.main_arg0)) (m ((c.tc : Thread Kernel9Ideal.nD Kernel9Ideal.τ).loc Kernel9Ideal.main_arg1)),
    (θ_run Kernel9Ideal.defs _ _).mono (fun r h c => ⟨(h c).1.trans (Cert.ScInDx.final m c), (h c).2⟩) (Kernel9Ideal.Value.run_blocks (F := Ideal) m g),
    (θ_run Reference9Ideal.defs _ _).mono (fun r h c => ⟨(h c).1.trans ?_, (h c).2⟩) (Reference9Ideal.Value.run (F := Ideal) m' g')⟩
  rw [(same c).1, (same c).2]

/-- The reference leaves its arguments as they were; it declares no semaphore. -/
theorem frame_reference_9 : Cert.quiescent_Reference9Ideal := fun m ρ _ =>
  (θ_run Reference9Ideal.defs _ _).mono (fun r h => ⟨fun c => (h c).2, Idealize.ShloMosaic.sem_eq_zero_of_no_sems (by decide) r.2⟩)
    (Reference9Ideal.Value.run (F := Ideal) m ρ)

theorem algebraic_10 : Cert.algebraic_Kernel10Ideal_Reference10Ideal := fun m g m' g' _ same => by
  refine ⟨fun c => Cert.OutDw.REF (m ((c.tc : Thread Kernel10Ideal.nD Kernel10Ideal.τ).loc Kernel10Ideal.main_arg0)) (m ((c.tc : Thread Kernel10Ideal.nD Kernel10Ideal.τ).loc Kernel10Ideal.main_arg1)),
    (θ_run Kernel10Ideal.defs _ _).mono (fun r h c => ⟨(h c).1.trans (Cert.OutDw.final m c), (h c).2⟩) (Kernel10Ideal.Value.run_blocks (F := Ideal) m g),
    (θ_run Reference10Ideal.defs _ _).mono (fun r h c => ⟨(h c).1.trans ?_, (h c).2⟩) (Reference10Ideal.Value.run (F := Ideal) m' g')⟩
  rw [(same c).1, (same c).2]

/-- The reference leaves its arguments as they were; it declares no semaphore. -/
theorem frame_reference_10 : Cert.quiescent_Reference10Ideal := fun m ρ _ =>
  (θ_run Reference10Ideal.defs _ _).mono (fun r h => ⟨fun c => (h c).2, Idealize.ShloMosaic.sem_eq_zero_of_no_sems (by decide) r.2⟩)
    (Reference10Ideal.Value.run (F := Ideal) m ρ)

theorem algebraic_11 : Cert.algebraic_Kernel11Ideal_Reference11Ideal := fun m g m' g' _ same => by
  refine ⟨fun c => Cert.OutDx.REF (m ((c.tc : Thread Kernel11Ideal.nD Kernel11Ideal.τ).loc Kernel11Ideal.main_arg0)) (m ((c.tc : Thread Kernel11Ideal.nD Kernel11Ideal.τ).loc Kernel11Ideal.main_arg1)),
    (θ_run Kernel11Ideal.defs _ _).mono (fun r h c => ⟨(h c).1.trans (Cert.OutDx.final m c), (h c).2⟩) (Kernel11Ideal.Value.run_blocks (F := Ideal) m g),
    (θ_run Reference11Ideal.defs _ _).mono (fun r h c => ⟨(h c).1.trans ?_, (h c).2⟩) (Reference11Ideal.Value.run (F := Ideal) m' g')⟩
  rw [(same c).1, (same c).2]

/-- The reference leaves its arguments as they were; it declares no semaphore. -/
theorem frame_reference_11 : Cert.quiescent_Reference11Ideal := fun m ρ _ =>
  (θ_run Reference11Ideal.defs _ _).mono (fun r h => ⟨fun c => (h c).2, Idealize.ShloMosaic.sem_eq_zero_of_no_sems (by decide) r.2⟩)
    (Reference11Ideal.Value.run (F := Ideal) m ρ)

theorem algebraic_12 : Cert.algebraic_Kernel12Ideal_Reference12Ideal := fun m g m' g' _ same => by
  refine ⟨fun c => Cert.UpFwd.REF (m ((c.tc : Thread Kernel12Ideal.nD Kernel12Ideal.τ).loc Kernel12Ideal.main_arg0)) (m ((c.tc : Thread Kernel12Ideal.nD Kernel12Ideal.τ).loc Kernel12Ideal.main_arg1)),
    (θ_run Kernel12Ideal.defs _ _).mono (fun r h c => ⟨(h c).1.trans (Cert.UpFwd.final m c), (h c).2⟩) (Kernel12Ideal.Value.run_blocks (F := Ideal) m g),
    (θ_run Reference12Ideal.defs _ _).mono (fun r h c => ⟨(h c).1.trans ?_, (h c).2⟩) (Reference12Ideal.Value.run (F := Ideal) m' g')⟩
  rw [(same c).1, (same c).2]

/-- The reference leaves its arguments as they were; it declares no semaphore. -/
theorem frame_reference_12 : Cert.quiescent_Reference12Ideal := fun m ρ _ =>
  (θ_run Reference12Ideal.defs _ _).mono (fun r h => ⟨fun c => (h c).2, Idealize.ShloMosaic.sem_eq_zero_of_no_sems (by decide) r.2⟩)
    (Reference12Ideal.Value.run (F := Ideal) m ρ)

theorem algebraic_13 : Cert.algebraic_Kernel13Ideal_Reference13Ideal := fun m g m' g' _ same => by
  refine ⟨fun c => Cert.DownFwd.REF (m ((c.tc : Thread Kernel13Ideal.nD Kernel13Ideal.τ).loc Kernel13Ideal.main_arg0)) (m ((c.tc : Thread Kernel13Ideal.nD Kernel13Ideal.τ).loc Kernel13Ideal.main_arg1)) (m ((c.tc : Thread Kernel13Ideal.nD Kernel13Ideal.τ).loc Kernel13Ideal.main_arg2)),
    (θ_run Kernel13Ideal.defs _ _).mono (fun r h c => ⟨(h c).1.trans (Cert.DownFwd.final m c), (h c).2⟩) (Kernel13Ideal.Value.run_blocks (F := Ideal) m g),
    (θ_run Reference13Ideal.defs _ _).mono (fun r h c => ⟨(h c).1.trans ?_, (h c).2⟩) (Reference13Ideal.Value.run (F := Ideal) m' g')⟩
  rw [(same c).1, (same c).2.1, (same c).2.2]

/-- The reference leaves its arguments as they were; it declares no semaphore. -/
theorem frame_reference_13 : Cert.quiescent_Reference13Ideal := fun m ρ _ =>
  (θ_run Reference13Ideal.defs _ _).mono (fun r h => ⟨fun c => (h c).2, Idealize.ShloMosaic.sem_eq_zero_of_no_sems (by decide) r.2⟩)
    (Reference13Ideal.Value.run (F := Ideal) m ρ)

theorem algebraic_14 : Cert.algebraic_Kernel14Ideal_Reference14Ideal := fun m g m' g' _ same => by
  refine ⟨fun c => Cert.ScInFwd.REF (m ((c.tc : Thread Kernel14Ideal.nD Kernel14Ideal.τ).loc Kernel14Ideal.main_arg0)) (m ((c.tc : Thread Kernel14Ideal.nD Kernel14Ideal.τ).loc Kernel14Ideal.main_arg1)),
    (θ_run Kernel14Ideal.defs _ _).mono (fun r h c => ⟨(h c).1.trans (Cert.ScInFwd.final m c), (h c).2⟩) (Kernel14Ideal.Value.run_blocks (F := Ideal) m g),
    (θ_run Reference14Ideal.defs _ _).mono (fun r h c => ⟨(h c).1.trans ?_, (h c).2⟩) (Reference14Ideal.Value.run (F := Ideal) m' g')⟩
  rw [(same c).1, (same c).2]

/-- The reference leaves its arguments as they were; it declares no semaphore. -/
theorem frame_reference_14 : Cert.quiescent_Reference14Ideal := fun m ρ _ =>
  (θ_run Reference14Ideal.defs _ _).mono (fun r h => ⟨fun c => (h c).2, Idealize.ShloMosaic.sem_eq_zero_of_no_sems (by decide) r.2⟩)
    (Reference14Ideal.Value.run (F := Ideal) m ρ)

theorem algebraic_15 : Cert.algebraic_Kernel15Ideal_Reference15Ideal := fun m g m' g' _ same => by
  refine ⟨fun c => Cert.OutFwd.REF (m ((c.tc : Thread Kernel15Ideal.nD Kernel15Ideal.τ).loc Kernel15Ideal.main_arg0)) (m ((c.tc : Thread Kernel15Ideal.nD Kernel15Ideal.τ).loc Kernel15Ideal.main_arg1)) (m ((c.tc : Thread Kernel15Ideal.nD Kernel15Ideal.τ).loc Kernel15Ideal.main_arg2)),
    (θ_run Kernel15Ideal.defs _ _).mono (fun r h c => ⟨(h c).1.trans (Cert.OutFwd.final m c), (h c).2⟩) (Kernel15Ideal.Value.run_blocks (F := Ideal) m g),
    (θ_run Reference15Ideal.defs _ _).mono (fun r h c => ⟨(h c).1.trans ?_, (h c).2⟩) (Reference15Ideal.Value.run (F := Ideal) m' g')⟩
  rw [(same c).1, (same c).2.1, (same c).2.2]

/-- The reference leaves its arguments as they were; it declares no semaphore. -/
theorem frame_reference_15 : Cert.quiescent_Reference15Ideal := fun m ρ _ =>
  (θ_run Reference15Ideal.defs _ _).mono (fun r h => ⟨fun c => (h c).2, Idealize.ShloMosaic.sem_eq_zero_of_no_sems (by decide) r.2⟩)
    (Reference15Ideal.Value.run (F := Ideal) m ρ)

theorem algebraic_20 : Cert.algebraic_Kernel20Ideal_Reference20Ideal := fun m g m' g' _ same => by
  refine ⟨fun c => Cert.RmsFwd.REF (m ((c.tc : Thread Kernel20Ideal.nD Kernel20Ideal.τ).loc Kernel20Ideal.main_arg0)) (m ((c.tc : Thread Kernel20Ideal.nD Kernel20Ideal.τ).loc Kernel20Ideal.main_arg1)),
    (θ_run Kernel20Ideal.defs _ _).mono (fun r h c => ⟨(h c).1.trans (Cert.RmsFwd.final m c), (h c).2⟩) (Kernel20Ideal.Value.run_blocks (F := Ideal) m g),
    (θ_run Reference20Ideal.defs _ _).mono (fun r h c => ⟨(h c).1.trans ?_, (h c).2⟩) (Reference20Ideal.Value.run (F := Ideal) m' g')⟩
  rw [Cert.Reference20Ideal.Read.val_main_v14_eq, (same c).1, (same c).2]

/-- The reference leaves its arguments as they were; it declares no semaphore. -/
theorem frame_reference_20 : Cert.quiescent_Reference20Ideal := fun m ρ _ =>
  (θ_run Reference20Ideal.defs _ _).mono (fun r h => ⟨fun c => (h c).2, Idealize.ShloMosaic.sem_eq_zero_of_no_sems (by decide) r.2⟩)
    (Reference20Ideal.Value.run (F := Ideal) m ρ)

theorem algebraic_21 : Cert.algebraic_Kernel21Ideal_Reference21Ideal := fun m g m' g' _ same => by
  refine ⟨fun c => Cert.OnormFwd.REF (m ((c.tc : Thread Kernel21Ideal.nD Kernel21Ideal.τ).loc Kernel21Ideal.main_arg0)) (m ((c.tc : Thread Kernel21Ideal.nD Kernel21Ideal.τ).loc Kernel21Ideal.main_arg1)) (m ((c.tc : Thread Kernel21Ideal.nD Kernel21Ideal.τ).loc Kernel21Ideal.main_arg2)),
    (θ_run Kernel21Ideal.defs _ _).mono (fun r h c => ⟨(h c).1.trans (Cert.OnormFwd.final m c), (h c).2⟩) (Kernel21Ideal.Value.run_blocks (F := Ideal) m g),
    (θ_run Reference21Ideal.defs _ _).mono (fun r h c => ⟨(h c).1.trans ?_, (h c).2⟩) (Reference21Ideal.Value.run (F := Ideal) m' g')⟩
  rw [Cert.Reference21Ideal.Read.val_main_v17_eq, (same c).1, (same c).2.1, (same c).2.2]

/-- The reference leaves its arguments as they were; it declares no semaphore. -/
theorem frame_reference_21 : Cert.quiescent_Reference21Ideal := fun m ρ _ =>
  (θ_run Reference21Ideal.defs _ _).mono (fun r h => ⟨fun c => (h c).2, Idealize.ShloMosaic.sem_eq_zero_of_no_sems (by decide) r.2⟩)
    (Reference21Ideal.Value.run (F := Ideal) m ρ)

end Cert.Proof

end

end
-- ==== Proof.LbGrad.lean ====
/- The gradient of the first row of a softmax: what the kernel's two calls write and the reference's result, entry by entry. -/
module

public import proofs.«01_k».proof.Proof.Gen.Kernel25Ideal.Frame
public import proofs.«01_k».proof.Proof.Gen.Reference25Ideal.Read
public import proofs.«01_k».proof.Proof.Entries
public import Idealize.ShloMosaic.Lib.Pipeline.ValueKit
public import Idealize.ShloMosaic.Lib.Pipeline.ReadBack
public import Idealize.ShloMosaic.Lib.Routing.OpsOne

@[expose] public section

set_option maxRecDepth 16384

noncomputable section

namespace Cert.LbGrad

open Idealize.ShloMosaic Idealize.ShloMosaic.Routing Idealize.ShloMosaic.TcCoe Cert.Kernel25Ideal Cert.Kernel25Ideal.Gen Cert.Kernel25Ideal.Facts

/-- The table over eight rows, the rows that are not there at minus infinity. -/
def P8 (x : Vec Ideal S3x2048 .f32) : Vec Ideal S8x2048 .f32 :=
  pad S8x2048 ![0, 0] ![5, 0] ![0, 0] x (constant (F := Ideal) S_ .f32 0xFF800000#32) pads_S3x2048_S8x2048_050_000 h_S_

/-- The kernel's result. -/
def KER (x : Vec Ideal S3x2048 .f32) (d : Vec Ideal S1x2048 .f32) : Vec Ideal S3x2048 .f32 :=
  extractStridedSlice S3x2048 ![0, 0] (k1_pay1 (F := Ideal) (k0_pay1 (F := Ideal) (P8 x)) d) slices_S8x2048_S3x2048_0_0

/-- The reference's result. -/
abbrev REF (x : FVec Ideal S3x2048 .f32) (d : FVec Ideal S1x2048 .f32) : FVec Ideal S3x2048 .f32 :=
  Cert.Reference25Ideal.Read.val_main_v43 (F := Ideal) x d

theorem bot_bits : Ideal.ofBits .f32 0xFF800000#32 = (⊥ : EReal) := by
  unfold Ideal.ofBits Ideal.ieee; dsimp only; rfl

theorem P8_at (x : Vec Ideal S3x2048 .f32) (i : Fin 8) (c : Fin 2048) :
    P8 x (ix2 i c) = if h : i.val < 3 then x (ix2 ⟨i.val, h⟩ c) else ⊥ := by
  unfold P8
  pointwise
  rw [bot_bits]

theorem pay0 (p : Vec Ideal S8x2048 .f32) (i : Fin 8) (c : Fin 2048) : k0_pay1 (F := Ideal) p (ix2 i c)
    = Ideal.div (Ideal.exp (p (ix2 i c) - Finset.fold max ⊥ (fun j => p (ix2 j c)) Finset.univ))
      (∑ j, Ideal.exp (p (ix2 j c) - Finset.fold max ⊥ (fun j => p (ix2 j c)) Finset.univ)) := by
  pointwise [k0_pay1]
  rw [bot_bits]

theorem pay1 (p : Vec Ideal S8x2048 .f32) (d : Vec Ideal S1x2048 .f32) (i : Fin 8) (c : Fin 2048) : k1_pay1 (F := Ideal) p d (ix2 i c)
    = p (ix2 i c) * ((if i.val = 0 then d (ix2 0 c) else 0) - d (ix2 0 c) * p (ix2 0 c)) := by
  pointwise [k1_pay1]
  fin_cases i <;> rfl

theorem max8 (f : Fin 8 → EReal) (h : ∀ i : Fin 8, 3 ≤ i.val → f i = ⊥) : Finset.fold max ⊥ f Finset.univ = max (f 0) (max (f 1) (f 2)) := by
  have e : Finset.fold max ⊥ f Finset.univ = max (f 0) (max (f 1) (max (f 2) (max (f 3) (max (f 4) (max (f 5) (max (f 6) (max (f 7) ⊥))))))) := rfl
  rw [e, h 3 (by decide), h 4 (by decide), h 5 (by decide), h 6 (by decide), h 7 (by decide)]
  simp

theorem max3 (f : Fin 3 → EReal) : Finset.fold max ⊥ f Finset.univ = max (f 0) (max (f 1) (f 2)) := by
  have e : Finset.fold max ⊥ f Finset.univ = max (f 0) (max (f 1) (max (f 2) ⊥)) := rfl
  rw [e]; simp

/-- The cotangents summed from the last row. -/
abbrev CUM (d : FVec Ideal S1x2048 .f32) : FVec Ideal S3x2048 .f32 := Cert.Reference25Ideal.Read.val_main_v31 (F := Ideal) d

theorem fold3 (g : EReal → Fin (shape2 3 1).numel → EReal) (f : Fin (shape2 3 1).numel → EReal) (h : ∀ r n, g r n = r + f n) (z : EReal) (hz : z = 0) :
    (List.finRange (shape2 3 1).numel).foldl g z = 0 + f ⟨0, by decide⟩ + f ⟨1, by decide⟩ + f ⟨2, by decide⟩ := by
  obtain rfl : g = fun r n => r + f n := funext fun r => funext fun n => h r n
  rw [hz]
  rfl

theorem padded (d : Vec Ideal S1x2048 .f32) (j : S3x2048.Idx) :
    Cert.Reference25Ideal.Read.val_main_v30 (F := Ideal) d j = if (j 0).val = 0 then d (ix2 0 (j 1)) else 0 := by
  unfold Cert.Reference25Ideal.Read.val_main_v30 Cert.Reference25Ideal.Read.val_main_cst_9
  idx_vars j
  pointwise
  fin_cases j0 <;> rfl

/-- The first row's own, and nothing at the others. -/
theorem summed (d : Vec Ideal S1x2048 .f32) (i : Fin 3) (c : Fin 2048) : CUM d (ix2 i c) = if i.val = 0 then d (ix2 0 c) else 0 := by
  have hz : Cert.Reference25Ideal.Read.val_main_call1_call0_v0 (F := Ideal) (Shape.Idx.first Cert.Reference25Ideal.Gen.h_S_) = (0 : EReal) := Ideal.ofBits_zero_f32
  unfold CUM Cert.Reference25Ideal.Read.val_main_v31 Host.reduceWindowAdd
  rw [Ideal.hostReduceWindowAdd_def]
  unfold Ideal.hostReduceWindowAdd Host.reduceWindow
  refine (fold3 _ (fun n => if i.val + n.val = 0 then d (ix2 0 c) else 0) (fun r n => ?_) _ hz).trans ?_
  · dsimp only
    refine congrArg (r + ·) ?_
    have h0 : ((shape2 3 1).rowMajor.symm n 0).val = n.val := by rw [symm_col]; rfl
    have h1 : ((shape2 3 1).rowMajor.symm n 1).val = 0 := by rw [symm_col]; rfl
    split
    · next hin =>
      rw [padded]
      have e0 : i.val * 1 + ((shape2 3 1).rowMajor.symm n 0).val - 0 = i.val + n.val := by rw [h0]; omega
      have e1 : c.val * 1 + ((shape2 3 1).rowMajor.symm n 1).val - 0 = c.val := by rw [h1]; omega
      have k1 : (⟨c.val * 1 + ((shape2 3 1).rowMajor.symm n 1).val - 0, (hin 1).2⟩ : Fin 2048) = c := Fin.ext e1
      show (if i.val * 1 + ((shape2 3 1).rowMajor.symm n 0).val - 0 = 0 then d (ix2 0 ⟨c.val * 1 + ((shape2 3 1).rowMajor.symm n 1).val - 0, (hin 1).2⟩) else 0) = _
      rw [k1, e0]
    · next hin =>
      rw [if_neg fun hle => hin fun a => ?_]
      · exact hz
      fin_cases a
      · show 0 ≤ _ ∧ i.val * 1 + ((shape2 3 1).rowMajor.symm n 0).val - 0 < 3
        rw [h0]; omega
      · show 0 ≤ _ ∧ c.val * 1 + ((shape2 3 1).rowMajor.symm n 1).val - 0 < 2048
        rw [h1]; omega
  · fin_cases i <;> simp

theorem KER_at (x : Vec Ideal S3x2048 .f32) (d : Vec Ideal S1x2048 .f32) (i : Fin 3) (c : Fin 2048) :
    KER x d (ix2 i c) = k1_pay1 (F := Ideal) (k0_pay1 (F := Ideal) (P8 x)) d (ix2 ⟨i.val, by omega⟩ c) := by
  unfold KER
  pointwise

theorem href (x : Vec Ideal S3x2048 .f32) (d : Vec Ideal S1x2048 .f32) (i : Fin 3) (c : Fin 2048) : REF x d (ix2 i c) =
   (Ideal.div (if i.val = 0 then d (ix2 0 c) else 0) (∑ j, Ideal.exp (x (ix2 j c) - max ⊥ (Finset.fold max ⊥ (fun j => x (ix2 j c)) Finset.univ)))
     + ∑ _j : Fin 1, -∑ k : Fin 3, (if k.val = 0 then d (ix2 0 c) else 0)
         * Ideal.div 1 ((∑ j, Ideal.exp (x (ix2 j c) - max ⊥ (Finset.fold max ⊥ (fun j => x (ix2 j c)) Finset.univ)))
            * (∑ j, Ideal.exp (x (ix2 j c) - max ⊥ (Finset.fold max ⊥ (fun j => x (ix2 j c)) Finset.univ))))
         * Ideal.exp (x (ix2 k c) - max ⊥ (Finset.fold max ⊥ (fun j => x (ix2 j c)) Finset.univ)))
     * Ideal.exp (x (ix2 i c) - max ⊥ (Finset.fold max ⊥ (fun j => x (ix2 j c)) Finset.univ)) := by
  unfold REF
  rw [← Cert.Reference25Ideal.Read.val_main_v43_eq]
  pointwise
  rw [bot_bits]
  show
   (Ideal.div (CUM d (ix2 i c)) (∑ j, Ideal.exp (x (ix2 j c) - max ⊥ (Finset.fold max ⊥ (fun j => x (ix2 j c)) Finset.univ)))
     + ∑ _j : Fin 1, -∑ k : Fin 3, (CUM d (ix2 k c))
         * Ideal.div 1 ((∑ j, Ideal.exp (x (ix2 j c) - max ⊥ (Finset.fold max ⊥ (fun j => x (ix2 j c)) Finset.univ)))
            * (∑ j, Ideal.exp (x (ix2 j c) - max ⊥ (Finset.fold max ⊥ (fun j => x (ix2 j c)) Finset.univ))))
         * Ideal.exp (x (ix2 k c) - max ⊥ (Finset.fold max ⊥ (fun j => x (ix2 j c)) Finset.univ)))
     * Ideal.exp (x (ix2 i c) - max ⊥ (Finset.fold max ⊥ (fun j => x (ix2 j c)) Finset.univ)) = _
  simp only [summed]

/-- The two ways of writing an entry of the first row, `e` over `S` its probability. -/
theorem first {e S : ℝ} (he : 0 < e) (hS : 0 < S) (d : EReal) :
    ((e * (1 / S) : ℝ) : EReal) * (d - d * ((e * (1 / S) : ℝ) : EReal))
      = (d * ((1 / S : ℝ) : EReal) + -(d * ((1 / (S * S) : ℝ) : EReal) * (e : EReal))) * (e : EReal) := by
  have h1 : 0 < e * (1 / S) := by positivity
  have h2 : 0 < 1 / S := by positivity
  have h3 : 0 < 1 / (S * S) := by positivity
  induction d using EReal.rec with
  | bot =>
    rw [EReal.bot_mul_coe_of_pos h1, EReal.bot_mul_coe_of_pos h2, EReal.bot_mul_coe_of_pos h3, EReal.bot_mul_coe_of_pos he]
    simp only [sub_eq_add_neg, EReal.bot_add]
    rw [EReal.coe_mul_bot_of_pos h1, EReal.bot_mul_coe_of_pos he]
  | top =>
    rw [EReal.top_mul_coe_of_pos h1, EReal.top_mul_coe_of_pos h2, EReal.top_mul_coe_of_pos h3, EReal.top_mul_coe_of_pos he]
    simp only [sub_eq_add_neg, EReal.neg_top, EReal.add_bot]
    rw [EReal.coe_mul_bot_of_pos h1, EReal.bot_mul_coe_of_pos he]
  | coe r =>
    norm_cast
    field_simp
    ring

/-- And an entry of another row. -/
theorem later {a e S : ℝ} (ha : 0 < a) (he : 0 < e) (hS : 0 < S) (d : EReal) :
    ((a * (1 / S) : ℝ) : EReal) * (0 - d * ((e * (1 / S) : ℝ) : EReal))
      = (0 * ((1 / S : ℝ) : EReal) + -(d * ((1 / (S * S) : ℝ) : EReal) * (e : EReal))) * (a : EReal) := by
  have h0 : 0 < a * (1 / S) := by positivity
  have h1 : 0 < e * (1 / S) := by positivity
  have h3 : 0 < 1 / (S * S) := by positivity
  rw [zero_mul, zero_add, zero_sub]
  induction d using EReal.rec with
  | bot =>
    rw [EReal.bot_mul_coe_of_pos h1, EReal.bot_mul_coe_of_pos h3, EReal.bot_mul_coe_of_pos he, EReal.neg_bot, EReal.coe_mul_top_of_pos h0, EReal.top_mul_coe_of_pos ha]
  | top =>
    rw [EReal.top_mul_coe_of_pos h1, EReal.top_mul_coe_of_pos h3, EReal.top_mul_coe_of_pos he, EReal.neg_top, EReal.coe_mul_bot_of_pos h0, EReal.bot_mul_coe_of_pos ha]
  | coe r =>
    norm_cast
    field_simp

section
variable (x : Vec Ideal S3x2048 .f32) (t : Fin 3 → ℝ) (c : Fin 2048) (h : ∀ k, x (ix2 k c) = (t k : EReal))
include h

theorem maxK : Finset.fold max ⊥ (fun j => P8 x (ix2 j c)) Finset.univ = ((max (t 0) (max (t 1) (t 2)) : ℝ) : EReal) := by
  rw [max8 _ fun i hi => by rw [P8_at, dif_neg (by omega)], P8_at, P8_at, P8_at, dif_pos (by decide), dif_pos (by decide), dif_pos (by decide)]
  rw [show x (ix2 ⟨(0 : Fin 8).val, by decide⟩ c) = (t 0 : EReal) from h 0, show x (ix2 ⟨(1 : Fin 8).val, by decide⟩ c) = (t 1 : EReal) from h 1,
    show x (ix2 ⟨(2 : Fin 8).val, by decide⟩ c) = (t 2 : EReal) from h 2]
  rfl

theorem maxR : max ⊥ (Finset.fold max ⊥ (fun j => x (ix2 j c)) Finset.univ) = ((max (t 0) (max (t 1) (t 2)) : ℝ) : EReal) := by
  rw [max3, h, h, h, max_eq_right bot_le]
  rfl

/-- The probabilities. -/
theorem prob (i : Fin 3) : k0_pay1 (F := Ideal) (P8 x) (ix2 ⟨i.val, by omega⟩ c)
    = ((Real.exp (t i - max (t 0) (max (t 1) (t 2))) * (1 / ∑ k, Real.exp (t k - max (t 0) (max (t 1) (t 2)))) : ℝ) : EReal) := by
  have hS : 0 < ∑ k, Real.exp (t k - max (t 0) (max (t 1) (t 2))) := Finset.sum_pos (fun k _ => Real.exp_pos _) Finset.univ_nonempty
  rw [pay0, maxK x t c h]
  have e : ∀ k : Fin 3, Ideal.exp (P8 x (ix2 ⟨k.val, by omega⟩ c) - ((max (t 0) (max (t 1) (t 2)) : ℝ) : EReal)) = ((Real.exp (t k - max (t 0) (max (t 1) (t 2))) : ℝ) : EReal) := fun k => by
    rw [P8_at, dif_pos k.isLt]
    show Ideal.exp (x (ix2 k c) - _) = _
    rw [h, ← EReal.coe_sub, Ideal.exp_coe]
  have o : ∀ k : Fin 8, 3 ≤ k.val → Ideal.exp (P8 x (ix2 k c) - ((max (t 0) (max (t 1) (t 2)) : ℝ) : EReal)) = 0 := fun k hk => by
    rw [P8_at, dif_neg (by omega), sub_eq_add_neg, EReal.bot_add, Ideal.exp_bot]
  have s : ∑ j, Ideal.exp (P8 x (ix2 j c) - ((max (t 0) (max (t 1) (t 2)) : ℝ) : EReal)) = ((∑ k, Real.exp (t k - max (t 0) (max (t 1) (t 2))) : ℝ) : EReal) := by
    rw [Fin.sum_univ_eight, Fin.sum_univ_three, o 3 (by decide), o 4 (by decide), o 5 (by decide), o 6 (by decide), o 7 (by decide)]
    simp only [add_zero, EReal.coe_add]
    exact congrArg₂ (· + ·) (congrArg₂ (· + ·) (e 0) (e 1)) (e 2)
  rw [s, e, Ideal.div_coe hS.ne', ← EReal.coe_mul]

theorem entry (d : Vec Ideal S1x2048 .f32) (i : Fin 3) : KER x d (ix2 i c) = REF x d (ix2 i c) := by
  have hS : 0 < ∑ k, Real.exp (t k - max (t 0) (max (t 1) (t 2))) := Finset.sum_pos (fun k _ => Real.exp_pos _) Finset.univ_nonempty
  have e : ∀ k : Fin 3, Ideal.exp (x (ix2 k c) - ((max (t 0) (max (t 1) (t 2)) : ℝ) : EReal)) = ((Real.exp (t k - max (t 0) (max (t 1) (t 2))) : ℝ) : EReal) := fun k => by
    rw [h, ← EReal.coe_sub, Ideal.exp_coe]
  have s : ∑ k, Ideal.exp (x (ix2 k c) - ((max (t 0) (max (t 1) (t 2)) : ℝ) : EReal)) = ((∑ k, Real.exp (t k - max (t 0) (max (t 1) (t 2))) : ℝ) : EReal) := by
    rw [Fin.sum_univ_three, Fin.sum_univ_three, e, e, e, EReal.coe_add, EReal.coe_add]
  rw [KER_at, pay1, prob x t c h i, show k0_pay1 (F := Ideal) (P8 x) (ix2 0 c) = _ from prob x t c h 0, href, maxR x t c h, s, e,
    ← EReal.coe_mul, Ideal.div_coe hS.ne', Ideal.div_coe (mul_pos hS hS).ne', one_mul, Fin.sum_univ_one]
  generalize ∑ k, Real.exp (t k - max (t 0) (max (t 1) (t 2))) = S at hS
  rw [Fin.sum_univ_three, e 0]
  rw [if_pos (show (0 : Fin 3).val = 0 from rfl), if_neg (show ¬(1 : Fin 3).val = 0 by decide), if_neg (show ¬(2 : Fin 3).val = 0 by decide)]
  simp only [zero_mul, add_zero]
  by_cases hi : i.val = 0
  · obtain rfl : i = 0 := Fin.ext hi
    rw [if_pos (show (0 : Fin 3).val = 0 from rfl)]
    exact first (Real.exp_pos _) hS _
  · rw [if_neg hi]
    exact later (Real.exp_pos _) (Real.exp_pos _) hS _
end

theorem same (x : Vec Ideal S3x2048 .f32) (d : Vec Ideal S1x2048 .f32) (h : ∀ j, x j = ((x j).toReal : EReal)) : KER x d = REF x d := by
  funext y
  idx_vars y
  exact entry x (fun k => (x (ix2 k y1)).toReal) y1 (fun k => h _) d y0

end Cert.LbGrad

end

end
-- ==== Proof.LbRun.lean ====
/- The two calls on the table and the cotangent of its first bound: their result. -/
module

public import proofs.«01_k».proof.Proof.LbGrad

@[expose] public section

set_option maxRecDepth 16384

noncomputable section

namespace Cert.LbGrad

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel25Ideal Cert.Kernel25Ideal.Gen Cert.Kernel25Ideal.Facts

local notation "𝕄" => MT nD τ sig Unit (Elt Ideal) ℕ (UR sig nD τ) ℕ

theorem idx0 : ∀ t : Fin cfg0.N, win0_0.index t = ![0, 0] ∧ win0_1.index t = ![0, 0] :=
  (by decide +kernel : ∀ t : Fin grid0.N, _)
theorem idx1 : ∀ t : Fin cfg1.N, win1_0.index t = ![0, 0] ∧ win1_1.index t = ![0, 0] ∧ win1_2.index t = ![0, 0] :=
  (by decide +kernel : ∀ t : Fin grid1.N, _)

section
variable (V : (c : Dev nD) → (b : Ref sig .tc) → Buf (Elt Ideal) ((c : Thread nD τ).loc b))

/-- What the first call writes. -/
theorem final0 (c : Dev nD) : (dat0 V c).arrAt 1 cfg0.N = k0_pay1 (F := Ideal) (V c main_v0) := by
  refine (dat0 V c).arrAt_eq_of_covers 1 _ (by decide +kernel) fun t _ y => ?_
  blk_simp
  rw [after0_1]
  have hx : iblk0 V c 0 t = V c main_v0 := funext fun j => by
    blk_simp [iblk0]
    refine congrArg (V c main_v0) (funext fun a => Fin.ext ?_)
    fin_cases a <;> blk_simp [idx0 t]
  have hy : (win0_1.blk t).view.emb y = y := funext fun a => Fin.ext (by fin_cases a <;> blk_simp [idx0 t])
  rw [hx]
  frame_out
  rw [hy]

/-- What the second writes. -/
theorem final1 (c : Dev nD) : (dat1 V c).arrAt 2 cfg1.N = k1_pay1 (F := Ideal) (V c main_v1) (V c main_arg1) := by
  refine (dat1 V c).arrAt_eq_of_covers 2 _ (by decide +kernel) fun t _ y => ?_
  blk_simp
  rw [after1_2]
  have hx : iblk1 V c 0 t = V c main_v1 := funext fun j => by
    blk_simp [iblk1]
    refine congrArg (V c main_v1) (funext fun a => Fin.ext ?_)
    fin_cases a <;> blk_simp [idx1 t]
  have hd : iblk1 V c 1 t = V c main_arg1 := funext fun j => by
    blk_simp [iblk1]
    refine congrArg (V c main_arg1) (funext fun a => Fin.ext ?_)
    fin_cases a <;> blk_simp [idx1 t]
  have hy : (win1_2.blk t).view.emb y = y := funext fun a => Fin.ext (by fin_cases a <;> blk_simp [idx1 t])
  rw [hx, hd]
  frame_out
  rw [hy]
end

variable (m : (ℓ : Loc nD τ sig) → Buf (Elt Ideal) ℓ) (ρ : Dev nD → PrngReg)

theorem w1_cst (c : Dev nD) : W1 m ρ c (Proc.devRef .tc main_cst) = constant (F := Ideal) S_ .f32 0xFF800000#32 := rfl
theorem w2_v0 (c : Dev nD) : W2 m ρ c (Proc.devRef .tc main_v0) = P8 (m ((c : Thread nD τ).loc main_arg0)) := rfl
theorem w3_v1 (c : Dev nD) : W3 m ρ c (Proc.devRef .tc main_v1) = k0_pay1 (F := Ideal) (P8 (m ((c : Thread nD τ).loc main_arg0))) :=
  (W3_arr m ρ c 1).trans ((final0 (V2 m ρ) c).trans (congrArg (k0_pay1 (F := Ideal)) (w2_v0 m ρ c)))
theorem w4_v2 (c : Dev nD) : W4 m ρ c (Proc.devRef .tc main_v2)
    = k1_pay1 (F := Ideal) (k0_pay1 (F := Ideal) (P8 (m ((c : Thread nD τ).loc main_arg0)))) (m ((c : Thread nD τ).loc main_arg1)) :=
  (W4_arr m ρ c 2).trans ((final1 (V3 m ρ) c).trans (congrArg₂ (k1_pay1 (F := Ideal)) (w3_v1 m ρ c) (W3_args m ρ c main_arg1 (by decide))))
theorem w5_v3 (c : Dev nD) : W5 m ρ c (Proc.devRef .tc main_v3) = KER (m ((c : Thread nD τ).loc main_arg0)) (m ((c : Thread nD τ).loc main_arg1)) := by
  have e : W5 m ρ c (Proc.devRef .tc main_v3) = extractStridedSlice S3x2048 ![0, 0] (W4 m ρ c (Proc.devRef .tc main_v2)) slices_S8x2048_S3x2048_0_0 := rfl
  rw [e, w4_v2]
  rfl

set_option backward.isDefEq.respectTransparency.types false in
/-- Every execution ends with this result and the arguments as they were. -/
theorem kernel_run : θ_run defs (onTc (τ := τ) (main (F := Ideal))) ⟨m, fun _ => 0, ρ⟩ (fun r => ∀ c : Dev nD,
      r.2.mem ((c.tc : Thread nD τ).loc main_v3) = KER (m ((c : Thread nD τ).loc main_arg0)) (m ((c : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s hs _ c =>
      ⟨(hs c _ (mem_uc main_v3 (by decide))).trans (w5_v3 m ρ c),
       (hs c _ (mem_uc main_arg0 (by decide))).trans (W5_main_arg0 m ρ c),
       (hs c _ (mem_uc main_arg1 (by decide))).trans (W5_main_arg1 m ρ c)⟩)

end Cert.LbGrad

end

end
-- ==== Proof.LbPair.lean ====
/- The gradient of the lower-bound table: the calls and their reference leave the same array. -/
module

public import proofs.«01_k».proof.Defs
public import proofs.«01_k».proof.Proof.LbRun
public import proofs.«01_k».proof.Proof.Inputs
public import proofs.«01_k».proof.Proof.Gen.Pre_real_table
public import proofs.«01_k».proof.Proof.Gen.Reference25Ideal.Run

@[expose] public section

set_option maxRecDepth 16384

noncomputable section

namespace Cert.LbGrad

open Idealize.ShloMosaic Idealize.SL.Sem Cert.Pre_real_table Cert.Pre_real_table.Facts

instance : Subsingleton S_.Idx := ⟨fun _ _ => funext fun a => a.elim0⟩

/-- The precondition says that the table's entries are real numbers. -/
theorem real (x : FVec Ideal S3x2048 .f32) (d : FVec Ideal S1x2048 .f32) (h : fn (F := Ideal) x d = fun _ => 1#1) (i : S3x2048.Idx) : x i = ((x i).toReal : EReal) := by
  have e := congrFun h (Shape.Idx.first h_S_)
  unfold fn at e
  have k : BitVec.ofBool (decide (max (x i) (-(x i)) < Ideal.ofBits .f32 0x7F800000#32)) = 1#1 := Host.reduce_andi_all _ _ _ _ _ e i
  rw [Cert.Pre_finite_inputs.inf_bits] at k
  exact Cert.Pre_finite_inputs.real_of (Cert.Pre_finite_inputs.ofBool_one k)

theorem algebraic : Cert.algebraic_Kernel25Ideal_Reference25Ideal_pre_real_table := fun m g m' g' pre args => by
  refine ⟨fun c => REF (m ((c.tc : Thread Cert.Kernel25Ideal.nD Cert.Kernel25Ideal.τ).loc Cert.Kernel25Ideal.main_arg0)) (m ((c.tc : Thread Cert.Kernel25Ideal.nD Cert.Kernel25Ideal.τ).loc Cert.Kernel25Ideal.main_arg1)),
    (θ_run Cert.Kernel25Ideal.defs _ _).mono (fun r h c => ⟨(h c).1.trans (same _ _ (real _ _ (pre c))), (h c).2⟩) (kernel_run m g),
    (θ_run Cert.Reference25Ideal.defs _ _).mono (fun r h c => ⟨(h c).1.trans ?_, (h c).2⟩) (Cert.Reference25Ideal.Value.run (F := Ideal) m' g')⟩
  rw [Cert.Reference25Ideal.Read.val_main_v43_eq, (args c).1, (args c).2]

/-- The reference leaves its arguments as they were; it declares no semaphore. -/
theorem frame_reference : Cert.quiescent_Reference25Ideal := fun m ρ _ =>
  (θ_run Cert.Reference25Ideal.defs _ _).mono (fun r h => ⟨fun c => (h c).2, Idealize.ShloMosaic.sem_eq_zero_of_no_sems (by decide) r.2⟩)
    (Cert.Reference25Ideal.Value.run (F := Ideal) m ρ)

end Cert.LbGrad

end

end
-- ==== Proof.AdamwPack.lean ====
/- The small weights packed into one array and taken out of it again. -/
module

public import proofs.«01_k».proof.Proof.Gen.Kernel27Ideal
public import proofs.«01_k».proof.Proof.Gen.Kernel27Ideal.Frame
public import Idealize.ShloMosaic.Lib.Pipeline.ValueKit
public import Idealize.ShloMosaic.Lib.KernelVsHost

@[expose] public section

noncomputable section

namespace Cert.AdamwSmall

open Idealize.ShloMosaic Idealize.ShloMosaic.TcCoe Cert.Kernel27Ideal Cert.Kernel27Ideal.Gen

/-- The index of one place of the flat array. -/
def at_ (i : Nat) (h : i < 36864) : S36864.Idx := fun a => ⟨i, by rw [Subsingleton.elim a 0]; exact h⟩

section
variable (a0 : Vec Ideal S2x2048 .f32) (a1 : Vec Ideal S2x2048 .f32) (a2 : Vec Ideal S3x2048 .f32) (a3 : Vec Ideal S1x2048 .f32) (a4 : Vec Ideal S1x3x512 .f32) (a5 : Vec Ideal S2x3x2816 .f32) (a6 : Vec Ideal S2048 .f32)

/-- The seven arrays one after the other, as rows of 128. -/
def PACK : Vec Ideal S288x128 .f32 :=
  shapeCast S288x128 (pad S36864 ![0] ![0] ![0] (concatenate S36864 0 [⟨S4096, (shapeCast S4096 a0 shapeCasts_S2x2048_S4096 : (⟨S4096, .f32⟩ : BufTy).Contents (Elt Ideal))⟩, ⟨S4096, (shapeCast S4096 a1 shapeCasts_S2x2048_S4096 : (⟨S4096, .f32⟩ : BufTy).Contents (Elt Ideal))⟩, ⟨S6144, (shapeCast S6144 a2 shapeCasts_S3x2048_S6144 : (⟨S6144, .f32⟩ : BufTy).Contents (Elt Ideal))⟩, ⟨S2048, (shapeCast S2048 a3 shapeCasts_S1x2048_S2048 : (⟨S2048, .f32⟩ : BufTy).Contents (Elt Ideal))⟩, ⟨S1536, (shapeCast S1536 a4 shapeCasts_S1x3x512_S1536 : (⟨S1536, .f32⟩ : BufTy).Contents (Elt Ideal))⟩, ⟨S16896, (shapeCast S16896 a5 shapeCasts_S2x3x2816_S16896 : (⟨S16896, .f32⟩ : BufTy).Contents (Elt Ideal))⟩, ⟨S2048, (a6 : (⟨S2048, .f32⟩ : BufTy).Contents (Elt Ideal))⟩] concatenates_S4096_S4096_S6144_S2048_S1536_S16896_S2048_S36864_d0) (sitofp (F := Ideal) .f32 (constantI S_ 32 0#32) : (⟨S_, .f32⟩ : BufTy).Contents (Elt Ideal)) pads_S36864_S36864_000 h_S_) shapeCasts_S36864_S288x128

/-- The first array of the pack. -/
def un0 (p : Vec Ideal S288x128 .f32) : Vec Ideal S2x2048 .f32 :=
  shapeCast S2x2048 (extractStridedSlice S4096 ![0] (shapeCast S36864 p shapeCasts_S288x128_S36864) slices_S36864_S4096_0) shapeCasts_S4096_S2x2048

/-- The second array of the pack. -/
def un1 (p : Vec Ideal S288x128 .f32) : Vec Ideal S2x2048 .f32 :=
  shapeCast S2x2048 (extractStridedSlice S4096 ![4096] (shapeCast S36864 p shapeCasts_S288x128_S36864) slices_S36864_S4096_4096) shapeCasts_S4096_S2x2048

/-- The third array of the pack. -/
def un2 (p : Vec Ideal S288x128 .f32) : Vec Ideal S3x2048 .f32 :=
  shapeCast S3x2048 (extractStridedSlice S6144 ![8192] (shapeCast S36864 p shapeCasts_S288x128_S36864) slices_S36864_S6144_8192) shapeCasts_S6144_S3x2048

/-- The fourth array of the pack. -/
def un3 (p : Vec Ideal S288x128 .f32) : Vec Ideal S1x2048 .f32 :=
  shapeCast S1x2048 (extractStridedSlice S2048 ![14336] (shapeCast S36864 p shapeCasts_S288x128_S36864) slices_S36864_S2048_14336) shapeCasts_S2048_S1x2048

/-- The fifth array of the pack. -/
def un4 (p : Vec Ideal S288x128 .f32) : Vec Ideal S1x3x512 .f32 :=
  shapeCast S1x3x512 (extractStridedSlice S1536 ![16384] (shapeCast S36864 p shapeCasts_S288x128_S36864) slices_S36864_S1536_16384) shapeCasts_S1536_S1x3x512

/-- The sixth array of the pack. -/
def un5 (p : Vec Ideal S288x128 .f32) : Vec Ideal S2x3x2816 .f32 :=
  shapeCast S2x3x2816 (extractStridedSlice S16896 ![17920] (shapeCast S36864 p shapeCasts_S288x128_S36864) slices_S36864_S16896_17920) shapeCasts_S16896_S2x3x2816

/-- The last array of the pack. -/
def un6 (p : Vec Ideal S288x128 .f32) : Vec Ideal S2048 .f32 :=
  extractStridedSlice S2048 ![34816] (shapeCast S36864 p shapeCasts_S288x128_S36864) slices_S36864_S2048_34816

theorem un0_pack : un0 (PACK a0 a1 a2 a3 a4 a5 a6) = a0 := by
  unfold un0 PACK
  rw [shapeCast_shapeCast]
  refine (congrArg (fun z => shapeCast S2x2048 z shapeCasts_S4096_S2x2048) ?_).trans (shapeCast_shapeCast a0 shapeCasts_S2x2048_S4096 shapeCasts_S4096_S2x2048)
  funext j
  have hj : (j 0).val < 4096 := (j 0).isLt
  rw [extractStridedSlice_apply _ _ _ j (at_ (0 + (j 0).val) (by omega)) (fun a => by rw [Subsingleton.elim a 0]; rfl),
    pad_apply_of_inside _ _ _ _ _ _ _ _ (at_ (0 + (j 0).val) (by omega)) (fun a => by rw [Subsingleton.elim a 0]; show (0 + (j 0).val) = 0 + (0 + (j 0).val) * (0 + 1); omega)]
  refine concatenate_apply_piece (t := S36864) 0 _ _ (at_ _ _) 0 ?hk S4096 (shapeCast S4096 a0 shapeCasts_S2x2048_S4096) ?hx rfl 0 ?hp j ?hi ?ha
  case hk => simp
  case hx => rfl
  case hp => dsimp only [List.take, List.map]; decide +kernel
  case hi => exact fun b hb => absurd (Subsingleton.elim _ _) hb
  case ha => rfl

theorem un1_pack : un1 (PACK a0 a1 a2 a3 a4 a5 a6) = a1 := by
  unfold un1 PACK
  rw [shapeCast_shapeCast]
  refine (congrArg (fun z => shapeCast S2x2048 z shapeCasts_S4096_S2x2048) ?_).trans (shapeCast_shapeCast a1 shapeCasts_S2x2048_S4096 shapeCasts_S4096_S2x2048)
  funext j
  have hj : (j 0).val < 4096 := (j 0).isLt
  rw [extractStridedSlice_apply _ _ _ j (at_ (4096 + (j 0).val) (by omega)) (fun a => by rw [Subsingleton.elim a 0]; rfl),
    pad_apply_of_inside _ _ _ _ _ _ _ _ (at_ (4096 + (j 0).val) (by omega)) (fun a => by rw [Subsingleton.elim a 0]; show (4096 + (j 0).val) = 0 + (4096 + (j 0).val) * (0 + 1); omega)]
  refine concatenate_apply_piece (t := S36864) 0 _ _ (at_ _ _) 1 ?hk S4096 (shapeCast S4096 a1 shapeCasts_S2x2048_S4096) ?hx rfl 4096 ?hp j ?hi ?ha
  case hk => simp
  case hx => rfl
  case hp => dsimp only [List.take, List.map]; decide +kernel
  case hi => exact fun b hb => absurd (Subsingleton.elim _ _) hb
  case ha => rfl

theorem un2_pack : un2 (PACK a0 a1 a2 a3 a4 a5 a6) = a2 := by
  unfold un2 PACK
  rw [shapeCast_shapeCast]
  refine (congrArg (fun z => shapeCast S3x2048 z shapeCasts_S6144_S3x2048) ?_).trans (shapeCast_shapeCast a2 shapeCasts_S3x2048_S6144 shapeCasts_S6144_S3x2048)
  funext j
  have hj : (j 0).val < 6144 := (j 0).isLt
  rw [extractStridedSlice_apply _ _ _ j (at_ (8192 + (j 0).val) (by omega)) (fun a => by rw [Subsingleton.elim a 0]; rfl),
    pad_apply_of_inside _ _ _ _ _ _ _ _ (at_ (8192 + (j 0).val) (by omega)) (fun a => by rw [Subsingleton.elim a 0]; show (8192 + (j 0).val) = 0 + (8192 + (j 0).val) * (0 + 1); omega)]
  refine concatenate_apply_piece (t := S36864) 0 _ _ (at_ _ _) 2 ?hk S6144 (shapeCast S6144 a2 shapeCasts_S3x2048_S6144) ?hx rfl 8192 ?hp j ?hi ?ha
  case hk => simp
  case hx => rfl
  case hp => dsimp only [List.take, List.map]; decide +kernel
  case hi => exact fun b hb => absurd (Subsingleton.elim _ _) hb
  case ha => rfl

theorem un3_pack : un3 (PACK a0 a1 a2 a3 a4 a5 a6) = a3 := by
  unfold un3 PACK
  rw [shapeCast_shapeCast]
  refine (congrArg (fun z => shapeCast S1x2048 z shapeCasts_S2048_S1x2048) ?_).trans (shapeCast_shapeCast a3 shapeCasts_S1x2048_S2048 shapeCasts_S2048_S1x2048)
  funext j
  have hj : (j 0).val < 2048 := (j 0).isLt
  rw [extractStridedSlice_apply _ _ _ j (at_ (14336 + (j 0).val) (by omega)) (fun a => by rw [Subsingleton.elim a 0]; rfl),
    pad_apply_of_inside _ _ _ _ _ _ _ _ (at_ (14336 + (j 0).val) (by omega)) (fun a => by rw [Subsingleton.elim a 0]; show (14336 + (j 0).val) = 0 + (14336 + (j 0).val) * (0 + 1); omega)]
  refine concatenate_apply_piece (t := S36864) 0 _ _ (at_ _ _) 3 ?hk S2048 (shapeCast S2048 a3 shapeCasts_S1x2048_S2048) ?hx rfl 14336 ?hp j ?hi ?ha
  case hk => simp
  case hx => rfl
  case hp => dsimp only [List.take, List.map]; decide +kernel
  case hi => exact fun b hb => absurd (Subsingleton.elim _ _) hb
  case ha => rfl

theorem un4_pack : un4 (PACK a0 a1 a2 a3 a4 a5 a6) = a4 := by
  unfold un4 PACK
  rw [shapeCast_shapeCast]
  refine (congrArg (fun z => shapeCast S1x3x512 z shapeCasts_S1536_S1x3x512) ?_).trans (shapeCast_shapeCast a4 shapeCasts_S1x3x512_S1536 shapeCasts_S1536_S1x3x512)
  funext j
  have hj : (j 0).val < 1536 := (j 0).isLt
  rw [extractStridedSlice_apply _ _ _ j (at_ (16384 + (j 0).val) (by omega)) (fun a => by rw [Subsingleton.elim a 0]; rfl),
    pad_apply_of_inside _ _ _ _ _ _ _ _ (at_ (16384 + (j 0).val) (by omega)) (fun a => by rw [Subsingleton.elim a 0]; show (16384 + (j 0).val) = 0 + (16384 + (j 0).val) * (0 + 1); omega)]
  refine concatenate_apply_piece (t := S36864) 0 _ _ (at_ _ _) 4 ?hk S1536 (shapeCast S1536 a4 shapeCasts_S1x3x512_S1536) ?hx rfl 16384 ?hp j ?hi ?ha
  case hk => simp
  case hx => rfl
  case hp => dsimp only [List.take, List.map]; decide +kernel
  case hi => exact fun b hb => absurd (Subsingleton.elim _ _) hb
  case ha => rfl

theorem un5_pack : un5 (PACK a0 a1 a2 a3 a4 a5 a6) = a5 := by
  unfold un5 PACK
  rw [shapeCast_shapeCast]
  refine (congrArg (fun z => shapeCast S2x3x2816 z shapeCasts_S16896_S2x3x2816) ?_).trans (shapeCast_shapeCast a5 shapeCasts_S2x3x2816_S16896 shapeCasts_S16896_S2x3x2816)
  funext j
  have hj : (j 0).val < 16896 := (j 0).isLt
  rw [extractStridedSlice_apply _ _ _ j (at_ (17920 + (j 0).val) (by omega)) (fun a => by rw [Subsingleton.elim a 0]; rfl),
    pad_apply_of_inside _ _ _ _ _ _ _ _ (at_ (17920 + (j 0).val) (by omega)) (fun a => by rw [Subsingleton.elim a 0]; show (17920 + (j 0).val) = 0 + (17920 + (j 0).val) * (0 + 1); omega)]
  refine concatenate_apply_piece (t := S36864) 0 _ _ (at_ _ _) 5 ?hk S16896 (shapeCast S16896 a5 shapeCasts_S2x3x2816_S16896) ?hx rfl 17920 ?hp j ?hi ?ha
  case hk => simp
  case hx => rfl
  case hp => dsimp only [List.take, List.map]; decide +kernel
  case hi => exact fun b hb => absurd (Subsingleton.elim _ _) hb
  case ha => rfl

theorem un6_pack : un6 (PACK a0 a1 a2 a3 a4 a5 a6) = a6 := by
  unfold un6 PACK
  rw [shapeCast_shapeCast]
  funext j
  have hj : (j 0).val < 2048 := (j 0).isLt
  rw [extractStridedSlice_apply _ _ _ j (at_ (34816 + (j 0).val) (by omega)) (fun a => by rw [Subsingleton.elim a 0]; rfl),
    pad_apply_of_inside _ _ _ _ _ _ _ _ (at_ (34816 + (j 0).val) (by omega)) (fun a => by rw [Subsingleton.elim a 0]; show (34816 + (j 0).val) = 0 + (34816 + (j 0).val) * (0 + 1); omega)]
  refine concatenate_apply_piece (t := S36864) 0 _ _ (at_ _ _) 6 ?hk S2048 a6 ?hx rfl 34816 ?hp j ?hi ?ha
  case hk => simp
  case hx => rfl
  case hp => dsimp only [List.take, List.map]; decide +kernel
  case hi => exact fun b hb => absurd (Subsingleton.elim _ _) hb
  case ha => rfl

end

end Cert.AdamwSmall

end

end
-- ==== Proof.AdamwSmall.lean ====
/- AdamW on the packed small weights. -/
module

public import proofs.«01_k».proof.Proof.Gen.Kernel27Ideal
public import proofs.«01_k».proof.Proof.Gen.Kernel27Ideal.Frame
public import proofs.«01_k».proof.Proof.AdamwPack
public import Idealize.ShloMosaic.Lib.Pipeline.ValueKit

@[expose] public section

set_option maxRecDepth 16384

noncomputable section

namespace Cert.AdamwSmall

open Idealize.ShloMosaic Idealize.ShloMosaic.TcCoe Cert.Kernel27Ideal Cert.Kernel27Ideal.Gen
open Idealize.ShloMosaic.Pipeline (Dat)

/-- The new first moment. -/
def NM {s : Shape} (g p : Vec Ideal s .f32) : Vec Ideal s .f32 :=
  addf (F := Ideal) (mulf (F := Ideal) (broadcast s (Scalar.ofBits (F := Ideal) .f32 0x3F666666#32)) p) (mulf (F := Ideal) (broadcast s (Scalar.ofBits (F := Ideal) .f32 0x3DCCCCCD#32)) g)

/-- The new second moment. -/
def NV {s : Shape} (g q : Vec Ideal s .f32) : Vec Ideal s .f32 :=
  addf (F := Ideal) (mulf (F := Ideal) (broadcast s (Scalar.ofBits (F := Ideal) .f32 0x3F7FBE77#32)) q) (mulf (F := Ideal) (broadcast s (Scalar.ofBits (F := Ideal) .f32 0x3A83126F#32)) (mulf (F := Ideal) g g))

/-- The change of the weight. -/
def ND {s : Shape} (w g p q : Vec Ideal s .f32) : Vec Ideal s .f32 :=
  mulf (F := Ideal) (broadcast s (Scalar.ofBits (F := Ideal) .f32 0xBA83126F#32)) (addf (F := Ideal) (divf (F := Ideal) (divf (F := Ideal) (NM g p) (broadcast s (Scalar.ofBits (F := Ideal) .f32 0x3F26BD02#32)))
    (addf (F := Ideal) (sqrt (F := Ideal) (divf (F := Ideal) (NV g q) (broadcast s (Scalar.ofBits (F := Ideal) .f32 0x3C231ACC#32)))) (broadcast s (Scalar.ofBits (F := Ideal) .f32 0x322BCC77#32))))
    (mulf (F := Ideal) (broadcast s (Scalar.ofBits (F := Ideal) .f32 0x3C23D70A#32)) w))

variable (m : (ℓ : Loc nD τ sig) → Buf (Elt Ideal) ℓ)

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0] :=
  (by decide +kernel : ∀ t : Fin grid0.N, _)

/-- What the call writes at a place of a block, over what it reads there. -/
theorem pay2 (g p : Vec Ideal S32x128 .f32) (y : S32x128.Idx) : k0_pay2 (F := Ideal) g p y = NM g p y := by
  pointwise [k0_pay2, k0_pay1, NM]

theorem pay3 (g q : Vec Ideal S32x128 .f32) (y : S32x128.Idx) : k0_pay3 (F := Ideal) g q y = NV g q y := by
  pointwise [k0_pay3, k0_pay1, NV]

theorem pay4 (w g p q : Vec Ideal S32x128 .f32) (y : S32x128.Idx) : k0_pay4 (F := Ideal) w g p q y = ND w g p q y := by
  pointwise [k0_pay4, k0_pay3, k0_pay2, k0_pay1, ND, NM, NV]

theorem NM_at {s s' : Shape} {g p : Vec Ideal s .f32} {g' p' : Vec Ideal s' .f32} {y : s.Idx} {z : s'.Idx}
    (h1 : g y = g' z) (h2 : p y = p' z) : NM g p y = NM g' p' z := by
  simp only [NM, addf, mulf, broadcast, h1, h2]

theorem NV_at {s s' : Shape} {g p : Vec Ideal s .f32} {g' p' : Vec Ideal s' .f32} {y : s.Idx} {z : s'.Idx}
    (h1 : g y = g' z) (h2 : p y = p' z) : NV g p y = NV g' p' z := by
  simp only [NV, addf, mulf, broadcast, h1, h2]

theorem ND_at {s s' : Shape} {w g p q : Vec Ideal s .f32} {w' g' p' q' : Vec Ideal s' .f32} {y : s.Idx} {z : s'.Idx}
    (h0 : w y = w' z) (h1 : g y = g' z) (h2 : p y = p' z) (h3 : q y = q' z) : ND w g p q y = ND w' g' p' q' z := by
  simp only [ND, addf, mulf, divf, sqrt, broadcast, NM_at h1 h2, NV_at h1 h3, h0]

theorem final_5 (c : Dev nD) : (dats m 0 c).arrAt 5 (cfgs 0).N = NM (V m c main_v17) (V m c main_v26) := by
  refine (dats m 0 c).arrAt_eq_of_covers 5 _ (by decide +kernel) fun t _ y => ?_
  blk_simp
  rw [after0_5]
  frame_out
  rw [pay2]
  refine NM_at ?_ ?_
  · blk_simp [iblk]
    refine congrArg (V m c main_v17) (funext fun a => Fin.ext ?_)
    fin_cases a <;> blk_simp [idx t]
  · blk_simp [iblk]
    refine congrArg (V m c main_v26) (funext fun a => Fin.ext ?_)
    fin_cases a <;> blk_simp [idx t]

theorem final_6 (c : Dev nD) : (dats m 0 c).arrAt 6 (cfgs 0).N = NV (V m c main_v17) (V m c main_v35) := by
  refine (dats m 0 c).arrAt_eq_of_covers 6 _ (by decide +kernel) fun t _ y => ?_
  blk_simp
  rw [after0_6]
  frame_out
  rw [pay3]
  refine NV_at ?_ ?_
  · blk_simp [iblk]
    refine congrArg (V m c main_v17) (funext fun a => Fin.ext ?_)
    fin_cases a <;> blk_simp [idx t]
  · blk_simp [iblk]
    refine congrArg (V m c main_v35) (funext fun a => Fin.ext ?_)
    fin_cases a <;> blk_simp [idx t]

set_option maxHeartbeats 1000000 in
theorem final_4 (c : Dev nD) : (dats m 0 c).arrAt 4 (cfgs 0).N = ND (V m c main_v8) (V m c main_v17) (V m c main_v26) (V m c main_v35) := by
  refine (dats m 0 c).arrAt_eq_of_covers 4 _ (by decide +kernel) fun t _ y => ?_
  blk_simp
  rw [after0_4]
  frame_out
  rw [pay4]
  refine ND_at ?_ ?_ ?_ ?_
  · blk_simp [iblk]
    refine congrArg (V m c main_v8) (funext fun a => Fin.ext ?_)
    fin_cases a <;> blk_simp [idx t]
  · blk_simp [iblk]
    refine congrArg (V m c main_v17) (funext fun a => Fin.ext ?_)
    fin_cases a <;> blk_simp [idx t]
  · blk_simp [iblk]
    refine congrArg (V m c main_v26) (funext fun a => Fin.ext ?_)
    fin_cases a <;> blk_simp [idx t]
  · blk_simp [iblk]
    refine congrArg (V m c main_v35) (funext fun a => Fin.ext ?_)
    fin_cases a <;> blk_simp [idx t]

theorem entry_0 (c : Dev nD) : V m c main_v8 = PACK (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  entry_read
  rfl

theorem entry_1 (c : Dev nD) : V m c main_v17 = PACK (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  entry_read
  rfl

theorem entry_2 (c : Dev nD) : V m c main_v26 = PACK (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) := by
  entry_read
  rfl

theorem entry_3 (c : Dev nD) : V m c main_v35 = PACK (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) (m ((c : Thread nD τ).loc main_arg27)) := by
  entry_read
  rfl

theorem un0_NM (g p : Vec Ideal S288x128 .f32) : un0 (NM g p) = NM (un0 g) (un0 p) := rfl
theorem un0_NV (g q : Vec Ideal S288x128 .f32) : un0 (NV g q) = NV (un0 g) (un0 q) := rfl
theorem un0_ND (w g p q : Vec Ideal S288x128 .f32) : un0 (ND w g p q) = ND (un0 w) (un0 g) (un0 p) (un0 q) := rfl

theorem un1_NM (g p : Vec Ideal S288x128 .f32) : un1 (NM g p) = NM (un1 g) (un1 p) := rfl
theorem un1_NV (g q : Vec Ideal S288x128 .f32) : un1 (NV g q) = NV (un1 g) (un1 q) := rfl
theorem un1_ND (w g p q : Vec Ideal S288x128 .f32) : un1 (ND w g p q) = ND (un1 w) (un1 g) (un1 p) (un1 q) := rfl

theorem un2_NM (g p : Vec Ideal S288x128 .f32) : un2 (NM g p) = NM (un2 g) (un2 p) := rfl
theorem un2_NV (g q : Vec Ideal S288x128 .f32) : un2 (NV g q) = NV (un2 g) (un2 q) := rfl
theorem un2_ND (w g p q : Vec Ideal S288x128 .f32) : un2 (ND w g p q) = ND (un2 w) (un2 g) (un2 p) (un2 q) := rfl

theorem un3_NM (g p : Vec Ideal S288x128 .f32) : un3 (NM g p) = NM (un3 g) (un3 p) := rfl
theorem un3_NV (g q : Vec Ideal S288x128 .f32) : un3 (NV g q) = NV (un3 g) (un3 q) := rfl
theorem un3_ND (w g p q : Vec Ideal S288x128 .f32) : un3 (ND w g p q) = ND (un3 w) (un3 g) (un3 p) (un3 q) := rfl

theorem un4_NM (g p : Vec Ideal S288x128 .f32) : un4 (NM g p) = NM (un4 g) (un4 p) := rfl
theorem un4_NV (g q : Vec Ideal S288x128 .f32) : un4 (NV g q) = NV (un4 g) (un4 q) := rfl
theorem un4_ND (w g p q : Vec Ideal S288x128 .f32) : un4 (ND w g p q) = ND (un4 w) (un4 g) (un4 p) (un4 q) := rfl

theorem un5_NM (g p : Vec Ideal S288x128 .f32) : un5 (NM g p) = NM (un5 g) (un5 p) := rfl
theorem un5_NV (g q : Vec Ideal S288x128 .f32) : un5 (NV g q) = NV (un5 g) (un5 q) := rfl
theorem un5_ND (w g p q : Vec Ideal S288x128 .f32) : un5 (ND w g p q) = ND (un5 w) (un5 g) (un5 p) (un5 q) := rfl

theorem un6_NM (g p : Vec Ideal S288x128 .f32) : un6 (NM g p) = NM (un6 g) (un6 p) := rfl
theorem un6_NV (g q : Vec Ideal S288x128 .f32) : un6 (NV g q) = NV (un6 g) (un6 q) := rfl
theorem un6_ND (w g p q : Vec Ideal S288x128 .f32) : un6 (ND w g p q) = ND (un6 w) (un6 g) (un6 p) (un6 q) := rfl

theorem tail_0_0 (U : Valuation τ sig (Elt Ideal)) : StableHlo.after [hostOps1].flatten U (Proc.devRef .tc main_v39)
    = un0 (U (Proc.devRef .tc main_v36_0)) := by
  simp only [List.flatten_cons, List.flatten_nil, List.append_nil]
  unfold hostOps1
  after_results
  try rfl

theorem tail_0_1 (U : Valuation τ sig (Elt Ideal)) : StableHlo.after [hostOps1].flatten U (Proc.devRef .tc main_v53)
    = un0 (U (Proc.devRef .tc main_v36_1)) := by
  simp only [List.flatten_cons, List.flatten_nil, List.append_nil]
  unfold hostOps1
  after_results
  try rfl

theorem tail_0_2 (U : Valuation τ sig (Elt Ideal)) : StableHlo.after [hostOps1].flatten U (Proc.devRef .tc main_v67)
    = un0 (U (Proc.devRef .tc main_v36_2)) := by
  simp only [List.flatten_cons, List.flatten_nil, List.append_nil]
  unfold hostOps1
  after_results
  try rfl

theorem tail_1_0 (U : Valuation τ sig (Elt Ideal)) : StableHlo.after [hostOps1].flatten U (Proc.devRef .tc main_v41)
    = un1 (U (Proc.devRef .tc main_v36_0)) := by
  simp only [List.flatten_cons, List.flatten_nil, List.append_nil]
  unfold hostOps1
  after_results
  try rfl

theorem tail_1_1 (U : Valuation τ sig (Elt Ideal)) : StableHlo.after [hostOps1].flatten U (Proc.devRef .tc main_v55)
    = un1 (U (Proc.devRef .tc main_v36_1)) := by
  simp only [List.flatten_cons, List.flatten_nil, List.append_nil]
  unfold hostOps1
  after_results
  try rfl

theorem tail_1_2 (U : Valuation τ sig (Elt Ideal)) : StableHlo.after [hostOps1].flatten U (Proc.devRef .tc main_v69)
    = un1 (U (Proc.devRef .tc main_v36_2)) := by
  simp only [List.flatten_cons, List.flatten_nil, List.append_nil]
  unfold hostOps1
  after_results
  try rfl

theorem tail_2_0 (U : Valuation τ sig (Elt Ideal)) : StableHlo.after [hostOps1].flatten U (Proc.devRef .tc main_v43)
    = un2 (U (Proc.devRef .tc main_v36_0)) := by
  simp only [List.flatten_cons, List.flatten_nil, List.append_nil]
  unfold hostOps1
  after_results
  try rfl

theorem tail_2_1 (U : Valuation τ sig (Elt Ideal)) : StableHlo.after [hostOps1].flatten U (Proc.devRef .tc main_v57)
    = un2 (U (Proc.devRef .tc main_v36_1)) := by
  simp only [List.flatten_cons, List.flatten_nil, List.append_nil]
  unfold hostOps1
  after_results
  try rfl

theorem tail_2_2 (U : Valuation τ sig (Elt Ideal)) : StableHlo.after [hostOps1].flatten U (Proc.devRef .tc main_v71)
    = un2 (U (Proc.devRef .tc main_v36_2)) := by
  simp only [List.flatten_cons, List.flatten_nil, List.append_nil]
  unfold hostOps1
  after_results
  try rfl

theorem tail_3_0 (U : Valuation τ sig (Elt Ideal)) : StableHlo.after [hostOps1].flatten U (Proc.devRef .tc main_v45)
    = un3 (U (Proc.devRef .tc main_v36_0)) := by
  simp only [List.flatten_cons, List.flatten_nil, List.append_nil]
  unfold hostOps1
  after_results
  try rfl

theorem tail_3_1 (U : Valuation τ sig (Elt Ideal)) : StableHlo.after [hostOps1].flatten U (Proc.devRef .tc main_v59)
    = un3 (U (Proc.devRef .tc main_v36_1)) := by
  simp only [List.flatten_cons, List.flatten_nil, List.append_nil]
  unfold hostOps1
  after_results
  try rfl

theorem tail_3_2 (U : Valuation τ sig (Elt Ideal)) : StableHlo.after [hostOps1].flatten U (Proc.devRef .tc main_v73)
    = un3 (U (Proc.devRef .tc main_v36_2)) := by
  simp only [List.flatten_cons, List.flatten_nil, List.append_nil]
  unfold hostOps1
  after_results
  try rfl

theorem tail_4_0 (U : Valuation τ sig (Elt Ideal)) : StableHlo.after [hostOps1].flatten U (Proc.devRef .tc main_v47)
    = un4 (U (Proc.devRef .tc main_v36_0)) := by
  simp only [List.flatten_cons, List.flatten_nil, List.append_nil]
  unfold hostOps1
  after_results
  try rfl

theorem tail_4_1 (U : Valuation τ sig (Elt Ideal)) : StableHlo.after [hostOps1].flatten U (Proc.devRef .tc main_v61)
    = un4 (U (Proc.devRef .tc main_v36_1)) := by
  simp only [List.flatten_cons, List.flatten_nil, List.append_nil]
  unfold hostOps1
  after_results
  try rfl

theorem tail_4_2 (U : Valuation τ sig (Elt Ideal)) : StableHlo.after [hostOps1].flatten U (Proc.devRef .tc main_v75)
    = un4 (U (Proc.devRef .tc main_v36_2)) := by
  simp only [List.flatten_cons, List.flatten_nil, List.append_nil]
  unfold hostOps1
  after_results
  try rfl

theorem tail_5_0 (U : Valuation τ sig (Elt Ideal)) : StableHlo.after [hostOps1].flatten U (Proc.devRef .tc main_v49)
    = un5 (U (Proc.devRef .tc main_v36_0)) := by
  simp only [List.flatten_cons, List.flatten_nil, List.append_nil]
  unfold hostOps1
  after_results
  try rfl

theorem tail_5_1 (U : Valuation τ sig (Elt Ideal)) : StableHlo.after [hostOps1].flatten U (Proc.devRef .tc main_v63)
    = un5 (U (Proc.devRef .tc main_v36_1)) := by
  simp only [List.flatten_cons, List.flatten_nil, List.append_nil]
  unfold hostOps1
  after_results
  try rfl

theorem tail_5_2 (U : Valuation τ sig (Elt Ideal)) : StableHlo.after [hostOps1].flatten U (Proc.devRef .tc main_v77)
    = un5 (U (Proc.devRef .tc main_v36_2)) := by
  simp only [List.flatten_cons, List.flatten_nil, List.append_nil]
  unfold hostOps1
  after_results
  try rfl

theorem tail_6_0 (U : Valuation τ sig (Elt Ideal)) : StableHlo.after [hostOps1].flatten U (Proc.devRef .tc main_v50)
    = un6 (U (Proc.devRef .tc main_v36_0)) := by
  simp only [List.flatten_cons, List.flatten_nil, List.append_nil]
  unfold hostOps1
  after_results
  try rfl

theorem tail_6_1 (U : Valuation τ sig (Elt Ideal)) : StableHlo.after [hostOps1].flatten U (Proc.devRef .tc main_v64)
    = un6 (U (Proc.devRef .tc main_v36_1)) := by
  simp only [List.flatten_cons, List.flatten_nil, List.append_nil]
  unfold hostOps1
  after_results
  try rfl

theorem tail_6_2 (U : Valuation τ sig (Elt Ideal)) : StableHlo.after [hostOps1].flatten U (Proc.devRef .tc main_v78)
    = un6 (U (Proc.devRef .tc main_v36_2)) := by
  simp only [List.flatten_cons, List.flatten_nil, List.append_nil]
  unfold hostOps1
  after_results
  try rfl

end Cert.AdamwSmall

end

end
-- ==== Proof.AdamwPair.lean ====
/- AdamW on the small weights: the call and its reference leave the same arrays. -/
module

public import proofs.«01_k».proof.Defs
public import proofs.«01_k».proof.Proof.Gen.Kernel27Ideal
public import proofs.«01_k».proof.Proof.Gen.Kernel27Ideal.Frame
public import proofs.«01_k».proof.Proof.Gen.Reference27Ideal
public import proofs.«01_k».proof.Proof.Gen.Reference27Ideal.Run
public import proofs.«01_k».proof.Proof.AdamwSmall

@[expose] public section

set_option maxRecDepth 16384

noncomputable section

namespace Cert.AdamwSmall

section
open Idealize.ShloMosaic Idealize.ShloMosaic.TcCoe Cert.Kernel27Ideal Cert.Kernel27Ideal.Gen

variable (m : (ℓ : Loc nD τ sig) → Buf (Elt Ideal) ℓ)

theorem arr_inj : Function.Injective (Pipeline.arrRef spec0) := by decide

theorem out_0_0 (c : Dev nD) : Pipeline.afterTail₀ cfgs (dats m) 0 (V0 m) [hostOps1] c main_v39
    = ND (m ((c : Thread nD τ).loc main_arg0)) (m ((c : Thread nD τ).loc main_arg7)) (m ((c : Thread nD τ).loc main_arg14)) (m ((c : Thread nD τ).loc main_arg21)) := by
  refine (tail_0_0 _).trans ((congrArg un0 (Pipeline.withArrays_arr spec0 arr_inj c (V0 m c) (fun w => (dats m 0 c).arrAt w (cfgs 0).N) 4)).trans ?_)
  rw [final_4, entry_0, entry_1, entry_2, entry_3, un0_ND, un0_pack, un0_pack, un0_pack, un0_pack]

theorem out_0_1 (c : Dev nD) : Pipeline.afterTail₀ cfgs (dats m) 0 (V0 m) [hostOps1] c main_v41
    = ND (m ((c : Thread nD τ).loc main_arg1)) (m ((c : Thread nD τ).loc main_arg8)) (m ((c : Thread nD τ).loc main_arg15)) (m ((c : Thread nD τ).loc main_arg22)) := by
  refine (tail_1_0 _).trans ((congrArg un1 (Pipeline.withArrays_arr spec0 arr_inj c (V0 m c) (fun w => (dats m 0 c).arrAt w (cfgs 0).N) 4)).trans ?_)
  rw [final_4, entry_0, entry_1, entry_2, entry_3, un1_ND, un1_pack, un1_pack, un1_pack, un1_pack]

theorem out_0_2 (c : Dev nD) : Pipeline.afterTail₀ cfgs (dats m) 0 (V0 m) [hostOps1] c main_v43
    = ND (m ((c : Thread nD τ).loc main_arg2)) (m ((c : Thread nD τ).loc main_arg9)) (m ((c : Thread nD τ).loc main_arg16)) (m ((c : Thread nD τ).loc main_arg23)) := by
  refine (tail_2_0 _).trans ((congrArg un2 (Pipeline.withArrays_arr spec0 arr_inj c (V0 m c) (fun w => (dats m 0 c).arrAt w (cfgs 0).N) 4)).trans ?_)
  rw [final_4, entry_0, entry_1, entry_2, entry_3, un2_ND, un2_pack, un2_pack, un2_pack, un2_pack]

theorem out_0_3 (c : Dev nD) : Pipeline.afterTail₀ cfgs (dats m) 0 (V0 m) [hostOps1] c main_v45
    = ND (m ((c : Thread nD τ).loc main_arg3)) (m ((c : Thread nD τ).loc main_arg10)) (m ((c : Thread nD τ).loc main_arg17)) (m ((c : Thread nD τ).loc main_arg24)) := by
  refine (tail_3_0 _).trans ((congrArg un3 (Pipeline.withArrays_arr spec0 arr_inj c (V0 m c) (fun w => (dats m 0 c).arrAt w (cfgs 0).N) 4)).trans ?_)
  rw [final_4, entry_0, entry_1, entry_2, entry_3, un3_ND, un3_pack, un3_pack, un3_pack, un3_pack]

theorem out_0_4 (c : Dev nD) : Pipeline.afterTail₀ cfgs (dats m) 0 (V0 m) [hostOps1] c main_v47
    = ND (m ((c : Thread nD τ).loc main_arg4)) (m ((c : Thread nD τ).loc main_arg11)) (m ((c : Thread nD τ).loc main_arg18)) (m ((c : Thread nD τ).loc main_arg25)) := by
  refine (tail_4_0 _).trans ((congrArg un4 (Pipeline.withArrays_arr spec0 arr_inj c (V0 m c) (fun w => (dats m 0 c).arrAt w (cfgs 0).N) 4)).trans ?_)
  rw [final_4, entry_0, entry_1, entry_2, entry_3, un4_ND, un4_pack, un4_pack, un4_pack, un4_pack]

theorem out_0_5 (c : Dev nD) : Pipeline.afterTail₀ cfgs (dats m) 0 (V0 m) [hostOps1] c main_v49
    = ND (m ((c : Thread nD τ).loc main_arg5)) (m ((c : Thread nD τ).loc main_arg12)) (m ((c : Thread nD τ).loc main_arg19)) (m ((c : Thread nD τ).loc main_arg26)) := by
  refine (tail_5_0 _).trans ((congrArg un5 (Pipeline.withArrays_arr spec0 arr_inj c (V0 m c) (fun w => (dats m 0 c).arrAt w (cfgs 0).N) 4)).trans ?_)
  rw [final_4, entry_0, entry_1, entry_2, entry_3, un5_ND, un5_pack, un5_pack, un5_pack, un5_pack]

theorem out_0_6 (c : Dev nD) : Pipeline.afterTail₀ cfgs (dats m) 0 (V0 m) [hostOps1] c main_v50
    = ND (m ((c : Thread nD τ).loc main_arg6)) (m ((c : Thread nD τ).loc main_arg13)) (m ((c : Thread nD τ).loc main_arg20)) (m ((c : Thread nD τ).loc main_arg27)) := by
  refine (tail_6_0 _).trans ((congrArg un6 (Pipeline.withArrays_arr spec0 arr_inj c (V0 m c) (fun w => (dats m 0 c).arrAt w (cfgs 0).N) 4)).trans ?_)
  rw [final_4, entry_0, entry_1, entry_2, entry_3, un6_ND, un6_pack, un6_pack, un6_pack, un6_pack]

theorem out_1_0 (c : Dev nD) : Pipeline.afterTail₀ cfgs (dats m) 0 (V0 m) [hostOps1] c main_v53
    = NM (m ((c : Thread nD τ).loc main_arg7)) (m ((c : Thread nD τ).loc main_arg14)) := by
  refine (tail_0_1 _).trans ((congrArg un0 (Pipeline.withArrays_arr spec0 arr_inj c (V0 m c) (fun w => (dats m 0 c).arrAt w (cfgs 0).N) 5)).trans ?_)
  rw [final_5, entry_1, entry_2, un0_NM, un0_pack, un0_pack]

theorem out_1_1 (c : Dev nD) : Pipeline.afterTail₀ cfgs (dats m) 0 (V0 m) [hostOps1] c main_v55
    = NM (m ((c : Thread nD τ).loc main_arg8)) (m ((c : Thread nD τ).loc main_arg15)) := by
  refine (tail_1_1 _).trans ((congrArg un1 (Pipeline.withArrays_arr spec0 arr_inj c (V0 m c) (fun w => (dats m 0 c).arrAt w (cfgs 0).N) 5)).trans ?_)
  rw [final_5, entry_1, entry_2, un1_NM, un1_pack, un1_pack]

theorem out_1_2 (c : Dev nD) : Pipeline.afterTail₀ cfgs (dats m) 0 (V0 m) [hostOps1] c main_v57
    = NM (m ((c : Thread nD τ).loc main_arg9)) (m ((c : Thread nD τ).loc main_arg16)) := by
  refine (tail_2_1 _).trans ((congrArg un2 (Pipeline.withArrays_arr spec0 arr_inj c (V0 m c) (fun w => (dats m 0 c).arrAt w (cfgs 0).N) 5)).trans ?_)
  rw [final_5, entry_1, entry_2, un2_NM, un2_pack, un2_pack]

theorem out_1_3 (c : Dev nD) : Pipeline.afterTail₀ cfgs (dats m) 0 (V0 m) [hostOps1] c main_v59
    = NM (m ((c : Thread nD τ).loc main_arg10)) (m ((c : Thread nD τ).loc main_arg17)) := by
  refine (tail_3_1 _).trans ((congrArg un3 (Pipeline.withArrays_arr spec0 arr_inj c (V0 m c) (fun w => (dats m 0 c).arrAt w (cfgs 0).N) 5)).trans ?_)
  rw [final_5, entry_1, entry_2, un3_NM, un3_pack, un3_pack]

theorem out_1_4 (c : Dev nD) : Pipeline.afterTail₀ cfgs (dats m) 0 (V0 m) [hostOps1] c main_v61
    = NM (m ((c : Thread nD τ).loc main_arg11)) (m ((c : Thread nD τ).loc main_arg18)) := by
  refine (tail_4_1 _).trans ((congrArg un4 (Pipeline.withArrays_arr spec0 arr_inj c (V0 m c) (fun w => (dats m 0 c).arrAt w (cfgs 0).N) 5)).trans ?_)
  rw [final_5, entry_1, entry_2, un4_NM, un4_pack, un4_pack]

theorem out_1_5 (c : Dev nD) : Pipeline.afterTail₀ cfgs (dats m) 0 (V0 m) [hostOps1] c main_v63
    = NM (m ((c : Thread nD τ).loc main_arg12)) (m ((c : Thread nD τ).loc main_arg19)) := by
  refine (tail_5_1 _).trans ((congrArg un5 (Pipeline.withArrays_arr spec0 arr_inj c (V0 m c) (fun w => (dats m 0 c).arrAt w (cfgs 0).N) 5)).trans ?_)
  rw [final_5, entry_1, entry_2, un5_NM, un5_pack, un5_pack]

theorem out_1_6 (c : Dev nD) : Pipeline.afterTail₀ cfgs (dats m) 0 (V0 m) [hostOps1] c main_v64
    = NM (m ((c : Thread nD τ).loc main_arg13)) (m ((c : Thread nD τ).loc main_arg20)) := by
  refine (tail_6_1 _).trans ((congrArg un6 (Pipeline.withArrays_arr spec0 arr_inj c (V0 m c) (fun w => (dats m 0 c).arrAt w (cfgs 0).N) 5)).trans ?_)
  rw [final_5, entry_1, entry_2, un6_NM, un6_pack, un6_pack]

theorem out_2_0 (c : Dev nD) : Pipeline.afterTail₀ cfgs (dats m) 0 (V0 m) [hostOps1] c main_v67
    = NV (m ((c : Thread nD τ).loc main_arg7)) (m ((c : Thread nD τ).loc main_arg21)) := by
  refine (tail_0_2 _).trans ((congrArg un0 (Pipeline.withArrays_arr spec0 arr_inj c (V0 m c) (fun w => (dats m 0 c).arrAt w (cfgs 0).N) 6)).trans ?_)
  rw [final_6, entry_1, entry_3, un0_NV, un0_pack, un0_pack]

theorem out_2_1 (c : Dev nD) : Pipeline.afterTail₀ cfgs (dats m) 0 (V0 m) [hostOps1] c main_v69
    = NV (m ((c : Thread nD τ).loc main_arg8)) (m ((c : Thread nD τ).loc main_arg22)) := by
  refine (tail_1_2 _).trans ((congrArg un1 (Pipeline.withArrays_arr spec0 arr_inj c (V0 m c) (fun w => (dats m 0 c).arrAt w (cfgs 0).N) 6)).trans ?_)
  rw [final_6, entry_1, entry_3, un1_NV, un1_pack, un1_pack]

theorem out_2_2 (c : Dev nD) : Pipeline.afterTail₀ cfgs (dats m) 0 (V0 m) [hostOps1] c main_v71
    = NV (m ((c : Thread nD τ).loc main_arg9)) (m ((c : Thread nD τ).loc main_arg23)) := by
  refine (tail_2_2 _).trans ((congrArg un2 (Pipeline.withArrays_arr spec0 arr_inj c (V0 m c) (fun w => (dats m 0 c).arrAt w (cfgs 0).N) 6)).trans ?_)
  rw [final_6, entry_1, entry_3, un2_NV, un2_pack, un2_pack]

theorem out_2_3 (c : Dev nD) : Pipeline.afterTail₀ cfgs (dats m) 0 (V0 m) [hostOps1] c main_v73
    = NV (m ((c : Thread nD τ).loc main_arg10)) (m ((c : Thread nD τ).loc main_arg24)) := by
  refine (tail_3_2 _).trans ((congrArg un3 (Pipeline.withArrays_arr spec0 arr_inj c (V0 m c) (fun w => (dats m 0 c).arrAt w (cfgs 0).N) 6)).trans ?_)
  rw [final_6, entry_1, entry_3, un3_NV, un3_pack, un3_pack]

theorem out_2_4 (c : Dev nD) : Pipeline.afterTail₀ cfgs (dats m) 0 (V0 m) [hostOps1] c main_v75
    = NV (m ((c : Thread nD τ).loc main_arg11)) (m ((c : Thread nD τ).loc main_arg25)) := by
  refine (tail_4_2 _).trans ((congrArg un4 (Pipeline.withArrays_arr spec0 arr_inj c (V0 m c) (fun w => (dats m 0 c).arrAt w (cfgs 0).N) 6)).trans ?_)
  rw [final_6, entry_1, entry_3, un4_NV, un4_pack, un4_pack]

theorem out_2_5 (c : Dev nD) : Pipeline.afterTail₀ cfgs (dats m) 0 (V0 m) [hostOps1] c main_v77
    = NV (m ((c : Thread nD τ).loc main_arg12)) (m ((c : Thread nD τ).loc main_arg26)) := by
  refine (tail_5_2 _).trans ((congrArg un5 (Pipeline.withArrays_arr spec0 arr_inj c (V0 m c) (fun w => (dats m 0 c).arrAt w (cfgs 0).N) 6)).trans ?_)
  rw [final_6, entry_1, entry_3, un5_NV, un5_pack, un5_pack]

theorem out_2_6 (c : Dev nD) : Pipeline.afterTail₀ cfgs (dats m) 0 (V0 m) [hostOps1] c main_v78
    = NV (m ((c : Thread nD τ).loc main_arg13)) (m ((c : Thread nD τ).loc main_arg27)) := by
  refine (tail_6_2 _).trans ((congrArg un6 (Pipeline.withArrays_arr spec0 arr_inj c (V0 m c) (fun w => (dats m 0 c).arrAt w (cfgs 0).N) 6)).trans ?_)
  rw [final_6, entry_1, entry_3, un6_NV, un6_pack, un6_pack]

end

open Idealize.ShloMosaic Idealize.SL.Sem

section
open Cert.Kernel27Ideal

/-- An array of device `c`. -/
abbrev rd (m : (ℓ : Loc nD τ sig) → Buf (Elt Ideal) ℓ) (c : Dev nD) (b : Ref sig .tc) : Buf (Elt Ideal) ((c.tc : Thread nD τ).loc b) :=
  m ((c.tc : Thread nD τ).loc b)

set_option maxHeartbeats 4000000 in
theorem algebraic : Cert.algebraic_Kernel27Ideal_Reference27Ideal := fun m g m' g' _ same => by
  refine ⟨fun c => ND (rd m c main_arg0) (rd m c main_arg7) (rd m c main_arg14) (rd m c main_arg21),
    fun c => ND (rd m c main_arg1) (rd m c main_arg8) (rd m c main_arg15) (rd m c main_arg22),
    fun c => ND (rd m c main_arg2) (rd m c main_arg9) (rd m c main_arg16) (rd m c main_arg23),
    fun c => ND (rd m c main_arg3) (rd m c main_arg10) (rd m c main_arg17) (rd m c main_arg24),
    fun c => ND (rd m c main_arg4) (rd m c main_arg11) (rd m c main_arg18) (rd m c main_arg25),
    fun c => ND (rd m c main_arg5) (rd m c main_arg12) (rd m c main_arg19) (rd m c main_arg26),
    fun c => ND (rd m c main_arg6) (rd m c main_arg13) (rd m c main_arg20) (rd m c main_arg27),
    fun c => NM (rd m c main_arg7) (rd m c main_arg14),
    fun c => NM (rd m c main_arg8) (rd m c main_arg15),
    fun c => NM (rd m c main_arg9) (rd m c main_arg16),
    fun c => NM (rd m c main_arg10) (rd m c main_arg17),
    fun c => NM (rd m c main_arg11) (rd m c main_arg18),
    fun c => NM (rd m c main_arg12) (rd m c main_arg19),
    fun c => NM (rd m c main_arg13) (rd m c main_arg20),
    fun c => NV (rd m c main_arg7) (rd m c main_arg21),
    fun c => NV (rd m c main_arg8) (rd m c main_arg22),
    fun c => NV (rd m c main_arg9) (rd m c main_arg23),
    fun c => NV (rd m c main_arg10) (rd m c main_arg24),
    fun c => NV (rd m c main_arg11) (rd m c main_arg25),
    fun c => NV (rd m c main_arg12) (rd m c main_arg26),
    fun c => NV (rd m c main_arg13) (rd m c main_arg27),
    (θ_run Cert.Kernel27Ideal.defs _ _).mono (fun r h c => ?_) (Kernel27Ideal.Gen.run_main m g),
    (θ_run Reference27Ideal.defs _ _).mono (fun r h c => ?_) (Reference27Ideal.Value.run (F := Ideal) m' g')⟩
  · exact ⟨((h c).2 main_v39 (Pipeline.mem_restRefs_of main_v39 (by decide) (by decide))).trans (out_0_0 m c),
      ((h c).2 main_v41 (Pipeline.mem_restRefs_of main_v41 (by decide) (by decide))).trans (out_0_1 m c),
      ((h c).2 main_v43 (Pipeline.mem_restRefs_of main_v43 (by decide) (by decide))).trans (out_0_2 m c),
      ((h c).2 main_v45 (Pipeline.mem_restRefs_of main_v45 (by decide) (by decide))).trans (out_0_3 m c),
      ((h c).2 main_v47 (Pipeline.mem_restRefs_of main_v47 (by decide) (by decide))).trans (out_0_4 m c),
      ((h c).2 main_v49 (Pipeline.mem_restRefs_of main_v49 (by decide) (by decide))).trans (out_0_5 m c),
      ((h c).2 main_v50 (Pipeline.mem_restRefs_of main_v50 (by decide) (by decide))).trans (out_0_6 m c),
      ((h c).2 main_v53 (Pipeline.mem_restRefs_of main_v53 (by decide) (by decide))).trans (out_1_0 m c),
      ((h c).2 main_v55 (Pipeline.mem_restRefs_of main_v55 (by decide) (by decide))).trans (out_1_1 m c),
      ((h c).2 main_v57 (Pipeline.mem_restRefs_of main_v57 (by decide) (by decide))).trans (out_1_2 m c),
      ((h c).2 main_v59 (Pipeline.mem_restRefs_of main_v59 (by decide) (by decide))).trans (out_1_3 m c),
      ((h c).2 main_v61 (Pipeline.mem_restRefs_of main_v61 (by decide) (by decide))).trans (out_1_4 m c),
      ((h c).2 main_v63 (Pipeline.mem_restRefs_of main_v63 (by decide) (by decide))).trans (out_1_5 m c),
      ((h c).2 main_v64 (Pipeline.mem_restRefs_of main_v64 (by decide) (by decide))).trans (out_1_6 m c),
      ((h c).2 main_v67 (Pipeline.mem_restRefs_of main_v67 (by decide) (by decide))).trans (out_2_0 m c),
      ((h c).2 main_v69 (Pipeline.mem_restRefs_of main_v69 (by decide) (by decide))).trans (out_2_1 m c),
      ((h c).2 main_v71 (Pipeline.mem_restRefs_of main_v71 (by decide) (by decide))).trans (out_2_2 m c),
      ((h c).2 main_v73 (Pipeline.mem_restRefs_of main_v73 (by decide) (by decide))).trans (out_2_3 m c),
      ((h c).2 main_v75 (Pipeline.mem_restRefs_of main_v75 (by decide) (by decide))).trans (out_2_4 m c),
      ((h c).2 main_v77 (Pipeline.mem_restRefs_of main_v77 (by decide) (by decide))).trans (out_2_5 m c),
      ((h c).2 main_v78 (Pipeline.mem_restRefs_of main_v78 (by decide) (by decide))).trans (out_2_6 m c),
      ((h c).2 main_arg0 (Pipeline.mem_restRefs_of main_arg0 (by decide) (by decide))).trans (Kernel27Ideal.Gen.W_main_arg0 m (Kernel27Ideal.Gen.dats m) c),
      ((h c).2 main_arg1 (Pipeline.mem_restRefs_of main_arg1 (by decide) (by decide))).trans (Kernel27Ideal.Gen.W_main_arg1 m (Kernel27Ideal.Gen.dats m) c),
      ((h c).2 main_arg2 (Pipeline.mem_restRefs_of main_arg2 (by decide) (by decide))).trans (Kernel27Ideal.Gen.W_main_arg2 m (Kernel27Ideal.Gen.dats m) c),
      ((h c).2 main_arg3 (Pipeline.mem_restRefs_of main_arg3 (by decide) (by decide))).trans (Kernel27Ideal.Gen.W_main_arg3 m (Kernel27Ideal.Gen.dats m) c),
      ((h c).2 main_arg4 (Pipeline.mem_restRefs_of main_arg4 (by decide) (by decide))).trans (Kernel27Ideal.Gen.W_main_arg4 m (Kernel27Ideal.Gen.dats m) c),
      ((h c).2 main_arg5 (Pipeline.mem_restRefs_of main_arg5 (by decide) (by decide))).trans (Kernel27Ideal.Gen.W_main_arg5 m (Kernel27Ideal.Gen.dats m) c),
      ((h c).2 main_arg6 (Pipeline.mem_restRefs_of main_arg6 (by decide) (by decide))).trans (Kernel27Ideal.Gen.W_main_arg6 m (Kernel27Ideal.Gen.dats m) c),
      ((h c).2 main_arg7 (Pipeline.mem_restRefs_of main_arg7 (by decide) (by decide))).trans (Kernel27Ideal.Gen.W_main_arg7 m (Kernel27Ideal.Gen.dats m) c),
      ((h c).2 main_arg8 (Pipeline.mem_restRefs_of main_arg8 (by decide) (by decide))).trans (Kernel27Ideal.Gen.W_main_arg8 m (Kernel27Ideal.Gen.dats m) c),
      ((h c).2 main_arg9 (Pipeline.mem_restRefs_of main_arg9 (by decide) (by decide))).trans (Kernel27Ideal.Gen.W_main_arg9 m (Kernel27Ideal.Gen.dats m) c),
      ((h c).2 main_arg10 (Pipeline.mem_restRefs_of main_arg10 (by decide) (by decide))).trans (Kernel27Ideal.Gen.W_main_arg10 m (Kernel27Ideal.Gen.dats m) c),
      ((h c).2 main_arg11 (Pipeline.mem_restRefs_of main_arg11 (by decide) (by decide))).trans (Kernel27Ideal.Gen.W_main_arg11 m (Kernel27Ideal.Gen.dats m) c),
      ((h c).2 main_arg12 (Pipeline.mem_restRefs_of main_arg12 (by decide) (by decide))).trans (Kernel27Ideal.Gen.W_main_arg12 m (Kernel27Ideal.Gen.dats m) c),
      ((h c).2 main_arg13 (Pipeline.mem_restRefs_of main_arg13 (by decide) (by decide))).trans (Kernel27Ideal.Gen.W_main_arg13 m (Kernel27Ideal.Gen.dats m) c),
      ((h c).2 main_arg14 (Pipeline.mem_restRefs_of main_arg14 (by decide) (by decide))).trans (Kernel27Ideal.Gen.W_main_arg14 m (Kernel27Ideal.Gen.dats m) c),
      ((h c).2 main_arg15 (Pipeline.mem_restRefs_of main_arg15 (by decide) (by decide))).trans (Kernel27Ideal.Gen.W_main_arg15 m (Kernel27Ideal.Gen.dats m) c),
      ((h c).2 main_arg16 (Pipeline.mem_restRefs_of main_arg16 (by decide) (by decide))).trans (Kernel27Ideal.Gen.W_main_arg16 m (Kernel27Ideal.Gen.dats m) c),
      ((h c).2 main_arg17 (Pipeline.mem_restRefs_of main_arg17 (by decide) (by decide))).trans (Kernel27Ideal.Gen.W_main_arg17 m (Kernel27Ideal.Gen.dats m) c),
      ((h c).2 main_arg18 (Pipeline.mem_restRefs_of main_arg18 (by decide) (by decide))).trans (Kernel27Ideal.Gen.W_main_arg18 m (Kernel27Ideal.Gen.dats m) c),
      ((h c).2 main_arg19 (Pipeline.mem_restRefs_of main_arg19 (by decide) (by decide))).trans (Kernel27Ideal.Gen.W_main_arg19 m (Kernel27Ideal.Gen.dats m) c),
      ((h c).2 main_arg20 (Pipeline.mem_restRefs_of main_arg20 (by decide) (by decide))).trans (Kernel27Ideal.Gen.W_main_arg20 m (Kernel27Ideal.Gen.dats m) c),
      ((h c).2 main_arg21 (Pipeline.mem_restRefs_of main_arg21 (by decide) (by decide))).trans (Kernel27Ideal.Gen.W_main_arg21 m (Kernel27Ideal.Gen.dats m) c),
      ((h c).2 main_arg22 (Pipeline.mem_restRefs_of main_arg22 (by decide) (by decide))).trans (Kernel27Ideal.Gen.W_main_arg22 m (Kernel27Ideal.Gen.dats m) c),
      ((h c).2 main_arg23 (Pipeline.mem_restRefs_of main_arg23 (by decide) (by decide))).trans (Kernel27Ideal.Gen.W_main_arg23 m (Kernel27Ideal.Gen.dats m) c),
      ((h c).2 main_arg24 (Pipeline.mem_restRefs_of main_arg24 (by decide) (by decide))).trans (Kernel27Ideal.Gen.W_main_arg24 m (Kernel27Ideal.Gen.dats m) c),
      ((h c).2 main_arg25 (Pipeline.mem_restRefs_of main_arg25 (by decide) (by decide))).trans (Kernel27Ideal.Gen.W_main_arg25 m (Kernel27Ideal.Gen.dats m) c),
      ((h c).2 main_arg26 (Pipeline.mem_restRefs_of main_arg26 (by decide) (by decide))).trans (Kernel27Ideal.Gen.W_main_arg26 m (Kernel27Ideal.Gen.dats m) c),
      ((h c).2 main_arg27 (Pipeline.mem_restRefs_of main_arg27 (by decide) (by decide))).trans (Kernel27Ideal.Gen.W_main_arg27 m (Kernel27Ideal.Gen.dats m) c)⟩
  · obtain ⟨s0, s1, s2, s3, s4, s5, s6, s7, s8, s9, s10, s11, s12, s13, s14, s15, s16, s17, s18, s19, s20, s21, s22, s23, s24, s25, s26, s27⟩ := same c
    obtain ⟨h0, h1, h2, h3, h4, h5, h6, h7, h8, h9, h10, h11, h12, h13, h14, h15, h16, h17, h18, h19, h20, hargs⟩ := h c
    refine ⟨?_, ?_, ?_, ?_, ?_, ?_, ?_, ?_, ?_, ?_, ?_, ?_, ?_, ?_, ?_, ?_, ?_, ?_, ?_, ?_, ?_, hargs⟩
    · refine h0.trans ((show _ = ND (m' ((c.tc : Thread Reference27Ideal.nD Reference27Ideal.τ).loc Reference27Ideal.main_arg0)) (m' ((c.tc : Thread Reference27Ideal.nD Reference27Ideal.τ).loc Reference27Ideal.main_arg7)) (m' ((c.tc : Thread Reference27Ideal.nD Reference27Ideal.τ).loc Reference27Ideal.main_arg14)) (m' ((c.tc : Thread Reference27Ideal.nD Reference27Ideal.τ).loc Reference27Ideal.main_arg21)) from rfl).trans ?_)
      rw [s0, s7, s14, s21]
    · refine h1.trans ((show _ = ND (m' ((c.tc : Thread Reference27Ideal.nD Reference27Ideal.τ).loc Reference27Ideal.main_arg1)) (m' ((c.tc : Thread Reference27Ideal.nD Reference27Ideal.τ).loc Reference27Ideal.main_arg8)) (m' ((c.tc : Thread Reference27Ideal.nD Reference27Ideal.τ).loc Reference27Ideal.main_arg15)) (m' ((c.tc : Thread Reference27Ideal.nD Reference27Ideal.τ).loc Reference27Ideal.main_arg22)) from rfl).trans ?_)
      rw [s1, s8, s15, s22]
    · refine h2.trans ((show _ = ND (m' ((c.tc : Thread Reference27Ideal.nD Reference27Ideal.τ).loc Reference27Ideal.main_arg2)) (m' ((c.tc : Thread Reference27Ideal.nD Reference27Ideal.τ).loc Reference27Ideal.main_arg9)) (m' ((c.tc : Thread Reference27Ideal.nD Reference27Ideal.τ).loc Reference27Ideal.main_arg16)) (m' ((c.tc : Thread Reference27Ideal.nD Reference27Ideal.τ).loc Reference27Ideal.main_arg23)) from rfl).trans ?_)
      rw [s2, s9, s16, s23]
    · refine h3.trans ((show _ = ND (m' ((c.tc : Thread Reference27Ideal.nD Reference27Ideal.τ).loc Reference27Ideal.main_arg3)) (m' ((c.tc : Thread Reference27Ideal.nD Reference27Ideal.τ).loc Reference27Ideal.main_arg10)) (m' ((c.tc : Thread Reference27Ideal.nD Reference27Ideal.τ).loc Reference27Ideal.main_arg17)) (m' ((c.tc : Thread Reference27Ideal.nD Reference27Ideal.τ).loc Reference27Ideal.main_arg24)) from rfl).trans ?_)
      rw [s3, s10, s17, s24]
    · refine h4.trans ((show _ = ND (m' ((c.tc : Thread Reference27Ideal.nD Reference27Ideal.τ).loc Reference27Ideal.main_arg4)) (m' ((c.tc : Thread Reference27Ideal.nD Reference27Ideal.τ).loc Reference27Ideal.main_arg11)) (m' ((c.tc : Thread Reference27Ideal.nD Reference27Ideal.τ).loc Reference27Ideal.main_arg18)) (m' ((c.tc : Thread Reference27Ideal.nD Reference27Ideal.τ).loc Reference27Ideal.main_arg25)) from rfl).trans ?_)
      rw [s4, s11, s18, s25]
    · refine h5.trans ((show _ = ND (m' ((c.tc : Thread Reference27Ideal.nD Reference27Ideal.τ).loc Reference27Ideal.main_arg5)) (m' ((c.tc : Thread Reference27Ideal.nD Reference27Ideal.τ).loc Reference27Ideal.main_arg12)) (m' ((c.tc : Thread Reference27Ideal.nD Reference27Ideal.τ).loc Reference27Ideal.main_arg19)) (m' ((c.tc : Thread Reference27Ideal.nD Reference27Ideal.τ).loc Reference27Ideal.main_arg26)) from rfl).trans ?_)
      rw [s5, s12, s19, s26]
    · refine h6.trans ((show _ = ND (m' ((c.tc : Thread Reference27Ideal.nD Reference27Ideal.τ).loc Reference27Ideal.main_arg6)) (m' ((c.tc : Thread Reference27Ideal.nD Reference27Ideal.τ).loc Reference27Ideal.main_arg13)) (m' ((c.tc : Thread Reference27Ideal.nD Reference27Ideal.τ).loc Reference27Ideal.main_arg20)) (m' ((c.tc : Thread Reference27Ideal.nD Reference27Ideal.τ).loc Reference27Ideal.main_arg27)) from rfl).trans ?_)
      rw [s6, s13, s20, s27]
    · refine h7.trans ((show _ = NM (m' ((c.tc : Thread Reference27Ideal.nD Reference27Ideal.τ).loc Reference27Ideal.main_arg7)) (m' ((c.tc : Thread Reference27Ideal.nD Reference27Ideal.τ).loc Reference27Ideal.main_arg14)) from rfl).trans ?_)
      rw [s7, s14]
    · refine h8.trans ((show _ = NM (m' ((c.tc : Thread Reference27Ideal.nD Reference27Ideal.τ).loc Reference27Ideal.main_arg8)) (m' ((c.tc : Thread Reference27Ideal.nD Reference27Ideal.τ).loc Reference27Ideal.main_arg15)) from rfl).trans ?_)
      rw [s8, s15]
    · refine h9.trans ((show _ = NM (m' ((c.tc : Thread Reference27Ideal.nD Reference27Ideal.τ).loc Reference27Ideal.main_arg9)) (m' ((c.tc : Thread Reference27Ideal.nD Reference27Ideal.τ).loc Reference27Ideal.main_arg16)) from rfl).trans ?_)
      rw [s9, s16]
    · refine h10.trans ((show _ = NM (m' ((c.tc : Thread Reference27Ideal.nD Reference27Ideal.τ).loc Reference27Ideal.main_arg10)) (m' ((c.tc : Thread Reference27Ideal.nD Reference27Ideal.τ).loc Reference27Ideal.main_arg17)) from rfl).trans ?_)
      rw [s10, s17]
    · refine h11.trans ((show _ = NM (m' ((c.tc : Thread Reference27Ideal.nD Reference27Ideal.τ).loc Reference27Ideal.main_arg11)) (m' ((c.tc : Thread Reference27Ideal.nD Reference27Ideal.τ).loc Reference27Ideal.main_arg18)) from rfl).trans ?_)
      rw [s11, s18]
    · refine h12.trans ((show _ = NM (m' ((c.tc : Thread Reference27Ideal.nD Reference27Ideal.τ).loc Reference27Ideal.main_arg12)) (m' ((c.tc : Thread Reference27Ideal.nD Reference27Ideal.τ).loc Reference27Ideal.main_arg19)) from rfl).trans ?_)
      rw [s12, s19]
    · refine h13.trans ((show _ = NM (m' ((c.tc : Thread Reference27Ideal.nD Reference27Ideal.τ).loc Reference27Ideal.main_arg13)) (m' ((c.tc : Thread Reference27Ideal.nD Reference27Ideal.τ).loc Reference27Ideal.main_arg20)) from rfl).trans ?_)
      rw [s13, s20]
    · refine h14.trans ((show _ = NV (m' ((c.tc : Thread Reference27Ideal.nD Reference27Ideal.τ).loc Reference27Ideal.main_arg7)) (m' ((c.tc : Thread Reference27Ideal.nD Reference27Ideal.τ).loc Reference27Ideal.main_arg21)) from rfl).trans ?_)
      rw [s7, s21]
    · refine h15.trans ((show _ = NV (m' ((c.tc : Thread Reference27Ideal.nD Reference27Ideal.τ).loc Reference27Ideal.main_arg8)) (m' ((c.tc : Thread Reference27Ideal.nD Reference27Ideal.τ).loc Reference27Ideal.main_arg22)) from rfl).trans ?_)
      rw [s8, s22]
    · refine h16.trans ((show _ = NV (m' ((c.tc : Thread Reference27Ideal.nD Reference27Ideal.τ).loc Reference27Ideal.main_arg9)) (m' ((c.tc : Thread Reference27Ideal.nD Reference27Ideal.τ).loc Reference27Ideal.main_arg23)) from rfl).trans ?_)
      rw [s9, s23]
    · refine h17.trans ((show _ = NV (m' ((c.tc : Thread Reference27Ideal.nD Reference27Ideal.τ).loc Reference27Ideal.main_arg10)) (m' ((c.tc : Thread Reference27Ideal.nD Reference27Ideal.τ).loc Reference27Ideal.main_arg24)) from rfl).trans ?_)
      rw [s10, s24]
    · refine h18.trans ((show _ = NV (m' ((c.tc : Thread Reference27Ideal.nD Reference27Ideal.τ).loc Reference27Ideal.main_arg11)) (m' ((c.tc : Thread Reference27Ideal.nD Reference27Ideal.τ).loc Reference27Ideal.main_arg25)) from rfl).trans ?_)
      rw [s11, s25]
    · refine h19.trans ((show _ = NV (m' ((c.tc : Thread Reference27Ideal.nD Reference27Ideal.τ).loc Reference27Ideal.main_arg12)) (m' ((c.tc : Thread Reference27Ideal.nD Reference27Ideal.τ).loc Reference27Ideal.main_arg26)) from rfl).trans ?_)
      rw [s12, s26]
    · refine h20.trans ((show _ = NV (m' ((c.tc : Thread Reference27Ideal.nD Reference27Ideal.τ).loc Reference27Ideal.main_arg13)) (m' ((c.tc : Thread Reference27Ideal.nD Reference27Ideal.τ).loc Reference27Ideal.main_arg27)) from rfl).trans ?_)
      rw [s13, s27]

end

/-- The reference leaves its arguments as they were; it declares no semaphore. -/
theorem frame_reference : Cert.quiescent_Reference27Ideal := fun m ρ _ =>
  (θ_run Reference27Ideal.defs _ _).mono (fun r h => ⟨fun c => by
      obtain ⟨_, _, _, _, _, _, _, _, _, _, _, _, _, _, _, _, _, _, _, _, _, hargs⟩ := h c
      exact hargs, Idealize.ShloMosaic.sem_eq_zero_of_no_sems (by decide) r.2⟩)
    (Reference27Ideal.Value.run (F := Ideal) m ρ)

end Cert.AdamwSmall

end

end
-- ==== Proof.AdamwWord.lean ====
/- A choice made by comparing two words. -/
module

public import proofs.«01_k».proof.Proof.AdamwSmall

@[expose] public section

set_option maxRecDepth 16384

noncomputable section

namespace Cert.AdamwWord

open Idealize.ShloMosaic Idealize.ShloMosaic.TcCoe

theorem sel_lt (b : BitVec 1) {x y : BitVec 32} (n : Nat) (hx : x.toNat < n) (hy : y.toNat < n) :
    (Scalar.select b x y : BitVec 32).toNat < n := by
  unfold Scalar.select; split <;> assumption

theorem sel_eq {α : Type} {a b : BitVec 32} {x y : α} (h : a = b) : Scalar.select (Scalar.cmpi .eq a b) x y = x := by
  subst h; simp [Scalar.select, Scalar.cmpi, IntOp.cmpi]

theorem sel_ne {α : Type} {a b : BitVec 32} {x y : α} (h : a ≠ b) : Scalar.select (Scalar.cmpi .eq a b) x y = y := by
  have e : (a == b) = false := beq_false_of_ne h
  simp [Scalar.select, Scalar.cmpi, IntOp.cmpi, e]

/-- Choosing between two arrays by one word. -/
theorem pick_word {s t : Shape} {α : Type} (h0 : s.rank = 0) (d : Fin s.rank → Fin t.rank) (hb : s.BroadcastsInDim t d)
    (w : s.Idx → BitVec 32) (k : BitVec 32) (o : s.Idx) (p q : t.Idx → α) (i : t.Idx) :
    select (broadcastInDim t d hb (cmpi .eq w (constantI s 32 k))) p q i = if k = w o then p i else q i := by
  have b : broadcastInDim t d hb (cmpi .eq w (constantI s 32 k)) i = cmpi .eq w (constantI s 32 k) o :=
    broadcastInDim_apply d hb _ i o fun a => absurd a.isLt (by omega)
  have e : select (broadcastInDim t d hb (cmpi .eq w (constantI s 32 k))) p q i = Scalar.select (cmpi .eq w (constantI s 32 k) o) (p i) (q i) :=
    congrArg (fun z => Scalar.select z (p i) (q i)) b
  rw [e]
  by_cases h : k = w o
  · rw [if_pos h]
    simp [Scalar.select, cmpi, IntOp.cmpi, constantI, h]
  · have e : (w o == k) = false := beq_false_of_ne fun e => h e.symm
    rw [if_neg h]
    simp [Scalar.select, cmpi, IntOp.cmpi, constantI, e]

end Cert.AdamwWord

end

end
-- ==== Proof.AdamwHgrnIn.lean ====
/- AdamW on the input weights of the recurrent mixer: half of the rows have their gradient on this device, half on the other. -/
module

public import proofs.«01_k».proof.Proof.Gen.Kernel30
public import proofs.«01_k».proof.Proof.Gen.Kernel30.Frame
public import proofs.«01_k».proof.Proof.Gen.Kernel30Ideal
public import proofs.«01_k».proof.Proof.Gen.Kernel30Ideal.Frame
public import proofs.«01_k».proof.Proof.AdamwSmall
public import proofs.«01_k».proof.Proof.AdamwWord
public import Idealize.ShloMosaic.Lib.Pipeline.ValueKit

@[expose] public section

set_option maxRecDepth 16384

noncomputable section

namespace Cert.AdamwHgrnIn

open Idealize.ShloMosaic Idealize.ShloMosaic.TcCoe Cert.AdamwWord

section
open Cert.Kernel30 Cert.Kernel30.Gen

variable {F : FTy → Type} [FloatOps F] (m : (ℓ : Loc nD τ sig) → Buf (Elt F) ℓ)

/-- Whatever the word says, the block of the half that is read lies inside it. -/
theorem ok_b : Ok m := by
  refine ⟨fun i => ⟨fun a => ?_, Or.inl rfl⟩, fun i => ⟨fun a => ?_, Or.inl rfl⟩⟩
  · have h1 : (i 1).val < 8 := (i 1).isLt
    fin_cases a
    · show ((Scalar.select _ _ _ : BitVec 32).toNat + 1) * 128 ≤ 1024
      exact Nat.mul_le_mul_right 128 (sel_lt _ 8 (by simp; omega) (by decide))
    · exact Nat.le_of_eq (by simp [cc0_transform_3, Shape.size])
  · have h1 : (i 1).val < 8 := (i 1).isLt
    fin_cases a
    · show ((Scalar.select _ _ _ : BitVec 32).toNat + 1) * 128 ≤ 1024
      exact Nat.mul_le_mul_right 128 (sel_lt _ 8 (by decide) (by simp; omega))
    · exact Nat.le_of_eq (by simp [cc0_transform_4, Shape.size])
end

section
open Cert.Kernel30Ideal Cert.Kernel30Ideal.Gen

variable {F : FTy → Type} [FloatOps F] (m : (ℓ : Loc nD τ sig) → Buf (Elt F) ℓ)

/-- Whatever the word says, the block of the half that is read lies inside it. -/
theorem ok_i : Ok m := by
  refine ⟨fun i => ⟨fun a => ?_, Or.inl rfl⟩, fun i => ⟨fun a => ?_, Or.inl rfl⟩⟩
  · have h1 : (i 1).val < 8 := (i 1).isLt
    fin_cases a
    · show ((Scalar.select _ _ _ : BitVec 32).toNat + 1) * 128 ≤ 1024
      exact Nat.mul_le_mul_right 128 (sel_lt _ 8 (by simp; omega) (by decide))
    · exact Nat.le_of_eq (by simp [cc0_transform_3, Shape.size])
  · have h1 : (i 1).val < 8 := (i 1).isLt
    fin_cases a
    · show ((Scalar.select _ _ _ : BitVec 32).toNat + 1) * 128 ≤ 1024
      exact Nat.mul_le_mul_right 128 (sel_lt _ 8 (by decide) (by simp; omega))
    · exact Nat.le_of_eq (by simp [cc0_transform_4, Shape.size])
end

open Cert.Kernel30Ideal Cert.Kernel30Ideal.Gen Cert.AdamwSmall

variable (m : (ℓ : Loc nD τ sig) → Buf (Elt Ideal) ℓ)

theorem blocks : ∀ t : Fin grid0.N, cc0_transform_0 (grid0.coords t) = ![t.val, 0] ∧ cc0_transform_1 (grid0.coords t) = ![t.val, 0]
    ∧ cc0_transform_2 (grid0.coords t) = ![t.val, 0] ∧ cc0_transform_5 (grid0.coords t) = ![t.val, 0] ∧ cc0_transform_6 (grid0.coords t) = ![t.val, 0]
    ∧ cc0_transform_7 (grid0.coords t) = ![t.val, 0] ∧ cc0_transform_8 (grid0.coords t) = ![t.val, 0] := by decide +kernel

theorem steps : ∀ t : Fin grid0.N, t.val < 16 ∧ (grid0.coords t 0).val = t.val / 8 ∧ (grid0.coords t 1).val = t.val % 8 := by decide +kernel

/-- The place in the array of a place of the block of step `t`. -/
def row (t : Fin grid0.N) (y : S128x2048.Idx) : S2048x2048.Idx :=
  ix2 ⟨t.val * 128 + (y 0).val, by have := (steps t).1; have : (y 0).val < 128 := (y 0).isLt; omega⟩ (y 1)

/-- The place in its half. -/
def half (t : Fin grid0.N) (y : S128x2048.Idx) : S1024x2048.Idx :=
  ix2 ⟨t.val % 8 * 128 + (y 0).val, by have : (y 0).val < 128 := (y 0).isLt; omega⟩ (y 1)

/-- The two halves put together, each from this device where it holds it and from the other device where not. -/
def G (x : Vec Ideal S1 .i32) (p q : Vec Ideal S1024x2048 .f32) : Vec Ideal S2048x2048 .f32 := fun i =>
  if BitVec.ofNat 32 ((i 0).val / 1024) = x (ix1 0) then p (ix2 ⟨(i 0).val % 1024, Nat.mod_lt _ (by decide)⟩ (i 1))
  else q (ix2 ⟨(i 0).val % 1024, Nat.mod_lt _ (by decide)⟩ (i 1))

theorem G_row (x : Vec Ideal S1 .i32) (p q : Vec Ideal S1024x2048 .f32) (t : Fin grid0.N) (y : S128x2048.Idx) :
    G x p q (row t y) = if BitVec.ofNat 32 (grid0.coords t 0).val = x (ix1 0) then p (half t y) else q (half t y) := by
  have hy : (y 0).val < 128 := (y 0).isLt
  have h1 : (row t y 0).val / 1024 = (grid0.coords t 0).val := by
    rw [(steps t).2.1]; show (t.val * 128 + (y 0).val) / 1024 = _; omega
  have h2 : (ix2 ⟨(row t y 0).val % 1024, Nat.mod_lt _ (by decide)⟩ (row t y 1) : S1024x2048.Idx) = half t y :=
    congrArg (fun a => (ix2 a (y 1) : S1024x2048.Idx)) (Fin.ext (by show (t.val * 128 + (y 0).val) % 1024 = t.val % 8 * 128 + (y 0).val; omega))
  unfold G
  rw [h1, h2]

/-- The word the call reads is its first argument. -/
theorem word : (tbl m).at 0 (Rect.unit (s := S1) ![0] S1.size inb_S1_S1_0) numel1_S1 = m ((0 : Dev nD).tc.loc main_arg0) (ix1 0) :=
  congrArg (m ((0 : Dev nD).tc.loc main_arg0)) (funext fun a => Fin.ext (by fin_cases a; rfl))

theorem pay1_at (i : grid0.Coords) (w : BitVec 32) (p q : Vec Ideal S128x2048 .f32) (y : S128x2048.Idx) :
    k0_pay1 (F := Ideal) i w p q y = if BitVec.ofNat 32 (i 0).val = w then p y else q y := by
  by_cases h : BitVec.ofNat 32 (i 0).val = w
  · rw [if_pos h]; exact congrFun (sel_eq h) y
  · rw [if_neg h]; exact congrFun (sel_ne h) y

section
variable (i : grid0.Coords) {w w' : BitVec 32} {p p' q q' x x' d d' e e' : Vec Ideal S128x2048 .f32} (y : S128x2048.Idx)

theorem pay1_of (hw : w = w') (hp : p = p') (hq : q = q') : k0_pay1 (F := Ideal) i w p q y = k0_pay1 (F := Ideal) i w' p' q' y := by
  subst hw hp hq; rfl

theorem pay2_of (hw : w = w') (hp : p = p') (hq : q = q') (hd : d = d') :
    k0_pay2 (F := Ideal) i w p q d y = NM (k0_pay1 (F := Ideal) i w' p' q') d' y := by
  subst hw hp hq hd; rfl

theorem pay3_of (hw : w = w') (hp : p = p') (hq : q = q') (he : e = e') :
    k0_pay3 (F := Ideal) i w p q e y = NV (k0_pay1 (F := Ideal) i w' p' q') e' y := by
  subst hw hp hq he; rfl

theorem pay4_of (hw : w = w') (hp : p = p') (hq : q = q') (hx : x = x') (hd : d = d') (he : e = e') :
    k0_pay4 (F := Ideal) i w p q x d e y = ND x' (k0_pay1 (F := Ideal) i w' p' q') d' e' y := by
  subst hw hp hq hx hd he; rfl
end

theorem emb_0 (hO : Ok m) (t : Fin grid0.N) (y : S128x2048.Idx) : (((cfgM m hO).win 0).blk t).view.emb y = row t y := by
  funext a
  refine Fin.ext ((Pipeline.Window.rect_emb_val ((cfgM m hO).win 0) t y a).trans ?_)
  fin_cases a
  · show cc0_transform_0 (grid0.coords t) 0 * 128 + (y 0).val = _
    rw [show cc0_transform_0 (grid0.coords t) = ![t.val, 0] by simp [blocks t]]; rfl
  · show cc0_transform_0 (grid0.coords t) 1 * 2048 + (y 1).val = _
    rw [show cc0_transform_0 (grid0.coords t) = ![t.val, 0] by simp [blocks t]]; simp [row]

theorem emb_1 (hO : Ok m) (t : Fin grid0.N) (y : S128x2048.Idx) : (((cfgM m hO).win 1).blk t).view.emb y = row t y := by
  funext a
  refine Fin.ext ((Pipeline.Window.rect_emb_val ((cfgM m hO).win 1) t y a).trans ?_)
  fin_cases a
  · show cc0_transform_1 (grid0.coords t) 0 * 128 + (y 0).val = _
    rw [show cc0_transform_1 (grid0.coords t) = ![t.val, 0] by simp [blocks t]]; rfl
  · show cc0_transform_1 (grid0.coords t) 1 * 2048 + (y 1).val = _
    rw [show cc0_transform_1 (grid0.coords t) = ![t.val, 0] by simp [blocks t]]; simp [row]

theorem emb_2 (hO : Ok m) (t : Fin grid0.N) (y : S128x2048.Idx) : (((cfgM m hO).win 2).blk t).view.emb y = row t y := by
  funext a
  refine Fin.ext ((Pipeline.Window.rect_emb_val ((cfgM m hO).win 2) t y a).trans ?_)
  fin_cases a
  · show cc0_transform_2 (grid0.coords t) 0 * 128 + (y 0).val = _
    rw [show cc0_transform_2 (grid0.coords t) = ![t.val, 0] by simp [blocks t]]; rfl
  · show cc0_transform_2 (grid0.coords t) 1 * 2048 + (y 1).val = _
    rw [show cc0_transform_2 (grid0.coords t) = ![t.val, 0] by simp [blocks t]]; simp [row]

theorem emb_5 (hO : Ok m) (t : Fin grid0.N) (y : S128x2048.Idx) : (((cfgM m hO).win 5).blk t).view.emb y = row t y := by
  funext a
  refine Fin.ext ((Pipeline.Window.rect_emb_val ((cfgM m hO).win 5) t y a).trans ?_)
  fin_cases a
  · show cc0_transform_5 (grid0.coords t) 0 * 128 + (y 0).val = _
    rw [show cc0_transform_5 (grid0.coords t) = ![t.val, 0] by simp [blocks t]]; rfl
  · show cc0_transform_5 (grid0.coords t) 1 * 2048 + (y 1).val = _
    rw [show cc0_transform_5 (grid0.coords t) = ![t.val, 0] by simp [blocks t]]; simp [row]

theorem emb_6 (hO : Ok m) (t : Fin grid0.N) (y : S128x2048.Idx) : (((cfgM m hO).win 6).blk t).view.emb y = row t y := by
  funext a
  refine Fin.ext ((Pipeline.Window.rect_emb_val ((cfgM m hO).win 6) t y a).trans ?_)
  fin_cases a
  · show cc0_transform_6 (grid0.coords t) 0 * 128 + (y 0).val = _
    rw [show cc0_transform_6 (grid0.coords t) = ![t.val, 0] by simp [blocks t]]; rfl
  · show cc0_transform_6 (grid0.coords t) 1 * 2048 + (y 1).val = _
    rw [show cc0_transform_6 (grid0.coords t) = ![t.val, 0] by simp [blocks t]]; simp [row]

theorem emb_7 (hO : Ok m) (t : Fin grid0.N) (y : S128x2048.Idx) : (((cfgM m hO).win 7).blk t).view.emb y = row t y := by
  funext a
  refine Fin.ext ((Pipeline.Window.rect_emb_val ((cfgM m hO).win 7) t y a).trans ?_)
  fin_cases a
  · show cc0_transform_7 (grid0.coords t) 0 * 128 + (y 0).val = _
    rw [show cc0_transform_7 (grid0.coords t) = ![t.val, 0] by simp [blocks t]]; rfl
  · show cc0_transform_7 (grid0.coords t) 1 * 2048 + (y 1).val = _
    rw [show cc0_transform_7 (grid0.coords t) = ![t.val, 0] by simp [blocks t]]; simp [row]

theorem emb_8 (hO : Ok m) (t : Fin grid0.N) (y : S128x2048.Idx) : (((cfgM m hO).win 8).blk t).view.emb y = row t y := by
  funext a
  refine Fin.ext ((Pipeline.Window.rect_emb_val ((cfgM m hO).win 8) t y a).trans ?_)
  fin_cases a
  · show cc0_transform_8 (grid0.coords t) 0 * 128 + (y 0).val = _
    rw [show cc0_transform_8 (grid0.coords t) = ![t.val, 0] by simp [blocks t]]; rfl
  · show cc0_transform_8 (grid0.coords t) 1 * 2048 + (y 1).val = _
    rw [show cc0_transform_8 (grid0.coords t) = ![t.val, 0] by simp [blocks t]]; simp [row]

theorem emb_3 (hO : Ok m) (t : Fin grid0.N) (y : S128x2048.Idx) (h : BitVec.ofNat 32 (grid0.coords t 0).val = m ((0 : Dev nD).tc.loc main_arg0) (ix1 0)) :
    (((cfgM m hO).win 3).blk t).view.emb y = half t y := by
  have e : cc0_transform_3 inb_S1_S1_0 numel1_S1 (tbl m) (grid0.coords t) = ![t.val % 8, 0] := by
    have h8 : t.val % 8 < 4294967296 := by omega
    show ![(Scalar.select (Scalar.cmpi .eq _ _) _ _ : BitVec 32).toNat, _] = _
    rw [sel_eq (h.trans (word m).symm), (steps t).2.2]
    simp [Nat.mod_eq_of_lt h8]
  funext a
  refine Fin.ext ((Pipeline.Window.rect_emb_val ((cfgM m hO).win 3) t y a).trans ?_)
  fin_cases a
  · show cc0_transform_3 inb_S1_S1_0 numel1_S1 (tbl m) (grid0.coords t) 0 * 128 + (y 0).val = _
    rw [e]; rfl
  · show cc0_transform_3 inb_S1_S1_0 numel1_S1 (tbl m) (grid0.coords t) 1 * 2048 + (y 1).val = _
    rw [e]; simp [half]

theorem emb_4 (hO : Ok m) (t : Fin grid0.N) (y : S128x2048.Idx) (h : BitVec.ofNat 32 (grid0.coords t 0).val ≠ m ((0 : Dev nD).tc.loc main_arg0) (ix1 0)) :
    (((cfgM m hO).win 4).blk t).view.emb y = half t y := by
  have e : cc0_transform_4 inb_S1_S1_0 numel1_S1 (tbl m) (grid0.coords t) = ![t.val % 8, 0] := by
    have h8 : t.val % 8 < 4294967296 := by omega
    show ![(Scalar.select (Scalar.cmpi .eq _ _) _ _ : BitVec 32).toNat, _] = _
    rw [sel_ne fun e => h (e.trans (word m)), (steps t).2.2]
    simp [Nat.mod_eq_of_lt h8]
  funext a
  refine Fin.ext ((Pipeline.Window.rect_emb_val ((cfgM m hO).win 4) t y a).trans ?_)
  fin_cases a
  · show cc0_transform_4 inb_S1_S1_0 numel1_S1 (tbl m) (grid0.coords t) 0 * 128 + (y 0).val = _
    rw [e]; rfl
  · show cc0_transform_4 inb_S1_S1_0 numel1_S1 (tbl m) (grid0.coords t) 1 * 2048 + (y 1).val = _
    rw [e]; simp [half]

/-- The gradient the call takes at a place of a block is the one that belongs there. -/
theorem grad_at (hO : Ok m) (c : Dev nD) (t : Fin grid0.N) (y : S128x2048.Idx) :
    k0_pay1 (F := Ideal) (grid0.coords t) (m ((0 : Dev nD).tc.loc main_arg0) (ix1 0)) (iblk m hO c 3 t) (iblk m hO c 4 t) y
      = G (m (c.tc.loc main_arg0)) (m (c.tc.loc main_arg4)) (m (c.tc.loc main_arg5)) (row t y) := by
  obtain rfl : c = 0 := Subsingleton.elim _ _
  rw [G_row]
  refine (pay1_at _ _ _ _ y).trans ?_
  by_cases h : BitVec.ofNat 32 (grid0.coords t 0).val = m ((0 : Dev nD).tc.loc main_arg0) (ix1 0)
  · exact (if_pos h).trans ((congrArg (m ((0 : Dev nD).tc.loc main_arg4)) (emb_3 m hO t y h)).trans (if_pos h).symm)
  · exact (if_neg h).trans ((congrArg (m ((0 : Dev nD).tc.loc main_arg5)) (emb_4 m hO t y h)).trans (if_neg h).symm)

set_option maxHeartbeats 1000000 in
theorem final_5 (hO : Ok m) (c : Dev nD) : (dats m hO 0 c).arrAt 5 (cfgM m hO).N = G (m (c.tc.loc main_arg0)) (m (c.tc.loc main_arg4)) (m (c.tc.loc main_arg5)) := by
  refine (dats m hO 0 c).arrAt_eq_of_covers 5 _ (of_decide_eq_true (by sl_kernel_rfl)) fun t _ y => ?_
  rw [emb_5 m hO t y]
  blk_simp
  rw [after0_5]
  unfold outsAt0
  frame_out
  refine (pay1_of _ (w' := m ((0 : Dev nD).tc.loc main_arg0) (ix1 0)) y ?_ ((hs0_3 m hO t).read_unread _) ((hs0_4 m hO t).read_unread _) ).trans ?_
  · exact word m
  exact grad_at m hO c t y

set_option maxHeartbeats 1000000 in
theorem final_7 (hO : Ok m) (c : Dev nD) : (dats m hO 0 c).arrAt 7 (cfgM m hO).N = NM (G (m (c.tc.loc main_arg0)) (m (c.tc.loc main_arg4)) (m (c.tc.loc main_arg5))) (m (c.tc.loc main_arg2)) := by
  refine (dats m hO 0 c).arrAt_eq_of_covers 7 _ (of_decide_eq_true (by sl_kernel_rfl)) fun t _ y => ?_
  rw [emb_7 m hO t y]
  blk_simp
  rw [after0_7]
  unfold outsAt0
  frame_out
  refine (pay2_of _ (w' := m ((0 : Dev nD).tc.loc main_arg0) (ix1 0)) y ?_ ((hs0_3 m hO t).read_unread _) ((hs0_4 m hO t).read_unread _) ((hs0_1 m hO t).read_unread _)).trans ?_
  · exact word m
  exact NM_at (grad_at m hO c t y) (congrArg (m (c.tc.loc main_arg2)) (emb_1 m hO t y))

set_option maxHeartbeats 1000000 in
theorem final_8 (hO : Ok m) (c : Dev nD) : (dats m hO 0 c).arrAt 8 (cfgM m hO).N = NV (G (m (c.tc.loc main_arg0)) (m (c.tc.loc main_arg4)) (m (c.tc.loc main_arg5))) (m (c.tc.loc main_arg3)) := by
  refine (dats m hO 0 c).arrAt_eq_of_covers 8 _ (of_decide_eq_true (by sl_kernel_rfl)) fun t _ y => ?_
  rw [emb_8 m hO t y]
  blk_simp
  rw [after0_8]
  unfold outsAt0
  frame_out
  refine (pay3_of _ (w' := m ((0 : Dev nD).tc.loc main_arg0) (ix1 0)) y ?_ ((hs0_3 m hO t).read_unread _) ((hs0_4 m hO t).read_unread _) ((hs0_2 m hO t).read_unread _)).trans ?_
  · exact word m
  exact NV_at (grad_at m hO c t y) (congrArg (m (c.tc.loc main_arg3)) (emb_2 m hO t y))

set_option maxHeartbeats 1000000 in
theorem final_6 (hO : Ok m) (c : Dev nD) : (dats m hO 0 c).arrAt 6 (cfgM m hO).N = ND (m (c.tc.loc main_arg1)) (G (m (c.tc.loc main_arg0)) (m (c.tc.loc main_arg4)) (m (c.tc.loc main_arg5))) (m (c.tc.loc main_arg2)) (m (c.tc.loc main_arg3)) := by
  refine (dats m hO 0 c).arrAt_eq_of_covers 6 _ (of_decide_eq_true (by sl_kernel_rfl)) fun t _ y => ?_
  rw [emb_6 m hO t y]
  blk_simp
  rw [after0_6]
  unfold outsAt0
  frame_out
  refine (pay4_of _ (w' := m ((0 : Dev nD).tc.loc main_arg0) (ix1 0)) y ?_ ((hs0_3 m hO t).read_unread _) ((hs0_4 m hO t).read_unread _) ((hs0_0 m hO t).read_unread _) ((hs0_1 m hO t).read_unread _) ((hs0_2 m hO t).read_unread _)).trans ?_
  · exact word m
  exact ND_at (congrArg (m (c.tc.loc main_arg1)) (emb_0 m hO t y)) (grad_at m hO c t y) (congrArg (m (c.tc.loc main_arg2)) (emb_1 m hO t y)) (congrArg (m (c.tc.loc main_arg3)) (emb_2 m hO t y))

end Cert.AdamwHgrnIn

end

end
-- ==== Proof.AdamwHgrnInPair.lean ====
/- AdamW on the input weights of the recurrent mixer: the call and its reference leave the same arrays. -/
module

public import proofs.«01_k».proof.Defs
public import proofs.«01_k».proof.Proof.Gen.Reference30Ideal
public import proofs.«01_k».proof.Proof.Gen.Reference30Ideal.Run
public import proofs.«01_k».proof.Proof.Gen.Reference30Ideal.Read
public import proofs.«01_k».proof.Proof.AdamwHgrnIn

@[expose] public section

set_option maxRecDepth 16384

noncomputable section

namespace Cert.AdamwHgrnIn

open Idealize.ShloMosaic Idealize.ShloMosaic.TcCoe Cert.AdamwSmall

section
open Cert.Reference30Ideal Cert.Reference30Ideal.Gen Cert.Reference30Ideal.Read

theorem pick (x : (⟨S1, .i32⟩ : BufTy).Contents (Elt Ideal)) (k : BitVec 32) (p q : Vec Ideal S1024x2048 .f32) (i : S1024x2048.Idx) :
    (select (broadcastInDim S1024x2048 ![] bcast_S_S1024x2048 (cmpi .eq (shapeCast _ x shapeCasts_S1_S_) (constantI S_ 32 k))) p q : Vec Ideal S1024x2048 .f32) i
      = if k = x (ix1 0) then p i else q i := by
  have e : (shapeCast S_ x shapeCasts_S1_S_ : (⟨S_, .i32⟩ : BufTy).Contents (Elt Ideal)) (fun a => a.elim0) = x (ix1 0) := by
    unfold shapeCast
    exact congrArg x (funext fun a => by fin_cases a; exact Subsingleton.elim (α := Fin 1) _ _)
  have b := Cert.AdamwWord.pick_word (s := S_) (t := S1024x2048) rfl ![] bcast_S_S1024x2048 (shapeCast S_ x shapeCasts_S1_S_) k (fun a => a.elim0) p q i
  rw [e] at b
  exact b

/-- The reference's gradient is the two halves put together. -/
theorem ref_G (x : (⟨S1, .i32⟩ : BufTy).Contents (Elt Ideal)) (p q : Vec Ideal S1024x2048 .f32) : val_main_v6 (F := Ideal) x p q = G x p q := by
  funext j
  have hj : (j 0).val < 2048 := (j 0).isLt
  by_cases h : (j 0).val < 1024
  · refine (concatenate_apply_piece (t := S2048x2048) 0 _ _ j 0 (by simp) S1024x2048 (val_main_v2 (F := Ideal) x p q) rfl rfl 0 rfl
      (ix2 ⟨(j 0).val % 1024, Nat.mod_lt _ (by decide)⟩ (j 1)) ?_ ?_).trans ?_
    · intro b hb
      fin_cases b
      · exact absurd rfl hb
      · rfl
    · show 0 + (j 0).val % 1024 = (j 0).val; omega
    · have e : (j 0).val / 1024 = 0 := by omega
      unfold G; rw [e]
      exact pick x 0#32 p q _
  · refine (concatenate_apply_piece (t := S2048x2048) 0 _ _ j 1 (by simp) S1024x2048 (val_main_v5 (F := Ideal) x p q) rfl rfl 1024 rfl
      (ix2 ⟨(j 0).val % 1024, Nat.mod_lt _ (by decide)⟩ (j 1)) ?_ ?_).trans ?_
    · intro b hb
      fin_cases b
      · exact absurd rfl hb
      · rfl
    · show 1024 + (j 0).val % 1024 = (j 0).val; omega
    · have e : (j 0).val / 1024 = 1 := by omega
      unfold G; rw [e]
      exact pick x 1#32 p q _
end

theorem algebraic : Cert.algebraic_Kernel30Ideal_Reference30Ideal := fun m g m' g' _ same => by
  refine ⟨fun c => G (m ((c.tc : Thread Kernel30Ideal.nD Kernel30Ideal.τ).loc Kernel30Ideal.main_arg0)) (m ((c.tc : Thread Kernel30Ideal.nD Kernel30Ideal.τ).loc Kernel30Ideal.main_arg4)) (m ((c.tc : Thread Kernel30Ideal.nD Kernel30Ideal.τ).loc Kernel30Ideal.main_arg5)), fun c => ND (m ((c.tc : Thread Kernel30Ideal.nD Kernel30Ideal.τ).loc Kernel30Ideal.main_arg1)) (G (m ((c.tc : Thread Kernel30Ideal.nD Kernel30Ideal.τ).loc Kernel30Ideal.main_arg0)) (m ((c.tc : Thread Kernel30Ideal.nD Kernel30Ideal.τ).loc Kernel30Ideal.main_arg4)) (m ((c.tc : Thread Kernel30Ideal.nD Kernel30Ideal.τ).loc Kernel30Ideal.main_arg5))) (m ((c.tc : Thread Kernel30Ideal.nD Kernel30Ideal.τ).loc Kernel30Ideal.main_arg2)) (m ((c.tc : Thread Kernel30Ideal.nD Kernel30Ideal.τ).loc Kernel30Ideal.main_arg3)), fun c => NM (G (m ((c.tc : Thread Kernel30Ideal.nD Kernel30Ideal.τ).loc Kernel30Ideal.main_arg0)) (m ((c.tc : Thread Kernel30Ideal.nD Kernel30Ideal.τ).loc Kernel30Ideal.main_arg4)) (m ((c.tc : Thread Kernel30Ideal.nD Kernel30Ideal.τ).loc Kernel30Ideal.main_arg5))) (m ((c.tc : Thread Kernel30Ideal.nD Kernel30Ideal.τ).loc Kernel30Ideal.main_arg2)), fun c => NV (G (m ((c.tc : Thread Kernel30Ideal.nD Kernel30Ideal.τ).loc Kernel30Ideal.main_arg0)) (m ((c.tc : Thread Kernel30Ideal.nD Kernel30Ideal.τ).loc Kernel30Ideal.main_arg4)) (m ((c.tc : Thread Kernel30Ideal.nD Kernel30Ideal.τ).loc Kernel30Ideal.main_arg5))) (m ((c.tc : Thread Kernel30Ideal.nD Kernel30Ideal.τ).loc Kernel30Ideal.main_arg3)),
    (θ_run Kernel30Ideal.defs _ _).mono (fun r h c => ?_) (Kernel30Ideal.Gen.run_main m g (ok_i m)),
    (θ_run Reference30Ideal.defs _ _).mono (fun r h c => ?_) (Reference30Ideal.Value.run (F := Ideal) m' g')⟩
  · have u := h c
    exact ⟨(u.1 5).trans (final_5 m (ok_i m) c), (u.1 6).trans (final_6 m (ok_i m) c), (u.1 7).trans (final_7 m (ok_i m) c), (u.1 8).trans (final_8 m (ok_i m) c),
      (u.2 Kernel30Ideal.main_arg0 (by decide : Kernel30Ideal.main_arg0 ∈ Pipeline.restRefs Kernel30Ideal.sig Kernel30Ideal.spec0)),
      (u.1 0).trans ((Kernel30Ideal.Gen.dats m (ok_i m) 0 c).arrAt_in 0 rfl _), (u.1 1).trans ((Kernel30Ideal.Gen.dats m (ok_i m) 0 c).arrAt_in 1 rfl _), (u.1 2).trans ((Kernel30Ideal.Gen.dats m (ok_i m) 0 c).arrAt_in 2 rfl _), (u.1 3).trans ((Kernel30Ideal.Gen.dats m (ok_i m) 0 c).arrAt_in 3 rfl _), (u.1 4).trans ((Kernel30Ideal.Gen.dats m (ok_i m) 0 c).arrAt_in 4 rfl _)⟩
  · obtain ⟨e0, e1, e2, e3, e4, e5⟩ := same c
    obtain ⟨h1, h2, h3, h4, hargs⟩ := h c
    have eG : Reference30Ideal.Read.val_main_v6 (F := Ideal) (m' ((c.tc : Thread Reference30Ideal.nD Reference30Ideal.τ).loc Reference30Ideal.main_arg0)) (m' ((c.tc : Thread Reference30Ideal.nD Reference30Ideal.τ).loc Reference30Ideal.main_arg4)) (m' ((c.tc : Thread Reference30Ideal.nD Reference30Ideal.τ).loc Reference30Ideal.main_arg5)) = G (m ((c.tc : Thread Kernel30Ideal.nD Kernel30Ideal.τ).loc Kernel30Ideal.main_arg0)) (m ((c.tc : Thread Kernel30Ideal.nD Kernel30Ideal.τ).loc Kernel30Ideal.main_arg4)) (m ((c.tc : Thread Kernel30Ideal.nD Kernel30Ideal.τ).loc Kernel30Ideal.main_arg5)) := by rw [ref_G, e0, e4, e5] <;> rfl
    refine ⟨h1.trans ((Reference30Ideal.Read.val_main_v6_eq _ _ _).trans eG), h2.trans ((Reference30Ideal.Read.val_main_v30_eq _ _ _ _ _ _).trans ?_),
      h3.trans ((Reference30Ideal.Read.val_main_v11_eq _ _ _ _).trans ?_), h4.trans ((Reference30Ideal.Read.val_main_v17_eq _ _ _ _).trans ?_), hargs⟩
    · rw [show Reference30Ideal.Read.val_main_v30 (F := Ideal) (m' ((c.tc : Thread Reference30Ideal.nD Reference30Ideal.τ).loc Reference30Ideal.main_arg0)) (m' ((c.tc : Thread Reference30Ideal.nD Reference30Ideal.τ).loc Reference30Ideal.main_arg1)) (m' ((c.tc : Thread Reference30Ideal.nD Reference30Ideal.τ).loc Reference30Ideal.main_arg2)) (m' ((c.tc : Thread Reference30Ideal.nD Reference30Ideal.τ).loc Reference30Ideal.main_arg3)) (m' ((c.tc : Thread Reference30Ideal.nD Reference30Ideal.τ).loc Reference30Ideal.main_arg4)) (m' ((c.tc : Thread Reference30Ideal.nD Reference30Ideal.τ).loc Reference30Ideal.main_arg5))
          = ND (m' ((c.tc : Thread Reference30Ideal.nD Reference30Ideal.τ).loc Reference30Ideal.main_arg1)) (Reference30Ideal.Read.val_main_v6 (F := Ideal) (m' ((c.tc : Thread Reference30Ideal.nD Reference30Ideal.τ).loc Reference30Ideal.main_arg0)) (m' ((c.tc : Thread Reference30Ideal.nD Reference30Ideal.τ).loc Reference30Ideal.main_arg4)) (m' ((c.tc : Thread Reference30Ideal.nD Reference30Ideal.τ).loc Reference30Ideal.main_arg5))) (m' ((c.tc : Thread Reference30Ideal.nD Reference30Ideal.τ).loc Reference30Ideal.main_arg2)) (m' ((c.tc : Thread Reference30Ideal.nD Reference30Ideal.τ).loc Reference30Ideal.main_arg3)) from rfl, eG, e1, e2, e3] <;> rfl
    · rw [show Reference30Ideal.Read.val_main_v11 (F := Ideal) (m' ((c.tc : Thread Reference30Ideal.nD Reference30Ideal.τ).loc Reference30Ideal.main_arg0)) (m' ((c.tc : Thread Reference30Ideal.nD Reference30Ideal.τ).loc Reference30Ideal.main_arg2)) (m' ((c.tc : Thread Reference30Ideal.nD Reference30Ideal.τ).loc Reference30Ideal.main_arg4)) (m' ((c.tc : Thread Reference30Ideal.nD Reference30Ideal.τ).loc Reference30Ideal.main_arg5))
          = NM (Reference30Ideal.Read.val_main_v6 (F := Ideal) (m' ((c.tc : Thread Reference30Ideal.nD Reference30Ideal.τ).loc Reference30Ideal.main_arg0)) (m' ((c.tc : Thread Reference30Ideal.nD Reference30Ideal.τ).loc Reference30Ideal.main_arg4)) (m' ((c.tc : Thread Reference30Ideal.nD Reference30Ideal.τ).loc Reference30Ideal.main_arg5))) (m' ((c.tc : Thread Reference30Ideal.nD Reference30Ideal.τ).loc Reference30Ideal.main_arg2)) from rfl, eG, e2] <;> rfl
    · rw [show Reference30Ideal.Read.val_main_v17 (F := Ideal) (m' ((c.tc : Thread Reference30Ideal.nD Reference30Ideal.τ).loc Reference30Ideal.main_arg0)) (m' ((c.tc : Thread Reference30Ideal.nD Reference30Ideal.τ).loc Reference30Ideal.main_arg3)) (m' ((c.tc : Thread Reference30Ideal.nD Reference30Ideal.τ).loc Reference30Ideal.main_arg4)) (m' ((c.tc : Thread Reference30Ideal.nD Reference30Ideal.τ).loc Reference30Ideal.main_arg5))
          = NV (Reference30Ideal.Read.val_main_v6 (F := Ideal) (m' ((c.tc : Thread Reference30Ideal.nD Reference30Ideal.τ).loc Reference30Ideal.main_arg0)) (m' ((c.tc : Thread Reference30Ideal.nD Reference30Ideal.τ).loc Reference30Ideal.main_arg4)) (m' ((c.tc : Thread Reference30Ideal.nD Reference30Ideal.τ).loc Reference30Ideal.main_arg5))) (m' ((c.tc : Thread Reference30Ideal.nD Reference30Ideal.τ).loc Reference30Ideal.main_arg3)) from rfl, eG, e3] <;> rfl

/-- The reference leaves its arguments as they were; it declares no semaphore. -/
theorem frame_reference : Cert.quiescent_Reference30Ideal := fun m ρ _ =>
  (θ_run Reference30Ideal.defs _ _).mono (fun r h => ⟨fun c => by
      obtain ⟨_, _, _, _, hargs⟩ := h c
      exact hargs, Idealize.ShloMosaic.sem_eq_zero_of_no_sems (by decide) r.2⟩)
    (Reference30Ideal.Value.run (F := Ideal) m ρ)

end Cert.AdamwHgrnIn

end

end
-- ==== Proof.AdamwOut.lean ====
/- AdamW on the output weights of either mixer: half of the rows have their gradient on this device, half on the other. -/
module

public import proofs.«01_k».proof.Proof.Gen.Kernel31
public import proofs.«01_k».proof.Proof.Gen.Kernel31.Frame
public import proofs.«01_k».proof.Proof.Gen.Kernel31Ideal
public import proofs.«01_k».proof.Proof.Gen.Kernel31Ideal.Frame
public import proofs.«01_k».proof.Proof.AdamwSmall
public import proofs.«01_k».proof.Proof.AdamwWord
public import Idealize.ShloMosaic.Lib.Pipeline.ValueKit

@[expose] public section

set_option maxRecDepth 16384

noncomputable section

namespace Cert.AdamwOut

open Idealize.ShloMosaic Idealize.ShloMosaic.TcCoe Cert.AdamwWord

section
open Cert.Kernel31 Cert.Kernel31.Gen

variable {F : FTy → Type} [FloatOps F] (m : (ℓ : Loc nD τ sig) → Buf (Elt F) ℓ)

/-- Whatever the word says, the block of the half that is read lies inside it. -/
theorem ok_b : Ok m := by
  refine ⟨fun i => ⟨fun a => ?_, Or.inl rfl⟩, fun i => ⟨fun a => ?_, Or.inl rfl⟩⟩
  · have h1 : (i 1).val < 2 := (i 1).isLt
    fin_cases a
    · show ((Scalar.select _ _ _ : BitVec 32).toNat + 1) * 128 ≤ 256
      exact Nat.mul_le_mul_right 128 (sel_lt _ 2 (by simp; omega) (by decide))
    · exact Nat.le_of_eq (by simp [cc0_transform_3, Shape.size])
  · have h1 : (i 1).val < 2 := (i 1).isLt
    fin_cases a
    · show ((Scalar.select _ _ _ : BitVec 32).toNat + 1) * 128 ≤ 256
      exact Nat.mul_le_mul_right 128 (sel_lt _ 2 (by decide) (by simp; omega))
    · exact Nat.le_of_eq (by simp [cc0_transform_4, Shape.size])
end

section
open Cert.Kernel31Ideal Cert.Kernel31Ideal.Gen

variable {F : FTy → Type} [FloatOps F] (m : (ℓ : Loc nD τ sig) → Buf (Elt F) ℓ)

/-- Whatever the word says, the block of the half that is read lies inside it. -/
theorem ok_i : Ok m := by
  refine ⟨fun i => ⟨fun a => ?_, Or.inl rfl⟩, fun i => ⟨fun a => ?_, Or.inl rfl⟩⟩
  · have h1 : (i 1).val < 2 := (i 1).isLt
    fin_cases a
    · show ((Scalar.select _ _ _ : BitVec 32).toNat + 1) * 128 ≤ 256
      exact Nat.mul_le_mul_right 128 (sel_lt _ 2 (by simp; omega) (by decide))
    · exact Nat.le_of_eq (by simp [cc0_transform_3, Shape.size])
  · have h1 : (i 1).val < 2 := (i 1).isLt
    fin_cases a
    · show ((Scalar.select _ _ _ : BitVec 32).toNat + 1) * 128 ≤ 256
      exact Nat.mul_le_mul_right 128 (sel_lt _ 2 (by decide) (by simp; omega))
    · exact Nat.le_of_eq (by simp [cc0_transform_4, Shape.size])
end

open Cert.Kernel31Ideal Cert.Kernel31Ideal.Gen Cert.AdamwSmall

variable (m : (ℓ : Loc nD τ sig) → Buf (Elt Ideal) ℓ)

theorem blocks : ∀ t : Fin grid0.N, cc0_transform_0 (grid0.coords t) = ![t.val, 0] ∧ cc0_transform_1 (grid0.coords t) = ![t.val, 0]
    ∧ cc0_transform_2 (grid0.coords t) = ![t.val, 0] ∧ cc0_transform_5 (grid0.coords t) = ![t.val, 0] ∧ cc0_transform_6 (grid0.coords t) = ![t.val, 0]
    ∧ cc0_transform_7 (grid0.coords t) = ![t.val, 0] ∧ cc0_transform_8 (grid0.coords t) = ![t.val, 0] := by decide +kernel

theorem steps : ∀ t : Fin grid0.N, t.val < 4 ∧ (grid0.coords t 0).val = t.val / 2 ∧ (grid0.coords t 1).val = t.val % 2 := by decide +kernel

/-- The place in the array of a place of the block of step `t`. -/
def row (t : Fin grid0.N) (y : S128x2048.Idx) : S512x2048.Idx :=
  ix2 ⟨t.val * 128 + (y 0).val, by have := (steps t).1; have : (y 0).val < 128 := (y 0).isLt; omega⟩ (y 1)

/-- The place in its half. -/
def half (t : Fin grid0.N) (y : S128x2048.Idx) : S256x2048.Idx :=
  ix2 ⟨t.val % 2 * 128 + (y 0).val, by have : (y 0).val < 128 := (y 0).isLt; omega⟩ (y 1)

/-- The two halves put together, each from this device where it holds it and from the other device where not. -/
def G (x : Vec Ideal S1 .i32) (p q : Vec Ideal S256x2048 .f32) : Vec Ideal S512x2048 .f32 := fun i =>
  if BitVec.ofNat 32 ((i 0).val / 256) = x (ix1 0) then p (ix2 ⟨(i 0).val % 256, Nat.mod_lt _ (by decide)⟩ (i 1))
  else q (ix2 ⟨(i 0).val % 256, Nat.mod_lt _ (by decide)⟩ (i 1))

theorem G_row (x : Vec Ideal S1 .i32) (p q : Vec Ideal S256x2048 .f32) (t : Fin grid0.N) (y : S128x2048.Idx) :
    G x p q (row t y) = if BitVec.ofNat 32 (grid0.coords t 0).val = x (ix1 0) then p (half t y) else q (half t y) := by
  have hy : (y 0).val < 128 := (y 0).isLt
  have h1 : (row t y 0).val / 256 = (grid0.coords t 0).val := by
    rw [(steps t).2.1]; show (t.val * 128 + (y 0).val) / 256 = _; omega
  have h2 : (ix2 ⟨(row t y 0).val % 256, Nat.mod_lt _ (by decide)⟩ (row t y 1) : S256x2048.Idx) = half t y :=
    congrArg (fun a => (ix2 a (y 1) : S256x2048.Idx)) (Fin.ext (by show (t.val * 128 + (y 0).val) % 256 = t.val % 2 * 128 + (y 0).val; omega))
  unfold G
  rw [h1, h2]

/-- The word the call reads is its first argument. -/
theorem word : (tbl m).at 0 (Rect.unit (s := S1) ![0] S1.size inb_S1_S1_0) numel1_S1 = m ((0 : Dev nD).tc.loc main_arg0) (ix1 0) :=
  congrArg (m ((0 : Dev nD).tc.loc main_arg0)) (funext fun a => Fin.ext (by fin_cases a; rfl))

theorem pay1_at (i : grid0.Coords) (w : BitVec 32) (p q : Vec Ideal S128x2048 .f32) (y : S128x2048.Idx) :
    k0_pay1 (F := Ideal) i w p q y = if BitVec.ofNat 32 (i 0).val = w then p y else q y := by
  by_cases h : BitVec.ofNat 32 (i 0).val = w
  · rw [if_pos h]; exact congrFun (sel_eq h) y
  · rw [if_neg h]; exact congrFun (sel_ne h) y

section
variable (i : grid0.Coords) {w w' : BitVec 32} {p p' q q' x x' d d' e e' : Vec Ideal S128x2048 .f32} (y : S128x2048.Idx)

theorem pay1_of (hw : w = w') (hp : p = p') (hq : q = q') : k0_pay1 (F := Ideal) i w p q y = k0_pay1 (F := Ideal) i w' p' q' y := by
  subst hw hp hq; rfl

theorem pay2_of (hw : w = w') (hp : p = p') (hq : q = q') (hd : d = d') :
    k0_pay2 (F := Ideal) i w p q d y = NM (k0_pay1 (F := Ideal) i w' p' q') d' y := by
  subst hw hp hq hd; rfl

theorem pay3_of (hw : w = w') (hp : p = p') (hq : q = q') (he : e = e') :
    k0_pay3 (F := Ideal) i w p q e y = NV (k0_pay1 (F := Ideal) i w' p' q') e' y := by
  subst hw hp hq he; rfl

theorem pay4_of (hw : w = w') (hp : p = p') (hq : q = q') (hx : x = x') (hd : d = d') (he : e = e') :
    k0_pay4 (F := Ideal) i w p q x d e y = ND x' (k0_pay1 (F := Ideal) i w' p' q') d' e' y := by
  subst hw hp hq hx hd he; rfl
end

theorem emb_0 (hO : Ok m) (t : Fin grid0.N) (y : S128x2048.Idx) : (((cfgM m hO).win 0).blk t).view.emb y = row t y := by
  funext a
  refine Fin.ext ((Pipeline.Window.rect_emb_val ((cfgM m hO).win 0) t y a).trans ?_)
  fin_cases a
  · show cc0_transform_0 (grid0.coords t) 0 * 128 + (y 0).val = _
    rw [show cc0_transform_0 (grid0.coords t) = ![t.val, 0] by simp [blocks t]]; rfl
  · show cc0_transform_0 (grid0.coords t) 1 * 2048 + (y 1).val = _
    rw [show cc0_transform_0 (grid0.coords t) = ![t.val, 0] by simp [blocks t]]; simp [row]

theorem emb_1 (hO : Ok m) (t : Fin grid0.N) (y : S128x2048.Idx) : (((cfgM m hO).win 1).blk t).view.emb y = row t y := by
  funext a
  refine Fin.ext ((Pipeline.Window.rect_emb_val ((cfgM m hO).win 1) t y a).trans ?_)
  fin_cases a
  · show cc0_transform_1 (grid0.coords t) 0 * 128 + (y 0).val = _
    rw [show cc0_transform_1 (grid0.coords t) = ![t.val, 0] by simp [blocks t]]; rfl
  · show cc0_transform_1 (grid0.coords t) 1 * 2048 + (y 1).val = _
    rw [show cc0_transform_1 (grid0.coords t) = ![t.val, 0] by simp [blocks t]]; simp [row]

theorem emb_2 (hO : Ok m) (t : Fin grid0.N) (y : S128x2048.Idx) : (((cfgM m hO).win 2).blk t).view.emb y = row t y := by
  funext a
  refine Fin.ext ((Pipeline.Window.rect_emb_val ((cfgM m hO).win 2) t y a).trans ?_)
  fin_cases a
  · show cc0_transform_2 (grid0.coords t) 0 * 128 + (y 0).val = _
    rw [show cc0_transform_2 (grid0.coords t) = ![t.val, 0] by simp [blocks t]]; rfl
  · show cc0_transform_2 (grid0.coords t) 1 * 2048 + (y 1).val = _
    rw [show cc0_transform_2 (grid0.coords t) = ![t.val, 0] by simp [blocks t]]; simp [row]

theorem emb_5 (hO : Ok m) (t : Fin grid0.N) (y : S128x2048.Idx) : (((cfgM m hO).win 5).blk t).view.emb y = row t y := by
  funext a
  refine Fin.ext ((Pipeline.Window.rect_emb_val ((cfgM m hO).win 5) t y a).trans ?_)
  fin_cases a
  · show cc0_transform_5 (grid0.coords t) 0 * 128 + (y 0).val = _
    rw [show cc0_transform_5 (grid0.coords t) = ![t.val, 0] by simp [blocks t]]; rfl
  · show cc0_transform_5 (grid0.coords t) 1 * 2048 + (y 1).val = _
    rw [show cc0_transform_5 (grid0.coords t) = ![t.val, 0] by simp [blocks t]]; simp [row]

theorem emb_6 (hO : Ok m) (t : Fin grid0.N) (y : S128x2048.Idx) : (((cfgM m hO).win 6).blk t).view.emb y = row t y := by
  funext a
  refine Fin.ext ((Pipeline.Window.rect_emb_val ((cfgM m hO).win 6) t y a).trans ?_)
  fin_cases a
  · show cc0_transform_6 (grid0.coords t) 0 * 128 + (y 0).val = _
    rw [show cc0_transform_6 (grid0.coords t) = ![t.val, 0] by simp [blocks t]]; rfl
  · show cc0_transform_6 (grid0.coords t) 1 * 2048 + (y 1).val = _
    rw [show cc0_transform_6 (grid0.coords t) = ![t.val, 0] by simp [blocks t]]; simp [row]

theorem emb_7 (hO : Ok m) (t : Fin grid0.N) (y : S128x2048.Idx) : (((cfgM m hO).win 7).blk t).view.emb y = row t y := by
  funext a
  refine Fin.ext ((Pipeline.Window.rect_emb_val ((cfgM m hO).win 7) t y a).trans ?_)
  fin_cases a
  · show cc0_transform_7 (grid0.coords t) 0 * 128 + (y 0).val = _
    rw [show cc0_transform_7 (grid0.coords t) = ![t.val, 0] by simp [blocks t]]; rfl
  · show cc0_transform_7 (grid0.coords t) 1 * 2048 + (y 1).val = _
    rw [show cc0_transform_7 (grid0.coords t) = ![t.val, 0] by simp [blocks t]]; simp [row]

theorem emb_8 (hO : Ok m) (t : Fin grid0.N) (y : S128x2048.Idx) : (((cfgM m hO).win 8).blk t).view.emb y = row t y := by
  funext a
  refine Fin.ext ((Pipeline.Window.rect_emb_val ((cfgM m hO).win 8) t y a).trans ?_)
  fin_cases a
  · show cc0_transform_8 (grid0.coords t) 0 * 128 + (y 0).val = _
    rw [show cc0_transform_8 (grid0.coords t) = ![t.val, 0] by simp [blocks t]]; rfl
  · show cc0_transform_8 (grid0.coords t) 1 * 2048 + (y 1).val = _
    rw [show cc0_transform_8 (grid0.coords t) = ![t.val, 0] by simp [blocks t]]; simp [row]

theorem emb_3 (hO : Ok m) (t : Fin grid0.N) (y : S128x2048.Idx) (h : BitVec.ofNat 32 (grid0.coords t 0).val = m ((0 : Dev nD).tc.loc main_arg0) (ix1 0)) :
    (((cfgM m hO).win 3).blk t).view.emb y = half t y := by
  have e : cc0_transform_3 inb_S1_S1_0 numel1_S1 (tbl m) (grid0.coords t) = ![t.val % 2, 0] := by
    have h8 : t.val % 2 < 4294967296 := by omega
    show ![(Scalar.select (Scalar.cmpi .eq _ _) _ _ : BitVec 32).toNat, _] = _
    rw [sel_eq (h.trans (word m).symm), (steps t).2.2]
    simp [Nat.mod_eq_of_lt h8]
  funext a
  refine Fin.ext ((Pipeline.Window.rect_emb_val ((cfgM m hO).win 3) t y a).trans ?_)
  fin_cases a
  · show cc0_transform_3 inb_S1_S1_0 numel1_S1 (tbl m) (grid0.coords t) 0 * 128 + (y 0).val = _
    rw [e]; rfl
  · show cc0_transform_3 inb_S1_S1_0 numel1_S1 (tbl m) (grid0.coords t) 1 * 2048 + (y 1).val = _
    rw [e]; simp [half]

theorem emb_4 (hO : Ok m) (t : Fin grid0.N) (y : S128x2048.Idx) (h : BitVec.ofNat 32 (grid0.coords t 0).val ≠ m ((0 : Dev nD).tc.loc main_arg0) (ix1 0)) :
    (((cfgM m hO).win 4).blk t).view.emb y = half t y := by
  have e : cc0_transform_4 inb_S1_S1_0 numel1_S1 (tbl m) (grid0.coords t) = ![t.val % 2, 0] := by
    have h8 : t.val % 2 < 4294967296 := by omega
    show ![(Scalar.select (Scalar.cmpi .eq _ _) _ _ : BitVec 32).toNat, _] = _
    rw [sel_ne fun e => h (e.trans (word m)), (steps t).2.2]
    simp [Nat.mod_eq_of_lt h8]
  funext a
  refine Fin.ext ((Pipeline.Window.rect_emb_val ((cfgM m hO).win 4) t y a).trans ?_)
  fin_cases a
  · show cc0_transform_4 inb_S1_S1_0 numel1_S1 (tbl m) (grid0.coords t) 0 * 128 + (y 0).val = _
    rw [e]; rfl
  · show cc0_transform_4 inb_S1_S1_0 numel1_S1 (tbl m) (grid0.coords t) 1 * 2048 + (y 1).val = _
    rw [e]; simp [half]

/-- The gradient the call takes at a place of a block is the one that belongs there. -/
theorem grad_at (hO : Ok m) (c : Dev nD) (t : Fin grid0.N) (y : S128x2048.Idx) :
    k0_pay1 (F := Ideal) (grid0.coords t) (m ((0 : Dev nD).tc.loc main_arg0) (ix1 0)) (iblk m hO c 3 t) (iblk m hO c 4 t) y
      = G (m (c.tc.loc main_arg0)) (m (c.tc.loc main_arg4)) (m (c.tc.loc main_arg5)) (row t y) := by
  obtain rfl : c = 0 := Subsingleton.elim _ _
  rw [G_row]
  refine (pay1_at _ _ _ _ y).trans ?_
  by_cases h : BitVec.ofNat 32 (grid0.coords t 0).val = m ((0 : Dev nD).tc.loc main_arg0) (ix1 0)
  · exact (if_pos h).trans ((congrArg (m ((0 : Dev nD).tc.loc main_arg4)) (emb_3 m hO t y h)).trans (if_pos h).symm)
  · exact (if_neg h).trans ((congrArg (m ((0 : Dev nD).tc.loc main_arg5)) (emb_4 m hO t y h)).trans (if_neg h).symm)

set_option maxHeartbeats 1000000 in
theorem final_5 (hO : Ok m) (c : Dev nD) : (dats m hO 0 c).arrAt 5 (cfgM m hO).N = G (m (c.tc.loc main_arg0)) (m (c.tc.loc main_arg4)) (m (c.tc.loc main_arg5)) := by
  refine (dats m hO 0 c).arrAt_eq_of_covers 5 _ (of_decide_eq_true (by sl_kernel_rfl)) fun t _ y => ?_
  rw [emb_5 m hO t y]
  blk_simp
  rw [after0_5]
  unfold outsAt0
  frame_out
  refine (pay1_of _ (w' := m ((0 : Dev nD).tc.loc main_arg0) (ix1 0)) y ?_ ((hs0_3 m hO t).read_unread _) ((hs0_4 m hO t).read_unread _) ).trans ?_
  · exact word m
  exact grad_at m hO c t y

set_option maxHeartbeats 1000000 in
theorem final_7 (hO : Ok m) (c : Dev nD) : (dats m hO 0 c).arrAt 7 (cfgM m hO).N = NM (G (m (c.tc.loc main_arg0)) (m (c.tc.loc main_arg4)) (m (c.tc.loc main_arg5))) (m (c.tc.loc main_arg2)) := by
  refine (dats m hO 0 c).arrAt_eq_of_covers 7 _ (of_decide_eq_true (by sl_kernel_rfl)) fun t _ y => ?_
  rw [emb_7 m hO t y]
  blk_simp
  rw [after0_7]
  unfold outsAt0
  frame_out
  refine (pay2_of _ (w' := m ((0 : Dev nD).tc.loc main_arg0) (ix1 0)) y ?_ ((hs0_3 m hO t).read_unread _) ((hs0_4 m hO t).read_unread _) ((hs0_1 m hO t).read_unread _)).trans ?_
  · exact word m
  exact NM_at (grad_at m hO c t y) (congrArg (m (c.tc.loc main_arg2)) (emb_1 m hO t y))

set_option maxHeartbeats 1000000 in
theorem final_8 (hO : Ok m) (c : Dev nD) : (dats m hO 0 c).arrAt 8 (cfgM m hO).N = NV (G (m (c.tc.loc main_arg0)) (m (c.tc.loc main_arg4)) (m (c.tc.loc main_arg5))) (m (c.tc.loc main_arg3)) := by
  refine (dats m hO 0 c).arrAt_eq_of_covers 8 _ (of_decide_eq_true (by sl_kernel_rfl)) fun t _ y => ?_
  rw [emb_8 m hO t y]
  blk_simp
  rw [after0_8]
  unfold outsAt0
  frame_out
  refine (pay3_of _ (w' := m ((0 : Dev nD).tc.loc main_arg0) (ix1 0)) y ?_ ((hs0_3 m hO t).read_unread _) ((hs0_4 m hO t).read_unread _) ((hs0_2 m hO t).read_unread _)).trans ?_
  · exact word m
  exact NV_at (grad_at m hO c t y) (congrArg (m (c.tc.loc main_arg3)) (emb_2 m hO t y))

set_option maxHeartbeats 1000000 in
theorem final_6 (hO : Ok m) (c : Dev nD) : (dats m hO 0 c).arrAt 6 (cfgM m hO).N = ND (m (c.tc.loc main_arg1)) (G (m (c.tc.loc main_arg0)) (m (c.tc.loc main_arg4)) (m (c.tc.loc main_arg5))) (m (c.tc.loc main_arg2)) (m (c.tc.loc main_arg3)) := by
  refine (dats m hO 0 c).arrAt_eq_of_covers 6 _ (of_decide_eq_true (by sl_kernel_rfl)) fun t _ y => ?_
  rw [emb_6 m hO t y]
  blk_simp
  rw [after0_6]
  unfold outsAt0
  frame_out
  refine (pay4_of _ (w' := m ((0 : Dev nD).tc.loc main_arg0) (ix1 0)) y ?_ ((hs0_3 m hO t).read_unread _) ((hs0_4 m hO t).read_unread _) ((hs0_0 m hO t).read_unread _) ((hs0_1 m hO t).read_unread _) ((hs0_2 m hO t).read_unread _)).trans ?_
  · exact word m
  exact ND_at (congrArg (m (c.tc.loc main_arg1)) (emb_0 m hO t y)) (grad_at m hO c t y) (congrArg (m (c.tc.loc main_arg2)) (emb_1 m hO t y)) (congrArg (m (c.tc.loc main_arg3)) (emb_2 m hO t y))

end Cert.AdamwOut

end

end
-- ==== Proof.AdamwOutPair.lean ====
/- AdamW on the output weights of either mixer: the call and its reference leave the same arrays. -/
module

public import proofs.«01_k».proof.Defs
public import proofs.«01_k».proof.Proof.Gen.Reference31Ideal
public import proofs.«01_k».proof.Proof.Gen.Reference31Ideal.Run
public import proofs.«01_k».proof.Proof.Gen.Reference31Ideal.Read
public import proofs.«01_k».proof.Proof.AdamwOut

@[expose] public section

set_option maxRecDepth 16384

noncomputable section

namespace Cert.AdamwOut

open Idealize.ShloMosaic Idealize.ShloMosaic.TcCoe Cert.AdamwSmall

section
open Cert.Reference31Ideal Cert.Reference31Ideal.Gen Cert.Reference31Ideal.Read

theorem pick (x : (⟨S1, .i32⟩ : BufTy).Contents (Elt Ideal)) (k : BitVec 32) (p q : Vec Ideal S256x2048 .f32) (i : S256x2048.Idx) :
    (select (broadcastInDim S256x2048 ![] bcast_S_S256x2048 (cmpi .eq (shapeCast _ x shapeCasts_S1_S_) (constantI S_ 32 k))) p q : Vec Ideal S256x2048 .f32) i
      = if k = x (ix1 0) then p i else q i := by
  have e : (shapeCast S_ x shapeCasts_S1_S_ : (⟨S_, .i32⟩ : BufTy).Contents (Elt Ideal)) (fun a => a.elim0) = x (ix1 0) := by
    unfold shapeCast
    exact congrArg x (funext fun a => by fin_cases a; exact Subsingleton.elim (α := Fin 1) _ _)
  have b := Cert.AdamwWord.pick_word (s := S_) (t := S256x2048) rfl ![] bcast_S_S256x2048 (shapeCast S_ x shapeCasts_S1_S_) k (fun a => a.elim0) p q i
  rw [e] at b
  exact b

/-- The reference's gradient is the two halves put together. -/
theorem ref_G (x : (⟨S1, .i32⟩ : BufTy).Contents (Elt Ideal)) (p q : Vec Ideal S256x2048 .f32) : val_main_v6 (F := Ideal) x p q = G x p q := by
  funext j
  have hj : (j 0).val < 512 := (j 0).isLt
  by_cases h : (j 0).val < 256
  · refine (concatenate_apply_piece (t := S512x2048) 0 _ _ j 0 (by simp) S256x2048 (val_main_v2 (F := Ideal) x p q) rfl rfl 0 rfl
      (ix2 ⟨(j 0).val % 256, Nat.mod_lt _ (by decide)⟩ (j 1)) ?_ ?_).trans ?_
    · intro b hb
      fin_cases b
      · exact absurd rfl hb
      · rfl
    · show 0 + (j 0).val % 256 = (j 0).val; omega
    · have e : (j 0).val / 256 = 0 := by omega
      unfold G; rw [e]
      exact pick x 0#32 p q _
  · refine (concatenate_apply_piece (t := S512x2048) 0 _ _ j 1 (by simp) S256x2048 (val_main_v5 (F := Ideal) x p q) rfl rfl 256 rfl
      (ix2 ⟨(j 0).val % 256, Nat.mod_lt _ (by decide)⟩ (j 1)) ?_ ?_).trans ?_
    · intro b hb
      fin_cases b
      · exact absurd rfl hb
      · rfl
    · show 256 + (j 0).val % 256 = (j 0).val; omega
    · have e : (j 0).val / 256 = 1 := by omega
      unfold G; rw [e]
      exact pick x 1#32 p q _
end

theorem algebraic : Cert.algebraic_Kernel31Ideal_Reference31Ideal := fun m g m' g' _ same => by
  refine ⟨fun c => G (m ((c.tc : Thread Kernel31Ideal.nD Kernel31Ideal.τ).loc Kernel31Ideal.main_arg0)) (m ((c.tc : Thread Kernel31Ideal.nD Kernel31Ideal.τ).loc Kernel31Ideal.main_arg4)) (m ((c.tc : Thread Kernel31Ideal.nD Kernel31Ideal.τ).loc Kernel31Ideal.main_arg5)), fun c => ND (m ((c.tc : Thread Kernel31Ideal.nD Kernel31Ideal.τ).loc Kernel31Ideal.main_arg1)) (G (m ((c.tc : Thread Kernel31Ideal.nD Kernel31Ideal.τ).loc Kernel31Ideal.main_arg0)) (m ((c.tc : Thread Kernel31Ideal.nD Kernel31Ideal.τ).loc Kernel31Ideal.main_arg4)) (m ((c.tc : Thread Kernel31Ideal.nD Kernel31Ideal.τ).loc Kernel31Ideal.main_arg5))) (m ((c.tc : Thread Kernel31Ideal.nD Kernel31Ideal.τ).loc Kernel31Ideal.main_arg2)) (m ((c.tc : Thread Kernel31Ideal.nD Kernel31Ideal.τ).loc Kernel31Ideal.main_arg3)), fun c => NM (G (m ((c.tc : Thread Kernel31Ideal.nD Kernel31Ideal.τ).loc Kernel31Ideal.main_arg0)) (m ((c.tc : Thread Kernel31Ideal.nD Kernel31Ideal.τ).loc Kernel31Ideal.main_arg4)) (m ((c.tc : Thread Kernel31Ideal.nD Kernel31Ideal.τ).loc Kernel31Ideal.main_arg5))) (m ((c.tc : Thread Kernel31Ideal.nD Kernel31Ideal.τ).loc Kernel31Ideal.main_arg2)), fun c => NV (G (m ((c.tc : Thread Kernel31Ideal.nD Kernel31Ideal.τ).loc Kernel31Ideal.main_arg0)) (m ((c.tc : Thread Kernel31Ideal.nD Kernel31Ideal.τ).loc Kernel31Ideal.main_arg4)) (m ((c.tc : Thread Kernel31Ideal.nD Kernel31Ideal.τ).loc Kernel31Ideal.main_arg5))) (m ((c.tc : Thread Kernel31Ideal.nD Kernel31Ideal.τ).loc Kernel31Ideal.main_arg3)),
    (θ_run Kernel31Ideal.defs _ _).mono (fun r h c => ?_) (Kernel31Ideal.Gen.run_main m g (ok_i m)),
    (θ_run Reference31Ideal.defs _ _).mono (fun r h c => ?_) (Reference31Ideal.Value.run (F := Ideal) m' g')⟩
  · have u := h c
    exact ⟨(u.1 5).trans (final_5 m (ok_i m) c), (u.1 6).trans (final_6 m (ok_i m) c), (u.1 7).trans (final_7 m (ok_i m) c), (u.1 8).trans (final_8 m (ok_i m) c),
      (u.2 Kernel31Ideal.main_arg0 (by decide : Kernel31Ideal.main_arg0 ∈ Pipeline.restRefs Kernel31Ideal.sig Kernel31Ideal.spec0)),
      (u.1 0).trans ((Kernel31Ideal.Gen.dats m (ok_i m) 0 c).arrAt_in 0 rfl _), (u.1 1).trans ((Kernel31Ideal.Gen.dats m (ok_i m) 0 c).arrAt_in 1 rfl _), (u.1 2).trans ((Kernel31Ideal.Gen.dats m (ok_i m) 0 c).arrAt_in 2 rfl _), (u.1 3).trans ((Kernel31Ideal.Gen.dats m (ok_i m) 0 c).arrAt_in 3 rfl _), (u.1 4).trans ((Kernel31Ideal.Gen.dats m (ok_i m) 0 c).arrAt_in 4 rfl _)⟩
  · obtain ⟨e0, e1, e2, e3, e4, e5⟩ := same c
    obtain ⟨h1, h2, h3, h4, hargs⟩ := h c
    have eG : Reference31Ideal.Read.val_main_v6 (F := Ideal) (m' ((c.tc : Thread Reference31Ideal.nD Reference31Ideal.τ).loc Reference31Ideal.main_arg0)) (m' ((c.tc : Thread Reference31Ideal.nD Reference31Ideal.τ).loc Reference31Ideal.main_arg4)) (m' ((c.tc : Thread Reference31Ideal.nD Reference31Ideal.τ).loc Reference31Ideal.main_arg5)) = G (m ((c.tc : Thread Kernel31Ideal.nD Kernel31Ideal.τ).loc Kernel31Ideal.main_arg0)) (m ((c.tc : Thread Kernel31Ideal.nD Kernel31Ideal.τ).loc Kernel31Ideal.main_arg4)) (m ((c.tc : Thread Kernel31Ideal.nD Kernel31Ideal.τ).loc Kernel31Ideal.main_arg5)) := by rw [ref_G, e0, e4, e5] <;> rfl
    refine ⟨h1.trans ((Reference31Ideal.Read.val_main_v6_eq _ _ _).trans eG), h2.trans ((Reference31Ideal.Read.val_main_v30_eq _ _ _ _ _ _).trans ?_),
      h3.trans ((Reference31Ideal.Read.val_main_v11_eq _ _ _ _).trans ?_), h4.trans ((Reference31Ideal.Read.val_main_v17_eq _ _ _ _).trans ?_), hargs⟩
    · rw [show Reference31Ideal.Read.val_main_v30 (F := Ideal) (m' ((c.tc : Thread Reference31Ideal.nD Reference31Ideal.τ).loc Reference31Ideal.main_arg0)) (m' ((c.tc : Thread Reference31Ideal.nD Reference31Ideal.τ).loc Reference31Ideal.main_arg1)) (m' ((c.tc : Thread Reference31Ideal.nD Reference31Ideal.τ).loc Reference31Ideal.main_arg2)) (m' ((c.tc : Thread Reference31Ideal.nD Reference31Ideal.τ).loc Reference31Ideal.main_arg3)) (m' ((c.tc : Thread Reference31Ideal.nD Reference31Ideal.τ).loc Reference31Ideal.main_arg4)) (m' ((c.tc : Thread Reference31Ideal.nD Reference31Ideal.τ).loc Reference31Ideal.main_arg5))
          = ND (m' ((c.tc : Thread Reference31Ideal.nD Reference31Ideal.τ).loc Reference31Ideal.main_arg1)) (Reference31Ideal.Read.val_main_v6 (F := Ideal) (m' ((c.tc : Thread Reference31Ideal.nD Reference31Ideal.τ).loc Reference31Ideal.main_arg0)) (m' ((c.tc : Thread Reference31Ideal.nD Reference31Ideal.τ).loc Reference31Ideal.main_arg4)) (m' ((c.tc : Thread Reference31Ideal.nD Reference31Ideal.τ).loc Reference31Ideal.main_arg5))) (m' ((c.tc : Thread Reference31Ideal.nD Reference31Ideal.τ).loc Reference31Ideal.main_arg2)) (m' ((c.tc : Thread Reference31Ideal.nD Reference31Ideal.τ).loc Reference31Ideal.main_arg3)) from rfl, eG, e1, e2, e3] <;> rfl
    · rw [show Reference31Ideal.Read.val_main_v11 (F := Ideal) (m' ((c.tc : Thread Reference31Ideal.nD Reference31Ideal.τ).loc Reference31Ideal.main_arg0)) (m' ((c.tc : Thread Reference31Ideal.nD Reference31Ideal.τ).loc Reference31Ideal.main_arg2)) (m' ((c.tc : Thread Reference31Ideal.nD Reference31Ideal.τ).loc Reference31Ideal.main_arg4)) (m' ((c.tc : Thread Reference31Ideal.nD Reference31Ideal.τ).loc Reference31Ideal.main_arg5))
          = NM (Reference31Ideal.Read.val_main_v6 (F := Ideal) (m' ((c.tc : Thread Reference31Ideal.nD Reference31Ideal.τ).loc Reference31Ideal.main_arg0)) (m' ((c.tc : Thread Reference31Ideal.nD Reference31Ideal.τ).loc Reference31Ideal.main_arg4)) (m' ((c.tc : Thread Reference31Ideal.nD Reference31Ideal.τ).loc Reference31Ideal.main_arg5))) (m' ((c.tc : Thread Reference31Ideal.nD Reference31Ideal.τ).loc Reference31Ideal.main_arg2)) from rfl, eG, e2] <;> rfl
    · rw [show Reference31Ideal.Read.val_main_v17 (F := Ideal) (m' ((c.tc : Thread Reference31Ideal.nD Reference31Ideal.τ).loc Reference31Ideal.main_arg0)) (m' ((c.tc : Thread Reference31Ideal.nD Reference31Ideal.τ).loc Reference31Ideal.main_arg3)) (m' ((c.tc : Thread Reference31Ideal.nD Reference31Ideal.τ).loc Reference31Ideal.main_arg4)) (m' ((c.tc : Thread Reference31Ideal.nD Reference31Ideal.τ).loc Reference31Ideal.main_arg5))
          = NV (Reference31Ideal.Read.val_main_v6 (F := Ideal) (m' ((c.tc : Thread Reference31Ideal.nD Reference31Ideal.τ).loc Reference31Ideal.main_arg0)) (m' ((c.tc : Thread Reference31Ideal.nD Reference31Ideal.τ).loc Reference31Ideal.main_arg4)) (m' ((c.tc : Thread Reference31Ideal.nD Reference31Ideal.τ).loc Reference31Ideal.main_arg5))) (m' ((c.tc : Thread Reference31Ideal.nD Reference31Ideal.τ).loc Reference31Ideal.main_arg3)) from rfl, eG, e3] <;> rfl

/-- The reference leaves its arguments as they were; it declares no semaphore. -/
theorem frame_reference : Cert.quiescent_Reference31Ideal := fun m ρ _ =>
  (θ_run Reference31Ideal.defs _ _).mono (fun r h => ⟨fun c => by
      obtain ⟨_, _, _, _, hargs⟩ := h c
      exact hargs, Idealize.ShloMosaic.sem_eq_zero_of_no_sems (by decide) r.2⟩)
    (Reference31Ideal.Value.run (F := Ideal) m ρ)

end Cert.AdamwOut

end

end
-- ==== Proof.AdamwScIn.lean ====
/- AdamW on the input weights of the convolution mixer: half of the rows have their gradient on this device, half on the other. -/
module

public import proofs.«01_k».proof.Proof.Gen.Kernel32
public import proofs.«01_k».proof.Proof.Gen.Kernel32.Frame
public import proofs.«01_k».proof.Proof.Gen.Kernel32Ideal
public import proofs.«01_k».proof.Proof.Gen.Kernel32Ideal.Frame
public import proofs.«01_k».proof.Proof.AdamwSmall
public import proofs.«01_k».proof.Proof.AdamwWord
public import Idealize.ShloMosaic.Lib.Pipeline.ValueKit

@[expose] public section

set_option maxRecDepth 16384

noncomputable section

namespace Cert.AdamwScIn

open Idealize.ShloMosaic Idealize.ShloMosaic.TcCoe Cert.AdamwWord

section
open Cert.Kernel32 Cert.Kernel32.Gen

variable {F : FTy → Type} [FloatOps F] (m : (ℓ : Loc nD τ sig) → Buf (Elt F) ℓ)

/-- Whatever the word says, the block of the half that is read lies inside it. -/
theorem ok_b : Ok m := by
  refine ⟨fun i => ⟨fun a => ?_, Or.inl rfl⟩, fun i => ⟨fun a => ?_, Or.inl rfl⟩⟩
  · have h1 : (i 1).val < 8 := (i 1).isLt
    fin_cases a
    · show ((Scalar.select _ _ _ : BitVec 32).toNat + 1) * 128 ≤ 1024
      exact Nat.mul_le_mul_right 128 (sel_lt _ 8 (by simp; omega) (by decide))
    · exact Nat.le_of_eq (by simp [cc0_transform_3, Shape.size])
  · have h1 : (i 1).val < 8 := (i 1).isLt
    fin_cases a
    · show ((Scalar.select _ _ _ : BitVec 32).toNat + 1) * 128 ≤ 1024
      exact Nat.mul_le_mul_right 128 (sel_lt _ 8 (by decide) (by simp; omega))
    · exact Nat.le_of_eq (by simp [cc0_transform_4, Shape.size])
end

section
open Cert.Kernel32Ideal Cert.Kernel32Ideal.Gen

variable {F : FTy → Type} [FloatOps F] (m : (ℓ : Loc nD τ sig) → Buf (Elt F) ℓ)

/-- Whatever the word says, the block of the half that is read lies inside it. -/
theorem ok_i : Ok m := by
  refine ⟨fun i => ⟨fun a => ?_, Or.inl rfl⟩, fun i => ⟨fun a => ?_, Or.inl rfl⟩⟩
  · have h1 : (i 1).val < 8 := (i 1).isLt
    fin_cases a
    · show ((Scalar.select _ _ _ : BitVec 32).toNat + 1) * 128 ≤ 1024
      exact Nat.mul_le_mul_right 128 (sel_lt _ 8 (by simp; omega) (by decide))
    · exact Nat.le_of_eq (by simp [cc0_transform_3, Shape.size])
  · have h1 : (i 1).val < 8 := (i 1).isLt
    fin_cases a
    · show ((Scalar.select _ _ _ : BitVec 32).toNat + 1) * 128 ≤ 1024
      exact Nat.mul_le_mul_right 128 (sel_lt _ 8 (by decide) (by simp; omega))
    · exact Nat.le_of_eq (by simp [cc0_transform_4, Shape.size])
end

open Cert.Kernel32Ideal Cert.Kernel32Ideal.Gen Cert.AdamwSmall

variable (m : (ℓ : Loc nD τ sig) → Buf (Elt Ideal) ℓ)

theorem blocks : ∀ t : Fin grid0.N, cc0_transform_0 (grid0.coords t) = ![t.val, 0] ∧ cc0_transform_1 (grid0.coords t) = ![t.val, 0]
    ∧ cc0_transform_2 (grid0.coords t) = ![t.val, 0] ∧ cc0_transform_5 (grid0.coords t) = ![t.val, 0] ∧ cc0_transform_6 (grid0.coords t) = ![t.val, 0]
    ∧ cc0_transform_7 (grid0.coords t) = ![t.val, 0] ∧ cc0_transform_8 (grid0.coords t) = ![t.val, 0] := by decide +kernel

theorem steps : ∀ t : Fin grid0.N, t.val < 16 ∧ (grid0.coords t 0).val = t.val / 8 ∧ (grid0.coords t 1).val = t.val % 8 := by decide +kernel

/-- The place in the array of a place of the block of step `t`. -/
def row (t : Fin grid0.N) (y : S128x1536.Idx) : S2048x1536.Idx :=
  ix2 ⟨t.val * 128 + (y 0).val, by have := (steps t).1; have : (y 0).val < 128 := (y 0).isLt; omega⟩ (y 1)

/-- The place in its half. -/
def half (t : Fin grid0.N) (y : S128x1536.Idx) : S1024x1536.Idx :=
  ix2 ⟨t.val % 8 * 128 + (y 0).val, by have : (y 0).val < 128 := (y 0).isLt; omega⟩ (y 1)

/-- The two halves put together, each from this device where it holds it and from the other device where not. -/
def G (x : Vec Ideal S1 .i32) (p q : Vec Ideal S1024x1536 .f32) : Vec Ideal S2048x1536 .f32 := fun i =>
  if BitVec.ofNat 32 ((i 0).val / 1024) = x (ix1 0) then p (ix2 ⟨(i 0).val % 1024, Nat.mod_lt _ (by decide)⟩ (i 1))
  else q (ix2 ⟨(i 0).val % 1024, Nat.mod_lt _ (by decide)⟩ (i 1))

theorem G_row (x : Vec Ideal S1 .i32) (p q : Vec Ideal S1024x1536 .f32) (t : Fin grid0.N) (y : S128x1536.Idx) :
    G x p q (row t y) = if BitVec.ofNat 32 (grid0.coords t 0).val = x (ix1 0) then p (half t y) else q (half t y) := by
  have hy : (y 0).val < 128 := (y 0).isLt
  have h1 : (row t y 0).val / 1024 = (grid0.coords t 0).val := by
    rw [(steps t).2.1]; show (t.val * 128 + (y 0).val) / 1024 = _; omega
  have h2 : (ix2 ⟨(row t y 0).val % 1024, Nat.mod_lt _ (by decide)⟩ (row t y 1) : S1024x1536.Idx) = half t y :=
    congrArg (fun a => (ix2 a (y 1) : S1024x1536.Idx)) (Fin.ext (by show (t.val * 128 + (y 0).val) % 1024 = t.val % 8 * 128 + (y 0).val; omega))
  unfold G
  rw [h1, h2]

/-- The word the call reads is its first argument. -/
theorem word : (tbl m).at 0 (Rect.unit (s := S1) ![0] S1.size inb_S1_S1_0) numel1_S1 = m ((0 : Dev nD).tc.loc main_arg0) (ix1 0) :=
  congrArg (m ((0 : Dev nD).tc.loc main_arg0)) (funext fun a => Fin.ext (by fin_cases a; rfl))

theorem pay1_at (i : grid0.Coords) (w : BitVec 32) (p q : Vec Ideal S128x1536 .f32) (y : S128x1536.Idx) :
    k0_pay1 (F := Ideal) i w p q y = if BitVec.ofNat 32 (i 0).val = w then p y else q y := by
  by_cases h : BitVec.ofNat 32 (i 0).val = w
  · rw [if_pos h]; exact congrFun (sel_eq h) y
  · rw [if_neg h]; exact congrFun (sel_ne h) y

section
variable (i : grid0.Coords) {w w' : BitVec 32} {p p' q q' x x' d d' e e' : Vec Ideal S128x1536 .f32} (y : S128x1536.Idx)

theorem pay1_of (hw : w = w') (hp : p = p') (hq : q = q') : k0_pay1 (F := Ideal) i w p q y = k0_pay1 (F := Ideal) i w' p' q' y := by
  subst hw hp hq; rfl

theorem pay2_of (hw : w = w') (hp : p = p') (hq : q = q') (hd : d = d') :
    k0_pay2 (F := Ideal) i w p q d y = NM (k0_pay1 (F := Ideal) i w' p' q') d' y := by
  subst hw hp hq hd; rfl

theorem pay3_of (hw : w = w') (hp : p = p') (hq : q = q') (he : e = e') :
    k0_pay3 (F := Ideal) i w p q e y = NV (k0_pay1 (F := Ideal) i w' p' q') e' y := by
  subst hw hp hq he; rfl

theorem pay4_of (hw : w = w') (hp : p = p') (hq : q = q') (hx : x = x') (hd : d = d') (he : e = e') :
    k0_pay4 (F := Ideal) i w p q x d e y = ND x' (k0_pay1 (F := Ideal) i w' p' q') d' e' y := by
  subst hw hp hq hx hd he; rfl
end

theorem emb_0 (hO : Ok m) (t : Fin grid0.N) (y : S128x1536.Idx) : (((cfgM m hO).win 0).blk t).view.emb y = row t y := by
  funext a
  refine Fin.ext ((Pipeline.Window.rect_emb_val ((cfgM m hO).win 0) t y a).trans ?_)
  fin_cases a
  · show cc0_transform_0 (grid0.coords t) 0 * 128 + (y 0).val = _
    rw [show cc0_transform_0 (grid0.coords t) = ![t.val, 0] by simp [blocks t]]; rfl
  · show cc0_transform_0 (grid0.coords t) 1 * 1536 + (y 1).val = _
    rw [show cc0_transform_0 (grid0.coords t) = ![t.val, 0] by simp [blocks t]]; simp [row]

theorem emb_1 (hO : Ok m) (t : Fin grid0.N) (y : S128x1536.Idx) : (((cfgM m hO).win 1).blk t).view.emb y = row t y := by
  funext a
  refine Fin.ext ((Pipeline.Window.rect_emb_val ((cfgM m hO).win 1) t y a).trans ?_)
  fin_cases a
  · show cc0_transform_1 (grid0.coords t) 0 * 128 + (y 0).val = _
    rw [show cc0_transform_1 (grid0.coords t) = ![t.val, 0] by simp [blocks t]]; rfl
  · show cc0_transform_1 (grid0.coords t) 1 * 1536 + (y 1).val = _
    rw [show cc0_transform_1 (grid0.coords t) = ![t.val, 0] by simp [blocks t]]; simp [row]

theorem emb_2 (hO : Ok m) (t : Fin grid0.N) (y : S128x1536.Idx) : (((cfgM m hO).win 2).blk t).view.emb y = row t y := by
  funext a
  refine Fin.ext ((Pipeline.Window.rect_emb_val ((cfgM m hO).win 2) t y a).trans ?_)
  fin_cases a
  · show cc0_transform_2 (grid0.coords t) 0 * 128 + (y 0).val = _
    rw [show cc0_transform_2 (grid0.coords t) = ![t.val, 0] by simp [blocks t]]; rfl
  · show cc0_transform_2 (grid0.coords t) 1 * 1536 + (y 1).val = _
    rw [show cc0_transform_2 (grid0.coords t) = ![t.val, 0] by simp [blocks t]]; simp [row]

theorem emb_5 (hO : Ok m) (t : Fin grid0.N) (y : S128x1536.Idx) : (((cfgM m hO).win 5).blk t).view.emb y = row t y := by
  funext a
  refine Fin.ext ((Pipeline.Window.rect_emb_val ((cfgM m hO).win 5) t y a).trans ?_)
  fin_cases a
  · show cc0_transform_5 (grid0.coords t) 0 * 128 + (y 0).val = _
    rw [show cc0_transform_5 (grid0.coords t) = ![t.val, 0] by simp [blocks t]]; rfl
  · show cc0_transform_5 (grid0.coords t) 1 * 1536 + (y 1).val = _
    rw [show cc0_transform_5 (grid0.coords t) = ![t.val, 0] by simp [blocks t]]; simp [row]

theorem emb_6 (hO : Ok m) (t : Fin grid0.N) (y : S128x1536.Idx) : (((cfgM m hO).win 6).blk t).view.emb y = row t y := by
  funext a
  refine Fin.ext ((Pipeline.Window.rect_emb_val ((cfgM m hO).win 6) t y a).trans ?_)
  fin_cases a
  · show cc0_transform_6 (grid0.coords t) 0 * 128 + (y 0).val = _
    rw [show cc0_transform_6 (grid0.coords t) = ![t.val, 0] by simp [blocks t]]; rfl
  · show cc0_transform_6 (grid0.coords t) 1 * 1536 + (y 1).val = _
    rw [show cc0_transform_6 (grid0.coords t) = ![t.val, 0] by simp [blocks t]]; simp [row]

theorem emb_7 (hO : Ok m) (t : Fin grid0.N) (y : S128x1536.Idx) : (((cfgM m hO).win 7).blk t).view.emb y = row t y := by
  funext a
  refine Fin.ext ((Pipeline.Window.rect_emb_val ((cfgM m hO).win 7) t y a).trans ?_)
  fin_cases a
  · show cc0_transform_7 (grid0.coords t) 0 * 128 + (y 0).val = _
    rw [show cc0_transform_7 (grid0.coords t) = ![t.val, 0] by simp [blocks t]]; rfl
  · show cc0_transform_7 (grid0.coords t) 1 * 1536 + (y 1).val = _
    rw [show cc0_transform_7 (grid0.coords t) = ![t.val, 0] by simp [blocks t]]; simp [row]

theorem emb_8 (hO : Ok m) (t : Fin grid0.N) (y : S128x1536.Idx) : (((cfgM m hO).win 8).blk t).view.emb y = row t y := by
  funext a
  refine Fin.ext ((Pipeline.Window.rect_emb_val ((cfgM m hO).win 8) t y a).trans ?_)
  fin_cases a
  · show cc0_transform_8 (grid0.coords t) 0 * 128 + (y 0).val = _
    rw [show cc0_transform_8 (grid0.coords t) = ![t.val, 0] by simp [blocks t]]; rfl
  · show cc0_transform_8 (grid0.coords t) 1 * 1536 + (y 1).val = _
    rw [show cc0_transform_8 (grid0.coords t) = ![t.val, 0] by simp [blocks t]]; simp [row]

theorem emb_3 (hO : Ok m) (t : Fin grid0.N) (y : S128x1536.Idx) (h : BitVec.ofNat 32 (grid0.coords t 0).val = m ((0 : Dev nD).tc.loc main_arg0) (ix1 0)) :
    (((cfgM m hO).win 3).blk t).view.emb y = half t y := by
  have e : cc0_transform_3 inb_S1_S1_0 numel1_S1 (tbl m) (grid0.coords t) = ![t.val % 8, 0] := by
    have h8 : t.val % 8 < 4294967296 := by omega
    show ![(Scalar.select (Scalar.cmpi .eq _ _) _ _ : BitVec 32).toNat, _] = _
    rw [sel_eq (h.trans (word m).symm), (steps t).2.2]
    simp [Nat.mod_eq_of_lt h8]
  funext a
  refine Fin.ext ((Pipeline.Window.rect_emb_val ((cfgM m hO).win 3) t y a).trans ?_)
  fin_cases a
  · show cc0_transform_3 inb_S1_S1_0 numel1_S1 (tbl m) (grid0.coords t) 0 * 128 + (y 0).val = _
    rw [e]; rfl
  · show cc0_transform_3 inb_S1_S1_0 numel1_S1 (tbl m) (grid0.coords t) 1 * 1536 + (y 1).val = _
    rw [e]; simp [half]

theorem emb_4 (hO : Ok m) (t : Fin grid0.N) (y : S128x1536.Idx) (h : BitVec.ofNat 32 (grid0.coords t 0).val ≠ m ((0 : Dev nD).tc.loc main_arg0) (ix1 0)) :
    (((cfgM m hO).win 4).blk t).view.emb y = half t y := by
  have e : cc0_transform_4 inb_S1_S1_0 numel1_S1 (tbl m) (grid0.coords t) = ![t.val % 8, 0] := by
    have h8 : t.val % 8 < 4294967296 := by omega
    show ![(Scalar.select (Scalar.cmpi .eq _ _) _ _ : BitVec 32).toNat, _] = _
    rw [sel_ne fun e => h (e.trans (word m)), (steps t).2.2]
    simp [Nat.mod_eq_of_lt h8]
  funext a
  refine Fin.ext ((Pipeline.Window.rect_emb_val ((cfgM m hO).win 4) t y a).trans ?_)
  fin_cases a
  · show cc0_transform_4 inb_S1_S1_0 numel1_S1 (tbl m) (grid0.coords t) 0 * 128 + (y 0).val = _
    rw [e]; rfl
  · show cc0_transform_4 inb_S1_S1_0 numel1_S1 (tbl m) (grid0.coords t) 1 * 1536 + (y 1).val = _
    rw [e]; simp [half]

/-- The gradient the call takes at a place of a block is the one that belongs there. -/
theorem grad_at (hO : Ok m) (c : Dev nD) (t : Fin grid0.N) (y : S128x1536.Idx) :
    k0_pay1 (F := Ideal) (grid0.coords t) (m ((0 : Dev nD).tc.loc main_arg0) (ix1 0)) (iblk m hO c 3 t) (iblk m hO c 4 t) y
      = G (m (c.tc.loc main_arg0)) (m (c.tc.loc main_arg4)) (m (c.tc.loc main_arg5)) (row t y) := by
  obtain rfl : c = 0 := Subsingleton.elim _ _
  rw [G_row]
  refine (pay1_at _ _ _ _ y).trans ?_
  by_cases h : BitVec.ofNat 32 (grid0.coords t 0).val = m ((0 : Dev nD).tc.loc main_arg0) (ix1 0)
  · exact (if_pos h).trans ((congrArg (m ((0 : Dev nD).tc.loc main_arg4)) (emb_3 m hO t y h)).trans (if_pos h).symm)
  · exact (if_neg h).trans ((congrArg (m ((0 : Dev nD).tc.loc main_arg5)) (emb_4 m hO t y h)).trans (if_neg h).symm)

set_option maxHeartbeats 1000000 in
theorem final_5 (hO : Ok m) (c : Dev nD) : (dats m hO 0 c).arrAt 5 (cfgM m hO).N = G (m (c.tc.loc main_arg0)) (m (c.tc.loc main_arg4)) (m (c.tc.loc main_arg5)) := by
  refine (dats m hO 0 c).arrAt_eq_of_covers 5 _ (of_decide_eq_true (by sl_kernel_rfl)) fun t _ y => ?_
  rw [emb_5 m hO t y]
  blk_simp
  rw [after0_5]
  unfold outsAt0
  frame_out
  refine (pay1_of _ (w' := m ((0 : Dev nD).tc.loc main_arg0) (ix1 0)) y ?_ ((hs0_3 m hO t).read_unread _) ((hs0_4 m hO t).read_unread _) ).trans ?_
  · exact word m
  exact grad_at m hO c t y

set_option maxHeartbeats 1000000 in
theorem final_7 (hO : Ok m) (c : Dev nD) : (dats m hO 0 c).arrAt 7 (cfgM m hO).N = NM (G (m (c.tc.loc main_arg0)) (m (c.tc.loc main_arg4)) (m (c.tc.loc main_arg5))) (m (c.tc.loc main_arg2)) := by
  refine (dats m hO 0 c).arrAt_eq_of_covers 7 _ (of_decide_eq_true (by sl_kernel_rfl)) fun t _ y => ?_
  rw [emb_7 m hO t y]
  blk_simp
  rw [after0_7]
  unfold outsAt0
  frame_out
  refine (pay2_of _ (w' := m ((0 : Dev nD).tc.loc main_arg0) (ix1 0)) y ?_ ((hs0_3 m hO t).read_unread _) ((hs0_4 m hO t).read_unread _) ((hs0_1 m hO t).read_unread _)).trans ?_
  · exact word m
  exact NM_at (grad_at m hO c t y) (congrArg (m (c.tc.loc main_arg2)) (emb_1 m hO t y))

set_option maxHeartbeats 1000000 in
theorem final_8 (hO : Ok m) (c : Dev nD) : (dats m hO 0 c).arrAt 8 (cfgM m hO).N = NV (G (m (c.tc.loc main_arg0)) (m (c.tc.loc main_arg4)) (m (c.tc.loc main_arg5))) (m (c.tc.loc main_arg3)) := by
  refine (dats m hO 0 c).arrAt_eq_of_covers 8 _ (of_decide_eq_true (by sl_kernel_rfl)) fun t _ y => ?_
  rw [emb_8 m hO t y]
  blk_simp
  rw [after0_8]
  unfold outsAt0
  frame_out
  refine (pay3_of _ (w' := m ((0 : Dev nD).tc.loc main_arg0) (ix1 0)) y ?_ ((hs0_3 m hO t).read_unread _) ((hs0_4 m hO t).read_unread _) ((hs0_2 m hO t).read_unread _)).trans ?_
  · exact word m
  exact NV_at (grad_at m hO c t y) (congrArg (m (c.tc.loc main_arg3)) (emb_2 m hO t y))

set_option maxHeartbeats 1000000 in
theorem final_6 (hO : Ok m) (c : Dev nD) : (dats m hO 0 c).arrAt 6 (cfgM m hO).N = ND (m (c.tc.loc main_arg1)) (G (m (c.tc.loc main_arg0)) (m (c.tc.loc main_arg4)) (m (c.tc.loc main_arg5))) (m (c.tc.loc main_arg2)) (m (c.tc.loc main_arg3)) := by
  refine (dats m hO 0 c).arrAt_eq_of_covers 6 _ (of_decide_eq_true (by sl_kernel_rfl)) fun t _ y => ?_
  rw [emb_6 m hO t y]
  blk_simp
  rw [after0_6]
  unfold outsAt0
  frame_out
  refine (pay4_of _ (w' := m ((0 : Dev nD).tc.loc main_arg0) (ix1 0)) y ?_ ((hs0_3 m hO t).read_unread _) ((hs0_4 m hO t).read_unread _) ((hs0_0 m hO t).read_unread _) ((hs0_1 m hO t).read_unread _) ((hs0_2 m hO t).read_unread _)).trans ?_
  · exact word m
  exact ND_at (congrArg (m (c.tc.loc main_arg1)) (emb_0 m hO t y)) (grad_at m hO c t y) (congrArg (m (c.tc.loc main_arg2)) (emb_1 m hO t y)) (congrArg (m (c.tc.loc main_arg3)) (emb_2 m hO t y))

end Cert.AdamwScIn

end

end
-- ==== Proof.AdamwScInPair.lean ====
/- AdamW on the input weights of the convolution mixer: the call and its reference leave the same arrays. -/
module

public import proofs.«01_k».proof.Defs
public import proofs.«01_k».proof.Proof.Gen.Reference32Ideal
public import proofs.«01_k».proof.Proof.Gen.Reference32Ideal.Run
public import proofs.«01_k».proof.Proof.Gen.Reference32Ideal.Read
public import proofs.«01_k».proof.Proof.AdamwScIn

@[expose] public section

set_option maxRecDepth 16384

noncomputable section

namespace Cert.AdamwScIn

open Idealize.ShloMosaic Idealize.ShloMosaic.TcCoe Cert.AdamwSmall

section
open Cert.Reference32Ideal Cert.Reference32Ideal.Gen Cert.Reference32Ideal.Read

theorem pick (x : (⟨S1, .i32⟩ : BufTy).Contents (Elt Ideal)) (k : BitVec 32) (p q : Vec Ideal S1024x1536 .f32) (i : S1024x1536.Idx) :
    (select (broadcastInDim S1024x1536 ![] bcast_S_S1024x1536 (cmpi .eq (shapeCast _ x shapeCasts_S1_S_) (constantI S_ 32 k))) p q : Vec Ideal S1024x1536 .f32) i
      = if k = x (ix1 0) then p i else q i := by
  have e : (shapeCast S_ x shapeCasts_S1_S_ : (⟨S_, .i32⟩ : BufTy).Contents (Elt Ideal)) (fun a => a.elim0) = x (ix1 0) := by
    unfold shapeCast
    exact congrArg x (funext fun a => by fin_cases a; exact Subsingleton.elim (α := Fin 1) _ _)
  have b := Cert.AdamwWord.pick_word (s := S_) (t := S1024x1536) rfl ![] bcast_S_S1024x1536 (shapeCast S_ x shapeCasts_S1_S_) k (fun a => a.elim0) p q i
  rw [e] at b
  exact b

/-- The reference's gradient is the two halves put together. -/
theorem ref_G (x : (⟨S1, .i32⟩ : BufTy).Contents (Elt Ideal)) (p q : Vec Ideal S1024x1536 .f32) : val_main_v6 (F := Ideal) x p q = G x p q := by
  funext j
  have hj : (j 0).val < 2048 := (j 0).isLt
  by_cases h : (j 0).val < 1024
  · refine (concatenate_apply_piece (t := S2048x1536) 0 _ _ j 0 (by simp) S1024x1536 (val_main_v2 (F := Ideal) x p q) rfl rfl 0 rfl
      (ix2 ⟨(j 0).val % 1024, Nat.mod_lt _ (by decide)⟩ (j 1)) ?_ ?_).trans ?_
    · intro b hb
      fin_cases b
      · exact absurd rfl hb
      · rfl
    · show 0 + (j 0).val % 1024 = (j 0).val; omega
    · have e : (j 0).val / 1024 = 0 := by omega
      unfold G; rw [e]
      exact pick x 0#32 p q _
  · refine (concatenate_apply_piece (t := S2048x1536) 0 _ _ j 1 (by simp) S1024x1536 (val_main_v5 (F := Ideal) x p q) rfl rfl 1024 rfl
      (ix2 ⟨(j 0).val % 1024, Nat.mod_lt _ (by decide)⟩ (j 1)) ?_ ?_).trans ?_
    · intro b hb
      fin_cases b
      · exact absurd rfl hb
      · rfl
    · show 1024 + (j 0).val % 1024 = (j 0).val; omega
    · have e : (j 0).val / 1024 = 1 := by omega
      unfold G; rw [e]
      exact pick x 1#32 p q _
end

theorem algebraic : Cert.algebraic_Kernel32Ideal_Reference32Ideal := fun m g m' g' _ same => by
  refine ⟨fun c => G (m ((c.tc : Thread Kernel32Ideal.nD Kernel32Ideal.τ).loc Kernel32Ideal.main_arg0)) (m ((c.tc : Thread Kernel32Ideal.nD Kernel32Ideal.τ).loc Kernel32Ideal.main_arg4)) (m ((c.tc : Thread Kernel32Ideal.nD Kernel32Ideal.τ).loc Kernel32Ideal.main_arg5)), fun c => ND (m ((c.tc : Thread Kernel32Ideal.nD Kernel32Ideal.τ).loc Kernel32Ideal.main_arg1)) (G (m ((c.tc : Thread Kernel32Ideal.nD Kernel32Ideal.τ).loc Kernel32Ideal.main_arg0)) (m ((c.tc : Thread Kernel32Ideal.nD Kernel32Ideal.τ).loc Kernel32Ideal.main_arg4)) (m ((c.tc : Thread Kernel32Ideal.nD Kernel32Ideal.τ).loc Kernel32Ideal.main_arg5))) (m ((c.tc : Thread Kernel32Ideal.nD Kernel32Ideal.τ).loc Kernel32Ideal.main_arg2)) (m ((c.tc : Thread Kernel32Ideal.nD Kernel32Ideal.τ).loc Kernel32Ideal.main_arg3)), fun c => NM (G (m ((c.tc : Thread Kernel32Ideal.nD Kernel32Ideal.τ).loc Kernel32Ideal.main_arg0)) (m ((c.tc : Thread Kernel32Ideal.nD Kernel32Ideal.τ).loc Kernel32Ideal.main_arg4)) (m ((c.tc : Thread Kernel32Ideal.nD Kernel32Ideal.τ).loc Kernel32Ideal.main_arg5))) (m ((c.tc : Thread Kernel32Ideal.nD Kernel32Ideal.τ).loc Kernel32Ideal.main_arg2)), fun c => NV (G (m ((c.tc : Thread Kernel32Ideal.nD Kernel32Ideal.τ).loc Kernel32Ideal.main_arg0)) (m ((c.tc : Thread Kernel32Ideal.nD Kernel32Ideal.τ).loc Kernel32Ideal.main_arg4)) (m ((c.tc : Thread Kernel32Ideal.nD Kernel32Ideal.τ).loc Kernel32Ideal.main_arg5))) (m ((c.tc : Thread Kernel32Ideal.nD Kernel32Ideal.τ).loc Kernel32Ideal.main_arg3)),
    (θ_run Kernel32Ideal.defs _ _).mono (fun r h c => ?_) (Kernel32Ideal.Gen.run_main m g (ok_i m)),
    (θ_run Reference32Ideal.defs _ _).mono (fun r h c => ?_) (Reference32Ideal.Value.run (F := Ideal) m' g')⟩
  · have u := h c
    exact ⟨(u.1 5).trans (final_5 m (ok_i m) c), (u.1 6).trans (final_6 m (ok_i m) c), (u.1 7).trans (final_7 m (ok_i m) c), (u.1 8).trans (final_8 m (ok_i m) c),
      (u.2 Kernel32Ideal.main_arg0 (by decide : Kernel32Ideal.main_arg0 ∈ Pipeline.restRefs Kernel32Ideal.sig Kernel32Ideal.spec0)),
      (u.1 0).trans ((Kernel32Ideal.Gen.dats m (ok_i m) 0 c).arrAt_in 0 rfl _), (u.1 1).trans ((Kernel32Ideal.Gen.dats m (ok_i m) 0 c).arrAt_in 1 rfl _), (u.1 2).trans ((Kernel32Ideal.Gen.dats m (ok_i m) 0 c).arrAt_in 2 rfl _), (u.1 3).trans ((Kernel32Ideal.Gen.dats m (ok_i m) 0 c).arrAt_in 3 rfl _), (u.1 4).trans ((Kernel32Ideal.Gen.dats m (ok_i m) 0 c).arrAt_in 4 rfl _)⟩
  · obtain ⟨e0, e1, e2, e3, e4, e5⟩ := same c
    obtain ⟨h1, h2, h3, h4, hargs⟩ := h c
    have eG : Reference32Ideal.Read.val_main_v6 (F := Ideal) (m' ((c.tc : Thread Reference32Ideal.nD Reference32Ideal.τ).loc Reference32Ideal.main_arg0)) (m' ((c.tc : Thread Reference32Ideal.nD Reference32Ideal.τ).loc Reference32Ideal.main_arg4)) (m' ((c.tc : Thread Reference32Ideal.nD Reference32Ideal.τ).loc Reference32Ideal.main_arg5)) = G (m ((c.tc : Thread Kernel32Ideal.nD Kernel32Ideal.τ).loc Kernel32Ideal.main_arg0)) (m ((c.tc : Thread Kernel32Ideal.nD Kernel32Ideal.τ).loc Kernel32Ideal.main_arg4)) (m ((c.tc : Thread Kernel32Ideal.nD Kernel32Ideal.τ).loc Kernel32Ideal.main_arg5)) := by rw [ref_G, e0, e4, e5] <;> rfl
    refine ⟨h1.trans ((Reference32Ideal.Read.val_main_v6_eq _ _ _).trans eG), h2.trans ((Reference32Ideal.Read.val_main_v30_eq _ _ _ _ _ _).trans ?_),
      h3.trans ((Reference32Ideal.Read.val_main_v11_eq _ _ _ _).trans ?_), h4.trans ((Reference32Ideal.Read.val_main_v17_eq _ _ _ _).trans ?_), hargs⟩
    · rw [show Reference32Ideal.Read.val_main_v30 (F := Ideal) (m' ((c.tc : Thread Reference32Ideal.nD Reference32Ideal.τ).loc Reference32Ideal.main_arg0)) (m' ((c.tc : Thread Reference32Ideal.nD Reference32Ideal.τ).loc Reference32Ideal.main_arg1)) (m' ((c.tc : Thread Reference32Ideal.nD Reference32Ideal.τ).loc Reference32Ideal.main_arg2)) (m' ((c.tc : Thread Reference32Ideal.nD Reference32Ideal.τ).loc Reference32Ideal.main_arg3)) (m' ((c.tc : Thread Reference32Ideal.nD Reference32Ideal.τ).loc Reference32Ideal.main_arg4)) (m' ((c.tc : Thread Reference32Ideal.nD Reference32Ideal.τ).loc Reference32Ideal.main_arg5))
          = ND (m' ((c.tc : Thread Reference32Ideal.nD Reference32Ideal.τ).loc Reference32Ideal.main_arg1)) (Reference32Ideal.Read.val_main_v6 (F := Ideal) (m' ((c.tc : Thread Reference32Ideal.nD Reference32Ideal.τ).loc Reference32Ideal.main_arg0)) (m' ((c.tc : Thread Reference32Ideal.nD Reference32Ideal.τ).loc Reference32Ideal.main_arg4)) (m' ((c.tc : Thread Reference32Ideal.nD Reference32Ideal.τ).loc Reference32Ideal.main_arg5))) (m' ((c.tc : Thread Reference32Ideal.nD Reference32Ideal.τ).loc Reference32Ideal.main_arg2)) (m' ((c.tc : Thread Reference32Ideal.nD Reference32Ideal.τ).loc Reference32Ideal.main_arg3)) from rfl, eG, e1, e2, e3] <;> rfl
    · rw [show Reference32Ideal.Read.val_main_v11 (F := Ideal) (m' ((c.tc : Thread Reference32Ideal.nD Reference32Ideal.τ).loc Reference32Ideal.main_arg0)) (m' ((c.tc : Thread Reference32Ideal.nD Reference32Ideal.τ).loc Reference32Ideal.main_arg2)) (m' ((c.tc : Thread Reference32Ideal.nD Reference32Ideal.τ).loc Reference32Ideal.main_arg4)) (m' ((c.tc : Thread Reference32Ideal.nD Reference32Ideal.τ).loc Reference32Ideal.main_arg5))
          = NM (Reference32Ideal.Read.val_main_v6 (F := Ideal) (m' ((c.tc : Thread Reference32Ideal.nD Reference32Ideal.τ).loc Reference32Ideal.main_arg0)) (m' ((c.tc : Thread Reference32Ideal.nD Reference32Ideal.τ).loc Reference32Ideal.main_arg4)) (m' ((c.tc : Thread Reference32Ideal.nD Reference32Ideal.τ).loc Reference32Ideal.main_arg5))) (m' ((c.tc : Thread Reference32Ideal.nD Reference32Ideal.τ).loc Reference32Ideal.main_arg2)) from rfl, eG, e2] <;> rfl
    · rw [show Reference32Ideal.Read.val_main_v17 (F := Ideal) (m' ((c.tc : Thread Reference32Ideal.nD Reference32Ideal.τ).loc Reference32Ideal.main_arg0)) (m' ((c.tc : Thread Reference32Ideal.nD Reference32Ideal.τ).loc Reference32Ideal.main_arg3)) (m' ((c.tc : Thread Reference32Ideal.nD Reference32Ideal.τ).loc Reference32Ideal.main_arg4)) (m' ((c.tc : Thread Reference32Ideal.nD Reference32Ideal.τ).loc Reference32Ideal.main_arg5))
          = NV (Reference32Ideal.Read.val_main_v6 (F := Ideal) (m' ((c.tc : Thread Reference32Ideal.nD Reference32Ideal.τ).loc Reference32Ideal.main_arg0)) (m' ((c.tc : Thread Reference32Ideal.nD Reference32Ideal.τ).loc Reference32Ideal.main_arg4)) (m' ((c.tc : Thread Reference32Ideal.nD Reference32Ideal.τ).loc Reference32Ideal.main_arg5))) (m' ((c.tc : Thread Reference32Ideal.nD Reference32Ideal.τ).loc Reference32Ideal.main_arg3)) from rfl, eG, e3] <;> rfl

/-- The reference leaves its arguments as they were; it declares no semaphore. -/
theorem frame_reference : Cert.quiescent_Reference32Ideal := fun m ρ _ =>
  (θ_run Reference32Ideal.defs _ _).mono (fun r h => ⟨fun c => by
      obtain ⟨_, _, _, _, hargs⟩ := h c
      exact hargs, Idealize.ShloMosaic.sem_eq_zero_of_no_sems (by decide) r.2⟩)
    (Reference32Ideal.Value.run (F := Ideal) m ρ)

end Cert.AdamwScIn

end

end
-- ==== Proof.AdamwUpFirst.lean ====
/- AdamW on the first layer's rows of the up projection: half of the rows have their gradient on this device, half on the other. -/
module

public import proofs.«01_k».proof.Proof.Gen.Kernel35
public import proofs.«01_k».proof.Proof.Gen.Kernel35.Frame
public import proofs.«01_k».proof.Proof.Gen.Kernel35Ideal
public import proofs.«01_k».proof.Proof.Gen.Kernel35Ideal.Frame
public import proofs.«01_k».proof.Proof.AdamwSmall
public import proofs.«01_k».proof.Proof.AdamwWord
public import Idealize.ShloMosaic.Lib.Pipeline.ValueKit

@[expose] public section

set_option maxRecDepth 16384

noncomputable section

namespace Cert.AdamwUpFirst

open Idealize.ShloMosaic Idealize.ShloMosaic.TcCoe Cert.AdamwWord

section
open Cert.Kernel35 Cert.Kernel35.Gen

variable {F : FTy → Type} [FloatOps F] (m : (ℓ : Loc nD τ sig) → Buf (Elt F) ℓ)

/-- Whatever the word says, the block of the half that is read lies inside it. -/
theorem ok_b : Ok m := by
  refine ⟨fun i => ⟨fun a => ?_, Or.inl rfl⟩, fun i => ⟨fun a => ?_, Or.inl rfl⟩⟩
  · have h1 : (i 1).val < 8 := (i 1).isLt
    fin_cases a
    · show ((Scalar.select _ _ _ : BitVec 32).toNat + 1) * 128 ≤ 1024
      exact Nat.mul_le_mul_right 128 (sel_lt _ 8 (by simp; omega) (by decide))
    · exact Nat.le_of_eq (by simp [cc0_transform_3, Shape.size])
  · have h1 : (i 1).val < 8 := (i 1).isLt
    fin_cases a
    · show ((Scalar.select _ _ _ : BitVec 32).toNat + 1) * 128 ≤ 1024
      exact Nat.mul_le_mul_right 128 (sel_lt _ 8 (by decide) (by simp; omega))
    · exact Nat.le_of_eq (by simp [cc0_transform_4, Shape.size])
end

section
open Cert.Kernel35Ideal Cert.Kernel35Ideal.Gen

variable {F : FTy → Type} [FloatOps F] (m : (ℓ : Loc nD τ sig) → Buf (Elt F) ℓ)

/-- Whatever the word says, the block of the half that is read lies inside it. -/
theorem ok_i : Ok m := by
  refine ⟨fun i => ⟨fun a => ?_, Or.inl rfl⟩, fun i => ⟨fun a => ?_, Or.inl rfl⟩⟩
  · have h1 : (i 1).val < 8 := (i 1).isLt
    fin_cases a
    · show ((Scalar.select _ _ _ : BitVec 32).toNat + 1) * 128 ≤ 1024
      exact Nat.mul_le_mul_right 128 (sel_lt _ 8 (by simp; omega) (by decide))
    · exact Nat.le_of_eq (by simp [cc0_transform_3, Shape.size])
  · have h1 : (i 1).val < 8 := (i 1).isLt
    fin_cases a
    · show ((Scalar.select _ _ _ : BitVec 32).toNat + 1) * 128 ≤ 1024
      exact Nat.mul_le_mul_right 128 (sel_lt _ 8 (by decide) (by simp; omega))
    · exact Nat.le_of_eq (by simp [cc0_transform_4, Shape.size])
end

open Cert.Kernel35Ideal Cert.Kernel35Ideal.Gen Cert.AdamwSmall

variable (m : (ℓ : Loc nD τ sig) → Buf (Elt Ideal) ℓ)

theorem blocks : ∀ t : Fin grid0.N, cc0_transform_0 (grid0.coords t) = ![t.val, 0] ∧ cc0_transform_1 (grid0.coords t) = ![t.val, 0]
    ∧ cc0_transform_2 (grid0.coords t) = ![t.val, 0] ∧ cc0_transform_9 (grid0.coords t) = ![t.val, 0] ∧ cc0_transform_10 (grid0.coords t) = ![t.val, 0]
    ∧ cc0_transform_11 (grid0.coords t) = ![t.val, 0] ∧ cc0_transform_12 (grid0.coords t) = ![t.val, 0] := by decide +kernel

theorem steps : ∀ t : Fin grid0.N, t.val < 16 ∧ (grid0.coords t 0).val = t.val / 8 ∧ (grid0.coords t 1).val = t.val % 8 := by decide +kernel

/-- The place in the array of a place of the block of step `t`. -/
def row (t : Fin grid0.N) (y : S128x2816.Idx) : S4096x2816.Idx :=
  ix2 ⟨t.val * 128 + (y 0).val, by have := (steps t).1; have : (y 0).val < 128 := (y 0).isLt; omega⟩ (y 1)

/-- The place in its half. -/
def half (t : Fin grid0.N) (y : S128x2816.Idx) : S1024x2816.Idx :=
  ix2 ⟨t.val % 8 * 128 + (y 0).val, by have : (y 0).val < 128 := (y 0).isLt; omega⟩ (y 1)

/-- The two halves put together, each from this device where it holds it and from the other device where not. -/
def G (x : Vec Ideal S1 .i32) (p q : Vec Ideal S1024x2816 .f32) : Vec Ideal S4096x2816 .f32 := fun i =>
  if BitVec.ofNat 32 ((i 0).val / 1024) = x (ix1 0) then p (ix2 ⟨(i 0).val % 1024, Nat.mod_lt _ (by decide)⟩ (i 1))
  else q (ix2 ⟨(i 0).val % 1024, Nat.mod_lt _ (by decide)⟩ (i 1))

theorem G_row (x : Vec Ideal S1 .i32) (p q : Vec Ideal S1024x2816 .f32) (t : Fin grid0.N) (y : S128x2816.Idx) :
    G x p q (row t y) = if BitVec.ofNat 32 (grid0.coords t 0).val = x (ix1 0) then p (half t y) else q (half t y) := by
  have hy : (y 0).val < 128 := (y 0).isLt
  have h1 : (row t y 0).val / 1024 = (grid0.coords t 0).val := by
    rw [(steps t).2.1]; show (t.val * 128 + (y 0).val) / 1024 = _; omega
  have h2 : (ix2 ⟨(row t y 0).val % 1024, Nat.mod_lt _ (by decide)⟩ (row t y 1) : S1024x2816.Idx) = half t y :=
    congrArg (fun a => (ix2 a (y 1) : S1024x2816.Idx)) (Fin.ext (by have := (steps t).1; show (t.val * 128 + (y 0).val) % 1024 = t.val % 8 * 128 + (y 0).val; omega))
  unfold G
  rw [h1, h2]

/-- The word the call reads is its first argument. -/
theorem word : (tbl m).at 0 (Rect.unit (s := S1) ![0] S1.size inb_S1_S1_0) numel1_S1 = m ((0 : Dev nD).tc.loc main_arg0) (ix1 0) :=
  (congrArg (V m (0 : Dev nD) main_arg0) (funext fun a => Fin.ext (by fin_cases a; rfl))).trans (congrFun (V_main_arg0 m 0) _)

theorem pay1_at (i : grid0.Coords) (w : BitVec 32) (p q : Vec Ideal S128x2816 .f32) (y : S128x2816.Idx) :
    k0_pay1 (F := Ideal) i w p q y = if BitVec.ofNat 32 (i 0).val = w then p y else q y := by
  by_cases h : BitVec.ofNat 32 (i 0).val = w
  · rw [if_pos h]; exact congrFun (sel_eq h) y
  · rw [if_neg h]; exact congrFun (sel_ne h) y

section
variable (i : grid0.Coords) {w w' : BitVec 32} {p p' q q' x x' d d' e e' : Vec Ideal S128x2816 .f32} (y : S128x2816.Idx)

theorem pay1_of (hw : w = w') (hp : p = p') (hq : q = q') : k0_pay1 (F := Ideal) i w p q y = k0_pay1 (F := Ideal) i w' p' q' y := by
  subst hw hp hq; rfl

theorem pay2_of (hw : w = w') (hp : p = p') (hq : q = q') (hd : d = d') :
    k0_pay2 (F := Ideal) i w p q d y = NM (k0_pay1 (F := Ideal) i w' p' q') d' y := by
  subst hw hp hq hd; rfl

theorem pay3_of (hw : w = w') (hp : p = p') (hq : q = q') (he : e = e') :
    k0_pay3 (F := Ideal) i w p q e y = NV (k0_pay1 (F := Ideal) i w' p' q') e' y := by
  subst hw hp hq he; rfl

theorem pay4_of (hw : w = w') (hp : p = p') (hq : q = q') (hx : x = x') (hd : d = d') (he : e = e') :
    k0_pay4 (F := Ideal) i w p q x d e y = ND x' (k0_pay1 (F := Ideal) i w' p' q') d' e' y := by
  subst hw hp hq hx hd he; rfl
end

theorem emb_0 (hO : Ok m) (t : Fin grid0.N) (y : S128x2816.Idx) : (((cfgM m hO).win 0).blk t).view.emb y = row t y := by
  funext a
  refine Fin.ext ((Pipeline.Window.rect_emb_val ((cfgM m hO).win 0) t y a).trans ?_)
  fin_cases a
  · show cc0_transform_0 (grid0.coords t) 0 * 128 + (y 0).val = _
    rw [show cc0_transform_0 (grid0.coords t) = ![t.val, 0] by simp [blocks t]]; rfl
  · show cc0_transform_0 (grid0.coords t) 1 * 2816 + (y 1).val = _
    rw [show cc0_transform_0 (grid0.coords t) = ![t.val, 0] by simp [blocks t]]; simp [row]

theorem emb_1 (hO : Ok m) (t : Fin grid0.N) (y : S128x2816.Idx) : (((cfgM m hO).win 1).blk t).view.emb y = row t y := by
  funext a
  refine Fin.ext ((Pipeline.Window.rect_emb_val ((cfgM m hO).win 1) t y a).trans ?_)
  fin_cases a
  · show cc0_transform_1 (grid0.coords t) 0 * 128 + (y 0).val = _
    rw [show cc0_transform_1 (grid0.coords t) = ![t.val, 0] by simp [blocks t]]; rfl
  · show cc0_transform_1 (grid0.coords t) 1 * 2816 + (y 1).val = _
    rw [show cc0_transform_1 (grid0.coords t) = ![t.val, 0] by simp [blocks t]]; simp [row]

theorem emb_2 (hO : Ok m) (t : Fin grid0.N) (y : S128x2816.Idx) : (((cfgM m hO).win 2).blk t).view.emb y = row t y := by
  funext a
  refine Fin.ext ((Pipeline.Window.rect_emb_val ((cfgM m hO).win 2) t y a).trans ?_)
  fin_cases a
  · show cc0_transform_2 (grid0.coords t) 0 * 128 + (y 0).val = _
    rw [show cc0_transform_2 (grid0.coords t) = ![t.val, 0] by simp [blocks t]]; rfl
  · show cc0_transform_2 (grid0.coords t) 1 * 2816 + (y 1).val = _
    rw [show cc0_transform_2 (grid0.coords t) = ![t.val, 0] by simp [blocks t]]; simp [row]

theorem emb_5 (hO : Ok m) (t : Fin grid0.N) (y : S128x2816.Idx) : (((cfgM m hO).win 5).blk t).view.emb y = row t y := by
  funext a
  refine Fin.ext ((Pipeline.Window.rect_emb_val ((cfgM m hO).win 5) t y a).trans ?_)
  fin_cases a
  · show cc0_transform_9 (grid0.coords t) 0 * 128 + (y 0).val = _
    rw [show cc0_transform_9 (grid0.coords t) = ![t.val, 0] by simp [blocks t]]; rfl
  · show cc0_transform_9 (grid0.coords t) 1 * 2816 + (y 1).val = _
    rw [show cc0_transform_9 (grid0.coords t) = ![t.val, 0] by simp [blocks t]]; simp [row]

theorem emb_6 (hO : Ok m) (t : Fin grid0.N) (y : S128x2816.Idx) : (((cfgM m hO).win 6).blk t).view.emb y = row t y := by
  funext a
  refine Fin.ext ((Pipeline.Window.rect_emb_val ((cfgM m hO).win 6) t y a).trans ?_)
  fin_cases a
  · show cc0_transform_10 (grid0.coords t) 0 * 128 + (y 0).val = _
    rw [show cc0_transform_10 (grid0.coords t) = ![t.val, 0] by simp [blocks t]]; rfl
  · show cc0_transform_10 (grid0.coords t) 1 * 2816 + (y 1).val = _
    rw [show cc0_transform_10 (grid0.coords t) = ![t.val, 0] by simp [blocks t]]; simp [row]

theorem emb_7 (hO : Ok m) (t : Fin grid0.N) (y : S128x2816.Idx) : (((cfgM m hO).win 7).blk t).view.emb y = row t y := by
  funext a
  refine Fin.ext ((Pipeline.Window.rect_emb_val ((cfgM m hO).win 7) t y a).trans ?_)
  fin_cases a
  · show cc0_transform_11 (grid0.coords t) 0 * 128 + (y 0).val = _
    rw [show cc0_transform_11 (grid0.coords t) = ![t.val, 0] by simp [blocks t]]; rfl
  · show cc0_transform_11 (grid0.coords t) 1 * 2816 + (y 1).val = _
    rw [show cc0_transform_11 (grid0.coords t) = ![t.val, 0] by simp [blocks t]]; simp [row]

theorem emb_8 (hO : Ok m) (t : Fin grid0.N) (y : S128x2816.Idx) : (((cfgM m hO).win 8).blk t).view.emb y = row t y := by
  funext a
  refine Fin.ext ((Pipeline.Window.rect_emb_val ((cfgM m hO).win 8) t y a).trans ?_)
  fin_cases a
  · show cc0_transform_12 (grid0.coords t) 0 * 128 + (y 0).val = _
    rw [show cc0_transform_12 (grid0.coords t) = ![t.val, 0] by simp [blocks t]]; rfl
  · show cc0_transform_12 (grid0.coords t) 1 * 2816 + (y 1).val = _
    rw [show cc0_transform_12 (grid0.coords t) = ![t.val, 0] by simp [blocks t]]; simp [row]

theorem emb_3 (hO : Ok m) (t : Fin grid0.N) (y : S128x2816.Idx) (h : BitVec.ofNat 32 (grid0.coords t 0).val = m ((0 : Dev nD).tc.loc main_arg0) (ix1 0)) :
    (((cfgM m hO).win 3).blk t).view.emb y = half t y := by
  have e : cc0_transform_3 inb_S1_S1_0 numel1_S1 (tbl m) (grid0.coords t) = ![t.val % 8, 0] := by
    have h8 : t.val % 8 < 4294967296 := by omega
    show ![(Scalar.select (Scalar.cmpi .eq _ _) _ _ : BitVec 32).toNat, _] = _
    rw [sel_eq (h.trans (word m).symm), (steps t).2.2]
    simp [Nat.mod_eq_of_lt h8]
  funext a
  refine Fin.ext ((Pipeline.Window.rect_emb_val ((cfgM m hO).win 3) t y a).trans ?_)
  fin_cases a
  · show cc0_transform_3 inb_S1_S1_0 numel1_S1 (tbl m) (grid0.coords t) 0 * 128 + (y 0).val = _
    rw [e]; rfl
  · show cc0_transform_3 inb_S1_S1_0 numel1_S1 (tbl m) (grid0.coords t) 1 * 2816 + (y 1).val = _
    rw [e]; simp [half]

theorem emb_4 (hO : Ok m) (t : Fin grid0.N) (y : S128x2816.Idx) (h : BitVec.ofNat 32 (grid0.coords t 0).val ≠ m ((0 : Dev nD).tc.loc main_arg0) (ix1 0)) :
    (((cfgM m hO).win 4).blk t).view.emb y = half t y := by
  have e : cc0_transform_4 inb_S1_S1_0 numel1_S1 (tbl m) (grid0.coords t) = ![t.val % 8, 0] := by
    have h8 : t.val % 8 < 4294967296 := by omega
    show ![(Scalar.select (Scalar.cmpi .eq _ _) _ _ : BitVec 32).toNat, _] = _
    rw [sel_ne fun e => h (e.trans (word m)), (steps t).2.2]
    simp [Nat.mod_eq_of_lt h8]
  funext a
  refine Fin.ext ((Pipeline.Window.rect_emb_val ((cfgM m hO).win 4) t y a).trans ?_)
  fin_cases a
  · show cc0_transform_4 inb_S1_S1_0 numel1_S1 (tbl m) (grid0.coords t) 0 * 128 + (y 0).val = _
    rw [e]; rfl
  · show cc0_transform_4 inb_S1_S1_0 numel1_S1 (tbl m) (grid0.coords t) 1 * 2816 + (y 1).val = _
    rw [e]; simp [half]

/-- The gradient the call takes at a place of a block is the one that belongs there. -/
theorem grad_at (hO : Ok m) (c : Dev nD) (t : Fin grid0.N) (y : S128x2816.Idx) :
    k0_pay1 (F := Ideal) (grid0.coords t) (m ((0 : Dev nD).tc.loc main_arg0) (ix1 0)) (iblk m hO c 3 t) (iblk m hO c 4 t) y
      = G (m (c.tc.loc main_arg0)) (m (c.tc.loc main_arg4)) (m (c.tc.loc main_arg5)) (row t y) := by
  obtain rfl : c = 0 := Subsingleton.elim _ _
  rw [G_row]
  refine (pay1_at _ _ _ _ y).trans ?_
  by_cases h : BitVec.ofNat 32 (grid0.coords t 0).val = m ((0 : Dev nD).tc.loc main_arg0) (ix1 0)
  · exact (if_pos h).trans ((congrArg (V m (0 : Dev nD) main_arg4) (emb_3 m hO t y h)).trans <| (congrFun (V_main_arg4 m 0) _).trans (if_pos h).symm)
  · exact (if_neg h).trans ((congrArg (V m (0 : Dev nD) main_arg5) (emb_4 m hO t y h)).trans <| (congrFun (V_main_arg5 m 0) _).trans (if_neg h).symm)

/-- The shape of the layer's rows. -/
abbrev S2048x2816 : Shape := ⟨2, ![2048, 2816]⟩

/-- The place in the whole array of a place of the layer's rows. -/
def up (k : S2048x2816.Idx) : S4096x2816.Idx := ix2 ⟨0 + (k 0).val, by have : (k 0).val < 2048 := (k 0).isLt; omega⟩ (k 1)

theorem cut_at (a : Vec Ideal S4096x2816 .f32) (h : S4096x2816.Slices ![0, 0] S2048x2816) (k : S2048x2816.Idx) : extractStridedSlice S2048x2816 ![0, 0] a h k = a (up k) :=
  extractStridedSlice_apply _ a h k _ fun b => by
    fin_cases b
    · rfl
    · exact (Nat.zero_add _).symm

theorem G_up (x : Vec Ideal S1 .i32) (p q : Vec Ideal S1024x2816 .f32) (j : S2048x2816.Idx) :
    G x p q (up j) = if BitVec.ofNat 32 ((j 0).val / 1024) = x (ix1 0) then p (ix2 ⟨(j 0).val % 1024, Nat.mod_lt _ (by decide)⟩ (j 1))
      else q (ix2 ⟨(j 0).val % 1024, Nat.mod_lt _ (by decide)⟩ (j 1)) := by
  have h1 : (up j 0).val / 1024 = (j 0).val / 1024 := by show (0 + (j 0).val) / 1024 = _; omega
  have h2 : (ix2 ⟨(up j 0).val % 1024, Nat.mod_lt _ (by decide)⟩ (up j 1) : S1024x2816.Idx) = ix2 ⟨(j 0).val % 1024, Nat.mod_lt _ (by decide)⟩ (j 1) :=
    congrArg (fun a => (ix2 a (j 1) : S1024x2816.Idx)) (Fin.ext (by show (0 + (j 0).val) % 1024 = (j 0).val % 1024; omega))
  unfold G
  rw [h1, h2]
  rfl

/-- The first layer's rows of one array over the second layer's rows of the other. -/
def joined (B p : Vec Ideal S4096x2816 .f32) : Vec Ideal S4096x2816 .f32 := fun i => if (i 0).val / 128 < 16 then B i else p i

theorem entry_0 (c : Dev nD) : V m c main_v0_0 = m (c.tc.loc main_arg6) := by
  entry_read
  rfl

theorem entry_1 (c : Dev nD) : V m c main_v0_1 = m (c.tc.loc main_arg7) := by
  entry_read
  rfl

theorem entry_2 (c : Dev nD) : V m c main_v0_2 = m (c.tc.loc main_arg8) := by
  entry_read
  rfl

theorem entry_3 (c : Dev nD) : V m c main_v0_3 = m (c.tc.loc main_arg9) := by
  entry_read
  rfl

set_option maxHeartbeats 1000000 in
theorem final_5 (hO : Ok m) (c : Dev nD) : (dats m hO 0 c).arrAt 5 (cfgM m hO).N = joined (G (m (c.tc.loc main_arg0)) (m (c.tc.loc main_arg4)) (m (c.tc.loc main_arg5))) (m (c.tc.loc main_arg6)) := by
  refine ((dats m hO 0 c).arrAt_eq_of_coversWhere 5 (G (m (c.tc.loc main_arg0)) (m (c.tc.loc main_arg4)) (m (c.tc.loc main_arg5))) (P := fun (i : S4096x2816.Idx) => (i 0).val / 128 < 16) (fun (β : Fin ((cfgM m hO).win 5).shape.rank → Nat) => β (show Fin 2 from 0) < 16)
    (of_decide_eq_true (by sl_kernel_rfl)) (fun t _ y => ?_) (fun j => Iff.rfl)).trans (congrArg (joined (G (m (c.tc.loc main_arg0)) (m (c.tc.loc main_arg4)) (m (c.tc.loc main_arg5)))) (entry_0 m c))
  rw [emb_5 m hO t y]
  blk_simp
  rw [after0_5]
  unfold outsAt0
  frame_out
  refine (pay1_of _ (w' := m ((0 : Dev nD).tc.loc main_arg0) (ix1 0)) y ?_ ((hs0_3 m hO t).read_unread _) ((hs0_4 m hO t).read_unread _) ).trans ?_
  · exact word m
  exact grad_at m hO c t y

set_option maxHeartbeats 1000000 in
theorem final_7 (hO : Ok m) (c : Dev nD) : (dats m hO 0 c).arrAt 7 (cfgM m hO).N = joined (NM (G (m (c.tc.loc main_arg0)) (m (c.tc.loc main_arg4)) (m (c.tc.loc main_arg5))) (m (c.tc.loc main_arg2))) (m (c.tc.loc main_arg8)) := by
  refine ((dats m hO 0 c).arrAt_eq_of_coversWhere 7 (NM (G (m (c.tc.loc main_arg0)) (m (c.tc.loc main_arg4)) (m (c.tc.loc main_arg5))) (m (c.tc.loc main_arg2))) (P := fun (i : S4096x2816.Idx) => (i 0).val / 128 < 16) (fun (β : Fin ((cfgM m hO).win 7).shape.rank → Nat) => β (show Fin 2 from 0) < 16)
    (of_decide_eq_true (by sl_kernel_rfl)) (fun t _ y => ?_) (fun j => Iff.rfl)).trans (congrArg (joined (NM (G (m (c.tc.loc main_arg0)) (m (c.tc.loc main_arg4)) (m (c.tc.loc main_arg5))) (m (c.tc.loc main_arg2)))) (entry_2 m c))
  rw [emb_7 m hO t y]
  blk_simp
  rw [after0_7]
  unfold outsAt0
  frame_out
  refine (pay2_of _ (w' := m ((0 : Dev nD).tc.loc main_arg0) (ix1 0)) y ?_ ((hs0_3 m hO t).read_unread _) ((hs0_4 m hO t).read_unread _) ((hs0_1 m hO t).read_unread _)).trans ?_
  · exact word m
  exact NM_at (grad_at m hO c t y) ((congrArg (V m c main_arg2) (emb_1 m hO t y)).trans (congrFun (V_main_arg2 m c) _))

set_option maxHeartbeats 1000000 in
theorem final_8 (hO : Ok m) (c : Dev nD) : (dats m hO 0 c).arrAt 8 (cfgM m hO).N = joined (NV (G (m (c.tc.loc main_arg0)) (m (c.tc.loc main_arg4)) (m (c.tc.loc main_arg5))) (m (c.tc.loc main_arg3))) (m (c.tc.loc main_arg9)) := by
  refine ((dats m hO 0 c).arrAt_eq_of_coversWhere 8 (NV (G (m (c.tc.loc main_arg0)) (m (c.tc.loc main_arg4)) (m (c.tc.loc main_arg5))) (m (c.tc.loc main_arg3))) (P := fun (i : S4096x2816.Idx) => (i 0).val / 128 < 16) (fun (β : Fin ((cfgM m hO).win 8).shape.rank → Nat) => β (show Fin 2 from 0) < 16)
    (of_decide_eq_true (by sl_kernel_rfl)) (fun t _ y => ?_) (fun j => Iff.rfl)).trans (congrArg (joined (NV (G (m (c.tc.loc main_arg0)) (m (c.tc.loc main_arg4)) (m (c.tc.loc main_arg5))) (m (c.tc.loc main_arg3)))) (entry_3 m c))
  rw [emb_8 m hO t y]
  blk_simp
  rw [after0_8]
  unfold outsAt0
  frame_out
  refine (pay3_of _ (w' := m ((0 : Dev nD).tc.loc main_arg0) (ix1 0)) y ?_ ((hs0_3 m hO t).read_unread _) ((hs0_4 m hO t).read_unread _) ((hs0_2 m hO t).read_unread _)).trans ?_
  · exact word m
  exact NV_at (grad_at m hO c t y) ((congrArg (V m c main_arg3) (emb_2 m hO t y)).trans (congrFun (V_main_arg3 m c) _))

set_option maxHeartbeats 1000000 in
theorem final_6 (hO : Ok m) (c : Dev nD) : (dats m hO 0 c).arrAt 6 (cfgM m hO).N = joined (ND (m (c.tc.loc main_arg1)) (G (m (c.tc.loc main_arg0)) (m (c.tc.loc main_arg4)) (m (c.tc.loc main_arg5))) (m (c.tc.loc main_arg2)) (m (c.tc.loc main_arg3))) (m (c.tc.loc main_arg7)) := by
  refine ((dats m hO 0 c).arrAt_eq_of_coversWhere 6 (ND (m (c.tc.loc main_arg1)) (G (m (c.tc.loc main_arg0)) (m (c.tc.loc main_arg4)) (m (c.tc.loc main_arg5))) (m (c.tc.loc main_arg2)) (m (c.tc.loc main_arg3))) (P := fun (i : S4096x2816.Idx) => (i 0).val / 128 < 16) (fun (β : Fin ((cfgM m hO).win 6).shape.rank → Nat) => β (show Fin 2 from 0) < 16)
    (of_decide_eq_true (by sl_kernel_rfl)) (fun t _ y => ?_) (fun j => Iff.rfl)).trans (congrArg (joined (ND (m (c.tc.loc main_arg1)) (G (m (c.tc.loc main_arg0)) (m (c.tc.loc main_arg4)) (m (c.tc.loc main_arg5))) (m (c.tc.loc main_arg2)) (m (c.tc.loc main_arg3)))) (entry_1 m c))
  rw [emb_6 m hO t y]
  blk_simp
  rw [after0_6]
  unfold outsAt0
  frame_out
  refine (pay4_of _ (w' := m ((0 : Dev nD).tc.loc main_arg0) (ix1 0)) y ?_ ((hs0_3 m hO t).read_unread _) ((hs0_4 m hO t).read_unread _) ((hs0_0 m hO t).read_unread _) ((hs0_1 m hO t).read_unread _) ((hs0_2 m hO t).read_unread _)).trans ?_
  · exact word m
  exact ND_at ((congrArg (V m c main_arg1) (emb_0 m hO t y)).trans (congrFun (V_main_arg1 m c) _)) (grad_at m hO c t y) ((congrArg (V m c main_arg2) (emb_1 m hO t y)).trans (congrFun (V_main_arg2 m c) _)) ((congrArg (V m c main_arg3) (emb_2 m hO t y)).trans (congrFun (V_main_arg3 m c) _))

end Cert.AdamwUpFirst

end

end
-- ==== Proof.AdamwUpFirstPair.lean ====
/- AdamW on the first layer's rows of the up projection: the call and its reference leave the same arrays. -/
module

public import proofs.«01_k».proof.Defs
public import proofs.«01_k».proof.Proof.Gen.Reference35Ideal
public import proofs.«01_k».proof.Proof.Gen.Reference35Ideal.Run
public import proofs.«01_k».proof.Proof.Gen.Reference35Ideal.Read
public import proofs.«01_k».proof.Proof.AdamwUpFirst

@[expose] public section

set_option maxRecDepth 16384

noncomputable section

namespace Cert.AdamwUpFirst

open Idealize.ShloMosaic Idealize.ShloMosaic.TcCoe Cert.AdamwSmall

section
open Cert.Reference35Ideal Cert.Reference35Ideal.Gen Cert.Reference35Ideal.Read

theorem pick (x : (⟨S1, .i32⟩ : BufTy).Contents (Elt Ideal)) (k : BitVec 32) (p q : Vec Ideal S1024x2816 .f32) (i : S1024x2816.Idx) :
    (select (broadcastInDim S1024x2816 ![] bcast_S_S1024x2816 (cmpi .eq (shapeCast _ x shapeCasts_S1_S_) (constantI S_ 32 k))) p q : Vec Ideal S1024x2816 .f32) i
      = if k = x (ix1 0) then p i else q i := by
  have e : (shapeCast S_ x shapeCasts_S1_S_ : (⟨S_, .i32⟩ : BufTy).Contents (Elt Ideal)) (fun a => a.elim0) = x (ix1 0) := by
    unfold shapeCast
    exact congrArg x (funext fun a => by fin_cases a; exact Subsingleton.elim (α := Fin 1) _ _)
  have b := Cert.AdamwWord.pick_word (s := S_) (t := S1024x2816) rfl ![] bcast_S_S1024x2816 (shapeCast S_ x shapeCasts_S1_S_) k (fun a => a.elim0) p q i
  rw [e] at b
  exact b

/-- The reference's gradient is the two halves put together. -/
theorem ref_G (x : (⟨S1, .i32⟩ : BufTy).Contents (Elt Ideal)) (p q : Vec Ideal S1024x2816 .f32) (j : S2048x2816.Idx) : val_main_v6 (F := Ideal) x p q j = G x p q (up j) := by
  have hj : (j 0).val < 2048 := (j 0).isLt
  by_cases h : (j 0).val < 1024
  · refine (concatenate_apply_piece (t := S2048x2816) 0 _ _ j 0 (by simp) S1024x2816 (val_main_v2 (F := Ideal) x p q) rfl rfl 0 rfl
      (ix2 ⟨(j 0).val % 1024, Nat.mod_lt _ (by decide)⟩ (j 1)) ?_ ?_).trans ?_
    · intro b hb
      fin_cases b
      · exact absurd rfl hb
      · rfl
    · show 0 + (j 0).val % 1024 = (j 0).val; omega
    · have e : (j 0).val / 1024 = 0 := by omega
      rw [G_up, e]
      exact pick x 0#32 p q _
  · refine (concatenate_apply_piece (t := S2048x2816) 0 _ _ j 1 (by simp) S1024x2816 (val_main_v5 (F := Ideal) x p q) rfl rfl 1024 rfl
      (ix2 ⟨(j 0).val % 1024, Nat.mod_lt _ (by decide)⟩ (j 1)) ?_ ?_).trans ?_
    · intro b hb
      fin_cases b
      · exact absurd rfl hb
      · rfl
    · show 1024 + (j 0).val % 1024 = (j 0).val; omega
    · have e : (j 0).val / 1024 = 1 := by omega
      rw [G_up, e]
      exact pick x 1#32 p q _

variable (x : (⟨S1, .i32⟩ : BufTy).Contents (Elt Ideal)) (w u v : Vec Ideal S4096x2816 .f32) (p q : Vec Ideal S1024x2816 .f32)

theorem ref_ND (j : S2048x2816.Idx) : val_main_v33 (F := Ideal) x w u v p q j = ND w (G x p q) u v (up j) :=
  (congrFun (show val_main_v33 (F := Ideal) x w u v p q = ND (val_main_v7 (F := Ideal) w) (val_main_v6 (F := Ideal) x p q) (val_main_v8 (F := Ideal) u) (val_main_v9 (F := Ideal) v) from rfl) j).trans
    (ND_at (cut_at w _ j) (ref_G x p q j) (cut_at u _ j) (cut_at v _ j))

theorem ref_NM (j : S2048x2816.Idx) : val_main_v14 (F := Ideal) x u p q j = NM (G x p q) u (up j) :=
  (congrFun (show val_main_v14 (F := Ideal) x u p q = NM (val_main_v6 (F := Ideal) x p q) (val_main_v8 (F := Ideal) u) from rfl) j).trans
    (NM_at (ref_G x p q j) (cut_at u _ j))

theorem ref_NV (j : S2048x2816.Idx) : val_main_v20 (F := Ideal) x v p q j = NV (G x p q) v (up j) :=
  (congrFun (show val_main_v20 (F := Ideal) x v p q = NV (val_main_v6 (F := Ideal) x p q) (val_main_v9 (F := Ideal) v) from rfl) j).trans
    (NV_at (ref_G x p q j) (cut_at v _ j))

theorem join (A : Vec Ideal S2048x2816 .f32) (B z : Vec Ideal S4096x2816 .f32) (h : ∀ k, A k = B (up k)) :
    (concatenate S4096x2816 0 [⟨S2048x2816, A⟩, ⟨S2048x2816, extractStridedSlice S2048x2816 ![2048, 0] z slices_S4096x2816_S2048x2816_2048_0⟩] concatenates_S2048x2816_S2048x2816_S4096x2816_d0 : Vec Ideal S4096x2816 .f32) = joined B z := by
  funext j
  show _ = if (j 0).val / 128 < 16 then B j else z j
  have hj : (j 0).val < 4096 := (j 0).isLt
  by_cases h' : (j 0).val < 2048
  · refine (concatenate_apply_piece (t := S4096x2816) 0 _ _ j 0 (by simp) S2048x2816 A rfl rfl 0 rfl (ix2 ⟨(j 0).val, h'⟩ (j 1)) ?_ ?_).trans ?_
    · intro b hb
      fin_cases b
      · exact absurd rfl hb
      · rfl
    · show 0 + (j 0).val = (j 0).val; omega
    · rw [if_pos (by omega)]
      refine (h _).trans (congrArg B (funext fun b => ?_))
      fin_cases b
      · exact Fin.ext (Nat.zero_add _)
      · rfl
  · refine (concatenate_apply_piece (t := S4096x2816) 0 _ _ j 1 (by simp) S2048x2816 (extractStridedSlice S2048x2816 ![2048, 0] z slices_S4096x2816_S2048x2816_2048_0) rfl rfl 2048 rfl
      (ix2 ⟨(j 0).val - 2048, by omega⟩ (j 1)) ?_ ?_).trans ?_
    · intro b hb
      fin_cases b
      · exact absurd rfl hb
      · rfl
    · show 2048 + ((j 0).val - 2048) = (j 0).val; omega
    · rw [if_neg (by omega)]
      refine extractStridedSlice_apply _ z _ _ j fun b => ?_
      fin_cases b
      · show (j 0).val = 2048 + ((j 0).val - 2048); omega
      · exact (Nat.zero_add _).symm

variable (z : Vec Ideal S4096x2816 .f32)

theorem ref_0 : val_main_v35 (F := Ideal) x p q z = joined (G x p q) z := join _ _ _ (ref_G x p q)

theorem ref_1 : val_main_v37 (F := Ideal) x w u v p q z = joined (ND w (G x p q) u v) z := join _ _ _ (ref_ND x w u v p q)

theorem ref_2 : val_main_v39 (F := Ideal) x u p q z = joined (NM (G x p q) u) z := join _ _ _ (ref_NM x u p q)

theorem ref_3 : val_main_v41 (F := Ideal) x v p q z = joined (NV (G x p q) v) z := join _ _ _ (ref_NV x v p q)

end

theorem algebraic : Cert.algebraic_Kernel35Ideal_Reference35Ideal := fun m g m' g' _ same => by
  refine ⟨fun c => joined (G (m ((c.tc : Thread Cert.Kernel35Ideal.nD Cert.Kernel35Ideal.τ).loc Cert.Kernel35Ideal.main_arg0)) (m ((c.tc : Thread Cert.Kernel35Ideal.nD Cert.Kernel35Ideal.τ).loc Cert.Kernel35Ideal.main_arg4)) (m ((c.tc : Thread Cert.Kernel35Ideal.nD Cert.Kernel35Ideal.τ).loc Cert.Kernel35Ideal.main_arg5))) (m ((c.tc : Thread Cert.Kernel35Ideal.nD Cert.Kernel35Ideal.τ).loc Cert.Kernel35Ideal.main_arg6)), fun c => joined (ND (m ((c.tc : Thread Cert.Kernel35Ideal.nD Cert.Kernel35Ideal.τ).loc Cert.Kernel35Ideal.main_arg1)) (G (m ((c.tc : Thread Cert.Kernel35Ideal.nD Cert.Kernel35Ideal.τ).loc Cert.Kernel35Ideal.main_arg0)) (m ((c.tc : Thread Cert.Kernel35Ideal.nD Cert.Kernel35Ideal.τ).loc Cert.Kernel35Ideal.main_arg4)) (m ((c.tc : Thread Cert.Kernel35Ideal.nD Cert.Kernel35Ideal.τ).loc Cert.Kernel35Ideal.main_arg5))) (m ((c.tc : Thread Cert.Kernel35Ideal.nD Cert.Kernel35Ideal.τ).loc Cert.Kernel35Ideal.main_arg2)) (m ((c.tc : Thread Cert.Kernel35Ideal.nD Cert.Kernel35Ideal.τ).loc Cert.Kernel35Ideal.main_arg3))) (m ((c.tc : Thread Cert.Kernel35Ideal.nD Cert.Kernel35Ideal.τ).loc Cert.Kernel35Ideal.main_arg7)), fun c => joined (NM (G (m ((c.tc : Thread Cert.Kernel35Ideal.nD Cert.Kernel35Ideal.τ).loc Cert.Kernel35Ideal.main_arg0)) (m ((c.tc : Thread Cert.Kernel35Ideal.nD Cert.Kernel35Ideal.τ).loc Cert.Kernel35Ideal.main_arg4)) (m ((c.tc : Thread Cert.Kernel35Ideal.nD Cert.Kernel35Ideal.τ).loc Cert.Kernel35Ideal.main_arg5))) (m ((c.tc : Thread Cert.Kernel35Ideal.nD Cert.Kernel35Ideal.τ).loc Cert.Kernel35Ideal.main_arg2))) (m ((c.tc : Thread Cert.Kernel35Ideal.nD Cert.Kernel35Ideal.τ).loc Cert.Kernel35Ideal.main_arg8)), fun c => joined (NV (G (m ((c.tc : Thread Cert.Kernel35Ideal.nD Cert.Kernel35Ideal.τ).loc Cert.Kernel35Ideal.main_arg0)) (m ((c.tc : Thread Cert.Kernel35Ideal.nD Cert.Kernel35Ideal.τ).loc Cert.Kernel35Ideal.main_arg4)) (m ((c.tc : Thread Cert.Kernel35Ideal.nD Cert.Kernel35Ideal.τ).loc Cert.Kernel35Ideal.main_arg5))) (m ((c.tc : Thread Cert.Kernel35Ideal.nD Cert.Kernel35Ideal.τ).loc Cert.Kernel35Ideal.main_arg3))) (m ((c.tc : Thread Cert.Kernel35Ideal.nD Cert.Kernel35Ideal.τ).loc Cert.Kernel35Ideal.main_arg9)),
    (θ_run Cert.Kernel35Ideal.defs _ _).mono (fun r h c => ?_) (θ_run_and (Cert.Kernel35Ideal.Gen.run_main m g (ok_i m)) (Cert.Kernel35Ideal.Gen.unchanged m g (ok_i m))),
    (θ_run Cert.Reference35Ideal.defs _ _).mono (fun r h c => ?_) (Cert.Reference35Ideal.Value.run (F := Ideal) m' g')⟩
  · have u := h.1 c
    exact ⟨(u.1 5).trans (final_5 m (ok_i m) c), (u.1 6).trans (final_6 m (ok_i m) c), (u.1 7).trans (final_7 m (ok_i m) c), (u.1 8).trans (final_8 m (ok_i m) c), h.2 c⟩
  · obtain ⟨e0, e1, e2, e3, e4, e5, e6, e7, e8, e9⟩ := same c
    obtain ⟨h1, h2, h3, h4, hargs⟩ := h c
    refine ⟨h1.trans ((Cert.Reference35Ideal.Read.val_main_v35_eq _ _ _ _).trans ((ref_0 _ _ _ _).trans ?_)), h2.trans ((Cert.Reference35Ideal.Read.val_main_v37_eq _ _ _ _ _ _ _).trans ((ref_1 _ _ _ _ _ _ _).trans ?_)), h3.trans ((Cert.Reference35Ideal.Read.val_main_v39_eq _ _ _ _ _).trans ((ref_2 _ _ _ _ _).trans ?_)), h4.trans ((Cert.Reference35Ideal.Read.val_main_v41_eq _ _ _ _ _).trans ((ref_3 _ _ _ _ _).trans ?_)), hargs⟩
    · rw [e0, e4, e5, e6] <;> rfl
    · rw [e0, e1, e2, e3, e4, e5, e7] <;> rfl
    · rw [e0, e2, e4, e5, e8] <;> rfl
    · rw [e0, e3, e4, e5, e9] <;> rfl

/-- The reference leaves its arguments as they were; it declares no semaphore. -/
theorem frame_reference : Cert.quiescent_Reference35Ideal := fun m ρ _ =>
  (θ_run Cert.Reference35Ideal.defs _ _).mono (fun r h => ⟨fun c => by
      obtain ⟨_, _, _, _, hargs⟩ := h c
      exact hargs, Idealize.ShloMosaic.sem_eq_zero_of_no_sems (by decide) r.2⟩)
    (Cert.Reference35Ideal.Value.run (F := Ideal) m ρ)

end Cert.AdamwUpFirst

end

end
-- ==== Proof.AdamwDownFirst.lean ====
/- AdamW on the first layer's rows of the down projection: half of the rows have their gradient on this device, half on the other. -/
module

public import proofs.«01_k».proof.Proof.Gen.Kernel36
public import proofs.«01_k».proof.Proof.Gen.Kernel36.Frame
public import proofs.«01_k».proof.Proof.Gen.Kernel36Ideal
public import proofs.«01_k».proof.Proof.Gen.Kernel36Ideal.Frame
public import proofs.«01_k».proof.Proof.AdamwSmall
public import proofs.«01_k».proof.Proof.AdamwWord
public import Idealize.ShloMosaic.Lib.Pipeline.ValueKit

@[expose] public section

set_option maxRecDepth 16384

noncomputable section

namespace Cert.AdamwDownFirst

open Idealize.ShloMosaic Idealize.ShloMosaic.TcCoe Cert.AdamwWord

section
open Cert.Kernel36 Cert.Kernel36.Gen

variable {F : FTy → Type} [FloatOps F] (m : (ℓ : Loc nD τ sig) → Buf (Elt F) ℓ)

/-- Whatever the word says, the block of the half that is read lies inside it. -/
theorem ok_b : Ok m := by
  refine ⟨fun i => ⟨fun a => ?_, Or.inl rfl⟩, fun i => ⟨fun a => ?_, Or.inl rfl⟩⟩
  · have h1 : (i 1).val < 11 := (i 1).isLt
    fin_cases a
    · show ((Scalar.select _ _ _ : BitVec 32).toNat + 1) * 64 ≤ 704
      exact Nat.mul_le_mul_right 64 (sel_lt _ 11 (by simp; omega) (by decide))
    · exact Nat.le_of_eq (by simp [cc0_transform_3, Shape.size])
  · have h1 : (i 1).val < 11 := (i 1).isLt
    fin_cases a
    · show ((Scalar.select _ _ _ : BitVec 32).toNat + 1) * 64 ≤ 704
      exact Nat.mul_le_mul_right 64 (sel_lt _ 11 (by decide) (by simp; omega))
    · exact Nat.le_of_eq (by simp [cc0_transform_4, Shape.size])
end

section
open Cert.Kernel36Ideal Cert.Kernel36Ideal.Gen

variable {F : FTy → Type} [FloatOps F] (m : (ℓ : Loc nD τ sig) → Buf (Elt F) ℓ)

/-- Whatever the word says, the block of the half that is read lies inside it. -/
theorem ok_i : Ok m := by
  refine ⟨fun i => ⟨fun a => ?_, Or.inl rfl⟩, fun i => ⟨fun a => ?_, Or.inl rfl⟩⟩
  · have h1 : (i 1).val < 11 := (i 1).isLt
    fin_cases a
    · show ((Scalar.select _ _ _ : BitVec 32).toNat + 1) * 64 ≤ 704
      exact Nat.mul_le_mul_right 64 (sel_lt _ 11 (by simp; omega) (by decide))
    · exact Nat.le_of_eq (by simp [cc0_transform_3, Shape.size])
  · have h1 : (i 1).val < 11 := (i 1).isLt
    fin_cases a
    · show ((Scalar.select _ _ _ : BitVec 32).toNat + 1) * 64 ≤ 704
      exact Nat.mul_le_mul_right 64 (sel_lt _ 11 (by decide) (by simp; omega))
    · exact Nat.le_of_eq (by simp [cc0_transform_4, Shape.size])
end

open Cert.Kernel36Ideal Cert.Kernel36Ideal.Gen Cert.AdamwSmall

variable (m : (ℓ : Loc nD τ sig) → Buf (Elt Ideal) ℓ)

theorem blocks : ∀ t : Fin grid0.N, cc0_transform_0 (grid0.coords t) = ![t.val, 0] ∧ cc0_transform_1 (grid0.coords t) = ![t.val, 0]
    ∧ cc0_transform_2 (grid0.coords t) = ![t.val, 0] ∧ cc0_transform_9 (grid0.coords t) = ![t.val, 0] ∧ cc0_transform_10 (grid0.coords t) = ![t.val, 0]
    ∧ cc0_transform_11 (grid0.coords t) = ![t.val, 0] ∧ cc0_transform_12 (grid0.coords t) = ![t.val, 0] := by decide +kernel

theorem steps : ∀ t : Fin grid0.N, t.val < 22 ∧ (grid0.coords t 0).val = t.val / 11 ∧ (grid0.coords t 1).val = t.val % 11 := by decide +kernel

/-- The place in the array of a place of the block of step `t`. -/
def row (t : Fin grid0.N) (y : S64x2048.Idx) : S2816x2048.Idx :=
  ix2 ⟨t.val * 64 + (y 0).val, by have := (steps t).1; have : (y 0).val < 64 := (y 0).isLt; omega⟩ (y 1)

/-- The place in its half. -/
def half (t : Fin grid0.N) (y : S64x2048.Idx) : S704x2048.Idx :=
  ix2 ⟨t.val % 11 * 64 + (y 0).val, by have : (y 0).val < 64 := (y 0).isLt; omega⟩ (y 1)

/-- The two halves put together, each from this device where it holds it and from the other device where not. -/
def G (x : Vec Ideal S1 .i32) (p q : Vec Ideal S704x2048 .f32) : Vec Ideal S2816x2048 .f32 := fun i =>
  if BitVec.ofNat 32 ((i 0).val / 704) = x (ix1 0) then p (ix2 ⟨(i 0).val % 704, Nat.mod_lt _ (by decide)⟩ (i 1))
  else q (ix2 ⟨(i 0).val % 704, Nat.mod_lt _ (by decide)⟩ (i 1))

theorem G_row (x : Vec Ideal S1 .i32) (p q : Vec Ideal S704x2048 .f32) (t : Fin grid0.N) (y : S64x2048.Idx) :
    G x p q (row t y) = if BitVec.ofNat 32 (grid0.coords t 0).val = x (ix1 0) then p (half t y) else q (half t y) := by
  have hy : (y 0).val < 64 := (y 0).isLt
  have h1 : (row t y 0).val / 704 = (grid0.coords t 0).val := by
    rw [(steps t).2.1]; show (t.val * 64 + (y 0).val) / 704 = _; omega
  have h2 : (ix2 ⟨(row t y 0).val % 704, Nat.mod_lt _ (by decide)⟩ (row t y 1) : S704x2048.Idx) = half t y :=
    congrArg (fun a => (ix2 a (y 1) : S704x2048.Idx)) (Fin.ext (by have := (steps t).1; show (t.val * 64 + (y 0).val) % 704 = t.val % 11 * 64 + (y 0).val; omega))
  unfold G
  rw [h1, h2]

/-- The word the call reads is its first argument. -/
theorem word : (tbl m).at 0 (Rect.unit (s := S1) ![0] S1.size inb_S1_S1_0) numel1_S1 = m ((0 : Dev nD).tc.loc main_arg0) (ix1 0) :=
  (congrArg (V m (0 : Dev nD) main_arg0) (funext fun a => Fin.ext (by fin_cases a; rfl))).trans (congrFun (V_main_arg0 m 0) _)

theorem pay1_at (i : grid0.Coords) (w : BitVec 32) (p q : Vec Ideal S64x2048 .f32) (y : S64x2048.Idx) :
    k0_pay1 (F := Ideal) i w p q y = if BitVec.ofNat 32 (i 0).val = w then p y else q y := by
  by_cases h : BitVec.ofNat 32 (i 0).val = w
  · rw [if_pos h]; exact congrFun (sel_eq h) y
  · rw [if_neg h]; exact congrFun (sel_ne h) y

section
variable (i : grid0.Coords) {w w' : BitVec 32} {p p' q q' x x' d d' e e' : Vec Ideal S64x2048 .f32} (y : S64x2048.Idx)

theorem pay1_of (hw : w = w') (hp : p = p') (hq : q = q') : k0_pay1 (F := Ideal) i w p q y = k0_pay1 (F := Ideal) i w' p' q' y := by
  subst hw hp hq; rfl

theorem pay2_of (hw : w = w') (hp : p = p') (hq : q = q') (hd : d = d') :
    k0_pay2 (F := Ideal) i w p q d y = NM (k0_pay1 (F := Ideal) i w' p' q') d' y := by
  subst hw hp hq hd; rfl

theorem pay3_of (hw : w = w') (hp : p = p') (hq : q = q') (he : e = e') :
    k0_pay3 (F := Ideal) i w p q e y = NV (k0_pay1 (F := Ideal) i w' p' q') e' y := by
  subst hw hp hq he; rfl

theorem pay4_of (hw : w = w') (hp : p = p') (hq : q = q') (hx : x = x') (hd : d = d') (he : e = e') :
    k0_pay4 (F := Ideal) i w p q x d e y = ND x' (k0_pay1 (F := Ideal) i w' p' q') d' e' y := by
  subst hw hp hq hx hd he; rfl
end

theorem emb_0 (hO : Ok m) (t : Fin grid0.N) (y : S64x2048.Idx) : (((cfgM m hO).win 0).blk t).view.emb y = row t y := by
  funext a
  refine Fin.ext ((Pipeline.Window.rect_emb_val ((cfgM m hO).win 0) t y a).trans ?_)
  fin_cases a
  · show cc0_transform_0 (grid0.coords t) 0 * 64 + (y 0).val = _
    rw [show cc0_transform_0 (grid0.coords t) = ![t.val, 0] by simp [blocks t]]; rfl
  · show cc0_transform_0 (grid0.coords t) 1 * 2048 + (y 1).val = _
    rw [show cc0_transform_0 (grid0.coords t) = ![t.val, 0] by simp [blocks t]]; simp [row]

theorem emb_1 (hO : Ok m) (t : Fin grid0.N) (y : S64x2048.Idx) : (((cfgM m hO).win 1).blk t).view.emb y = row t y := by
  funext a
  refine Fin.ext ((Pipeline.Window.rect_emb_val ((cfgM m hO).win 1) t y a).trans ?_)
  fin_cases a
  · show cc0_transform_1 (grid0.coords t) 0 * 64 + (y 0).val = _
    rw [show cc0_transform_1 (grid0.coords t) = ![t.val, 0] by simp [blocks t]]; rfl
  · show cc0_transform_1 (grid0.coords t) 1 * 2048 + (y 1).val = _
    rw [show cc0_transform_1 (grid0.coords t) = ![t.val, 0] by simp [blocks t]]; simp [row]

theorem emb_2 (hO : Ok m) (t : Fin grid0.N) (y : S64x2048.Idx) : (((cfgM m hO).win 2).blk t).view.emb y = row t y := by
  funext a
  refine Fin.ext ((Pipeline.Window.rect_emb_val ((cfgM m hO).win 2) t y a).trans ?_)
  fin_cases a
  · show cc0_transform_2 (grid0.coords t) 0 * 64 + (y 0).val = _
    rw [show cc0_transform_2 (grid0.coords t) = ![t.val, 0] by simp [blocks t]]; rfl
  · show cc0_transform_2 (grid0.coords t) 1 * 2048 + (y 1).val = _
    rw [show cc0_transform_2 (grid0.coords t) = ![t.val, 0] by simp [blocks t]]; simp [row]

theorem emb_5 (hO : Ok m) (t : Fin grid0.N) (y : S64x2048.Idx) : (((cfgM m hO).win 5).blk t).view.emb y = row t y := by
  funext a
  refine Fin.ext ((Pipeline.Window.rect_emb_val ((cfgM m hO).win 5) t y a).trans ?_)
  fin_cases a
  · show cc0_transform_9 (grid0.coords t) 0 * 64 + (y 0).val = _
    rw [show cc0_transform_9 (grid0.coords t) = ![t.val, 0] by simp [blocks t]]; rfl
  · show cc0_transform_9 (grid0.coords t) 1 * 2048 + (y 1).val = _
    rw [show cc0_transform_9 (grid0.coords t) = ![t.val, 0] by simp [blocks t]]; simp [row]

theorem emb_6 (hO : Ok m) (t : Fin grid0.N) (y : S64x2048.Idx) : (((cfgM m hO).win 6).blk t).view.emb y = row t y := by
  funext a
  refine Fin.ext ((Pipeline.Window.rect_emb_val ((cfgM m hO).win 6) t y a).trans ?_)
  fin_cases a
  · show cc0_transform_10 (grid0.coords t) 0 * 64 + (y 0).val = _
    rw [show cc0_transform_10 (grid0.coords t) = ![t.val, 0] by simp [blocks t]]; rfl
  · show cc0_transform_10 (grid0.coords t) 1 * 2048 + (y 1).val = _
    rw [show cc0_transform_10 (grid0.coords t) = ![t.val, 0] by simp [blocks t]]; simp [row]

theorem emb_7 (hO : Ok m) (t : Fin grid0.N) (y : S64x2048.Idx) : (((cfgM m hO).win 7).blk t).view.emb y = row t y := by
  funext a
  refine Fin.ext ((Pipeline.Window.rect_emb_val ((cfgM m hO).win 7) t y a).trans ?_)
  fin_cases a
  · show cc0_transform_11 (grid0.coords t) 0 * 64 + (y 0).val = _
    rw [show cc0_transform_11 (grid0.coords t) = ![t.val, 0] by simp [blocks t]]; rfl
  · show cc0_transform_11 (grid0.coords t) 1 * 2048 + (y 1).val = _
    rw [show cc0_transform_11 (grid0.coords t) = ![t.val, 0] by simp [blocks t]]; simp [row]

theorem emb_8 (hO : Ok m) (t : Fin grid0.N) (y : S64x2048.Idx) : (((cfgM m hO).win 8).blk t).view.emb y = row t y := by
  funext a
  refine Fin.ext ((Pipeline.Window.rect_emb_val ((cfgM m hO).win 8) t y a).trans ?_)
  fin_cases a
  · show cc0_transform_12 (grid0.coords t) 0 * 64 + (y 0).val = _
    rw [show cc0_transform_12 (grid0.coords t) = ![t.val, 0] by simp [blocks t]]; rfl
  · show cc0_transform_12 (grid0.coords t) 1 * 2048 + (y 1).val = _
    rw [show cc0_transform_12 (grid0.coords t) = ![t.val, 0] by simp [blocks t]]; simp [row]

theorem emb_3 (hO : Ok m) (t : Fin grid0.N) (y : S64x2048.Idx) (h : BitVec.ofNat 32 (grid0.coords t 0).val = m ((0 : Dev nD).tc.loc main_arg0) (ix1 0)) :
    (((cfgM m hO).win 3).blk t).view.emb y = half t y := by
  have e : cc0_transform_3 inb_S1_S1_0 numel1_S1 (tbl m) (grid0.coords t) = ![t.val % 11, 0] := by
    have h8 : t.val % 11 < 4294967296 := by omega
    show ![(Scalar.select (Scalar.cmpi .eq _ _) _ _ : BitVec 32).toNat, _] = _
    rw [sel_eq (h.trans (word m).symm), (steps t).2.2]
    simp [Nat.mod_eq_of_lt h8]
  funext a
  refine Fin.ext ((Pipeline.Window.rect_emb_val ((cfgM m hO).win 3) t y a).trans ?_)
  fin_cases a
  · show cc0_transform_3 inb_S1_S1_0 numel1_S1 (tbl m) (grid0.coords t) 0 * 64 + (y 0).val = _
    rw [e]; rfl
  · show cc0_transform_3 inb_S1_S1_0 numel1_S1 (tbl m) (grid0.coords t) 1 * 2048 + (y 1).val = _
    rw [e]; simp [half]

theorem emb_4 (hO : Ok m) (t : Fin grid0.N) (y : S64x2048.Idx) (h : BitVec.ofNat 32 (grid0.coords t 0).val ≠ m ((0 : Dev nD).tc.loc main_arg0) (ix1 0)) :
    (((cfgM m hO).win 4).blk t).view.emb y = half t y := by
  have e : cc0_transform_4 inb_S1_S1_0 numel1_S1 (tbl m) (grid0.coords t) = ![t.val % 11, 0] := by
    have h8 : t.val % 11 < 4294967296 := by omega
    show ![(Scalar.select (Scalar.cmpi .eq _ _) _ _ : BitVec 32).toNat, _] = _
    rw [sel_ne fun e => h (e.trans (word m)), (steps t).2.2]
    simp [Nat.mod_eq_of_lt h8]
  funext a
  refine Fin.ext ((Pipeline.Window.rect_emb_val ((cfgM m hO).win 4) t y a).trans ?_)
  fin_cases a
  · show cc0_transform_4 inb_S1_S1_0 numel1_S1 (tbl m) (grid0.coords t) 0 * 64 + (y 0).val = _
    rw [e]; rfl
  · show cc0_transform_4 inb_S1_S1_0 numel1_S1 (tbl m) (grid0.coords t) 1 * 2048 + (y 1).val = _
    rw [e]; simp [half]

/-- The gradient the call takes at a place of a block is the one that belongs there. -/
theorem grad_at (hO : Ok m) (c : Dev nD) (t : Fin grid0.N) (y : S64x2048.Idx) :
    k0_pay1 (F := Ideal) (grid0.coords t) (m ((0 : Dev nD).tc.loc main_arg0) (ix1 0)) (iblk m hO c 3 t) (iblk m hO c 4 t) y
      = G (m (c.tc.loc main_arg0)) (m (c.tc.loc main_arg4)) (m (c.tc.loc main_arg5)) (row t y) := by
  obtain rfl : c = 0 := Subsingleton.elim _ _
  rw [G_row]
  refine (pay1_at _ _ _ _ y).trans ?_
  by_cases h : BitVec.ofNat 32 (grid0.coords t 0).val = m ((0 : Dev nD).tc.loc main_arg0) (ix1 0)
  · exact (if_pos h).trans ((congrArg (V m (0 : Dev nD) main_arg4) (emb_3 m hO t y h)).trans <| (congrFun (V_main_arg4 m 0) _).trans (if_pos h).symm)
  · exact (if_neg h).trans ((congrArg (V m (0 : Dev nD) main_arg5) (emb_4 m hO t y h)).trans <| (congrFun (V_main_arg5 m 0) _).trans (if_neg h).symm)

/-- The shape of the layer's rows. -/
abbrev S1408x2048 : Shape := ⟨2, ![1408, 2048]⟩

/-- The place in the whole array of a place of the layer's rows. -/
def up (k : S1408x2048.Idx) : S2816x2048.Idx := ix2 ⟨0 + (k 0).val, by have : (k 0).val < 1408 := (k 0).isLt; omega⟩ (k 1)

theorem cut_at (a : Vec Ideal S2816x2048 .f32) (h : S2816x2048.Slices ![0, 0] S1408x2048) (k : S1408x2048.Idx) : extractStridedSlice S1408x2048 ![0, 0] a h k = a (up k) :=
  extractStridedSlice_apply _ a h k _ fun b => by
    fin_cases b
    · rfl
    · exact (Nat.zero_add _).symm

theorem G_up (x : Vec Ideal S1 .i32) (p q : Vec Ideal S704x2048 .f32) (j : S1408x2048.Idx) :
    G x p q (up j) = if BitVec.ofNat 32 ((j 0).val / 704) = x (ix1 0) then p (ix2 ⟨(j 0).val % 704, Nat.mod_lt _ (by decide)⟩ (j 1))
      else q (ix2 ⟨(j 0).val % 704, Nat.mod_lt _ (by decide)⟩ (j 1)) := by
  have h1 : (up j 0).val / 704 = (j 0).val / 704 := by show (0 + (j 0).val) / 704 = _; omega
  have h2 : (ix2 ⟨(up j 0).val % 704, Nat.mod_lt _ (by decide)⟩ (up j 1) : S704x2048.Idx) = ix2 ⟨(j 0).val % 704, Nat.mod_lt _ (by decide)⟩ (j 1) :=
    congrArg (fun a => (ix2 a (j 1) : S704x2048.Idx)) (Fin.ext (by show (0 + (j 0).val) % 704 = (j 0).val % 704; omega))
  unfold G
  rw [h1, h2]
  rfl

/-- The first layer's rows of one array over the second layer's rows of the other. -/
def joined (B p : Vec Ideal S2816x2048 .f32) : Vec Ideal S2816x2048 .f32 := fun i => if (i 0).val / 64 < 22 then B i else p i

theorem entry_0 (c : Dev nD) : V m c main_v0_0 = m (c.tc.loc main_arg6) := by
  entry_read
  rfl

theorem entry_1 (c : Dev nD) : V m c main_v0_1 = m (c.tc.loc main_arg7) := by
  entry_read
  rfl

theorem entry_2 (c : Dev nD) : V m c main_v0_2 = m (c.tc.loc main_arg8) := by
  entry_read
  rfl

theorem entry_3 (c : Dev nD) : V m c main_v0_3 = m (c.tc.loc main_arg9) := by
  entry_read
  rfl

set_option maxHeartbeats 1000000 in
theorem final_5 (hO : Ok m) (c : Dev nD) : (dats m hO 0 c).arrAt 5 (cfgM m hO).N = joined (G (m (c.tc.loc main_arg0)) (m (c.tc.loc main_arg4)) (m (c.tc.loc main_arg5))) (m (c.tc.loc main_arg6)) := by
  refine ((dats m hO 0 c).arrAt_eq_of_coversWhere 5 (G (m (c.tc.loc main_arg0)) (m (c.tc.loc main_arg4)) (m (c.tc.loc main_arg5))) (P := fun (i : S2816x2048.Idx) => (i 0).val / 64 < 22) (fun (β : Fin ((cfgM m hO).win 5).shape.rank → Nat) => β (show Fin 2 from 0) < 22)
    (of_decide_eq_true (by sl_kernel_rfl)) (fun t _ y => ?_) (fun j => Iff.rfl)).trans (congrArg (joined (G (m (c.tc.loc main_arg0)) (m (c.tc.loc main_arg4)) (m (c.tc.loc main_arg5)))) (entry_0 m c))
  rw [emb_5 m hO t y]
  blk_simp
  rw [after0_5]
  unfold outsAt0
  frame_out
  refine (pay1_of _ (w' := m ((0 : Dev nD).tc.loc main_arg0) (ix1 0)) y ?_ ((hs0_3 m hO t).read_unread _) ((hs0_4 m hO t).read_unread _) ).trans ?_
  · exact word m
  exact grad_at m hO c t y

set_option maxHeartbeats 1000000 in
theorem final_7 (hO : Ok m) (c : Dev nD) : (dats m hO 0 c).arrAt 7 (cfgM m hO).N = joined (NM (G (m (c.tc.loc main_arg0)) (m (c.tc.loc main_arg4)) (m (c.tc.loc main_arg5))) (m (c.tc.loc main_arg2))) (m (c.tc.loc main_arg8)) := by
  refine ((dats m hO 0 c).arrAt_eq_of_coversWhere 7 (NM (G (m (c.tc.loc main_arg0)) (m (c.tc.loc main_arg4)) (m (c.tc.loc main_arg5))) (m (c.tc.loc main_arg2))) (P := fun (i : S2816x2048.Idx) => (i 0).val / 64 < 22) (fun (β : Fin ((cfgM m hO).win 7).shape.rank → Nat) => β (show Fin 2 from 0) < 22)
    (of_decide_eq_true (by sl_kernel_rfl)) (fun t _ y => ?_) (fun j => Iff.rfl)).trans (congrArg (joined (NM (G (m (c.tc.loc main_arg0)) (m (c.tc.loc main_arg4)) (m (c.tc.loc main_arg5))) (m (c.tc.loc main_arg2)))) (entry_2 m c))
  rw [emb_7 m hO t y]
  blk_simp
  rw [after0_7]
  unfold outsAt0
  frame_out
  refine (pay2_of _ (w' := m ((0 : Dev nD).tc.loc main_arg0) (ix1 0)) y ?_ ((hs0_3 m hO t).read_unread _) ((hs0_4 m hO t).read_unread _) ((hs0_1 m hO t).read_unread _)).trans ?_
  · exact word m
  exact NM_at (grad_at m hO c t y) ((congrArg (V m c main_arg2) (emb_1 m hO t y)).trans (congrFun (V_main_arg2 m c) _))

set_option maxHeartbeats 1000000 in
theorem final_8 (hO : Ok m) (c : Dev nD) : (dats m hO 0 c).arrAt 8 (cfgM m hO).N = joined (NV (G (m (c.tc.loc main_arg0)) (m (c.tc.loc main_arg4)) (m (c.tc.loc main_arg5))) (m (c.tc.loc main_arg3))) (m (c.tc.loc main_arg9)) := by
  refine ((dats m hO 0 c).arrAt_eq_of_coversWhere 8 (NV (G (m (c.tc.loc main_arg0)) (m (c.tc.loc main_arg4)) (m (c.tc.loc main_arg5))) (m (c.tc.loc main_arg3))) (P := fun (i : S2816x2048.Idx) => (i 0).val / 64 < 22) (fun (β : Fin ((cfgM m hO).win 8).shape.rank → Nat) => β (show Fin 2 from 0) < 22)
    (of_decide_eq_true (by sl_kernel_rfl)) (fun t _ y => ?_) (fun j => Iff.rfl)).trans (congrArg (joined (NV (G (m (c.tc.loc main_arg0)) (m (c.tc.loc main_arg4)) (m (c.tc.loc main_arg5))) (m (c.tc.loc main_arg3)))) (entry_3 m c))
  rw [emb_8 m hO t y]
  blk_simp
  rw [after0_8]
  unfold outsAt0
  frame_out
  refine (pay3_of _ (w' := m ((0 : Dev nD).tc.loc main_arg0) (ix1 0)) y ?_ ((hs0_3 m hO t).read_unread _) ((hs0_4 m hO t).read_unread _) ((hs0_2 m hO t).read_unread _)).trans ?_
  · exact word m
  exact NV_at (grad_at m hO c t y) ((congrArg (V m c main_arg3) (emb_2 m hO t y)).trans (congrFun (V_main_arg3 m c) _))

set_option maxHeartbeats 1000000 in
theorem final_6 (hO : Ok m) (c : Dev nD) : (dats m hO 0 c).arrAt 6 (cfgM m hO).N = joined (ND (m (c.tc.loc main_arg1)) (G (m (c.tc.loc main_arg0)) (m (c.tc.loc main_arg4)) (m (c.tc.loc main_arg5))) (m (c.tc.loc main_arg2)) (m (c.tc.loc main_arg3))) (m (c.tc.loc main_arg7)) := by
  refine ((dats m hO 0 c).arrAt_eq_of_coversWhere 6 (ND (m (c.tc.loc main_arg1)) (G (m (c.tc.loc main_arg0)) (m (c.tc.loc main_arg4)) (m (c.tc.loc main_arg5))) (m (c.tc.loc main_arg2)) (m (c.tc.loc main_arg3))) (P := fun (i : S2816x2048.Idx) => (i 0).val / 64 < 22) (fun (β : Fin ((cfgM m hO).win 6).shape.rank → Nat) => β (show Fin 2 from 0) < 22)
    (of_decide_eq_true (by sl_kernel_rfl)) (fun t _ y => ?_) (fun j => Iff.rfl)).trans (congrArg (joined (ND (m (c.tc.loc main_arg1)) (G (m (c.tc.loc main_arg0)) (m (c.tc.loc main_arg4)) (m (c.tc.loc main_arg5))) (m (c.tc.loc main_arg2)) (m (c.tc.loc main_arg3)))) (entry_1 m c))
  rw [emb_6 m hO t y]
  blk_simp
  rw [after0_6]
  unfold outsAt0
  frame_out
  refine (pay4_of _ (w' := m ((0 : Dev nD).tc.loc main_arg0) (ix1 0)) y ?_ ((hs0_3 m hO t).read_unread _) ((hs0_4 m hO t).read_unread _) ((hs0_0 m hO t).read_unread _) ((hs0_1 m hO t).read_unread _) ((hs0_2 m hO t).read_unread _)).trans ?_
  · exact word m
  exact ND_at ((congrArg (V m c main_arg1) (emb_0 m hO t y)).trans (congrFun (V_main_arg1 m c) _)) (grad_at m hO c t y) ((congrArg (V m c main_arg2) (emb_1 m hO t y)).trans (congrFun (V_main_arg2 m c) _)) ((congrArg (V m c main_arg3) (emb_2 m hO t y)).trans (congrFun (V_main_arg3 m c) _))

end Cert.AdamwDownFirst

end

end
-- ==== Proof.AdamwDownFirstPair.lean ====
/- AdamW on the first layer's rows of the down projection: the call and its reference leave the same arrays. -/
module

public import proofs.«01_k».proof.Defs
public import proofs.«01_k».proof.Proof.Gen.Reference36Ideal
public import proofs.«01_k».proof.Proof.Gen.Reference36Ideal.Run
public import proofs.«01_k».proof.Proof.Gen.Reference36Ideal.Read
public import proofs.«01_k».proof.Proof.AdamwDownFirst

@[expose] public section

set_option maxRecDepth 16384

noncomputable section

namespace Cert.AdamwDownFirst

open Idealize.ShloMosaic Idealize.ShloMosaic.TcCoe Cert.AdamwSmall

section
open Cert.Reference36Ideal Cert.Reference36Ideal.Gen Cert.Reference36Ideal.Read

theorem pick (x : (⟨S1, .i32⟩ : BufTy).Contents (Elt Ideal)) (k : BitVec 32) (p q : Vec Ideal S704x2048 .f32) (i : S704x2048.Idx) :
    (select (broadcastInDim S704x2048 ![] bcast_S_S704x2048 (cmpi .eq (shapeCast _ x shapeCasts_S1_S_) (constantI S_ 32 k))) p q : Vec Ideal S704x2048 .f32) i
      = if k = x (ix1 0) then p i else q i := by
  have e : (shapeCast S_ x shapeCasts_S1_S_ : (⟨S_, .i32⟩ : BufTy).Contents (Elt Ideal)) (fun a => a.elim0) = x (ix1 0) := by
    unfold shapeCast
    exact congrArg x (funext fun a => by fin_cases a; exact Subsingleton.elim (α := Fin 1) _ _)
  have b := Cert.AdamwWord.pick_word (s := S_) (t := S704x2048) rfl ![] bcast_S_S704x2048 (shapeCast S_ x shapeCasts_S1_S_) k (fun a => a.elim0) p q i
  rw [e] at b
  exact b

/-- The reference's gradient is the two halves put together. -/
theorem ref_G (x : (⟨S1, .i32⟩ : BufTy).Contents (Elt Ideal)) (p q : Vec Ideal S704x2048 .f32) (j : S1408x2048.Idx) : val_main_v6 (F := Ideal) x p q j = G x p q (up j) := by
  have hj : (j 0).val < 1408 := (j 0).isLt
  by_cases h : (j 0).val < 704
  · refine (concatenate_apply_piece (t := S1408x2048) 0 _ _ j 0 (by simp) S704x2048 (val_main_v2 (F := Ideal) x p q) rfl rfl 0 rfl
      (ix2 ⟨(j 0).val % 704, Nat.mod_lt _ (by decide)⟩ (j 1)) ?_ ?_).trans ?_
    · intro b hb
      fin_cases b
      · exact absurd rfl hb
      · rfl
    · show 0 + (j 0).val % 704 = (j 0).val; omega
    · have e : (j 0).val / 704 = 0 := by omega
      rw [G_up, e]
      exact pick x 0#32 p q _
  · refine (concatenate_apply_piece (t := S1408x2048) 0 _ _ j 1 (by simp) S704x2048 (val_main_v5 (F := Ideal) x p q) rfl rfl 704 rfl
      (ix2 ⟨(j 0).val % 704, Nat.mod_lt _ (by decide)⟩ (j 1)) ?_ ?_).trans ?_
    · intro b hb
      fin_cases b
      · exact absurd rfl hb
      · rfl
    · show 704 + (j 0).val % 704 = (j 0).val; omega
    · have e : (j 0).val / 704 = 1 := by omega
      rw [G_up, e]
      exact pick x 1#32 p q _

variable (x : (⟨S1, .i32⟩ : BufTy).Contents (Elt Ideal)) (w u v : Vec Ideal S2816x2048 .f32) (p q : Vec Ideal S704x2048 .f32)

theorem ref_ND (j : S1408x2048.Idx) : val_main_v33 (F := Ideal) x w u v p q j = ND w (G x p q) u v (up j) :=
  (congrFun (show val_main_v33 (F := Ideal) x w u v p q = ND (val_main_v7 (F := Ideal) w) (val_main_v6 (F := Ideal) x p q) (val_main_v8 (F := Ideal) u) (val_main_v9 (F := Ideal) v) from rfl) j).trans
    (ND_at (cut_at w _ j) (ref_G x p q j) (cut_at u _ j) (cut_at v _ j))

theorem ref_NM (j : S1408x2048.Idx) : val_main_v14 (F := Ideal) x u p q j = NM (G x p q) u (up j) :=
  (congrFun (show val_main_v14 (F := Ideal) x u p q = NM (val_main_v6 (F := Ideal) x p q) (val_main_v8 (F := Ideal) u) from rfl) j).trans
    (NM_at (ref_G x p q j) (cut_at u _ j))

theorem ref_NV (j : S1408x2048.Idx) : val_main_v20 (F := Ideal) x v p q j = NV (G x p q) v (up j) :=
  (congrFun (show val_main_v20 (F := Ideal) x v p q = NV (val_main_v6 (F := Ideal) x p q) (val_main_v9 (F := Ideal) v) from rfl) j).trans
    (NV_at (ref_G x p q j) (cut_at v _ j))

theorem join (A : Vec Ideal S1408x2048 .f32) (B z : Vec Ideal S2816x2048 .f32) (h : ∀ k, A k = B (up k)) :
    (concatenate S2816x2048 0 [⟨S1408x2048, A⟩, ⟨S1408x2048, extractStridedSlice S1408x2048 ![1408, 0] z slices_S2816x2048_S1408x2048_1408_0⟩] concatenates_S1408x2048_S1408x2048_S2816x2048_d0 : Vec Ideal S2816x2048 .f32) = joined B z := by
  funext j
  show _ = if (j 0).val / 64 < 22 then B j else z j
  have hj : (j 0).val < 2816 := (j 0).isLt
  by_cases h' : (j 0).val < 1408
  · refine (concatenate_apply_piece (t := S2816x2048) 0 _ _ j 0 (by simp) S1408x2048 A rfl rfl 0 rfl (ix2 ⟨(j 0).val, h'⟩ (j 1)) ?_ ?_).trans ?_
    · intro b hb
      fin_cases b
      · exact absurd rfl hb
      · rfl
    · show 0 + (j 0).val = (j 0).val; omega
    · rw [if_pos (by omega)]
      refine (h _).trans (congrArg B (funext fun b => ?_))
      fin_cases b
      · exact Fin.ext (Nat.zero_add _)
      · rfl
  · refine (concatenate_apply_piece (t := S2816x2048) 0 _ _ j 1 (by simp) S1408x2048 (extractStridedSlice S1408x2048 ![1408, 0] z slices_S2816x2048_S1408x2048_1408_0) rfl rfl 1408 rfl
      (ix2 ⟨(j 0).val - 1408, by omega⟩ (j 1)) ?_ ?_).trans ?_
    · intro b hb
      fin_cases b
      · exact absurd rfl hb
      · rfl
    · show 1408 + ((j 0).val - 1408) = (j 0).val; omega
    · rw [if_neg (by omega)]
      refine extractStridedSlice_apply _ z _ _ j fun b => ?_
      fin_cases b
      · show (j 0).val = 1408 + ((j 0).val - 1408); omega
      · exact (Nat.zero_add _).symm

variable (z : Vec Ideal S2816x2048 .f32)

theorem ref_0 : val_main_v35 (F := Ideal) x p q z = joined (G x p q) z := join _ _ _ (ref_G x p q)

theorem ref_1 : val_main_v37 (F := Ideal) x w u v p q z = joined (ND w (G x p q) u v) z := join _ _ _ (ref_ND x w u v p q)

theorem ref_2 : val_main_v39 (F := Ideal) x u p q z = joined (NM (G x p q) u) z := join _ _ _ (ref_NM x u p q)

theorem ref_3 : val_main_v41 (F := Ideal) x v p q z = joined (NV (G x p q) v) z := join _ _ _ (ref_NV x v p q)

end

theorem algebraic : Cert.algebraic_Kernel36Ideal_Reference36Ideal := fun m g m' g' _ same => by
  refine ⟨fun c => joined (G (m ((c.tc : Thread Cert.Kernel36Ideal.nD Cert.Kernel36Ideal.τ).loc Cert.Kernel36Ideal.main_arg0)) (m ((c.tc : Thread Cert.Kernel36Ideal.nD Cert.Kernel36Ideal.τ).loc Cert.Kernel36Ideal.main_arg4)) (m ((c.tc : Thread Cert.Kernel36Ideal.nD Cert.Kernel36Ideal.τ).loc Cert.Kernel36Ideal.main_arg5))) (m ((c.tc : Thread Cert.Kernel36Ideal.nD Cert.Kernel36Ideal.τ).loc Cert.Kernel36Ideal.main_arg6)), fun c => joined (ND (m ((c.tc : Thread Cert.Kernel36Ideal.nD Cert.Kernel36Ideal.τ).loc Cert.Kernel36Ideal.main_arg1)) (G (m ((c.tc : Thread Cert.Kernel36Ideal.nD Cert.Kernel36Ideal.τ).loc Cert.Kernel36Ideal.main_arg0)) (m ((c.tc : Thread Cert.Kernel36Ideal.nD Cert.Kernel36Ideal.τ).loc Cert.Kernel36Ideal.main_arg4)) (m ((c.tc : Thread Cert.Kernel36Ideal.nD Cert.Kernel36Ideal.τ).loc Cert.Kernel36Ideal.main_arg5))) (m ((c.tc : Thread Cert.Kernel36Ideal.nD Cert.Kernel36Ideal.τ).loc Cert.Kernel36Ideal.main_arg2)) (m ((c.tc : Thread Cert.Kernel36Ideal.nD Cert.Kernel36Ideal.τ).loc Cert.Kernel36Ideal.main_arg3))) (m ((c.tc : Thread Cert.Kernel36Ideal.nD Cert.Kernel36Ideal.τ).loc Cert.Kernel36Ideal.main_arg7)), fun c => joined (NM (G (m ((c.tc : Thread Cert.Kernel36Ideal.nD Cert.Kernel36Ideal.τ).loc Cert.Kernel36Ideal.main_arg0)) (m ((c.tc : Thread Cert.Kernel36Ideal.nD Cert.Kernel36Ideal.τ).loc Cert.Kernel36Ideal.main_arg4)) (m ((c.tc : Thread Cert.Kernel36Ideal.nD Cert.Kernel36Ideal.τ).loc Cert.Kernel36Ideal.main_arg5))) (m ((c.tc : Thread Cert.Kernel36Ideal.nD Cert.Kernel36Ideal.τ).loc Cert.Kernel36Ideal.main_arg2))) (m ((c.tc : Thread Cert.Kernel36Ideal.nD Cert.Kernel36Ideal.τ).loc Cert.Kernel36Ideal.main_arg8)), fun c => joined (NV (G (m ((c.tc : Thread Cert.Kernel36Ideal.nD Cert.Kernel36Ideal.τ).loc Cert.Kernel36Ideal.main_arg0)) (m ((c.tc : Thread Cert.Kernel36Ideal.nD Cert.Kernel36Ideal.τ).loc Cert.Kernel36Ideal.main_arg4)) (m ((c.tc : Thread Cert.Kernel36Ideal.nD Cert.Kernel36Ideal.τ).loc Cert.Kernel36Ideal.main_arg5))) (m ((c.tc : Thread Cert.Kernel36Ideal.nD Cert.Kernel36Ideal.τ).loc Cert.Kernel36Ideal.main_arg3))) (m ((c.tc : Thread Cert.Kernel36Ideal.nD Cert.Kernel36Ideal.τ).loc Cert.Kernel36Ideal.main_arg9)),
    (θ_run Cert.Kernel36Ideal.defs _ _).mono (fun r h c => ?_) (θ_run_and (Cert.Kernel36Ideal.Gen.run_main m g (ok_i m)) (Cert.Kernel36Ideal.Gen.unchanged m g (ok_i m))),
    (θ_run Cert.Reference36Ideal.defs _ _).mono (fun r h c => ?_) (Cert.Reference36Ideal.Value.run (F := Ideal) m' g')⟩
  · have u := h.1 c
    exact ⟨(u.1 5).trans (final_5 m (ok_i m) c), (u.1 6).trans (final_6 m (ok_i m) c), (u.1 7).trans (final_7 m (ok_i m) c), (u.1 8).trans (final_8 m (ok_i m) c), h.2 c⟩
  · obtain ⟨e0, e1, e2, e3, e4, e5, e6, e7, e8, e9⟩ := same c
    obtain ⟨h1, h2, h3, h4, hargs⟩ := h c
    refine ⟨h1.trans ((Cert.Reference36Ideal.Read.val_main_v35_eq _ _ _ _).trans ((ref_0 _ _ _ _).trans ?_)), h2.trans ((Cert.Reference36Ideal.Read.val_main_v37_eq _ _ _ _ _ _ _).trans ((ref_1 _ _ _ _ _ _ _).trans ?_)), h3.trans ((Cert.Reference36Ideal.Read.val_main_v39_eq _ _ _ _ _).trans ((ref_2 _ _ _ _ _).trans ?_)), h4.trans ((Cert.Reference36Ideal.Read.val_main_v41_eq _ _ _ _ _).trans ((ref_3 _ _ _ _ _).trans ?_)), hargs⟩
    · rw [e0, e4, e5, e6] <;> rfl
    · rw [e0, e1, e2, e3, e4, e5, e7] <;> rfl
    · rw [e0, e2, e4, e5, e8] <;> rfl
    · rw [e0, e3, e4, e5, e9] <;> rfl

/-- The reference leaves its arguments as they were; it declares no semaphore. -/
theorem frame_reference : Cert.quiescent_Reference36Ideal := fun m ρ _ =>
  (θ_run Cert.Reference36Ideal.defs _ _).mono (fun r h => ⟨fun c => by
      obtain ⟨_, _, _, _, hargs⟩ := h c
      exact hargs, Idealize.ShloMosaic.sem_eq_zero_of_no_sems (by decide) r.2⟩)
    (Cert.Reference36Ideal.Value.run (F := Ideal) m ρ)

end Cert.AdamwDownFirst

end

end
-- ==== Proof.AdamwUpLast.lean ====
/- AdamW on the second layer's rows of the up projection: half of the rows have their gradient on this device, half on the other. -/
module

public import proofs.«01_k».proof.Proof.Gen.Kernel37
public import proofs.«01_k».proof.Proof.Gen.Kernel37.Frame
public import proofs.«01_k».proof.Proof.Gen.Kernel37Ideal
public import proofs.«01_k».proof.Proof.Gen.Kernel37Ideal.Frame
public import proofs.«01_k».proof.Proof.AdamwSmall
public import proofs.«01_k».proof.Proof.AdamwWord
public import Idealize.ShloMosaic.Lib.Pipeline.ValueKit

@[expose] public section

set_option maxRecDepth 16384

noncomputable section

namespace Cert.AdamwUpLast

open Idealize.ShloMosaic Idealize.ShloMosaic.TcCoe Cert.AdamwWord

section
open Cert.Kernel37 Cert.Kernel37.Gen

variable {F : FTy → Type} [FloatOps F] (m : (ℓ : Loc nD τ sig) → Buf (Elt F) ℓ)

/-- Whatever the word says, the block of the half that is read lies inside it. -/
theorem ok_b : Ok m := by
  refine ⟨fun i => ⟨fun a => ?_, Or.inl rfl⟩, fun i => ⟨fun a => ?_, Or.inl rfl⟩⟩
  · have h1 : (i 1).val < 8 := (i 1).isLt
    fin_cases a
    · show ((Scalar.select _ _ _ : BitVec 32).toNat + 1) * 128 ≤ 1024
      exact Nat.mul_le_mul_right 128 (sel_lt _ 8 (by simp; omega) (by decide))
    · exact Nat.le_of_eq (by simp [cc0_transform_3, Shape.size])
  · have h1 : (i 1).val < 8 := (i 1).isLt
    fin_cases a
    · show ((Scalar.select _ _ _ : BitVec 32).toNat + 1) * 128 ≤ 1024
      exact Nat.mul_le_mul_right 128 (sel_lt _ 8 (by decide) (by simp; omega))
    · exact Nat.le_of_eq (by simp [cc0_transform_4, Shape.size])
end

section
open Cert.Kernel37Ideal Cert.Kernel37Ideal.Gen

variable {F : FTy → Type} [FloatOps F] (m : (ℓ : Loc nD τ sig) → Buf (Elt F) ℓ)

/-- Whatever the word says, the block of the half that is read lies inside it. -/
theorem ok_i : Ok m := by
  refine ⟨fun i => ⟨fun a => ?_, Or.inl rfl⟩, fun i => ⟨fun a => ?_, Or.inl rfl⟩⟩
  · have h1 : (i 1).val < 8 := (i 1).isLt
    fin_cases a
    · show ((Scalar.select _ _ _ : BitVec 32).toNat + 1) * 128 ≤ 1024
      exact Nat.mul_le_mul_right 128 (sel_lt _ 8 (by simp; omega) (by decide))
    · exact Nat.le_of_eq (by simp [cc0_transform_3, Shape.size])
  · have h1 : (i 1).val < 8 := (i 1).isLt
    fin_cases a
    · show ((Scalar.select _ _ _ : BitVec 32).toNat + 1) * 128 ≤ 1024
      exact Nat.mul_le_mul_right 128 (sel_lt _ 8 (by decide) (by simp; omega))
    · exact Nat.le_of_eq (by simp [cc0_transform_4, Shape.size])
end

open Cert.Kernel37Ideal Cert.Kernel37Ideal.Gen Cert.AdamwSmall

variable (m : (ℓ : Loc nD τ sig) → Buf (Elt Ideal) ℓ)

theorem blocks : ∀ t : Fin grid0.N, cc0_transform_0 (grid0.coords t) = ![t.val + 16, 0] ∧ cc0_transform_1 (grid0.coords t) = ![t.val + 16, 0]
    ∧ cc0_transform_2 (grid0.coords t) = ![t.val + 16, 0] ∧ cc0_transform_5 (grid0.coords t) = ![t.val + 16, 0] ∧ cc0_transform_6 (grid0.coords t) = ![t.val + 16, 0]
    ∧ cc0_transform_7 (grid0.coords t) = ![t.val + 16, 0] ∧ cc0_transform_8 (grid0.coords t) = ![t.val + 16, 0] := by decide +kernel

theorem steps : ∀ t : Fin grid0.N, t.val < 16 ∧ (grid0.coords t 0).val = t.val / 8 ∧ (grid0.coords t 1).val = t.val % 8 := by decide +kernel

/-- The place in the array of a place of the block of step `t`. -/
def row (t : Fin grid0.N) (y : S128x2816.Idx) : S4096x2816.Idx :=
  ix2 ⟨(t.val + 16) * 128 + (y 0).val, by have := (steps t).1; have : (y 0).val < 128 := (y 0).isLt; omega⟩ (y 1)

/-- The place in its half. -/
def half (t : Fin grid0.N) (y : S128x2816.Idx) : S1024x2816.Idx :=
  ix2 ⟨t.val % 8 * 128 + (y 0).val, by have : (y 0).val < 128 := (y 0).isLt; omega⟩ (y 1)

/-- The two halves put together, each from this device where it holds it and from the other device where not. -/
def G (x : Vec Ideal S1 .i32) (p q : Vec Ideal S1024x2816 .f32) : Vec Ideal S4096x2816 .f32 := fun i =>
  if BitVec.ofNat 32 (((i 0).val - 2048) / 1024) = x (ix1 0) then p (ix2 ⟨((i 0).val - 2048) % 1024, Nat.mod_lt _ (by decide)⟩ (i 1))
  else q (ix2 ⟨((i 0).val - 2048) % 1024, Nat.mod_lt _ (by decide)⟩ (i 1))

theorem G_row (x : Vec Ideal S1 .i32) (p q : Vec Ideal S1024x2816 .f32) (t : Fin grid0.N) (y : S128x2816.Idx) :
    G x p q (row t y) = if BitVec.ofNat 32 (grid0.coords t 0).val = x (ix1 0) then p (half t y) else q (half t y) := by
  have hy : (y 0).val < 128 := (y 0).isLt
  have h1 : ((row t y 0).val - 2048) / 1024 = (grid0.coords t 0).val := by
    rw [(steps t).2.1]; show ((t.val + 16) * 128 + (y 0).val - 2048) / 1024 = _; omega
  have h2 : (ix2 ⟨((row t y 0).val - 2048) % 1024, Nat.mod_lt _ (by decide)⟩ (row t y 1) : S1024x2816.Idx) = half t y :=
    congrArg (fun a => (ix2 a (y 1) : S1024x2816.Idx)) (Fin.ext (by have := (steps t).1; show ((t.val + 16) * 128 + (y 0).val - 2048) % 1024 = t.val % 8 * 128 + (y 0).val; omega))
  unfold G
  rw [h1, h2]

/-- The word the call reads is its first argument. -/
theorem word : (tbl m).at 0 (Rect.unit (s := S1) ![0] S1.size inb_S1_S1_0) numel1_S1 = m ((0 : Dev nD).tc.loc main_arg0) (ix1 0) :=
  (congrArg (V m (0 : Dev nD) main_arg0) (funext fun a => Fin.ext (by fin_cases a; rfl))).trans (congrFun (V_main_arg0 m 0) _)

theorem pay1_at (i : grid0.Coords) (w : BitVec 32) (p q : Vec Ideal S128x2816 .f32) (y : S128x2816.Idx) :
    k0_pay1 (F := Ideal) i w p q y = if BitVec.ofNat 32 (i 0).val = w then p y else q y := by
  by_cases h : BitVec.ofNat 32 (i 0).val = w
  · rw [if_pos h]; exact congrFun (sel_eq h) y
  · rw [if_neg h]; exact congrFun (sel_ne h) y

section
variable (i : grid0.Coords) {w w' : BitVec 32} {p p' q q' x x' d d' e e' : Vec Ideal S128x2816 .f32} (y : S128x2816.Idx)

theorem pay1_of (hw : w = w') (hp : p = p') (hq : q = q') : k0_pay1 (F := Ideal) i w p q y = k0_pay1 (F := Ideal) i w' p' q' y := by
  subst hw hp hq; rfl

theorem pay2_of (hw : w = w') (hp : p = p') (hq : q = q') (hd : d = d') :
    k0_pay2 (F := Ideal) i w p q d y = NM (k0_pay1 (F := Ideal) i w' p' q') d' y := by
  subst hw hp hq hd; rfl

theorem pay3_of (hw : w = w') (hp : p = p') (hq : q = q') (he : e = e') :
    k0_pay3 (F := Ideal) i w p q e y = NV (k0_pay1 (F := Ideal) i w' p' q') e' y := by
  subst hw hp hq he; rfl

theorem pay4_of (hw : w = w') (hp : p = p') (hq : q = q') (hx : x = x') (hd : d = d') (he : e = e') :
    k0_pay4 (F := Ideal) i w p q x d e y = ND x' (k0_pay1 (F := Ideal) i w' p' q') d' e' y := by
  subst hw hp hq hx hd he; rfl
end

theorem emb_0 (hO : Ok m) (t : Fin grid0.N) (y : S128x2816.Idx) : (((cfgM m hO).win 0).blk t).view.emb y = row t y := by
  funext a
  refine Fin.ext ((Pipeline.Window.rect_emb_val ((cfgM m hO).win 0) t y a).trans ?_)
  fin_cases a
  · show cc0_transform_0 (grid0.coords t) 0 * 128 + (y 0).val = _
    rw [show cc0_transform_0 (grid0.coords t) = ![t.val + 16, 0] by simp [blocks t]]; rfl
  · show cc0_transform_0 (grid0.coords t) 1 * 2816 + (y 1).val = _
    rw [show cc0_transform_0 (grid0.coords t) = ![t.val + 16, 0] by simp [blocks t]]; simp [row]

theorem emb_1 (hO : Ok m) (t : Fin grid0.N) (y : S128x2816.Idx) : (((cfgM m hO).win 1).blk t).view.emb y = row t y := by
  funext a
  refine Fin.ext ((Pipeline.Window.rect_emb_val ((cfgM m hO).win 1) t y a).trans ?_)
  fin_cases a
  · show cc0_transform_1 (grid0.coords t) 0 * 128 + (y 0).val = _
    rw [show cc0_transform_1 (grid0.coords t) = ![t.val + 16, 0] by simp [blocks t]]; rfl
  · show cc0_transform_1 (grid0.coords t) 1 * 2816 + (y 1).val = _
    rw [show cc0_transform_1 (grid0.coords t) = ![t.val + 16, 0] by simp [blocks t]]; simp [row]

theorem emb_2 (hO : Ok m) (t : Fin grid0.N) (y : S128x2816.Idx) : (((cfgM m hO).win 2).blk t).view.emb y = row t y := by
  funext a
  refine Fin.ext ((Pipeline.Window.rect_emb_val ((cfgM m hO).win 2) t y a).trans ?_)
  fin_cases a
  · show cc0_transform_2 (grid0.coords t) 0 * 128 + (y 0).val = _
    rw [show cc0_transform_2 (grid0.coords t) = ![t.val + 16, 0] by simp [blocks t]]; rfl
  · show cc0_transform_2 (grid0.coords t) 1 * 2816 + (y 1).val = _
    rw [show cc0_transform_2 (grid0.coords t) = ![t.val + 16, 0] by simp [blocks t]]; simp [row]

theorem emb_5 (hO : Ok m) (t : Fin grid0.N) (y : S128x2816.Idx) : (((cfgM m hO).win 5).blk t).view.emb y = row t y := by
  funext a
  refine Fin.ext ((Pipeline.Window.rect_emb_val ((cfgM m hO).win 5) t y a).trans ?_)
  fin_cases a
  · show cc0_transform_5 (grid0.coords t) 0 * 128 + (y 0).val = _
    rw [show cc0_transform_5 (grid0.coords t) = ![t.val + 16, 0] by simp [blocks t]]; rfl
  · show cc0_transform_5 (grid0.coords t) 1 * 2816 + (y 1).val = _
    rw [show cc0_transform_5 (grid0.coords t) = ![t.val + 16, 0] by simp [blocks t]]; simp [row]

theorem emb_6 (hO : Ok m) (t : Fin grid0.N) (y : S128x2816.Idx) : (((cfgM m hO).win 6).blk t).view.emb y = row t y := by
  funext a
  refine Fin.ext ((Pipeline.Window.rect_emb_val ((cfgM m hO).win 6) t y a).trans ?_)
  fin_cases a
  · show cc0_transform_6 (grid0.coords t) 0 * 128 + (y 0).val = _
    rw [show cc0_transform_6 (grid0.coords t) = ![t.val + 16, 0] by simp [blocks t]]; rfl
  · show cc0_transform_6 (grid0.coords t) 1 * 2816 + (y 1).val = _
    rw [show cc0_transform_6 (grid0.coords t) = ![t.val + 16, 0] by simp [blocks t]]; simp [row]

theorem emb_7 (hO : Ok m) (t : Fin grid0.N) (y : S128x2816.Idx) : (((cfgM m hO).win 7).blk t).view.emb y = row t y := by
  funext a
  refine Fin.ext ((Pipeline.Window.rect_emb_val ((cfgM m hO).win 7) t y a).trans ?_)
  fin_cases a
  · show cc0_transform_7 (grid0.coords t) 0 * 128 + (y 0).val = _
    rw [show cc0_transform_7 (grid0.coords t) = ![t.val + 16, 0] by simp [blocks t]]; rfl
  · show cc0_transform_7 (grid0.coords t) 1 * 2816 + (y 1).val = _
    rw [show cc0_transform_7 (grid0.coords t) = ![t.val + 16, 0] by simp [blocks t]]; simp [row]

theorem emb_8 (hO : Ok m) (t : Fin grid0.N) (y : S128x2816.Idx) : (((cfgM m hO).win 8).blk t).view.emb y = row t y := by
  funext a
  refine Fin.ext ((Pipeline.Window.rect_emb_val ((cfgM m hO).win 8) t y a).trans ?_)
  fin_cases a
  · show cc0_transform_8 (grid0.coords t) 0 * 128 + (y 0).val = _
    rw [show cc0_transform_8 (grid0.coords t) = ![t.val + 16, 0] by simp [blocks t]]; rfl
  · show cc0_transform_8 (grid0.coords t) 1 * 2816 + (y 1).val = _
    rw [show cc0_transform_8 (grid0.coords t) = ![t.val + 16, 0] by simp [blocks t]]; simp [row]

theorem emb_3 (hO : Ok m) (t : Fin grid0.N) (y : S128x2816.Idx) (h : BitVec.ofNat 32 (grid0.coords t 0).val = m ((0 : Dev nD).tc.loc main_arg0) (ix1 0)) :
    (((cfgM m hO).win 3).blk t).view.emb y = half t y := by
  have e : cc0_transform_3 inb_S1_S1_0 numel1_S1 (tbl m) (grid0.coords t) = ![t.val % 8, 0] := by
    have h8 : t.val % 8 < 4294967296 := by omega
    show ![(Scalar.select (Scalar.cmpi .eq _ _) _ _ : BitVec 32).toNat, _] = _
    rw [sel_eq (h.trans (word m).symm), (steps t).2.2]
    simp [Nat.mod_eq_of_lt h8]
  funext a
  refine Fin.ext ((Pipeline.Window.rect_emb_val ((cfgM m hO).win 3) t y a).trans ?_)
  fin_cases a
  · show cc0_transform_3 inb_S1_S1_0 numel1_S1 (tbl m) (grid0.coords t) 0 * 128 + (y 0).val = _
    rw [e]; rfl
  · show cc0_transform_3 inb_S1_S1_0 numel1_S1 (tbl m) (grid0.coords t) 1 * 2816 + (y 1).val = _
    rw [e]; simp [half]

theorem emb_4 (hO : Ok m) (t : Fin grid0.N) (y : S128x2816.Idx) (h : BitVec.ofNat 32 (grid0.coords t 0).val ≠ m ((0 : Dev nD).tc.loc main_arg0) (ix1 0)) :
    (((cfgM m hO).win 4).blk t).view.emb y = half t y := by
  have e : cc0_transform_4 inb_S1_S1_0 numel1_S1 (tbl m) (grid0.coords t) = ![t.val % 8, 0] := by
    have h8 : t.val % 8 < 4294967296 := by omega
    show ![(Scalar.select (Scalar.cmpi .eq _ _) _ _ : BitVec 32).toNat, _] = _
    rw [sel_ne fun e => h (e.trans (word m)), (steps t).2.2]
    simp [Nat.mod_eq_of_lt h8]
  funext a
  refine Fin.ext ((Pipeline.Window.rect_emb_val ((cfgM m hO).win 4) t y a).trans ?_)
  fin_cases a
  · show cc0_transform_4 inb_S1_S1_0 numel1_S1 (tbl m) (grid0.coords t) 0 * 128 + (y 0).val = _
    rw [e]; rfl
  · show cc0_transform_4 inb_S1_S1_0 numel1_S1 (tbl m) (grid0.coords t) 1 * 2816 + (y 1).val = _
    rw [e]; simp [half]

/-- The gradient the call takes at a place of a block is the one that belongs there. -/
theorem grad_at (hO : Ok m) (c : Dev nD) (t : Fin grid0.N) (y : S128x2816.Idx) :
    k0_pay1 (F := Ideal) (grid0.coords t) (m ((0 : Dev nD).tc.loc main_arg0) (ix1 0)) (iblk m hO c 3 t) (iblk m hO c 4 t) y
      = G (m (c.tc.loc main_arg0)) (m (c.tc.loc main_arg4)) (m (c.tc.loc main_arg5)) (row t y) := by
  obtain rfl : c = 0 := Subsingleton.elim _ _
  rw [G_row]
  refine (pay1_at _ _ _ _ y).trans ?_
  by_cases h : BitVec.ofNat 32 (grid0.coords t 0).val = m ((0 : Dev nD).tc.loc main_arg0) (ix1 0)
  · exact (if_pos h).trans ((congrArg (V m (0 : Dev nD) main_arg4) (emb_3 m hO t y h)).trans <| (congrFun (V_main_arg4 m 0) _).trans (if_pos h).symm)
  · exact (if_neg h).trans ((congrArg (V m (0 : Dev nD) main_arg5) (emb_4 m hO t y h)).trans <| (congrFun (V_main_arg5 m 0) _).trans (if_neg h).symm)

/-- The place in the whole array of a place of the layer's rows. -/
def up (k : S2048x2816.Idx) : S4096x2816.Idx := ix2 ⟨2048 + (k 0).val, by have : (k 0).val < 2048 := (k 0).isLt; omega⟩ (k 1)

theorem cut_at (a : Vec Ideal S4096x2816 .f32) (h : S4096x2816.Slices ![2048, 0] S2048x2816) (k : S2048x2816.Idx) : extractStridedSlice S2048x2816 ![2048, 0] a h k = a (up k) :=
  extractStridedSlice_apply _ a h k _ fun b => by
    fin_cases b
    · rfl
    · exact (Nat.zero_add _).symm

theorem G_up (x : Vec Ideal S1 .i32) (p q : Vec Ideal S1024x2816 .f32) (j : S2048x2816.Idx) :
    G x p q (up j) = if BitVec.ofNat 32 ((j 0).val / 1024) = x (ix1 0) then p (ix2 ⟨(j 0).val % 1024, Nat.mod_lt _ (by decide)⟩ (j 1))
      else q (ix2 ⟨(j 0).val % 1024, Nat.mod_lt _ (by decide)⟩ (j 1)) := by
  have h1 : ((up j 0).val - 2048) / 1024 = (j 0).val / 1024 := by show (2048 + (j 0).val - 2048) / 1024 = _; omega
  have h2 : (ix2 ⟨((up j 0).val - 2048) % 1024, Nat.mod_lt _ (by decide)⟩ (up j 1) : S1024x2816.Idx) = ix2 ⟨(j 0).val % 1024, Nat.mod_lt _ (by decide)⟩ (j 1) :=
    congrArg (fun a => (ix2 a (j 1) : S1024x2816.Idx)) (Fin.ext (by show (2048 + (j 0).val - 2048) % 1024 = (j 0).val % 1024; omega))
  unfold G
  rw [h1, h2]
  rfl

/-- The second layer's rows. -/
def low (B : Vec Ideal S4096x2816 .f32) : Vec Ideal S2048x2816 .f32 := fun k => B (up k)

set_option maxHeartbeats 1000000 in
theorem final_5 (hO : Ok m) (c : Dev nD) (k : S2048x2816.Idx) : (dats m hO 0 c).arrAt 5 (cfgM m hO).N (up k) = (G (m (c.tc.loc main_arg0)) (m (c.tc.loc main_arg4)) (m (c.tc.loc main_arg5))) (up k) := by
  refine ((dats m hO 0 c).arrAt_apply_of_coversWhere 5 (G (m (c.tc.loc main_arg0)) (m (c.tc.loc main_arg4)) (m (c.tc.loc main_arg5))) (P := fun (i : S4096x2816.Idx) => 16 ≤ (i 0).val / 128) (fun (β : Fin ((cfgM m hO).win 5).shape.rank → Nat) => 16 ≤ β (show Fin 2 from 0))
    (of_decide_eq_true (by sl_kernel_rfl)) (fun t _ y => ?_) (fun j => Iff.rfl) (up k)).trans (if_pos (show 16 ≤ (2048 + (k 0).val) / 128 by omega))
  rw [emb_5 m hO t y]
  blk_simp
  rw [after0_5]
  unfold outsAt0
  frame_out
  refine (pay1_of _ (w' := m ((0 : Dev nD).tc.loc main_arg0) (ix1 0)) y ?_ ((hs0_3 m hO t).read_unread _) ((hs0_4 m hO t).read_unread _) ).trans ?_
  · exact word m
  exact grad_at m hO c t y

set_option maxHeartbeats 1000000 in
theorem final_7 (hO : Ok m) (c : Dev nD) (k : S2048x2816.Idx) : (dats m hO 0 c).arrAt 7 (cfgM m hO).N (up k) = (NM (G (m (c.tc.loc main_arg0)) (m (c.tc.loc main_arg4)) (m (c.tc.loc main_arg5))) (m (c.tc.loc main_arg2))) (up k) := by
  refine ((dats m hO 0 c).arrAt_apply_of_coversWhere 7 (NM (G (m (c.tc.loc main_arg0)) (m (c.tc.loc main_arg4)) (m (c.tc.loc main_arg5))) (m (c.tc.loc main_arg2))) (P := fun (i : S4096x2816.Idx) => 16 ≤ (i 0).val / 128) (fun (β : Fin ((cfgM m hO).win 7).shape.rank → Nat) => 16 ≤ β (show Fin 2 from 0))
    (of_decide_eq_true (by sl_kernel_rfl)) (fun t _ y => ?_) (fun j => Iff.rfl) (up k)).trans (if_pos (show 16 ≤ (2048 + (k 0).val) / 128 by omega))
  rw [emb_7 m hO t y]
  blk_simp
  rw [after0_7]
  unfold outsAt0
  frame_out
  refine (pay2_of _ (w' := m ((0 : Dev nD).tc.loc main_arg0) (ix1 0)) y ?_ ((hs0_3 m hO t).read_unread _) ((hs0_4 m hO t).read_unread _) ((hs0_1 m hO t).read_unread _)).trans ?_
  · exact word m
  exact NM_at (grad_at m hO c t y) ((congrArg (V m c main_arg2) (emb_1 m hO t y)).trans (congrFun (V_main_arg2 m c) _))

set_option maxHeartbeats 1000000 in
theorem final_8 (hO : Ok m) (c : Dev nD) (k : S2048x2816.Idx) : (dats m hO 0 c).arrAt 8 (cfgM m hO).N (up k) = (NV (G (m (c.tc.loc main_arg0)) (m (c.tc.loc main_arg4)) (m (c.tc.loc main_arg5))) (m (c.tc.loc main_arg3))) (up k) := by
  refine ((dats m hO 0 c).arrAt_apply_of_coversWhere 8 (NV (G (m (c.tc.loc main_arg0)) (m (c.tc.loc main_arg4)) (m (c.tc.loc main_arg5))) (m (c.tc.loc main_arg3))) (P := fun (i : S4096x2816.Idx) => 16 ≤ (i 0).val / 128) (fun (β : Fin ((cfgM m hO).win 8).shape.rank → Nat) => 16 ≤ β (show Fin 2 from 0))
    (of_decide_eq_true (by sl_kernel_rfl)) (fun t _ y => ?_) (fun j => Iff.rfl) (up k)).trans (if_pos (show 16 ≤ (2048 + (k 0).val) / 128 by omega))
  rw [emb_8 m hO t y]
  blk_simp
  rw [after0_8]
  unfold outsAt0
  frame_out
  refine (pay3_of _ (w' := m ((0 : Dev nD).tc.loc main_arg0) (ix1 0)) y ?_ ((hs0_3 m hO t).read_unread _) ((hs0_4 m hO t).read_unread _) ((hs0_2 m hO t).read_unread _)).trans ?_
  · exact word m
  exact NV_at (grad_at m hO c t y) ((congrArg (V m c main_arg3) (emb_2 m hO t y)).trans (congrFun (V_main_arg3 m c) _))

set_option maxHeartbeats 1000000 in
theorem final_6 (hO : Ok m) (c : Dev nD) (k : S2048x2816.Idx) : (dats m hO 0 c).arrAt 6 (cfgM m hO).N (up k) = (ND (m (c.tc.loc main_arg1)) (G (m (c.tc.loc main_arg0)) (m (c.tc.loc main_arg4)) (m (c.tc.loc main_arg5))) (m (c.tc.loc main_arg2)) (m (c.tc.loc main_arg3))) (up k) := by
  refine ((dats m hO 0 c).arrAt_apply_of_coversWhere 6 (ND (m (c.tc.loc main_arg1)) (G (m (c.tc.loc main_arg0)) (m (c.tc.loc main_arg4)) (m (c.tc.loc main_arg5))) (m (c.tc.loc main_arg2)) (m (c.tc.loc main_arg3))) (P := fun (i : S4096x2816.Idx) => 16 ≤ (i 0).val / 128) (fun (β : Fin ((cfgM m hO).win 6).shape.rank → Nat) => 16 ≤ β (show Fin 2 from 0))
    (of_decide_eq_true (by sl_kernel_rfl)) (fun t _ y => ?_) (fun j => Iff.rfl) (up k)).trans (if_pos (show 16 ≤ (2048 + (k 0).val) / 128 by omega))
  rw [emb_6 m hO t y]
  blk_simp
  rw [after0_6]
  unfold outsAt0
  frame_out
  refine (pay4_of _ (w' := m ((0 : Dev nD).tc.loc main_arg0) (ix1 0)) y ?_ ((hs0_3 m hO t).read_unread _) ((hs0_4 m hO t).read_unread _) ((hs0_0 m hO t).read_unread _) ((hs0_1 m hO t).read_unread _) ((hs0_2 m hO t).read_unread _)).trans ?_
  · exact word m
  exact ND_at ((congrArg (V m c main_arg1) (emb_0 m hO t y)).trans (congrFun (V_main_arg1 m c) _)) (grad_at m hO c t y) ((congrArg (V m c main_arg2) (emb_1 m hO t y)).trans (congrFun (V_main_arg2 m c) _)) ((congrArg (V m c main_arg3) (emb_2 m hO t y)).trans (congrFun (V_main_arg3 m c) _))

theorem arr_inj : Function.Injective (Pipeline.arrRef spec0) := by decide

theorem tail_0 (U : Valuation τ sig (Elt Ideal)) : StableHlo.after [hostOps1].flatten U (Proc.devRef .tc main_v1)
    = extractStridedSlice S2048x2816 ![2048, 0] (U (Proc.devRef .tc main_v0_0)) slices_S4096x2816_S2048x2816_2048_0 := by
  simp only [List.flatten_cons, List.flatten_nil, List.append_nil]
  unfold hostOps1
  after_results
  try rfl

theorem out_0 (hO : Ok m) (c : Dev nD) : Pipeline.afterTail pcfgs (fun _ => adm m hO) (dats m hO) 0 (V0 m) [hostOps1] c main_v1
    = low (G (m (c.tc.loc main_arg0)) (m (c.tc.loc main_arg4)) (m (c.tc.loc main_arg5))) := by
  refine (tail_0 _).trans ((congrArg (fun a => extractStridedSlice S2048x2816 ![2048, 0] a slices_S4096x2816_S2048x2816_2048_0)
    (Pipeline.withArrays_arr spec0 arr_inj c (V0 m c) (fun w => (dats m hO 0 c).arrAt w (cfgM m hO).N) 5)).trans ?_)
  funext k
  exact (cut_at _ _ k).trans (final_5 m hO c k)

theorem tail_1 (U : Valuation τ sig (Elt Ideal)) : StableHlo.after [hostOps1].flatten U (Proc.devRef .tc main_v2)
    = extractStridedSlice S2048x2816 ![2048, 0] (U (Proc.devRef .tc main_v0_1)) slices_S4096x2816_S2048x2816_2048_0 := by
  simp only [List.flatten_cons, List.flatten_nil, List.append_nil]
  unfold hostOps1
  after_results
  try rfl

theorem out_1 (hO : Ok m) (c : Dev nD) : Pipeline.afterTail pcfgs (fun _ => adm m hO) (dats m hO) 0 (V0 m) [hostOps1] c main_v2
    = low (ND (m (c.tc.loc main_arg1)) (G (m (c.tc.loc main_arg0)) (m (c.tc.loc main_arg4)) (m (c.tc.loc main_arg5))) (m (c.tc.loc main_arg2)) (m (c.tc.loc main_arg3))) := by
  refine (tail_1 _).trans ((congrArg (fun a => extractStridedSlice S2048x2816 ![2048, 0] a slices_S4096x2816_S2048x2816_2048_0)
    (Pipeline.withArrays_arr spec0 arr_inj c (V0 m c) (fun w => (dats m hO 0 c).arrAt w (cfgM m hO).N) 6)).trans ?_)
  funext k
  exact (cut_at _ _ k).trans (final_6 m hO c k)

theorem tail_2 (U : Valuation τ sig (Elt Ideal)) : StableHlo.after [hostOps1].flatten U (Proc.devRef .tc main_v3)
    = extractStridedSlice S2048x2816 ![2048, 0] (U (Proc.devRef .tc main_v0_2)) slices_S4096x2816_S2048x2816_2048_0 := by
  simp only [List.flatten_cons, List.flatten_nil, List.append_nil]
  unfold hostOps1
  after_results
  try rfl

theorem out_2 (hO : Ok m) (c : Dev nD) : Pipeline.afterTail pcfgs (fun _ => adm m hO) (dats m hO) 0 (V0 m) [hostOps1] c main_v3
    = low (NM (G (m (c.tc.loc main_arg0)) (m (c.tc.loc main_arg4)) (m (c.tc.loc main_arg5))) (m (c.tc.loc main_arg2))) := by
  refine (tail_2 _).trans ((congrArg (fun a => extractStridedSlice S2048x2816 ![2048, 0] a slices_S4096x2816_S2048x2816_2048_0)
    (Pipeline.withArrays_arr spec0 arr_inj c (V0 m c) (fun w => (dats m hO 0 c).arrAt w (cfgM m hO).N) 7)).trans ?_)
  funext k
  exact (cut_at _ _ k).trans (final_7 m hO c k)

theorem tail_3 (U : Valuation τ sig (Elt Ideal)) : StableHlo.after [hostOps1].flatten U (Proc.devRef .tc main_v4)
    = extractStridedSlice S2048x2816 ![2048, 0] (U (Proc.devRef .tc main_v0_3)) slices_S4096x2816_S2048x2816_2048_0 := by
  simp only [List.flatten_cons, List.flatten_nil, List.append_nil]
  unfold hostOps1
  after_results
  try rfl

theorem out_3 (hO : Ok m) (c : Dev nD) : Pipeline.afterTail pcfgs (fun _ => adm m hO) (dats m hO) 0 (V0 m) [hostOps1] c main_v4
    = low (NV (G (m (c.tc.loc main_arg0)) (m (c.tc.loc main_arg4)) (m (c.tc.loc main_arg5))) (m (c.tc.loc main_arg3))) := by
  refine (tail_3 _).trans ((congrArg (fun a => extractStridedSlice S2048x2816 ![2048, 0] a slices_S4096x2816_S2048x2816_2048_0)
    (Pipeline.withArrays_arr spec0 arr_inj c (V0 m c) (fun w => (dats m hO 0 c).arrAt w (cfgM m hO).N) 8)).trans ?_)
  funext k
  exact (cut_at _ _ k).trans (final_8 m hO c k)

end Cert.AdamwUpLast

end

end
-- ==== Proof.AdamwUpLastPair.lean ====
/- AdamW on the second layer's rows of the up projection: the call and its reference leave the same arrays. -/
module

public import proofs.«01_k».proof.Defs
public import proofs.«01_k».proof.Proof.Gen.Reference37Ideal
public import proofs.«01_k».proof.Proof.Gen.Reference37Ideal.Run
public import proofs.«01_k».proof.Proof.Gen.Reference37Ideal.Read
public import proofs.«01_k».proof.Proof.AdamwUpLast

@[expose] public section

set_option maxRecDepth 16384

noncomputable section

namespace Cert.AdamwUpLast

open Idealize.ShloMosaic Idealize.ShloMosaic.TcCoe Cert.AdamwSmall

section
open Cert.Reference37Ideal Cert.Reference37Ideal.Gen Cert.Reference37Ideal.Read

theorem pick (x : (⟨S1, .i32⟩ : BufTy).Contents (Elt Ideal)) (k : BitVec 32) (p q : Vec Ideal S1024x2816 .f32) (i : S1024x2816.Idx) :
    (select (broadcastInDim S1024x2816 ![] bcast_S_S1024x2816 (cmpi .eq (shapeCast _ x shapeCasts_S1_S_) (constantI S_ 32 k))) p q : Vec Ideal S1024x2816 .f32) i
      = if k = x (ix1 0) then p i else q i := by
  have e : (shapeCast S_ x shapeCasts_S1_S_ : (⟨S_, .i32⟩ : BufTy).Contents (Elt Ideal)) (fun a => a.elim0) = x (ix1 0) := by
    unfold shapeCast
    exact congrArg x (funext fun a => by fin_cases a; exact Subsingleton.elim (α := Fin 1) _ _)
  have b := Cert.AdamwWord.pick_word (s := S_) (t := S1024x2816) rfl ![] bcast_S_S1024x2816 (shapeCast S_ x shapeCasts_S1_S_) k (fun a => a.elim0) p q i
  rw [e] at b
  exact b

/-- The reference's gradient is the two halves put together. -/
theorem ref_G (x : (⟨S1, .i32⟩ : BufTy).Contents (Elt Ideal)) (p q : Vec Ideal S1024x2816 .f32) (j : S2048x2816.Idx) : val_main_v6 (F := Ideal) x p q j = G x p q (up j) := by
  have hj : (j 0).val < 2048 := (j 0).isLt
  by_cases h : (j 0).val < 1024
  · refine (concatenate_apply_piece (t := S2048x2816) 0 _ _ j 0 (by simp) S1024x2816 (val_main_v2 (F := Ideal) x p q) rfl rfl 0 rfl
      (ix2 ⟨(j 0).val % 1024, Nat.mod_lt _ (by decide)⟩ (j 1)) ?_ ?_).trans ?_
    · intro b hb
      fin_cases b
      · exact absurd rfl hb
      · rfl
    · show 0 + (j 0).val % 1024 = (j 0).val; omega
    · have e : (j 0).val / 1024 = 0 := by omega
      rw [G_up, e]
      exact pick x 0#32 p q _
  · refine (concatenate_apply_piece (t := S2048x2816) 0 _ _ j 1 (by simp) S1024x2816 (val_main_v5 (F := Ideal) x p q) rfl rfl 1024 rfl
      (ix2 ⟨(j 0).val % 1024, Nat.mod_lt _ (by decide)⟩ (j 1)) ?_ ?_).trans ?_
    · intro b hb
      fin_cases b
      · exact absurd rfl hb
      · rfl
    · show 1024 + (j 0).val % 1024 = (j 0).val; omega
    · have e : (j 0).val / 1024 = 1 := by omega
      rw [G_up, e]
      exact pick x 1#32 p q _

variable (x : (⟨S1, .i32⟩ : BufTy).Contents (Elt Ideal)) (w u v : Vec Ideal S4096x2816 .f32) (p q : Vec Ideal S1024x2816 .f32)

theorem ref_ND (j : S2048x2816.Idx) : val_main_v33 (F := Ideal) x w u v p q j = ND w (G x p q) u v (up j) :=
  (congrFun (show val_main_v33 (F := Ideal) x w u v p q = ND (val_main_v7 (F := Ideal) w) (val_main_v6 (F := Ideal) x p q) (val_main_v8 (F := Ideal) u) (val_main_v9 (F := Ideal) v) from rfl) j).trans
    (ND_at (cut_at w _ j) (ref_G x p q j) (cut_at u _ j) (cut_at v _ j))

theorem ref_NM (j : S2048x2816.Idx) : val_main_v14 (F := Ideal) x u p q j = NM (G x p q) u (up j) :=
  (congrFun (show val_main_v14 (F := Ideal) x u p q = NM (val_main_v6 (F := Ideal) x p q) (val_main_v8 (F := Ideal) u) from rfl) j).trans
    (NM_at (ref_G x p q j) (cut_at u _ j))

theorem ref_NV (j : S2048x2816.Idx) : val_main_v20 (F := Ideal) x v p q j = NV (G x p q) v (up j) :=
  (congrFun (show val_main_v20 (F := Ideal) x v p q = NV (val_main_v6 (F := Ideal) x p q) (val_main_v9 (F := Ideal) v) from rfl) j).trans
    (NV_at (ref_G x p q j) (cut_at v _ j))

theorem ref_0 : val_main_v6 (F := Ideal) x p q = low (G x p q) := funext (ref_G x p q)

theorem ref_1 : val_main_v33 (F := Ideal) x w u v p q = low (ND w (G x p q) u v) := funext (ref_ND x w u v p q)

theorem ref_2 : val_main_v14 (F := Ideal) x u p q = low (NM (G x p q) u) := funext (ref_NM x u p q)

theorem ref_3 : val_main_v20 (F := Ideal) x v p q = low (NV (G x p q) v) := funext (ref_NV x v p q)

end

theorem algebraic : Cert.algebraic_Kernel37Ideal_Reference37Ideal := fun m g m' g' _ same => by
  refine ⟨fun c => low (G (m ((c.tc : Thread Cert.Kernel37Ideal.nD Cert.Kernel37Ideal.τ).loc Cert.Kernel37Ideal.main_arg0)) (m ((c.tc : Thread Cert.Kernel37Ideal.nD Cert.Kernel37Ideal.τ).loc Cert.Kernel37Ideal.main_arg4)) (m ((c.tc : Thread Cert.Kernel37Ideal.nD Cert.Kernel37Ideal.τ).loc Cert.Kernel37Ideal.main_arg5))), fun c => low (ND (m ((c.tc : Thread Cert.Kernel37Ideal.nD Cert.Kernel37Ideal.τ).loc Cert.Kernel37Ideal.main_arg1)) (G (m ((c.tc : Thread Cert.Kernel37Ideal.nD Cert.Kernel37Ideal.τ).loc Cert.Kernel37Ideal.main_arg0)) (m ((c.tc : Thread Cert.Kernel37Ideal.nD Cert.Kernel37Ideal.τ).loc Cert.Kernel37Ideal.main_arg4)) (m ((c.tc : Thread Cert.Kernel37Ideal.nD Cert.Kernel37Ideal.τ).loc Cert.Kernel37Ideal.main_arg5))) (m ((c.tc : Thread Cert.Kernel37Ideal.nD Cert.Kernel37Ideal.τ).loc Cert.Kernel37Ideal.main_arg2)) (m ((c.tc : Thread Cert.Kernel37Ideal.nD Cert.Kernel37Ideal.τ).loc Cert.Kernel37Ideal.main_arg3))), fun c => low (NM (G (m ((c.tc : Thread Cert.Kernel37Ideal.nD Cert.Kernel37Ideal.τ).loc Cert.Kernel37Ideal.main_arg0)) (m ((c.tc : Thread Cert.Kernel37Ideal.nD Cert.Kernel37Ideal.τ).loc Cert.Kernel37Ideal.main_arg4)) (m ((c.tc : Thread Cert.Kernel37Ideal.nD Cert.Kernel37Ideal.τ).loc Cert.Kernel37Ideal.main_arg5))) (m ((c.tc : Thread Cert.Kernel37Ideal.nD Cert.Kernel37Ideal.τ).loc Cert.Kernel37Ideal.main_arg2))), fun c => low (NV (G (m ((c.tc : Thread Cert.Kernel37Ideal.nD Cert.Kernel37Ideal.τ).loc Cert.Kernel37Ideal.main_arg0)) (m ((c.tc : Thread Cert.Kernel37Ideal.nD Cert.Kernel37Ideal.τ).loc Cert.Kernel37Ideal.main_arg4)) (m ((c.tc : Thread Cert.Kernel37Ideal.nD Cert.Kernel37Ideal.τ).loc Cert.Kernel37Ideal.main_arg5))) (m ((c.tc : Thread Cert.Kernel37Ideal.nD Cert.Kernel37Ideal.τ).loc Cert.Kernel37Ideal.main_arg3))),
    (θ_run Cert.Kernel37Ideal.defs _ _).mono (fun r h c => ?_) (θ_run_and (Cert.Kernel37Ideal.Gen.run_main m g (ok_i m)) (Cert.Kernel37Ideal.Gen.unchanged m g (ok_i m))),
    (θ_run Cert.Reference37Ideal.defs _ _).mono (fun r h c => ?_) (Cert.Reference37Ideal.Value.run (F := Ideal) m' g')⟩
  · have u := h.1 c
    exact ⟨(u.2 Cert.Kernel37Ideal.main_v1 (by decide : Cert.Kernel37Ideal.main_v1 ∈ Pipeline.restRefs Cert.Kernel37Ideal.sig Cert.Kernel37Ideal.spec0)).trans (out_0 m (ok_i m) c), (u.2 Cert.Kernel37Ideal.main_v2 (by decide : Cert.Kernel37Ideal.main_v2 ∈ Pipeline.restRefs Cert.Kernel37Ideal.sig Cert.Kernel37Ideal.spec0)).trans (out_1 m (ok_i m) c), (u.2 Cert.Kernel37Ideal.main_v3 (by decide : Cert.Kernel37Ideal.main_v3 ∈ Pipeline.restRefs Cert.Kernel37Ideal.sig Cert.Kernel37Ideal.spec0)).trans (out_2 m (ok_i m) c), (u.2 Cert.Kernel37Ideal.main_v4 (by decide : Cert.Kernel37Ideal.main_v4 ∈ Pipeline.restRefs Cert.Kernel37Ideal.sig Cert.Kernel37Ideal.spec0)).trans (out_3 m (ok_i m) c), h.2 c⟩
  · obtain ⟨e0, e1, e2, e3, e4, e5⟩ := same c
    obtain ⟨h1, h2, h3, h4, hargs⟩ := h c
    refine ⟨h1.trans ((Cert.Reference37Ideal.Read.val_main_v6_eq _ _ _).trans ((ref_0 _ _ _).trans ?_)), h2.trans ((Cert.Reference37Ideal.Read.val_main_v33_eq _ _ _ _ _ _).trans ((ref_1 _ _ _ _ _ _).trans ?_)), h3.trans ((Cert.Reference37Ideal.Read.val_main_v14_eq _ _ _ _).trans ((ref_2 _ _ _ _).trans ?_)), h4.trans ((Cert.Reference37Ideal.Read.val_main_v20_eq _ _ _ _).trans ((ref_3 _ _ _ _).trans ?_)), hargs⟩
    · rw [e0, e4, e5] <;> rfl
    · rw [e0, e1, e2, e3, e4, e5] <;> rfl
    · rw [e0, e2, e4, e5] <;> rfl
    · rw [e0, e3, e4, e5] <;> rfl

/-- The reference leaves its arguments as they were; it declares no semaphore. -/
theorem frame_reference : Cert.quiescent_Reference37Ideal := fun m ρ _ =>
  (θ_run Cert.Reference37Ideal.defs _ _).mono (fun r h => ⟨fun c => by
      obtain ⟨_, _, _, _, hargs⟩ := h c
      exact hargs, Idealize.ShloMosaic.sem_eq_zero_of_no_sems (by decide) r.2⟩)
    (Cert.Reference37Ideal.Value.run (F := Ideal) m ρ)

end Cert.AdamwUpLast

end

end
-- ==== Proof.AdamwDownLast.lean ====
/- AdamW on the second layer's rows of the down projection: half of the rows have their gradient on this device, half on the other. -/
module

public import proofs.«01_k».proof.Proof.Gen.Kernel38
public import proofs.«01_k».proof.Proof.Gen.Kernel38.Frame
public import proofs.«01_k».proof.Proof.Gen.Kernel38Ideal
public import proofs.«01_k».proof.Proof.Gen.Kernel38Ideal.Frame
public import proofs.«01_k».proof.Proof.AdamwSmall
public import proofs.«01_k».proof.Proof.AdamwWord
public import Idealize.ShloMosaic.Lib.Pipeline.ValueKit

@[expose] public section

set_option maxRecDepth 16384

noncomputable section

namespace Cert.AdamwDownLast

open Idealize.ShloMosaic Idealize.ShloMosaic.TcCoe Cert.AdamwWord

section
open Cert.Kernel38 Cert.Kernel38.Gen

variable {F : FTy → Type} [FloatOps F] (m : (ℓ : Loc nD τ sig) → Buf (Elt F) ℓ)

/-- Whatever the word says, the block of the half that is read lies inside it. -/
theorem ok_b : Ok m := by
  refine ⟨fun i => ⟨fun a => ?_, Or.inl rfl⟩, fun i => ⟨fun a => ?_, Or.inl rfl⟩⟩
  · have h1 : (i 1).val < 11 := (i 1).isLt
    fin_cases a
    · show ((Scalar.select _ _ _ : BitVec 32).toNat + 1) * 64 ≤ 704
      exact Nat.mul_le_mul_right 64 (sel_lt _ 11 (by simp; omega) (by decide))
    · exact Nat.le_of_eq (by simp [cc0_transform_3, Shape.size])
  · have h1 : (i 1).val < 11 := (i 1).isLt
    fin_cases a
    · show ((Scalar.select _ _ _ : BitVec 32).toNat + 1) * 64 ≤ 704
      exact Nat.mul_le_mul_right 64 (sel_lt _ 11 (by decide) (by simp; omega))
    · exact Nat.le_of_eq (by simp [cc0_transform_4, Shape.size])
end

section
open Cert.Kernel38Ideal Cert.Kernel38Ideal.Gen

variable {F : FTy → Type} [FloatOps F] (m : (ℓ : Loc nD τ sig) → Buf (Elt F) ℓ)

/-- Whatever the word says, the block of the half that is read lies inside it. -/
theorem ok_i : Ok m := by
  refine ⟨fun i => ⟨fun a => ?_, Or.inl rfl⟩, fun i => ⟨fun a => ?_, Or.inl rfl⟩⟩
  · have h1 : (i 1).val < 11 := (i 1).isLt
    fin_cases a
    · show ((Scalar.select _ _ _ : BitVec 32).toNat + 1) * 64 ≤ 704
      exact Nat.mul_le_mul_right 64 (sel_lt _ 11 (by simp; omega) (by decide))
    · exact Nat.le_of_eq (by simp [cc0_transform_3, Shape.size])
  · have h1 : (i 1).val < 11 := (i 1).isLt
    fin_cases a
    · show ((Scalar.select _ _ _ : BitVec 32).toNat + 1) * 64 ≤ 704
      exact Nat.mul_le_mul_right 64 (sel_lt _ 11 (by decide) (by simp; omega))
    · exact Nat.le_of_eq (by simp [cc0_transform_4, Shape.size])
end

open Cert.Kernel38Ideal Cert.Kernel38Ideal.Gen Cert.AdamwSmall

variable (m : (ℓ : Loc nD τ sig) → Buf (Elt Ideal) ℓ)

theorem blocks : ∀ t : Fin grid0.N, cc0_transform_0 (grid0.coords t) = ![t.val + 22, 0] ∧ cc0_transform_1 (grid0.coords t) = ![t.val + 22, 0]
    ∧ cc0_transform_2 (grid0.coords t) = ![t.val + 22, 0] ∧ cc0_transform_5 (grid0.coords t) = ![t.val + 22, 0] ∧ cc0_transform_6 (grid0.coords t) = ![t.val + 22, 0]
    ∧ cc0_transform_7 (grid0.coords t) = ![t.val + 22, 0] ∧ cc0_transform_8 (grid0.coords t) = ![t.val + 22, 0] := by decide +kernel

theorem steps : ∀ t : Fin grid0.N, t.val < 22 ∧ (grid0.coords t 0).val = t.val / 11 ∧ (grid0.coords t 1).val = t.val % 11 := by decide +kernel

/-- The place in the array of a place of the block of step `t`. -/
def row (t : Fin grid0.N) (y : S64x2048.Idx) : S2816x2048.Idx :=
  ix2 ⟨(t.val + 22) * 64 + (y 0).val, by have := (steps t).1; have : (y 0).val < 64 := (y 0).isLt; omega⟩ (y 1)

/-- The place in its half. -/
def half (t : Fin grid0.N) (y : S64x2048.Idx) : S704x2048.Idx :=
  ix2 ⟨t.val % 11 * 64 + (y 0).val, by have : (y 0).val < 64 := (y 0).isLt; omega⟩ (y 1)

/-- The two halves put together, each from this device where it holds it and from the other device where not. -/
def G (x : Vec Ideal S1 .i32) (p q : Vec Ideal S704x2048 .f32) : Vec Ideal S2816x2048 .f32 := fun i =>
  if BitVec.ofNat 32 (((i 0).val - 1408) / 704) = x (ix1 0) then p (ix2 ⟨((i 0).val - 1408) % 704, Nat.mod_lt _ (by decide)⟩ (i 1))
  else q (ix2 ⟨((i 0).val - 1408) % 704, Nat.mod_lt _ (by decide)⟩ (i 1))

theorem G_row (x : Vec Ideal S1 .i32) (p q : Vec Ideal S704x2048 .f32) (t : Fin grid0.N) (y : S64x2048.Idx) :
    G x p q (row t y) = if BitVec.ofNat 32 (grid0.coords t 0).val = x (ix1 0) then p (half t y) else q (half t y) := by
  have hy : (y 0).val < 64 := (y 0).isLt
  have h1 : ((row t y 0).val - 1408) / 704 = (grid0.coords t 0).val := by
    rw [(steps t).2.1]; show ((t.val + 22) * 64 + (y 0).val - 1408) / 704 = _; omega
  have h2 : (ix2 ⟨((row t y 0).val - 1408) % 704, Nat.mod_lt _ (by decide)⟩ (row t y 1) : S704x2048.Idx) = half t y :=
    congrArg (fun a => (ix2 a (y 1) : S704x2048.Idx)) (Fin.ext (by have := (steps t).1; show ((t.val + 22) * 64 + (y 0).val - 1408) % 704 = t.val % 11 * 64 + (y 0).val; omega))
  unfold G
  rw [h1, h2]

/-- The word the call reads is its first argument. -/
theorem word : (tbl m).at 0 (Rect.unit (s := S1) ![0] S1.size inb_S1_S1_0) numel1_S1 = m ((0 : Dev nD).tc.loc main_arg0) (ix1 0) :=
  (congrArg (V m (0 : Dev nD) main_arg0) (funext fun a => Fin.ext (by fin_cases a; rfl))).trans (congrFun (V_main_arg0 m 0) _)

theorem pay1_at (i : grid0.Coords) (w : BitVec 32) (p q : Vec Ideal S64x2048 .f32) (y : S64x2048.Idx) :
    k0_pay1 (F := Ideal) i w p q y = if BitVec.ofNat 32 (i 0).val = w then p y else q y := by
  by_cases h : BitVec.ofNat 32 (i 0).val = w
  · rw [if_pos h]; exact congrFun (sel_eq h) y
  · rw [if_neg h]; exact congrFun (sel_ne h) y

section
variable (i : grid0.Coords) {w w' : BitVec 32} {p p' q q' x x' d d' e e' : Vec Ideal S64x2048 .f32} (y : S64x2048.Idx)

theorem pay1_of (hw : w = w') (hp : p = p') (hq : q = q') : k0_pay1 (F := Ideal) i w p q y = k0_pay1 (F := Ideal) i w' p' q' y := by
  subst hw hp hq; rfl

theorem pay2_of (hw : w = w') (hp : p = p') (hq : q = q') (hd : d = d') :
    k0_pay2 (F := Ideal) i w p q d y = NM (k0_pay1 (F := Ideal) i w' p' q') d' y := by
  subst hw hp hq hd; rfl

theorem pay3_of (hw : w = w') (hp : p = p') (hq : q = q') (he : e = e') :
    k0_pay3 (F := Ideal) i w p q e y = NV (k0_pay1 (F := Ideal) i w' p' q') e' y := by
  subst hw hp hq he; rfl

theorem pay4_of (hw : w = w') (hp : p = p') (hq : q = q') (hx : x = x') (hd : d = d') (he : e = e') :
    k0_pay4 (F := Ideal) i w p q x d e y = ND x' (k0_pay1 (F := Ideal) i w' p' q') d' e' y := by
  subst hw hp hq hx hd he; rfl
end

theorem emb_0 (hO : Ok m) (t : Fin grid0.N) (y : S64x2048.Idx) : (((cfgM m hO).win 0).blk t).view.emb y = row t y := by
  funext a
  refine Fin.ext ((Pipeline.Window.rect_emb_val ((cfgM m hO).win 0) t y a).trans ?_)
  fin_cases a
  · show cc0_transform_0 (grid0.coords t) 0 * 64 + (y 0).val = _
    rw [show cc0_transform_0 (grid0.coords t) = ![t.val + 22, 0] by simp [blocks t]]; rfl
  · show cc0_transform_0 (grid0.coords t) 1 * 2048 + (y 1).val = _
    rw [show cc0_transform_0 (grid0.coords t) = ![t.val + 22, 0] by simp [blocks t]]; simp [row]

theorem emb_1 (hO : Ok m) (t : Fin grid0.N) (y : S64x2048.Idx) : (((cfgM m hO).win 1).blk t).view.emb y = row t y := by
  funext a
  refine Fin.ext ((Pipeline.Window.rect_emb_val ((cfgM m hO).win 1) t y a).trans ?_)
  fin_cases a
  · show cc0_transform_1 (grid0.coords t) 0 * 64 + (y 0).val = _
    rw [show cc0_transform_1 (grid0.coords t) = ![t.val + 22, 0] by simp [blocks t]]; rfl
  · show cc0_transform_1 (grid0.coords t) 1 * 2048 + (y 1).val = _
    rw [show cc0_transform_1 (grid0.coords t) = ![t.val + 22, 0] by simp [blocks t]]; simp [row]

theorem emb_2 (hO : Ok m) (t : Fin grid0.N) (y : S64x2048.Idx) : (((cfgM m hO).win 2).blk t).view.emb y = row t y := by
  funext a
  refine Fin.ext ((Pipeline.Window.rect_emb_val ((cfgM m hO).win 2) t y a).trans ?_)
  fin_cases a
  · show cc0_transform_2 (grid0.coords t) 0 * 64 + (y 0).val = _
    rw [show cc0_transform_2 (grid0.coords t) = ![t.val + 22, 0] by simp [blocks t]]; rfl
  · show cc0_transform_2 (grid0.coords t) 1 * 2048 + (y 1).val = _
    rw [show cc0_transform_2 (grid0.coords t) = ![t.val + 22, 0] by simp [blocks t]]; simp [row]

theorem emb_5 (hO : Ok m) (t : Fin grid0.N) (y : S64x2048.Idx) : (((cfgM m hO).win 5).blk t).view.emb y = row t y := by
  funext a
  refine Fin.ext ((Pipeline.Window.rect_emb_val ((cfgM m hO).win 5) t y a).trans ?_)
  fin_cases a
  · show cc0_transform_5 (grid0.coords t) 0 * 64 + (y 0).val = _
    rw [show cc0_transform_5 (grid0.coords t) = ![t.val + 22, 0] by simp [blocks t]]; rfl
  · show cc0_transform_5 (grid0.coords t) 1 * 2048 + (y 1).val = _
    rw [show cc0_transform_5 (grid0.coords t) = ![t.val + 22, 0] by simp [blocks t]]; simp [row]

theorem emb_6 (hO : Ok m) (t : Fin grid0.N) (y : S64x2048.Idx) : (((cfgM m hO).win 6).blk t).view.emb y = row t y := by
  funext a
  refine Fin.ext ((Pipeline.Window.rect_emb_val ((cfgM m hO).win 6) t y a).trans ?_)
  fin_cases a
  · show cc0_transform_6 (grid0.coords t) 0 * 64 + (y 0).val = _
    rw [show cc0_transform_6 (grid0.coords t) = ![t.val + 22, 0] by simp [blocks t]]; rfl
  · show cc0_transform_6 (grid0.coords t) 1 * 2048 + (y 1).val = _
    rw [show cc0_transform_6 (grid0.coords t) = ![t.val + 22, 0] by simp [blocks t]]; simp [row]

theorem emb_7 (hO : Ok m) (t : Fin grid0.N) (y : S64x2048.Idx) : (((cfgM m hO).win 7).blk t).view.emb y = row t y := by
  funext a
  refine Fin.ext ((Pipeline.Window.rect_emb_val ((cfgM m hO).win 7) t y a).trans ?_)
  fin_cases a
  · show cc0_transform_7 (grid0.coords t) 0 * 64 + (y 0).val = _
    rw [show cc0_transform_7 (grid0.coords t) = ![t.val + 22, 0] by simp [blocks t]]; rfl
  · show cc0_transform_7 (grid0.coords t) 1 * 2048 + (y 1).val = _
    rw [show cc0_transform_7 (grid0.coords t) = ![t.val + 22, 0] by simp [blocks t]]; simp [row]

theorem emb_8 (hO : Ok m) (t : Fin grid0.N) (y : S64x2048.Idx) : (((cfgM m hO).win 8).blk t).view.emb y = row t y := by
  funext a
  refine Fin.ext ((Pipeline.Window.rect_emb_val ((cfgM m hO).win 8) t y a).trans ?_)
  fin_cases a
  · show cc0_transform_8 (grid0.coords t) 0 * 64 + (y 0).val = _
    rw [show cc0_transform_8 (grid0.coords t) = ![t.val + 22, 0] by simp [blocks t]]; rfl
  · show cc0_transform_8 (grid0.coords t) 1 * 2048 + (y 1).val = _
    rw [show cc0_transform_8 (grid0.coords t) = ![t.val + 22, 0] by simp [blocks t]]; simp [row]

theorem emb_3 (hO : Ok m) (t : Fin grid0.N) (y : S64x2048.Idx) (h : BitVec.ofNat 32 (grid0.coords t 0).val = m ((0 : Dev nD).tc.loc main_arg0) (ix1 0)) :
    (((cfgM m hO).win 3).blk t).view.emb y = half t y := by
  have e : cc0_transform_3 inb_S1_S1_0 numel1_S1 (tbl m) (grid0.coords t) = ![t.val % 11, 0] := by
    have h8 : t.val % 11 < 4294967296 := by omega
    show ![(Scalar.select (Scalar.cmpi .eq _ _) _ _ : BitVec 32).toNat, _] = _
    rw [sel_eq (h.trans (word m).symm), (steps t).2.2]
    simp [Nat.mod_eq_of_lt h8]
  funext a
  refine Fin.ext ((Pipeline.Window.rect_emb_val ((cfgM m hO).win 3) t y a).trans ?_)
  fin_cases a
  · show cc0_transform_3 inb_S1_S1_0 numel1_S1 (tbl m) (grid0.coords t) 0 * 64 + (y 0).val = _
    rw [e]; rfl
  · show cc0_transform_3 inb_S1_S1_0 numel1_S1 (tbl m) (grid0.coords t) 1 * 2048 + (y 1).val = _
    rw [e]; simp [half]

theorem emb_4 (hO : Ok m) (t : Fin grid0.N) (y : S64x2048.Idx) (h : BitVec.ofNat 32 (grid0.coords t 0).val ≠ m ((0 : Dev nD).tc.loc main_arg0) (ix1 0)) :
    (((cfgM m hO).win 4).blk t).view.emb y = half t y := by
  have e : cc0_transform_4 inb_S1_S1_0 numel1_S1 (tbl m) (grid0.coords t) = ![t.val % 11, 0] := by
    have h8 : t.val % 11 < 4294967296 := by omega
    show ![(Scalar.select (Scalar.cmpi .eq _ _) _ _ : BitVec 32).toNat, _] = _
    rw [sel_ne fun e => h (e.trans (word m)), (steps t).2.2]
    simp [Nat.mod_eq_of_lt h8]
  funext a
  refine Fin.ext ((Pipeline.Window.rect_emb_val ((cfgM m hO).win 4) t y a).trans ?_)
  fin_cases a
  · show cc0_transform_4 inb_S1_S1_0 numel1_S1 (tbl m) (grid0.coords t) 0 * 64 + (y 0).val = _
    rw [e]; rfl
  · show cc0_transform_4 inb_S1_S1_0 numel1_S1 (tbl m) (grid0.coords t) 1 * 2048 + (y 1).val = _
    rw [e]; simp [half]

/-- The gradient the call takes at a place of a block is the one that belongs there. -/
theorem grad_at (hO : Ok m) (c : Dev nD) (t : Fin grid0.N) (y : S64x2048.Idx) :
    k0_pay1 (F := Ideal) (grid0.coords t) (m ((0 : Dev nD).tc.loc main_arg0) (ix1 0)) (iblk m hO c 3 t) (iblk m hO c 4 t) y
      = G (m (c.tc.loc main_arg0)) (m (c.tc.loc main_arg4)) (m (c.tc.loc main_arg5)) (row t y) := by
  obtain rfl : c = 0 := Subsingleton.elim _ _
  rw [G_row]
  refine (pay1_at _ _ _ _ y).trans ?_
  by_cases h : BitVec.ofNat 32 (grid0.coords t 0).val = m ((0 : Dev nD).tc.loc main_arg0) (ix1 0)
  · exact (if_pos h).trans ((congrArg (V m (0 : Dev nD) main_arg4) (emb_3 m hO t y h)).trans <| (congrFun (V_main_arg4 m 0) _).trans (if_pos h).symm)
  · exact (if_neg h).trans ((congrArg (V m (0 : Dev nD) main_arg5) (emb_4 m hO t y h)).trans <| (congrFun (V_main_arg5 m 0) _).trans (if_neg h).symm)

/-- The place in the whole array of a place of the layer's rows. -/
def up (k : S1408x2048.Idx) : S2816x2048.Idx := ix2 ⟨1408 + (k 0).val, by have : (k 0).val < 1408 := (k 0).isLt; omega⟩ (k 1)

theorem cut_at (a : Vec Ideal S2816x2048 .f32) (h : S2816x2048.Slices ![1408, 0] S1408x2048) (k : S1408x2048.Idx) : extractStridedSlice S1408x2048 ![1408, 0] a h k = a (up k) :=
  extractStridedSlice_apply _ a h k _ fun b => by
    fin_cases b
    · rfl
    · exact (Nat.zero_add _).symm

theorem G_up (x : Vec Ideal S1 .i32) (p q : Vec Ideal S704x2048 .f32) (j : S1408x2048.Idx) :
    G x p q (up j) = if BitVec.ofNat 32 ((j 0).val / 704) = x (ix1 0) then p (ix2 ⟨(j 0).val % 704, Nat.mod_lt _ (by decide)⟩ (j 1))
      else q (ix2 ⟨(j 0).val % 704, Nat.mod_lt _ (by decide)⟩ (j 1)) := by
  have h1 : ((up j 0).val - 1408) / 704 = (j 0).val / 704 := by show (1408 + (j 0).val - 1408) / 704 = _; omega
  have h2 : (ix2 ⟨((up j 0).val - 1408) % 704, Nat.mod_lt _ (by decide)⟩ (up j 1) : S704x2048.Idx) = ix2 ⟨(j 0).val % 704, Nat.mod_lt _ (by decide)⟩ (j 1) :=
    congrArg (fun a => (ix2 a (j 1) : S704x2048.Idx)) (Fin.ext (by show (1408 + (j 0).val - 1408) % 704 = (j 0).val % 704; omega))
  unfold G
  rw [h1, h2]
  rfl

/-- The second layer's rows. -/
def low (B : Vec Ideal S2816x2048 .f32) : Vec Ideal S1408x2048 .f32 := fun k => B (up k)

set_option maxHeartbeats 1000000 in
theorem final_5 (hO : Ok m) (c : Dev nD) (k : S1408x2048.Idx) : (dats m hO 0 c).arrAt 5 (cfgM m hO).N (up k) = (G (m (c.tc.loc main_arg0)) (m (c.tc.loc main_arg4)) (m (c.tc.loc main_arg5))) (up k) := by
  refine ((dats m hO 0 c).arrAt_apply_of_coversWhere 5 (G (m (c.tc.loc main_arg0)) (m (c.tc.loc main_arg4)) (m (c.tc.loc main_arg5))) (P := fun (i : S2816x2048.Idx) => 22 ≤ (i 0).val / 64) (fun (β : Fin ((cfgM m hO).win 5).shape.rank → Nat) => 22 ≤ β (show Fin 2 from 0))
    (of_decide_eq_true (by sl_kernel_rfl)) (fun t _ y => ?_) (fun j => Iff.rfl) (up k)).trans (if_pos (show 22 ≤ (1408 + (k 0).val) / 64 by omega))
  rw [emb_5 m hO t y]
  blk_simp
  rw [after0_5]
  unfold outsAt0
  frame_out
  refine (pay1_of _ (w' := m ((0 : Dev nD).tc.loc main_arg0) (ix1 0)) y ?_ ((hs0_3 m hO t).read_unread _) ((hs0_4 m hO t).read_unread _) ).trans ?_
  · exact word m
  exact grad_at m hO c t y

set_option maxHeartbeats 1000000 in
theorem final_7 (hO : Ok m) (c : Dev nD) (k : S1408x2048.Idx) : (dats m hO 0 c).arrAt 7 (cfgM m hO).N (up k) = (NM (G (m (c.tc.loc main_arg0)) (m (c.tc.loc main_arg4)) (m (c.tc.loc main_arg5))) (m (c.tc.loc main_arg2))) (up k) := by
  refine ((dats m hO 0 c).arrAt_apply_of_coversWhere 7 (NM (G (m (c.tc.loc main_arg0)) (m (c.tc.loc main_arg4)) (m (c.tc.loc main_arg5))) (m (c.tc.loc main_arg2))) (P := fun (i : S2816x2048.Idx) => 22 ≤ (i 0).val / 64) (fun (β : Fin ((cfgM m hO).win 7).shape.rank → Nat) => 22 ≤ β (show Fin 2 from 0))
    (of_decide_eq_true (by sl_kernel_rfl)) (fun t _ y => ?_) (fun j => Iff.rfl) (up k)).trans (if_pos (show 22 ≤ (1408 + (k 0).val) / 64 by omega))
  rw [emb_7 m hO t y]
  blk_simp
  rw [after0_7]
  unfold outsAt0
  frame_out
  refine (pay2_of _ (w' := m ((0 : Dev nD).tc.loc main_arg0) (ix1 0)) y ?_ ((hs0_3 m hO t).read_unread _) ((hs0_4 m hO t).read_unread _) ((hs0_1 m hO t).read_unread _)).trans ?_
  · exact word m
  exact NM_at (grad_at m hO c t y) ((congrArg (V m c main_arg2) (emb_1 m hO t y)).trans (congrFun (V_main_arg2 m c) _))

set_option maxHeartbeats 1000000 in
theorem final_8 (hO : Ok m) (c : Dev nD) (k : S1408x2048.Idx) : (dats m hO 0 c).arrAt 8 (cfgM m hO).N (up k) = (NV (G (m (c.tc.loc main_arg0)) (m (c.tc.loc main_arg4)) (m (c.tc.loc main_arg5))) (m (c.tc.loc main_arg3))) (up k) := by
  refine ((dats m hO 0 c).arrAt_apply_of_coversWhere 8 (NV (G (m (c.tc.loc main_arg0)) (m (c.tc.loc main_arg4)) (m (c.tc.loc main_arg5))) (m (c.tc.loc main_arg3))) (P := fun (i : S2816x2048.Idx) => 22 ≤ (i 0).val / 64) (fun (β : Fin ((cfgM m hO).win 8).shape.rank → Nat) => 22 ≤ β (show Fin 2 from 0))
    (of_decide_eq_true (by sl_kernel_rfl)) (fun t _ y => ?_) (fun j => Iff.rfl) (up k)).trans (if_pos (show 22 ≤ (1408 + (k 0).val) / 64 by omega))
  rw [emb_8 m hO t y]
  blk_simp
  rw [after0_8]
  unfold outsAt0
  frame_out
  refine (pay3_of _ (w' := m ((0 : Dev nD).tc.loc main_arg0) (ix1 0)) y ?_ ((hs0_3 m hO t).read_unread _) ((hs0_4 m hO t).read_unread _) ((hs0_2 m hO t).read_unread _)).trans ?_
  · exact word m
  exact NV_at (grad_at m hO c t y) ((congrArg (V m c main_arg3) (emb_2 m hO t y)).trans (congrFun (V_main_arg3 m c) _))

set_option maxHeartbeats 1000000 in
theorem final_6 (hO : Ok m) (c : Dev nD) (k : S1408x2048.Idx) : (dats m hO 0 c).arrAt 6 (cfgM m hO).N (up k) = (ND (m (c.tc.loc main_arg1)) (G (m (c.tc.loc main_arg0)) (m (c.tc.loc main_arg4)) (m (c.tc.loc main_arg5))) (m (c.tc.loc main_arg2)) (m (c.tc.loc main_arg3))) (up k) := by
  refine ((dats m hO 0 c).arrAt_apply_of_coversWhere 6 (ND (m (c.tc.loc main_arg1)) (G (m (c.tc.loc main_arg0)) (m (c.tc.loc main_arg4)) (m (c.tc.loc main_arg5))) (m (c.tc.loc main_arg2)) (m (c.tc.loc main_arg3))) (P := fun (i : S2816x2048.Idx) => 22 ≤ (i 0).val / 64) (fun (β : Fin ((cfgM m hO).win 6).shape.rank → Nat) => 22 ≤ β (show Fin 2 from 0))
    (of_decide_eq_true (by sl_kernel_rfl)) (fun t _ y => ?_) (fun j => Iff.rfl) (up k)).trans (if_pos (show 22 ≤ (1408 + (k 0).val) / 64 by omega))
  rw [emb_6 m hO t y]
  blk_simp
  rw [after0_6]
  unfold outsAt0
  frame_out
  refine (pay4_of _ (w' := m ((0 : Dev nD).tc.loc main_arg0) (ix1 0)) y ?_ ((hs0_3 m hO t).read_unread _) ((hs0_4 m hO t).read_unread _) ((hs0_0 m hO t).read_unread _) ((hs0_1 m hO t).read_unread _) ((hs0_2 m hO t).read_unread _)).trans ?_
  · exact word m
  exact ND_at ((congrArg (V m c main_arg1) (emb_0 m hO t y)).trans (congrFun (V_main_arg1 m c) _)) (grad_at m hO c t y) ((congrArg (V m c main_arg2) (emb_1 m hO t y)).trans (congrFun (V_main_arg2 m c) _)) ((congrArg (V m c main_arg3) (emb_2 m hO t y)).trans (congrFun (V_main_arg3 m c) _))

theorem arr_inj : Function.Injective (Pipeline.arrRef spec0) := by decide

theorem tail_0 (U : Valuation τ sig (Elt Ideal)) : StableHlo.after [hostOps1].flatten U (Proc.devRef .tc main_v1)
    = extractStridedSlice S1408x2048 ![1408, 0] (U (Proc.devRef .tc main_v0_0)) slices_S2816x2048_S1408x2048_1408_0 := by
  simp only [List.flatten_cons, List.flatten_nil, List.append_nil]
  unfold hostOps1
  after_results
  try rfl

theorem out_0 (hO : Ok m) (c : Dev nD) : Pipeline.afterTail pcfgs (fun _ => adm m hO) (dats m hO) 0 (V0 m) [hostOps1] c main_v1
    = low (G (m (c.tc.loc main_arg0)) (m (c.tc.loc main_arg4)) (m (c.tc.loc main_arg5))) := by
  refine (tail_0 _).trans ((congrArg (fun a => extractStridedSlice S1408x2048 ![1408, 0] a slices_S2816x2048_S1408x2048_1408_0)
    (Pipeline.withArrays_arr spec0 arr_inj c (V0 m c) (fun w => (dats m hO 0 c).arrAt w (cfgM m hO).N) 5)).trans ?_)
  funext k
  exact (cut_at _ _ k).trans (final_5 m hO c k)

theorem tail_1 (U : Valuation τ sig (Elt Ideal)) : StableHlo.after [hostOps1].flatten U (Proc.devRef .tc main_v2)
    = extractStridedSlice S1408x2048 ![1408, 0] (U (Proc.devRef .tc main_v0_1)) slices_S2816x2048_S1408x2048_1408_0 := by
  simp only [List.flatten_cons, List.flatten_nil, List.append_nil]
  unfold hostOps1
  after_results
  try rfl

theorem out_1 (hO : Ok m) (c : Dev nD) : Pipeline.afterTail pcfgs (fun _ => adm m hO) (dats m hO) 0 (V0 m) [hostOps1] c main_v2
    = low (ND (m (c.tc.loc main_arg1)) (G (m (c.tc.loc main_arg0)) (m (c.tc.loc main_arg4)) (m (c.tc.loc main_arg5))) (m (c.tc.loc main_arg2)) (m (c.tc.loc main_arg3))) := by
  refine (tail_1 _).trans ((congrArg (fun a => extractStridedSlice S1408x2048 ![1408, 0] a slices_S2816x2048_S1408x2048_1408_0)
    (Pipeline.withArrays_arr spec0 arr_inj c (V0 m c) (fun w => (dats m hO 0 c).arrAt w (cfgM m hO).N) 6)).trans ?_)
  funext k
  exact (cut_at _ _ k).trans (final_6 m hO c k)

theorem tail_2 (U : Valuation τ sig (Elt Ideal)) : StableHlo.after [hostOps1].flatten U (Proc.devRef .tc main_v3)
    = extractStridedSlice S1408x2048 ![1408, 0] (U (Proc.devRef .tc main_v0_2)) slices_S2816x2048_S1408x2048_1408_0 := by
  simp only [List.flatten_cons, List.flatten_nil, List.append_nil]
  unfold hostOps1
  after_results
  try rfl

theorem out_2 (hO : Ok m) (c : Dev nD) : Pipeline.afterTail pcfgs (fun _ => adm m hO) (dats m hO) 0 (V0 m) [hostOps1] c main_v3
    = low (NM (G (m (c.tc.loc main_arg0)) (m (c.tc.loc main_arg4)) (m (c.tc.loc main_arg5))) (m (c.tc.loc main_arg2))) := by
  refine (tail_2 _).trans ((congrArg (fun a => extractStridedSlice S1408x2048 ![1408, 0] a slices_S2816x2048_S1408x2048_1408_0)
    (Pipeline.withArrays_arr spec0 arr_inj c (V0 m c) (fun w => (dats m hO 0 c).arrAt w (cfgM m hO).N) 7)).trans ?_)
  funext k
  exact (cut_at _ _ k).trans (final_7 m hO c k)

theorem tail_3 (U : Valuation τ sig (Elt Ideal)) : StableHlo.after [hostOps1].flatten U (Proc.devRef .tc main_v4)
    = extractStridedSlice S1408x2048 ![1408, 0] (U (Proc.devRef .tc main_v0_3)) slices_S2816x2048_S1408x2048_1408_0 := by
  simp only [List.flatten_cons, List.flatten_nil, List.append_nil]
  unfold hostOps1
  after_results
  try rfl

theorem out_3 (hO : Ok m) (c : Dev nD) : Pipeline.afterTail pcfgs (fun _ => adm m hO) (dats m hO) 0 (V0 m) [hostOps1] c main_v4
    = low (NV (G (m (c.tc.loc main_arg0)) (m (c.tc.loc main_arg4)) (m (c.tc.loc main_arg5))) (m (c.tc.loc main_arg3))) := by
  refine (tail_3 _).trans ((congrArg (fun a => extractStridedSlice S1408x2048 ![1408, 0] a slices_S2816x2048_S1408x2048_1408_0)
    (Pipeline.withArrays_arr spec0 arr_inj c (V0 m c) (fun w => (dats m hO 0 c).arrAt w (cfgM m hO).N) 8)).trans ?_)
  funext k
  exact (cut_at _ _ k).trans (final_8 m hO c k)

end Cert.AdamwDownLast

end

end
-- ==== Proof.AdamwDownLastPair.lean ====
/- AdamW on the second layer's rows of the down projection: the call and its reference leave the same arrays. -/
module

public import proofs.«01_k».proof.Defs
public import proofs.«01_k».proof.Proof.Gen.Reference38Ideal
public import proofs.«01_k».proof.Proof.Gen.Reference38Ideal.Run
public import proofs.«01_k».proof.Proof.Gen.Reference38Ideal.Read
public import proofs.«01_k».proof.Proof.AdamwDownLast

@[expose] public section

set_option maxRecDepth 16384

noncomputable section

namespace Cert.AdamwDownLast

open Idealize.ShloMosaic Idealize.ShloMosaic.TcCoe Cert.AdamwSmall

section
open Cert.Reference38Ideal Cert.Reference38Ideal.Gen Cert.Reference38Ideal.Read

theorem pick (x : (⟨S1, .i32⟩ : BufTy).Contents (Elt Ideal)) (k : BitVec 32) (p q : Vec Ideal S704x2048 .f32) (i : S704x2048.Idx) :
    (select (broadcastInDim S704x2048 ![] bcast_S_S704x2048 (cmpi .eq (shapeCast _ x shapeCasts_S1_S_) (constantI S_ 32 k))) p q : Vec Ideal S704x2048 .f32) i
      = if k = x (ix1 0) then p i else q i := by
  have e : (shapeCast S_ x shapeCasts_S1_S_ : (⟨S_, .i32⟩ : BufTy).Contents (Elt Ideal)) (fun a => a.elim0) = x (ix1 0) := by
    unfold shapeCast
    exact congrArg x (funext fun a => by fin_cases a; exact Subsingleton.elim (α := Fin 1) _ _)
  have b := Cert.AdamwWord.pick_word (s := S_) (t := S704x2048) rfl ![] bcast_S_S704x2048 (shapeCast S_ x shapeCasts_S1_S_) k (fun a => a.elim0) p q i
  rw [e] at b
  exact b

/-- The reference's gradient is the two halves put together. -/
theorem ref_G (x : (⟨S1, .i32⟩ : BufTy).Contents (Elt Ideal)) (p q : Vec Ideal S704x2048 .f32) (j : S1408x2048.Idx) : val_main_v6 (F := Ideal) x p q j = G x p q (up j) := by
  have hj : (j 0).val < 1408 := (j 0).isLt
  by_cases h : (j 0).val < 704
  · refine (concatenate_apply_piece (t := S1408x2048) 0 _ _ j 0 (by simp) S704x2048 (val_main_v2 (F := Ideal) x p q) rfl rfl 0 rfl
      (ix2 ⟨(j 0).val % 704, Nat.mod_lt _ (by decide)⟩ (j 1)) ?_ ?_).trans ?_
    · intro b hb
      fin_cases b
      · exact absurd rfl hb
      · rfl
    · show 0 + (j 0).val % 704 = (j 0).val; omega
    · have e : (j 0).val / 704 = 0 := by omega
      rw [G_up, e]
      exact pick x 0#32 p q _
  · refine (concatenate_apply_piece (t := S1408x2048) 0 _ _ j 1 (by simp) S704x2048 (val_main_v5 (F := Ideal) x p q) rfl rfl 704 rfl
      (ix2 ⟨(j 0).val % 704, Nat.mod_lt _ (by decide)⟩ (j 1)) ?_ ?_).trans ?_
    · intro b hb
      fin_cases b
      · exact absurd rfl hb
      · rfl
    · show 704 + (j 0).val % 704 = (j 0).val; omega
    · have e : (j 0).val / 704 = 1 := by omega
      rw [G_up, e]
      exact pick x 1#32 p q _

variable (x : (⟨S1, .i32⟩ : BufTy).Contents (Elt Ideal)) (w u v : Vec Ideal S2816x2048 .f32) (p q : Vec Ideal S704x2048 .f32)

theorem ref_ND (j : S1408x2048.Idx) : val_main_v33 (F := Ideal) x w u v p q j = ND w (G x p q) u v (up j) :=
  (congrFun (show val_main_v33 (F := Ideal) x w u v p q = ND (val_main_v7 (F := Ideal) w) (val_main_v6 (F := Ideal) x p q) (val_main_v8 (F := Ideal) u) (val_main_v9 (F := Ideal) v) from rfl) j).trans
    (ND_at (cut_at w _ j) (ref_G x p q j) (cut_at u _ j) (cut_at v _ j))

theorem ref_NM (j : S1408x2048.Idx) : val_main_v14 (F := Ideal) x u p q j = NM (G x p q) u (up j) :=
  (congrFun (show val_main_v14 (F := Ideal) x u p q = NM (val_main_v6 (F := Ideal) x p q) (val_main_v8 (F := Ideal) u) from rfl) j).trans
    (NM_at (ref_G x p q j) (cut_at u _ j))

theorem ref_NV (j : S1408x2048.Idx) : val_main_v20 (F := Ideal) x v p q j = NV (G x p q) v (up j) :=
  (congrFun (show val_main_v20 (F := Ideal) x v p q = NV (val_main_v6 (F := Ideal) x p q) (val_main_v9 (F := Ideal) v) from rfl) j).trans
    (NV_at (ref_G x p q j) (cut_at v _ j))

theorem ref_0 : val_main_v6 (F := Ideal) x p q = low (G x p q) := funext (ref_G x p q)

theorem ref_1 : val_main_v33 (F := Ideal) x w u v p q = low (ND w (G x p q) u v) := funext (ref_ND x w u v p q)

theorem ref_2 : val_main_v14 (F := Ideal) x u p q = low (NM (G x p q) u) := funext (ref_NM x u p q)

theorem ref_3 : val_main_v20 (F := Ideal) x v p q = low (NV (G x p q) v) := funext (ref_NV x v p q)

end

theorem algebraic : Cert.algebraic_Kernel38Ideal_Reference38Ideal := fun m g m' g' _ same => by
  refine ⟨fun c => low (G (m ((c.tc : Thread Cert.Kernel38Ideal.nD Cert.Kernel38Ideal.τ).loc Cert.Kernel38Ideal.main_arg0)) (m ((c.tc : Thread Cert.Kernel38Ideal.nD Cert.Kernel38Ideal.τ).loc Cert.Kernel38Ideal.main_arg4)) (m ((c.tc : Thread Cert.Kernel38Ideal.nD Cert.Kernel38Ideal.τ).loc Cert.Kernel38Ideal.main_arg5))), fun c => low (ND (m ((c.tc : Thread Cert.Kernel38Ideal.nD Cert.Kernel38Ideal.τ).loc Cert.Kernel38Ideal.main_arg1)) (G (m ((c.tc : Thread Cert.Kernel38Ideal.nD Cert.Kernel38Ideal.τ).loc Cert.Kernel38Ideal.main_arg0)) (m ((c.tc : Thread Cert.Kernel38Ideal.nD Cert.Kernel38Ideal.τ).loc Cert.Kernel38Ideal.main_arg4)) (m ((c.tc : Thread Cert.Kernel38Ideal.nD Cert.Kernel38Ideal.τ).loc Cert.Kernel38Ideal.main_arg5))) (m ((c.tc : Thread Cert.Kernel38Ideal.nD Cert.Kernel38Ideal.τ).loc Cert.Kernel38Ideal.main_arg2)) (m ((c.tc : Thread Cert.Kernel38Ideal.nD Cert.Kernel38Ideal.τ).loc Cert.Kernel38Ideal.main_arg3))), fun c => low (NM (G (m ((c.tc : Thread Cert.Kernel38Ideal.nD Cert.Kernel38Ideal.τ).loc Cert.Kernel38Ideal.main_arg0)) (m ((c.tc : Thread Cert.Kernel38Ideal.nD Cert.Kernel38Ideal.τ).loc Cert.Kernel38Ideal.main_arg4)) (m ((c.tc : Thread Cert.Kernel38Ideal.nD Cert.Kernel38Ideal.τ).loc Cert.Kernel38Ideal.main_arg5))) (m ((c.tc : Thread Cert.Kernel38Ideal.nD Cert.Kernel38Ideal.τ).loc Cert.Kernel38Ideal.main_arg2))), fun c => low (NV (G (m ((c.tc : Thread Cert.Kernel38Ideal.nD Cert.Kernel38Ideal.τ).loc Cert.Kernel38Ideal.main_arg0)) (m ((c.tc : Thread Cert.Kernel38Ideal.nD Cert.Kernel38Ideal.τ).loc Cert.Kernel38Ideal.main_arg4)) (m ((c.tc : Thread Cert.Kernel38Ideal.nD Cert.Kernel38Ideal.τ).loc Cert.Kernel38Ideal.main_arg5))) (m ((c.tc : Thread Cert.Kernel38Ideal.nD Cert.Kernel38Ideal.τ).loc Cert.Kernel38Ideal.main_arg3))),
    (θ_run Cert.Kernel38Ideal.defs _ _).mono (fun r h c => ?_) (θ_run_and (Cert.Kernel38Ideal.Gen.run_main m g (ok_i m)) (Cert.Kernel38Ideal.Gen.unchanged m g (ok_i m))),
    (θ_run Cert.Reference38Ideal.defs _ _).mono (fun r h c => ?_) (Cert.Reference38Ideal.Value.run (F := Ideal) m' g')⟩
  · have u := h.1 c
    exact ⟨(u.2 Cert.Kernel38Ideal.main_v1 (by decide : Cert.Kernel38Ideal.main_v1 ∈ Pipeline.restRefs Cert.Kernel38Ideal.sig Cert.Kernel38Ideal.spec0)).trans (out_0 m (ok_i m) c), (u.2 Cert.Kernel38Ideal.main_v2 (by decide : Cert.Kernel38Ideal.main_v2 ∈ Pipeline.restRefs Cert.Kernel38Ideal.sig Cert.Kernel38Ideal.spec0)).trans (out_1 m (ok_i m) c), (u.2 Cert.Kernel38Ideal.main_v3 (by decide : Cert.Kernel38Ideal.main_v3 ∈ Pipeline.restRefs Cert.Kernel38Ideal.sig Cert.Kernel38Ideal.spec0)).trans (out_2 m (ok_i m) c), (u.2 Cert.Kernel38Ideal.main_v4 (by decide : Cert.Kernel38Ideal.main_v4 ∈ Pipeline.restRefs Cert.Kernel38Ideal.sig Cert.Kernel38Ideal.spec0)).trans (out_3 m (ok_i m) c), h.2 c⟩
  · obtain ⟨e0, e1, e2, e3, e4, e5⟩ := same c
    obtain ⟨h1, h2, h3, h4, hargs⟩ := h c
    refine ⟨h1.trans ((Cert.Reference38Ideal.Read.val_main_v6_eq _ _ _).trans ((ref_0 _ _ _).trans ?_)), h2.trans ((Cert.Reference38Ideal.Read.val_main_v33_eq _ _ _ _ _ _).trans ((ref_1 _ _ _ _ _ _).trans ?_)), h3.trans ((Cert.Reference38Ideal.Read.val_main_v14_eq _ _ _ _).trans ((ref_2 _ _ _ _).trans ?_)), h4.trans ((Cert.Reference38Ideal.Read.val_main_v20_eq _ _ _ _).trans ((ref_3 _ _ _ _).trans ?_)), hargs⟩
    · rw [e0, e4, e5] <;> rfl
    · rw [e0, e1, e2, e3, e4, e5] <;> rfl
    · rw [e0, e2, e4, e5] <;> rfl
    · rw [e0, e3, e4, e5] <;> rfl

/-- The reference leaves its arguments as they were; it declares no semaphore. -/
theorem frame_reference : Cert.quiescent_Reference38Ideal := fun m ρ _ =>
  (θ_run Cert.Reference38Ideal.defs _ _).mono (fun r h => ⟨fun c => by
      obtain ⟨_, _, _, _, hargs⟩ := h c
      exact hargs, Idealize.ShloMosaic.sem_eq_zero_of_no_sems (by decide) r.2⟩)
    (Cert.Reference38Ideal.Value.run (F := Ideal) m ρ)

end Cert.AdamwDownLast

end

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite_inputs
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Kernel15
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Frame
public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.Gen.Kernel20
public import proofs.«01_k».proof.Proof.Gen.Kernel20.Skeleton
public import proofs.«01_k».proof.Proof.Gen.Kernel20.Launch
public import proofs.«01_k».proof.Proof.Gen.Kernel20.Points
public import proofs.«01_k».proof.Proof.Gen.Kernel20.Frame
public import proofs.«01_k».proof.Proof.Gen.Kernel20Ideal
public import proofs.«01_k».proof.Proof.Gen.Kernel20Ideal.Skeleton
public import proofs.«01_k».proof.Proof.Gen.Kernel20Ideal.Launch
public import proofs.«01_k».proof.Proof.Gen.Kernel20Ideal.Points
public import proofs.«01_k».proof.Proof.Gen.Kernel20Ideal.Frame
public import proofs.«01_k».proof.Proof.Gen.Kernel20Ideal.Value
public import proofs.«01_k».proof.Proof.Gen.Kernel20.Loops
public import proofs.«01_k».proof.Proof.Gen.Kernel20Ideal.Loops
public import proofs.«01_k».proof.Proof.Gen.Reference20Ideal.Read
public import proofs.«01_k».proof.Proof.Gen.Reference20Ideal
public import proofs.«01_k».proof.Proof.Gen.Reference20Ideal.Run
public import proofs.«01_k».proof.Proof.Gen.Kernel21
public import proofs.«01_k».proof.Proof.Gen.Kernel21.Skeleton
public import proofs.«01_k».proof.Proof.Gen.Kernel21.Launch
public import proofs.«01_k».proof.Proof.Gen.Kernel21.Points
public import proofs.«01_k».proof.Proof.Gen.Kernel21.Frame
public import proofs.«01_k».proof.Proof.Gen.Kernel21Ideal
public import proofs.«01_k».proof.Proof.Gen.Kernel21Ideal.Skeleton
public import proofs.«01_k».proof.Proof.Gen.Kernel21Ideal.Launch
public import proofs.«01_k».proof.Proof.Gen.Kernel21Ideal.Points
public import proofs.«01_k».proof.Proof.Gen.Kernel21Ideal.Frame
public import proofs.«01_k».proof.Proof.Gen.Kernel21Ideal.Value
public import proofs.«01_k».proof.Proof.Gen.Kernel21.Loops
public import proofs.«01_k».proof.Proof.Gen.Kernel21Ideal.Loops
public import proofs.«01_k».proof.Proof.Gen.Reference21Ideal.Read
public import proofs.«01_k».proof.Proof.Gen.Reference21Ideal
public import proofs.«01_k».proof.Proof.Gen.Reference21Ideal.Run
public import proofs.«01_k».proof.Proof.Gen.Kernel25
public import proofs.«01_k».proof.Proof.Gen.Kernel25.Skeleton
public import proofs.«01_k».proof.Proof.Gen.Kernel25.Launch
public import proofs.«01_k».proof.Proof.Gen.Kernel25.Points
public import proofs.«01_k».proof.Proof.Gen.Kernel25.Frame
public import proofs.«01_k».proof.Proof.Gen.Kernel25Ideal
public import proofs.«01_k».proof.Proof.Gen.Kernel25Ideal.Skeleton
public import proofs.«01_k».proof.Proof.Gen.Kernel25Ideal.Launch
public import proofs.«01_k».proof.Proof.Gen.Kernel25Ideal.Points
public import proofs.«01_k».proof.Proof.Gen.Kernel25Ideal.Frame
public import proofs.«01_k».proof.Proof.Gen.Reference25Ideal.Read
public import proofs.«01_k».proof.Proof.Gen.Reference25Ideal
public import proofs.«01_k».proof.Proof.Gen.Reference25Ideal.Run
public import proofs.«01_k».proof.Proof.Gen.Kernel27
public import proofs.«01_k».proof.Proof.Gen.Kernel27.Skeleton
public import proofs.«01_k».proof.Proof.Gen.Kernel27.Launch
public import proofs.«01_k».proof.Proof.Gen.Kernel27.Points
public import proofs.«01_k».proof.Proof.Gen.Kernel27.Frame
public import proofs.«01_k».proof.Proof.Gen.Kernel27Ideal
public import proofs.«01_k».proof.Proof.Gen.Kernel27Ideal.Skeleton
public import proofs.«01_k».proof.Proof.Gen.Kernel27Ideal.Launch
public import proofs.«01_k».proof.Proof.Gen.Kernel27Ideal.Points
public import proofs.«01_k».proof.Proof.Gen.Kernel27Ideal.Frame
public import proofs.«01_k».proof.Proof.Gen.Reference27Ideal.Read
public import proofs.«01_k».proof.Proof.Gen.Reference27Ideal
public import proofs.«01_k».proof.Proof.Gen.Reference27Ideal.Run
public import proofs.«01_k».proof.Proof.Gen.Kernel30
public import proofs.«01_k».proof.Proof.Gen.Kernel30.Skeleton
public import proofs.«01_k».proof.Proof.Gen.Kernel30.Launch
public import proofs.«01_k».proof.Proof.Gen.Kernel30.Points
public import proofs.«01_k».proof.Proof.Gen.Kernel30.Frame
public import proofs.«01_k».proof.Proof.Gen.Kernel30Ideal
public import proofs.«01_k».proof.Proof.Gen.Kernel30Ideal.Skeleton
public import proofs.«01_k».proof.Proof.Gen.Kernel30Ideal.Launch
public import proofs.«01_k».proof.Proof.Gen.Kernel30Ideal.Points
public import proofs.«01_k».proof.Proof.Gen.Kernel30Ideal.Frame
public import proofs.«01_k».proof.Proof.Gen.Reference30Ideal.Read
public import proofs.«01_k».proof.Proof.Gen.Reference30Ideal
public import proofs.«01_k».proof.Proof.Gen.Reference30Ideal.Run
public import proofs.«01_k».proof.Proof.Gen.Kernel31
public import proofs.«01_k».proof.Proof.Gen.Kernel31.Skeleton
public import proofs.«01_k».proof.Proof.Gen.Kernel31.Launch
public import proofs.«01_k».proof.Proof.Gen.Kernel31.Points
public import proofs.«01_k».proof.Proof.Gen.Kernel31.Frame
public import proofs.«01_k».proof.Proof.Gen.Kernel31Ideal
public import proofs.«01_k».proof.Proof.Gen.Kernel31Ideal.Skeleton
public import proofs.«01_k».proof.Proof.Gen.Kernel31Ideal.Launch
public import proofs.«01_k».proof.Proof.Gen.Kernel31Ideal.Points
public import proofs.«01_k».proof.Proof.Gen.Kernel31Ideal.Frame
public import proofs.«01_k».proof.Proof.Gen.Reference31Ideal.Read
public import proofs.«01_k».proof.Proof.Gen.Reference31Ideal
public import proofs.«01_k».proof.Proof.Gen.Reference31Ideal.Run
public import proofs.«01_k».proof.Proof.Gen.Kernel32
public import proofs.«01_k».proof.Proof.Gen.Kernel32.Skeleton
public import proofs.«01_k».proof.Proof.Gen.Kernel32.Launch
public import proofs.«01_k».proof.Proof.Gen.Kernel32.Points
public import proofs.«01_k».proof.Proof.Gen.Kernel32.Frame
public import proofs.«01_k».proof.Proof.Gen.Kernel32Ideal
public import proofs.«01_k».proof.Proof.Gen.Kernel32Ideal.Skeleton
public import proofs.«01_k».proof.Proof.Gen.Kernel32Ideal.Launch
public import proofs.«01_k».proof.Proof.Gen.Kernel32Ideal.Points
public import proofs.«01_k».proof.Proof.Gen.Kernel32Ideal.Frame
public import proofs.«01_k».proof.Proof.Gen.Reference32Ideal.Read
public import proofs.«01_k».proof.Proof.Gen.Reference32Ideal
public import proofs.«01_k».proof.Proof.Gen.Reference32Ideal.Run
public import proofs.«01_k».proof.Proof.Gen.Kernel35
public import proofs.«01_k».proof.Proof.Gen.Kernel35.Skeleton
public import proofs.«01_k».proof.Proof.Gen.Kernel35.Launch
public import proofs.«01_k».proof.Proof.Gen.Kernel35.Points
public import proofs.«01_k».proof.Proof.Gen.Kernel35.Frame
public import proofs.«01_k».proof.Proof.Gen.Kernel35Ideal
public import proofs.«01_k».proof.Proof.Gen.Kernel35Ideal.Skeleton
public import proofs.«01_k».proof.Proof.Gen.Kernel35Ideal.Launch
public import proofs.«01_k».proof.Proof.Gen.Kernel35Ideal.Points
public import proofs.«01_k».proof.Proof.Gen.Kernel35Ideal.Frame
public import proofs.«01_k».proof.Proof.Gen.Reference35Ideal.Read
public import proofs.«01_k».proof.Proof.Gen.Reference35Ideal
public import proofs.«01_k».proof.Proof.Gen.Reference35Ideal.Run
public import proofs.«01_k».proof.Proof.Gen.Kernel36
public import proofs.«01_k».proof.Proof.Gen.Kernel36.Skeleton
public import proofs.«01_k».proof.Proof.Gen.Kernel36.Launch
public import proofs.«01_k».proof.Proof.Gen.Kernel36.Points
public import proofs.«01_k».proof.Proof.Gen.Kernel36.Frame
public import proofs.«01_k».proof.Proof.Gen.Kernel36Ideal
public import proofs.«01_k».proof.Proof.Gen.Kernel36Ideal.Skeleton
public import proofs.«01_k».proof.Proof.Gen.Kernel36Ideal.Launch
public import proofs.«01_k».proof.Proof.Gen.Kernel36Ideal.Points
public import proofs.«01_k».proof.Proof.Gen.Kernel36Ideal.Frame
public import proofs.«01_k».proof.Proof.Gen.Reference36Ideal.Read
public import proofs.«01_k».proof.Proof.Gen.Reference36Ideal
public import proofs.«01_k».proof.Proof.Gen.Reference36Ideal.Run
public import proofs.«01_k».proof.Proof.Gen.Kernel37
public import proofs.«01_k».proof.Proof.Gen.Kernel37.Skeleton
public import proofs.«01_k».proof.Proof.Gen.Kernel37.Launch
public import proofs.«01_k».proof.Proof.Gen.Kernel37.Points
public import proofs.«01_k».proof.Proof.Gen.Kernel37.Frame
public import proofs.«01_k».proof.Proof.Gen.Kernel37Ideal
public import proofs.«01_k».proof.Proof.Gen.Kernel37Ideal.Skeleton
public import proofs.«01_k».proof.Proof.Gen.Kernel37Ideal.Launch
public import proofs.«01_k».proof.Proof.Gen.Kernel37Ideal.Points
public import proofs.«01_k».proof.Proof.Gen.Kernel37Ideal.Frame
public import proofs.«01_k».proof.Proof.Gen.Reference37Ideal.Read
public import proofs.«01_k».proof.Proof.Gen.Reference37Ideal
public import proofs.«01_k».proof.Proof.Gen.Reference37Ideal.Run
public import proofs.«01_k».proof.Proof.Gen.Kernel38
public import proofs.«01_k».proof.Proof.Gen.Kernel38.Skeleton
public import proofs.«01_k».proof.Proof.Gen.Kernel38.Launch
public import proofs.«01_k».proof.Proof.Gen.Kernel38.Points
public import proofs.«01_k».proof.Proof.Gen.Kernel38.Frame
public import proofs.«01_k».proof.Proof.Gen.Kernel38Ideal
public import proofs.«01_k».proof.Proof.Gen.Kernel38Ideal.Skeleton
public import proofs.«01_k».proof.Proof.Gen.Kernel38Ideal.Launch
public import proofs.«01_k».proof.Proof.Gen.Kernel38Ideal.Points
public import proofs.«01_k».proof.Proof.Gen.Kernel38Ideal.Frame
public import proofs.«01_k».proof.Proof.Gen.Reference38Ideal.Read
public import proofs.«01_k».proof.Proof.Gen.Reference38Ideal
public import proofs.«01_k».proof.Proof.Gen.Reference38Ideal.Run
public import proofs.«01_k».proof.Proof.Algebraic
public import proofs.«01_k».proof.Proof.Products
public import proofs.«01_k».proof.Proof.LbPair
public import proofs.«01_k».proof.Proof.AdamwPair
public import proofs.«01_k».proof.Proof.AdamwHgrnInPair
public import proofs.«01_k».proof.Proof.AdamwOutPair
public import proofs.«01_k».proof.Proof.AdamwScInPair
public import proofs.«01_k».proof.Proof.AdamwUpFirstPair
public import proofs.«01_k».proof.Proof.AdamwDownFirstPair
public import proofs.«01_k».proof.Proof.AdamwUpLastPair
public import proofs.«01_k».proof.Proof.AdamwDownLastPair
public import Idealize.ShloMosaic.Adequacy
public import Idealize.ShloMosaic.Init

@[expose] public section

noncomputable section

namespace Cert.Proof

open Idealize.ShloMosaic Idealize.SL.Sem Cert.Kernel

/-- The reference leaves its arguments as they were; it declares no semaphore. -/
theorem frame_reference : Cert.quiescent_ReferenceIdeal := fun m ρ _ =>
  (θ_run Cert.ReferenceIdeal.defs _ _).mono (fun r h => ⟨fun c => ⟨(h c).2.2.2.1, (h c).2.2.2.2.1, (h c).2.2.2.2.2.1, (h c).2.2.2.2.2.2⟩,
      Idealize.ShloMosaic.sem_eq_zero_of_no_sems (by decide) r.2⟩)
    (Cert.ReferenceIdeal.Value.run (F := Ideal) m ρ)

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel20.Gen.facts, Cert.Kernel20Ideal.Gen.facts, Cert.Reference20Ideal.Gen.facts,
  Cert.Kernel21.Gen.facts, Cert.Kernel21Ideal.Gen.facts, Cert.Reference21Ideal.Gen.facts,
  Cert.Kernel25.Gen.facts, Cert.Kernel25Ideal.Gen.facts, Cert.Reference25Ideal.Gen.facts,
  Cert.Kernel27.Gen.facts, Cert.Kernel27Ideal.Gen.facts, Cert.Reference27Ideal.Gen.facts,
  Cert.Kernel30.Gen.facts, Cert.Kernel30Ideal.Gen.facts, Cert.Reference30Ideal.Gen.facts,
  Cert.Kernel31.Gen.facts, Cert.Kernel31Ideal.Gen.facts, Cert.Reference31Ideal.Gen.facts,
  Cert.Kernel32.Gen.facts, Cert.Kernel32Ideal.Gen.facts, Cert.Reference32Ideal.Gen.facts,
  Cert.Kernel35.Gen.facts, Cert.Kernel35Ideal.Gen.facts, Cert.Reference35Ideal.Gen.facts,
  Cert.Kernel36.Gen.facts, Cert.Kernel36Ideal.Gen.facts, Cert.Reference36Ideal.Gen.facts,
  Cert.Kernel37.Gen.facts, Cert.Kernel37Ideal.Gen.facts, Cert.Reference37Ideal.Gen.facts,
  Cert.Kernel38.Gen.facts, Cert.Kernel38Ideal.Gen.facts, Cert.Reference38Ideal.Gen.facts,
  Cert.Pre_finite_inputs.Gen.facts, Cert.Pre_real_table.Gen.facts,
  fun m ρ _ => Cert.Kernel.Gen.frame m ρ, fun m ρ _ => Cert.KernelIdeal.Gen.frame m ρ, fun m ρ _ => Cert.KernelIdeal.Gen.frame m ρ,
  frame_reference, fun m ρ _ => frame_reference m ρ trivial,
  fun m ρ _ => Cert.Kernel2.Gen.frame m ρ, fun m ρ _ => Cert.Kernel2Ideal.Gen.frame m ρ, frame_reference_2,
  fun m ρ _ => Cert.Kernel3.Gen.frame m ρ, fun m ρ _ => Cert.Kernel3Ideal.Gen.frame m ρ, frame_reference_3,
  fun m ρ _ => Cert.Kernel4.Gen.frame m ρ, fun m ρ _ => Cert.Kernel4Ideal.Gen.frame m ρ, frame_reference_4,
  fun m ρ _ => Cert.Kernel5.Gen.frame m ρ, fun m ρ _ => Cert.Kernel5Ideal.Gen.frame m ρ, frame_reference_5,
  fun m ρ _ => Cert.Kernel6.Gen.frame m ρ, fun m ρ _ => Cert.Kernel6Ideal.Gen.frame m ρ, frame_reference_6,
  fun m ρ _ => Cert.Kernel7.Gen.frame m ρ, fun m ρ _ => Cert.Kernel7Ideal.Gen.frame m ρ, frame_reference_7,
  fun m ρ _ => Cert.Kernel8.Gen.frame m ρ, fun m ρ _ => Cert.Kernel8Ideal.Gen.frame m ρ, frame_reference_8,
  fun m ρ _ => Cert.Kernel9.Gen.frame m ρ, fun m ρ _ => Cert.Kernel9Ideal.Gen.frame m ρ, frame_reference_9,
  fun m ρ _ => Cert.Kernel10.Gen.frame m ρ, fun m ρ _ => Cert.Kernel10Ideal.Gen.frame m ρ, frame_reference_10,
  fun m ρ _ => Cert.Kernel11.Gen.frame m ρ, fun m ρ _ => Cert.Kernel11Ideal.Gen.frame m ρ, frame_reference_11,
  fun m ρ _ => Cert.Kernel12.Gen.frame m ρ, fun m ρ _ => Cert.Kernel12Ideal.Gen.frame m ρ, frame_reference_12,
  fun m ρ _ => Cert.Kernel13.Gen.frame m ρ, fun m ρ _ => Cert.Kernel13Ideal.Gen.frame m ρ, frame_reference_13,
  fun m ρ _ => Cert.Kernel14.Gen.frame m ρ, fun m ρ _ => Cert.Kernel14Ideal.Gen.frame m ρ, frame_reference_14,
  fun m ρ _ => Cert.Kernel15.Gen.frame m ρ, fun m ρ _ => Cert.Kernel15Ideal.Gen.frame m ρ, frame_reference_15,
  fun m ρ _ => Cert.Kernel20.Gen.frame m ρ, fun m ρ _ => Cert.Kernel20Ideal.Gen.frame m ρ, frame_reference_20,
  fun m ρ _ => Cert.Kernel21.Gen.frame m ρ, fun m ρ _ => Cert.Kernel21Ideal.Gen.frame m ρ, frame_reference_21,
  fun m ρ _ => Cert.Kernel25.Gen.frame m ρ, fun m ρ _ => Cert.Kernel25Ideal.Gen.frame m ρ, fun m ρ _ => Cert.Kernel25Ideal.Gen.frame m ρ,
  Cert.LbGrad.frame_reference, fun m ρ _ => Cert.LbGrad.frame_reference m ρ trivial,
  fun m ρ _ => Cert.Kernel27.Gen.frame m ρ, fun m ρ _ => Cert.Kernel27Ideal.Gen.frame m ρ, Cert.AdamwSmall.frame_reference,
  fun m ρ _ => Cert.Kernel30.Gen.frame m ρ (Cert.AdamwHgrnIn.ok_b m), fun m ρ _ => Cert.Kernel30Ideal.Gen.frame m ρ (Cert.AdamwHgrnIn.ok_i m), Cert.AdamwHgrnIn.frame_reference,
  fun m ρ _ => Cert.Kernel31.Gen.frame m ρ (Cert.AdamwOut.ok_b m), fun m ρ _ => Cert.Kernel31Ideal.Gen.frame m ρ (Cert.AdamwOut.ok_i m), Cert.AdamwOut.frame_reference,
  fun m ρ _ => Cert.Kernel32.Gen.frame m ρ (Cert.AdamwScIn.ok_b m), fun m ρ _ => Cert.Kernel32Ideal.Gen.frame m ρ (Cert.AdamwScIn.ok_i m), Cert.AdamwScIn.frame_reference,
  fun m ρ _ => Cert.Kernel35.Gen.frame m ρ (Cert.AdamwUpFirst.ok_b m), fun m ρ _ => Cert.Kernel35Ideal.Gen.frame m ρ (Cert.AdamwUpFirst.ok_i m), Cert.AdamwUpFirst.frame_reference,
  fun m ρ _ => Cert.Kernel36.Gen.frame m ρ (Cert.AdamwDownFirst.ok_b m), fun m ρ _ => Cert.Kernel36Ideal.Gen.frame m ρ (Cert.AdamwDownFirst.ok_i m), Cert.AdamwDownFirst.frame_reference,
  fun m ρ _ => Cert.Kernel37.Gen.frame m ρ (Cert.AdamwUpLast.ok_b m), fun m ρ _ => Cert.Kernel37Ideal.Gen.frame m ρ (Cert.AdamwUpLast.ok_i m), Cert.AdamwUpLast.frame_reference,
  fun m ρ _ => Cert.Kernel38.Gen.frame m ρ (Cert.AdamwDownLast.ok_b m), fun m ρ _ => Cert.Kernel38Ideal.Gen.frame m ρ (Cert.AdamwDownLast.ok_i m), Cert.AdamwDownLast.frame_reference,
  trivial, algebraic,
  trivial, algebraic_2,
  trivial, algebraic_3,
  trivial, algebraic_4,
  trivial, algebraic_5,
  trivial, algebraic_6,
  trivial, algebraic_7,
  trivial, algebraic_8,
  trivial, algebraic_9,
  trivial, algebraic_10,
  trivial, algebraic_11,
  trivial, algebraic_12,
  trivial, algebraic_13,
  trivial, algebraic_14,
  trivial, algebraic_15,
  trivial, algebraic_20,
  trivial, algebraic_21,
  trivial, Cert.LbGrad.algebraic,
  trivial, Cert.AdamwSmall.algebraic,
  trivial, Cert.AdamwHgrnIn.algebraic,
  trivial, Cert.AdamwOut.algebraic,
  trivial, Cert.AdamwScIn.algebraic,
  trivial, Cert.AdamwUpFirst.algebraic,
  trivial, Cert.AdamwDownFirst.algebraic,
  trivial, Cert.AdamwUpLast.algebraic,
  trivial, Cert.AdamwDownLast.algebraic⟩

end Cert.Proof

end
